-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_WeightsRef (m : (ℓ : Loc Cert.WeightsRef.nD Cert.WeightsRef.τ Cert.WeightsRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_CoreSum (m : (ℓ : Loc Cert.CoreSum.nD Cert.CoreSum.τ Cert.CoreSum.sig) → Buf (Elt Bits) ℓ) : Prop :=
  True

def Pre_CoreSumIdeal (m : (ℓ : Loc Cert.CoreSumIdeal.nD Cert.CoreSumIdeal.τ Cert.CoreSumIdeal.sig) → Buf (Elt Ideal) ℓ) : Prop :=
  True

def Pre_CoreSumRefIdeal (m : (ℓ : Loc Cert.CoreSumRefIdeal.nD Cert.CoreSumRefIdeal.τ Cert.CoreSumRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamAttn (m : (ℓ : Loc Cert.AdamAttn.nD Cert.AdamAttn.τ Cert.AdamAttn.sig) → Buf (Elt Bits) ℓ) : Prop :=
  True

def Pre_AdamAttnIdeal (m : (ℓ : Loc Cert.AdamAttnIdeal.nD Cert.AdamAttnIdeal.τ Cert.AdamAttnIdeal.sig) → Buf (Elt Ideal) ℓ) : Prop :=
  True

def Pre_AdamAttnRefIdeal (m : (ℓ : Loc Cert.AdamAttnRefIdeal.nD Cert.AdamAttnRefIdeal.τ Cert.AdamAttnRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdRefIdeal (m : (ℓ : Loc Cert.FfnBwdRefIdeal.nD Cert.FfnBwdRefIdeal.τ Cert.FfnBwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwAttn (m : (ℓ : Loc Cert.DwAttn.nD Cert.DwAttn.τ Cert.DwAttn.sig) → Buf (Elt Bits) ℓ) : Prop :=
  True

def Pre_DwAttnIdeal (m : (ℓ : Loc Cert.DwAttnIdeal.nD Cert.DwAttnIdeal.τ Cert.DwAttnIdeal.sig) → Buf (Elt Ideal) ℓ) : Prop :=
  True

def Pre_DwAttnRefIdeal (m : (ℓ : Loc Cert.DwAttnRefIdeal.nD Cert.DwAttnRefIdeal.τ Cert.DwAttnRefIdeal.sig) → Buf (Elt Ideal) ℓ) : Prop :=
  True

def Pre_DwSsm (m : (ℓ : Loc Cert.DwSsm.nD Cert.DwSsm.τ Cert.DwSsm.sig) → Buf (Elt Bits) ℓ) : Prop :=
  True

def Pre_DwSsmIdeal (m : (ℓ : Loc Cert.DwSsmIdeal.nD Cert.DwSsmIdeal.τ Cert.DwSsmIdeal.sig) → Buf (Elt Ideal) ℓ) : Prop :=
  True

def Pre_DwSsmRefIdeal (m : (ℓ : Loc Cert.DwSsmRefIdeal.nD Cert.DwSsmRefIdeal.τ Cert.DwSsmRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MixInFwd (m : (ℓ : Loc Cert.MixInFwd.nD Cert.MixInFwd.τ Cert.MixInFwd.sig) → Buf (Elt Bits) ℓ) : Prop :=
  True

def Pre_MixInFwdIdeal (m : (ℓ : Loc Cert.MixInFwdIdeal.nD Cert.MixInFwdIdeal.τ Cert.MixInFwdIdeal.sig) → Buf (Elt Ideal) ℓ) : Prop :=
  True

def Pre_MixInFwdRefIdeal (m : (ℓ : Loc Cert.MixInFwdRefIdeal.nD Cert.MixInFwdRefIdeal.τ Cert.MixInFwdRefIdeal.sig) → Buf (Elt Ideal) ℓ) : Prop :=
  True

def Pre_MixInBwd (m : (ℓ : Loc Cert.MixInBwd.nD Cert.MixInBwd.τ Cert.MixInBwd.sig) → Buf (Elt Bits) ℓ) : Prop :=
  True

def Pre_MixInBwdIdeal (m : (ℓ : Loc Cert.MixInBwdIdeal.nD Cert.MixInBwdIdeal.τ Cert.MixInBwdIdeal.sig) → Buf (Elt Ideal) ℓ) : Prop :=
  True

def Pre_MixInBwdRefIdeal (m : (ℓ : Loc Cert.MixInBwdRefIdeal.nD Cert.MixInBwdRefIdeal.τ Cert.MixInBwdRefIdeal.sig) → Buf (Elt Ideal) ℓ) : Prop :=
  True

def Pre_MixOutFwd (m : (ℓ : Loc Cert.MixOutFwd.nD Cert.MixOutFwd.τ Cert.MixOutFwd.sig) → Buf (Elt Bits) ℓ) : Prop :=
  True

def Pre_MixOutFwdIdeal (m : (ℓ : Loc Cert.MixOutFwdIdeal.nD Cert.MixOutFwdIdeal.τ Cert.MixOutFwdIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_Attn0 (m : (ℓ : Loc Cert.Attn0.nD Cert.Attn0.τ Cert.Attn0.sig) → Buf (Elt Bits) ℓ) : Prop :=
  True

def Pre_Attn0Ideal (m : (ℓ : Loc Cert.Attn0Ideal.nD Cert.Attn0Ideal.τ Cert.Attn0Ideal.sig) → Buf (Elt Ideal) ℓ) : Prop :=
  True

def Pre_Attn0RefIdeal (m : (ℓ : Loc Cert.Attn0RefIdeal.nD Cert.Attn0RefIdeal.τ Cert.Attn0RefIdeal.sig) → Buf (Elt Ideal) ℓ) : Prop :=
  True

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1RefIdeal (m : (ℓ : Loc Cert.Attn1RefIdeal.nD Cert.Attn1RefIdeal.τ Cert.Attn1RefIdeal.sig) → Buf (Elt Ideal) ℓ) : Prop :=
  True

def Pre_Attn2 (m : (ℓ : Loc Cert.Attn2.nD Cert.Attn2.τ Cert.Attn2.sig) → Buf (Elt Bits) ℓ) : Prop :=
  True

def Pre_Attn2Ideal (m : (ℓ : Loc Cert.Attn2Ideal.nD Cert.Attn2Ideal.τ Cert.Attn2Ideal.sig) → Buf (Elt Ideal) ℓ) : Prop :=
  True

def Pre_Attn2RefIdeal (m : (ℓ : Loc Cert.Attn2RefIdeal.nD Cert.Attn2RefIdeal.τ Cert.Attn2RefIdeal.sig) → Buf (Elt Ideal) ℓ) : Prop :=
  True

def Pre_BiasExpand (m : (ℓ : Loc Cert.BiasExpand.nD Cert.BiasExpand.τ Cert.BiasExpand.sig) → Buf (Elt Bits) ℓ) : Prop :=
  True

def Pre_BiasExpandIdeal (m : (ℓ : Loc Cert.BiasExpandIdeal.nD Cert.BiasExpandIdeal.τ Cert.BiasExpandIdeal.sig) → Buf (Elt Ideal) ℓ) : Prop :=
  True

def Pre_BiasExpandRefIdeal (m : (ℓ : Loc Cert.BiasExpandRefIdeal.nD Cert.BiasExpandRefIdeal.τ Cert.BiasExpandRefIdeal.sig) → Buf (Elt Ideal) ℓ) : Prop :=
  True

def Pre_BiasReduce (m : (ℓ : Loc Cert.BiasReduce.nD Cert.BiasReduce.τ Cert.BiasReduce.sig) → Buf (Elt Bits) ℓ) : Prop :=
  True

def Pre_BiasReduceIdeal (m : (ℓ : Loc Cert.BiasReduceIdeal.nD Cert.BiasReduceIdeal.τ Cert.BiasReduceIdeal.sig) → Buf (Elt Ideal) ℓ) : Prop :=
  True

def Pre_BiasReduceRefIdeal (m : (ℓ : Loc Cert.BiasReduceRefIdeal.nD Cert.BiasReduceRefIdeal.τ Cert.BiasReduceRefIdeal.sig) → Buf (Elt Ideal) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0))
      ∧ r.2.sem = fun _ => 0)

def quiescent_WeightsRef [hWeightsRef : Cert.WeightsRef.Facts] : Prop :=
  ∀ (m : (ℓ : Loc Cert.WeightsRef.nD Cert.WeightsRef.τ Cert.WeightsRef.sig) → Buf (Elt Bits) ℓ) (g : Dev Cert.WeightsRef.nD → PrngReg), Pre_WeightsRef m →
    θ_run (Cert.WeightsRef.defs (F := Bits)) (onTc (τ := Cert.WeightsRef.τ) (Cert.WeightsRef.main (F := Bits))) ⟨m, fun _ => 0, g⟩ (fun r => (∀ c : Dev Cert.WeightsRef.nD,
      r.2.mem ((c.tc : Thread Cert.WeightsRef.nD Cert.WeightsRef.τ).loc Cert.WeightsRef.main_arg0) = m ((c.tc : Thread Cert.WeightsRef.nD Cert.WeightsRef.τ).loc Cert.WeightsRef.main_arg0))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0))
      ∧ r.2.sem = fun _ => 0)

def quiescent_CoreSum [hCoreSum : Cert.CoreSum.Facts] : Prop :=
  ∀ (m : (ℓ : Loc Cert.CoreSum.nD Cert.CoreSum.τ Cert.CoreSum.sig) → Buf (Elt Bits) ℓ) (g : Dev Cert.CoreSum.nD → PrngReg), Pre_CoreSum m →
    θ_run (Cert.CoreSum.defs (F := Bits)) (onTc (τ := Cert.CoreSum.τ) (Cert.CoreSum.main (F := Bits))) ⟨m, fun _ => 0, g⟩ (fun r => (∀ c : Dev Cert.CoreSum.nD,
      r.2.mem ((c.tc : Thread Cert.CoreSum.nD Cert.CoreSum.τ).loc Cert.CoreSum.main_arg0) = m ((c.tc : Thread Cert.CoreSum.nD Cert.CoreSum.τ).loc Cert.CoreSum.main_arg0))
      ∧ r.2.sem = fun _ => 0)

def quiescent_CoreSumIdeal [hCoreSumIdeal : Cert.CoreSumIdeal.Facts] : Prop :=
  ∀ (m : (ℓ : Loc Cert.CoreSumIdeal.nD Cert.CoreSumIdeal.τ Cert.CoreSumIdeal.sig) → Buf (Elt Ideal) ℓ) (g : Dev Cert.CoreSumIdeal.nD → PrngReg), Pre_CoreSumIdeal m →
    θ_run (Cert.CoreSumIdeal.defs (F := Ideal)) (onTc (τ := Cert.CoreSumIdeal.τ) (Cert.CoreSumIdeal.main (F := Ideal))) ⟨m, fun _ => 0, g⟩ (fun r => (∀ c : Dev Cert.CoreSumIdeal.nD,
      r.2.mem ((c.tc : Thread Cert.CoreSumIdeal.nD Cert.CoreSumIdeal.τ).loc Cert.CoreSumIdeal.main_arg0) = m ((c.tc : Thread Cert.CoreSumIdeal.nD Cert.CoreSumIdeal.τ).loc Cert.CoreSumIdeal.main_arg0))
      ∧ r.2.sem = fun _ => 0)

def quiescent_CoreSumRefIdeal [hCoreSumRefIdeal : Cert.CoreSumRefIdeal.Facts] : Prop :=
  ∀ (m : (ℓ : Loc Cert.CoreSumRefIdeal.nD Cert.CoreSumRefIdeal.τ Cert.CoreSumRefIdeal.sig) → Buf (Elt Ideal) ℓ) (g : Dev Cert.CoreSumRefIdeal.nD → PrngReg), Pre_CoreSumRefIdeal m →
    θ_run (Cert.CoreSumRefIdeal.defs (F := Ideal)) (onTc (τ := Cert.CoreSumRefIdeal.τ) (Cert.CoreSumRefIdeal.main (F := Ideal))) ⟨m, fun _ => 0, g⟩ (fun r => (∀ c : Dev Cert.CoreSumRefIdeal.nD,
      r.2.mem ((c.tc : Thread Cert.CoreSumRefIdeal.nD Cert.CoreSumRefIdeal.τ).loc Cert.CoreSumRefIdeal.main_arg0) = m ((c.tc : Thread Cert.CoreSumRefIdeal.nD Cert.CoreSumRefIdeal.τ).loc Cert.CoreSumRefIdeal.main_arg0))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamAttn [hAdamAttn : Cert.AdamAttn.Facts] : Prop :=
  ∀ (m : (ℓ : Loc Cert.AdamAttn.nD Cert.AdamAttn.τ Cert.AdamAttn.sig) → Buf (Elt Bits) ℓ) (g : Dev Cert.AdamAttn.nD → PrngReg), Pre_AdamAttn m →
    θ_run (Cert.AdamAttn.defs (F := Bits)) (onTc (τ := Cert.AdamAttn.τ) (Cert.AdamAttn.main (F := Bits))) ⟨m, fun _ => 0, g⟩ (fun r => (∀ c : Dev Cert.AdamAttn.nD,
      r.2.mem ((c.tc : Thread Cert.AdamAttn.nD Cert.AdamAttn.τ).loc Cert.AdamAttn.main_arg0) = m ((c.tc : Thread Cert.AdamAttn.nD Cert.AdamAttn.τ).loc Cert.AdamAttn.main_arg0)
      ∧ r.2.mem ((c.tc : Thread Cert.AdamAttn.nD Cert.AdamAttn.τ).loc Cert.AdamAttn.main_arg1) = m ((c.tc : Thread Cert.AdamAttn.nD Cert.AdamAttn.τ).loc Cert.AdamAttn.main_arg1)
      ∧ r.2.mem ((c.tc : Thread Cert.AdamAttn.nD Cert.AdamAttn.τ).loc Cert.AdamAttn.main_arg2) = m ((c.tc : Thread Cert.AdamAttn.nD Cert.AdamAttn.τ).loc Cert.AdamAttn.main_arg2)
      ∧ r.2.mem ((c.tc : Thread Cert.AdamAttn.nD Cert.AdamAttn.τ).loc Cert.AdamAttn.main_arg3) = m ((c.tc : Thread Cert.AdamAttn.nD Cert.AdamAttn.τ).loc Cert.AdamAttn.main_arg3))
      ∧ r.2.sem = fun _ => 0)

def quiescent_AdamAttnIdeal [hAdamAttnIdeal : Cert.AdamAttnIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg), Pre_AdamAttnIdeal m →
    θ_run (Cert.AdamAttnIdeal.defs (F := Ideal)) (onTc (τ := Cert.AdamAttnIdeal.τ) (Cert.AdamAttnIdeal.main (F := Ideal))) ⟨m, fun _ => 0, g⟩ (fun r => (∀ c : Dev Cert.AdamAttnIdeal.nD,
      r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
      ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
      ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
      ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ r.2.sem = fun _ => 0)

def quiescent_AdamAttnRefIdeal [hAdamAttnRefIdeal : Cert.AdamAttnRefIdeal.Facts] : Prop :=
  ∀ (m : (ℓ : Loc Cert.AdamAttnRefIdeal.nD Cert.AdamAttnRefIdeal.τ Cert.AdamAttnRefIdeal.sig) → Buf (Elt Ideal) ℓ) (g : Dev Cert.AdamAttnRefIdeal.nD → PrngReg), Pre_AdamAttnRefIdeal m →
    θ_run (Cert.AdamAttnRefIdeal.defs (F := Ideal)) (onTc (τ := Cert.AdamAttnRefIdeal.τ) (Cert.AdamAttnRefIdeal.main (F := Ideal))) ⟨m, fun _ => 0, g⟩ (fun r => (∀ c : Dev Cert.AdamAttnRefIdeal.nD,
      r.2.mem ((c.tc : Thread Cert.AdamAttnRefIdeal.nD Cert.AdamAttnRefIdeal.τ).loc Cert.AdamAttnRefIdeal.main_arg0) = m ((c.tc : Thread Cert.AdamAttnRefIdeal.nD Cert.AdamAttnRefIdeal.τ).loc Cert.AdamAttnRefIdeal.main_arg0)
      ∧ r.2.mem ((c.tc : Thread Cert.AdamAttnRefIdeal.nD Cert.AdamAttnRefIdeal.τ).loc Cert.AdamAttnRefIdeal.main_arg1) = m ((c.tc : Thread Cert.AdamAttnRefIdeal.nD Cert.AdamAttnRefIdeal.τ).loc Cert.AdamAttnRefIdeal.main_arg1)
      ∧ r.2.mem ((c.tc : Thread Cert.AdamAttnRefIdeal.nD Cert.AdamAttnRefIdeal.τ).loc Cert.AdamAttnRefIdeal.main_arg2) = m ((c.tc : Thread Cert.AdamAttnRefIdeal.nD Cert.AdamAttnRefIdeal.τ).loc Cert.AdamAttnRefIdeal.main_arg2)
      ∧ r.2.mem ((c.tc : Thread Cert.AdamAttnRefIdeal.nD Cert.AdamAttnRefIdeal.τ).loc Cert.AdamAttnRefIdeal.main_arg3) = m ((c.tc : Thread Cert.AdamAttnRefIdeal.nD Cert.AdamAttnRefIdeal.τ).loc Cert.AdamAttnRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwAttn [hDwAttn : Cert.DwAttn.Facts] : Prop :=
  ∀ (m : (ℓ : Loc Cert.DwAttn.nD Cert.DwAttn.τ Cert.DwAttn.sig) → Buf (Elt Bits) ℓ) (g : Dev Cert.DwAttn.nD → PrngReg), Pre_DwAttn m →
    θ_run (Cert.DwAttn.defs (F := Bits)) (onTc (τ := Cert.DwAttn.τ) (Cert.DwAttn.main (F := Bits))) ⟨m, fun _ => 0, g⟩ (fun r => (∀ c : Dev Cert.DwAttn.nD,
      r.2.mem ((c.tc : Thread Cert.DwAttn.nD Cert.DwAttn.τ).loc Cert.DwAttn.main_arg0) = m ((c.tc : Thread Cert.DwAttn.nD Cert.DwAttn.τ).loc Cert.DwAttn.main_arg0)
      ∧ r.2.mem ((c.tc : Thread Cert.DwAttn.nD Cert.DwAttn.τ).loc Cert.DwAttn.main_arg1) = m ((c.tc : Thread Cert.DwAttn.nD Cert.DwAttn.τ).loc Cert.DwAttn.main_arg1))
      ∧ r.2.sem = fun _ => 0)

def quiescent_DwAttnIdeal [hDwAttnIdeal : Cert.DwAttnIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg), Pre_DwAttnIdeal m →
    θ_run (Cert.DwAttnIdeal.defs (F := Ideal)) (onTc (τ := Cert.DwAttnIdeal.τ) (Cert.DwAttnIdeal.main (F := Ideal))) ⟨m, fun _ => 0, g⟩ (fun r => (∀ c : Dev Cert.DwAttnIdeal.nD,
      r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
      ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1))
      ∧ r.2.sem = fun _ => 0)

def quiescent_DwAttnRefIdeal [hDwAttnRefIdeal : Cert.DwAttnRefIdeal.Facts] : Prop :=
  ∀ (m : (ℓ : Loc Cert.DwAttnRefIdeal.nD Cert.DwAttnRefIdeal.τ Cert.DwAttnRefIdeal.sig) → Buf (Elt Ideal) ℓ) (g : Dev Cert.DwAttnRefIdeal.nD → PrngReg), Pre_DwAttnRefIdeal m →
    θ_run (Cert.DwAttnRefIdeal.defs (F := Ideal)) (onTc (τ := Cert.DwAttnRefIdeal.τ) (Cert.DwAttnRefIdeal.main (F := Ideal))) ⟨m, fun _ => 0, g⟩ (fun r => (∀ c : Dev Cert.DwAttnRefIdeal.nD,
      r.2.mem ((c.tc : Thread Cert.DwAttnRefIdeal.nD Cert.DwAttnRefIdeal.τ).loc Cert.DwAttnRefIdeal.main_arg0) = m ((c.tc : Thread Cert.DwAttnRefIdeal.nD Cert.DwAttnRefIdeal.τ).loc Cert.DwAttnRefIdeal.main_arg0)
      ∧ r.2.mem ((c.tc : Thread Cert.DwAttnRefIdeal.nD Cert.DwAttnRefIdeal.τ).loc Cert.DwAttnRefIdeal.main_arg1) = m ((c.tc : Thread Cert.DwAttnRefIdeal.nD Cert.DwAttnRefIdeal.τ).loc Cert.DwAttnRefIdeal.main_arg1))
      ∧ r.2.sem = fun _ => 0)

def quiescent_DwSsm [hDwSsm : Cert.DwSsm.Facts] : Prop :=
  ∀ (m : (ℓ : Loc Cert.DwSsm.nD Cert.DwSsm.τ Cert.DwSsm.sig) → Buf (Elt Bits) ℓ) (g : Dev Cert.DwSsm.nD → PrngReg), Pre_DwSsm m →
    θ_run (Cert.DwSsm.defs (F := Bits)) (onTc (τ := Cert.DwSsm.τ) (Cert.DwSsm.main (F := Bits))) ⟨m, fun _ => 0, g⟩ (fun r => (∀ c : Dev Cert.DwSsm.nD,
      r.2.mem ((c.tc : Thread Cert.DwSsm.nD Cert.DwSsm.τ).loc Cert.DwSsm.main_arg0) = m ((c.tc : Thread Cert.DwSsm.nD Cert.DwSsm.τ).loc Cert.DwSsm.main_arg0)
      ∧ r.2.mem ((c.tc : Thread Cert.DwSsm.nD Cert.DwSsm.τ).loc Cert.DwSsm.main_arg1) = m ((c.tc : Thread Cert.DwSsm.nD Cert.DwSsm.τ).loc Cert.DwSsm.main_arg1))
      ∧ r.2.sem = fun _ => 0)

def quiescent_DwSsmIdeal [hDwSsmIdeal : Cert.DwSsmIdeal.Facts] : Prop :=
  ∀ (m : (ℓ : Loc Cert.DwSsmIdeal.nD Cert.DwSsmIdeal.τ Cert.DwSsmIdeal.sig) → Buf (Elt Ideal) ℓ) (g : Dev Cert.DwSsmIdeal.nD → PrngReg), Pre_DwSsmIdeal m →
    θ_run (Cert.DwSsmIdeal.defs (F := Ideal)) (onTc (τ := Cert.DwSsmIdeal.τ) (Cert.DwSsmIdeal.main (F := Ideal))) ⟨m, fun _ => 0, g⟩ (fun r => (∀ c : Dev Cert.DwSsmIdeal.nD,
      r.2.mem ((c.tc : Thread Cert.DwSsmIdeal.nD Cert.DwSsmIdeal.τ).loc Cert.DwSsmIdeal.main_arg0) = m ((c.tc : Thread Cert.DwSsmIdeal.nD Cert.DwSsmIdeal.τ).loc Cert.DwSsmIdeal.main_arg0)
      ∧ r.2.mem ((c.tc : Thread Cert.DwSsmIdeal.nD Cert.DwSsmIdeal.τ).loc Cert.DwSsmIdeal.main_arg1) = m ((c.tc : Thread Cert.DwSsmIdeal.nD Cert.DwSsmIdeal.τ).loc Cert.DwSsmIdeal.main_arg1))
      ∧ r.2.sem = fun _ => 0)

def quiescent_DwSsmRefIdeal [hDwSsmRefIdeal : Cert.DwSsmRefIdeal.Facts] : Prop :=
  ∀ (m : (ℓ : Loc Cert.DwSsmRefIdeal.nD Cert.DwSsmRefIdeal.τ Cert.DwSsmRefIdeal.sig) → Buf (Elt Ideal) ℓ) (g : Dev Cert.DwSsmRefIdeal.nD → PrngReg), Pre_DwSsmRefIdeal m →
    θ_run (Cert.DwSsmRefIdeal.defs (F := Ideal)) (onTc (τ := Cert.DwSsmRefIdeal.τ) (Cert.DwSsmRefIdeal.main (F := Ideal))) ⟨m, fun _ => 0, g⟩ (fun r => (∀ c : Dev Cert.DwSsmRefIdeal.nD,
      r.2.mem ((c.tc : Thread Cert.DwSsmRefIdeal.nD Cert.DwSsmRefIdeal.τ).loc Cert.DwSsmRefIdeal.main_arg0) = m ((c.tc : Thread Cert.DwSsmRefIdeal.nD Cert.DwSsmRefIdeal.τ).loc Cert.DwSsmRefIdeal.main_arg0)
      ∧ r.2.mem ((c.tc : Thread Cert.DwSsmRefIdeal.nD Cert.DwSsmRefIdeal.τ).loc Cert.DwSsmRefIdeal.main_arg1) = m ((c.tc : Thread Cert.DwSsmRefIdeal.nD Cert.DwSsmRefIdeal.τ).loc Cert.DwSsmRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_MixInFwd [hMixInFwd : Cert.MixInFwd.Facts] : Prop :=
  ∀ (m : (ℓ : Loc Cert.MixInFwd.nD Cert.MixInFwd.τ Cert.MixInFwd.sig) → Buf (Elt Bits) ℓ) (g : Dev Cert.MixInFwd.nD → PrngReg), Pre_MixInFwd m →
    θ_run (Cert.MixInFwd.defs (F := Bits)) (onTc (τ := Cert.MixInFwd.τ) (Cert.MixInFwd.main (F := Bits))) ⟨m, fun _ => 0, g⟩ (fun r => (∀ c : Dev Cert.MixInFwd.nD,
      r.2.mem ((c.tc : Thread Cert.MixInFwd.nD Cert.MixInFwd.τ).loc Cert.MixInFwd.main_arg0) = m ((c.tc : Thread Cert.MixInFwd.nD Cert.MixInFwd.τ).loc Cert.MixInFwd.main_arg0)
      ∧ r.2.mem ((c.tc : Thread Cert.MixInFwd.nD Cert.MixInFwd.τ).loc Cert.MixInFwd.main_arg1) = m ((c.tc : Thread Cert.MixInFwd.nD Cert.MixInFwd.τ).loc Cert.MixInFwd.main_arg1)
      ∧ r.2.mem ((c.tc : Thread Cert.MixInFwd.nD Cert.MixInFwd.τ).loc Cert.MixInFwd.main_arg2) = m ((c.tc : Thread Cert.MixInFwd.nD Cert.MixInFwd.τ).loc Cert.MixInFwd.main_arg2)
      ∧ r.2.mem ((c.tc : Thread Cert.MixInFwd.nD Cert.MixInFwd.τ).loc Cert.MixInFwd.main_arg3) = m ((c.tc : Thread Cert.MixInFwd.nD Cert.MixInFwd.τ).loc Cert.MixInFwd.main_arg3))
      ∧ r.2.sem = fun _ => 0)

def quiescent_MixInFwdIdeal [hMixInFwdIdeal : Cert.MixInFwdIdeal.Facts] : Prop :=
  ∀ (m : (ℓ : Loc Cert.MixInFwdIdeal.nD Cert.MixInFwdIdeal.τ Cert.MixInFwdIdeal.sig) → Buf (Elt Ideal) ℓ) (g : Dev Cert.MixInFwdIdeal.nD → PrngReg), Pre_MixInFwdIdeal m →
    θ_run (Cert.MixInFwdIdeal.defs (F := Ideal)) (onTc (τ := Cert.MixInFwdIdeal.τ) (Cert.MixInFwdIdeal.main (F := Ideal))) ⟨m, fun _ => 0, g⟩ (fun r => (∀ c : Dev Cert.MixInFwdIdeal.nD,
      r.2.mem ((c.tc : Thread Cert.MixInFwdIdeal.nD Cert.MixInFwdIdeal.τ).loc Cert.MixInFwdIdeal.main_arg0) = m ((c.tc : Thread Cert.MixInFwdIdeal.nD Cert.MixInFwdIdeal.τ).loc Cert.MixInFwdIdeal.main_arg0)
      ∧ r.2.mem ((c.tc : Thread Cert.MixInFwdIdeal.nD Cert.MixInFwdIdeal.τ).loc Cert.MixInFwdIdeal.main_arg1) = m ((c.tc : Thread Cert.MixInFwdIdeal.nD Cert.MixInFwdIdeal.τ).loc Cert.MixInFwdIdeal.main_arg1)
      ∧ r.2.mem ((c.tc : Thread Cert.MixInFwdIdeal.nD Cert.MixInFwdIdeal.τ).loc Cert.MixInFwdIdeal.main_arg2) = m ((c.tc : Thread Cert.MixInFwdIdeal.nD Cert.MixInFwdIdeal.τ).loc Cert.MixInFwdIdeal.main_arg2)
      ∧ r.2.mem ((c.tc : Thread Cert.MixInFwdIdeal.nD Cert.MixInFwdIdeal.τ).loc Cert.MixInFwdIdeal.main_arg3) = m ((c.tc : Thread Cert.MixInFwdIdeal.nD Cert.MixInFwdIdeal.τ).loc Cert.MixInFwdIdeal.main_arg3))
      ∧ r.2.sem = fun _ => 0)

def quiescent_MixInFwdRefIdeal [hMixInFwdRefIdeal : Cert.MixInFwdRefIdeal.Facts] : Prop :=
  ∀ (m : (ℓ : Loc Cert.MixInFwdRefIdeal.nD Cert.MixInFwdRefIdeal.τ Cert.MixInFwdRefIdeal.sig) → Buf (Elt Ideal) ℓ) (g : Dev Cert.MixInFwdRefIdeal.nD → PrngReg), Pre_MixInFwdRefIdeal m →
    θ_run (Cert.MixInFwdRefIdeal.defs (F := Ideal)) (onTc (τ := Cert.MixInFwdRefIdeal.τ) (Cert.MixInFwdRefIdeal.main (F := Ideal))) ⟨m, fun _ => 0, g⟩ (fun r => (∀ c : Dev Cert.MixInFwdRefIdeal.nD,
      r.2.mem ((c.tc : Thread Cert.MixInFwdRefIdeal.nD Cert.MixInFwdRefIdeal.τ).loc Cert.MixInFwdRefIdeal.main_arg0) = m ((c.tc : Thread Cert.MixInFwdRefIdeal.nD Cert.MixInFwdRefIdeal.τ).loc Cert.MixInFwdRefIdeal.main_arg0)
      ∧ r.2.mem ((c.tc : Thread Cert.MixInFwdRefIdeal.nD Cert.MixInFwdRefIdeal.τ).loc Cert.MixInFwdRefIdeal.main_arg1) = m ((c.tc : Thread Cert.MixInFwdRefIdeal.nD Cert.MixInFwdRefIdeal.τ).loc Cert.MixInFwdRefIdeal.main_arg1)
      ∧ r.2.mem ((c.tc : Thread Cert.MixInFwdRefIdeal.nD Cert.MixInFwdRefIdeal.τ).loc Cert.MixInFwdRefIdeal.main_arg2) = m ((c.tc : Thread Cert.MixInFwdRefIdeal.nD Cert.MixInFwdRefIdeal.τ).loc Cert.MixInFwdRefIdeal.main_arg2)
      ∧ r.2.mem ((c.tc : Thread Cert.MixInFwdRefIdeal.nD Cert.MixInFwdRefIdeal.τ).loc Cert.MixInFwdRefIdeal.main_arg3) = m ((c.tc : Thread Cert.MixInFwdRefIdeal.nD Cert.MixInFwdRefIdeal.τ).loc Cert.MixInFwdRefIdeal.main_arg3))
      ∧ r.2.sem = fun _ => 0)

def quiescent_MixInBwd [hMixInBwd : Cert.MixInBwd.Facts] : Prop :=
  ∀ (m : (ℓ : Loc Cert.MixInBwd.nD Cert.MixInBwd.τ Cert.MixInBwd.sig) → Buf (Elt Bits) ℓ) (g : Dev Cert.MixInBwd.nD → PrngReg), Pre_MixInBwd m →
    θ_run (Cert.MixInBwd.defs (F := Bits)) (onTc (τ := Cert.MixInBwd.τ) (Cert.MixInBwd.main (F := Bits))) ⟨m, fun _ => 0, g⟩ (fun r => (∀ c : Dev Cert.MixInBwd.nD,
      r.2.mem ((c.tc : Thread Cert.MixInBwd.nD Cert.MixInBwd.τ).loc Cert.MixInBwd.main_arg0) = m ((c.tc : Thread Cert.MixInBwd.nD Cert.MixInBwd.τ).loc Cert.MixInBwd.main_arg0)
      ∧ r.2.mem ((c.tc : Thread Cert.MixInBwd.nD Cert.MixInBwd.τ).loc Cert.MixInBwd.main_arg1) = m ((c.tc : Thread Cert.MixInBwd.nD Cert.MixInBwd.τ).loc Cert.MixInBwd.main_arg1)
      ∧ r.2.mem ((c.tc : Thread Cert.MixInBwd.nD Cert.MixInBwd.τ).loc Cert.MixInBwd.main_arg2) = m ((c.tc : Thread Cert.MixInBwd.nD Cert.MixInBwd.τ).loc Cert.MixInBwd.main_arg2)
      ∧ r.2.mem ((c.tc : Thread Cert.MixInBwd.nD Cert.MixInBwd.τ).loc Cert.MixInBwd.main_arg3) = m ((c.tc : Thread Cert.MixInBwd.nD Cert.MixInBwd.τ).loc Cert.MixInBwd.main_arg3)
      ∧ r.2.mem ((c.tc : Thread Cert.MixInBwd.nD Cert.MixInBwd.τ).loc Cert.MixInBwd.main_arg4) = m ((c.tc : Thread Cert.MixInBwd.nD Cert.MixInBwd.τ).loc Cert.MixInBwd.main_arg4))
      ∧ r.2.sem = fun _ => 0)

def quiescent_MixInBwdIdeal [hMixInBwdIdeal : Cert.MixInBwdIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
      ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
      ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
      ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4))
      ∧ r.2.sem = fun _ => 0)

def quiescent_MixInBwdRefIdeal [hMixInBwdRefIdeal : Cert.MixInBwdRefIdeal.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1)
      ∧ r.2.mem ((c.tc : Thread Cert.MixInBwdRefIdeal.nD Cert.MixInBwdRefIdeal.τ).loc Cert.MixInBwdRefIdeal.main_arg2) = m ((c.tc : Thread Cert.MixInBwdRefIdeal.nD Cert.MixInBwdRefIdeal.τ).loc Cert.MixInBwdRefIdeal.main_arg2)
      ∧ r.2.mem ((c.tc : Thread Cert.MixInBwdRefIdeal.nD Cert.MixInBwdRefIdeal.τ).loc Cert.MixInBwdRefIdeal.main_arg3) = m ((c.tc : Thread Cert.MixInBwdRefIdeal.nD Cert.MixInBwdRefIdeal.τ).loc Cert.MixInBwdRefIdeal.main_arg3)
      ∧ r.2.mem ((c.tc : Thread Cert.MixInBwdRefIdeal.nD Cert.MixInBwdRefIdeal.τ).loc Cert.MixInBwdRefIdeal.main_arg4) = m ((c.tc : Thread Cert.MixInBwdRefIdeal.nD Cert.MixInBwdRefIdeal.τ).loc Cert.MixInBwdRefIdeal.main_arg4))
      ∧ r.2.sem = fun _ => 0)

def quiescent_MixOutFwd [hMixOutFwd : Cert.MixOutFwd.Facts] : Prop :=
  ∀ (m : (ℓ : Loc Cert.MixOutFwd.nD Cert.MixOutFwd.τ Cert.MixOutFwd.sig) → Buf (Elt Bits) ℓ) (g : Dev Cert.MixOutFwd.nD → PrngReg), Pre_MixOutFwd m →
    θ_run (Cert.MixOutFwd.defs (F := Bits)) (onTc (τ := Cert.MixOutFwd.τ) (Cert.MixOutFwd.main (F := Bits))) ⟨m, fun _ => 0, g⟩ (fun r => (∀ c : Dev Cert.MixOutFwd.nD,
      r.2.mem ((c.tc : Thread Cert.MixOutFwd.nD Cert.MixOutFwd.τ).loc Cert.MixOutFwd.main_arg0) = m ((c.tc : Thread Cert.MixOutFwd.nD Cert.MixOutFwd.τ).loc Cert.MixOutFwd.main_arg0)
      ∧ r.2.mem ((c.tc : Thread Cert.MixOutFwd.nD Cert.MixOutFwd.τ).loc Cert.MixOutFwd.main_arg1) = m ((c.tc : Thread Cert.MixOutFwd.nD Cert.MixOutFwd.τ).loc Cert.MixOutFwd.main_arg1)
      ∧ r.2.mem ((c.tc : Thread Cert.MixOutFwd.nD Cert.MixOutFwd.τ).loc Cert.MixOutFwd.main_arg2) = m ((c.tc : Thread Cert.MixOutFwd.nD Cert.MixOutFwd.τ).loc Cert.MixOutFwd.main_arg2)
      ∧ r.2.mem ((c.tc : Thread Cert.MixOutFwd.nD Cert.MixOutFwd.τ).loc Cert.MixOutFwd.main_arg3) = m ((c.tc : Thread Cert.MixOutFwd.nD Cert.MixOutFwd.τ).loc Cert.MixOutFwd.main_arg3)
      ∧ r.2.mem ((c.tc : Thread Cert.MixOutFwd.nD Cert.MixOutFwd.τ).loc Cert.MixOutFwd.main_arg4) = m ((c.tc : Thread Cert.MixOutFwd.nD Cert.MixOutFwd.τ).loc Cert.MixOutFwd.main_arg4)
      ∧ r.2.mem ((c.tc : Thread Cert.MixOutFwd.nD Cert.MixOutFwd.τ).loc Cert.MixOutFwd.main_arg5) = m ((c.tc : Thread Cert.MixOutFwd.nD Cert.MixOutFwd.τ).loc Cert.MixOutFwd.main_arg5)
      ∧ r.2.mem ((c.tc : Thread Cert.MixOutFwd.nD Cert.MixOutFwd.τ).loc Cert.MixOutFwd.main_arg6) = m ((c.tc : Thread Cert.MixOutFwd.nD Cert.MixOutFwd.τ).loc Cert.MixOutFwd.main_arg6)
      ∧ r.2.mem ((c.tc : Thread Cert.MixOutFwd.nD Cert.MixOutFwd.τ).loc Cert.MixOutFwd.main_arg7) = m ((c.tc : Thread Cert.MixOutFwd.nD Cert.MixOutFwd.τ).loc Cert.MixOutFwd.main_arg7)
      ∧ r.2.mem ((c.tc : Thread Cert.MixOutFwd.nD Cert.MixOutFwd.τ).loc Cert.MixOutFwd.main_arg8) = m ((c.tc : Thread Cert.MixOutFwd.nD Cert.MixOutFwd.τ).loc Cert.MixOutFwd.main_arg8)
      ∧ r.2.mem ((c.tc : Thread Cert.MixOutFwd.nD Cert.MixOutFwd.τ).loc Cert.MixOutFwd.main_arg9) = m ((c.tc : Thread Cert.MixOutFwd.nD Cert.MixOutFwd.τ).loc Cert.MixOutFwd.main_arg9)
      ∧ r.2.mem ((c.tc : Thread Cert.MixOutFwd.nD Cert.MixOutFwd.τ).loc Cert.MixOutFwd.main_arg10) = m ((c.tc : Thread Cert.MixOutFwd.nD Cert.MixOutFwd.τ).loc Cert.MixOutFwd.main_arg10)
      ∧ r.2.mem ((c.tc : Thread Cert.MixOutFwd.nD Cert.MixOutFwd.τ).loc Cert.MixOutFwd.main_arg11) = m ((c.tc : Thread Cert.MixOutFwd.nD Cert.MixOutFwd.τ).loc Cert.MixOutFwd.main_arg11)
      ∧ r.2.mem ((c.tc : Thread Cert.MixOutFwd.nD Cert.MixOutFwd.τ).loc Cert.MixOutFwd.main_arg12) = m ((c.tc : Thread Cert.MixOutFwd.nD Cert.MixOutFwd.τ).loc Cert.MixOutFwd.main_arg12))
      ∧ r.2.sem = fun _ => 0)

def quiescent_MixOutFwdIdeal [hMixOutFwdIdeal : Cert.MixOutFwdIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg), Pre_MixOutFwdIdeal m →
    θ_run (Cert.MixOutFwdIdeal.defs (F := Ideal)) (onTc (τ := Cert.MixOutFwdIdeal.τ) (Cert.MixOutFwdIdeal.main (F := Ideal))) ⟨m, fun _ => 0, g⟩ (fun r => (∀ c : Dev Cert.MixOutFwdIdeal.nD,
      r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
      ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
      ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
      ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
      ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4)
      ∧ r.2.mem ((c.tc : Thread Cert.MixOutFwdIdeal.nD Cert.MixOutFwdIdeal.τ).loc Cert.MixOutFwdIdeal.main_arg5) = m ((c.tc : Thread Cert.MixOutFwdIdeal.nD Cert.MixOutFwdIdeal.τ).loc Cert.MixOutFwdIdeal.main_arg5)
      ∧ r.2.mem ((c.tc : Thread Cert.MixOutFwdIdeal.nD Cert.MixOutFwdIdeal.τ).loc Cert.MixOutFwdIdeal.main_arg6) = m ((c.tc : Thread Cert.MixOutFwdIdeal.nD Cert.MixOutFwdIdeal.τ).loc Cert.MixOutFwdIdeal.main_arg6)
      ∧ r.2.mem ((c.tc : Thread Cert.MixOutFwdIdeal.nD Cert.MixOutFwdIdeal.τ).loc Cert.MixOutFwdIdeal.main_arg7) = m ((c.tc : Thread Cert.MixOutFwdIdeal.nD Cert.MixOutFwdIdeal.τ).loc Cert.MixOutFwdIdeal.main_arg7)
      ∧ r.2.mem ((c.tc : Thread Cert.MixOutFwdIdeal.nD Cert.MixOutFwdIdeal.τ).loc Cert.MixOutFwdIdeal.main_arg8) = m ((c.tc : Thread Cert.MixOutFwdIdeal.nD Cert.MixOutFwdIdeal.τ).loc Cert.MixOutFwdIdeal.main_arg8)
      ∧ r.2.mem ((c.tc : Thread Cert.MixOutFwdIdeal.nD Cert.MixOutFwdIdeal.τ).loc Cert.MixOutFwdIdeal.main_arg9) = m ((c.tc : Thread Cert.MixOutFwdIdeal.nD Cert.MixOutFwdIdeal.τ).loc Cert.MixOutFwdIdeal.main_arg9)
      ∧ r.2.mem ((c.tc : Thread Cert.MixOutFwdIdeal.nD Cert.MixOutFwdIdeal.τ).loc Cert.MixOutFwdIdeal.main_arg10) = m ((c.tc : Thread Cert.MixOutFwdIdeal.nD Cert.MixOutFwdIdeal.τ).loc Cert.MixOutFwdIdeal.main_arg10)
      ∧ r.2.mem ((c.tc : Thread Cert.MixOutFwdIdeal.nD Cert.MixOutFwdIdeal.τ).loc Cert.MixOutFwdIdeal.main_arg11) = m ((c.tc : Thread Cert.MixOutFwdIdeal.nD Cert.MixOutFwdIdeal.τ).loc Cert.MixOutFwdIdeal.main_arg11)
      ∧ r.2.mem ((c.tc : Thread Cert.MixOutFwdIdeal.nD Cert.MixOutFwdIdeal.τ).loc Cert.MixOutFwdIdeal.main_arg12) = m ((c.tc : Thread Cert.MixOutFwdIdeal.nD Cert.MixOutFwdIdeal.τ).loc Cert.MixOutFwdIdeal.main_arg12))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3)
      ∧ r.2.mem ((c.tc : Thread Cert.MixOutFwdRefIdeal.nD Cert.MixOutFwdRefIdeal.τ).loc Cert.MixOutFwdRefIdeal.main_arg4) = m ((c.tc : Thread Cert.MixOutFwdRefIdeal.nD Cert.MixOutFwdRefIdeal.τ).loc Cert.MixOutFwdRefIdeal.main_arg4)
      ∧ r.2.mem ((c.tc : Thread Cert.MixOutFwdRefIdeal.nD Cert.MixOutFwdRefIdeal.τ).loc Cert.MixOutFwdRefIdeal.main_arg5) = m ((c.tc : Thread Cert.MixOutFwdRefIdeal.nD Cert.MixOutFwdRefIdeal.τ).loc Cert.MixOutFwdRefIdeal.main_arg5)
      ∧ r.2.mem ((c.tc : Thread Cert.MixOutFwdRefIdeal.nD Cert.MixOutFwdRefIdeal.τ).loc Cert.MixOutFwdRefIdeal.main_arg6) = m ((c.tc : Thread Cert.MixOutFwdRefIdeal.nD Cert.MixOutFwdRefIdeal.τ).loc Cert.MixOutFwdRefIdeal.main_arg6)
      ∧ r.2.mem ((c.tc : Thread Cert.MixOutFwdRefIdeal.nD Cert.MixOutFwdRefIdeal.τ).loc Cert.MixOutFwdRefIdeal.main_arg7) = m ((c.tc : Thread Cert.MixOutFwdRefIdeal.nD Cert.MixOutFwdRefIdeal.τ).loc Cert.MixOutFwdRefIdeal.main_arg7)
      ∧ r.2.mem ((c.tc : Thread Cert.MixOutFwdRefIdeal.nD Cert.MixOutFwdRefIdeal.τ).loc Cert.MixOutFwdRefIdeal.main_arg8) = m ((c.tc : Thread Cert.MixOutFwdRefIdeal.nD Cert.MixOutFwdRefIdeal.τ).loc Cert.MixOutFwdRefIdeal.main_arg8)
      ∧ r.2.mem ((c.tc : Thread Cert.MixOutFwdRefIdeal.nD Cert.MixOutFwdRefIdeal.τ).loc Cert.MixOutFwdRefIdeal.main_arg9) = m ((c.tc : Thread Cert.MixOutFwdRefIdeal.nD Cert.MixOutFwdRefIdeal.τ).loc Cert.MixOutFwdRefIdeal.main_arg9)
      ∧ r.2.mem ((c.tc : Thread Cert.MixOutFwdRefIdeal.nD Cert.MixOutFwdRefIdeal.τ).loc Cert.MixOutFwdRefIdeal.main_arg10) = m ((c.tc : Thread Cert.MixOutFwdRefIdeal.nD Cert.MixOutFwdRefIdeal.τ).loc Cert.MixOutFwdRefIdeal.main_arg10)
      ∧ r.2.mem ((c.tc : Thread Cert.MixOutFwdRefIdeal.nD Cert.MixOutFwdRefIdeal.τ).loc Cert.MixOutFwdRefIdeal.main_arg11) = m ((c.tc : Thread Cert.MixOutFwdRefIdeal.nD Cert.MixOutFwdRefIdeal.τ).loc Cert.MixOutFwdRefIdeal.main_arg11)
      ∧ r.2.mem ((c.tc : Thread Cert.MixOutFwdRefIdeal.nD Cert.MixOutFwdRefIdeal.τ).loc Cert.MixOutFwdRefIdeal.main_arg12) = m ((c.tc : Thread Cert.MixOutFwdRefIdeal.nD Cert.MixOutFwdRefIdeal.τ).loc Cert.MixOutFwdRefIdeal.main_arg12))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4)
      ∧ r.2.mem ((c.tc : Thread Cert.MixOutBwd.nD Cert.MixOutBwd.τ).loc Cert.MixOutBwd.main_arg5) = m ((c.tc : Thread Cert.MixOutBwd.nD Cert.MixOutBwd.τ).loc Cert.MixOutBwd.main_arg5)
      ∧ r.2.mem ((c.tc : Thread Cert.MixOutBwd.nD Cert.MixOutBwd.τ).loc Cert.MixOutBwd.main_arg6) = m ((c.tc : Thread Cert.MixOutBwd.nD Cert.MixOutBwd.τ).loc Cert.MixOutBwd.main_arg6)
      ∧ r.2.mem ((c.tc : Thread Cert.MixOutBwd.nD Cert.MixOutBwd.τ).loc Cert.MixOutBwd.main_arg7) = m ((c.tc : Thread Cert.MixOutBwd.nD Cert.MixOutBwd.τ).loc Cert.MixOutBwd.main_arg7)
      ∧ r.2.mem ((c.tc : Thread Cert.MixOutBwd.nD Cert.MixOutBwd.τ).loc Cert.MixOutBwd.main_arg8) = m ((c.tc : Thread Cert.MixOutBwd.nD Cert.MixOutBwd.τ).loc Cert.MixOutBwd.main_arg8))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6)
      ∧ r.2.mem ((c.tc : Thread Cert.MixOutBwdIdeal.nD Cert.MixOutBwdIdeal.τ).loc Cert.MixOutBwdIdeal.main_arg7) = m ((c.tc : Thread Cert.MixOutBwdIdeal.nD Cert.MixOutBwdIdeal.τ).loc Cert.MixOutBwdIdeal.main_arg7)
      ∧ r.2.mem ((c.tc : Thread Cert.MixOutBwdIdeal.nD Cert.MixOutBwdIdeal.τ).loc Cert.MixOutBwdIdeal.main_arg8) = m ((c.tc : Thread Cert.MixOutBwdIdeal.nD Cert.MixOutBwdIdeal.τ).loc Cert.MixOutBwdIdeal.main_arg8))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3)
      ∧ r.2.mem ((c.tc : Thread Cert.MixOutBwdRefIdeal.nD Cert.MixOutBwdRefIdeal.τ).loc Cert.MixOutBwdRefIdeal.main_arg4) = m ((c.tc : Thread Cert.MixOutBwdRefIdeal.nD Cert.MixOutBwdRefIdeal.τ).loc Cert.MixOutBwdRefIdeal.main_arg4)
      ∧ r.2.mem ((c.tc : Thread Cert.MixOutBwdRefIdeal.nD Cert.MixOutBwdRefIdeal.τ).loc Cert.MixOutBwdRefIdeal.main_arg5) = m ((c.tc : Thread Cert.MixOutBwdRefIdeal.nD Cert.MixOutBwdRefIdeal.τ).loc Cert.MixOutBwdRefIdeal.main_arg5)
      ∧ r.2.mem ((c.tc : Thread Cert.MixOutBwdRefIdeal.nD Cert.MixOutBwdRefIdeal.τ).loc Cert.MixOutBwdRefIdeal.main_arg6) = m ((c.tc : Thread Cert.MixOutBwdRefIdeal.nD Cert.MixOutBwdRefIdeal.τ).loc Cert.MixOutBwdRefIdeal.main_arg6)
      ∧ r.2.mem ((c.tc : Thread Cert.MixOutBwdRefIdeal.nD Cert.MixOutBwdRefIdeal.τ).loc Cert.MixOutBwdRefIdeal.main_arg7) = m ((c.tc : Thread Cert.MixOutBwdRefIdeal.nD Cert.MixOutBwdRefIdeal.τ).loc Cert.MixOutBwdRefIdeal.main_arg7)
      ∧ r.2.mem ((c.tc : Thread Cert.MixOutBwdRefIdeal.nD Cert.MixOutBwdRefIdeal.τ).loc Cert.MixOutBwdRefIdeal.main_arg8) = m ((c.tc : Thread Cert.MixOutBwdRefIdeal.nD Cert.MixOutBwdRefIdeal.τ).loc Cert.MixOutBwdRefIdeal.main_arg8))
      ∧ r.2.sem = fun _ => 0)

def quiescent_Attn0 [hAttn0 : Cert.Attn0.Facts] : Prop :=
  ∀ (m : (ℓ : Loc Cert.Attn0.nD Cert.Attn0.τ Cert.Attn0.sig) → Buf (Elt Bits) ℓ) (g : Dev Cert.Attn0.nD → PrngReg), Pre_Attn0 m →
    θ_run (Cert.Attn0.defs (F := Bits)) (onTc (τ := Cert.Attn0.τ) (Cert.Attn0.main (F := Bits))) ⟨m, fun _ => 0, g⟩ (fun r => (∀ c : Dev Cert.Attn0.nD,
      r.2.mem ((c.tc : Thread Cert.Attn0.nD Cert.Attn0.τ).loc Cert.Attn0.main_arg0) = m ((c.tc : Thread Cert.Attn0.nD Cert.Attn0.τ).loc Cert.Attn0.main_arg0)
      ∧ r.2.mem ((c.tc : Thread Cert.Attn0.nD Cert.Attn0.τ).loc Cert.Attn0.main_arg1) = m ((c.tc : Thread Cert.Attn0.nD Cert.Attn0.τ).loc Cert.Attn0.main_arg1)
      ∧ r.2.mem ((c.tc : Thread Cert.Attn0.nD Cert.Attn0.τ).loc Cert.Attn0.main_arg2) = m ((c.tc : Thread Cert.Attn0.nD Cert.Attn0.τ).loc Cert.Attn0.main_arg2)
      ∧ r.2.mem ((c.tc : Thread Cert.Attn0.nD Cert.Attn0.τ).loc Cert.Attn0.main_arg3) = m ((c.tc : Thread Cert.Attn0.nD Cert.Attn0.τ).loc Cert.Attn0.main_arg3))
      ∧ r.2.sem = fun _ => 0)

def quiescent_Attn0Ideal [hAttn0Ideal : Cert.Attn0Ideal.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
      ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1)
      ∧ r.2.mem ((c.tc : Thread Cert.Attn0Ideal.nD Cert.Attn0Ideal.τ).loc Cert.Attn0Ideal.main_arg2) = m ((c.tc : Thread Cert.Attn0Ideal.nD Cert.Attn0Ideal.τ).loc Cert.Attn0Ideal.main_arg2)
      ∧ r.2.mem ((c.tc : Thread Cert.Attn0Ideal.nD Cert.Attn0Ideal.τ).loc Cert.Attn0Ideal.main_arg3) = m ((c.tc : Thread Cert.Attn0Ideal.nD Cert.Attn0Ideal.τ).loc Cert.Attn0Ideal.main_arg3))
      ∧ r.2.sem = fun _ => 0)

def quiescent_Attn0RefIdeal [hAttn0RefIdeal : Cert.Attn0RefIdeal.Facts] : Prop :=
  ∀ (m : (ℓ : Loc Cert.Attn0RefIdeal.nD Cert.Attn0RefIdeal.τ Cert.Attn0RefIdeal.sig) → Buf (Elt Ideal) ℓ) (g : Dev Cert.Attn0RefIdeal.nD → PrngReg), Pre_Attn0RefIdeal m →
    θ_run (Cert.Attn0RefIdeal.defs (F := Ideal)) (onTc (τ := Cert.Attn0RefIdeal.τ) (Cert.Attn0RefIdeal.main (F := Ideal))) ⟨m, fun _ => 0, g⟩ (fun r => (∀ c : Dev Cert.Attn0RefIdeal.nD,
      r.2.mem ((c.tc : Thread Cert.Attn0RefIdeal.nD Cert.Attn0RefIdeal.τ).loc Cert.Attn0RefIdeal.main_arg0) = m ((c.tc : Thread Cert.Attn0RefIdeal.nD Cert.Attn0RefIdeal.τ).loc Cert.Attn0RefIdeal.main_arg0)
      ∧ r.2.mem ((c.tc : Thread Cert.Attn0RefIdeal.nD Cert.Attn0RefIdeal.τ).loc Cert.Attn0RefIdeal.main_arg1) = m ((c.tc : Thread Cert.Attn0RefIdeal.nD Cert.Attn0RefIdeal.τ).loc Cert.Attn0RefIdeal.main_arg1)
      ∧ r.2.mem ((c.tc : Thread Cert.Attn0RefIdeal.nD Cert.Attn0RefIdeal.τ).loc Cert.Attn0RefIdeal.main_arg2) = m ((c.tc : Thread Cert.Attn0RefIdeal.nD Cert.Attn0RefIdeal.τ).loc Cert.Attn0RefIdeal.main_arg2)
      ∧ r.2.mem ((c.tc : Thread Cert.Attn0RefIdeal.nD Cert.Attn0RefIdeal.τ).loc Cert.Attn0RefIdeal.main_arg3) = m ((c.tc : Thread Cert.Attn0RefIdeal.nD Cert.Attn0RefIdeal.τ).loc Cert.Attn0RefIdeal.main_arg3))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0)
      ∧ r.2.mem ((c.tc : Thread Cert.Attn1.nD Cert.Attn1.τ).loc Cert.Attn1.main_arg1) = m ((c.tc : Thread Cert.Attn1.nD Cert.Attn1.τ).loc Cert.Attn1.main_arg1)
      ∧ r.2.mem ((c.tc : Thread Cert.Attn1.nD Cert.Attn1.τ).loc Cert.Attn1.main_arg2) = m ((c.tc : Thread Cert.Attn1.nD Cert.Attn1.τ).loc Cert.Attn1.main_arg2)
      ∧ r.2.mem ((c.tc : Thread Cert.Attn1.nD Cert.Attn1.τ).loc Cert.Attn1.main_arg3) = m ((c.tc : Thread Cert.Attn1.nD Cert.Attn1.τ).loc Cert.Attn1.main_arg3))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
      ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3))
      ∧ r.2.sem = fun _ => 0)

def quiescent_Attn1RefIdeal [hAttn1RefIdeal : Cert.Attn1RefIdeal.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0)
      ∧ r.2.mem ((c.tc : Thread Cert.Attn1RefIdeal.nD Cert.Attn1RefIdeal.τ).loc Cert.Attn1RefIdeal.main_arg1) = m ((c.tc : Thread Cert.Attn1RefIdeal.nD Cert.Attn1RefIdeal.τ).loc Cert.Attn1RefIdeal.main_arg1)
      ∧ r.2.mem ((c.tc : Thread Cert.Attn1RefIdeal.nD Cert.Attn1RefIdeal.τ).loc Cert.Attn1RefIdeal.main_arg2) = m ((c.tc : Thread Cert.Attn1RefIdeal.nD Cert.Attn1RefIdeal.τ).loc Cert.Attn1RefIdeal.main_arg2)
      ∧ r.2.mem ((c.tc : Thread Cert.Attn1RefIdeal.nD Cert.Attn1RefIdeal.τ).loc Cert.Attn1RefIdeal.main_arg3) = m ((c.tc : Thread Cert.Attn1RefIdeal.nD Cert.Attn1RefIdeal.τ).loc Cert.Attn1RefIdeal.main_arg3))
      ∧ r.2.sem = fun _ => 0)

def quiescent_Attn2 [hAttn2 : Cert.Attn2.Facts] : Prop :=
  ∀ (m : (ℓ : Loc Cert.Attn2.nD Cert.Attn2.τ Cert.Attn2.sig) → Buf (Elt Bits) ℓ) (g : Dev Cert.Attn2.nD → PrngReg), Pre_Attn2 m →
    θ_run (Cert.Attn2.defs (F := Bits)) (onTc (τ := Cert.Attn2.τ) (Cert.Attn2.main (F := Bits))) ⟨m, fun _ => 0, g⟩ (fun r => (∀ c : Dev Cert.Attn2.nD,
      r.2.mem ((c.tc : Thread Cert.Attn2.nD Cert.Attn2.τ).loc Cert.Attn2.main_arg0) = m ((c.tc : Thread Cert.Attn2.nD Cert.Attn2.τ).loc Cert.Attn2.main_arg0)
      ∧ r.2.mem ((c.tc : Thread Cert.Attn2.nD Cert.Attn2.τ).loc Cert.Attn2.main_arg1) = m ((c.tc : Thread Cert.Attn2.nD Cert.Attn2.τ).loc Cert.Attn2.main_arg1)
      ∧ r.2.mem ((c.tc : Thread Cert.Attn2.nD Cert.Attn2.τ).loc Cert.Attn2.main_arg2) = m ((c.tc : Thread Cert.Attn2.nD Cert.Attn2.τ).loc Cert.Attn2.main_arg2)
      ∧ r.2.mem ((c.tc : Thread Cert.Attn2.nD Cert.Attn2.τ).loc Cert.Attn2.main_arg3) = m ((c.tc : Thread Cert.Attn2.nD Cert.Attn2.τ).loc Cert.Attn2.main_arg3))
      ∧ r.2.sem = fun _ => 0)

def quiescent_Attn2Ideal [hAttn2Ideal : Cert.Attn2Ideal.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
      ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1)
      ∧ r.2.mem ((c.tc : Thread Cert.Attn2Ideal.nD Cert.Attn2Ideal.τ).loc Cert.Attn2Ideal.main_arg2) = m ((c.tc : Thread Cert.Attn2Ideal.nD Cert.Attn2Ideal.τ).loc Cert.Attn2Ideal.main_arg2)
      ∧ r.2.mem ((c.tc : Thread Cert.Attn2Ideal.nD Cert.Attn2Ideal.τ).loc Cert.Attn2Ideal.main_arg3) = m ((c.tc : Thread Cert.Attn2Ideal.nD Cert.Attn2Ideal.τ).loc Cert.Attn2Ideal.main_arg3))
      ∧ r.2.sem = fun _ => 0)

def quiescent_Attn2RefIdeal [hAttn2RefIdeal : Cert.Attn2RefIdeal.Facts] : Prop :=
  ∀ (m : (ℓ : Loc Cert.Attn2RefIdeal.nD Cert.Attn2RefIdeal.τ Cert.Attn2RefIdeal.sig) → Buf (Elt Ideal) ℓ) (g : Dev Cert.Attn2RefIdeal.nD → PrngReg), Pre_Attn2RefIdeal m →
    θ_run (Cert.Attn2RefIdeal.defs (F := Ideal)) (onTc (τ := Cert.Attn2RefIdeal.τ) (Cert.Attn2RefIdeal.main (F := Ideal))) ⟨m, fun _ => 0, g⟩ (fun r => (∀ c : Dev Cert.Attn2RefIdeal.nD,
      r.2.mem ((c.tc : Thread Cert.Attn2RefIdeal.nD Cert.Attn2RefIdeal.τ).loc Cert.Attn2RefIdeal.main_arg0) = m ((c.tc : Thread Cert.Attn2RefIdeal.nD Cert.Attn2RefIdeal.τ).loc Cert.Attn2RefIdeal.main_arg0)
      ∧ r.2.mem ((c.tc : Thread Cert.Attn2RefIdeal.nD Cert.Attn2RefIdeal.τ).loc Cert.Attn2RefIdeal.main_arg1) = m ((c.tc : Thread Cert.Attn2RefIdeal.nD Cert.Attn2RefIdeal.τ).loc Cert.Attn2RefIdeal.main_arg1)
      ∧ r.2.mem ((c.tc : Thread Cert.Attn2RefIdeal.nD Cert.Attn2RefIdeal.τ).loc Cert.Attn2RefIdeal.main_arg2) = m ((c.tc : Thread Cert.Attn2RefIdeal.nD Cert.Attn2RefIdeal.τ).loc Cert.Attn2RefIdeal.main_arg2)
      ∧ r.2.mem ((c.tc : Thread Cert.Attn2RefIdeal.nD Cert.Attn2RefIdeal.τ).loc Cert.Attn2RefIdeal.main_arg3) = m ((c.tc : Thread Cert.Attn2RefIdeal.nD Cert.Attn2RefIdeal.τ).loc Cert.Attn2RefIdeal.main_arg3))
      ∧ r.2.sem = fun _ => 0)

def quiescent_BiasExpand [hBiasExpand : Cert.BiasExpand.Facts] : Prop :=
  ∀ (m : (ℓ : Loc Cert.BiasExpand.nD Cert.BiasExpand.τ Cert.BiasExpand.sig) → Buf (Elt Bits) ℓ) (g : Dev Cert.BiasExpand.nD → PrngReg), Pre_BiasExpand m →
    θ_run (Cert.BiasExpand.defs (F := Bits)) (onTc (τ := Cert.BiasExpand.τ) (Cert.BiasExpand.main (F := Bits))) ⟨m, fun _ => 0, g⟩ (fun r => (∀ c : Dev Cert.BiasExpand.nD,
      r.2.mem ((c.tc : Thread Cert.BiasExpand.nD Cert.BiasExpand.τ).loc Cert.BiasExpand.main_arg0) = m ((c.tc : Thread Cert.BiasExpand.nD Cert.BiasExpand.τ).loc Cert.BiasExpand.main_arg0)
      ∧ r.2.mem ((c.tc : Thread Cert.BiasExpand.nD Cert.BiasExpand.τ).loc Cert.BiasExpand.main_arg1) = m ((c.tc : Thread Cert.BiasExpand.nD Cert.BiasExpand.τ).loc Cert.BiasExpand.main_arg1))
      ∧ r.2.sem = fun _ => 0)

def quiescent_BiasExpandIdeal [hBiasExpandIdeal : Cert.BiasExpandIdeal.Facts] : Prop :=
  ∀ (m : (ℓ : Loc Cert.BiasExpandIdeal.nD Cert.BiasExpandIdeal.τ Cert.BiasExpandIdeal.sig) → Buf (Elt Ideal) ℓ) (g : Dev Cert.BiasExpandIdeal.nD → PrngReg), Pre_BiasExpandIdeal m →
    θ_run (Cert.BiasExpandIdeal.defs (F := Ideal)) (onTc (τ := Cert.BiasExpandIdeal.τ) (Cert.BiasExpandIdeal.main (F := Ideal))) ⟨m, fun _ => 0, g⟩ (fun r => (∀ c : Dev Cert.BiasExpandIdeal.nD,
      r.2.mem ((c.tc : Thread Cert.BiasExpandIdeal.nD Cert.BiasExpandIdeal.τ).loc Cert.BiasExpandIdeal.main_arg0) = m ((c.tc : Thread Cert.BiasExpandIdeal.nD Cert.BiasExpandIdeal.τ).loc Cert.BiasExpandIdeal.main_arg0)
      ∧ r.2.mem ((c.tc : Thread Cert.BiasExpandIdeal.nD Cert.BiasExpandIdeal.τ).loc Cert.BiasExpandIdeal.main_arg1) = m ((c.tc : Thread Cert.BiasExpandIdeal.nD Cert.BiasExpandIdeal.τ).loc Cert.BiasExpandIdeal.main_arg1))
      ∧ r.2.sem = fun _ => 0)

def quiescent_BiasExpandRefIdeal [hBiasExpandRefIdeal : Cert.BiasExpandRefIdeal.Facts] : Prop :=
  ∀ (m : (ℓ : Loc Cert.BiasExpandRefIdeal.nD Cert.BiasExpandRefIdeal.τ Cert.BiasExpandRefIdeal.sig) → Buf (Elt Ideal) ℓ) (g : Dev Cert.BiasExpandRefIdeal.nD → PrngReg), Pre_BiasExpandRefIdeal m →
    θ_run (Cert.BiasExpandRefIdeal.defs (F := Ideal)) (onTc (τ := Cert.BiasExpandRefIdeal.τ) (Cert.BiasExpandRefIdeal.main (F := Ideal))) ⟨m, fun _ => 0, g⟩ (fun r => (∀ c : Dev Cert.BiasExpandRefIdeal.nD,
      r.2.mem ((c.tc : Thread Cert.BiasExpandRefIdeal.nD Cert.BiasExpandRefIdeal.τ).loc Cert.BiasExpandRefIdeal.main_arg0) = m ((c.tc : Thread Cert.BiasExpandRefIdeal.nD Cert.BiasExpandRefIdeal.τ).loc Cert.BiasExpandRefIdeal.main_arg0)
      ∧ r.2.mem ((c.tc : Thread Cert.BiasExpandRefIdeal.nD Cert.BiasExpandRefIdeal.τ).loc Cert.BiasExpandRefIdeal.main_arg1) = m ((c.tc : Thread Cert.BiasExpandRefIdeal.nD Cert.BiasExpandRefIdeal.τ).loc Cert.BiasExpandRefIdeal.main_arg1))
      ∧ r.2.sem = fun _ => 0)

def quiescent_BiasReduce [hBiasReduce : Cert.BiasReduce.Facts] : Prop :=
  ∀ (m : (ℓ : Loc Cert.BiasReduce.nD Cert.BiasReduce.τ Cert.BiasReduce.sig) → Buf (Elt Bits) ℓ) (g : Dev Cert.BiasReduce.nD → PrngReg), Pre_BiasReduce m →
    θ_run (Cert.BiasReduce.defs (F := Bits)) (onTc (τ := Cert.BiasReduce.τ) (Cert.BiasReduce.main (F := Bits))) ⟨m, fun _ => 0, g⟩ (fun r => (∀ c : Dev Cert.BiasReduce.nD,
      r.2.mem ((c.tc : Thread Cert.BiasReduce.nD Cert.BiasReduce.τ).loc Cert.BiasReduce.main_arg0) = m ((c.tc : Thread Cert.BiasReduce.nD Cert.BiasReduce.τ).loc Cert.BiasReduce.main_arg0)
      ∧ r.2.mem ((c.tc : Thread Cert.BiasReduce.nD Cert.BiasReduce.τ).loc Cert.BiasReduce.main_arg1) = m ((c.tc : Thread Cert.BiasReduce.nD Cert.BiasReduce.τ).loc Cert.BiasReduce.main_arg1))
      ∧ r.2.sem = fun _ => 0)

def quiescent_BiasReduceIdeal [hBiasReduceIdeal : Cert.BiasReduceIdeal.Facts] : Prop :=
  ∀ (m : (ℓ : Loc Cert.BiasReduceIdeal.nD Cert.BiasReduceIdeal.τ Cert.BiasReduceIdeal.sig) → Buf (Elt Ideal) ℓ) (g : Dev Cert.BiasReduceIdeal.nD → PrngReg), Pre_BiasReduceIdeal m →
    θ_run (Cert.BiasReduceIdeal.defs (F := Ideal)) (onTc (τ := Cert.BiasReduceIdeal.τ) (Cert.BiasReduceIdeal.main (F := Ideal))) ⟨m, fun _ => 0, g⟩ (fun r => (∀ c : Dev Cert.BiasReduceIdeal.nD,
      r.2.mem ((c.tc : Thread Cert.BiasReduceIdeal.nD Cert.BiasReduceIdeal.τ).loc Cert.BiasReduceIdeal.main_arg0) = m ((c.tc : Thread Cert.BiasReduceIdeal.nD Cert.BiasReduceIdeal.τ).loc Cert.BiasReduceIdeal.main_arg0)
      ∧ r.2.mem ((c.tc : Thread Cert.BiasReduceIdeal.nD Cert.BiasReduceIdeal.τ).loc Cert.BiasReduceIdeal.main_arg1) = m ((c.tc : Thread Cert.BiasReduceIdeal.nD Cert.BiasReduceIdeal.τ).loc Cert.BiasReduceIdeal.main_arg1))
      ∧ r.2.sem = fun _ => 0)

def quiescent_BiasReduceRefIdeal [hBiasReduceRefIdeal : Cert.BiasReduceRefIdeal.Facts] : Prop :=
  ∀ (m : (ℓ : Loc Cert.BiasReduceRefIdeal.nD Cert.BiasReduceRefIdeal.τ Cert.BiasReduceRefIdeal.sig) → Buf (Elt Ideal) ℓ) (g : Dev Cert.BiasReduceRefIdeal.nD → PrngReg), Pre_BiasReduceRefIdeal m →
    θ_run (Cert.BiasReduceRefIdeal.defs (F := Ideal)) (onTc (τ := Cert.BiasReduceRefIdeal.τ) (Cert.BiasReduceRefIdeal.main (F := Ideal))) ⟨m, fun _ => 0, g⟩ (fun r => (∀ c : Dev Cert.BiasReduceRefIdeal.nD,
      r.2.mem ((c.tc : Thread Cert.BiasReduceRefIdeal.nD Cert.BiasReduceRefIdeal.τ).loc Cert.BiasReduceRefIdeal.main_arg0) = m ((c.tc : Thread Cert.BiasReduceRefIdeal.nD Cert.BiasReduceRefIdeal.τ).loc Cert.BiasReduceRefIdeal.main_arg0)
      ∧ r.2.mem ((c.tc : Thread Cert.BiasReduceRefIdeal.nD Cert.BiasReduceRefIdeal.τ).loc Cert.BiasReduceRefIdeal.main_arg1) = m ((c.tc : Thread Cert.BiasReduceRefIdeal.nD Cert.BiasReduceRefIdeal.τ).loc Cert.BiasReduceRefIdeal.main_arg1))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 6016, 1024]⟩ ⟨3, ![32, 6016, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 3008, 1024]⟩ ⟨3, ![32, 3008, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 6016, 1024]⟩ ⟨3, ![32, 6016, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 3008, 1024]⟩ ⟨3, ![32, 3008, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.blockN ⟨2, ![6016, 1024]⟩ ⟨2, ![24064, 1024]⟩ (Layout.meshBlock [2, 2, 2] ![[0, 1], []] c) (m' (((0 : Dev Cert.WeightsRefIdeal.nD).tc : Thread Cert.WeightsRefIdeal.nD Cert.WeightsRefIdeal.τ).loc Cert.WeightsRefIdeal.main_arg0))) →
    ∃ (v0 : Buf (Elt Ideal) (((0 : Dev Cert.WeightsRefIdeal.nD).tc : Thread Cert.WeightsRefIdeal.nD Cert.WeightsRefIdeal.τ).loc Cert.WeightsRefIdeal.main_v0)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1) = v0
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ θ_run (Cert.WeightsRefIdeal.defs (F := Ideal)) (onTc (τ := Cert.WeightsRefIdeal.τ) (Cert.WeightsRefIdeal.main (F := Ideal))) ⟨m', fun _ => 0, g'⟩ (fun r =>
          r.2.mem (((0 : Dev Cert.WeightsRefIdeal.nD).tc : Thread Cert.WeightsRefIdeal.nD Cert.WeightsRefIdeal.τ).loc Cert.WeightsRefIdeal.main_v0) = v0
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0))

def bitexact_Weights_WeightsRef [hWeights : Cert.Weights.Facts] [hWeightsRef : Cert.WeightsRef.Facts] : Prop :=
  ∀ (m : (ℓ : Loc Cert.Weights.nD Cert.Weights.τ Cert.Weights.sig) → Buf (Elt Bits) ℓ) (g : Dev Cert.Weights.nD → PrngReg)
    (m' : (ℓ : Loc Cert.WeightsRef.nD Cert.WeightsRef.τ Cert.WeightsRef.sig) → Buf (Elt Bits) ℓ) (g' : Dev Cert.WeightsRef.nD → PrngReg), Pre_Weights m →
    (∀ c : Dev Cert.Weights.nD,
      m ((c.tc : Thread Cert.Weights.nD Cert.Weights.τ).loc Cert.Weights.main_arg0) = Layout.blockN ⟨2, ![6016, 1024]⟩ ⟨2, ![24064, 1024]⟩ (Layout.meshBlock [2, 2, 2] ![[0, 1], []] c) (m' (((0 : Dev Cert.WeightsRef.nD).tc : Thread Cert.WeightsRef.nD Cert.WeightsRef.τ).loc Cert.WeightsRef.main_arg0))) →
    ∃ (v0 : Buf (Elt Bits) (((0 : Dev Cert.WeightsRef.nD).tc : Thread Cert.WeightsRef.nD Cert.WeightsRef.τ).loc Cert.WeightsRef.main_v0)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1) = v0
          ∧ r.2.mem ((c.tc : Thread Cert.Weights.nD Cert.Weights.τ).loc Cert.Weights.main_arg0) = m ((c.tc : Thread Cert.Weights.nD Cert.Weights.τ).loc Cert.Weights.main_arg0))
      ∧ θ_run (Cert.WeightsRef.defs (F := Bits)) (onTc (τ := Cert.WeightsRef.τ) (Cert.WeightsRef.main (F := Bits))) ⟨m', fun _ => 0, g'⟩ (fun r =>
          r.2.mem (((0 : Dev Cert.WeightsRef.nD).tc : Thread Cert.WeightsRef.nD Cert.WeightsRef.τ).loc Cert.WeightsRef.main_v0) = v0
          ∧ r.2.mem (((0 : Dev Cert.WeightsRef.nD).tc : Thread Cert.WeightsRef.nD Cert.WeightsRef.τ).loc Cert.WeightsRef.main_arg0) = m' (((0 : Dev Cert.WeightsRef.nD).tc : Thread Cert.WeightsRef.nD Cert.WeightsRef.τ).loc Cert.WeightsRef.main_arg0))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨2, ![3008, 1024]⟩ ⟨2, ![24064, 1024]⟩ 0 8 c (m' (((0 : Dev Cert.JoinRefIdeal.nD).tc : Thread Cert.JoinRefIdeal.nD Cert.JoinRefIdeal.τ).loc Cert.JoinRefIdeal.main_arg0))) →
    ∃ (v0 : Buf (Elt Ideal) (((0 : Dev Cert.JoinRefIdeal.nD).tc : Thread Cert.JoinRefIdeal.nD Cert.JoinRefIdeal.τ).loc Cert.JoinRefIdeal.main_v6)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1) = Layout.blockN ⟨2, ![6016, 1024]⟩ ⟨2, ![24064, 1024]⟩ (Layout.meshBlock [2, 2, 2] ![[0, 1], []] c) v0
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_v6) = v0
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.block ⟨2, ![3008, 1024]⟩ ⟨2, ![24064, 1024]⟩ 0 8 c (m' (((0 : Dev Cert.JoinRef.nD).tc : Thread Cert.JoinRef.nD Cert.JoinRef.τ).loc Cert.JoinRef.main_arg0))) →
    ∃ (v0 : Buf (Elt Bits) (((0 : Dev Cert.JoinRef.nD).tc : Thread Cert.JoinRef.nD Cert.JoinRef.τ).loc Cert.JoinRef.main_v6)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1) = Layout.blockN ⟨2, ![6016, 1024]⟩ ⟨2, ![24064, 1024]⟩ (Layout.meshBlock [2, 2, 2] ![[0, 1], []] c) v0
          ∧ r.2.mem ((c.tc : Thread Cert.Join.nD Cert.Join.τ).loc Cert.Join.main_arg0) = m ((c.tc : Thread Cert.Join.nD Cert.Join.τ).loc Cert.Join.main_arg0))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_v6) = v0
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0))

def preserves_CoreSum_CoreSumIdeal : Prop :=
  True

def algebraic_CoreSumIdeal_CoreSumRefIdeal [hCoreSumIdeal : Cert.CoreSumIdeal.Facts] [hCoreSumRefIdeal : Cert.CoreSumRefIdeal.Facts] : Prop :=
  ∀ (m : (ℓ : Loc Cert.CoreSumIdeal.nD Cert.CoreSumIdeal.τ Cert.CoreSumIdeal.sig) → Buf (Elt Ideal) ℓ) (g : Dev Cert.CoreSumIdeal.nD → PrngReg)
    (m' : (ℓ : Loc Cert.CoreSumRefIdeal.nD Cert.CoreSumRefIdeal.τ Cert.CoreSumRefIdeal.sig) → Buf (Elt Ideal) ℓ) (g' : Dev Cert.CoreSumRefIdeal.nD → PrngReg), Pre_CoreSumIdeal m →
    (∀ c : Dev Cert.CoreSumIdeal.nD,
      m ((c.tc : Thread Cert.CoreSumIdeal.nD Cert.CoreSumIdeal.τ).loc Cert.CoreSumIdeal.main_arg0) = Layout.block ⟨3, ![4, 6016, 1024]⟩ ⟨3, ![32, 6016, 1024]⟩ 0 8 c (m' (((0 : Dev Cert.CoreSumRefIdeal.nD).tc : Thread Cert.CoreSumRefIdeal.nD Cert.CoreSumRefIdeal.τ).loc Cert.CoreSumRefIdeal.main_arg0))) →
    ∃ (v0 : Buf (Elt Ideal) (((0 : Dev Cert.CoreSumRefIdeal.nD).tc : Thread Cert.CoreSumRefIdeal.nD Cert.CoreSumRefIdeal.τ).loc Cert.CoreSumRefIdeal.main_v3)) (v1 : Buf (Elt Ideal) (((0 : Dev Cert.CoreSumRefIdeal.nD).tc : Thread Cert.CoreSumRefIdeal.nD Cert.CoreSumRefIdeal.τ).loc Cert.CoreSumRefIdeal.main_v12)),
      θ_run (Cert.CoreSumIdeal.defs (F := Ideal)) (onTc (τ := Cert.CoreSumIdeal.τ) (Cert.CoreSumIdeal.main (F := Ideal))) ⟨m, fun _ => 0, g⟩ (fun r => ∀ c : Dev Cert.CoreSumIdeal.nD,
          r.2.mem ((c.tc : Thread Cert.CoreSumIdeal.nD Cert.CoreSumIdeal.τ).loc Cert.CoreSumIdeal.main_v7) = Layout.block ⟨3, ![4, 3008, 1024]⟩ ⟨3, ![32, 3008, 1024]⟩ 0 8 c v0
          ∧ r.2.mem ((c.tc : Thread Cert.CoreSumIdeal.nD Cert.CoreSumIdeal.τ).loc Cert.CoreSumIdeal.main_v1) = Layout.block ⟨3, ![4, 3008, 1024]⟩ ⟨3, ![32, 3008, 1024]⟩ 0 8 c v1
          ∧ r.2.mem ((c.tc : Thread Cert.CoreSumIdeal.nD Cert.CoreSumIdeal.τ).loc Cert.CoreSumIdeal.main_arg0) = m ((c.tc : Thread Cert.CoreSumIdeal.nD Cert.CoreSumIdeal.τ).loc Cert.CoreSumIdeal.main_arg0))
      ∧ θ_run (Cert.CoreSumRefIdeal.defs (F := Ideal)) (onTc (τ := Cert.CoreSumRefIdeal.τ) (Cert.CoreSumRefIdeal.main (F := Ideal))) ⟨m', fun _ => 0, g'⟩ (fun r =>
          r.2.mem (((0 : Dev Cert.CoreSumRefIdeal.nD).tc : Thread Cert.CoreSumRefIdeal.nD Cert.CoreSumRefIdeal.τ).loc Cert.CoreSumRefIdeal.main_v3) = v0
          ∧ r.2.mem (((0 : Dev Cert.CoreSumRefIdeal.nD).tc : Thread Cert.CoreSumRefIdeal.nD Cert.CoreSumRefIdeal.τ).loc Cert.CoreSumRefIdeal.main_v12) = v1
          ∧ r.2.mem (((0 : Dev Cert.CoreSumRefIdeal.nD).tc : Thread Cert.CoreSumRefIdeal.nD Cert.CoreSumRefIdeal.τ).loc Cert.CoreSumRefIdeal.main_arg0) = m' (((0 : Dev Cert.CoreSumRefIdeal.nD).tc : Thread Cert.CoreSumRefIdeal.nD Cert.CoreSumRefIdeal.τ).loc Cert.CoreSumRefIdeal.main_arg0))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m ((c.tc : Thread Cert.ChipSumIdeal.nD Cert.ChipSumIdeal.τ).loc Cert.ChipSumIdeal.main_arg0) = Layout.block ⟨3, ![4, 3008, 1024]⟩ ⟨3, ![32, 3008, 1024]⟩ 0 8 c (m' (((0 : Dev Cert.ChipSumRefIdeal.nD).tc : Thread Cert.ChipSumRefIdeal.nD Cert.ChipSumRefIdeal.τ).loc Cert.ChipSumRefIdeal.main_arg0))) →
    ∃ (v0 : Buf (Elt Ideal) (((0 : Dev Cert.ChipSumRefIdeal.nD).tc : Thread Cert.ChipSumRefIdeal.nD Cert.ChipSumRefIdeal.τ).loc Cert.ChipSumRefIdeal.main_v3)) (v1 : Buf (Elt Ideal) (((0 : Dev Cert.ChipSumRefIdeal.nD).tc : Thread Cert.ChipSumRefIdeal.nD Cert.ChipSumRefIdeal.τ).loc Cert.ChipSumRefIdeal.main_v6)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v2) = Layout.block ⟨2, ![3008, 1024]⟩ ⟨2, ![24064, 1024]⟩ 0 8 c v0
          ∧ r.2.mem ((c.tc : Thread Cert.ChipSumIdeal.nD Cert.ChipSumIdeal.τ).loc Cert.ChipSumIdeal.main_v1) = Layout.block ⟨3, ![4, 3008, 1024]⟩ ⟨3, ![32, 3008, 1024]⟩ 0 8 c v1
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumRefIdeal.defs (F := Ideal)) (onTc (τ := Cert.ChipSumRefIdeal.τ) (Cert.ChipSumRefIdeal.main (F := Ideal))) ⟨m', fun _ => 0, g'⟩ (fun r =>
          r.2.mem (((0 : Dev Cert.ChipSumRefIdeal.nD).tc : Thread Cert.ChipSumRefIdeal.nD Cert.ChipSumRefIdeal.τ).loc Cert.ChipSumRefIdeal.main_v3) = v0
          ∧ r.2.mem (((0 : Dev Cert.ChipSumRefIdeal.nD).tc : Thread Cert.ChipSumRefIdeal.nD Cert.ChipSumRefIdeal.τ).loc Cert.ChipSumRefIdeal.main_v6) = v1
          ∧ r.2.mem (((0 : Dev Cert.ChipSumRefIdeal.nD).tc : Thread Cert.ChipSumRefIdeal.nD Cert.ChipSumRefIdeal.τ).loc Cert.ChipSumRefIdeal.main_arg0) = m' (((0 : Dev Cert.ChipSumRefIdeal.nD).tc : Thread Cert.ChipSumRefIdeal.nD Cert.ChipSumRefIdeal.τ).loc Cert.ChipSumRefIdeal.main_arg0))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m ((c.tc : Thread Cert.SmallSumIdeal.nD Cert.SmallSumIdeal.τ).loc Cert.SmallSumIdeal.main_arg0) = Layout.block ⟨2, ![1120, 128]⟩ ⟨2, ![8960, 128]⟩ 0 8 c (m' (((0 : Dev Cert.SmallSumRefIdeal.nD).tc : Thread Cert.SmallSumRefIdeal.nD Cert.SmallSumRefIdeal.τ).loc Cert.SmallSumRefIdeal.main_arg0))) →
    ∃ (v0 : Buf (Elt Ideal) (((0 : Dev Cert.SmallSumRefIdeal.nD).tc : Thread Cert.SmallSumRefIdeal.nD Cert.SmallSumRefIdeal.τ).loc Cert.SmallSumRefIdeal.main_v1)) (v1 : Buf (Elt Ideal) (((0 : Dev Cert.SmallSumRefIdeal.nD).tc : Thread Cert.SmallSumRefIdeal.nD Cert.SmallSumRefIdeal.τ).loc Cert.SmallSumRefIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v2) = v0
          ∧ r.2.mem ((c.tc : Thread Cert.SmallSumIdeal.nD Cert.SmallSumIdeal.τ).loc Cert.SmallSumIdeal.main_v1) = v1
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r =>
          r.2.mem (((0 : Dev Cert.SmallSumRefIdeal.nD).tc : Thread Cert.SmallSumRefIdeal.nD Cert.SmallSumRefIdeal.τ).loc Cert.SmallSumRefIdeal.main_v1) = v0
          ∧ r.2.mem (((0 : Dev Cert.SmallSumRefIdeal.nD).tc : Thread Cert.SmallSumRefIdeal.nD Cert.SmallSumRefIdeal.τ).loc Cert.SmallSumRefIdeal.main_v0) = v1
          ∧ r.2.mem (((0 : Dev Cert.SmallSumRefIdeal.nD).tc : Thread Cert.SmallSumRefIdeal.nD Cert.SmallSumRefIdeal.τ).loc Cert.SmallSumRefIdeal.main_arg0) = m' (((0 : Dev Cert.SmallSumRefIdeal.nD).tc : Thread Cert.SmallSumRefIdeal.nD Cert.SmallSumRefIdeal.τ).loc Cert.SmallSumRefIdeal.main_arg0))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamAttn_AdamAttnIdeal : Prop :=
  True

def algebraic_AdamAttnIdeal_AdamAttnRefIdeal [hAdamAttnIdeal : Cert.AdamAttnIdeal.Facts] [hAdamAttnRefIdeal : Cert.AdamAttnRefIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg)
    (m' : (ℓ : Loc Cert.AdamAttnRefIdeal.nD Cert.AdamAttnRefIdeal.τ Cert.AdamAttnRefIdeal.sig) → Buf (Elt Ideal) ℓ) (g' : Dev Cert.AdamAttnRefIdeal.nD → PrngReg), Pre_AdamAttnIdeal m →
    (∀ c : Dev Cert.AdamAttnIdeal.nD,
      m' ((c.tc : Thread Cert.AdamAttnRefIdeal.nD Cert.AdamAttnRefIdeal.τ).loc Cert.AdamAttnRefIdeal.main_arg0) = m ((c.tc : Thread Cert.AdamAttnIdeal.nD Cert.AdamAttnIdeal.τ).loc Cert.AdamAttnIdeal.main_arg0)
      ∧ m' ((c.tc : Thread Cert.AdamAttnRefIdeal.nD Cert.AdamAttnRefIdeal.τ).loc Cert.AdamAttnRefIdeal.main_arg1) = m ((c.tc : Thread Cert.AdamAttnIdeal.nD Cert.AdamAttnIdeal.τ).loc Cert.AdamAttnIdeal.main_arg1)
      ∧ m' ((c.tc : Thread Cert.AdamAttnRefIdeal.nD Cert.AdamAttnRefIdeal.τ).loc Cert.AdamAttnRefIdeal.main_arg2) = m ((c.tc : Thread Cert.AdamAttnIdeal.nD Cert.AdamAttnIdeal.τ).loc Cert.AdamAttnIdeal.main_arg2)
      ∧ m' ((c.tc : Thread Cert.AdamAttnRefIdeal.nD Cert.AdamAttnRefIdeal.τ).loc Cert.AdamAttnRefIdeal.main_arg3) = m ((c.tc : Thread Cert.AdamAttnIdeal.nD Cert.AdamAttnIdeal.τ).loc Cert.AdamAttnIdeal.main_arg3)) →
    ∃ (v0 : (c : Dev Cert.AdamAttnIdeal.nD) → Buf (Elt Ideal) ((c.tc : Thread Cert.AdamAttnIdeal.nD Cert.AdamAttnIdeal.τ).loc Cert.AdamAttnIdeal.main_v0_0)) (v1 : (c : Dev Cert.AdamAttnIdeal.nD) → Buf (Elt Ideal) ((c.tc : Thread Cert.AdamAttnIdeal.nD Cert.AdamAttnIdeal.τ).loc Cert.AdamAttnIdeal.main_v0_1)) (v2 : (c : Dev Cert.AdamAttnIdeal.nD) → Buf (Elt Ideal) ((c.tc : Thread Cert.AdamAttnIdeal.nD Cert.AdamAttnIdeal.τ).loc Cert.AdamAttnIdeal.main_v0_2)),
      θ_run (Cert.AdamAttnIdeal.defs (F := Ideal)) (onTc (τ := Cert.AdamAttnIdeal.τ) (Cert.AdamAttnIdeal.main (F := Ideal))) ⟨m, fun _ => 0, g⟩ (fun r => ∀ c : Dev Cert.AdamAttnIdeal.nD,
          r.2.mem ((c.tc : Thread Cert.AdamAttnIdeal.nD Cert.AdamAttnIdeal.τ).loc Cert.AdamAttnIdeal.main_v0_0) = v0 c
          ∧ r.2.mem ((c.tc : Thread Cert.AdamAttnIdeal.nD Cert.AdamAttnIdeal.τ).loc Cert.AdamAttnIdeal.main_v0_1) = v1 c
          ∧ r.2.mem ((c.tc : Thread Cert.AdamAttnIdeal.nD Cert.AdamAttnIdeal.τ).loc Cert.AdamAttnIdeal.main_v0_2) = v2 c
          ∧ r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
          ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
          ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
          ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ θ_run (Cert.AdamAttnRefIdeal.defs (F := Ideal)) (onTc (τ := Cert.AdamAttnRefIdeal.τ) (Cert.AdamAttnRefIdeal.main (F := Ideal))) ⟨m', fun _ => 0, g'⟩ (fun r => ∀ c : Dev Cert.AdamAttnRefIdeal.nD,
          r.2.mem ((c.tc : Thread Cert.AdamAttnRefIdeal.nD Cert.AdamAttnRefIdeal.τ).loc Cert.AdamAttnRefIdeal.main_v23) = v0 c
          ∧ r.2.mem ((c.tc : Thread Cert.AdamAttnRefIdeal.nD Cert.AdamAttnRefIdeal.τ).loc Cert.AdamAttnRefIdeal.main_v4) = v1 c
          ∧ r.2.mem ((c.tc : Thread Cert.AdamAttnRefIdeal.nD Cert.AdamAttnRefIdeal.τ).loc Cert.AdamAttnRefIdeal.main_v10) = v2 c
          ∧ r.2.mem ((c.tc : Thread Cert.AdamAttnRefIdeal.nD Cert.AdamAttnRefIdeal.τ).loc Cert.AdamAttnRefIdeal.main_arg0) = m' ((c.tc : Thread Cert.AdamAttnRefIdeal.nD Cert.AdamAttnRefIdeal.τ).loc Cert.AdamAttnRefIdeal.main_arg0)
          ∧ r.2.mem ((c.tc : Thread Cert.AdamAttnRefIdeal.nD Cert.AdamAttnRefIdeal.τ).loc Cert.AdamAttnRefIdeal.main_arg1) = m' ((c.tc : Thread Cert.AdamAttnRefIdeal.nD Cert.AdamAttnRefIdeal.τ).loc Cert.AdamAttnRefIdeal.main_arg1)
          ∧ r.2.mem ((c.tc : Thread Cert.AdamAttnRefIdeal.nD Cert.AdamAttnRefIdeal.τ).loc Cert.AdamAttnRefIdeal.main_arg2) = m' ((c.tc : Thread Cert.AdamAttnRefIdeal.nD Cert.AdamAttnRefIdeal.τ).loc Cert.AdamAttnRefIdeal.main_arg2)
          ∧ r.2.mem ((c.tc : Thread Cert.AdamAttnRefIdeal.nD Cert.AdamAttnRefIdeal.τ).loc Cert.AdamAttnRefIdeal.main_arg3) = m' ((c.tc : Thread Cert.AdamAttnRefIdeal.nD Cert.AdamAttnRefIdeal.τ).loc Cert.AdamAttnRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_FfnBwd_FfnBwdIdeal : Prop :=
  True

def algebraic_FfnBwdIdeal_FfnBwdRefIdeal [hFfnBwdIdeal : Cert.FfnBwdIdeal.Facts] [hFfnBwdRefIdeal : Cert.FfnBwdRefIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)
      ∧ m' ((c.tc : Thread Cert.FfnBwdRefIdeal.nD Cert.FfnBwdRefIdeal.τ).loc Cert.FfnBwdRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)) (v4 : (c : Dev Cert.FfnBwdIdeal.nD) → Buf (Elt Ideal) ((c.tc : Thread Cert.FfnBwdIdeal.nD Cert.FfnBwdIdeal.τ).loc Cert.FfnBwdIdeal.main_v0_4)) (v5 : (c : Dev Cert.FfnBwdIdeal.nD) → Buf (Elt Ideal) ((c.tc : Thread Cert.FfnBwdIdeal.nD Cert.FfnBwdIdeal.τ).loc Cert.FfnBwdIdeal.main_v0_5)) (v6 : (c : Dev Cert.FfnBwdIdeal.nD) → Buf (Elt Ideal) ((c.tc : Thread Cert.FfnBwdIdeal.nD Cert.FfnBwdIdeal.τ).loc Cert.FfnBwdIdeal.main_v0_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_v0_4) = v4 c
          ∧ r.2.mem ((c.tc : Thread Cert.FfnBwdIdeal.nD Cert.FfnBwdIdeal.τ).loc Cert.FfnBwdIdeal.main_v0_5) = v5 c
          ∧ r.2.mem ((c.tc : Thread Cert.FfnBwdIdeal.nD Cert.FfnBwdIdeal.τ).loc Cert.FfnBwdIdeal.main_v0_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v51) = v0 c
          ∧ r.2.mem ((c.tc : Thread Cert.FfnBwdRefIdeal.nD Cert.FfnBwdRefIdeal.τ).loc Cert.FfnBwdRefIdeal.main_v52) = v1 c
          ∧ r.2.mem ((c.tc : Thread Cert.FfnBwdRefIdeal.nD Cert.FfnBwdRefIdeal.τ).loc Cert.FfnBwdRefIdeal.main_v53) = v2 c
          ∧ r.2.mem ((c.tc : Thread Cert.FfnBwdRefIdeal.nD Cert.FfnBwdRefIdeal.τ).loc Cert.FfnBwdRefIdeal.main_v56) = v3 c
          ∧ r.2.mem ((c.tc : Thread Cert.FfnBwdRefIdeal.nD Cert.FfnBwdRefIdeal.τ).loc Cert.FfnBwdRefIdeal.main_v59) = v4 c
          ∧ r.2.mem ((c.tc : Thread Cert.FfnBwdRefIdeal.nD Cert.FfnBwdRefIdeal.τ).loc Cert.FfnBwdRefIdeal.main_v60) = v5 c
          ∧ r.2.mem ((c.tc : Thread Cert.FfnBwdRefIdeal.nD Cert.FfnBwdRefIdeal.τ).loc Cert.FfnBwdRefIdeal.main_v63) = v6 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v31) = v0 c
          ∧ r.2.mem ((c.tc : Thread Cert.FfnFwdRefIdeal.nD Cert.FfnFwdRefIdeal.τ).loc Cert.FfnFwdRefIdeal.main_v32) = v1 c
          ∧ r.2.mem ((c.tc : Thread Cert.FfnFwdRefIdeal.nD Cert.FfnFwdRefIdeal.τ).loc Cert.FfnFwdRefIdeal.main_v33) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v3) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v3) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v1) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwAttn_DwAttnIdeal : Prop :=
  True

def algebraic_DwAttnIdeal_DwAttnRefIdeal [hDwAttnIdeal : Cert.DwAttnIdeal.Facts] [hDwAttnRefIdeal : Cert.DwAttnRefIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg)
    (m' : (ℓ : Loc Cert.DwAttnRefIdeal.nD Cert.DwAttnRefIdeal.τ Cert.DwAttnRefIdeal.sig) → Buf (Elt Ideal) ℓ) (g' : Dev Cert.DwAttnRefIdeal.nD → PrngReg), Pre_DwAttnIdeal m →
    (∀ c : Dev Cert.DwAttnIdeal.nD,
      m' ((c.tc : Thread Cert.DwAttnRefIdeal.nD Cert.DwAttnRefIdeal.τ).loc Cert.DwAttnRefIdeal.main_arg0) = m ((c.tc : Thread Cert.DwAttnIdeal.nD Cert.DwAttnIdeal.τ).loc Cert.DwAttnIdeal.main_arg0)
      ∧ m' ((c.tc : Thread Cert.DwAttnRefIdeal.nD Cert.DwAttnRefIdeal.τ).loc Cert.DwAttnRefIdeal.main_arg1) = m ((c.tc : Thread Cert.DwAttnIdeal.nD Cert.DwAttnIdeal.τ).loc Cert.DwAttnIdeal.main_arg1)) →
    ∃ (v0 : (c : Dev Cert.DwAttnIdeal.nD) → Buf (Elt Ideal) ((c.tc : Thread Cert.DwAttnIdeal.nD Cert.DwAttnIdeal.τ).loc Cert.DwAttnIdeal.main_v0)),
      θ_run (Cert.DwAttnIdeal.defs (F := Ideal)) (onTc (τ := Cert.DwAttnIdeal.τ) (Cert.DwAttnIdeal.main (F := Ideal))) ⟨m, fun _ => 0, g⟩ (fun r => ∀ c : Dev Cert.DwAttnIdeal.nD,
          r.2.mem ((c.tc : Thread Cert.DwAttnIdeal.nD Cert.DwAttnIdeal.τ).loc Cert.DwAttnIdeal.main_v0) = v0 c
          ∧ r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
          ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1))
      ∧ θ_run (Cert.DwAttnRefIdeal.defs (F := Ideal)) (onTc (τ := Cert.DwAttnRefIdeal.τ) (Cert.DwAttnRefIdeal.main (F := Ideal))) ⟨m', fun _ => 0, g'⟩ (fun r => ∀ c : Dev Cert.DwAttnRefIdeal.nD,
          r.2.mem ((c.tc : Thread Cert.DwAttnRefIdeal.nD Cert.DwAttnRefIdeal.τ).loc Cert.DwAttnRefIdeal.main_v1) = v0 c
          ∧ r.2.mem ((c.tc : Thread Cert.DwAttnRefIdeal.nD Cert.DwAttnRefIdeal.τ).loc Cert.DwAttnRefIdeal.main_arg0) = m' ((c.tc : Thread Cert.DwAttnRefIdeal.nD Cert.DwAttnRefIdeal.τ).loc Cert.DwAttnRefIdeal.main_arg0)
          ∧ r.2.mem ((c.tc : Thread Cert.DwAttnRefIdeal.nD Cert.DwAttnRefIdeal.τ).loc Cert.DwAttnRefIdeal.main_arg1) = m' ((c.tc : Thread Cert.DwAttnRefIdeal.nD Cert.DwAttnRefIdeal.τ).loc Cert.DwAttnRefIdeal.main_arg1))

def preserves_DwSsm_DwSsmIdeal : Prop :=
  True

def algebraic_DwSsmIdeal_DwSsmRefIdeal [hDwSsmIdeal : Cert.DwSsmIdeal.Facts] [hDwSsmRefIdeal : Cert.DwSsmRefIdeal.Facts] : Prop :=
  ∀ (m : (ℓ : Loc Cert.DwSsmIdeal.nD Cert.DwSsmIdeal.τ Cert.DwSsmIdeal.sig) → Buf (Elt Ideal) ℓ) (g : Dev Cert.DwSsmIdeal.nD → PrngReg)
    (m' : (ℓ : Loc Cert.DwSsmRefIdeal.nD Cert.DwSsmRefIdeal.τ Cert.DwSsmRefIdeal.sig) → Buf (Elt Ideal) ℓ) (g' : Dev Cert.DwSsmRefIdeal.nD → PrngReg), Pre_DwSsmIdeal m →
    (∀ c : Dev Cert.DwSsmIdeal.nD,
      m' ((c.tc : Thread Cert.DwSsmRefIdeal.nD Cert.DwSsmRefIdeal.τ).loc Cert.DwSsmRefIdeal.main_arg0) = m ((c.tc : Thread Cert.DwSsmIdeal.nD Cert.DwSsmIdeal.τ).loc Cert.DwSsmIdeal.main_arg0)
      ∧ m' ((c.tc : Thread Cert.DwSsmRefIdeal.nD Cert.DwSsmRefIdeal.τ).loc Cert.DwSsmRefIdeal.main_arg1) = m ((c.tc : Thread Cert.DwSsmIdeal.nD Cert.DwSsmIdeal.τ).loc Cert.DwSsmIdeal.main_arg1)) →
    ∃ (v0 : (c : Dev Cert.DwSsmIdeal.nD) → Buf (Elt Ideal) ((c.tc : Thread Cert.DwSsmIdeal.nD Cert.DwSsmIdeal.τ).loc Cert.DwSsmIdeal.main_v0)),
      θ_run (Cert.DwSsmIdeal.defs (F := Ideal)) (onTc (τ := Cert.DwSsmIdeal.τ) (Cert.DwSsmIdeal.main (F := Ideal))) ⟨m, fun _ => 0, g⟩ (fun r => ∀ c : Dev Cert.DwSsmIdeal.nD,
          r.2.mem ((c.tc : Thread Cert.DwSsmIdeal.nD Cert.DwSsmIdeal.τ).loc Cert.DwSsmIdeal.main_v0) = v0 c
          ∧ r.2.mem ((c.tc : Thread Cert.DwSsmIdeal.nD Cert.DwSsmIdeal.τ).loc Cert.DwSsmIdeal.main_arg0) = m ((c.tc : Thread Cert.DwSsmIdeal.nD Cert.DwSsmIdeal.τ).loc Cert.DwSsmIdeal.main_arg0)
          ∧ r.2.mem ((c.tc : Thread Cert.DwSsmIdeal.nD Cert.DwSsmIdeal.τ).loc Cert.DwSsmIdeal.main_arg1) = m ((c.tc : Thread Cert.DwSsmIdeal.nD Cert.DwSsmIdeal.τ).loc Cert.DwSsmIdeal.main_arg1))
      ∧ θ_run (Cert.DwSsmRefIdeal.defs (F := Ideal)) (onTc (τ := Cert.DwSsmRefIdeal.τ) (Cert.DwSsmRefIdeal.main (F := Ideal))) ⟨m', fun _ => 0, g'⟩ (fun r => ∀ c : Dev Cert.DwSsmRefIdeal.nD,
          r.2.mem ((c.tc : Thread Cert.DwSsmRefIdeal.nD Cert.DwSsmRefIdeal.τ).loc Cert.DwSsmRefIdeal.main_v2) = v0 c
          ∧ r.2.mem ((c.tc : Thread Cert.DwSsmRefIdeal.nD Cert.DwSsmRefIdeal.τ).loc Cert.DwSsmRefIdeal.main_arg0) = m' ((c.tc : Thread Cert.DwSsmRefIdeal.nD Cert.DwSsmRefIdeal.τ).loc Cert.DwSsmRefIdeal.main_arg0)
          ∧ r.2.mem ((c.tc : Thread Cert.DwSsmRefIdeal.nD Cert.DwSsmRefIdeal.τ).loc Cert.DwSsmRefIdeal.main_arg1) = m' ((c.tc : Thread Cert.DwSsmRefIdeal.nD Cert.DwSsmRefIdeal.τ).loc Cert.DwSsmRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v2) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v33) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_MixInFwd_MixInFwdIdeal : Prop :=
  True

def algebraic_MixInFwdIdeal_MixInFwdRefIdeal [hMixInFwdIdeal : Cert.MixInFwdIdeal.Facts] [hMixInFwdRefIdeal : Cert.MixInFwdRefIdeal.Facts] : Prop :=
  ∀ (m : (ℓ : Loc Cert.MixInFwdIdeal.nD Cert.MixInFwdIdeal.τ Cert.MixInFwdIdeal.sig) → Buf (Elt Ideal) ℓ) (g : Dev Cert.MixInFwdIdeal.nD → PrngReg)
    (m' : (ℓ : Loc Cert.MixInFwdRefIdeal.nD Cert.MixInFwdRefIdeal.τ Cert.MixInFwdRefIdeal.sig) → Buf (Elt Ideal) ℓ) (g' : Dev Cert.MixInFwdRefIdeal.nD → PrngReg), Pre_MixInFwdIdeal m →
    (∀ c : Dev Cert.MixInFwdIdeal.nD,
      m' ((c.tc : Thread Cert.MixInFwdRefIdeal.nD Cert.MixInFwdRefIdeal.τ).loc Cert.MixInFwdRefIdeal.main_arg0) = m ((c.tc : Thread Cert.MixInFwdIdeal.nD Cert.MixInFwdIdeal.τ).loc Cert.MixInFwdIdeal.main_arg0)
      ∧ m' ((c.tc : Thread Cert.MixInFwdRefIdeal.nD Cert.MixInFwdRefIdeal.τ).loc Cert.MixInFwdRefIdeal.main_arg1) = m ((c.tc : Thread Cert.MixInFwdIdeal.nD Cert.MixInFwdIdeal.τ).loc Cert.MixInFwdIdeal.main_arg1)
      ∧ m' ((c.tc : Thread Cert.MixInFwdRefIdeal.nD Cert.MixInFwdRefIdeal.τ).loc Cert.MixInFwdRefIdeal.main_arg2) = m ((c.tc : Thread Cert.MixInFwdIdeal.nD Cert.MixInFwdIdeal.τ).loc Cert.MixInFwdIdeal.main_arg2)
      ∧ m' ((c.tc : Thread Cert.MixInFwdRefIdeal.nD Cert.MixInFwdRefIdeal.τ).loc Cert.MixInFwdRefIdeal.main_arg3) = m ((c.tc : Thread Cert.MixInFwdIdeal.nD Cert.MixInFwdIdeal.τ).loc Cert.MixInFwdIdeal.main_arg3)) →
    ∃ (v0 : (c : Dev Cert.MixInFwdIdeal.nD) → Buf (Elt Ideal) ((c.tc : Thread Cert.MixInFwdIdeal.nD Cert.MixInFwdIdeal.τ).loc Cert.MixInFwdIdeal.main_v0_0)) (v1 : (c : Dev Cert.MixInFwdIdeal.nD) → Buf (Elt Ideal) ((c.tc : Thread Cert.MixInFwdIdeal.nD Cert.MixInFwdIdeal.τ).loc Cert.MixInFwdIdeal.main_v0_1)) (v2 : (c : Dev Cert.MixInFwdIdeal.nD) → Buf (Elt Ideal) ((c.tc : Thread Cert.MixInFwdIdeal.nD Cert.MixInFwdIdeal.τ).loc Cert.MixInFwdIdeal.main_v0_2)) (v3 : (c : Dev Cert.MixInFwdIdeal.nD) → Buf (Elt Ideal) ((c.tc : Thread Cert.MixInFwdIdeal.nD Cert.MixInFwdIdeal.τ).loc Cert.MixInFwdIdeal.main_v0_3)) (v4 : (c : Dev Cert.MixInFwdIdeal.nD) → Buf (Elt Ideal) ((c.tc : Thread Cert.MixInFwdIdeal.nD Cert.MixInFwdIdeal.τ).loc Cert.MixInFwdIdeal.main_v0_4)),
      θ_run (Cert.MixInFwdIdeal.defs (F := Ideal)) (onTc (τ := Cert.MixInFwdIdeal.τ) (Cert.MixInFwdIdeal.main (F := Ideal))) ⟨m, fun _ => 0, g⟩ (fun r => ∀ c : Dev Cert.MixInFwdIdeal.nD,
          r.2.mem ((c.tc : Thread Cert.MixInFwdIdeal.nD Cert.MixInFwdIdeal.τ).loc Cert.MixInFwdIdeal.main_v0_0) = v0 c
          ∧ r.2.mem ((c.tc : Thread Cert.MixInFwdIdeal.nD Cert.MixInFwdIdeal.τ).loc Cert.MixInFwdIdeal.main_v0_1) = v1 c
          ∧ r.2.mem ((c.tc : Thread Cert.MixInFwdIdeal.nD Cert.MixInFwdIdeal.τ).loc Cert.MixInFwdIdeal.main_v0_2) = v2 c
          ∧ r.2.mem ((c.tc : Thread Cert.MixInFwdIdeal.nD Cert.MixInFwdIdeal.τ).loc Cert.MixInFwdIdeal.main_v0_3) = v3 c
          ∧ r.2.mem ((c.tc : Thread Cert.MixInFwdIdeal.nD Cert.MixInFwdIdeal.τ).loc Cert.MixInFwdIdeal.main_v0_4) = v4 c
          ∧ r.2.mem ((c.tc : Thread Cert.MixInFwdIdeal.nD Cert.MixInFwdIdeal.τ).loc Cert.MixInFwdIdeal.main_arg0) = m ((c.tc : Thread Cert.MixInFwdIdeal.nD Cert.MixInFwdIdeal.τ).loc Cert.MixInFwdIdeal.main_arg0)
          ∧ r.2.mem ((c.tc : Thread Cert.MixInFwdIdeal.nD Cert.MixInFwdIdeal.τ).loc Cert.MixInFwdIdeal.main_arg1) = m ((c.tc : Thread Cert.MixInFwdIdeal.nD Cert.MixInFwdIdeal.τ).loc Cert.MixInFwdIdeal.main_arg1)
          ∧ r.2.mem ((c.tc : Thread Cert.MixInFwdIdeal.nD Cert.MixInFwdIdeal.τ).loc Cert.MixInFwdIdeal.main_arg2) = m ((c.tc : Thread Cert.MixInFwdIdeal.nD Cert.MixInFwdIdeal.τ).loc Cert.MixInFwdIdeal.main_arg2)
          ∧ r.2.mem ((c.tc : Thread Cert.MixInFwdIdeal.nD Cert.MixInFwdIdeal.τ).loc Cert.MixInFwdIdeal.main_arg3) = m ((c.tc : Thread Cert.MixInFwdIdeal.nD Cert.MixInFwdIdeal.τ).loc Cert.MixInFwdIdeal.main_arg3))
      ∧ θ_run (Cert.MixInFwdRefIdeal.defs (F := Ideal)) (onTc (τ := Cert.MixInFwdRefIdeal.τ) (Cert.MixInFwdRefIdeal.main (F := Ideal))) ⟨m', fun _ => 0, g'⟩ (fun r => ∀ c : Dev Cert.MixInFwdRefIdeal.nD,
          r.2.mem ((c.tc : Thread Cert.MixInFwdRefIdeal.nD Cert.MixInFwdRefIdeal.τ).loc Cert.MixInFwdRefIdeal.main_v21) = v0 c
          ∧ r.2.mem ((c.tc : Thread Cert.MixInFwdRefIdeal.nD Cert.MixInFwdRefIdeal.τ).loc Cert.MixInFwdRefIdeal.main_v22) = v1 c
          ∧ r.2.mem ((c.tc : Thread Cert.MixInFwdRefIdeal.nD Cert.MixInFwdRefIdeal.τ).loc Cert.MixInFwdRefIdeal.main_v23) = v2 c
          ∧ r.2.mem ((c.tc : Thread Cert.MixInFwdRefIdeal.nD Cert.MixInFwdRefIdeal.τ).loc Cert.MixInFwdRefIdeal.main_v17) = v3 c
          ∧ r.2.mem ((c.tc : Thread Cert.MixInFwdRefIdeal.nD Cert.MixInFwdRefIdeal.τ).loc Cert.MixInFwdRefIdeal.main_v31) = v4 c
          ∧ r.2.mem ((c.tc : Thread Cert.MixInFwdRefIdeal.nD Cert.MixInFwdRefIdeal.τ).loc Cert.MixInFwdRefIdeal.main_arg0) = m' ((c.tc : Thread Cert.MixInFwdRefIdeal.nD Cert.MixInFwdRefIdeal.τ).loc Cert.MixInFwdRefIdeal.main_arg0)
          ∧ r.2.mem ((c.tc : Thread Cert.MixInFwdRefIdeal.nD Cert.MixInFwdRefIdeal.τ).loc Cert.MixInFwdRefIdeal.main_arg1) = m' ((c.tc : Thread Cert.MixInFwdRefIdeal.nD Cert.MixInFwdRefIdeal.τ).loc Cert.MixInFwdRefIdeal.main_arg1)
          ∧ r.2.mem ((c.tc : Thread Cert.MixInFwdRefIdeal.nD Cert.MixInFwdRefIdeal.τ).loc Cert.MixInFwdRefIdeal.main_arg2) = m' ((c.tc : Thread Cert.MixInFwdRefIdeal.nD Cert.MixInFwdRefIdeal.τ).loc Cert.MixInFwdRefIdeal.main_arg2)
          ∧ r.2.mem ((c.tc : Thread Cert.MixInFwdRefIdeal.nD Cert.MixInFwdRefIdeal.τ).loc Cert.MixInFwdRefIdeal.main_arg3) = m' ((c.tc : Thread Cert.MixInFwdRefIdeal.nD Cert.MixInFwdRefIdeal.τ).loc Cert.MixInFwdRefIdeal.main_arg3))

def preserves_MixInBwd_MixInBwdIdeal : Prop :=
  True

def algebraic_MixInBwdIdeal_MixInBwdRefIdeal [hMixInBwdIdeal : Cert.MixInBwdIdeal.Facts] [hMixInBwdRefIdeal : Cert.MixInBwdRefIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg)
    (m' : (ℓ : Loc Cert.MixInBwdRefIdeal.nD Cert.MixInBwdRefIdeal.τ Cert.MixInBwdRefIdeal.sig) → Buf (Elt Ideal) ℓ) (g' : Dev Cert.MixInBwdRefIdeal.nD → PrngReg), Pre_MixInBwdIdeal m →
    (∀ c : Dev Cert.MixInBwdIdeal.nD,
      m' ((c.tc : Thread Cert.MixInBwdRefIdeal.nD Cert.MixInBwdRefIdeal.τ).loc Cert.MixInBwdRefIdeal.main_arg0) = m ((c.tc : Thread Cert.MixInBwdIdeal.nD Cert.MixInBwdIdeal.τ).loc Cert.MixInBwdIdeal.main_arg0)
      ∧ m' ((c.tc : Thread Cert.MixInBwdRefIdeal.nD Cert.MixInBwdRefIdeal.τ).loc Cert.MixInBwdRefIdeal.main_arg1) = m ((c.tc : Thread Cert.MixInBwdIdeal.nD Cert.MixInBwdIdeal.τ).loc Cert.MixInBwdIdeal.main_arg1)
      ∧ m' ((c.tc : Thread Cert.MixInBwdRefIdeal.nD Cert.MixInBwdRefIdeal.τ).loc Cert.MixInBwdRefIdeal.main_arg2) = m ((c.tc : Thread Cert.MixInBwdIdeal.nD Cert.MixInBwdIdeal.τ).loc Cert.MixInBwdIdeal.main_arg2)
      ∧ m' ((c.tc : Thread Cert.MixInBwdRefIdeal.nD Cert.MixInBwdRefIdeal.τ).loc Cert.MixInBwdRefIdeal.main_arg3) = m ((c.tc : Thread Cert.MixInBwdIdeal.nD Cert.MixInBwdIdeal.τ).loc Cert.MixInBwdIdeal.main_arg3)
      ∧ m' ((c.tc : Thread Cert.MixInBwdRefIdeal.nD Cert.MixInBwdRefIdeal.τ).loc Cert.MixInBwdRefIdeal.main_arg4) = m ((c.tc : Thread Cert.MixInBwdIdeal.nD Cert.MixInBwdIdeal.τ).loc Cert.MixInBwdIdeal.main_arg4)) →
    ∃ (v0 : (c : Dev Cert.MixInBwdIdeal.nD) → Buf (Elt Ideal) ((c.tc : Thread Cert.MixInBwdIdeal.nD Cert.MixInBwdIdeal.τ).loc Cert.MixInBwdIdeal.main_v0_0)) (v1 : (c : Dev Cert.MixInBwdIdeal.nD) → Buf (Elt Ideal) ((c.tc : Thread Cert.MixInBwdIdeal.nD Cert.MixInBwdIdeal.τ).loc Cert.MixInBwdIdeal.main_v0_1)) (v2 : (c : Dev Cert.MixInBwdIdeal.nD) → Buf (Elt Ideal) ((c.tc : Thread Cert.MixInBwdIdeal.nD Cert.MixInBwdIdeal.τ).loc Cert.MixInBwdIdeal.main_v0_2)),
      θ_run (Cert.MixInBwdIdeal.defs (F := Ideal)) (onTc (τ := Cert.MixInBwdIdeal.τ) (Cert.MixInBwdIdeal.main (F := Ideal))) ⟨m, fun _ => 0, g⟩ (fun r => ∀ c : Dev Cert.MixInBwdIdeal.nD,
          r.2.mem ((c.tc : Thread Cert.MixInBwdIdeal.nD Cert.MixInBwdIdeal.τ).loc Cert.MixInBwdIdeal.main_v0_0) = v0 c
          ∧ r.2.mem ((c.tc : Thread Cert.MixInBwdIdeal.nD Cert.MixInBwdIdeal.τ).loc Cert.MixInBwdIdeal.main_v0_1) = v1 c
          ∧ r.2.mem ((c.tc : Thread Cert.MixInBwdIdeal.nD Cert.MixInBwdIdeal.τ).loc Cert.MixInBwdIdeal.main_v0_2) = v2 c
          ∧ r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
          ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
          ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
          ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
          ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4))
      ∧ θ_run (Cert.MixInBwdRefIdeal.defs (F := Ideal)) (onTc (τ := Cert.MixInBwdRefIdeal.τ) (Cert.MixInBwdRefIdeal.main (F := Ideal))) ⟨m', fun _ => 0, g'⟩ (fun r => ∀ c : Dev Cert.MixInBwdRefIdeal.nD,
          r.2.mem ((c.tc : Thread Cert.MixInBwdRefIdeal.nD Cert.MixInBwdRefIdeal.τ).loc Cert.MixInBwdRefIdeal.main_v25) = v0 c
          ∧ r.2.mem ((c.tc : Thread Cert.MixInBwdRefIdeal.nD Cert.MixInBwdRefIdeal.τ).loc Cert.MixInBwdRefIdeal.main_v28) = v1 c
          ∧ r.2.mem ((c.tc : Thread Cert.MixInBwdRefIdeal.nD Cert.MixInBwdRefIdeal.τ).loc Cert.MixInBwdRefIdeal.main_v31) = v2 c
          ∧ r.2.mem ((c.tc : Thread Cert.MixInBwdRefIdeal.nD Cert.MixInBwdRefIdeal.τ).loc Cert.MixInBwdRefIdeal.main_arg0) = m' ((c.tc : Thread Cert.MixInBwdRefIdeal.nD Cert.MixInBwdRefIdeal.τ).loc Cert.MixInBwdRefIdeal.main_arg0)
          ∧ r.2.mem ((c.tc : Thread Cert.MixInBwdRefIdeal.nD Cert.MixInBwdRefIdeal.τ).loc Cert.MixInBwdRefIdeal.main_arg1) = m' ((c.tc : Thread Cert.MixInBwdRefIdeal.nD Cert.MixInBwdRefIdeal.τ).loc Cert.MixInBwdRefIdeal.main_arg1)
          ∧ r.2.mem ((c.tc : Thread Cert.MixInBwdRefIdeal.nD Cert.MixInBwdRefIdeal.τ).loc Cert.MixInBwdRefIdeal.main_arg2) = m' ((c.tc : Thread Cert.MixInBwdRefIdeal.nD Cert.MixInBwdRefIdeal.τ).loc Cert.MixInBwdRefIdeal.main_arg2)
          ∧ r.2.mem ((c.tc : Thread Cert.MixInBwdRefIdeal.nD Cert.MixInBwdRefIdeal.τ).loc Cert.MixInBwdRefIdeal.main_arg3) = m' ((c.tc : Thread Cert.MixInBwdRefIdeal.nD Cert.MixInBwdRefIdeal.τ).loc Cert.MixInBwdRefIdeal.main_arg3)
          ∧ r.2.mem ((c.tc : Thread Cert.MixInBwdRefIdeal.nD Cert.MixInBwdRefIdeal.τ).loc Cert.MixInBwdRefIdeal.main_arg4) = m' ((c.tc : Thread Cert.MixInBwdRefIdeal.nD Cert.MixInBwdRefIdeal.τ).loc Cert.MixInBwdRefIdeal.main_arg4))

def preserves_MixOutFwd_MixOutFwdIdeal : Prop :=
  True

def algebraic_MixOutFwdIdeal_MixOutFwdRefIdeal [hMixOutFwdIdeal : Cert.MixOutFwdIdeal.Facts] [hMixOutFwdRefIdeal : Cert.MixOutFwdRefIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutFwdIdeal m →
    (∀ c : Dev Cert.MixOutFwdIdeal.nD,
      m' ((c.tc : Thread Cert.MixOutFwdRefIdeal.nD Cert.MixOutFwdRefIdeal.τ).loc Cert.MixOutFwdRefIdeal.main_arg0) = m ((c.tc : Thread Cert.MixOutFwdIdeal.nD Cert.MixOutFwdIdeal.τ).loc Cert.MixOutFwdIdeal.main_arg0)
      ∧ m' ((c.tc : Thread Cert.MixOutFwdRefIdeal.nD Cert.MixOutFwdRefIdeal.τ).loc Cert.MixOutFwdRefIdeal.main_arg1) = m ((c.tc : Thread Cert.MixOutFwdIdeal.nD Cert.MixOutFwdIdeal.τ).loc Cert.MixOutFwdIdeal.main_arg1)
      ∧ m' ((c.tc : Thread Cert.MixOutFwdRefIdeal.nD Cert.MixOutFwdRefIdeal.τ).loc Cert.MixOutFwdRefIdeal.main_arg2) = m ((c.tc : Thread Cert.MixOutFwdIdeal.nD Cert.MixOutFwdIdeal.τ).loc Cert.MixOutFwdIdeal.main_arg2)
      ∧ m' ((c.tc : Thread Cert.MixOutFwdRefIdeal.nD Cert.MixOutFwdRefIdeal.τ).loc Cert.MixOutFwdRefIdeal.main_arg3) = m ((c.tc : Thread Cert.MixOutFwdIdeal.nD Cert.MixOutFwdIdeal.τ).loc Cert.MixOutFwdIdeal.main_arg3)
      ∧ m' ((c.tc : Thread Cert.MixOutFwdRefIdeal.nD Cert.MixOutFwdRefIdeal.τ).loc Cert.MixOutFwdRefIdeal.main_arg4) = m ((c.tc : Thread Cert.MixOutFwdIdeal.nD Cert.MixOutFwdIdeal.τ).loc Cert.MixOutFwdIdeal.main_arg4)
      ∧ m' ((c.tc : Thread Cert.MixOutFwdRefIdeal.nD Cert.MixOutFwdRefIdeal.τ).loc Cert.MixOutFwdRefIdeal.main_arg5) = m ((c.tc : Thread Cert.MixOutFwdIdeal.nD Cert.MixOutFwdIdeal.τ).loc Cert.MixOutFwdIdeal.main_arg5)
      ∧ m' ((c.tc : Thread Cert.MixOutFwdRefIdeal.nD Cert.MixOutFwdRefIdeal.τ).loc Cert.MixOutFwdRefIdeal.main_arg6) = m ((c.tc : Thread Cert.MixOutFwdIdeal.nD Cert.MixOutFwdIdeal.τ).loc Cert.MixOutFwdIdeal.main_arg6)
      ∧ m' ((c.tc : Thread Cert.MixOutFwdRefIdeal.nD Cert.MixOutFwdRefIdeal.τ).loc Cert.MixOutFwdRefIdeal.main_arg7) = m ((c.tc : Thread Cert.MixOutFwdIdeal.nD Cert.MixOutFwdIdeal.τ).loc Cert.MixOutFwdIdeal.main_arg7)
      ∧ m' ((c.tc : Thread Cert.MixOutFwdRefIdeal.nD Cert.MixOutFwdRefIdeal.τ).loc Cert.MixOutFwdRefIdeal.main_arg8) = m ((c.tc : Thread Cert.MixOutFwdIdeal.nD Cert.MixOutFwdIdeal.τ).loc Cert.MixOutFwdIdeal.main_arg8)
      ∧ m' ((c.tc : Thread Cert.MixOutFwdRefIdeal.nD Cert.MixOutFwdRefIdeal.τ).loc Cert.MixOutFwdRefIdeal.main_arg9) = m ((c.tc : Thread Cert.MixOutFwdIdeal.nD Cert.MixOutFwdIdeal.τ).loc Cert.MixOutFwdIdeal.main_arg9)
      ∧ m' ((c.tc : Thread Cert.MixOutFwdRefIdeal.nD Cert.MixOutFwdRefIdeal.τ).loc Cert.MixOutFwdRefIdeal.main_arg10) = m ((c.tc : Thread Cert.MixOutFwdIdeal.nD Cert.MixOutFwdIdeal.τ).loc Cert.MixOutFwdIdeal.main_arg10)
      ∧ m' ((c.tc : Thread Cert.MixOutFwdRefIdeal.nD Cert.MixOutFwdRefIdeal.τ).loc Cert.MixOutFwdRefIdeal.main_arg11) = m ((c.tc : Thread Cert.MixOutFwdIdeal.nD Cert.MixOutFwdIdeal.τ).loc Cert.MixOutFwdIdeal.main_arg11)
      ∧ m' ((c.tc : Thread Cert.MixOutFwdRefIdeal.nD Cert.MixOutFwdRefIdeal.τ).loc Cert.MixOutFwdRefIdeal.main_arg12) = m ((c.tc : Thread Cert.MixOutFwdIdeal.nD Cert.MixOutFwdIdeal.τ).loc Cert.MixOutFwdIdeal.main_arg12)) →
    ∃ (v0 : (c : Dev Cert.MixOutFwdIdeal.nD) → Buf (Elt Ideal) ((c.tc : Thread Cert.MixOutFwdIdeal.nD Cert.MixOutFwdIdeal.τ).loc Cert.MixOutFwdIdeal.main_v0_0)) (v1 : (c : Dev Cert.MixOutFwdIdeal.nD) → Buf (Elt Ideal) ((c.tc : Thread Cert.MixOutFwdIdeal.nD Cert.MixOutFwdIdeal.τ).loc Cert.MixOutFwdIdeal.main_v0_1)) (v2 : (c : Dev Cert.MixOutFwdIdeal.nD) → Buf (Elt Ideal) ((c.tc : Thread Cert.MixOutFwdIdeal.nD Cert.MixOutFwdIdeal.τ).loc Cert.MixOutFwdIdeal.main_v0_2)),
      θ_run (Cert.MixOutFwdIdeal.defs (F := Ideal)) (onTc (τ := Cert.MixOutFwdIdeal.τ) (Cert.MixOutFwdIdeal.main (F := Ideal))) ⟨m, fun _ => 0, g⟩ (fun r => ∀ c : Dev Cert.MixOutFwdIdeal.nD,
          r.2.mem ((c.tc : Thread Cert.MixOutFwdIdeal.nD Cert.MixOutFwdIdeal.τ).loc Cert.MixOutFwdIdeal.main_v0_0) = v0 c
          ∧ r.2.mem ((c.tc : Thread Cert.MixOutFwdIdeal.nD Cert.MixOutFwdIdeal.τ).loc Cert.MixOutFwdIdeal.main_v0_1) = v1 c
          ∧ r.2.mem ((c.tc : Thread Cert.MixOutFwdIdeal.nD Cert.MixOutFwdIdeal.τ).loc Cert.MixOutFwdIdeal.main_v0_2) = v2 c
          ∧ r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
          ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
          ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
          ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
          ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4)
          ∧ r.2.mem ((c.tc : Thread Cert.MixOutFwdIdeal.nD Cert.MixOutFwdIdeal.τ).loc Cert.MixOutFwdIdeal.main_arg5) = m ((c.tc : Thread Cert.MixOutFwdIdeal.nD Cert.MixOutFwdIdeal.τ).loc Cert.MixOutFwdIdeal.main_arg5)
          ∧ r.2.mem ((c.tc : Thread Cert.MixOutFwdIdeal.nD Cert.MixOutFwdIdeal.τ).loc Cert.MixOutFwdIdeal.main_arg6) = m ((c.tc : Thread Cert.MixOutFwdIdeal.nD Cert.MixOutFwdIdeal.τ).loc Cert.MixOutFwdIdeal.main_arg6)
          ∧ r.2.mem ((c.tc : Thread Cert.MixOutFwdIdeal.nD Cert.MixOutFwdIdeal.τ).loc Cert.MixOutFwdIdeal.main_arg7) = m ((c.tc : Thread Cert.MixOutFwdIdeal.nD Cert.MixOutFwdIdeal.τ).loc Cert.MixOutFwdIdeal.main_arg7)
          ∧ r.2.mem ((c.tc : Thread Cert.MixOutFwdIdeal.nD Cert.MixOutFwdIdeal.τ).loc Cert.MixOutFwdIdeal.main_arg8) = m ((c.tc : Thread Cert.MixOutFwdIdeal.nD Cert.MixOutFwdIdeal.τ).loc Cert.MixOutFwdIdeal.main_arg8)
          ∧ r.2.mem ((c.tc : Thread Cert.MixOutFwdIdeal.nD Cert.MixOutFwdIdeal.τ).loc Cert.MixOutFwdIdeal.main_arg9) = m ((c.tc : Thread Cert.MixOutFwdIdeal.nD Cert.MixOutFwdIdeal.τ).loc Cert.MixOutFwdIdeal.main_arg9)
          ∧ r.2.mem ((c.tc : Thread Cert.MixOutFwdIdeal.nD Cert.MixOutFwdIdeal.τ).loc Cert.MixOutFwdIdeal.main_arg10) = m ((c.tc : Thread Cert.MixOutFwdIdeal.nD Cert.MixOutFwdIdeal.τ).loc Cert.MixOutFwdIdeal.main_arg10)
          ∧ r.2.mem ((c.tc : Thread Cert.MixOutFwdIdeal.nD Cert.MixOutFwdIdeal.τ).loc Cert.MixOutFwdIdeal.main_arg11) = m ((c.tc : Thread Cert.MixOutFwdIdeal.nD Cert.MixOutFwdIdeal.τ).loc Cert.MixOutFwdIdeal.main_arg11)
          ∧ r.2.mem ((c.tc : Thread Cert.MixOutFwdIdeal.nD Cert.MixOutFwdIdeal.τ).loc Cert.MixOutFwdIdeal.main_arg12) = m ((c.tc : Thread Cert.MixOutFwdIdeal.nD Cert.MixOutFwdIdeal.τ).loc Cert.MixOutFwdIdeal.main_arg12))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v51) = v0 c
          ∧ r.2.mem ((c.tc : Thread Cert.MixOutFwdRefIdeal.nD Cert.MixOutFwdRefIdeal.τ).loc Cert.MixOutFwdRefIdeal.main_v19) = v1 c
          ∧ r.2.mem ((c.tc : Thread Cert.MixOutFwdRefIdeal.nD Cert.MixOutFwdRefIdeal.τ).loc Cert.MixOutFwdRefIdeal.main_v53) = v2 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3)
          ∧ r.2.mem ((c.tc : Thread Cert.MixOutFwdRefIdeal.nD Cert.MixOutFwdRefIdeal.τ).loc Cert.MixOutFwdRefIdeal.main_arg4) = m' ((c.tc : Thread Cert.MixOutFwdRefIdeal.nD Cert.MixOutFwdRefIdeal.τ).loc Cert.MixOutFwdRefIdeal.main_arg4)
          ∧ r.2.mem ((c.tc : Thread Cert.MixOutFwdRefIdeal.nD Cert.MixOutFwdRefIdeal.τ).loc Cert.MixOutFwdRefIdeal.main_arg5) = m' ((c.tc : Thread Cert.MixOutFwdRefIdeal.nD Cert.MixOutFwdRefIdeal.τ).loc Cert.MixOutFwdRefIdeal.main_arg5)
          ∧ r.2.mem ((c.tc : Thread Cert.MixOutFwdRefIdeal.nD Cert.MixOutFwdRefIdeal.τ).loc Cert.MixOutFwdRefIdeal.main_arg6) = m' ((c.tc : Thread Cert.MixOutFwdRefIdeal.nD Cert.MixOutFwdRefIdeal.τ).loc Cert.MixOutFwdRefIdeal.main_arg6)
          ∧ r.2.mem ((c.tc : Thread Cert.MixOutFwdRefIdeal.nD Cert.MixOutFwdRefIdeal.τ).loc Cert.MixOutFwdRefIdeal.main_arg7) = m' ((c.tc : Thread Cert.MixOutFwdRefIdeal.nD Cert.MixOutFwdRefIdeal.τ).loc Cert.MixOutFwdRefIdeal.main_arg7)
          ∧ r.2.mem ((c.tc : Thread Cert.MixOutFwdRefIdeal.nD Cert.MixOutFwdRefIdeal.τ).loc Cert.MixOutFwdRefIdeal.main_arg8) = m' ((c.tc : Thread Cert.MixOutFwdRefIdeal.nD Cert.MixOutFwdRefIdeal.τ).loc Cert.MixOutFwdRefIdeal.main_arg8)
          ∧ r.2.mem ((c.tc : Thread Cert.MixOutFwdRefIdeal.nD Cert.MixOutFwdRefIdeal.τ).loc Cert.MixOutFwdRefIdeal.main_arg9) = m' ((c.tc : Thread Cert.MixOutFwdRefIdeal.nD Cert.MixOutFwdRefIdeal.τ).loc Cert.MixOutFwdRefIdeal.main_arg9)
          ∧ r.2.mem ((c.tc : Thread Cert.MixOutFwdRefIdeal.nD Cert.MixOutFwdRefIdeal.τ).loc Cert.MixOutFwdRefIdeal.main_arg10) = m' ((c.tc : Thread Cert.MixOutFwdRefIdeal.nD Cert.MixOutFwdRefIdeal.τ).loc Cert.MixOutFwdRefIdeal.main_arg10)
          ∧ r.2.mem ((c.tc : Thread Cert.MixOutFwdRefIdeal.nD Cert.MixOutFwdRefIdeal.τ).loc Cert.MixOutFwdRefIdeal.main_arg11) = m' ((c.tc : Thread Cert.MixOutFwdRefIdeal.nD Cert.MixOutFwdRefIdeal.τ).loc Cert.MixOutFwdRefIdeal.main_arg11)
          ∧ r.2.mem ((c.tc : Thread Cert.MixOutFwdRefIdeal.nD Cert.MixOutFwdRefIdeal.τ).loc Cert.MixOutFwdRefIdeal.main_arg12) = m' ((c.tc : Thread Cert.MixOutFwdRefIdeal.nD Cert.MixOutFwdRefIdeal.τ).loc Cert.MixOutFwdRefIdeal.main_arg12))

def preserves_MixOutBwd_MixOutBwdIdeal : Prop :=
  True

def algebraic_MixOutBwdIdeal_MixOutBwdRefIdeal [hMixOutBwdIdeal : Cert.MixOutBwdIdeal.Facts] [hMixOutBwdRefIdeal : Cert.MixOutBwdRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)
      ∧ m' ((c.tc : Thread Cert.MixOutBwdRefIdeal.nD Cert.MixOutBwdRefIdeal.τ).loc Cert.MixOutBwdRefIdeal.main_arg2) = m ((c.tc : Thread Cert.MixOutBwdIdeal.nD Cert.MixOutBwdIdeal.τ).loc Cert.MixOutBwdIdeal.main_arg2)
      ∧ m' ((c.tc : Thread Cert.MixOutBwdRefIdeal.nD Cert.MixOutBwdRefIdeal.τ).loc Cert.MixOutBwdRefIdeal.main_arg3) = m ((c.tc : Thread Cert.MixOutBwdIdeal.nD Cert.MixOutBwdIdeal.τ).loc Cert.MixOutBwdIdeal.main_arg3)
      ∧ m' ((c.tc : Thread Cert.MixOutBwdRefIdeal.nD Cert.MixOutBwdRefIdeal.τ).loc Cert.MixOutBwdRefIdeal.main_arg4) = m ((c.tc : Thread Cert.MixOutBwdIdeal.nD Cert.MixOutBwdIdeal.τ).loc Cert.MixOutBwdIdeal.main_arg4)
      ∧ m' ((c.tc : Thread Cert.MixOutBwdRefIdeal.nD Cert.MixOutBwdRefIdeal.τ).loc Cert.MixOutBwdRefIdeal.main_arg5) = m ((c.tc : Thread Cert.MixOutBwdIdeal.nD Cert.MixOutBwdIdeal.τ).loc Cert.MixOutBwdIdeal.main_arg5)
      ∧ m' ((c.tc : Thread Cert.MixOutBwdRefIdeal.nD Cert.MixOutBwdRefIdeal.τ).loc Cert.MixOutBwdRefIdeal.main_arg6) = m ((c.tc : Thread Cert.MixOutBwdIdeal.nD Cert.MixOutBwdIdeal.τ).loc Cert.MixOutBwdIdeal.main_arg6)
      ∧ m' ((c.tc : Thread Cert.MixOutBwdRefIdeal.nD Cert.MixOutBwdRefIdeal.τ).loc Cert.MixOutBwdRefIdeal.main_arg7) = m ((c.tc : Thread Cert.MixOutBwdIdeal.nD Cert.MixOutBwdIdeal.τ).loc Cert.MixOutBwdIdeal.main_arg7)
      ∧ m' ((c.tc : Thread Cert.MixOutBwdRefIdeal.nD Cert.MixOutBwdRefIdeal.τ).loc Cert.MixOutBwdRefIdeal.main_arg8) = m ((c.tc : Thread Cert.MixOutBwdIdeal.nD Cert.MixOutBwdIdeal.τ).loc Cert.MixOutBwdIdeal.main_arg8)) →
    ∃ (v0 : (c : Dev Cert.MixOutBwdIdeal.nD) → Buf (Elt Ideal) ((c.tc : Thread Cert.MixOutBwdIdeal.nD Cert.MixOutBwdIdeal.τ).loc Cert.MixOutBwdIdeal.main_v0_0)) (v1 : (c : Dev Cert.MixOutBwdIdeal.nD) → Buf (Elt Ideal) ((c.tc : Thread Cert.MixOutBwdIdeal.nD Cert.MixOutBwdIdeal.τ).loc Cert.MixOutBwdIdeal.main_v0_1)) (v2 : (c : Dev Cert.MixOutBwdIdeal.nD) → Buf (Elt Ideal) ((c.tc : Thread Cert.MixOutBwdIdeal.nD Cert.MixOutBwdIdeal.τ).loc Cert.MixOutBwdIdeal.main_v0_2)) (v3 : (c : Dev Cert.MixOutBwdIdeal.nD) → Buf (Elt Ideal) ((c.tc : Thread Cert.MixOutBwdIdeal.nD Cert.MixOutBwdIdeal.τ).loc Cert.MixOutBwdIdeal.main_v0_3)) (v4 : (c : Dev Cert.MixOutBwdIdeal.nD) → Buf (Elt Ideal) ((c.tc : Thread Cert.MixOutBwdIdeal.nD Cert.MixOutBwdIdeal.τ).loc Cert.MixOutBwdIdeal.main_v0_4)) (v5 : (c : Dev Cert.MixOutBwdIdeal.nD) → Buf (Elt Ideal) ((c.tc : Thread Cert.MixOutBwdIdeal.nD Cert.MixOutBwdIdeal.τ).loc Cert.MixOutBwdIdeal.main_v0_5)) (v6 : (c : Dev Cert.MixOutBwdIdeal.nD) → Buf (Elt Ideal) ((c.tc : Thread Cert.MixOutBwdIdeal.nD Cert.MixOutBwdIdeal.τ).loc Cert.MixOutBwdIdeal.main_v0_6)) (v7 : (c : Dev Cert.MixOutBwdIdeal.nD) → Buf (Elt Ideal) ((c.tc : Thread Cert.MixOutBwdIdeal.nD Cert.MixOutBwdIdeal.τ).loc Cert.MixOutBwdIdeal.main_v0_7)) (v8 : (c : Dev Cert.MixOutBwdIdeal.nD) → Buf (Elt Ideal) ((c.tc : Thread Cert.MixOutBwdIdeal.nD Cert.MixOutBwdIdeal.τ).loc Cert.MixOutBwdIdeal.main_v0_8)) (v9 : (c : Dev Cert.MixOutBwdIdeal.nD) → Buf (Elt Ideal) ((c.tc : Thread Cert.MixOutBwdIdeal.nD Cert.MixOutBwdIdeal.τ).loc Cert.MixOutBwdIdeal.main_v0_9)) (v10 : (c : Dev Cert.MixOutBwdIdeal.nD) → Buf (Elt Ideal) ((c.tc : Thread Cert.MixOutBwdIdeal.nD Cert.MixOutBwdIdeal.τ).loc Cert.MixOutBwdIdeal.main_v0_10)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v0_0) = v0 c
          ∧ r.2.mem ((c.tc : Thread Cert.MixOutBwdIdeal.nD Cert.MixOutBwdIdeal.τ).loc Cert.MixOutBwdIdeal.main_v0_1) = v1 c
          ∧ r.2.mem ((c.tc : Thread Cert.MixOutBwdIdeal.nD Cert.MixOutBwdIdeal.τ).loc Cert.MixOutBwdIdeal.main_v0_2) = v2 c
          ∧ r.2.mem ((c.tc : Thread Cert.MixOutBwdIdeal.nD Cert.MixOutBwdIdeal.τ).loc Cert.MixOutBwdIdeal.main_v0_3) = v3 c
          ∧ r.2.mem ((c.tc : Thread Cert.MixOutBwdIdeal.nD Cert.MixOutBwdIdeal.τ).loc Cert.MixOutBwdIdeal.main_v0_4) = v4 c
          ∧ r.2.mem ((c.tc : Thread Cert.MixOutBwdIdeal.nD Cert.MixOutBwdIdeal.τ).loc Cert.MixOutBwdIdeal.main_v0_5) = v5 c
          ∧ r.2.mem ((c.tc : Thread Cert.MixOutBwdIdeal.nD Cert.MixOutBwdIdeal.τ).loc Cert.MixOutBwdIdeal.main_v0_6) = v6 c
          ∧ r.2.mem ((c.tc : Thread Cert.MixOutBwdIdeal.nD Cert.MixOutBwdIdeal.τ).loc Cert.MixOutBwdIdeal.main_v0_7) = v7 c
          ∧ r.2.mem ((c.tc : Thread Cert.MixOutBwdIdeal.nD Cert.MixOutBwdIdeal.τ).loc Cert.MixOutBwdIdeal.main_v0_8) = v8 c
          ∧ r.2.mem ((c.tc : Thread Cert.MixOutBwdIdeal.nD Cert.MixOutBwdIdeal.τ).loc Cert.MixOutBwdIdeal.main_v0_9) = v9 c
          ∧ r.2.mem ((c.tc : Thread Cert.MixOutBwdIdeal.nD Cert.MixOutBwdIdeal.τ).loc Cert.MixOutBwdIdeal.main_v0_10) = v10 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
          ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
          ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6)
          ∧ r.2.mem ((c.tc : Thread Cert.MixOutBwdIdeal.nD Cert.MixOutBwdIdeal.τ).loc Cert.MixOutBwdIdeal.main_arg7) = m ((c.tc : Thread Cert.MixOutBwdIdeal.nD Cert.MixOutBwdIdeal.τ).loc Cert.MixOutBwdIdeal.main_arg7)
          ∧ r.2.mem ((c.tc : Thread Cert.MixOutBwdIdeal.nD Cert.MixOutBwdIdeal.τ).loc Cert.MixOutBwdIdeal.main_arg8) = m ((c.tc : Thread Cert.MixOutBwdIdeal.nD Cert.MixOutBwdIdeal.τ).loc Cert.MixOutBwdIdeal.main_arg8))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v75) = v0 c
          ∧ r.2.mem ((c.tc : Thread Cert.MixOutBwdRefIdeal.nD Cert.MixOutBwdRefIdeal.τ).loc Cert.MixOutBwdRefIdeal.main_v77) = v1 c
          ∧ r.2.mem ((c.tc : Thread Cert.MixOutBwdRefIdeal.nD Cert.MixOutBwdRefIdeal.τ).loc Cert.MixOutBwdRefIdeal.main_v74) = v2 c
          ∧ r.2.mem ((c.tc : Thread Cert.MixOutBwdRefIdeal.nD Cert.MixOutBwdRefIdeal.τ).loc Cert.MixOutBwdRefIdeal.main_v78) = v3 c
          ∧ r.2.mem ((c.tc : Thread Cert.MixOutBwdRefIdeal.nD Cert.MixOutBwdRefIdeal.τ).loc Cert.MixOutBwdRefIdeal.main_v82) = v4 c
          ∧ r.2.mem ((c.tc : Thread Cert.MixOutBwdRefIdeal.nD Cert.MixOutBwdRefIdeal.τ).loc Cert.MixOutBwdRefIdeal.main_v83) = v5 c
          ∧ r.2.mem ((c.tc : Thread Cert.MixOutBwdRefIdeal.nD Cert.MixOutBwdRefIdeal.τ).loc Cert.MixOutBwdRefIdeal.main_v84) = v6 c
          ∧ r.2.mem ((c.tc : Thread Cert.MixOutBwdRefIdeal.nD Cert.MixOutBwdRefIdeal.τ).loc Cert.MixOutBwdRefIdeal.main_v86) = v7 c
          ∧ r.2.mem ((c.tc : Thread Cert.MixOutBwdRefIdeal.nD Cert.MixOutBwdRefIdeal.τ).loc Cert.MixOutBwdRefIdeal.main_v87) = v8 c
          ∧ r.2.mem ((c.tc : Thread Cert.MixOutBwdRefIdeal.nD Cert.MixOutBwdRefIdeal.τ).loc Cert.MixOutBwdRefIdeal.main_v88) = v9 c
          ∧ r.2.mem ((c.tc : Thread Cert.MixOutBwdRefIdeal.nD Cert.MixOutBwdRefIdeal.τ).loc Cert.MixOutBwdRefIdeal.main_v90) = v10 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1)
          ∧ r.2.mem ((c.tc : Thread Cert.MixOutBwdRefIdeal.nD Cert.MixOutBwdRefIdeal.τ).loc Cert.MixOutBwdRefIdeal.main_arg2) = m' ((c.tc : Thread Cert.MixOutBwdRefIdeal.nD Cert.MixOutBwdRefIdeal.τ).loc Cert.MixOutBwdRefIdeal.main_arg2)
          ∧ r.2.mem ((c.tc : Thread Cert.MixOutBwdRefIdeal.nD Cert.MixOutBwdRefIdeal.τ).loc Cert.MixOutBwdRefIdeal.main_arg3) = m' ((c.tc : Thread Cert.MixOutBwdRefIdeal.nD Cert.MixOutBwdRefIdeal.τ).loc Cert.MixOutBwdRefIdeal.main_arg3)
          ∧ r.2.mem ((c.tc : Thread Cert.MixOutBwdRefIdeal.nD Cert.MixOutBwdRefIdeal.τ).loc Cert.MixOutBwdRefIdeal.main_arg4) = m' ((c.tc : Thread Cert.MixOutBwdRefIdeal.nD Cert.MixOutBwdRefIdeal.τ).loc Cert.MixOutBwdRefIdeal.main_arg4)
          ∧ r.2.mem ((c.tc : Thread Cert.MixOutBwdRefIdeal.nD Cert.MixOutBwdRefIdeal.τ).loc Cert.MixOutBwdRefIdeal.main_arg5) = m' ((c.tc : Thread Cert.MixOutBwdRefIdeal.nD Cert.MixOutBwdRefIdeal.τ).loc Cert.MixOutBwdRefIdeal.main_arg5)
          ∧ r.2.mem ((c.tc : Thread Cert.MixOutBwdRefIdeal.nD Cert.MixOutBwdRefIdeal.τ).loc Cert.MixOutBwdRefIdeal.main_arg6) = m' ((c.tc : Thread Cert.MixOutBwdRefIdeal.nD Cert.MixOutBwdRefIdeal.τ).loc Cert.MixOutBwdRefIdeal.main_arg6)
          ∧ r.2.mem ((c.tc : Thread Cert.MixOutBwdRefIdeal.nD Cert.MixOutBwdRefIdeal.τ).loc Cert.MixOutBwdRefIdeal.main_arg7) = m' ((c.tc : Thread Cert.MixOutBwdRefIdeal.nD Cert.MixOutBwdRefIdeal.τ).loc Cert.MixOutBwdRefIdeal.main_arg7)
          ∧ r.2.mem ((c.tc : Thread Cert.MixOutBwdRefIdeal.nD Cert.MixOutBwdRefIdeal.τ).loc Cert.MixOutBwdRefIdeal.main_arg8) = m' ((c.tc : Thread Cert.MixOutBwdRefIdeal.nD Cert.MixOutBwdRefIdeal.τ).loc Cert.MixOutBwdRefIdeal.main_arg8))

def preserves_Attn0_Attn0Ideal : Prop :=
  True

def algebraic_Attn0Ideal_Attn0RefIdeal [hAttn0Ideal : Cert.Attn0Ideal.Facts] [hAttn0RefIdeal : Cert.Attn0RefIdeal.Facts] : Prop :=
  ∀ (m : (ℓ : Loc Cert.Attn0Ideal.nD Cert.Attn0Ideal.τ Cert.Attn0Ideal.sig) → Buf (Elt Ideal) ℓ) (g : Dev Cert.Attn0Ideal.nD → PrngReg)
    (m' : (ℓ : Loc Cert.Attn0RefIdeal.nD Cert.Attn0RefIdeal.τ Cert.Attn0RefIdeal.sig) → Buf (Elt Ideal) ℓ) (g' : Dev Cert.Attn0RefIdeal.nD → PrngReg), Pre_Attn0Ideal m →
    (∀ c : Dev Cert.Attn0Ideal.nD,
      m' ((c.tc : Thread Cert.Attn0RefIdeal.nD Cert.Attn0RefIdeal.τ).loc Cert.Attn0RefIdeal.main_arg0) = m ((c.tc : Thread Cert.Attn0Ideal.nD Cert.Attn0Ideal.τ).loc Cert.Attn0Ideal.main_arg0)
      ∧ m' ((c.tc : Thread Cert.Attn0RefIdeal.nD Cert.Attn0RefIdeal.τ).loc Cert.Attn0RefIdeal.main_arg1) = m ((c.tc : Thread Cert.Attn0Ideal.nD Cert.Attn0Ideal.τ).loc Cert.Attn0Ideal.main_arg1)
      ∧ m' ((c.tc : Thread Cert.Attn0RefIdeal.nD Cert.Attn0RefIdeal.τ).loc Cert.Attn0RefIdeal.main_arg2) = m ((c.tc : Thread Cert.Attn0Ideal.nD Cert.Attn0Ideal.τ).loc Cert.Attn0Ideal.main_arg2)
      ∧ m' ((c.tc : Thread Cert.Attn0RefIdeal.nD Cert.Attn0RefIdeal.τ).loc Cert.Attn0RefIdeal.main_arg3) = m ((c.tc : Thread Cert.Attn0Ideal.nD Cert.Attn0Ideal.τ).loc Cert.Attn0Ideal.main_arg3)) →
    ∃ (v0 : (c : Dev Cert.Attn0Ideal.nD) → Buf (Elt Ideal) ((c.tc : Thread Cert.Attn0Ideal.nD Cert.Attn0Ideal.τ).loc Cert.Attn0Ideal.main_v0_0)) (v1 : (c : Dev Cert.Attn0Ideal.nD) → Buf (Elt Ideal) ((c.tc : Thread Cert.Attn0Ideal.nD Cert.Attn0Ideal.τ).loc Cert.Attn0Ideal.main_v0_1)),
      θ_run (Cert.Attn0Ideal.defs (F := Ideal)) (onTc (τ := Cert.Attn0Ideal.τ) (Cert.Attn0Ideal.main (F := Ideal))) ⟨m, fun _ => 0, g⟩ (fun r => ∀ c : Dev Cert.Attn0Ideal.nD,
          r.2.mem ((c.tc : Thread Cert.Attn0Ideal.nD Cert.Attn0Ideal.τ).loc Cert.Attn0Ideal.main_v0_0) = v0 c
          ∧ r.2.mem ((c.tc : Thread Cert.Attn0Ideal.nD Cert.Attn0Ideal.τ).loc Cert.Attn0Ideal.main_v0_1) = v1 c
          ∧ r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
          ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1)
          ∧ r.2.mem ((c.tc : Thread Cert.Attn0Ideal.nD Cert.Attn0Ideal.τ).loc Cert.Attn0Ideal.main_arg2) = m ((c.tc : Thread Cert.Attn0Ideal.nD Cert.Attn0Ideal.τ).loc Cert.Attn0Ideal.main_arg2)
          ∧ r.2.mem ((c.tc : Thread Cert.Attn0Ideal.nD Cert.Attn0Ideal.τ).loc Cert.Attn0Ideal.main_arg3) = m ((c.tc : Thread Cert.Attn0Ideal.nD Cert.Attn0Ideal.τ).loc Cert.Attn0Ideal.main_arg3))
      ∧ θ_run (Cert.Attn0RefIdeal.defs (F := Ideal)) (onTc (τ := Cert.Attn0RefIdeal.τ) (Cert.Attn0RefIdeal.main (F := Ideal))) ⟨m', fun _ => 0, g'⟩ (fun r => ∀ c : Dev Cert.Attn0RefIdeal.nD,
          r.2.mem ((c.tc : Thread Cert.Attn0RefIdeal.nD Cert.Attn0RefIdeal.τ).loc Cert.Attn0RefIdeal.main_v64) = v0 c
          ∧ r.2.mem ((c.tc : Thread Cert.Attn0RefIdeal.nD Cert.Attn0RefIdeal.τ).loc Cert.Attn0RefIdeal.main_v67) = v1 c
          ∧ r.2.mem ((c.tc : Thread Cert.Attn0RefIdeal.nD Cert.Attn0RefIdeal.τ).loc Cert.Attn0RefIdeal.main_arg0) = m' ((c.tc : Thread Cert.Attn0RefIdeal.nD Cert.Attn0RefIdeal.τ).loc Cert.Attn0RefIdeal.main_arg0)
          ∧ r.2.mem ((c.tc : Thread Cert.Attn0RefIdeal.nD Cert.Attn0RefIdeal.τ).loc Cert.Attn0RefIdeal.main_arg1) = m' ((c.tc : Thread Cert.Attn0RefIdeal.nD Cert.Attn0RefIdeal.τ).loc Cert.Attn0RefIdeal.main_arg1)
          ∧ r.2.mem ((c.tc : Thread Cert.Attn0RefIdeal.nD Cert.Attn0RefIdeal.τ).loc Cert.Attn0RefIdeal.main_arg2) = m' ((c.tc : Thread Cert.Attn0RefIdeal.nD Cert.Attn0RefIdeal.τ).loc Cert.Attn0RefIdeal.main_arg2)
          ∧ r.2.mem ((c.tc : Thread Cert.Attn0RefIdeal.nD Cert.Attn0RefIdeal.τ).loc Cert.Attn0RefIdeal.main_arg3) = m' ((c.tc : Thread Cert.Attn0RefIdeal.nD Cert.Attn0RefIdeal.τ).loc Cert.Attn0RefIdeal.main_arg3))

def preserves_Attn1_Attn1Ideal : Prop :=
  True

def algebraic_Attn1Ideal_Attn1RefIdeal [hAttn1Ideal : Cert.Attn1Ideal.Facts] [hAttn1RefIdeal : Cert.Attn1RefIdeal.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Attn1RefIdeal.nD Cert.Attn1RefIdeal.τ Cert.Attn1RefIdeal.sig) → Buf (Elt Ideal) ℓ) (g' : Dev Cert.Attn1RefIdeal.nD → PrngReg), Pre_Attn1Ideal m →
    (∀ c : Dev Cert.Attn1Ideal.nD,
      m' ((c.tc : Thread Cert.Attn1RefIdeal.nD Cert.Attn1RefIdeal.τ).loc Cert.Attn1RefIdeal.main_arg0) = m ((c.tc : Thread Cert.Attn1Ideal.nD Cert.Attn1Ideal.τ).loc Cert.Attn1Ideal.main_arg0)
      ∧ m' ((c.tc : Thread Cert.Attn1RefIdeal.nD Cert.Attn1RefIdeal.τ).loc Cert.Attn1RefIdeal.main_arg1) = m ((c.tc : Thread Cert.Attn1Ideal.nD Cert.Attn1Ideal.τ).loc Cert.Attn1Ideal.main_arg1)
      ∧ m' ((c.tc : Thread Cert.Attn1RefIdeal.nD Cert.Attn1RefIdeal.τ).loc Cert.Attn1RefIdeal.main_arg2) = m ((c.tc : Thread Cert.Attn1Ideal.nD Cert.Attn1Ideal.τ).loc Cert.Attn1Ideal.main_arg2)
      ∧ m' ((c.tc : Thread Cert.Attn1RefIdeal.nD Cert.Attn1RefIdeal.τ).loc Cert.Attn1RefIdeal.main_arg3) = m ((c.tc : Thread Cert.Attn1Ideal.nD Cert.Attn1Ideal.τ).loc Cert.Attn1Ideal.main_arg3)) →
    ∃ (v0 : (c : Dev Cert.Attn1Ideal.nD) → Buf (Elt Ideal) ((c.tc : Thread Cert.Attn1Ideal.nD Cert.Attn1Ideal.τ).loc Cert.Attn1Ideal.main_v3_0)) (v1 : (c : Dev Cert.Attn1Ideal.nD) → Buf (Elt Ideal) ((c.tc : Thread Cert.Attn1Ideal.nD Cert.Attn1Ideal.τ).loc Cert.Attn1Ideal.main_v3_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v3_0) = v0 c
          ∧ r.2.mem ((c.tc : Thread Cert.Attn1Ideal.nD Cert.Attn1Ideal.τ).loc Cert.Attn1Ideal.main_v3_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
          ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
          ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
          ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3))
      ∧ θ_run (Cert.Attn1RefIdeal.defs (F := Ideal)) (onTc (τ := Cert.Attn1RefIdeal.τ) (Cert.Attn1RefIdeal.main (F := Ideal))) ⟨m', fun _ => 0, g'⟩ (fun r => ∀ c : Dev Cert.Attn1RefIdeal.nD,
          r.2.mem ((c.tc : Thread Cert.Attn1RefIdeal.nD Cert.Attn1RefIdeal.τ).loc Cert.Attn1RefIdeal.main_v64) = v0 c
          ∧ r.2.mem ((c.tc : Thread Cert.Attn1RefIdeal.nD Cert.Attn1RefIdeal.τ).loc Cert.Attn1RefIdeal.main_v67) = v1 c
          ∧ r.2.mem ((c.tc : Thread Cert.Attn1RefIdeal.nD Cert.Attn1RefIdeal.τ).loc Cert.Attn1RefIdeal.main_arg0) = m' ((c.tc : Thread Cert.Attn1RefIdeal.nD Cert.Attn1RefIdeal.τ).loc Cert.Attn1RefIdeal.main_arg0)
          ∧ r.2.mem ((c.tc : Thread Cert.Attn1RefIdeal.nD Cert.Attn1RefIdeal.τ).loc Cert.Attn1RefIdeal.main_arg1) = m' ((c.tc : Thread Cert.Attn1RefIdeal.nD Cert.Attn1RefIdeal.τ).loc Cert.Attn1RefIdeal.main_arg1)
          ∧ r.2.mem ((c.tc : Thread Cert.Attn1RefIdeal.nD Cert.Attn1RefIdeal.τ).loc Cert.Attn1RefIdeal.main_arg2) = m' ((c.tc : Thread Cert.Attn1RefIdeal.nD Cert.Attn1RefIdeal.τ).loc Cert.Attn1RefIdeal.main_arg2)
          ∧ r.2.mem ((c.tc : Thread Cert.Attn1RefIdeal.nD Cert.Attn1RefIdeal.τ).loc Cert.Attn1RefIdeal.main_arg3) = m' ((c.tc : Thread Cert.Attn1RefIdeal.nD Cert.Attn1RefIdeal.τ).loc Cert.Attn1RefIdeal.main_arg3))

def preserves_Attn2_Attn2Ideal : Prop :=
  True

def algebraic_Attn2Ideal_Attn2RefIdeal [hAttn2Ideal : Cert.Attn2Ideal.Facts] [hAttn2RefIdeal : Cert.Attn2RefIdeal.Facts] : Prop :=
  ∀ (m : (ℓ : Loc Cert.Attn2Ideal.nD Cert.Attn2Ideal.τ Cert.Attn2Ideal.sig) → Buf (Elt Ideal) ℓ) (g : Dev Cert.Attn2Ideal.nD → PrngReg)
    (m' : (ℓ : Loc Cert.Attn2RefIdeal.nD Cert.Attn2RefIdeal.τ Cert.Attn2RefIdeal.sig) → Buf (Elt Ideal) ℓ) (g' : Dev Cert.Attn2RefIdeal.nD → PrngReg), Pre_Attn2Ideal m →
    (∀ c : Dev Cert.Attn2Ideal.nD,
      m' ((c.tc : Thread Cert.Attn2RefIdeal.nD Cert.Attn2RefIdeal.τ).loc Cert.Attn2RefIdeal.main_arg0) = m ((c.tc : Thread Cert.Attn2Ideal.nD Cert.Attn2Ideal.τ).loc Cert.Attn2Ideal.main_arg0)
      ∧ m' ((c.tc : Thread Cert.Attn2RefIdeal.nD Cert.Attn2RefIdeal.τ).loc Cert.Attn2RefIdeal.main_arg1) = m ((c.tc : Thread Cert.Attn2Ideal.nD Cert.Attn2Ideal.τ).loc Cert.Attn2Ideal.main_arg1)
      ∧ m' ((c.tc : Thread Cert.Attn2RefIdeal.nD Cert.Attn2RefIdeal.τ).loc Cert.Attn2RefIdeal.main_arg2) = m ((c.tc : Thread Cert.Attn2Ideal.nD Cert.Attn2Ideal.τ).loc Cert.Attn2Ideal.main_arg2)
      ∧ m' ((c.tc : Thread Cert.Attn2RefIdeal.nD Cert.Attn2RefIdeal.τ).loc Cert.Attn2RefIdeal.main_arg3) = m ((c.tc : Thread Cert.Attn2Ideal.nD Cert.Attn2Ideal.τ).loc Cert.Attn2Ideal.main_arg3)) →
    ∃ (v0 : (c : Dev Cert.Attn2Ideal.nD) → Buf (Elt Ideal) ((c.tc : Thread Cert.Attn2Ideal.nD Cert.Attn2Ideal.τ).loc Cert.Attn2Ideal.main_v3_0)) (v1 : (c : Dev Cert.Attn2Ideal.nD) → Buf (Elt Ideal) ((c.tc : Thread Cert.Attn2Ideal.nD Cert.Attn2Ideal.τ).loc Cert.Attn2Ideal.main_v3_1)),
      θ_run (Cert.Attn2Ideal.defs (F := Ideal)) (onTc (τ := Cert.Attn2Ideal.τ) (Cert.Attn2Ideal.main (F := Ideal))) ⟨m, fun _ => 0, g⟩ (fun r => ∀ c : Dev Cert.Attn2Ideal.nD,
          r.2.mem ((c.tc : Thread Cert.Attn2Ideal.nD Cert.Attn2Ideal.τ).loc Cert.Attn2Ideal.main_v3_0) = v0 c
          ∧ r.2.mem ((c.tc : Thread Cert.Attn2Ideal.nD Cert.Attn2Ideal.τ).loc Cert.Attn2Ideal.main_v3_1) = v1 c
          ∧ r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
          ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1)
          ∧ r.2.mem ((c.tc : Thread Cert.Attn2Ideal.nD Cert.Attn2Ideal.τ).loc Cert.Attn2Ideal.main_arg2) = m ((c.tc : Thread Cert.Attn2Ideal.nD Cert.Attn2Ideal.τ).loc Cert.Attn2Ideal.main_arg2)
          ∧ r.2.mem ((c.tc : Thread Cert.Attn2Ideal.nD Cert.Attn2Ideal.τ).loc Cert.Attn2Ideal.main_arg3) = m ((c.tc : Thread Cert.Attn2Ideal.nD Cert.Attn2Ideal.τ).loc Cert.Attn2Ideal.main_arg3))
      ∧ θ_run (Cert.Attn2RefIdeal.defs (F := Ideal)) (onTc (τ := Cert.Attn2RefIdeal.τ) (Cert.Attn2RefIdeal.main (F := Ideal))) ⟨m', fun _ => 0, g'⟩ (fun r => ∀ c : Dev Cert.Attn2RefIdeal.nD,
          r.2.mem ((c.tc : Thread Cert.Attn2RefIdeal.nD Cert.Attn2RefIdeal.τ).loc Cert.Attn2RefIdeal.main_v64) = v0 c
          ∧ r.2.mem ((c.tc : Thread Cert.Attn2RefIdeal.nD Cert.Attn2RefIdeal.τ).loc Cert.Attn2RefIdeal.main_v67) = v1 c
          ∧ r.2.mem ((c.tc : Thread Cert.Attn2RefIdeal.nD Cert.Attn2RefIdeal.τ).loc Cert.Attn2RefIdeal.main_arg0) = m' ((c.tc : Thread Cert.Attn2RefIdeal.nD Cert.Attn2RefIdeal.τ).loc Cert.Attn2RefIdeal.main_arg0)
          ∧ r.2.mem ((c.tc : Thread Cert.Attn2RefIdeal.nD Cert.Attn2RefIdeal.τ).loc Cert.Attn2RefIdeal.main_arg1) = m' ((c.tc : Thread Cert.Attn2RefIdeal.nD Cert.Attn2RefIdeal.τ).loc Cert.Attn2RefIdeal.main_arg1)
          ∧ r.2.mem ((c.tc : Thread Cert.Attn2RefIdeal.nD Cert.Attn2RefIdeal.τ).loc Cert.Attn2RefIdeal.main_arg2) = m' ((c.tc : Thread Cert.Attn2RefIdeal.nD Cert.Attn2RefIdeal.τ).loc Cert.Attn2RefIdeal.main_arg2)
          ∧ r.2.mem ((c.tc : Thread Cert.Attn2RefIdeal.nD Cert.Attn2RefIdeal.τ).loc Cert.Attn2RefIdeal.main_arg3) = m' ((c.tc : Thread Cert.Attn2RefIdeal.nD Cert.Attn2RefIdeal.τ).loc Cert.Attn2RefIdeal.main_arg3))

def preserves_BiasExpand_BiasExpandIdeal : Prop :=
  True

def algebraic_BiasExpandIdeal_BiasExpandRefIdeal [hBiasExpandIdeal : Cert.BiasExpandIdeal.Facts] [hBiasExpandRefIdeal : Cert.BiasExpandRefIdeal.Facts] : Prop :=
  ∀ (m : (ℓ : Loc Cert.BiasExpandIdeal.nD Cert.BiasExpandIdeal.τ Cert.BiasExpandIdeal.sig) → Buf (Elt Ideal) ℓ) (g : Dev Cert.BiasExpandIdeal.nD → PrngReg)
    (m' : (ℓ : Loc Cert.BiasExpandRefIdeal.nD Cert.BiasExpandRefIdeal.τ Cert.BiasExpandRefIdeal.sig) → Buf (Elt Ideal) ℓ) (g' : Dev Cert.BiasExpandRefIdeal.nD → PrngReg), Pre_BiasExpandIdeal m →
    (∀ c : Dev Cert.BiasExpandIdeal.nD,
      m' ((c.tc : Thread Cert.BiasExpandRefIdeal.nD Cert.BiasExpandRefIdeal.τ).loc Cert.BiasExpandRefIdeal.main_arg0) = m ((c.tc : Thread Cert.BiasExpandIdeal.nD Cert.BiasExpandIdeal.τ).loc Cert.BiasExpandIdeal.main_arg0)
      ∧ m' ((c.tc : Thread Cert.BiasExpandRefIdeal.nD Cert.BiasExpandRefIdeal.τ).loc Cert.BiasExpandRefIdeal.main_arg1) = m ((c.tc : Thread Cert.BiasExpandIdeal.nD Cert.BiasExpandIdeal.τ).loc Cert.BiasExpandIdeal.main_arg1)) →
    ∃ (v0 : (c : Dev Cert.BiasExpandIdeal.nD) → Buf (Elt Ideal) ((c.tc : Thread Cert.BiasExpandIdeal.nD Cert.BiasExpandIdeal.τ).loc Cert.BiasExpandIdeal.main_v0)),
      θ_run (Cert.BiasExpandIdeal.defs (F := Ideal)) (onTc (τ := Cert.BiasExpandIdeal.τ) (Cert.BiasExpandIdeal.main (F := Ideal))) ⟨m, fun _ => 0, g⟩ (fun r => ∀ c : Dev Cert.BiasExpandIdeal.nD,
          r.2.mem ((c.tc : Thread Cert.BiasExpandIdeal.nD Cert.BiasExpandIdeal.τ).loc Cert.BiasExpandIdeal.main_v0) = v0 c
          ∧ r.2.mem ((c.tc : Thread Cert.BiasExpandIdeal.nD Cert.BiasExpandIdeal.τ).loc Cert.BiasExpandIdeal.main_arg0) = m ((c.tc : Thread Cert.BiasExpandIdeal.nD Cert.BiasExpandIdeal.τ).loc Cert.BiasExpandIdeal.main_arg0)
          ∧ r.2.mem ((c.tc : Thread Cert.BiasExpandIdeal.nD Cert.BiasExpandIdeal.τ).loc Cert.BiasExpandIdeal.main_arg1) = m ((c.tc : Thread Cert.BiasExpandIdeal.nD Cert.BiasExpandIdeal.τ).loc Cert.BiasExpandIdeal.main_arg1))
      ∧ θ_run (Cert.BiasExpandRefIdeal.defs (F := Ideal)) (onTc (τ := Cert.BiasExpandRefIdeal.τ) (Cert.BiasExpandRefIdeal.main (F := Ideal))) ⟨m', fun _ => 0, g'⟩ (fun r => ∀ c : Dev Cert.BiasExpandRefIdeal.nD,
          r.2.mem ((c.tc : Thread Cert.BiasExpandRefIdeal.nD Cert.BiasExpandRefIdeal.τ).loc Cert.BiasExpandRefIdeal.main_v0) = v0 c
          ∧ r.2.mem ((c.tc : Thread Cert.BiasExpandRefIdeal.nD Cert.BiasExpandRefIdeal.τ).loc Cert.BiasExpandRefIdeal.main_arg0) = m' ((c.tc : Thread Cert.BiasExpandRefIdeal.nD Cert.BiasExpandRefIdeal.τ).loc Cert.BiasExpandRefIdeal.main_arg0)
          ∧ r.2.mem ((c.tc : Thread Cert.BiasExpandRefIdeal.nD Cert.BiasExpandRefIdeal.τ).loc Cert.BiasExpandRefIdeal.main_arg1) = m' ((c.tc : Thread Cert.BiasExpandRefIdeal.nD Cert.BiasExpandRefIdeal.τ).loc Cert.BiasExpandRefIdeal.main_arg1))

def preserves_BiasReduce_BiasReduceIdeal : Prop :=
  True

def algebraic_BiasReduceIdeal_BiasReduceRefIdeal [hBiasReduceIdeal : Cert.BiasReduceIdeal.Facts] [hBiasReduceRefIdeal : Cert.BiasReduceRefIdeal.Facts] : Prop :=
  ∀ (m : (ℓ : Loc Cert.BiasReduceIdeal.nD Cert.BiasReduceIdeal.τ Cert.BiasReduceIdeal.sig) → Buf (Elt Ideal) ℓ) (g : Dev Cert.BiasReduceIdeal.nD → PrngReg)
    (m' : (ℓ : Loc Cert.BiasReduceRefIdeal.nD Cert.BiasReduceRefIdeal.τ Cert.BiasReduceRefIdeal.sig) → Buf (Elt Ideal) ℓ) (g' : Dev Cert.BiasReduceRefIdeal.nD → PrngReg), Pre_BiasReduceIdeal m →
    (∀ c : Dev Cert.BiasReduceIdeal.nD,
      m' ((c.tc : Thread Cert.BiasReduceRefIdeal.nD Cert.BiasReduceRefIdeal.τ).loc Cert.BiasReduceRefIdeal.main_arg0) = m ((c.tc : Thread Cert.BiasReduceIdeal.nD Cert.BiasReduceIdeal.τ).loc Cert.BiasReduceIdeal.main_arg0)
      ∧ m' ((c.tc : Thread Cert.BiasReduceRefIdeal.nD Cert.BiasReduceRefIdeal.τ).loc Cert.BiasReduceRefIdeal.main_arg1) = m ((c.tc : Thread Cert.BiasReduceIdeal.nD Cert.BiasReduceIdeal.τ).loc Cert.BiasReduceIdeal.main_arg1)) →
    ∃ (v0 : (c : Dev Cert.BiasReduceIdeal.nD) → Buf (Elt Ideal) ((c.tc : Thread Cert.BiasReduceIdeal.nD Cert.BiasReduceIdeal.τ).loc Cert.BiasReduceIdeal.main_v0)),
      θ_run (Cert.BiasReduceIdeal.defs (F := Ideal)) (onTc (τ := Cert.BiasReduceIdeal.τ) (Cert.BiasReduceIdeal.main (F := Ideal))) ⟨m, fun _ => 0, g⟩ (fun r => ∀ c : Dev Cert.BiasReduceIdeal.nD,
          r.2.mem ((c.tc : Thread Cert.BiasReduceIdeal.nD Cert.BiasReduceIdeal.τ).loc Cert.BiasReduceIdeal.main_v0) = v0 c
          ∧ r.2.mem ((c.tc : Thread Cert.BiasReduceIdeal.nD Cert.BiasReduceIdeal.τ).loc Cert.BiasReduceIdeal.main_arg0) = m ((c.tc : Thread Cert.BiasReduceIdeal.nD Cert.BiasReduceIdeal.τ).loc Cert.BiasReduceIdeal.main_arg0)
          ∧ r.2.mem ((c.tc : Thread Cert.BiasReduceIdeal.nD Cert.BiasReduceIdeal.τ).loc Cert.BiasReduceIdeal.main_arg1) = m ((c.tc : Thread Cert.BiasReduceIdeal.nD Cert.BiasReduceIdeal.τ).loc Cert.BiasReduceIdeal.main_arg1))
      ∧ θ_run (Cert.BiasReduceRefIdeal.defs (F := Ideal)) (onTc (τ := Cert.BiasReduceRefIdeal.τ) (Cert.BiasReduceRefIdeal.main (F := Ideal))) ⟨m', fun _ => 0, g'⟩ (fun r => ∀ c : Dev Cert.BiasReduceRefIdeal.nD,
          r.2.mem ((c.tc : Thread Cert.BiasReduceRefIdeal.nD Cert.BiasReduceRefIdeal.τ).loc Cert.BiasReduceRefIdeal.main_v0) = v0 c
          ∧ r.2.mem ((c.tc : Thread Cert.BiasReduceRefIdeal.nD Cert.BiasReduceRefIdeal.τ).loc Cert.BiasReduceRefIdeal.main_arg0) = m' ((c.tc : Thread Cert.BiasReduceRefIdeal.nD Cert.BiasReduceRefIdeal.τ).loc Cert.BiasReduceRefIdeal.main_arg0)
          ∧ r.2.mem ((c.tc : Thread Cert.BiasReduceRefIdeal.nD Cert.BiasReduceRefIdeal.τ).loc Cert.BiasReduceRefIdeal.main_arg1) = m' ((c.tc : Thread Cert.BiasReduceRefIdeal.nD Cert.BiasReduceRefIdeal.τ).loc Cert.BiasReduceRefIdeal.main_arg1))

def Claim : Prop :=
  ∃ (hSwap : Cert.Swap.Facts) (hSwapIdeal : Cert.SwapIdeal.Facts) (hSwapRefIdeal : Cert.SwapRefIdeal.Facts) (hSwapRef : Cert.SwapRef.Facts) (hWeights : Cert.Weights.Facts) (hWeightsIdeal : Cert.WeightsIdeal.Facts) (hWeightsRefIdeal : Cert.WeightsRefIdeal.Facts) (hWeightsRef : Cert.WeightsRef.Facts) (hJoin : Cert.Join.Facts) (hJoinIdeal : Cert.JoinIdeal.Facts) (hJoinRefIdeal : Cert.JoinRefIdeal.Facts) (hJoinRef : Cert.JoinRef.Facts) (hCoreSum : Cert.CoreSum.Facts) (hCoreSumIdeal : Cert.CoreSumIdeal.Facts) (hCoreSumRefIdeal : Cert.CoreSumRefIdeal.Facts) (hChipSum : Cert.ChipSum.Facts) (hChipSumIdeal : Cert.ChipSumIdeal.Facts) (hChipSumRefIdeal : Cert.ChipSumRefIdeal.Facts) (hSmallSum : Cert.SmallSum.Facts) (hSmallSumIdeal : Cert.SmallSumIdeal.Facts) (hSmallSumRefIdeal : Cert.SmallSumRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamAttn : Cert.AdamAttn.Facts) (hAdamAttnIdeal : Cert.AdamAttnIdeal.Facts) (hAdamAttnRefIdeal : Cert.AdamAttnRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hDwGate : Cert.DwGate.Facts) (hDwGateIdeal : Cert.DwGateIdeal.Facts) (hDwGateRefIdeal : Cert.DwGateRefIdeal.Facts) (hDwDown : Cert.DwDown.Facts) (hDwDownIdeal : Cert.DwDownIdeal.Facts) (hDwDownRefIdeal : Cert.DwDownRefIdeal.Facts) (hDwOut : Cert.DwOut.Facts) (hDwOutIdeal : Cert.DwOutIdeal.Facts) (hDwOutRefIdeal : Cert.DwOutRefIdeal.Facts) (hDwAttn : Cert.DwAttn.Facts) (hDwAttnIdeal : Cert.DwAttnIdeal.Facts) (hDwAttnRefIdeal : Cert.DwAttnRefIdeal.Facts) (hDwSsm : Cert.DwSsm.Facts) (hDwSsmIdeal : Cert.DwSsmIdeal.Facts) (hDwSsmRefIdeal : Cert.DwSsmRefIdeal.Facts) (hDwIn : Cert.DwIn.Facts) (hDwInIdeal : Cert.DwInIdeal.Facts) (hDwInRefIdeal : Cert.DwInRefIdeal.Facts) (hLoss : Cert.Loss.Facts) (hLossIdeal : Cert.LossIdeal.Facts) (hLossRefIdeal : Cert.LossRefIdeal.Facts) (hMixInFwd : Cert.MixInFwd.Facts) (hMixInFwdIdeal : Cert.MixInFwdIdeal.Facts) (hMixInFwdRefIdeal : Cert.MixInFwdRefIdeal.Facts) (hMixInBwd : Cert.MixInBwd.Facts) (hMixInBwdIdeal : Cert.MixInBwdIdeal.Facts) (hMixInBwdRefIdeal : Cert.MixInBwdRefIdeal.Facts) (hMixOutFwd : Cert.MixOutFwd.Facts) (hMixOutFwdIdeal : Cert.MixOutFwdIdeal.Facts) (hMixOutFwdRefIdeal : Cert.MixOutFwdRefIdeal.Facts) (hMixOutBwd : Cert.MixOutBwd.Facts) (hMixOutBwdIdeal : Cert.MixOutBwdIdeal.Facts) (hMixOutBwdRefIdeal : Cert.MixOutBwdRefIdeal.Facts) (hAttn0 : Cert.Attn0.Facts) (hAttn0Ideal : Cert.Attn0Ideal.Facts) (hAttn0RefIdeal : Cert.Attn0RefIdeal.Facts) (hAttn1 : Cert.Attn1.Facts) (hAttn1Ideal : Cert.Attn1Ideal.Facts) (hAttn1RefIdeal : Cert.Attn1RefIdeal.Facts) (hAttn2 : Cert.Attn2.Facts) (hAttn2Ideal : Cert.Attn2Ideal.Facts) (hAttn2RefIdeal : Cert.Attn2RefIdeal.Facts) (hBiasExpand : Cert.BiasExpand.Facts) (hBiasExpandIdeal : Cert.BiasExpandIdeal.Facts) (hBiasExpandRefIdeal : Cert.BiasExpandRefIdeal.Facts) (hBiasReduce : Cert.BiasReduce.Facts) (hBiasReduceIdeal : Cert.BiasReduceIdeal.Facts) (hBiasReduceRefIdeal : Cert.BiasReduceRefIdeal.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Weights (hWeights := hWeights)
    ∧ quiescent_WeightsIdeal (hWeightsIdeal := hWeightsIdeal)
    ∧ quiescent_WeightsRefIdeal (hWeightsRefIdeal := hWeightsRefIdeal)
    ∧ quiescent_WeightsRef (hWeightsRef := hWeightsRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_CoreSum (hCoreSum := hCoreSum)
    ∧ quiescent_CoreSumIdeal (hCoreSumIdeal := hCoreSumIdeal)
    ∧ quiescent_CoreSumRefIdeal (hCoreSumRefIdeal := hCoreSumRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamAttn (hAdamAttn := hAdamAttn)
    ∧ quiescent_AdamAttnIdeal (hAdamAttnIdeal := hAdamAttnIdeal)
    ∧ quiescent_AdamAttnRefIdeal (hAdamAttnRefIdeal := hAdamAttnRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_FfnBwd (hFfnBwd := hFfnBwd)
    ∧ quiescent_FfnBwdIdeal (hFfnBwdIdeal := hFfnBwdIdeal)
    ∧ quiescent_FfnBwdRefIdeal (hFfnBwdRefIdeal := hFfnBwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwAttn (hDwAttn := hDwAttn)
    ∧ quiescent_DwAttnIdeal (hDwAttnIdeal := hDwAttnIdeal)
    ∧ quiescent_DwAttnRefIdeal (hDwAttnRefIdeal := hDwAttnRefIdeal)
    ∧ quiescent_DwSsm (hDwSsm := hDwSsm)
    ∧ quiescent_DwSsmIdeal (hDwSsmIdeal := hDwSsmIdeal)
    ∧ quiescent_DwSsmRefIdeal (hDwSsmRefIdeal := hDwSsmRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Loss (hLoss := hLoss)
    ∧ quiescent_LossIdeal (hLossIdeal := hLossIdeal)
    ∧ quiescent_LossRefIdeal (hLossRefIdeal := hLossRefIdeal)
    ∧ quiescent_MixInFwd (hMixInFwd := hMixInFwd)
    ∧ quiescent_MixInFwdIdeal (hMixInFwdIdeal := hMixInFwdIdeal)
    ∧ quiescent_MixInFwdRefIdeal (hMixInFwdRefIdeal := hMixInFwdRefIdeal)
    ∧ quiescent_MixInBwd (hMixInBwd := hMixInBwd)
    ∧ quiescent_MixInBwdIdeal (hMixInBwdIdeal := hMixInBwdIdeal)
    ∧ quiescent_MixInBwdRefIdeal (hMixInBwdRefIdeal := hMixInBwdRefIdeal)
    ∧ quiescent_MixOutFwd (hMixOutFwd := hMixOutFwd)
    ∧ quiescent_MixOutFwdIdeal (hMixOutFwdIdeal := hMixOutFwdIdeal)
    ∧ quiescent_MixOutFwdRefIdeal (hMixOutFwdRefIdeal := hMixOutFwdRefIdeal)
    ∧ quiescent_MixOutBwd (hMixOutBwd := hMixOutBwd)
    ∧ quiescent_MixOutBwdIdeal (hMixOutBwdIdeal := hMixOutBwdIdeal)
    ∧ quiescent_MixOutBwdRefIdeal (hMixOutBwdRefIdeal := hMixOutBwdRefIdeal)
    ∧ quiescent_Attn0 (hAttn0 := hAttn0)
    ∧ quiescent_Attn0Ideal (hAttn0Ideal := hAttn0Ideal)
    ∧ quiescent_Attn0RefIdeal (hAttn0RefIdeal := hAttn0RefIdeal)
    ∧ quiescent_Attn1 (hAttn1 := hAttn1)
    ∧ quiescent_Attn1Ideal (hAttn1Ideal := hAttn1Ideal)
    ∧ quiescent_Attn1RefIdeal (hAttn1RefIdeal := hAttn1RefIdeal)
    ∧ quiescent_Attn2 (hAttn2 := hAttn2)
    ∧ quiescent_Attn2Ideal (hAttn2Ideal := hAttn2Ideal)
    ∧ quiescent_Attn2RefIdeal (hAttn2RefIdeal := hAttn2RefIdeal)
    ∧ quiescent_BiasExpand (hBiasExpand := hBiasExpand)
    ∧ quiescent_BiasExpandIdeal (hBiasExpandIdeal := hBiasExpandIdeal)
    ∧ quiescent_BiasExpandRefIdeal (hBiasExpandRefIdeal := hBiasExpandRefIdeal)
    ∧ quiescent_BiasReduce (hBiasReduce := hBiasReduce)
    ∧ quiescent_BiasReduceIdeal (hBiasReduceIdeal := hBiasReduceIdeal)
    ∧ quiescent_BiasReduceRefIdeal (hBiasReduceRefIdeal := hBiasReduceRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Weights_WeightsIdeal
    ∧ algebraic_WeightsIdeal_WeightsRefIdeal (hWeightsIdeal := hWeightsIdeal) (hWeightsRefIdeal := hWeightsRefIdeal)
    ∧ bitexact_Weights_WeightsRef (hWeights := hWeights) (hWeightsRef := hWeightsRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_CoreSum_CoreSumIdeal
    ∧ algebraic_CoreSumIdeal_CoreSumRefIdeal (hCoreSumIdeal := hCoreSumIdeal) (hCoreSumRefIdeal := hCoreSumRefIdeal)
    ∧ preserves_ChipSum_ChipSumIdeal
    ∧ algebraic_ChipSumIdeal_ChipSumRefIdeal (hChipSumIdeal := hChipSumIdeal) (hChipSumRefIdeal := hChipSumRefIdeal)
    ∧ preserves_SmallSum_SmallSumIdeal
    ∧ algebraic_SmallSumIdeal_SmallSumRefIdeal (hSmallSumIdeal := hSmallSumIdeal) (hSmallSumRefIdeal := hSmallSumRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamAttn_AdamAttnIdeal
    ∧ algebraic_AdamAttnIdeal_AdamAttnRefIdeal (hAdamAttnIdeal := hAdamAttnIdeal) (hAdamAttnRefIdeal := hAdamAttnRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_FfnBwd_FfnBwdIdeal
    ∧ algebraic_FfnBwdIdeal_FfnBwdRefIdeal (hFfnBwdIdeal := hFfnBwdIdeal) (hFfnBwdRefIdeal := hFfnBwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_DwGate_DwGateIdeal
    ∧ algebraic_DwGateIdeal_DwGateRefIdeal (hDwGateIdeal := hDwGateIdeal) (hDwGateRefIdeal := hDwGateRefIdeal)
    ∧ preserves_DwDown_DwDownIdeal
    ∧ algebraic_DwDownIdeal_DwDownRefIdeal (hDwDownIdeal := hDwDownIdeal) (hDwDownRefIdeal := hDwDownRefIdeal)
    ∧ preserves_DwOut_DwOutIdeal
    ∧ algebraic_DwOutIdeal_DwOutRefIdeal (hDwOutIdeal := hDwOutIdeal) (hDwOutRefIdeal := hDwOutRefIdeal)
    ∧ preserves_DwAttn_DwAttnIdeal
    ∧ algebraic_DwAttnIdeal_DwAttnRefIdeal (hDwAttnIdeal := hDwAttnIdeal) (hDwAttnRefIdeal := hDwAttnRefIdeal)
    ∧ preserves_DwSsm_DwSsmIdeal
    ∧ algebraic_DwSsmIdeal_DwSsmRefIdeal (hDwSsmIdeal := hDwSsmIdeal) (hDwSsmRefIdeal := hDwSsmRefIdeal)
    ∧ preserves_DwIn_DwInIdeal
    ∧ algebraic_DwInIdeal_DwInRefIdeal (hDwInIdeal := hDwInIdeal) (hDwInRefIdeal := hDwInRefIdeal)
    ∧ preserves_Loss_LossIdeal
    ∧ algebraic_LossIdeal_LossRefIdeal (hLossIdeal := hLossIdeal) (hLossRefIdeal := hLossRefIdeal)
    ∧ preserves_MixInFwd_MixInFwdIdeal
    ∧ algebraic_MixInFwdIdeal_MixInFwdRefIdeal (hMixInFwdIdeal := hMixInFwdIdeal) (hMixInFwdRefIdeal := hMixInFwdRefIdeal)
    ∧ preserves_MixInBwd_MixInBwdIdeal
    ∧ algebraic_MixInBwdIdeal_MixInBwdRefIdeal (hMixInBwdIdeal := hMixInBwdIdeal) (hMixInBwdRefIdeal := hMixInBwdRefIdeal)
    ∧ preserves_MixOutFwd_MixOutFwdIdeal
    ∧ algebraic_MixOutFwdIdeal_MixOutFwdRefIdeal (hMixOutFwdIdeal := hMixOutFwdIdeal) (hMixOutFwdRefIdeal := hMixOutFwdRefIdeal)
    ∧ preserves_MixOutBwd_MixOutBwdIdeal
    ∧ algebraic_MixOutBwdIdeal_MixOutBwdRefIdeal (hMixOutBwdIdeal := hMixOutBwdIdeal) (hMixOutBwdRefIdeal := hMixOutBwdRefIdeal)
    ∧ preserves_Attn0_Attn0Ideal
    ∧ algebraic_Attn0Ideal_Attn0RefIdeal (hAttn0Ideal := hAttn0Ideal) (hAttn0RefIdeal := hAttn0RefIdeal)
    ∧ preserves_Attn1_Attn1Ideal
    ∧ algebraic_Attn1Ideal_Attn1RefIdeal (hAttn1Ideal := hAttn1Ideal) (hAttn1RefIdeal := hAttn1RefIdeal)
    ∧ preserves_Attn2_Attn2Ideal
    ∧ algebraic_Attn2Ideal_Attn2RefIdeal (hAttn2Ideal := hAttn2Ideal) (hAttn2RefIdeal := hAttn2RefIdeal)
    ∧ preserves_BiasExpand_BiasExpandIdeal
    ∧ algebraic_BiasExpandIdeal_BiasExpandRefIdeal (hBiasExpandIdeal := hBiasExpandIdeal) (hBiasExpandRefIdeal := hBiasExpandRefIdeal)
    ∧ preserves_BiasReduce_BiasReduceIdeal
    ∧ algebraic_BiasReduceIdeal_BiasReduceRefIdeal (hBiasReduceIdeal := hBiasReduceIdeal) (hBiasReduceRefIdeal := hBiasReduceRefIdeal)
-- ==== Swap.lean ====
abbrev S4x6016x1024 : Shape := ⟨3, ![4, 6016, 1024]⟩
abbrev S4x3008x1024 : Shape := ⟨3, ![4, 3008, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x6016x1024, .f32⟩
  | .hbm, ⟨1, _⟩ => ⟨S4x3008x1024, .f32⟩
  | _, _ => ⟨S4x6016x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c3008_i32 : BitVec 32 := 3008#32
  let v10 : BitVec 32 := Scalar.muli v9 c3008_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
-- ==== SwapRef.lean ====
abbrev S32x6016x1024 : Shape := ⟨3, ![32, 6016, 1024]⟩
abbrev S4x2x4x2x3008x1024 : Shape := ⟨6, ![4, 2, 4, 2, 3008, 1024]⟩
abbrev S4x1x4x1x3008x1024 : Shape := ⟨6, ![4, 1, 4, 1, 3008, 1024]⟩
abbrev S4x4x3008x1024 : Shape := ⟨4, ![4, 4, 3008, 1024]⟩
abbrev S4x1x4x3008x1024 : Shape := ⟨5, ![4, 1, 4, 3008, 1024]⟩
abbrev S4x2x4x3008x1024 : Shape := ⟨5, ![4, 2, 4, 3008, 1024]⟩
abbrev S32x3008x1024 : Shape := ⟨3, ![32, 3008, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x6016x1024, .f32⟩
  | .hbm, ⟨1, _⟩ => ⟨S4x2x4x2x3008x1024, .f32⟩
  | .hbm, ⟨2, _⟩ => ⟨S4x1x4x1x3008x1024, .f32⟩
  | .hbm, ⟨3, _⟩ => ⟨S4x4x3008x1024, .f32⟩
  | .hbm, ⟨4, _⟩ => ⟨S4x1x4x1x3008x1024, .f32⟩
  | .hbm, ⟨5, _⟩ => ⟨S4x4x3008x1024, .f32⟩
  | .hbm, ⟨6, _⟩ => ⟨S4x1x4x3008x1024, .f32⟩
  | .hbm, ⟨7, _⟩ => ⟨S4x1x4x3008x1024, .f32⟩
  | .hbm, ⟨8, _⟩ => ⟨S4x2x4x3008x1024, .f32⟩
  | .hbm, ⟨9, _⟩ => ⟨S32x3008x1024, .f32⟩
  | _, _ => ⟨S32x6016x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Weights.lean ====
abbrev S6016x1024 : Shape := ⟨2, ![6016, 1024]⟩
abbrev S4x6016x1024 : Shape := ⟨3, ![4, 6016, 1024]⟩
abbrev S6 : Shape := ⟨1, ![6]⟩
abbrev S_ : Shape := ⟨0, ![]⟩
abbrev S1x6016x1024 : Shape := ⟨3, ![1, 6016, 1024]⟩
abbrev S1 : Shape := ⟨1, ![1]⟩
abbrev S1x3008x1024 : Shape := ⟨3, ![1, 3008, 1024]⟩
abbrev S3008x1024 : Shape := ⟨2, ![3008, 1024]⟩

abbrev nBuf : Space → Nat
  | .hbm => 2
  | .vmem => 0
  | .smem => 0
  | _ => 0

abbrev bufTy : (tb : Table) → Fin (tcTables nBuf tb) → BufTy
  | .hbm, ⟨0, _⟩ => ⟨S6016x1024, .bf16⟩
  | .hbm, ⟨1, _⟩ => ⟨S4x6016x1024, .bf16⟩
  | _, _ => ⟨S6016x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_9 : BitVec 32 := 0#32
  ![v14.toNat, 0, 0]
def k0_off2 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3008_i32_10 : BitVec 32 := 3008#32
  let v19 : BitVec 32 := Scalar.muli v8 c3008_i32_10
  let c0_i32_21 : BitVec 32 := 0#32
  ![v14.toNat, v19.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3008_i32 : BitVec 32 := 3008#32
  let v18 : BitVec 32 := Scalar.muli v8 c3008_i32
  let c0_i32_22 : BitVec 32 := 0#32
  ![v18.toNat, 0]
def k0_dev1 (d0 : Dev nD) : Nat :=
  let c0_i32_18 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v24 : BitVec 32 := Scalar.muli v9 c4_i32_17
  let v25 : BitVec 32 := Scalar.addi c0_i32_18 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v26 : BitVec 32 := Scalar.muli v5 c2_i32_19
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v28 : BitVec 32 := Scalar.muli v8 c1_i32_20
  let v29 : BitVec 32 := Scalar.addi v27 v28
  v29.toNat
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v37 : BitVec 32 := Scalar.muli v2 c4_i32_25
  let v38 : BitVec 32 := Scalar.addi c0_i32_26 v37
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_27 : BitVec 32 := 2#32
  let v39 : BitVec 32 := Scalar.muli v10 c2_i32_27
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v41 : BitVec 32 := Scalar.muli v8 c1_i32_28
  let v42 : BitVec 32 := Scalar.addi v40 v41
  v42.toNat
def k0_dev3 (d0 : Dev nD) : Nat :=
  let c0_i32_34 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_33 : BitVec 32 := 4#32
  let v50 : BitVec 32 := Scalar.muli v11 c4_i32_33
  let v51 : BitVec 32 := Scalar.addi c0_i32_34 v50
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_35 : BitVec 32 := 2#32
  let v52 : BitVec 32 := Scalar.muli v12 c2_i32_35
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v54 : BitVec 32 := Scalar.muli v8 c1_i32_36
  let v55 : BitVec 32 := Scalar.addi v53 v54
  v55.toNat
def k0_off4 (d0 : Dev nD) : Fin 3 → Nat :=
  let c2_i32_39 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v63 : BitVec 32 := Scalar.muli c2_i32_39 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v64 : BitVec 32 := Scalar.addi v63 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3008_i32_40 : BitVec 32 := 3008#32
  let v65 : BitVec 32 := Scalar.muli v8 c3008_i32_40
  let c0_i32_47 : BitVec 32 := 0#32
  ![v64.toNat, v65.toNat, 0]
def k0_dev4 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v78 : BitVec 32 := Scalar.muli v2 c4_i32_50
  let v79 : BitVec 32 := Scalar.addi c0_i32_51 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v80 : BitVec 32 := Scalar.muli v5 c2_i32_52
  let v81 : BitVec 32 := Scalar.addi v79 v80
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_53 : BitVec 32 := 1#32
  let v82 : BitVec 32 := Scalar.muli v15 c1_i32_53
  let v83 : BitVec 32 := Scalar.addi v81 v82
  v83.toNat
def k0_off5 (d0 : Dev nD) : Fin 3 → Nat :=
  let c2_i32_56 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.muli c2_i32_56 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v93 : BitVec 32 := Scalar.addi v92 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3008_i32_57 : BitVec 32 := 3008#32
  let v94 : BitVec 32 := Scalar.muli v8 c3008_i32_57
  let c0_i32_64 : BitVec 32 := 0#32
  ![v93.toNat, v94.toNat, 0]
def k0_dev5 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v107 : BitVec 32 := Scalar.muli v2 c4_i32_68
  let v108 : BitVec 32 := Scalar.addi c0_i32_69 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v109 : BitVec 32 := Scalar.muli v5 c2_i32_70
  let v110 : BitVec 32 := Scalar.addi v108 v109
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_71 : BitVec 32 := 1#32
  let v111 : BitVec 32 := Scalar.muli v15 c1_i32_71
  let v112 : BitVec 32 := Scalar.addi v110 v111
  v112.toNat
def k0_off6 (d0 : Dev nD) : Fin 3 → Nat :=
  let c2_i32_74 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v121 : BitVec 32 := Scalar.muli c2_i32_74 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v122 : BitVec 32 := Scalar.addi v121 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3008_i32_75 : BitVec 32 := 3008#32
  let v123 : BitVec 32 := Scalar.muli v8 c3008_i32_75
  let c0_i32_82 : BitVec 32 := 0#32
  ![v122.toNat, v123.toNat, 0]
def k0_dev6 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v136 : BitVec 32 := Scalar.muli v2 c4_i32_85
  let v137 : BitVec 32 := Scalar.addi c0_i32_86 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v138 : BitVec 32 := Scalar.muli v5 c2_i32_87
  let v139 : BitVec 32 := Scalar.addi v137 v138
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_88 : BitVec 32 := 1#32
  let v140 : BitVec 32 := Scalar.muli v15 c1_i32_88
  let v141 : BitVec 32 := Scalar.addi v139 v140
  v141.toNat
def k0_off7 (d0 : Dev nD) : Fin 3 → Nat :=
  let c2_i32_91 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v150 : BitVec 32 := Scalar.muli c2_i32_91 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v151 : BitVec 32 := Scalar.addi v150 v5
  let c1_i32_92 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.subi c1_i32_92 v8
  let c3008_i32_93 : BitVec 32 := 3008#32
  let v153 : BitVec 32 := Scalar.muli v152 c3008_i32_93
  let c0_i32_100 : BitVec 32 := 0#32
  ![v151.toNat, v153.toNat, 0]
def k0_off8 (d0 : Dev nD) : Fin 3 → Nat :=
  let c2_i32_102 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v166 : BitVec 32 := Scalar.muli c2_i32_102 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v167 : BitVec 32 := Scalar.addi v166 v10
  let c1_i32_103 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v168 : BitVec 32 := Scalar.subi c1_i32_103 v8
  let c3008_i32_104 : BitVec 32 := 3008#32
  let v169 : BitVec 32 := Scalar.muli v168 c3008_i32_104
  let c0_i32_111 : BitVec 32 := 0#32
  ![v167.toNat, v169.toNat, 0]
def k0_off9 (d0 : Dev nD) : Fin 3 → Nat :=
  let c2_i32_113 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v182 : BitVec 32 := Scalar.muli c2_i32_113 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v183 : BitVec 32 := Scalar.addi v182 v12
  let c1_i32_114 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_114 v8
  let c3008_i32_115 : BitVec 32 := 3008#32
  let v185 : BitVec 32 := Scalar.muli v184 c3008_i32_115
  let c0_i32_122 : BitVec 32 := 0#32
  ![v183.toNat, v185.toNat, 0]
-- ==== WeightsRef.lean ====
abbrev S24064x1024 : Shape := ⟨2, ![24064, 1024]⟩
abbrev S4x6016x1024 : Shape := ⟨3, ![4, 6016, 1024]⟩

abbrev nBuf : Space → Nat
  | .hbm => 2
  | .vmem => 0
  | .smem => 0
  | _ => 0

abbrev bufTy : (tb : Table) → Fin (tcTables nBuf tb) → BufTy
  | .hbm, ⟨0, _⟩ => ⟨S24064x1024, .bf16⟩
  | .hbm, ⟨1, _⟩ => ⟨S4x6016x1024, .bf16⟩
  | _, _ => ⟨S24064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Join.lean ====
abbrev S3008x1024 : Shape := ⟨2, ![3008, 1024]⟩
abbrev S6016x1024 : Shape := ⟨2, ![6016, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S3008x1024, .f32⟩
  | .hbm, ⟨1, _⟩ => ⟨S6016x1024, .f32⟩
  | _, _ => ⟨S3008x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3008_i32 : BitVec 32 := 3008#32
  let v9 : BitVec 32 := Scalar.muli v8 c3008_i32
  let c0_i32 : BitVec 32 := 0#32
  ![v9.toNat, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v13 : BitVec 32 := Scalar.muli v2 c4_i32_5
  let v14 : BitVec 32 := Scalar.addi c0_i32_6 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v15 : BitVec 32 := Scalar.muli v5 c2_i32_7
  let v16 : BitVec 32 := Scalar.addi v14 v15
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_8 : BitVec 32 := 1#32
  let v17 : BitVec 32 := Scalar.muli v12 c1_i32_8
  let v18 : BitVec 32 := Scalar.addi v16 v17
  v18.toNat
def k0_off2 (d0 : Dev nD) : Fin 2 → Nat :=
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let c3008_i32_11 : BitVec 32 := 3008#32
  let v21 : BitVec 32 := Scalar.muli v20 c3008_i32_11
  let c0_i32_17 : BitVec 32 := 0#32
  ![v21.toNat, 0]
-- ==== JoinRef.lean ====
abbrev S24064x1024 : Shape := ⟨2, ![24064, 1024]⟩
abbrev S4x2x3008x1024 : Shape := ⟨4, ![4, 2, 3008, 1024]⟩
abbrev S4x1x3008x1024 : Shape := ⟨4, ![4, 1, 3008, 1024]⟩
abbrev S4x3008x1024 : Shape := ⟨3, ![4, 3008, 1024]⟩
abbrev S4x6016x1024 : Shape := ⟨3, ![4, 6016, 1024]⟩

abbrev nBuf : Space → Nat
  | .hbm => 8
  | .vmem => 0
  | .smem => 0
  | _ => 0

abbrev bufTy : (tb : Table) → Fin (tcTables nBuf tb) → BufTy
  | .hbm, ⟨0, _⟩ => ⟨S24064x1024, .f32⟩
  | .hbm, ⟨1, _⟩ => ⟨S4x2x3008x1024, .f32⟩
  | .hbm, ⟨2, _⟩ => ⟨S4x1x3008x1024, .f32⟩
  | .hbm, ⟨3, _⟩ => ⟨S4x3008x1024, .f32⟩
  | .hbm, ⟨4, _⟩ => ⟨S4x1x3008x1024, .f32⟩
  | .hbm, ⟨5, _⟩ => ⟨S4x3008x1024, .f32⟩
  | .hbm, ⟨6, _⟩ => ⟨S4x6016x1024, .f32⟩
  | .hbm, ⟨7, _⟩ => ⟨S24064x1024, .f32⟩
  | _, _ => ⟨S24064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== CoreSum.lean ====
abbrev S4x6016x1024 : Shape := ⟨3, ![4, 6016, 1024]⟩
abbrev S4x3008x1024 : Shape := ⟨3, ![4, 3008, 1024]⟩
abbrev S_ : Shape := ⟨0, ![]⟩
abbrev S1 : Shape := ⟨1, ![1]⟩
abbrev S1x376x1024 : Shape := ⟨3, ![1, 376, 1024]⟩
abbrev S376x1024 : Shape := ⟨2, ![376, 1024]⟩

abbrev nBuf : Space → Nat
  | .hbm => 9
  | .vmem => 6
  | .smem => 1
  | _ => 0

abbrev bufTy : (tb : Table) → Fin (tcTables nBuf tb) → BufTy
  | .hbm, ⟨0, _⟩ => ⟨S4x6016x1024, .f32⟩
  | .hbm, ⟨1, _⟩ => ⟨S4x3008x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x3008x1024, .f32⟩
  | .local _ .vmem, ⟨0, _⟩ => ⟨S1x376x1024, .f32⟩
  | .local _ .vmem, ⟨1, _⟩ => ⟨S1x376x1024, .f32⟩
  | .local _ .vmem, ⟨2, _⟩ => ⟨S1x376x1024, .f32⟩
  | .local _ .vmem, ⟨3, _⟩ => ⟨S1x376x1024, .f32⟩
  | .local _ .vmem, ⟨4, _⟩ => ⟨S1x376x1024, .f32⟩
  | .local _ .vmem, ⟨5, _⟩ => ⟨S1x376x1024, .f32⟩
  | .local _ .smem, ⟨0, _⟩ => ⟨S1, .i32⟩
  | _, _ => ⟨S4x6016x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v7 : Ref sig .tc := ⟨.hbm, 8, rfl⟩
abbrev main_v6 : Ref sig .tc := ⟨.smem, 0, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c3008_i32 : BitVec 32 := 3008#32
  let v10 : BitVec 32 := Scalar.muli v9 c3008_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
abbrev grid1 : Pipeline.Grid := ⟨2, ![4, 8], ![false, false]⟩

abbrev pre1 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc1_transform_0 (inb_S1_S1_0 : ∀ a, (![0] : Fin 1 → Nat) a + S1.size a ≤ S1.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c8_i32 : BitVec 32 := 8#32
  let v1 : BitVec 32 := Scalar.muli v0 c8_i32
  let v2 : BitVec 32 := Scalar.addi v1 arg1
  let c0_i32 : BitVec 32 := 0#32
  let c0_i32_0 : BitVec 32 := 0#32
  ![arg0.toNat, v2.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x376x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x376x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x376x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== CoreSumRefIdeal.lean ====
abbrev S32x6016x1024 : Shape := ⟨3, ![32, 6016, 1024]⟩
abbrev S4x2x4x2x3008x1024 : Shape := ⟨6, ![4, 2, 4, 2, 3008, 1024]⟩
abbrev S_ : Shape := ⟨0, ![]⟩
abbrev S4x4x2x3008x1024 : Shape := ⟨5, ![4, 4, 2, 3008, 1024]⟩
abbrev S4x2x4x3008x1024 : Shape := ⟨5, ![4, 2, 4, 3008, 1024]⟩
abbrev S32x3008x1024 : Shape := ⟨3, ![32, 3008, 1024]⟩
abbrev S4x1x4x1x3008x1024 : Shape := ⟨6, ![4, 1, 4, 1, 3008, 1024]⟩
abbrev S4x4x3008x1024 : Shape := ⟨4, ![4, 4, 3008, 1024]⟩
abbrev S4x1x4x3008x1024 : Shape := ⟨5, ![4, 1, 4, 3008, 1024]⟩

abbrev nBuf : Space → Nat
  | .hbm => 15
  | .vmem => 0
  | .smem => 0
  | _ => 0

abbrev bufTy : (tb : Table) → Fin (tcTables nBuf tb) → BufTy
  | .hbm, ⟨0, _⟩ => ⟨S32x6016x1024, .f32⟩
  | .hbm, ⟨1, _⟩ => ⟨S4x2x4x2x3008x1024, .f32⟩
  | .hbm, ⟨2, _⟩ => ⟨S_, .f32⟩
  | .hbm, ⟨3, _⟩ => ⟨S4x4x2x3008x1024, .f32⟩
  | .hbm, ⟨4, _⟩ => ⟨S4x2x4x3008x1024, .f32⟩
  | .hbm, ⟨5, _⟩ => ⟨S32x3008x1024, .f32⟩
  | .hbm, ⟨6, _⟩ => ⟨S4x2x4x2x3008x1024, .f32⟩
  | .hbm, ⟨7, _⟩ => ⟨S4x1x4x1x3008x1024, .f32⟩
  | .hbm, ⟨8, _⟩ => ⟨S4x4x3008x1024, .f32⟩
  | .hbm, ⟨9, _⟩ => ⟨S4x1x4x1x3008x1024, .f32⟩
  | .hbm, ⟨10, _⟩ => ⟨S4x4x3008x1024, .f32⟩
  | .hbm, ⟨11, _⟩ => ⟨S4x1x4x3008x1024, .f32⟩
  | .hbm, ⟨12, _⟩ => ⟨S4x1x4x3008x1024, .f32⟩
  | .hbm, ⟨13, _⟩ => ⟨S4x2x4x3008x1024, .f32⟩
  | .hbm, ⟨14, _⟩ => ⟨S32x3008x1024, .f32⟩
  | _, _ => ⟨S32x6016x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== ChipSum.lean ====
abbrev S4x3008x1024 : Shape := ⟨3, ![4, 3008, 1024]⟩
abbrev S3 : Shape := ⟨1, ![3]⟩
abbrev S_ : Shape := ⟨0, ![]⟩
abbrev S1x3008x1024 : Shape := ⟨3, ![1, 3008, 1024]⟩
abbrev S3008x1024 : Shape := ⟨2, ![3008, 1024]⟩
abbrev S1 : Shape := ⟨1, ![1]⟩
abbrev S4x376x1024 : Shape := ⟨3, ![4, 376, 1024]⟩
abbrev S376x1024 : Shape := ⟨2, ![376, 1024]⟩
abbrev S1x376x1024 : Shape := ⟨3, ![1, 376, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x3008x1024, .f32⟩
  | .hbm, ⟨1, _⟩ => ⟨S4x3008x1024, .f32⟩
  | .hbm, ⟨2, _⟩ => ⟨S3008x1024, .f32⟩
  | .local _ .vmem, ⟨0, _⟩ => ⟨S4x376x1024, .f32⟩
  | .local _ .vmem, ⟨1, _⟩ => ⟨S4x376x1024, .f32⟩
  | .local _ .vmem, ⟨2, _⟩ => ⟨S376x1024, .f32⟩
  | .local _ .vmem, ⟨3, _⟩ => ⟨S376x1024, .f32⟩
  | _, _ => ⟨S4x3008x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 7
abbrev cc1_sem0_1 : DmaSem sig := 8
abbrev cc1_sem1_0 : DmaSem sig := 9
abbrev cc1_sem1_1 : DmaSem sig := 10

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_20 : BitVec 32 := 0#32
  let c0_i32_21 : BitVec 32 := 0#32
  ![v20.toNat, 0, 0]
def k0_dev1 (d0 : Dev nD) : Nat :=
  let c0_i32_15 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_14 : BitVec 32 := 4#32
  let v21 : BitVec 32 := Scalar.muli v9 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v23 : BitVec 32 := Scalar.muli v5 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_off3 (d0 : Dev nD) : Fin 3 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c2_i32_22 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v36 : BitVec 32 := Scalar.addi v35 v10
  let c0_i32_31 : BitVec 32 := 0#32
  let c0_i32_32 : BitVec 32 := 0#32
  ![v36.toNat, 0, 0]
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v37 : BitVec 32 := Scalar.muli v2 c4_i32_25
  let v38 : BitVec 32 := Scalar.addi c0_i32_26 v37
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_27 : BitVec 32 := 2#32
  let v39 : BitVec 32 := Scalar.muli v10 c2_i32_27
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v41 : BitVec 32 := Scalar.muli v8 c1_i32_28
  let v42 : BitVec 32 := Scalar.addi v40 v41
  v42.toNat
def k0_off4 (d0 : Dev nD) : Fin 3 → Nat :=
  let c2_i32_33 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v51 : BitVec 32 := Scalar.muli c2_i32_33 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v52 : BitVec 32 := Scalar.addi v51 v12
  let c0_i32_42 : BitVec 32 := 0#32
  let c0_i32_43 : BitVec 32 := 0#32
  ![v52.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x376x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S376x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ChipSumRefIdeal.lean ====
abbrev S32x3008x1024 : Shape := ⟨3, ![32, 3008, 1024]⟩
abbrev S4x2x4x3008x1024 : Shape := ⟨5, ![4, 2, 4, 3008, 1024]⟩
abbrev S_ : Shape := ⟨0, ![]⟩
abbrev S2x4x3008x1024 : Shape := ⟨4, ![2, 4, 3008, 1024]⟩
abbrev S4x2x3008x1024 : Shape := ⟨4, ![4, 2, 3008, 1024]⟩
abbrev S24064x1024 : Shape := ⟨2, ![24064, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32x3008x1024, .f32⟩
  | .hbm, ⟨1, _⟩ => ⟨S4x2x4x3008x1024, .f32⟩
  | .hbm, ⟨2, _⟩ => ⟨S_, .f32⟩
  | .hbm, ⟨3, _⟩ => ⟨S2x4x3008x1024, .f32⟩
  | .hbm, ⟨4, _⟩ => ⟨S4x2x3008x1024, .f32⟩
  | .hbm, ⟨5, _⟩ => ⟨S24064x1024, .f32⟩
  | .hbm, ⟨6, _⟩ => ⟨S4x2x4x3008x1024, .f32⟩
  | .hbm, ⟨7, _⟩ => ⟨S4x2x4x3008x1024, .f32⟩
  | .hbm, ⟨8, _⟩ => ⟨S32x3008x1024, .f32⟩
  | _, _ => ⟨S32x3008x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== SmallSum.lean ====
abbrev S1120x128 : Shape := ⟨2, ![1120, 128]⟩
abbrev S8x1120x128 : Shape := ⟨3, ![8, 1120, 128]⟩
abbrev S7 : Shape := ⟨1, ![7]⟩
abbrev S_ : Shape := ⟨0, ![]⟩
abbrev S1x1120x128 : Shape := ⟨3, ![1, 1120, 128]⟩
abbrev S1 : Shape := ⟨1, ![1]⟩
abbrev S8x280x128 : Shape := ⟨3, ![8, 280, 128]⟩
abbrev S280x128 : Shape := ⟨2, ![280, 128]⟩
abbrev S1x280x128 : Shape := ⟨3, ![1, 280, 128]⟩

abbrev nBuf : Space → Nat
  | .hbm => 3
  | .vmem => 4
  | .smem => 0
  | _ => 0

abbrev bufTy : (tb : Table) → Fin (tcTables nBuf tb) → BufTy
  | .hbm, ⟨0, _⟩ => ⟨S1120x128, .f32⟩
  | .hbm, ⟨1, _⟩ => ⟨S8x1120x128, .f32⟩
  | .hbm, ⟨2, _⟩ => ⟨S1120x128, .f32⟩
  | .local _ .vmem, ⟨0, _⟩ => ⟨S8x280x128, .f32⟩
  | .local _ .vmem, ⟨1, _⟩ => ⟨S8x280x128, .f32⟩
  | .local _ .vmem, ⟨2, _⟩ => ⟨S280x128, .f32⟩
  | .local _ .vmem, ⟨3, _⟩ => ⟨S280x128, .f32⟩
  | _, _ => ⟨S1120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v27 : BitVec 32 := Scalar.muli v2 c4_i32_20
  let v28 : BitVec 32 := Scalar.addi c0_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v29 : BitVec 32 := Scalar.muli v5 c2_i32_22
  let v30 : BitVec 32 := Scalar.addi v28 v29
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_23 : BitVec 32 := 1#32
  let v31 : BitVec 32 := Scalar.muli v15 c1_i32_23
  let v32 : BitVec 32 := Scalar.addi v30 v31
  v32.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v39 : BitVec 32 := Scalar.muli v2 c4_i32_28
  let v40 : BitVec 32 := Scalar.addi c0_i32_29 v39
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_30 : BitVec 32 := 2#32
  let v41 : BitVec 32 := Scalar.muli v16 c2_i32_30
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v43 : BitVec 32 := Scalar.muli v8 c1_i32_31
  let v44 : BitVec 32 := Scalar.addi v42 v43
  v44.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v51 : BitVec 32 := Scalar.muli v2 c4_i32_36
  let v52 : BitVec 32 := Scalar.addi c0_i32_37 v51
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_38 : BitVec 32 := 2#32
  let v53 : BitVec 32 := Scalar.muli v17 c2_i32_38
  let v54 : BitVec 32 := Scalar.addi v52 v53
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_39 : BitVec 32 := 1#32
  let v55 : BitVec 32 := Scalar.muli v18 c1_i32_39
  let v56 : BitVec 32 := Scalar.addi v54 v55
  v56.toNat
def k0_dev4 (d0 : Dev nD) : Nat :=
  let c0_i32_44 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_43 : BitVec 32 := 4#32
  let v63 : BitVec 32 := Scalar.muli v19 c4_i32_43
  let v64 : BitVec 32 := Scalar.addi c0_i32_44 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v65 : BitVec 32 := Scalar.muli v5 c2_i32_45
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v67 : BitVec 32 := Scalar.muli v8 c1_i32_46
  let v68 : BitVec 32 := Scalar.addi v66 v67
  v68.toNat
def k0_dev5 (d0 : Dev nD) : Nat :=
  let c0_i32_52 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let c4_i32_51 : BitVec 32 := 4#32
  let v75 : BitVec 32 := Scalar.muli v20 c4_i32_51
  let v76 : BitVec 32 := Scalar.addi c0_i32_52 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v77 : BitVec 32 := Scalar.muli v5 c2_i32_53
  let v78 : BitVec 32 := Scalar.addi v76 v77
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let c1_i32_54 : BitVec 32 := 1#32
  let v79 : BitVec 32 := Scalar.muli v21 c1_i32_54
  let v80 : BitVec 32 := Scalar.addi v78 v79
  v80.toNat
def k0_dev6 (d0 : Dev nD) : Nat :=
  let c0_i32_59 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let c4_i32_58 : BitVec 32 := 4#32
  let v87 : BitVec 32 := Scalar.muli v22 c4_i32_58
  let v88 : BitVec 32 := Scalar.addi c0_i32_59 v87
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_14 v5
  let c2_i32_60 : BitVec 32 := 2#32
  let v89 : BitVec 32 := Scalar.muli v23 c2_i32_60
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v91 : BitVec 32 := Scalar.muli v8 c1_i32_61
  let v92 : BitVec 32 := Scalar.addi v90 v91
  v92.toNat
def k0_dev7 (d0 : Dev nD) : Nat :=
  let c0_i32_66 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_15 v2
  let c4_i32_65 : BitVec 32 := 4#32
  let v99 : BitVec 32 := Scalar.muli v24 c4_i32_65
  let v100 : BitVec 32 := Scalar.addi c0_i32_66 v99
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_16 v5
  let c2_i32_67 : BitVec 32 := 2#32
  let v101 : BitVec 32 := Scalar.muli v25 c2_i32_67
  let v102 : BitVec 32 := Scalar.addi v100 v101
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_17 v8
  let c1_i32_68 : BitVec 32 := 1#32
  let v103 : BitVec 32 := Scalar.muli v26 c1_i32_68
  let v104 : BitVec 32 := Scalar.addi v102 v103
  v104.toNat
def k0_off2 (d0 : Dev nD) : Fin 3 → Nat :=
  let c4_i32_71 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v111 : BitVec 32 := Scalar.muli c4_i32_71 v2
  let c2_i32_72 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v112 : BitVec 32 := Scalar.muli c2_i32_72 v5
  let v113 : BitVec 32 := Scalar.addi v111 v112
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let v114 : BitVec 32 := Scalar.addi v113 v15
  let c0_i32_79 : BitVec 32 := 0#32
  let c0_i32_80 : BitVec 32 := 0#32
  ![v114.toNat, 0, 0]
def k0_off3 (d0 : Dev nD) : Fin 3 → Nat :=
  let c4_i32_83 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v127 : BitVec 32 := Scalar.muli c4_i32_83 v2
  let c2_i32_84 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let v128 : BitVec 32 := Scalar.muli c2_i32_84 v16
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v130 : BitVec 32 := Scalar.addi v129 v8
  let c0_i32_91 : BitVec 32 := 0#32
  let c0_i32_92 : BitVec 32 := 0#32
  ![v130.toNat, 0, 0]
def k0_off4 (d0 : Dev nD) : Fin 3 → Nat :=
  let c4_i32_95 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.muli c4_i32_95 v2
  let c2_i32_96 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v144 : BitVec 32 := Scalar.muli c2_i32_96 v17
  let v145 : BitVec 32 := Scalar.addi v143 v144
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let v146 : BitVec 32 := Scalar.addi v145 v18
  let c0_i32_103 : BitVec 32 := 0#32
  let c0_i32_104 : BitVec 32 := 0#32
  ![v146.toNat, 0, 0]
def k0_off5 (d0 : Dev nD) : Fin 3 → Nat :=
  let c4_i32_107 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let v159 : BitVec 32 := Scalar.muli c4_i32_107 v19
  let c2_i32_108 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v160 : BitVec 32 := Scalar.muli c2_i32_108 v5
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v162 : BitVec 32 := Scalar.addi v161 v8
  let c0_i32_115 : BitVec 32 := 0#32
  let c0_i32_116 : BitVec 32 := 0#32
  ![v162.toNat, 0, 0]
def k0_off6 (d0 : Dev nD) : Fin 3 → Nat :=
  let c4_i32_119 : BitVec 32 := 4#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v175 : BitVec 32 := Scalar.muli c4_i32_119 v20
  let c2_i32_120 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v176 : BitVec 32 := Scalar.muli c2_i32_120 v5
  let v177 : BitVec 32 := Scalar.addi v175 v176
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v178 : BitVec 32 := Scalar.addi v177 v21
  let c0_i32_127 : BitVec 32 := 0#32
  let c0_i32_128 : BitVec 32 := 0#32
  ![v178.toNat, 0, 0]
def k0_off7 (d0 : Dev nD) : Fin 3 → Nat :=
  let c4_i32_131 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v191 : BitVec 32 := Scalar.muli c4_i32_131 v22
  let c2_i32_132 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_14 v5
  let v192 : BitVec 32 := Scalar.muli c2_i32_132 v23
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v194 : BitVec 32 := Scalar.addi v193 v8
  let c0_i32_139 : BitVec 32 := 0#32
  let c0_i32_140 : BitVec 32 := 0#32
  ![v194.toNat, 0, 0]
def k0_off8 (d0 : Dev nD) : Fin 3 → Nat :=
  let c4_i32_143 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_15 v2
  let v207 : BitVec 32 := Scalar.muli c4_i32_143 v24
  let c2_i32_144 : BitVec 32 := 2#32
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_16 v5
  let v208 : BitVec 32 := Scalar.muli c2_i32_144 v25
  let v209 : BitVec 32 := Scalar.addi v207 v208
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_17 v8
  let v210 : BitVec 32 := Scalar.addi v209 v26
  let c0_i32_151 : BitVec 32 := 0#32
  let c0_i32_152 : BitVec 32 := 0#32
  ![v210.toNat, 0, 0]
abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x280x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S280x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== SmallSumRefIdeal.lean ====
abbrev S8960x128 : Shape := ⟨2, ![8960, 128]⟩
abbrev S8x1120x128 : Shape := ⟨3, ![8, 1120, 128]⟩
abbrev S_ : Shape := ⟨0, ![]⟩
abbrev S1120x128 : Shape := ⟨2, ![1120, 128]⟩

abbrev nBuf : Space → Nat
  | .hbm => 4
  | .vmem => 0
  | .smem => 0
  | _ => 0

abbrev bufTy : (tb : Table) → Fin (tcTables nBuf tb) → BufTy
  | .hbm, ⟨0, _⟩ => ⟨S8960x128, .f32⟩
  | .hbm, ⟨1, _⟩ => ⟨S8x1120x128, .f32⟩
  | .hbm, ⟨2, _⟩ => ⟨S_, .f32⟩
  | .hbm, ⟨3, _⟩ => ⟨S1120x128, .f32⟩
  | _, _ => ⟨S8960x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamGate.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x1216 : Shape := ⟨2, ![1024, 1216]⟩
abbrev S256x1216 : Shape := ⟨2, ![256, 1216]⟩

abbrev nBuf : Space → Nat
  | .hbm => 7
  | .vmem => 14
  | .smem => 0
  | _ => 0

abbrev bufTy : (tb : Table) → Fin (tcTables nBuf tb) → BufTy
  | .hbm, ⟨0, _⟩ => ⟨S1024x1216, .f32⟩
  | .hbm, ⟨1, _⟩ => ⟨S1024x1216, .f32⟩
  | .hbm, ⟨2, _⟩ => ⟨S1024x1216, .f32⟩
  | .hbm, ⟨3, _⟩ => ⟨S1024x1216, .f32⟩
  | .hbm, ⟨4, _⟩ => ⟨S1024x1216, .f32⟩
  | .hbm, ⟨5, _⟩ => ⟨S1024x1216, .f32⟩
  | .hbm, ⟨6, _⟩ => ⟨S1024x1216, .f32⟩
  | .local _ .vmem, ⟨0, _⟩ => ⟨S256x1216, .f32⟩
  | .local _ .vmem, ⟨1, _⟩ => ⟨S256x1216, .f32⟩
  | .local _ .vmem, ⟨2, _⟩ => ⟨S256x1216, .f32⟩
  | .local _ .vmem, ⟨3, _⟩ => ⟨S256x1216, .f32⟩
  | .local _ .vmem, ⟨4, _⟩ => ⟨S256x1216, .f32⟩
  | .local _ .vmem, ⟨5, _⟩ => ⟨S256x1216, .f32⟩
  | .local _ .vmem, ⟨6, _⟩ => ⟨S256x1216, .f32⟩
  | .local _ .vmem, ⟨7, _⟩ => ⟨S256x1216, .f32⟩
  | .local _ .vmem, ⟨8, _⟩ => ⟨S256x1216, .f32⟩
  | .local _ .vmem, ⟨9, _⟩ => ⟨S256x1216, .f32⟩
  | .local _ .vmem, ⟨10, _⟩ => ⟨S256x1216, .f32⟩
  | .local _ .vmem, ⟨11, _⟩ => ⟨S256x1216, .f32⟩
  | .local _ .vmem, ⟨12, _⟩ => ⟨S256x1216, .f32⟩
  | .local _ .vmem, ⟨13, _⟩ => ⟨S256x1216, .f32⟩
  | _, _ => ⟨S1024x1216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x1216 : Shape := ⟨2, ![1024, 1216]⟩
abbrev S256x1216 : Shape := ⟨2, ![256, 1216]⟩

abbrev nBuf : Space → Nat
  | .hbm => 7
  | .vmem => 14
  | .smem => 0
  | _ => 0

abbrev bufTy : (tb : Table) → Fin (tcTables nBuf tb) → BufTy
  | .hbm, ⟨0, _⟩ => ⟨S1024x1216, .f32⟩
  | .hbm, ⟨1, _⟩ => ⟨S1024x1216, .f32⟩
  | .hbm, ⟨2, _⟩ => ⟨S1024x1216, .f32⟩
  | .hbm, ⟨3, _⟩ => ⟨S1024x1216, .f32⟩
  | .hbm, ⟨4, _⟩ => ⟨S1024x1216, .f32⟩
  | .hbm, ⟨5, _⟩ => ⟨S1024x1216, .f32⟩
  | .hbm, ⟨6, _⟩ => ⟨S1024x1216, .f32⟩
  | .local _ .vmem, ⟨0, _⟩ => ⟨S256x1216, .f32⟩
  | .local _ .vmem, ⟨1, _⟩ => ⟨S256x1216, .f32⟩
  | .local _ .vmem, ⟨2, _⟩ => ⟨S256x1216, .f32⟩
  | .local _ .vmem, ⟨3, _⟩ => ⟨S256x1216, .f32⟩
  | .local _ .vmem, ⟨4, _⟩ => ⟨S256x1216, .f32⟩
  | .local _ .vmem, ⟨5, _⟩ => ⟨S256x1216, .f32⟩
  | .local _ .vmem, ⟨6, _⟩ => ⟨S256x1216, .f32⟩
  | .local _ .vmem, ⟨7, _⟩ => ⟨S256x1216, .f32⟩
  | .local _ .vmem, ⟨8, _⟩ => ⟨S256x1216, .f32⟩
  | .local _ .vmem, ⟨9, _⟩ => ⟨S256x1216, .f32⟩
  | .local _ .vmem, ⟨10, _⟩ => ⟨S256x1216, .f32⟩
  | .local _ .vmem, ⟨11, _⟩ => ⟨S256x1216, .f32⟩
  | .local _ .vmem, ⟨12, _⟩ => ⟨S256x1216, .f32⟩
  | .local _ .vmem, ⟨13, _⟩ => ⟨S256x1216, .f32⟩
  | _, _ => ⟨S1024x1216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x1216 : Shape := ⟨2, ![1024, 1216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1216, .f32⟩
  | .hbm, ⟨1, _⟩ => ⟨S1024x1216, .f32⟩
  | .hbm, ⟨2, _⟩ => ⟨S1024x1216, .f32⟩
  | .hbm, ⟨3, _⟩ => ⟨S1024x1216, .f32⟩
  | .hbm, ⟨4, _⟩ => ⟨S_, .f32⟩
  | .hbm, ⟨5, _⟩ => ⟨S1024x1216, .f32⟩
  | .hbm, ⟨6, _⟩ => ⟨S1024x1216, .f32⟩
  | .hbm, ⟨7, _⟩ => ⟨S_, .f32⟩
  | .hbm, ⟨8, _⟩ => ⟨S1024x1216, .f32⟩
  | .hbm, ⟨9, _⟩ => ⟨S1024x1216, .f32⟩
  | .hbm, ⟨10, _⟩ => ⟨S1024x1216, .f32⟩
  | .hbm, ⟨11, _⟩ => ⟨S_, .f32⟩
  | .hbm, ⟨12, _⟩ => ⟨S1024x1216, .f32⟩
  | .hbm, ⟨13, _⟩ => ⟨S1024x1216, .f32⟩
  | .hbm, ⟨14, _⟩ => ⟨S1024x1216, .f32⟩
  | .hbm, ⟨15, _⟩ => ⟨S_, .f32⟩
  | .hbm, ⟨16, _⟩ => ⟨S1024x1216, .f32⟩
  | .hbm, ⟨17, _⟩ => ⟨S1024x1216, .f32⟩
  | .hbm, ⟨18, _⟩ => ⟨S1024x1216, .f32⟩
  | .hbm, ⟨19, _⟩ => ⟨S_, .f32⟩
  | .hbm, ⟨20, _⟩ => ⟨S1024x1216, .f32⟩
  | .hbm, ⟨21, _⟩ => ⟨S1024x1216, .f32⟩
  | .hbm, ⟨22, _⟩ => ⟨S_, .f32⟩
  | .hbm, ⟨23, _⟩ => ⟨S1024x1216, .f32⟩
  | .hbm, ⟨24, _⟩ => ⟨S1024x1216, .f32⟩
  | .hbm, ⟨25, _⟩ => ⟨S1024x1216, .f32⟩
  | .hbm, ⟨26, _⟩ => ⟨S_, .f32⟩
  | .hbm, ⟨27, _⟩ => ⟨S1024x1216, .f32⟩
  | .hbm, ⟨28, _⟩ => ⟨S1024x1216, .f32⟩
  | .hbm, ⟨29, _⟩ => ⟨S1024x1216, .f32⟩
  | .hbm, ⟨30, _⟩ => ⟨S_, .f32⟩
  | .hbm, ⟨31, _⟩ => ⟨S1024x1216, .f32⟩
  | .hbm, ⟨32, _⟩ => ⟨S1024x1216, .f32⟩
  | .hbm, ⟨33, _⟩ => ⟨S1024x1216, .f32⟩
  | .hbm, ⟨34, _⟩ => ⟨S_, .f32⟩
  | .hbm, ⟨35, _⟩ => ⟨S1024x1216, .f32⟩
  | .hbm, ⟨36, _⟩ => ⟨S1024x1216, .f32⟩
  | _, _ => ⟨S1024x1216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluIdeal.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttn.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAttnIdeal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAttnRefIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1112x128 : Shape := ⟨2, ![1112, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S1112x128, .f32⟩
  | .hbm, ⟨5, _⟩ => ⟨S1112x128, .f32⟩
  | .hbm, ⟨6, _⟩ => ⟨S1112x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S1112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![139], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S1112x128 : Shape := ⟨2, ![1112, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S_, .f32⟩
  | .hbm, ⟨5, _⟩ => ⟨S1112x128, .f32⟩
  | .hbm, ⟨6, _⟩ => ⟨S1112x128, .f32⟩
  | .hbm, ⟨7, _⟩ => ⟨S_, .f32⟩
  | .hbm, ⟨8, _⟩ => ⟨S1112x128, .f32⟩
  | .hbm, ⟨9, _⟩ => ⟨S1112x128, .f32⟩
  | .hbm, ⟨10, _⟩ => ⟨S1112x128, .f32⟩
  | .hbm, ⟨11, _⟩ => ⟨S_, .f32⟩
  | .hbm, ⟨12, _⟩ => ⟨S1112x128, .f32⟩
  | .hbm, ⟨13, _⟩ => ⟨S1112x128, .f32⟩
  | .hbm, ⟨14, _⟩ => ⟨S1112x128, .f32⟩
  | .hbm, ⟨15, _⟩ => ⟨S_, .f32⟩
  | .hbm, ⟨16, _⟩ => ⟨S1112x128, .f32⟩
  | .hbm, ⟨17, _⟩ => ⟨S1112x128, .f32⟩
  | .hbm, ⟨18, _⟩ => ⟨S1112x128, .f32⟩
  | .hbm, ⟨19, _⟩ => ⟨S_, .f32⟩
  | .hbm, ⟨20, _⟩ => ⟨S1112x128, .f32⟩
  | .hbm, ⟨21, _⟩ => ⟨S1112x128, .f32⟩
  | .hbm, ⟨22, _⟩ => ⟨S_, .f32⟩
  | .hbm, ⟨23, _⟩ => ⟨S1112x128, .f32⟩
  | .hbm, ⟨24, _⟩ => ⟨S1112x128, .f32⟩
  | .hbm, ⟨25, _⟩ => ⟨S1112x128, .f32⟩
  | .hbm, ⟨26, _⟩ => ⟨S_, .f32⟩
  | .hbm, ⟨27, _⟩ => ⟨S1112x128, .f32⟩
  | .hbm, ⟨28, _⟩ => ⟨S1112x128, .f32⟩
  | .hbm, ⟨29, _⟩ => ⟨S1112x128, .f32⟩
  | .hbm, ⟨30, _⟩ => ⟨S_, .f32⟩
  | .hbm, ⟨31, _⟩ => ⟨S1112x128, .f32⟩
  | .hbm, ⟨32, _⟩ => ⟨S1112x128, .f32⟩
  | .hbm, ⟨33, _⟩ => ⟨S1112x128, .f32⟩
  | .hbm, ⟨34, _⟩ => ⟨S_, .f32⟩
  | .hbm, ⟨35, _⟩ => ⟨S1112x128, .f32⟩
  | .hbm, ⟨36, _⟩ => ⟨S1112x128, .f32⟩
  | _, _ => ⟨S1112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnBwd.lean ====
abbrev S8192x1024 : Shape := ⟨2, ![8192, 1024]⟩
abbrev S1x1024 : Shape := ⟨2, ![1, 1024]⟩
abbrev S4x8192x704 : Shape := ⟨3, ![4, 8192, 704]⟩
abbrev S4x1024x704 : Shape := ⟨3, ![4, 1024, 704]⟩
abbrev S4x704x1024 : Shape := ⟨3, ![4, 704, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩
abbrev S1024 : Shape := ⟨1, ![1024]⟩

abbrev nBuf : Space → Nat
  | .hbm => 15
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x8192x704, .bf16⟩
  | .hbm, ⟨4, _⟩ => ⟨S4x8192x704, .bf16⟩
  | .hbm, ⟨5, _⟩ => ⟨S4x1024x704, .bf16⟩
  | .hbm, ⟨6, _⟩ => ⟨S4x1024x704, .bf16⟩
  | .hbm, ⟨7, _⟩ => ⟨S4x704x1024, .bf16⟩
  | .hbm, ⟨8, _⟩ => ⟨S8192x1024, .f32⟩
  | .hbm, ⟨9, _⟩ => ⟨S4x8192x704, .bf16⟩
  | .hbm, ⟨10, _⟩ => ⟨S4x8192x704, .bf16⟩
  | .hbm, ⟨11, _⟩ => ⟨S4x8192x704, .bf16⟩
  | .hbm, ⟨12, _⟩ => ⟨S8192x1024, .bf16⟩
  | .hbm, ⟨13, _⟩ => ⟨S8192x1024, .bf16⟩
  | .hbm, ⟨14, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x1024x704, .bf16⟩
  | .local _ .vmem, ⟨10, _⟩ => ⟨S4x1024x704, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnBwdRefIdeal.lean ====
abbrev S8192x1024 : Shape := ⟨2, ![8192, 1024]⟩
abbrev S1x1024 : Shape := ⟨2, ![1, 1024]⟩
abbrev S4x8192x704 : Shape := ⟨3, ![4, 8192, 704]⟩
abbrev S4x1024x704 : Shape := ⟨3, ![4, 1024, 704]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S4x704x8192 : Shape := ⟨3, ![4, 704, 8192]⟩
abbrev S4x8192x1024 : Shape := ⟨3, ![4, 8192, 1024]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x8192x704, .bf16⟩
  | .hbm, ⟨4, _⟩ => ⟨S4x8192x704, .bf16⟩
  | .hbm, ⟨5, _⟩ => ⟨S4x1024x704, .bf16⟩
  | .hbm, ⟨6, _⟩ => ⟨S4x1024x704, .bf16⟩
  | .hbm, ⟨7, _⟩ => ⟨S4x704x1024, .bf16⟩
  | .hbm, ⟨8, _⟩ => ⟨S4x8192x704, .f32⟩
  | .hbm, ⟨9, _⟩ => ⟨S4x8192x704, .f32⟩
  | .hbm, ⟨10, _⟩ => ⟨S4x1024x704, .f32⟩
  | .hbm, ⟨11, _⟩ => ⟨S4x1024x704, .f32⟩
  | .hbm, ⟨12, _⟩ => ⟨S4x704x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S4x704x8192, .f32⟩
  | .hbm, ⟨30, _⟩ => ⟨S4x8192x704, .f32⟩
  | .hbm, ⟨31, _⟩ => ⟨S4x8192x704, .f32⟩
  | .hbm, ⟨32, _⟩ => ⟨S4x8192x704, .f32⟩
  | .hbm, ⟨33, _⟩ => ⟨S_, .f32⟩
  | .hbm, ⟨34, _⟩ => ⟨S4x8192x704, .f32⟩
  | .hbm, ⟨35, _⟩ => ⟨S4x8192x704, .f32⟩
  | .hbm, ⟨36, _⟩ => ⟨S_, .f32⟩
  | .hbm, ⟨37, _⟩ => ⟨S4x8192x704, .f32⟩
  | .hbm, ⟨38, _⟩ => ⟨S4x8192x704, .f32⟩
  | .hbm, ⟨39, _⟩ => ⟨S4x8192x704, .f32⟩
  | .hbm, ⟨40, _⟩ => ⟨S_, .f32⟩
  | .hbm, ⟨41, _⟩ => ⟨S4x8192x704, .f32⟩
  | .hbm, ⟨42, _⟩ => ⟨S4x8192x704, .f32⟩
  | .hbm, ⟨43, _⟩ => ⟨S4x8192x704, .f32⟩
  | .hbm, ⟨44, _⟩ => ⟨S_, .f32⟩
  | .hbm, ⟨45, _⟩ => ⟨S4x8192x704, .f32⟩
  | .hbm, ⟨46, _⟩ => ⟨S4x8192x704, .f32⟩
  | .hbm, ⟨47, _⟩ => ⟨S4x8192x704, .f32⟩
  | .hbm, ⟨48, _⟩ => ⟨S4x8192x704, .f32⟩
  | .hbm, ⟨49, _⟩ => ⟨S4x8192x704, .f32⟩
  | .hbm, ⟨50, _⟩ => ⟨S4x8192x704, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S4x8192x704, .bf16⟩
  | .hbm, ⟨72, _⟩ => ⟨S4x8192x704, .bf16⟩
  | .hbm, ⟨73, _⟩ => ⟨S4x8192x704, .f32⟩
  | .hbm, ⟨74, _⟩ => ⟨S4x8192x704, .f32⟩
  | .hbm, ⟨75, _⟩ => ⟨S4x8192x704, .bf16⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S8192x1024, .bf16⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S4x1024x704 : Shape := ⟨3, ![4, 1024, 704]⟩
abbrev S4x704x1024 : Shape := ⟨3, ![4, 704, 1024]⟩
abbrev S4x8192x704 : Shape := ⟨3, ![4, 8192, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S1x704x1024 : Shape := ⟨3, ![1, 704, 1024]⟩
abbrev S704x1024 : Shape := ⟨2, ![704, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S8192x1024, .f32⟩
  | .hbm, ⟨6, _⟩ => ⟨S4x8192x704, .bf16⟩
  | .hbm, ⟨7, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x704, .bf16⟩
  | .local _ .vmem, ⟨4, _⟩ => ⟨S4x1024x704, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S8192x1024 : Shape := ⟨2, ![8192, 1024]⟩
abbrev S1x1024 : Shape := ⟨2, ![1, 1024]⟩
abbrev S4x1024x704 : Shape := ⟨3, ![4, 1024, 704]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S4x704x8192 : Shape := ⟨3, ![4, 704, 8192]⟩
abbrev S4x8192x704 : Shape := ⟨3, ![4, 8192, 704]⟩
abbrev S4x8192x1024 : Shape := ⟨3, ![4, 8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4x1024x704, .f32⟩
  | .hbm, ⟨6, _⟩ => ⟨S4x1024x704, .f32⟩
  | .hbm, ⟨7, _⟩ => ⟨S4x704x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S4x704x8192, .f32⟩
  | .hbm, ⟨24, _⟩ => ⟨S4x8192x704, .f32⟩
  | .hbm, ⟨25, _⟩ => ⟨S4x704x8192, .f32⟩
  | .hbm, ⟨26, _⟩ => ⟨S4x8192x704, .f32⟩
  | .hbm, ⟨27, _⟩ => ⟨S4x8192x704, .f32⟩
  | .hbm, ⟨28, _⟩ => ⟨S4x8192x704, .f32⟩
  | .hbm, ⟨29, _⟩ => ⟨S_, .f32⟩
  | .hbm, ⟨30, _⟩ => ⟨S4x8192x704, .f32⟩
  | .hbm, ⟨31, _⟩ => ⟨S4x8192x704, .f32⟩
  | .hbm, ⟨32, _⟩ => ⟨S_, .f32⟩
  | .hbm, ⟨33, _⟩ => ⟨S4x8192x704, .f32⟩
  | .hbm, ⟨34, _⟩ => ⟨S4x8192x704, .f32⟩
  | .hbm, ⟨35, _⟩ => ⟨S4x8192x704, .f32⟩
  | .hbm, ⟨36, _⟩ => ⟨S4x8192x704, .f32⟩
  | .hbm, ⟨37, _⟩ => ⟨S4x8192x1024, .f32⟩
  | .hbm, ⟨38, _⟩ => ⟨S_, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S4x8192x704, .bf16⟩
  | .hbm, ⟨45, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== DwGate.lean ====
abbrev S1x8192x1024 : Shape := ⟨3, ![1, 8192, 1024]⟩
abbrev S4x8192x704 : Shape := ⟨3, ![4, 8192, 704]⟩
abbrev S4x1024x704 : Shape := ⟨3, ![4, 1024, 704]⟩
abbrev S1x512x1024 : Shape := ⟨3, ![1, 512, 1024]⟩
abbrev S1x512x704 : Shape := ⟨3, ![1, 512, 704]⟩
abbrev S1x1024x704 : Shape := ⟨3, ![1, 1024, 704]⟩
abbrev S1024x704 : Shape := ⟨2, ![1024, 704]⟩
abbrev S512x1024 : Shape := ⟨2, ![512, 1024]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S1x8192x1024, .bf16⟩
  | .hbm, ⟨1, _⟩ => ⟨S4x8192x704, .bf16⟩
  | .hbm, ⟨2, _⟩ => ⟨S4x1024x704, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .f32⟩
  | .local _ .vmem, ⟨5, _⟩ => ⟨S1x1024x704, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwGateIdeal.lean ====
abbrev S1x8192x1024 : Shape := ⟨3, ![1, 8192, 1024]⟩
abbrev S4x8192x704 : Shape := ⟨3, ![4, 8192, 704]⟩
abbrev S4x1024x704 : Shape := ⟨3, ![4, 1024, 704]⟩
abbrev S1x512x1024 : Shape := ⟨3, ![1, 512, 1024]⟩
abbrev S1x512x704 : Shape := ⟨3, ![1, 512, 704]⟩
abbrev S1x1024x704 : Shape := ⟨3, ![1, 1024, 704]⟩
abbrev S1024x704 : Shape := ⟨2, ![1024, 704]⟩
abbrev S512x1024 : Shape := ⟨2, ![512, 1024]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S1x8192x1024, .bf16⟩
  | .hbm, ⟨1, _⟩ => ⟨S4x8192x704, .bf16⟩
  | .hbm, ⟨2, _⟩ => ⟨S4x1024x704, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .f32⟩
  | .local _ .vmem, ⟨5, _⟩ => ⟨S1x1024x704, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwGateRefIdeal.lean ====
abbrev S1x8192x1024 : Shape := ⟨3, ![1, 8192, 1024]⟩
abbrev S4x8192x704 : Shape := ⟨3, ![4, 8192, 704]⟩
abbrev S4x8192x1024 : Shape := ⟨3, ![4, 8192, 1024]⟩
abbrev S4x1024x704 : Shape := ⟨3, ![4, 1024, 704]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S4x8192x704, .bf16⟩
  | .hbm, ⟨2, _⟩ => ⟨S1x8192x1024, .f32⟩
  | .hbm, ⟨3, _⟩ => ⟨S4x8192x1024, .f32⟩
  | .hbm, ⟨4, _⟩ => ⟨S4x8192x704, .f32⟩
  | .hbm, ⟨5, _⟩ => ⟨S4x1024x704, .f32⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwDown.lean ====
abbrev S4x8192x704 : Shape := ⟨3, ![4, 8192, 704]⟩
abbrev S1x8192x1024 : Shape := ⟨3, ![1, 8192, 1024]⟩
abbrev S4x704x1024 : Shape := ⟨3, ![4, 704, 1024]⟩
abbrev S1x512x704 : Shape := ⟨3, ![1, 512, 704]⟩
abbrev S1x512x1024 : Shape := ⟨3, ![1, 512, 1024]⟩
abbrev S1x704x1024 : Shape := ⟨3, ![1, 704, 1024]⟩
abbrev S704x1024 : Shape := ⟨2, ![704, 1024]⟩
abbrev S512x704 : Shape := ⟨2, ![512, 704]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S1x8192x1024, .bf16⟩
  | .hbm, ⟨2, _⟩ => ⟨S4x704x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownIdeal.lean ====
abbrev S4x8192x704 : Shape := ⟨3, ![4, 8192, 704]⟩
abbrev S1x8192x1024 : Shape := ⟨3, ![1, 8192, 1024]⟩
abbrev S4x704x1024 : Shape := ⟨3, ![4, 704, 1024]⟩
abbrev S1x512x704 : Shape := ⟨3, ![1, 512, 704]⟩
abbrev S1x512x1024 : Shape := ⟨3, ![1, 512, 1024]⟩
abbrev S1x704x1024 : Shape := ⟨3, ![1, 704, 1024]⟩
abbrev S704x1024 : Shape := ⟨2, ![704, 1024]⟩
abbrev S512x704 : Shape := ⟨2, ![512, 704]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S1x8192x1024, .bf16⟩
  | .hbm, ⟨2, _⟩ => ⟨S4x704x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S4x8192x704 : Shape := ⟨3, ![4, 8192, 704]⟩
abbrev S1x8192x1024 : Shape := ⟨3, ![1, 8192, 1024]⟩
abbrev S4x8192x1024 : Shape := ⟨3, ![4, 8192, 1024]⟩
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S1x8192x1024, .bf16⟩
  | .hbm, ⟨2, _⟩ => ⟨S4x8192x704, .f32⟩
  | .hbm, ⟨3, _⟩ => ⟨S1x8192x1024, .f32⟩
  | .hbm, ⟨4, _⟩ => ⟨S4x8192x1024, .f32⟩
  | .hbm, ⟨5, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwOut.lean ====
abbrev S1x8192x1024 : Shape := ⟨3, ![1, 8192, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .f32⟩
  | .hbm, ⟨2, _⟩ => ⟨S1x1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024x1024, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwOutIdeal.lean ====
abbrev S1x8192x1024 : Shape := ⟨3, ![1, 8192, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .f32⟩
  | .hbm, ⟨2, _⟩ => ⟨S1x1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024x1024, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwOutRefIdeal.lean ====
abbrev S1x8192x1024 : Shape := ⟨3, ![1, 8192, 1024]⟩
abbrev S1x1024x1024 : Shape := ⟨3, ![1, 1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .f32⟩
  | .hbm, ⟨2, _⟩ => ⟨S1x8192x1024, .f32⟩
  | .hbm, ⟨3, _⟩ => ⟨S1x1024x1024, .f32⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwAttn.lean ====
abbrev S1x8192x256 : Shape := ⟨3, ![1, 8192, 256]⟩
abbrev S1x8192x1024 : Shape := ⟨3, ![1, 8192, 1024]⟩
abbrev S1x256x1024 : Shape := ⟨3, ![1, 256, 1024]⟩
abbrev S1x512x256 : Shape := ⟨3, ![1, 512, 256]⟩
abbrev S1x512x1024 : Shape := ⟨3, ![1, 512, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x256, .f32⟩
  | .hbm, ⟨1, _⟩ => ⟨S1x8192x1024, .bf16⟩
  | .hbm, ⟨2, _⟩ => ⟨S1x256x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x1024, .bf16⟩
  | .local _ .vmem, ⟨3, _⟩ => ⟨S1x512x1024, .bf16⟩
  | .local _ .vmem, ⟨4, _⟩ => ⟨S1x256x1024, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwAttnIdeal.lean ====
abbrev S1x8192x256 : Shape := ⟨3, ![1, 8192, 256]⟩
abbrev S1x8192x1024 : Shape := ⟨3, ![1, 8192, 1024]⟩
abbrev S1x256x1024 : Shape := ⟨3, ![1, 256, 1024]⟩
abbrev S1x512x256 : Shape := ⟨3, ![1, 512, 256]⟩
abbrev S1x512x1024 : Shape := ⟨3, ![1, 512, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x256, .f32⟩
  | .hbm, ⟨1, _⟩ => ⟨S1x8192x1024, .bf16⟩
  | .hbm, ⟨2, _⟩ => ⟨S1x256x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x1024, .bf16⟩
  | .local _ .vmem, ⟨3, _⟩ => ⟨S1x512x1024, .bf16⟩
  | .local _ .vmem, ⟨4, _⟩ => ⟨S1x256x1024, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwAttnRefIdeal.lean ====
abbrev S1x8192x256 : Shape := ⟨3, ![1, 8192, 256]⟩
abbrev S1x8192x1024 : Shape := ⟨3, ![1, 8192, 1024]⟩
abbrev S1x256x1024 : Shape := ⟨3, ![1, 256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1x8192x256, .f32⟩
  | .hbm, ⟨1, _⟩ => ⟨S1x8192x1024, .bf16⟩
  | .hbm, ⟨2, _⟩ => ⟨S1x8192x1024, .f32⟩
  | .hbm, ⟨3, _⟩ => ⟨S1x256x1024, .f32⟩
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwSsm.lean ====
abbrev S1x8192x512 : Shape := ⟨3, ![1, 8192, 512]⟩
abbrev S1x8192x1024 : Shape := ⟨3, ![1, 8192, 1024]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x512, .bf16⟩
  | .hbm, ⟨1, _⟩ => ⟨S1x8192x1024, .bf16⟩
  | .hbm, ⟨2, _⟩ => ⟨S1x512x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | _, _ => ⟨S1x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwSsmIdeal.lean ====
abbrev S1x8192x512 : Shape := ⟨3, ![1, 8192, 512]⟩
abbrev S1x8192x1024 : Shape := ⟨3, ![1, 8192, 1024]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x512, .bf16⟩
  | .hbm, ⟨1, _⟩ => ⟨S1x8192x1024, .bf16⟩
  | .hbm, ⟨2, _⟩ => ⟨S1x512x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | _, _ => ⟨S1x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwSsmRefIdeal.lean ====
abbrev S1x8192x512 : Shape := ⟨3, ![1, 8192, 512]⟩
abbrev S1x8192x1024 : Shape := ⟨3, ![1, 8192, 1024]⟩
abbrev S1x512x1024 : Shape := ⟨3, ![1, 512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x512, .bf16⟩
  | .hbm, ⟨1, _⟩ => ⟨S1x8192x1024, .bf16⟩
  | .hbm, ⟨2, _⟩ => ⟨S1x8192x512, .f32⟩
  | .hbm, ⟨3, _⟩ => ⟨S1x8192x1024, .f32⟩
  | .hbm, ⟨4, _⟩ => ⟨S1x512x1024, .f32⟩
  | _, _ => ⟨S1x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S1x8192x1024 : Shape := ⟨3, ![1, 8192, 1024]⟩
abbrev S1x8192x4864 : Shape := ⟨3, ![1, 8192, 4864]⟩
abbrev S1x1024x4864 : Shape := ⟨3, ![1, 1024, 4864]⟩
abbrev S1x512x1024 : Shape := ⟨3, ![1, 512, 1024]⟩
abbrev S1x512x4864 : Shape := ⟨3, ![1, 512, 4864]⟩
abbrev S1024x4864 : Shape := ⟨2, ![1024, 4864]⟩
abbrev S512x1024 : Shape := ⟨2, ![512, 1024]⟩
abbrev S512x4864 : Shape := ⟨2, ![512, 4864]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x4864, .bf16⟩
  | .hbm, ⟨2, _⟩ => ⟨S1x1024x4864, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x4864, .bf16⟩
  | .local _ .vmem, ⟨3, _⟩ => ⟨S1x512x4864, .bf16⟩
  | .local _ .vmem, ⟨4, _⟩ => ⟨S1x1024x4864, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4864 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x4864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwInRefIdeal.lean ====
abbrev S1x8192x1024 : Shape := ⟨3, ![1, 8192, 1024]⟩
abbrev S1x8192x4864 : Shape := ⟨3, ![1, 8192, 4864]⟩
abbrev S1x1024x4864 : Shape := ⟨3, ![1, 1024, 4864]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x4864, .bf16⟩
  | .hbm, ⟨2, _⟩ => ⟨S1x8192x1024, .f32⟩
  | .hbm, ⟨3, _⟩ => ⟨S1x8192x4864, .f32⟩
  | .hbm, ⟨4, _⟩ => ⟨S1x1024x4864, .f32⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8x128, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== MixInFwd.lean ====
abbrev S8192x1024 : Shape := ⟨2, ![8192, 1024]⟩
abbrev S1x1024 : Shape := ⟨2, ![1, 1024]⟩
abbrev S1024x4864 : Shape := ⟨2, ![1024, 4864]⟩
abbrev S1x2048 : Shape := ⟨2, ![1, 2048]⟩
abbrev S8192x768 : Shape := ⟨2, ![8192, 768]⟩
abbrev S8192x512 : Shape := ⟨2, ![8192, 512]⟩
abbrev S8192x2048 : Shape := ⟨2, ![8192, 2048]⟩
abbrev S512x1024 : Shape := ⟨2, ![512, 1024]⟩
abbrev S512x768 : Shape := ⟨2, ![512, 768]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x768 : Shape := ⟨2, ![1024, 768]⟩
abbrev S1024x512 : Shape := ⟨2, ![1024, 512]⟩
abbrev S1024x2048 : Shape := ⟨2, ![1024, 2048]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4864, .bf16⟩
  | .hbm, ⟨3, _⟩ => ⟨S1x2048, .f32⟩
  | .hbm, ⟨4, _⟩ => ⟨S8192x768, .bf16⟩
  | .hbm, ⟨5, _⟩ => ⟨S8192x768, .bf16⟩
  | .hbm, ⟨6, _⟩ => ⟨S8192x768, .bf16⟩
  | .hbm, ⟨7, _⟩ => ⟨S8192x512, .f32⟩
  | .hbm, ⟨8, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4864, .bf16⟩
  | .local _ .vmem, ⟨4, _⟩ => ⟨S1x2048, .f32⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x512, .f32⟩
  | .local _ .vmem, ⟨12, _⟩ => ⟨S512x512, .f32⟩
  | .local _ .vmem, ⟨13, _⟩ => ⟨S512x2048, .f32⟩
  | .local _ .vmem, ⟨14, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixInFwdRefIdeal.lean ====
abbrev S8192x1024 : Shape := ⟨2, ![8192, 1024]⟩
abbrev S1x1024 : Shape := ⟨2, ![1, 1024]⟩
abbrev S1024x4864 : Shape := ⟨2, ![1024, 4864]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x4864 : Shape := ⟨2, ![8192, 4864]⟩
abbrev S8192x768 : Shape := ⟨2, ![8192, 768]⟩
abbrev S8192x512 : Shape := ⟨2, ![8192, 512]⟩
abbrev S8192x2048 : Shape := ⟨2, ![8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4864, .bf16⟩
  | .hbm, ⟨3, _⟩ => ⟨S1x2048, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x4864, .f32⟩
  | .hbm, ⟨20, _⟩ => ⟨S8192x4864, .f32⟩
  | .hbm, ⟨21, _⟩ => ⟨S8192x768, .f32⟩
  | .hbm, ⟨22, _⟩ => ⟨S8192x768, .f32⟩
  | .hbm, ⟨23, _⟩ => ⟨S8192x768, .f32⟩
  | .hbm, ⟨24, _⟩ => ⟨S8192x512, .f32⟩
  | .hbm, ⟨25, _⟩ => ⟨S8192x2048, .f32⟩
  | .hbm, ⟨26, _⟩ => ⟨S_, .f32⟩
  | .hbm, ⟨27, _⟩ => ⟨S8192x768, .f32⟩
  | .hbm, ⟨28, _⟩ => ⟨S8192x768, .f32⟩
  | .hbm, ⟨29, _⟩ => ⟨S8192x768, .bf16⟩
  | .hbm, ⟨30, _⟩ => ⟨S8192x768, .bf16⟩
  | .hbm, ⟨31, _⟩ => ⟨S8192x768, .bf16⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== MixInBwd.lean ====
abbrev S8192x1024 : Shape := ⟨2, ![8192, 1024]⟩
abbrev S1x1024 : Shape := ⟨2, ![1, 1024]⟩
abbrev S8192x4864 : Shape := ⟨2, ![8192, 4864]⟩
abbrev S1024x4864 : Shape := ⟨2, ![1024, 4864]⟩
abbrev S512x1024 : Shape := ⟨2, ![512, 1024]⟩
abbrev S512x4864 : Shape := ⟨2, ![512, 4864]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x4864, .bf16⟩
  | .hbm, ⟨4, _⟩ => ⟨S1024x4864, .bf16⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x4864, .bf16⟩
  | .local _ .vmem, ⟨6, _⟩ => ⟨S512x4864, .bf16⟩
  | .local _ .vmem, ⟨7, _⟩ => ⟨S1024x4864, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4864 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInBwdRefIdeal.lean ====
abbrev S8192x1024 : Shape := ⟨2, ![8192, 1024]⟩
abbrev S1x1024 : Shape := ⟨2, ![1, 1024]⟩
abbrev S8192x4864 : Shape := ⟨2, ![8192, 4864]⟩
abbrev S1024x4864 : Shape := ⟨2, ![1024, 4864]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x4864, .bf16⟩
  | .hbm, ⟨4, _⟩ => ⟨S1024x4864, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x4864, .f32⟩
  | .hbm, ⟨19, _⟩ => ⟨S1024x4864, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== MixOutFwd.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S256x1024 : Shape := ⟨2, ![256, 1024]⟩
abbrev S512x1024 : Shape := ⟨2, ![512, 1024]⟩
abbrev S1024x1024 : Shape := ⟨2, ![1024, 1024]⟩
abbrev S512x256 : Shape := ⟨2, ![512, 256]⟩
abbrev S512x512 : Shape := ⟨2, ![512, 512]⟩
abbrev S512x2048 : Shape := ⟨2, ![512, 2048]⟩

abbrev nBuf : Space → Nat
  | .hbm => 16
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x512, .f32⟩
  | .hbm, ⟨8, _⟩ => ⟨S8192x2048, .f32⟩
  | .hbm, ⟨9, _⟩ => ⟨S256x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S8192x1024, .f32⟩
  | .hbm, ⟨14, _⟩ => ⟨S8192x256, .f32⟩
  | .hbm, ⟨15, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x2048, .f32⟩
  | .local _ .vmem, ⟨17, _⟩ => ⟨S512x2048, .f32⟩
  | .local _ .vmem, ⟨18, _⟩ => ⟨S256x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixOutFwdRefIdeal.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x512, .f32⟩
  | .hbm, ⟨8, _⟩ => ⟨S8192x2048, .f32⟩
  | .hbm, ⟨9, _⟩ => ⟨S256x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S256x1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x1024, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x256, .f32⟩
  | .hbm, ⟨72, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== MixOutBwd.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S256x1024 : Shape := ⟨2, ![256, 1024]⟩
abbrev S512x1024 : Shape := ⟨2, ![512, 1024]⟩
abbrev S1024x1024 : Shape := ⟨2, ![1024, 1024]⟩
abbrev S256x256 : Shape := ⟨2, ![256, 256]⟩
abbrev S1x2048 : Shape := ⟨2, ![1, 2048]⟩
abbrev S512x256 : Shape := ⟨2, ![512, 256]⟩
abbrev S512x512 : Shape := ⟨2, ![512, 512]⟩
abbrev S512x2048 : Shape := ⟨2, ![512, 2048]⟩
abbrev S2048 : Shape := ⟨1, ![2048]⟩

abbrev nBuf : Space → Nat
  | .hbm => 20
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S256x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S256x256, .f32⟩
  | .hbm, ⟨9, _⟩ => ⟨S8192x256, .bf16⟩
  | .hbm, ⟨10, _⟩ => ⟨S8192x256, .f32⟩
  | .hbm, ⟨11, _⟩ => ⟨S8192x512, .f32⟩
  | .hbm, ⟨12, _⟩ => ⟨S8192x2048, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x512, .bf16⟩
  | .hbm, ⟨17, _⟩ => ⟨S8192x512, .bf16⟩
  | .hbm, ⟨18, _⟩ => ⟨S8192x1024, .bf16⟩
  | .hbm, ⟨19, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S256x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S256x256, .f32⟩
  | .local _ .vmem, ⟨13, _⟩ => ⟨S512x256, .bf16⟩
  | .local _ .vmem, ⟨14, _⟩ => ⟨S512x256, .bf16⟩
  | .local _ .vmem, ⟨15, _⟩ => ⟨S512x256, .f32⟩
  | .local _ .vmem, ⟨16, _⟩ => ⟨S512x256, .f32⟩
  | .local _ .vmem, ⟨17, _⟩ => ⟨S512x512, .f32⟩
  | .local _ .vmem, ⟨18, _⟩ => ⟨S512x512, .f32⟩
  | .local _ .vmem, ⟨19, _⟩ => ⟨S512x2048, .bf16⟩
  | .local _ .vmem, ⟨20, _⟩ => ⟨S512x2048, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x1024, .bf16⟩
  | .local _ .vmem, ⟨32, _⟩ => ⟨S512x1024, .bf16⟩
  | .local _ .vmem, ⟨33, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_v0_10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MixOutBwdRefIdeal.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S256x1024 : Shape := ⟨2, ![256, 1024]⟩
abbrev S512x1024 : Shape := ⟨2, ![512, 1024]⟩
abbrev S1024x1024 : Shape := ⟨2, ![1024, 1024]⟩
abbrev S256x256 : Shape := ⟨2, ![256, 256]⟩
abbrev S_ : Shape := ⟨0, ![]⟩
abbrev S2048 : Shape := ⟨1, ![2048]⟩
abbrev S1x2048 : Shape := ⟨2, ![1, 2048]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S256x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S256x256, .f32⟩
  | .hbm, ⟨9, _⟩ => ⟨S256x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x1024, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192x512, .f32⟩
  | .hbm, ⟨66, _⟩ => ⟨S8192x512, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x512, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x2048, .f32⟩
  | .hbm, ⟨86, _⟩ => ⟨S8192x1024, .f32⟩
  | .hbm, ⟨87, _⟩ => ⟨S8192x1024, .f32⟩
  | .hbm, ⟨88, _⟩ => ⟨S8192x256, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x1024, .f32⟩
  | .hbm, ⟨98, _⟩ => ⟨S8192x512, .f32⟩
  | .hbm, ⟨99, _⟩ => ⟨S8192x512, .f32⟩
  | .hbm, ⟨100, _⟩ => ⟨S8192x256, .bf16⟩
  | .hbm, ⟨101, _⟩ => ⟨S8192x256, .f32⟩
  | .hbm, ⟨102, _⟩ => ⟨S8192x256, .f32⟩
  | .hbm, ⟨103, _⟩ => ⟨S8192x2048, .bf16⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .bf16⟩
  | .hbm, ⟨108, _⟩ => ⟨S8192x1024, .bf16⟩
  | .hbm, ⟨109, _⟩ => ⟨S8192x1024, .bf16⟩
  | .hbm, ⟨110, _⟩ => ⟨S8192x512, .f32⟩
  | .hbm, ⟨111, _⟩ => ⟨S8192x512, .bf16⟩
  | .hbm, ⟨112, _⟩ => ⟨S8192x512, .bf16⟩
  | .hbm, ⟨113, _⟩ => ⟨S8192x1024, .bf16⟩
  | .hbm, ⟨114, _⟩ => ⟨S_, .f32⟩
  | .hbm, ⟨115, _⟩ => ⟨S2048, .f32⟩
  | .hbm, ⟨116, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Attn0.lean ====
abbrev S8192x768 : Shape := ⟨2, ![8192, 768]⟩
abbrev S4x128x256 : Shape := ⟨3, ![4, 128, 256]⟩
abbrev S8192x256 : Shape := ⟨2, ![8192, 256]⟩
abbrev S128x256 : Shape := ⟨2, ![128, 256]⟩
abbrev S256x256 : Shape := ⟨2, ![256, 256]⟩
abbrev S1x128x256 : Shape := ⟨3, ![1, 128, 256]⟩
abbrev S128 : Shape := ⟨1, ![128]⟩
abbrev S128x1 : Shape := ⟨2, ![128, 1]⟩

abbrev nBuf : Space → Nat
  | .hbm => 6
  | .vmem => 15
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S4x128x256, .f32⟩
  | .hbm, ⟨4, _⟩ => ⟨S8192x256, .f32⟩
  | .hbm, ⟨5, _⟩ => ⟨S8192x256, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c0_i32_0 : BitVec 32 := 0#32
  let v3 : BitVec 32 := Scalar.addi v2 c0_i32_0
  let c0_i32_1 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  let v1 : BitVec 32 := Scalar.addi v0 c0_i32
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c0_i32_0 : BitVec 32 := 0#32
  let v3 : BitVec 32 := Scalar.addi v2 c0_i32_0
  let c0_i32_1 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  let v1 : BitVec 32 := Scalar.addi v0 c0_i32
  let c0_i32_0 : BitVec 32 := 0#32
  ![arg1.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attn0Ideal.lean ====
abbrev S8192x768 : Shape := ⟨2, ![8192, 768]⟩
abbrev S4x128x256 : Shape := ⟨3, ![4, 128, 256]⟩
abbrev S8192x256 : Shape := ⟨2, ![8192, 256]⟩
abbrev S128x256 : Shape := ⟨2, ![128, 256]⟩
abbrev S256x256 : Shape := ⟨2, ![256, 256]⟩
abbrev S1x128x256 : Shape := ⟨3, ![1, 128, 256]⟩
abbrev S128 : Shape := ⟨1, ![128]⟩
abbrev S128x1 : Shape := ⟨2, ![128, 1]⟩

abbrev nBuf : Space → Nat
  | .hbm => 6
  | .vmem => 15
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S4x128x256, .f32⟩
  | .hbm, ⟨4, _⟩ => ⟨S8192x256, .f32⟩
  | .hbm, ⟨5, _⟩ => ⟨S8192x256, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c0_i32_0 : BitVec 32 := 0#32
  let v3 : BitVec 32 := Scalar.addi v2 c0_i32_0
  let c0_i32_1 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  let v1 : BitVec 32 := Scalar.addi v0 c0_i32
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c0_i32_0 : BitVec 32 := 0#32
  let v3 : BitVec 32 := Scalar.addi v2 c0_i32_0
  let c0_i32_1 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  let v1 : BitVec 32 := Scalar.addi v0 c0_i32
  let c0_i32_0 : BitVec 32 := 0#32
  ![arg1.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attn0RefIdeal.lean ====
abbrev S8192x768 : Shape := ⟨2, ![8192, 768]⟩
abbrev S4x128x256 : Shape := ⟨3, ![4, 128, 256]⟩
abbrev S8192x256 : Shape := ⟨2, ![8192, 256]⟩
abbrev S64x128x1x4x64 : Shape := ⟨5, ![64, 128, 1, 4, 64]⟩
abbrev S1x128x1x4x64 : Shape := ⟨5, ![1, 128, 1, 4, 64]⟩
abbrev S63x128x1x4x64 : Shape := ⟨5, ![63, 128, 1, 4, 64]⟩
abbrev S64x256x1x4x64 : Shape := ⟨5, ![64, 256, 1, 4, 64]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S_ : Shape := ⟨0, ![]⟩
abbrev S64x1x256 : Shape := ⟨3, ![64, 1, 256]⟩
abbrev S64x128x256 : Shape := ⟨3, ![64, 128, 256]⟩
abbrev S64x1x4x128x256 : Shape := ⟨5, ![64, 1, 4, 128, 256]⟩
abbrev S1x1x4x128x256 : Shape := ⟨5, ![1, 1, 4, 128, 256]⟩
abbrev S64x1x1x128x256 : Shape := ⟨5, ![64, 1, 1, 128, 256]⟩
abbrev S64x1x4x128 : Shape := ⟨4, ![64, 1, 4, 128]⟩
abbrev S64x1x4x128x1 : Shape := ⟨5, ![64, 1, 4, 128, 1]⟩
abbrev S64x1x4x64x128 : Shape := ⟨5, ![64, 1, 4, 64, 128]⟩
abbrev S64x128x1x4 : Shape := ⟨4, ![64, 128, 1, 4]⟩
abbrev S64x128x1x4x1 : Shape := ⟨5, ![64, 128, 1, 4, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S4x128x256, .f32⟩
  | .hbm, ⟨4, _⟩ => ⟨S8192x256, .bf16⟩
  | .hbm, ⟨5, _⟩ => ⟨S8192x256, .f32⟩
  | .hbm, ⟨6, _⟩ => ⟨S64x128x1x4x64, .f32⟩
  | .hbm, ⟨7, _⟩ => ⟨S8192x256, .bf16⟩
  | .hbm, ⟨8, _⟩ => ⟨S8192x256, .f32⟩
  | .hbm, ⟨9, _⟩ => ⟨S64x128x1x4x64, .f32⟩
  | .hbm, ⟨10, _⟩ => ⟨S1x128x1x4x64, .f32⟩
  | .hbm, ⟨11, _⟩ => ⟨S63x128x1x4x64, .f32⟩
  | .hbm, ⟨12, _⟩ => ⟨S64x128x1x4x64, .f32⟩
  | .hbm, ⟨13, _⟩ => ⟨S64x256x1x4x64, .f32⟩
  | .hbm, ⟨14, _⟩ => ⟨S8192x256, .bf16⟩
  | .hbm, ⟨15, _⟩ => ⟨S8192x256, .f32⟩
  | .hbm, ⟨16, _⟩ => ⟨S64x128x1x4x64, .f32⟩
  | .hbm, ⟨17, _⟩ => ⟨S1x128x1x4x64, .f32⟩
  | .hbm, ⟨18, _⟩ => ⟨S63x128x1x4x64, .f32⟩
  | .hbm, ⟨19, _⟩ => ⟨S64x128x1x4x64, .f32⟩
  | .hbm, ⟨20, _⟩ => ⟨S64x256x1x4x64, .f32⟩
  | .hbm, ⟨21, _⟩ => ⟨S64, .i32⟩
  | .hbm, ⟨22, _⟩ => ⟨S64x1x1, .i32⟩
  | .hbm, ⟨23, _⟩ => ⟨S128, .i32⟩
  | .hbm, ⟨24, _⟩ => ⟨S1x128x1, .i32⟩
  | .hbm, ⟨25, _⟩ => ⟨S256, .i32⟩
  | .hbm, ⟨26, _⟩ => ⟨S1x1x256, .i32⟩
  | .hbm, ⟨27, _⟩ => ⟨S1x128x256, .i32⟩
  | .hbm, ⟨28, _⟩ => ⟨S1x128x256, .i32⟩
  | .hbm, ⟨29, _⟩ => ⟨S1x128x256, .i1⟩
  | .hbm, ⟨30, _⟩ => ⟨S_, .i32⟩
  | .hbm, ⟨31, _⟩ => ⟨S1x128x1, .i32⟩
  | .hbm, ⟨32, _⟩ => ⟨S1x128x1, .i32⟩
  | .hbm, ⟨33, _⟩ => ⟨S1x128x256, .i32⟩
  | .hbm, ⟨34, _⟩ => ⟨S1x128x256, .i32⟩
  | .hbm, ⟨35, _⟩ => ⟨S1x128x256, .i1⟩
  | .hbm, ⟨36, _⟩ => ⟨S1x128x256, .i1⟩
  | .hbm, ⟨37, _⟩ => ⟨S_, .i32⟩
  | .hbm, ⟨38, _⟩ => ⟨S64x1x1, .i32⟩
  | .hbm, ⟨39, _⟩ => ⟨S64x1x1, .i1⟩
  | .hbm, ⟨40, _⟩ => ⟨S_, .i32⟩
  | .hbm, ⟨41, _⟩ => ⟨S1x1x256, .i32⟩
  | .hbm, ⟨42, _⟩ => ⟨S1x1x256, .i1⟩
  | .hbm, ⟨43, _⟩ => ⟨S64x1x256, .i1⟩
  | .hbm, ⟨44, _⟩ => ⟨S64x1x256, .i1⟩
  | .hbm, ⟨45, _⟩ => ⟨S64x1x256, .i1⟩
  | .hbm, ⟨46, _⟩ => ⟨S64x128x256, .i1⟩
  | .hbm, ⟨47, _⟩ => ⟨S64x128x256, .i1⟩
  | .hbm, ⟨48, _⟩ => ⟨S64x128x256, .i1⟩
  | .hbm, ⟨49, _⟩ => ⟨S64x1x4x128x256, .f32⟩
  | .hbm, ⟨50, _⟩ => ⟨S1x1x4x128x256, .f32⟩
  | .hbm, ⟨51, _⟩ => ⟨S64x1x4x128x256, .f32⟩
  | .hbm, ⟨52, _⟩ => ⟨S64x1x4x128x256, .f32⟩
  | .hbm, ⟨53, _⟩ => ⟨S64x1x1x128x256, .i1⟩
  | .hbm, ⟨54, _⟩ => ⟨S_, .f32⟩
  | .hbm, ⟨55, _⟩ => ⟨S_, .f32⟩
  | .hbm, ⟨56, _⟩ => ⟨S64x1x4x128x256, .i1⟩
  | .hbm, ⟨57, _⟩ => ⟨S64x1x4x128x256, .f32⟩
  | .hbm, ⟨58, _⟩ => ⟨S64x1x4x128x256, .f32⟩
  | .hbm, ⟨59, _⟩ => ⟨S_, .f32⟩
  | .hbm, ⟨60, _⟩ => ⟨S64x1x4x128, .f32⟩
  | .hbm, ⟨61, _⟩ => ⟨S64x1x4x128x1, .f32⟩
  | .hbm, ⟨62, _⟩ => ⟨S64x1x4x128x256, .f32⟩
  | .hbm, ⟨63, _⟩ => ⟨S64x1x4x128x256, .f32⟩
  | .hbm, ⟨64, _⟩ => ⟨S64x1x4x128x256, .f32⟩
  | .hbm, ⟨65, _⟩ => ⟨S_, .f32⟩
  | .hbm, ⟨66, _⟩ => ⟨S64x1x4x128, .f32⟩
  | .hbm, ⟨67, _⟩ => ⟨S64x1x4x64x128, .f32⟩
  | .hbm, ⟨68, _⟩ => ⟨S64x128x1x4x64, .f32⟩
  | .hbm, ⟨69, _⟩ => ⟨S64x128x1x4, .f32⟩
  | .hbm, ⟨70, _⟩ => ⟨S64x128x1x4x1, .f32⟩
  | .hbm, ⟨71, _⟩ => ⟨S64x128x1x4x64, .f32⟩
  | .hbm, ⟨72, _⟩ => ⟨S64x128x1x4x64, .f32⟩
  | .hbm, ⟨73, _⟩ => ⟨S64x1x4x128, .f32⟩
  | .hbm, ⟨74, _⟩ => ⟨S64x1x4x128, .f32⟩
  | .hbm, ⟨75, _⟩ => ⟨S64x1x4x128, .f32⟩
  | .hbm, ⟨76, _⟩ => ⟨S64x128x1x4, .f32⟩
  | .hbm, ⟨77, _⟩ => ⟨S8192x256, .f32⟩
  | .hbm, ⟨78, _⟩ => ⟨S64x128x1x4x1, .f32⟩
  | .hbm, ⟨79, _⟩ => ⟨S64x128x1x4x64, .f32⟩
  | .hbm, ⟨80, _⟩ => ⟨S8192x256, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_0 : Ref sig .tc := ⟨.hbm, 37, rfl⟩
abbrev main_v32 : Ref sig .tc := ⟨.hbm, 38, rfl⟩
abbrev main_v33 : Ref sig .tc := ⟨.hbm, 39, rfl⟩
abbrev main_c_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Attn1.lean ====
abbrev S8192x768 : Shape := ⟨2, ![8192, 768]⟩
abbrev S4x128x256 : Shape := ⟨3, ![4, 128, 256]⟩
abbrev S2048x3072 : Shape := ⟨2, ![2048, 3072]⟩
abbrev S2048x1024 : Shape := ⟨2, ![2048, 1024]⟩
abbrev S128x256 : Shape := ⟨2, ![128, 256]⟩
abbrev S256x256 : Shape := ⟨2, ![256, 256]⟩
abbrev S1x128x256 : Shape := ⟨3, ![1, 128, 256]⟩
abbrev S128 : Shape := ⟨1, ![128]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S4x128x256, .f32⟩
  | .hbm, ⟨4, _⟩ => ⟨S2048x3072, .bf16⟩
  | .hbm, ⟨5, _⟩ => ⟨S2048x3072, .bf16⟩
  | .hbm, ⟨6, _⟩ => ⟨S2048x3072, .bf16⟩
  | .hbm, ⟨7, _⟩ => ⟨S2048x1024, .f32⟩
  | .hbm, ⟨8, _⟩ => ⟨S2048x1024, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c1_i32_0 : BitVec 32 := 1#32
  let v3 : BitVec 32 := Scalar.addi v2 c1_i32_0
  let c0_i32_1 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c1_i32_0 : BitVec 32 := 1#32
  let v3 : BitVec 32 := Scalar.addi v2 c1_i32_0
  let c0_i32_1 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  ![arg1.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attn1Ideal.lean ====
abbrev S8192x768 : Shape := ⟨2, ![8192, 768]⟩
abbrev S4x128x256 : Shape := ⟨3, ![4, 128, 256]⟩
abbrev S2048x3072 : Shape := ⟨2, ![2048, 3072]⟩
abbrev S2048x1024 : Shape := ⟨2, ![2048, 1024]⟩
abbrev S128x256 : Shape := ⟨2, ![128, 256]⟩
abbrev S256x256 : Shape := ⟨2, ![256, 256]⟩
abbrev S1x128x256 : Shape := ⟨3, ![1, 128, 256]⟩
abbrev S128 : Shape := ⟨1, ![128]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S4x128x256, .f32⟩
  | .hbm, ⟨4, _⟩ => ⟨S2048x3072, .bf16⟩
  | .hbm, ⟨5, _⟩ => ⟨S2048x3072, .bf16⟩
  | .hbm, ⟨6, _⟩ => ⟨S2048x3072, .bf16⟩
  | .hbm, ⟨7, _⟩ => ⟨S2048x1024, .f32⟩
  | .hbm, ⟨8, _⟩ => ⟨S2048x1024, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c1_i32_0 : BitVec 32 := 1#32
  let v3 : BitVec 32 := Scalar.addi v2 c1_i32_0
  let c0_i32_1 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c1_i32_0 : BitVec 32 := 1#32
  let v3 : BitVec 32 := Scalar.addi v2 c1_i32_0
  let c0_i32_1 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  ![arg1.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attn1RefIdeal.lean ====
abbrev S8192x768 : Shape := ⟨2, ![8192, 768]⟩
abbrev S4x128x256 : Shape := ⟨3, ![4, 128, 256]⟩
abbrev S8192x256 : Shape := ⟨2, ![8192, 256]⟩
abbrev S16x128x4x4x64 : Shape := ⟨5, ![16, 128, 4, 4, 64]⟩
abbrev S1x128x4x4x64 : Shape := ⟨5, ![1, 128, 4, 4, 64]⟩
abbrev S15x128x4x4x64 : Shape := ⟨5, ![15, 128, 4, 4, 64]⟩
abbrev S16x256x4x4x64 : Shape := ⟨5, ![16, 256, 4, 4, 64]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S_ : Shape := ⟨0, ![]⟩
abbrev S16x1x256 : Shape := ⟨3, ![16, 1, 256]⟩
abbrev S16x128x256 : Shape := ⟨3, ![16, 128, 256]⟩
abbrev S16x4x4x128x256 : Shape := ⟨5, ![16, 4, 4, 128, 256]⟩
abbrev S1x1x4x128x256 : Shape := ⟨5, ![1, 1, 4, 128, 256]⟩
abbrev S16x1x1x128x256 : Shape := ⟨5, ![16, 1, 1, 128, 256]⟩
abbrev S16x4x4x128 : Shape := ⟨4, ![16, 4, 4, 128]⟩
abbrev S16x4x4x128x1 : Shape := ⟨5, ![16, 4, 4, 128, 1]⟩
abbrev S16x4x4x64x128 : Shape := ⟨5, ![16, 4, 4, 64, 128]⟩
abbrev S16x128x4x4 : Shape := ⟨4, ![16, 128, 4, 4]⟩
abbrev S16x128x4x4x1 : Shape := ⟨5, ![16, 128, 4, 4, 1]⟩
abbrev S2048x1024 : Shape := ⟨2, ![2048, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S4x128x256, .f32⟩
  | .hbm, ⟨4, _⟩ => ⟨S8192x256, .bf16⟩
  | .hbm, ⟨5, _⟩ => ⟨S8192x256, .f32⟩
  | .hbm, ⟨6, _⟩ => ⟨S16x128x4x4x64, .f32⟩
  | .hbm, ⟨7, _⟩ => ⟨S8192x256, .bf16⟩
  | .hbm, ⟨8, _⟩ => ⟨S8192x256, .f32⟩
  | .hbm, ⟨9, _⟩ => ⟨S16x128x4x4x64, .f32⟩
  | .hbm, ⟨10, _⟩ => ⟨S1x128x4x4x64, .f32⟩
  | .hbm, ⟨11, _⟩ => ⟨S15x128x4x4x64, .f32⟩
  | .hbm, ⟨12, _⟩ => ⟨S16x128x4x4x64, .f32⟩
  | .hbm, ⟨13, _⟩ => ⟨S16x256x4x4x64, .f32⟩
  | .hbm, ⟨14, _⟩ => ⟨S8192x256, .bf16⟩
  | .hbm, ⟨15, _⟩ => ⟨S8192x256, .f32⟩
  | .hbm, ⟨16, _⟩ => ⟨S16x128x4x4x64, .f32⟩
  | .hbm, ⟨17, _⟩ => ⟨S1x128x4x4x64, .f32⟩
  | .hbm, ⟨18, _⟩ => ⟨S15x128x4x4x64, .f32⟩
  | .hbm, ⟨19, _⟩ => ⟨S16x128x4x4x64, .f32⟩
  | .hbm, ⟨20, _⟩ => ⟨S16x256x4x4x64, .f32⟩
  | .hbm, ⟨21, _⟩ => ⟨S16, .i32⟩
  | .hbm, ⟨22, _⟩ => ⟨S16x1x1, .i32⟩
  | .hbm, ⟨23, _⟩ => ⟨S128, .i32⟩
  | .hbm, ⟨24, _⟩ => ⟨S1x128x1, .i32⟩
  | .hbm, ⟨25, _⟩ => ⟨S256, .i32⟩
  | .hbm, ⟨26, _⟩ => ⟨S1x1x256, .i32⟩
  | .hbm, ⟨27, _⟩ => ⟨S1x128x256, .i32⟩
  | .hbm, ⟨28, _⟩ => ⟨S1x128x256, .i32⟩
  | .hbm, ⟨29, _⟩ => ⟨S1x128x256, .i1⟩
  | .hbm, ⟨30, _⟩ => ⟨S_, .i32⟩
  | .hbm, ⟨31, _⟩ => ⟨S1x128x1, .i32⟩
  | .hbm, ⟨32, _⟩ => ⟨S1x128x1, .i32⟩
  | .hbm, ⟨33, _⟩ => ⟨S1x128x256, .i32⟩
  | .hbm, ⟨34, _⟩ => ⟨S1x128x256, .i32⟩
  | .hbm, ⟨35, _⟩ => ⟨S1x128x256, .i1⟩
  | .hbm, ⟨36, _⟩ => ⟨S1x128x256, .i1⟩
  | .hbm, ⟨37, _⟩ => ⟨S_, .i32⟩
  | .hbm, ⟨38, _⟩ => ⟨S16x1x1, .i32⟩
  | .hbm, ⟨39, _⟩ => ⟨S16x1x1, .i1⟩
  | .hbm, ⟨40, _⟩ => ⟨S_, .i32⟩
  | .hbm, ⟨41, _⟩ => ⟨S1x1x256, .i32⟩
  | .hbm, ⟨42, _⟩ => ⟨S1x1x256, .i1⟩
  | .hbm, ⟨43, _⟩ => ⟨S16x1x256, .i1⟩
  | .hbm, ⟨44, _⟩ => ⟨S16x1x256, .i1⟩
  | .hbm, ⟨45, _⟩ => ⟨S16x1x256, .i1⟩
  | .hbm, ⟨46, _⟩ => ⟨S16x128x256, .i1⟩
  | .hbm, ⟨47, _⟩ => ⟨S16x128x256, .i1⟩
  | .hbm, ⟨48, _⟩ => ⟨S16x128x256, .i1⟩
  | .hbm, ⟨49, _⟩ => ⟨S16x4x4x128x256, .f32⟩
  | .hbm, ⟨50, _⟩ => ⟨S1x1x4x128x256, .f32⟩
  | .hbm, ⟨51, _⟩ => ⟨S16x4x4x128x256, .f32⟩
  | .hbm, ⟨52, _⟩ => ⟨S16x4x4x128x256, .f32⟩
  | .hbm, ⟨53, _⟩ => ⟨S16x1x1x128x256, .i1⟩
  | .hbm, ⟨54, _⟩ => ⟨S_, .f32⟩
  | .hbm, ⟨55, _⟩ => ⟨S_, .f32⟩
  | .hbm, ⟨56, _⟩ => ⟨S16x4x4x128x256, .i1⟩
  | .hbm, ⟨57, _⟩ => ⟨S16x4x4x128x256, .f32⟩
  | .hbm, ⟨58, _⟩ => ⟨S16x4x4x128x256, .f32⟩
  | .hbm, ⟨59, _⟩ => ⟨S_, .f32⟩
  | .hbm, ⟨60, _⟩ => ⟨S16x4x4x128, .f32⟩
  | .hbm, ⟨61, _⟩ => ⟨S16x4x4x128x1, .f32⟩
  | .hbm, ⟨62, _⟩ => ⟨S16x4x4x128x256, .f32⟩
  | .hbm, ⟨63, _⟩ => ⟨S16x4x4x128x256, .f32⟩
  | .hbm, ⟨64, _⟩ => ⟨S16x4x4x128x256, .f32⟩
  | .hbm, ⟨65, _⟩ => ⟨S_, .f32⟩
  | .hbm, ⟨66, _⟩ => ⟨S16x4x4x128, .f32⟩
  | .hbm, ⟨67, _⟩ => ⟨S16x4x4x64x128, .f32⟩
  | .hbm, ⟨68, _⟩ => ⟨S16x128x4x4x64, .f32⟩
  | .hbm, ⟨69, _⟩ => ⟨S16x128x4x4, .f32⟩
  | .hbm, ⟨70, _⟩ => ⟨S16x128x4x4x1, .f32⟩
  | .hbm, ⟨71, _⟩ => ⟨S16x128x4x4x64, .f32⟩
  | .hbm, ⟨72, _⟩ => ⟨S16x128x4x4x64, .f32⟩
  | .hbm, ⟨73, _⟩ => ⟨S16x4x4x128, .f32⟩
  | .hbm, ⟨74, _⟩ => ⟨S16x4x4x128, .f32⟩
  | .hbm, ⟨75, _⟩ => ⟨S16x4x4x128, .f32⟩
  | .hbm, ⟨76, _⟩ => ⟨S16x128x4x4, .f32⟩
  | .hbm, ⟨77, _⟩ => ⟨S2048x1024, .f32⟩
  | .hbm, ⟨78, _⟩ => ⟨S16x128x4x4x1, .f32⟩
  | .hbm, ⟨79, _⟩ => ⟨S16x128x4x4x64, .f32⟩
  | .hbm, ⟨80, _⟩ => ⟨S2048x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_0 : Ref sig .tc := ⟨.hbm, 37, rfl⟩
abbrev main_v32 : Ref sig .tc := ⟨.hbm, 38, rfl⟩
abbrev main_v33 : Ref sig .tc := ⟨.hbm, 39, rfl⟩
abbrev main_c_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Attn2.lean ====
abbrev S8192x768 : Shape := ⟨2, ![8192, 768]⟩
abbrev S4x128x256 : Shape := ⟨3, ![4, 128, 256]⟩
abbrev S512x12288 : Shape := ⟨2, ![512, 12288]⟩
abbrev S512x4096 : Shape := ⟨2, ![512, 4096]⟩
abbrev S128x256 : Shape := ⟨2, ![128, 256]⟩
abbrev S256x256 : Shape := ⟨2, ![256, 256]⟩
abbrev S1x128x256 : Shape := ⟨3, ![1, 128, 256]⟩
abbrev S128 : Shape := ⟨1, ![128]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S4x128x256, .f32⟩
  | .hbm, ⟨4, _⟩ => ⟨S512x12288, .bf16⟩
  | .hbm, ⟨5, _⟩ => ⟨S512x12288, .bf16⟩
  | .hbm, ⟨6, _⟩ => ⟨S512x12288, .bf16⟩
  | .hbm, ⟨7, _⟩ => ⟨S512x4096, .f32⟩
  | .hbm, ⟨8, _⟩ => ⟨S512x4096, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c2_i32 : BitVec 32 := 2#32
  let v3 : BitVec 32 := Scalar.addi v2 c2_i32
  let c0_i32_0 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli c3_i32 arg0
  let c2_i32 : BitVec 32 := 2#32
  let v3 : BitVec 32 := Scalar.addi v2 c2_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c0_i32 : BitVec 32 := 0#32
  ![arg1.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attn2RefIdeal.lean ====
abbrev S8192x768 : Shape := ⟨2, ![8192, 768]⟩
abbrev S4x128x256 : Shape := ⟨3, ![4, 128, 256]⟩
abbrev S8192x256 : Shape := ⟨2, ![8192, 256]⟩
abbrev S4x128x16x4x64 : Shape := ⟨5, ![4, 128, 16, 4, 64]⟩
abbrev S1x128x16x4x64 : Shape := ⟨5, ![1, 128, 16, 4, 64]⟩
abbrev S3x128x16x4x64 : Shape := ⟨5, ![3, 128, 16, 4, 64]⟩
abbrev S4x256x16x4x64 : Shape := ⟨5, ![4, 256, 16, 4, 64]⟩
abbrev S4 : Shape := ⟨1, ![4]⟩
abbrev S4x1x1 : Shape := ⟨3, ![4, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S_ : Shape := ⟨0, ![]⟩
abbrev S4x1x256 : Shape := ⟨3, ![4, 1, 256]⟩
abbrev S4x16x4x128x256 : Shape := ⟨5, ![4, 16, 4, 128, 256]⟩
abbrev S1x1x4x128x256 : Shape := ⟨5, ![1, 1, 4, 128, 256]⟩
abbrev S4x1x1x128x256 : Shape := ⟨5, ![4, 1, 1, 128, 256]⟩
abbrev S4x16x4x128 : Shape := ⟨4, ![4, 16, 4, 128]⟩
abbrev S4x16x4x128x1 : Shape := ⟨5, ![4, 16, 4, 128, 1]⟩
abbrev S4x16x4x64x128 : Shape := ⟨5, ![4, 16, 4, 64, 128]⟩
abbrev S4x128x16x4 : Shape := ⟨4, ![4, 128, 16, 4]⟩
abbrev S4x128x16x4x1 : Shape := ⟨5, ![4, 128, 16, 4, 1]⟩
abbrev S512x4096 : Shape := ⟨2, ![512, 4096]⟩

abbrev nBuf : Space → Nat
  | .hbm => 81
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S4x128x256, .f32⟩
  | .hbm, ⟨4, _⟩ => ⟨S8192x256, .bf16⟩
  | .hbm, ⟨5, _⟩ => ⟨S8192x256, .f32⟩
  | .hbm, ⟨6, _⟩ => ⟨S4x128x16x4x64, .f32⟩
  | .hbm, ⟨7, _⟩ => ⟨S8192x256, .bf16⟩
  | .hbm, ⟨8, _⟩ => ⟨S8192x256, .f32⟩
  | .hbm, ⟨9, _⟩ => ⟨S4x128x16x4x64, .f32⟩
  | .hbm, ⟨10, _⟩ => ⟨S1x128x16x4x64, .f32⟩
  | .hbm, ⟨11, _⟩ => ⟨S3x128x16x4x64, .f32⟩
  | .hbm, ⟨12, _⟩ => ⟨S4x128x16x4x64, .f32⟩
  | .hbm, ⟨13, _⟩ => ⟨S4x256x16x4x64, .f32⟩
  | .hbm, ⟨14, _⟩ => ⟨S8192x256, .bf16⟩
  | .hbm, ⟨15, _⟩ => ⟨S8192x256, .f32⟩
  | .hbm, ⟨16, _⟩ => ⟨S4x128x16x4x64, .f32⟩
  | .hbm, ⟨17, _⟩ => ⟨S1x128x16x4x64, .f32⟩
  | .hbm, ⟨18, _⟩ => ⟨S3x128x16x4x64, .f32⟩
  | .hbm, ⟨19, _⟩ => ⟨S4x128x16x4x64, .f32⟩
  | .hbm, ⟨20, _⟩ => ⟨S4x256x16x4x64, .f32⟩
  | .hbm, ⟨21, _⟩ => ⟨S4, .i32⟩
  | .hbm, ⟨22, _⟩ => ⟨S4x1x1, .i32⟩
  | .hbm, ⟨23, _⟩ => ⟨S128, .i32⟩
  | .hbm, ⟨24, _⟩ => ⟨S1x128x1, .i32⟩
  | .hbm, ⟨25, _⟩ => ⟨S256, .i32⟩
  | .hbm, ⟨26, _⟩ => ⟨S1x1x256, .i32⟩
  | .hbm, ⟨27, _⟩ => ⟨S1x128x256, .i32⟩
  | .hbm, ⟨28, _⟩ => ⟨S1x128x256, .i32⟩
  | .hbm, ⟨29, _⟩ => ⟨S1x128x256, .i1⟩
  | .hbm, ⟨30, _⟩ => ⟨S_, .i32⟩
  | .hbm, ⟨31, _⟩ => ⟨S1x128x1, .i32⟩
  | .hbm, ⟨32, _⟩ => ⟨S1x128x1, .i32⟩
  | .hbm, ⟨33, _⟩ => ⟨S1x128x256, .i32⟩
  | .hbm, ⟨34, _⟩ => ⟨S1x128x256, .i32⟩
  | .hbm, ⟨35, _⟩ => ⟨S1x128x256, .i1⟩
  | .hbm, ⟨36, _⟩ => ⟨S1x128x256, .i1⟩
  | .hbm, ⟨37, _⟩ => ⟨S_, .i32⟩
  | .hbm, ⟨38, _⟩ => ⟨S4x1x1, .i32⟩
  | .hbm, ⟨39, _⟩ => ⟨S4x1x1, .i1⟩
  | .hbm, ⟨40, _⟩ => ⟨S_, .i32⟩
  | .hbm, ⟨41, _⟩ => ⟨S1x1x256, .i32⟩
  | .hbm, ⟨42, _⟩ => ⟨S1x1x256, .i1⟩
  | .hbm, ⟨43, _⟩ => ⟨S4x1x256, .i1⟩
  | .hbm, ⟨44, _⟩ => ⟨S4x1x256, .i1⟩
  | .hbm, ⟨45, _⟩ => ⟨S4x1x256, .i1⟩
  | .hbm, ⟨46, _⟩ => ⟨S4x128x256, .i1⟩
  | .hbm, ⟨47, _⟩ => ⟨S4x128x256, .i1⟩
  | .hbm, ⟨48, _⟩ => ⟨S4x128x256, .i1⟩
  | .hbm, ⟨49, _⟩ => ⟨S4x16x4x128x256, .f32⟩
  | .hbm, ⟨50, _⟩ => ⟨S1x1x4x128x256, .f32⟩
  | .hbm, ⟨51, _⟩ => ⟨S4x16x4x128x256, .f32⟩
  | .hbm, ⟨52, _⟩ => ⟨S4x16x4x128x256, .f32⟩
  | .hbm, ⟨53, _⟩ => ⟨S4x1x1x128x256, .i1⟩
  | .hbm, ⟨54, _⟩ => ⟨S_, .f32⟩
  | .hbm, ⟨55, _⟩ => ⟨S_, .f32⟩
  | .hbm, ⟨56, _⟩ => ⟨S4x16x4x128x256, .i1⟩
  | .hbm, ⟨57, _⟩ => ⟨S4x16x4x128x256, .f32⟩
  | .hbm, ⟨58, _⟩ => ⟨S4x16x4x128x256, .f32⟩
  | .hbm, ⟨59, _⟩ => ⟨S_, .f32⟩
  | .hbm, ⟨60, _⟩ => ⟨S4x16x4x128, .f32⟩
  | .hbm, ⟨61, _⟩ => ⟨S4x16x4x128x1, .f32⟩
  | .hbm, ⟨62, _⟩ => ⟨S4x16x4x128x256, .f32⟩
  | .hbm, ⟨63, _⟩ => ⟨S4x16x4x128x256, .f32⟩
  | .hbm, ⟨64, _⟩ => ⟨S4x16x4x128x256, .f32⟩
  | .hbm, ⟨65, _⟩ => ⟨S_, .f32⟩
  | .hbm, ⟨66, _⟩ => ⟨S4x16x4x128, .f32⟩
  | .hbm, ⟨67, _⟩ => ⟨S4x16x4x64x128, .f32⟩
  | .hbm, ⟨68, _⟩ => ⟨S4x128x16x4x64, .f32⟩
  | .hbm, ⟨69, _⟩ => ⟨S4x128x16x4, .f32⟩
  | .hbm, ⟨70, _⟩ => ⟨S4x128x16x4x1, .f32⟩
  | .hbm, ⟨71, _⟩ => ⟨S4x128x16x4x64, .f32⟩
  | .hbm, ⟨72, _⟩ => ⟨S4x128x16x4x64, .f32⟩
  | .hbm, ⟨73, _⟩ => ⟨S4x16x4x128, .f32⟩
  | .hbm, ⟨74, _⟩ => ⟨S4x16x4x128, .f32⟩
  | .hbm, ⟨75, _⟩ => ⟨S4x16x4x128, .f32⟩
  | .hbm, ⟨76, _⟩ => ⟨S4x128x16x4, .f32⟩
  | .hbm, ⟨77, _⟩ => ⟨S512x4096, .f32⟩
  | .hbm, ⟨78, _⟩ => ⟨S4x128x16x4x1, .f32⟩
  | .hbm, ⟨79, _⟩ => ⟨S4x128x16x4x64, .f32⟩
  | .hbm, ⟨80, _⟩ => ⟨S512x4096, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_0 : Ref sig .tc := ⟨.hbm, 37, rfl⟩
abbrev main_v32 : Ref sig .tc := ⟨.hbm, 38, rfl⟩
abbrev main_v33 : Ref sig .tc := ⟨.hbm, 39, rfl⟩
abbrev main_c_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== BiasExpand.lean ====
abbrev S3x8x32 : Shape := ⟨3, ![3, 8, 32]⟩
abbrev S3x32x32768 : Shape := ⟨3, ![3, 32, 32768]⟩
abbrev S3x8x32768 : Shape := ⟨3, ![3, 8, 32768]⟩
abbrev S1x8x32 : Shape := ⟨3, ![1, 8, 32]⟩
abbrev S1x32x32768 : Shape := ⟨3, ![1, 32, 32768]⟩
abbrev S1x8x32768 : Shape := ⟨3, ![1, 8, 32768]⟩
abbrev S8x32 : Shape := ⟨2, ![8, 32]⟩
abbrev S32x32768 : Shape := ⟨2, ![32, 32768]⟩
abbrev S8x32768 : Shape := ⟨2, ![8, 32768]⟩

abbrev nBuf : Space → Nat
  | .hbm => 3
  | .vmem => 6
  | .smem => 0
  | _ => 0

abbrev bufTy : (tb : Table) → Fin (tcTables nBuf tb) → BufTy
  | .hbm, ⟨0, _⟩ => ⟨S3x8x32, .f32⟩
  | .hbm, ⟨1, _⟩ => ⟨S3x32x32768, .f32⟩
  | .hbm, ⟨2, _⟩ => ⟨S3x8x32768, .f32⟩
  | .local _ .vmem, ⟨0, _⟩ => ⟨S1x8x32, .f32⟩
  | .local _ .vmem, ⟨1, _⟩ => ⟨S1x8x32, .f32⟩
  | .local _ .vmem, ⟨2, _⟩ => ⟨S1x32x32768, .f32⟩
  | .local _ .vmem, ⟨3, _⟩ => ⟨S1x32x32768, .f32⟩
  | .local _ .vmem, ⟨4, _⟩ => ⟨S1x8x32768, .f32⟩
  | .local _ .vmem, ⟨5, _⟩ => ⟨S1x8x32768, .f32⟩
  | _, _ => ⟨S3x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasExpandRefIdeal.lean ====
abbrev S3x8x32 : Shape := ⟨3, ![3, 8, 32]⟩
abbrev S3x32x32768 : Shape := ⟨3, ![3, 32, 32768]⟩
abbrev S3x8x32768 : Shape := ⟨3, ![3, 8, 32768]⟩

abbrev nBuf : Space → Nat
  | .hbm => 3
  | .vmem => 0
  | .smem => 0
  | _ => 0

abbrev bufTy : (tb : Table) → Fin (tcTables nBuf tb) → BufTy
  | .hbm, ⟨0, _⟩ => ⟨S3x8x32, .f32⟩
  | .hbm, ⟨1, _⟩ => ⟨S3x32x32768, .f32⟩
  | .hbm, ⟨2, _⟩ => ⟨S3x8x32768, .f32⟩
  | _, _ => ⟨S3x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BiasReduce.lean ====
abbrev S3x8x32768 : Shape := ⟨3, ![3, 8, 32768]⟩
abbrev S3x32x32768 : Shape := ⟨3, ![3, 32, 32768]⟩
abbrev S3x8x32 : Shape := ⟨3, ![3, 8, 32]⟩
abbrev S1x8x32768 : Shape := ⟨3, ![1, 8, 32768]⟩
abbrev S1x32x32768 : Shape := ⟨3, ![1, 32, 32768]⟩
abbrev S1x8x32 : Shape := ⟨3, ![1, 8, 32]⟩
abbrev S8x32768 : Shape := ⟨2, ![8, 32768]⟩
abbrev S32x32768 : Shape := ⟨2, ![32, 32768]⟩
abbrev S8x32 : Shape := ⟨2, ![8, 32]⟩

abbrev nBuf : Space → Nat
  | .hbm => 3
  | .vmem => 6
  | .smem => 0
  | _ => 0

abbrev bufTy : (tb : Table) → Fin (tcTables nBuf tb) → BufTy
  | .hbm, ⟨0, _⟩ => ⟨S3x8x32768, .f32⟩
  | .hbm, ⟨1, _⟩ => ⟨S3x32x32768, .f32⟩
  | .hbm, ⟨2, _⟩ => ⟨S3x8x32, .f32⟩
  | .local _ .vmem, ⟨0, _⟩ => ⟨S1x8x32768, .f32⟩
  | .local _ .vmem, ⟨1, _⟩ => ⟨S1x8x32768, .f32⟩
  | .local _ .vmem, ⟨2, _⟩ => ⟨S1x32x32768, .f32⟩
  | .local _ .vmem, ⟨3, _⟩ => ⟨S1x32x32768, .f32⟩
  | .local _ .vmem, ⟨4, _⟩ => ⟨S1x8x32, .f32⟩
  | .local _ .vmem, ⟨5, _⟩ => ⟨S1x8x32, .f32⟩
  | _, _ => ⟨S3x8x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasReduceRefIdeal.lean ====
abbrev S3x8x32768 : Shape := ⟨3, ![3, 8, 32768]⟩
abbrev S3x32x32768 : Shape := ⟨3, ![3, 32, 32768]⟩
abbrev S3x8x32 : Shape := ⟨3, ![3, 8, 32]⟩

abbrev nBuf : Space → Nat
  | .hbm => 3
  | .vmem => 0
  | .smem => 0
  | _ => 0

abbrev bufTy : (tb : Table) → Fin (tcTables nBuf tb) → BufTy
  | .hbm, ⟨0, _⟩ => ⟨S3x8x32768, .f32⟩
  | .hbm, ⟨1, _⟩ => ⟨S3x32x32768, .f32⟩
  | .hbm, ⟨2, _⟩ => ⟨S3x8x32, .f32⟩
  | _, _ => ⟨S3x8x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.FirstTalk.lean ====
module

public import Idealize.ShloMosaic.Lib.Pipeline.Regions

/-! # A launch whose FIRST region talks without a handshake

`Pipeline.θ_run_regions_kit_sems` leaves the scoped counters of a core in its region boundary until that core enters
the region, so no other core can credit them before. A kernel that sends at once — no barrier first — needs the
opposite: its receive counters and the buffers its peers write have to be shared out before any core starts. When such
a call is the first statement of `@main` this is sound, because nothing of the region has been entered yet: this module
proves that launch. The own counters of the first region and all unscoped buffers of every core are handed to ONE
global step (`hdeal`), the first region runs from what that step made, gives its counters back at zero, and whatever
follows it runs from an ordinary region boundary. -/

@[expose] public section

set_option Elab.async false

noncomputable section

namespace Cert.Talk

open Idealize.ShloMosaic Idealize.ShloMosaic.TcCoe Idealize.ShloMosaic.Pipeline Idealize.ShloMosaic.Rounds
open Idealize.SL
open Idealize.SL.BI (sProp bigSep bigSep_sep' bigSep_mono bigSep_congr bigSep_univ_prod bigSep_elim)
open scoped Idealize.SL.BI
open Idealize.SL.BI.BIBase Idealize.SL.BI.Laws Idealize.SL.Sem Idealize.SL.ProofMode
open Idealize.SL.RA
open Idealize.SL.RA.PCS

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)
  (p : P) {K : Type} [Fintype K] {osem : K → SemLoc sig}
  (hw : WinFacts₀ (pcs p).spec) (ho : OwnSemFacts (pcs p).spec osem)

local notation "𝔻" => Pipeline.defs pcs defs₀
local notation "𝕍" => Variants.lift 𝒱₀

/-- A core's region boundary without the first region's own counters. -/
def edge (c : Dev nD) : sProp 𝕄 :=
  iprop(scopedBufs (c.tc : Thread nD τ) ∗ (PerCore.cellsSems0 (pinD pcs a) p c
    ∗ PerCore.idleSems0 (pinD pcs a) phinj p (fun _ => ho) c) ∗ opIdle (c.tc : Thread nD τ))

include hw in
/-- The boundary is the edge and the own counters at zero. -/
theorem boundary_edge (c : Dev nD) :
    (boundary (c.tc : Thread nD τ) : sProp 𝕄) ⊢ iprop(edge pcs a phinj p ho c ∗ ownSems0 osem c) := by
  unfold boundary edge
  rw [PerCore.scopedSems0_split (pinD pcs a) phinj p (fun _ => hw) (fun _ => ho) c]
  iintro ⟨Hb, ⟨⟨Hc, Hos⟩, Hi⟩, Hop⟩
  isplitr [Hos]
  · isplitl [Hb]; · iexact Hb
    isplitr [Hop]
    · isplitl [Hc] <;> iassumption
    · iexact Hop
  · iexact Hos

variable [Preorder Lvl]

include phinj hw in
/-- The first region on core `c`, entered from the edge: no window, no table, its invariant made from `X c`, the core
    owing `O` on entry and nothing on exit; after it the boundary is whole again. -/
theorem wp_first [∀ e, Nonempty (Val e)] [Infinite Name] [EP.LandsIn (upEmb : UEmb _ 𝕄)] (c : Dev nD)
    (hbody : BodyObligationLoose (pdats p c) defs₀ 𝒱₀ ι Set.univ)
    (hne : ∀ w : Fin (pcs p).W, 0 < ((pcs p).spec w).block.numel)
    (hstage : ∀ (w : Fin (pcs p).W) (s : Fin ((pcs p).spec w).nbuf), (((pcs p).spec w).stage s).IsWhole)
    (hwaits : (levAts L lv : sProp 𝕄) ⊢ PerCore.cellsWaits (pinD pcs a) pdats ι p c)
    (harr : ∀ V, (BI.emp : sProp 𝕄) ⊢ (pdats p c).arrays V)
    (hpref : (BI.emp : sProp 𝕄) ⊢ prefHeld (pcs p).pre c (fun _ => fullShare) (a c p).1)
    (O : CellTallies nD τ sig Ix) (h0 : (pdats p c).owed 0 = O) (hN : (pdats p c).owed (Fin.last _) = 0)
    {X Y : sProp 𝕄}
    (hin : iprop(X ∗ scopedRest (pcs p).spec c) ⊢ (pdats p c).Φ 0)
    (hout : (pdats p c).Φ (Fin.last (pinD pcs a c p).N) ⊢ iprop(Y ∗ ownSems0 osem c ∗ scopedRest (pcs p).spec c))
    {α : Type} (k : PUnit → Prog (TpuEff nD τ sig Val (Sig Λ₀ P fun p => (pcs p).Adm) .tc) α) (Q : α → sProp 𝕄) :
    iprop((iprop(boundary (c.tc : Thread nD τ) ∗ Y ∗ ∃ W, owes (c.tc : Thread nD τ) (0 : CellTallies nD τ sig Ix) W)
          -∗ wp frame (wpE 𝔻 𝕍 (c.tc : Thread nD τ) none) Set.univ (k ⟨⟩) Q)
        ∗ edge pcs a phinj p ho c ∗ X ∗ owes (c.tc : Thread nD τ) O ∅ ∗ levAts L lv
        ∗ PerCore.cellsGhost (pinD pcs a) EP p c ∗ PerCore.toksInit (pinD pcs a) EP p c)
      ⊢ wp frame (wpE 𝔻 𝕍 (c.tc : Thread nD τ) none) Set.univ (.op (.customCall (entry p) ()) k) Q := by
  classical
  have hss := PerCore.scopedSems0_split (pinD pcs a) phinj p (fun _ => hw) (fun _ => ho) (Ix := Ix) (Val := Val) (Name := Name) (U := U) (Lvl := Lvl) c
  have hsb := PerCore.scopedBufs_split (pinD pcs a) p c hw.stage_scoped hw.stage_inj hstage (nD := nD) (τ := τ) (Ix := Ix) (Val := Val) (Name := Name) (U := U) (Lvl := Lvl)
  have hin' : iprop(X ∗ prefHeld (pcs p).pre c (fun _ => fullShare) (a c p).1 ∗ scopedRest (pcs p).spec c) ⊢ (pdats p c).Φ 0 := by
    iintro ⟨HX, -, Hr⟩
    iapply hin
    isplitl [HX] <;> iassumption
  have hout' : iprop((pdats p c).Φ (Fin.last (pinD pcs a c p).N) ∗ PerCore.cellsSems0 (pinD pcs a) p c
        ∗ Dat.staging (pinD pcs a c p) c ∗ PerCore.idleSems0 (pinD pcs a) phinj p (fun _ => ho) c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    · isplitl [Hst] <;> iassumption
  have hpost : PerCore.EntryPost (pinD pcs a) pdats ι p c
      ⊢ iprop(∃ W, owes (c.tc : Thread nD τ) (0 : CellTallies nD τ sig Ix) W) := by
    unfold PerCore.EntryPost Dat.owesAt owesWithin
    rw [hN]
    iintro ⟨-, ⟨%W, -, HW⟩⟩
    iexists W; iexact HW
  unfold edge
  iintro ⟨Hk, ⟨Hsc, ⟨Hcells, Hidle⟩, Hop⟩, HX, HO, #Hla, Hg, Ht⟩
  ihave Hw := hwaits $$ Hla
  iapply (fupd_wp frame (wpE 𝔻 𝕍 (c.tc : Thread nD τ) none) Set.univ _ _)
  imod (PerCore.cellsInit_alloc (pinD pcs a) pdats EP phinj p c) $$ [Hcells Hg] with ⟨%κ, -, Hinit⟩
  · isplitl [Hcells] <;> iassumption
  imodintro
  iapply (PerCore.wp_customCall_entry_frame pcs a pdats ι EP κ phinj p defs₀ 𝒱₀ (fun _ => fullShare) c Set.univ (fun _ _ => Set.mem_univ _)
      hbody hne none (fun u h => nomatch h) (X := X) (Y := Y) (R := scopedRest (pcs p).spec c)
      (I := PerCore.idleSems0 (pinD pcs a) phinj p (fun _ => ho) c) (Entails.of_eq hsb) hin' hout' (k := k) (Q := Q))
    $$ [HO Hw Hinit Ht HX Hidle Hsc]
  · isplitl [HO Hw Hinit Ht]
    · unfold PerCore.EntryPre Dat.owesAt owesWithin
      rw [h0]
      isplitr; · iapply (harr _); iempintro
      isplitl [HO]
      · iexists ∅
        isplitr; · ipureintro; rw [Finset.coe_empty]; exact Set.empty_subset _
        iexact HO
      isplitl [Hw]; · iexact Hw
      isplitl [Hinit] <;> iassumption
    isplitr; · iapply hpref; iempintro
    isplitl [HX]; · iexact HX
    isplitl [Hidle] <;> iassumption
  iintro ⟨Hpost, HY, Hss, Hsc⟩
  iapply Hk
  isplitl [Hsc Hss Hop]
  · unfold boundary
    isplitl [Hsc]; · iexact Hsc
    isplitl [Hss] <;> iassumption
  isplitl [HY]; · iexact HY
  iapply hpost; iexact Hpost

omit [Preorder Lvl] in
/-- The level facts of the whole machine, assigned core by core at launch; only TensorCore cells carry levels. -/
theorem levels_assign (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hother : ∀ d : Dev nD, (bigSep (Finset.univ.erase Proc.tc) fun q => (coreLevAts ((d, q) : Thread nD τ) L lv : sProp 𝕄)) = BI.emp := fun d =>
    (bigSep_congr fun q hq => by
      unfold coreLevAts
      exact (bigSep_congr fun sm _ => by
        rw [hL (((d, q) : Thread nD τ), sm) (Finset.ne_of_mem_erase hq), BI.bigSep_empty]).trans (BI.bigSep_emp_const _)).trans (BI.bigSep_emp_const _)
  have hall : (levAts L lv : sProp 𝕄) = bigSep Finset.univ fun c : Thread nD τ => coreLevAts c L lv :=
    bigSep_univ_prod fun g : GSem nD τ sig => bigSep (L g) fun ι => levAt g ι (lv g ι)
  rw [hall, bigSep_threads (fun c : Thread nD τ => (coreLevAts c L lv : sProp 𝕄))]
  refine (bigSep_mono fun c _ => lev_assign_cells (c.tc : Thread nD τ) L lv).trans ((BI.bigSep_bupd _ _).trans (BI.bupd_mono ?_))
  rw [bigSep_sep', bigSep_congr (fun d _ => hother d), BI.bigSep_emp_const]
  have hlast (A B : sProp 𝕄) : iprop(A ∗ B) ⊢ iprop(B ∗ emp) := by
    iintro ⟨-, H⟩
    isplitl [H]; · iexact H
    iempintro
  exact hlast _ _

/-- What one core brings to the global step: its unscoped buffers and counters, the first region's own counters, its
    credit for what the others owe it, its generator register. -/
def brings (osem : K → SemLoc sig) (m : (ℓ : Loc nD τ sig) → Buf Val ℓ) (g : Dev nD → PrngReg) (O₀ : Dev nD → CellTallies nD τ sig Ix)
    (c : Dev nD) : sProp 𝕄 :=
  iprop(unscopedBufs c (fun b => m ((c.tc : Thread nD τ).loc b)) ∗ unscopedSems0 c ∗ ownSems0 osem c ∗ launchCred O₀ c ∗ prngReg c (g c))

include phinj hw ho in
/-- THE LAUNCH. `@main` is the first region and then the segments `segs c`. What every core brings is dealt at once
    into `X` (`hdeal`); the first region runs from `X c` with core `c` owing `O₀ c`, and leaves `Y c`; the segments chain
    from `Y c` to `Tₙ c`, nothing owed. Every execution terminates, and every final state satisfies `Q`, which is told
    that all scoped counters, and all counters of other threads, read zero. -/
theorem θ_run_first [DecidableEq P] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (segs : Dev nD → List (PerCore.Seg pcs a pdats ι defs₀ 𝒱₀ L lv))
    (hmain : ∀ c, main c = .op (.customCall (entry p) ()) fun _ => PerCore.Seg.run (segs c))
    (hnd : ∀ c, (PerCore.Seg.pipes (segs c)).Nodup) (hnp : ∀ c, ∀ q ∈ PerCore.Seg.pipes (segs c), q ≠ p)
    (hbody : ∀ c, BodyObligationLoose (pdats p c) defs₀ 𝒱₀ ι Set.univ)
    (hne : ∀ w : Fin (pcs p).W, 0 < ((pcs p).spec w).block.numel)
    (hstage : ∀ (w : Fin (pcs p).W) (s : Fin ((pcs p).spec w).nbuf), (((pcs p).spec w).stage s).IsWhole)
    (hwaits : ∀ c, (levAts L lv : sProp 𝕄) ⊢ PerCore.cellsWaits (pinD pcs a) pdats ι p c)
    (harr : ∀ c V, (BI.emp : sProp 𝕄) ⊢ (pdats p c).arrays V)
    (hpref : ∀ c : Dev nD, (BI.emp : sProp 𝕄) ⊢ prefHeld (pcs p).pre c (fun _ => fullShare) (a c p).1)
    (O₀ : Dev nD → CellTallies nD τ sig Ix) (h0 : ∀ c, (pdats p c).owed 0 = O₀ c) (hN : ∀ c, (pdats p c).owed (Fin.last _) = 0)
    (hL : ∀ g : GSem nD τ sig, g.1.2 ≠ .tc → L g = ∅)
    (R : sProp 𝕄) (u₀ : U)
    (hu₀ : (ownU u₀ : sProp 𝕄) ⊢ |={Set.univ}=> iprop(BI.own (EP (initOf (PerCore.cells (pinD pcs a) phinj)
        (PerCore.launchToks (pinD pcs a) phinj))) ∗ R))
    (X Y Tₙ : Dev nD → sProp 𝕄)
    (hdeal : iprop((bigSep Finset.univ (brings osem m g O₀)) ∗ R ∗ levAts L lv) ⊢ |={Set.univ}=> bigSep Finset.univ X)
    (hin : ∀ c, iprop(X c ∗ scopedRest (pcs p).spec c) ⊢ (pdats p c).Φ 0)
    (hout : ∀ c, (pdats p c).Φ (Fin.last (pinD pcs a c p).N) ⊢ iprop(Y c ∗ ownSems0 osem c ∗ scopedRest (pcs p).spec c))
    (hch : ∀ c, PerCore.Seg.ChainsAt c (fun c => iprop(Y c ∗ ∃ W, owes (c.tc : Thread nD τ) (0 : CellTallies nD τ sig Ix) W)) (segs c)
      fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(edge pcs a phinj p ho c ∗ X c ∗ owes (c.tc : Thread nD τ) (O₀ c) ∅ ∗ levAts L lv
    ∗ PerCore.ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch
    have hcore (c : Dev nD) : iprop(coreInit (Ix := Ix) (Name := Name) (U := U) (Lvl := Lvl) (owing O₀) 0 (⟨m, fun _ => 0, g⟩ : MemSt nD τ sig Val) (c.tc : Thread nD τ))
        ⊢ iprop((edge pcs a phinj p ho c ∗ owes (c.tc : Thread nD τ) (O₀ c) ∅) ∗ (brings osem m g O₀ c ∗ levels0 c) : sProp 𝕄) := by
      unfold brings
      iintro Hi
      ihave H := (coreInit_boundary_owing O₀ m g c) $$ Hi
      icases H with ⟨Hb, Hub, Hus, HL, Hlv, Hpr, Hcr⟩
      ihave H2 := (boundary_edge pcs a phinj p hw ho c) $$ Hb
      icases H2 with ⟨He, Hos⟩
      isplitl [He HL]; · isplitl [He] <;> iassumption
      isplitr [Hlv]
      · isplitl [Hub]; · iexact Hub
        isplitl [Hus]; · iexact Hus
        isplitl [Hos]; · iexact Hos
        isplitl [Hcr]; · iexact Hcr
        iexact Hpr
      · iexact Hlv
    have hghost : iprop((bigSep Finset.univ fun c : Dev nD => bigSep Finset.univ fun q => PerCore.cellsGhost (pinD pcs a) EP q c)
          ∗ (bigSep Finset.univ fun c : Dev nD => bigSep Finset.univ fun q => (PerCore.toksInit (pinD pcs a) EP q c : sProp 𝕄)))
        ⊢ bigSep Finset.univ fun c : Dev nD => PerCore.ghostOn pcs a EP Finset.univ c := by
      rw [← bigSep_sep']
      refine bigSep_mono fun c _ => ?_
      unfold PerCore.ghostOn
      rw [bigSep_sep']
      exact BI.Entails.refl _
    iintro ⟨Hcores, Hu⟩
    imod hu₀ $$ Hu with ⟨HP, HG⟩
    imod (PerCore.fund_ghost (pinD pcs a) EP phinj) $$ HP with ⟨Hg, Ht⟩
    ihave H := (show (bigSep Finset.univ fun c : Dev nD => coreInit (Ix := Ix) (Name := Name) (U := U) (Lvl := Lvl) (owing O₀) 0 (⟨m, fun _ => 0, g⟩ : MemSt nD τ sig Val) (c.tc : Thread nD τ))
        ⊢ bigSep Finset.univ fun c : Dev nD => iprop((edge pcs a phinj p ho c ∗ owes (c.tc : Thread nD τ) (O₀ c) ∅) ∗ (brings osem m g O₀ c ∗ levels0 c) : sProp 𝕄)
      from bigSep_mono fun c _ => hcore c) $$ Hcores
    ihave H1 := (Entails.of_eq (bigSep_sep' ..)) $$ H
    icases H1 with ⟨He, Hr⟩
    ihave H2 := (Entails.of_eq (bigSep_sep' ..)) $$ He
    icases H2 with ⟨He, HO⟩
    ihave H3 := (Entails.of_eq (bigSep_sep' ..)) $$ Hr
    icases H3 with ⟨Hr, Hlv⟩
    imod (levels_assign L lv hL) $$ Hlv with #Hla
    imod hdeal $$ [Hr HG] with HX
    · isplitl [Hr]; · iexact Hr
      isplitl [HG]; · iexact HG
      iexact Hla
    imodintro
    iexists ()
    isplitr []
    · simp only [pre, bigSep_sep']
      isplitl [He]; · iexact He
      isplitl [HX]; · iexact HX
      isplitl [HO]; · iexact HO
      isplitr; · iapply (BI.bigSep_intro_persistent (S := Finset.univ) fun (c : Dev nD) _ => (BI.Entails.refl (levAts L lv : sProp 𝕄))); iexact Hla
      iapply hghost
      isplitl [Hg] <;> iassumption
    · iempintro
  · -- one core's run
    simp only [pre]
    rw [hmain c, PerCore.ghostOn_erase pcs a EP (Finset.mem_univ p)]
    iintro ⟨He, HX, HO, #Hla, ⟨Hg, Ht⟩, Hrest⟩
    iapply (wp_first pcs a pdats ι phinj EP defs₀ 𝒱₀ L lv p hw ho c (hbody c) hne hstage (hwaits c) (harr c) (hpref c) (O₀ c) (h0 c) (hN c)
      (hin c) (hout c))
    isplitl [Hrest]
    · iintro ⟨Hbd, HY⟩
      iapply (PerCore.wp_segs pcs a pdats ι phinj EP defs₀ 𝒱₀ L lv c (segs c) (Finset.univ.erase p)
        (fun c => iprop(Y c ∗ ∃ W, owes (c.tc : Thread nD τ) (0 : CellTallies nD τ sig Ix) W)) _ (hnd c)
        (fun q hq => Finset.mem_erase.mpr ⟨hnp c q hq, Finset.mem_univ q⟩) (hch c))
      isplitr [Hbd HY Hrest]
      · iintro ⟨Hbd, HT, HW⟩
        unfold post; simp only [liftTc_tc, fin]
        isplitl [HT Hbd]
        · isplitl [HT] <;> iassumption
        iexact HW
      · isplitl [Hbd]; · iexact Hbd
        isplitl [HY]; · iexact HY
        isplitr; · iexact Hla
        iexact Hrest
    · isplitl [He]; · iexact He
      isplitl [HX]; · iexact HX
      isplitl [HO]; · iexact HO
      isplitr; · iexact Hla
      isplitl [Hg] <;> iassumption
  · -- the final reading
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Talk

end
-- ==== Proof.OneShot.lean ====
module

public import proofs.«01_k».proof.Proof.FirstTalk
public import Idealize.ShloMosaic.Lib.Pipeline.Kit
public import Idealize.ShloMosaic.Lib.Rounds

/-! # Exchanges in which every semaphore is used once

The protocol of a call in which each semaphore of each device is credited by one copy and waited for once. A `Plan` names
the semaphores, the units each of them counts, the device every device's copy goes to, and a rank for each semaphore: a
device may wait for a semaphore while it still owes copies on semaphores of higher rank only. What a copy hands to the
waiting device is `pay`. From the launch each device has (`rights`) the position of each of its counters, the right to pay
the one duty of each counter it sends to, and credit for what its peers owe it. -/

@[expose] public section

noncomputable section

namespace Cert.Talk

open Idealize.ShloMosaic Idealize.ShloMosaic.TcCoe Idealize.ShloMosaic.Pipeline Idealize.ShloMosaic.Rounds
open Idealize.SL
open Idealize.SL.BI (sProp bigSep bigSep_sep' bigSep_mono bigSep_congr bigSep_univ_prod bigSep_elim bigSep_fupd Storable)
open scoped Idealize.SL.BI
open Idealize.SL.BI.BIBase Idealize.SL.BI.Laws Idealize.SL.Sem Idealize.SL.ProofMode
open Idealize.SL.RA

variable {nD : Nat} {τ : Topo} {sig : RefSig} {Val : EltTy → Type}

/-- The ghost algebra: one copy for pipelined windows, one for the exchange. -/
abbrev UU (nD : Nat) (τ : Topo) (sig : RefSig) : Type := UR sig nD τ × UR sig nD τ

local notation "𝕄" => MT nD τ sig Unit Val ℕ (UU nD τ sig) ℕ

/-- The copy for the windows. -/
abbrev EP : Emb (UR sig nD τ) 𝕄 := embL
/-- The copy for the exchange. -/
abbrev ER : Emb (UR sig nD τ) 𝕄 := embR

/-! ## One assertion per member of a list -/

section Each
variable {K : Type}

/-- `f` of every member of the list, one after the other. -/
def each (f : K → sProp 𝕄) : List K → sProp 𝕄
  | [] => iprop(emp)
  | k :: ks => iprop(f k ∗ each f ks)

/-- Over a list without repetitions it is the assertion over the set of its members. -/
theorem each_eq [DecidableEq K] (f : K → sProp 𝕄) (l : List K) (h : l.Nodup) : each f l = bigSep l.toFinset f := by
  induction l with
  | nil => exact (BI.bigSep_empty).symm
  | cons k ks ih =>
    obtain ⟨hk, hks⟩ := List.nodup_cons.mp h
    rw [List.toFinset_cons, BI.bigSep_insert (fun hm => hk (List.mem_toFinset.mp hm)), ← ih hks]
    rfl

/-- Over a list of all of a finite type. -/
theorem each_univ [Fintype K] [DecidableEq K] (f : K → sProp 𝕄) (l : List K) (h : l.Nodup) (hl : ∀ k, k ∈ l) :
    bigSep Finset.univ f = each f l := by
  rw [each_eq f l h]
  congr 1
  exact (Finset.eq_univ_iff_forall.mpr fun k => List.mem_toFinset.mpr (hl k)).symm
end Each

/-- Who copies where, on which semaphores. -/
structure Plan (nD : Nat) (sig : RefSig) (K : Type) where
  /-- The semaphores. -/
  sm : K → SemLoc sig
  /-- They are distinct. -/
  inj : Function.Injective sm
  /-- The units a semaphore counts: its copy's amount. -/
  amt : K → ℕ
  /-- A copy counts something. -/
  pos : ∀ k, 0 < amt k
  /-- The device on which device `c`'s copy credits semaphore `k`. -/
  peer : K → Dev nD ≃ Dev nD
  /-- The rank of a semaphore. -/
  lev : K → ℕ

namespace Plan

variable {K : Type} (P : Plan nD sig K)

/-- Semaphore `k` of device `c`. -/
abbrev cell (c : Dev nD) (k : K) : GSem nD τ sig := ((c.tc : Thread nD τ), P.sm k)

theorem cell_inj {x y : Dev nD × K} (h : P.cell (τ := τ) x.1 x.2 = P.cell y.1 y.2) : x = y :=
  Prod.ext (congrArg (fun g : GSem nD τ sig => g.1.1) h) (P.inj (congrArg (fun g : GSem nD τ sig => g.2) h))

open Classical in
/-- The device and the semaphore of a counter of the plan. -/
def key (g : GSem nD τ sig) : Option (Dev nD × K) :=
  if h : ∃ x : Dev nD × K, P.cell x.1 x.2 = g then some h.choose else none

theorem key_cell (c : Dev nD) (k : K) : P.key (P.cell (τ := τ) c k) = some (c, k) := by
  have h : ∃ x : Dev nD × K, P.cell (τ := τ) x.1 x.2 = P.cell c k := ⟨(c, k), rfl⟩
  unfold key
  rw [dif_pos h]
  exact congrArg some (P.cell_inj h.choose_spec)

/-- The schedule: round 0 of each counter of the plan has one duty, of the semaphore's amount, which hands over `pay`. -/
def sched (pay : Dev nD → K → sProp 𝕄) : Schedule (GSem nD τ sig) Unit 𝕄 where
  duties g r := if r = 0 ∧ (P.key g).isSome then {()} else ∅
  amount g _ _ := match P.key g with | some x => P.amt x.2 | none => 1
  payload g _ _ := match P.key g with | some x => pay x.1 x.2 | none => iprop(emp)
  amount_pos g _ _ _ := by
    cases P.key g with
    | none => exact Nat.one_pos
    | some x => exact P.pos x.2

variable (pay : Dev nD → K → sProp (MT nD τ sig Unit Val ℕ (UU nD τ sig) ℕ))

theorem sched_duty (c : Dev nD) (k : K) : (P.sched pay).duties (P.cell c k) 0 = {()} := by
  simp only [sched, key_cell, Option.isSome_some, _root_.and_self, ↓reduceIte]

theorem sched_later (g : GSem nD τ sig) {r : ℕ} (h : 1 ≤ r) : (P.sched pay).duties g r = ∅ := by
  simp only [sched, Nat.one_le_iff_ne_zero.mp h, false_and, ↓reduceIte]

theorem sched_amount (c : Dev nD) (k : K) (r : ℕ) (d : Unit) : (P.sched pay).amount (P.cell c k) r d = P.amt k := by
  simp only [sched, key_cell]

theorem sched_payload (c : Dev nD) (k : K) (r : ℕ) (d : Unit) : (P.sched pay).payload (P.cell c k) r d = pay c k := by
  simp only [sched, key_cell]

theorem sched_expect (c : Dev nD) (k : K) : (P.sched pay).expect (P.cell c k) 0 = P.amt k := by
  unfold Schedule.expect Schedule.amountOf
  rw [sched_duty, Finset.sum_singleton, sched_amount]

instance sched_storable [∀ c k, Storable (upEmb : UEmb _ 𝕄) (pay c k)] (g : GSem nD τ sig) (r : ℕ) (d : Unit) :
    Storable (upEmb : UEmb _ 𝕄) ((P.sched pay).payload g r d) := by
  simp only [sched]
  split <;> infer_instance

/-! ## What a device owes, and when it may wait -/

/-- What device `c` owes while the copies on the semaphores of the list are still to be sent. -/
def owe (c : Dev nD) : List K → CellTallies nD τ sig Unit
  | [] => 0
  | k :: ks => owe c ks + tallyAt (P.cell (P.peer k c) k) () (P.amt k)

/-- Every TensorCore counter carries a level. -/
def L (g : GSem nD τ sig) : Finset Unit := if g.1.2 = .tc then {()} else ∅

/-- The level of a counter: the rank of its semaphore. -/
def lv (g : GSem nD τ sig) (_ : Unit) : ℕ := match P.key g with | some x => P.lev x.2 | none => 0

theorem lv_cell (c : Dev nD) (k : K) : P.lv (P.cell (τ := τ) c k) () = P.lev k := by simp only [lv, key_cell]

theorem owe_pos (c : Dev nD) (ks : List K) (g : GSem nD τ sig) (i : Unit) (h : 0 < P.owe c ks g i) :
    ∃ k ∈ ks, g = P.cell (P.peer k c) k := by
  induction ks with
  | nil => exact absurd h (Nat.lt_irrefl 0)
  | cons k ks ih =>
    by_cases hg : g = P.cell (P.peer k c) k
    · exact ⟨k, List.mem_cons_self, hg⟩
    · have e : P.owe c (k :: ks) g i = P.owe c ks g i := by
        show (P.owe c ks + tallyAt (P.cell (P.peer k c) k) () (P.amt k) : CellTallies nD τ sig Unit) g i = _
        rw [Pi.add_apply, tallyAt_ne_cell hg, add_zero]
      obtain ⟨k', hk', h'⟩ := ih (e ▸ h)
      exact ⟨k', List.mem_cons_of_mem _ hk', h'⟩

/-- A device may wait for a semaphore while all it still owes is of higher rank. -/
theorem mayWait (c : Dev nD) (k : K) (ks : List K) (h : ∀ k' ∈ ks, P.lev k < P.lev k') :
    (levAts L P.lv : sProp 𝕄) ⊢ MayWait (c.tc : Thread nD τ) (P.sm k) () (P.owe c ks) := by
  refine mayWait_of_levAts (by unfold L; rw [if_pos rfl]; exact Finset.mem_singleton_self _) fun g i hg => ?_
  obtain ⟨k', hk', rfl⟩ := P.owe_pos c ks g i hg
  refine ⟨by unfold L cell; rw [if_pos rfl]; exact Finset.mem_singleton_self _, ?_⟩
  have h1 : P.lv ((c.tc : Thread nD τ), P.sm k) () = P.lev k := P.lv_cell c k
  rw [h1, show i = () from rfl, P.lv_cell]
  exact h k' hk'

/-- A device may wait for any semaphore once it owes nothing. -/
theorem mayWait_zero (c : Dev nD) (sm : SemLoc sig) : (levAts L P.lv : sProp 𝕄) ⊢ MayWait (c.tc : Thread nD τ) sm () 0 := by
  rw [MayWait_zero]
  iintro -
  iempintro

theorem launchCred_owe (c : Dev nD) (ks : List K) :
    (launchCred (fun d => P.owe (τ := τ) d ks) c : sProp 𝕄) ⊢ each (fun k => cred (tallyAt (P.cell c k) () (P.amt k))) ks := by
  induction ks with
  | nil => exact Entails.of_eq (launchCred_zero c)
  | cons k ks ih =>
    have e : (launchCred (fun d => P.owe (τ := τ) d (k :: ks)) c : sProp 𝕄)
        = iprop(launchCred (fun d => P.owe d ks) c ∗ launchCred (fun d => tallyAt (P.cell (P.peer k d) k) () (P.amt k)) c) :=
      launchCred_add _ _ c
    rw [e]
    have h1 : (launchCred (fun d => tallyAt (P.cell (τ := τ) (P.peer k d) k) () (P.amt k)) c : sProp 𝕄)
        ⊢ cred (tallyAt (P.cell c k) () (P.amt k)) :=
      launchCred_tallyAt (P.sm k) (P.peer k) (P.peer k).symm (fun c => (P.peer k).apply_symm_apply c) (fun d => (P.peer k).symm_apply_apply d) () (P.amt k) c
    iintro ⟨H1, H2⟩
    unfold each
    isplitl [H2]
    · iapply h1; iexact H2
    · iapply ih; iexact H1

/-! ## The launch -/

variable [Fintype K] [DecidableEq K]

/-- The counters of the plan. -/
def cells : Finset (GSem nD τ sig) :=
  (Finset.univ : Finset (Dev nD × K)).map ⟨fun x => P.cell x.1 x.2, fun _ _ h => P.cell_inj h⟩

/-- The duties of the plan. -/
def toks : Finset (GSem nD τ sig × ℕ × Unit) :=
  (Finset.univ : Finset (Dev nD × K)).map ⟨fun x => (P.cell x.1 x.2, 0, ()), fun _ _ h => P.cell_inj (congrArg Prod.fst h)⟩

/-- The exchange's ghost state at launch. -/
def start : sProp 𝕄 := BI.own (ER (initOf P.cells P.toks))

/-- All devices know every counter's protocol, and that it is in its first round. -/
def known (κ : GSem nD τ sig → ℕ) : sProp 𝕄 :=
  bigSep (Finset.univ : Finset (Dev nD × K)) fun x =>
    iprop(cellInv ER (P.sched pay) (κ (P.cell x.1 x.2)) (P.cell x.1 x.2) ∗ reached ER (P.cell x.1 x.2) 0)

instance known_persistent (κ : GSem nD τ sig → ℕ) : BI.Persistent (P.known pay κ) := by
  unfold known; infer_instance

theorem known_at (κ : GSem nD τ sig → ℕ) (c : Dev nD) (k : K) :
    P.known pay κ ⊢ iprop(cellInv ER (P.sched pay) (κ (P.cell c k)) (P.cell c k) ∗ reached ER (P.cell c k) 0) :=
  bigSep_elim (Φ := fun x : Dev nD × K => iprop(cellInv ER (P.sched pay) (κ (P.cell x.1 x.2)) (P.cell x.1 x.2) ∗ reached ER (P.cell x.1 x.2) 0))
    (Finset.mem_univ (c, k))

/-- Device `c`'s position at the start of its own counter `k`. -/
abbrev pos0 (c : Dev nD) (k : K) : sProp 𝕄 := atPos ER (P.cell c k) 0 ∅ 0
/-- Device `c`'s position past the first round of its own counter `k`. -/
abbrev pos1 (c : Dev nD) (k : K) : sProp 𝕄 := atPos ER (P.cell c k) 1 ∅ 0
/-- The right to pay the duty of the counter that device `c`'s copy on semaphore `k` credits. -/
abbrev tok (c : Dev nD) (k : K) : sProp 𝕄 := dutyTok ER (P.cell (P.peer k c) k) 0 ()

/-- What device `c` has for the exchange at launch, `rem` being the semaphores that peers credit. -/
def rights (rem : List K) (c : Dev nD) : sProp 𝕄 :=
  iprop((∃ κ, P.known pay κ) ∗ levAts L P.lv ∗ bigSep Finset.univ (P.pos0 c) ∗ bigSep Finset.univ (P.tok c)
    ∗ each (fun k => cred (tallyAt (P.cell c k) () (P.amt k))) rem)

/-- The re-indexing of the duties by the devices that pay them. -/
def payers : Dev nD × K ≃ Dev nD × K where
  toFun x := (P.peer x.2 x.1, x.2)
  invFun x := ((P.peer x.2).symm x.1, x.2)
  left_inv x := by simp
  right_inv x := by simp

/-- Where every device brings its counters and the buffers of all devices are shared out into `M`, every device gets its
    rights and its part of `M`. -/
theorem deal [∀ c k, Storable (upEmb : UEmb _ 𝕄) (pay c k)] (rem : List K)
    (m : (ℓ : Loc nD τ sig) → Buf Val ℓ) (g : Dev nD → PrngReg) (M : Dev nD → sProp 𝕄)
    (hM : (bigSep Finset.univ fun c : Dev nD => (unscopedBufs c (fun b => m ((c.tc : Thread nD τ).loc b)) : sProp 𝕄)) ⊢ bigSep Finset.univ M) :
    iprop((bigSep Finset.univ (brings P.sm m g fun c => P.owe (τ := τ) c rem)) ∗ P.start ∗ levAts L P.lv)
      ⊢ |={Set.univ}=> bigSep Finset.univ fun c => iprop(P.rights pay rem c ∗ M c) := by
  classical
  have hsem : (bigSep Finset.univ fun c : Dev nD => (ownSems0 P.sm c : sProp 𝕄)) ⊢ bigSep P.cells fun g => (semVal g 0 : sProp 𝕄) := by
    unfold cells
    rw [BI.bigSep_map, bigSep_univ_prod]
    exact BI.Entails.refl _
  have hat : (bigSep P.cells fun g => (atPos ER g 0 ∅ 0 : sProp 𝕄)) ⊢ bigSep Finset.univ fun c => bigSep Finset.univ (P.pos0 c) := by
    unfold cells
    rw [BI.bigSep_map, bigSep_univ_prod]
    exact BI.Entails.refl _
  have htok : (bigSep P.toks fun x => (dutyTok ER x.1 x.2.1 x.2.2 : sProp 𝕄)) ⊢ bigSep Finset.univ fun c => bigSep Finset.univ (P.tok c) := by
    unfold toks
    rw [BI.bigSep_map, BI.bigSep_univ_equiv P.payers, bigSep_univ_prod]
    exact BI.Entails.refl _
  have hkn (κ : GSem nD τ sig → ℕ) : iprop((bigSep P.cells fun g => (cellInv ER (P.sched pay) (κ g) g : sProp 𝕄)) ∗ bigSep P.cells fun g => (reached ER g 0 : sProp 𝕄))
      ⊢ P.known pay κ := by
    rw [← bigSep_sep']
    unfold cells known
    rw [BI.bigSep_map]
    exact BI.Entails.refl _
  have hcr : (bigSep Finset.univ fun c : Dev nD => (launchCred (fun d => P.owe (τ := τ) d rem) c : sProp 𝕄))
      ⊢ bigSep Finset.univ fun c => each (fun k => cred (tallyAt (P.cell c k) () (P.amt k))) rem :=
    bigSep_mono fun c _ => P.launchCred_owe c rem
  unfold brings start
  rw [bigSep_sep', bigSep_sep', bigSep_sep', bigSep_sep']
  iintro ⟨⟨Hb, -, Hs, Hc, -⟩, Hu, #Hla⟩
  imod (Rounds.fund ER (P.sched pay) P.cells P.toks) $$ Hu with ⟨Hst, Hr, Hat, Htok⟩
  ihave Hs' := hsem $$ Hs
  ihave Hbd := (bodies_intro ER (P.sched pay) P.cells) $$ [Hs' Hst]
  · isplitl [Hs'] <;> iassumption
  imod (inv_alloc_family P.cells (body ER (P.sched pay)) ∅) $$ Hbd with ⟨%κ, -, Hinv⟩
  ihave #Hk := (hkn κ) $$ [Hinv Hr]
  · isplitl [Hinv] <;> iassumption
  ihave Hat' := hat $$ Hat
  ihave Htok' := htok $$ Htok
  ihave Hc' := hcr $$ Hc
  ihave Hm := hM $$ Hb
  imodintro
  iapply (BI.bigSep_with_persistent (R := iprop(P.known pay κ ∗ levAts L P.lv))
    (Φ := fun c => iprop(bigSep Finset.univ (P.pos0 c) ∗ bigSep Finset.univ (P.tok c) ∗ each (fun k => cred (tallyAt (P.cell c k) () (P.amt k))) rem ∗ M c))
    fun c _ => by
      unfold rights
      iintro ⟨⟨#Hk, #Hla⟩, Hat, Htok, Hc, Hm⟩
      isplitr [Hm]
      · isplitr; · iexists κ; iexact Hk
        isplitr; · iexact Hla
        isplitl [Hat]; · iexact Hat
        isplitl [Htok] <;> iassumption
      · iexact Hm)
  isplitr
  · isplitr <;> iassumption
  rw [bigSep_sep', bigSep_sep', bigSep_sep']
  isplitl [Hat']; · iexact Hat'
  isplitl [Htok']; · iexact Htok'
  isplitl [Hc'] <;> iassumption

/-- All waits done, the counters are given back at zero. -/
theorem close (κ : GSem nD τ sig → ℕ) (c : Dev nD) :
    iprop(P.known pay κ ∗ bigSep Finset.univ (P.pos1 c)) ⊢ |={Set.univ}=> (ownSems0 P.sm c : sProp 𝕄) := by
  classical
  unfold ownSems0
  refine (BI.bigSep_with_persistent (Ψ := fun k => iprop(|={Set.univ}=> (semVal ((c.tc : Thread nD τ), P.sm k) 0 : sProp 𝕄))) fun k _ => ?_).trans (bigSep_fupd _ _)
  iintro ⟨#Hk, Hp⟩
  ihave H := (P.known_at pay κ c k) $$ Hk
  icases H with ⟨Hi, -⟩
  unfold pos1
  iapply (cell_close ER (P.sched pay) (g := P.cell c k) (κ := κ (P.cell c k)) (Set.mem_univ _) (fun h => h) (R := 1) (fun r hr => P.sched_later pay _ hr))
  isplitl [Hi]; · iexact Hi
  iexact Hp

/-! ## The steps -/

section Steps

variable {Λ : Labels} {defs : Defs nD τ sig Val Λ} (𝒱 : Variants) {α : Type} {Q : α → sProp (MT nD τ sig Unit Val ℕ (UU nD τ sig) ℕ)}
  {sp sp' : Space} {s : Shape} {e : EltTy} {κ : GSem nD τ sig → ℕ}

/-- A copy to a peer: device `c` hands in the source share and the peer's destination, pays the peer's counter `k` and its
    own counter `ks`, and afterwards no longer owes `k`. -/
theorem wp_send (c : Dev nD) {c' : Thread nD τ} {src : Memref sig .tc sp s e} {dst : Memref sig c'.2.kind sp' s e}
    {hsc : dst.view.ref.isScScratch = false} {sS sem : SemLoc sig} {hsrc : src.view.WordExact} {hdst : dst.view.WordExact}
    {hsem : DmaTarget.Typed sp sem (.remote c' dst sS hsc)} {kont : PUnit → Prog (TpuEff nD τ sig Val Λ .tc) α}
    {q : PosShare TreeShare} {fs : Buf Val (src.view.loc (c.tc : Thread nD τ))} {fd : Buf Val (dst.view.loc c')}
    (k ks : K) (rest : List K) {W : Waits sig Unit}
    (hc' : ((P.peer k c).tc : Thread nD τ) = c') (hs : sem = P.sm k) (hsS : sS = P.sm ks) (hks : P.peer ks c = c)
    (hN : dst.view.amount sem = P.amt k) (hN' : P.amt ks = P.amt k)
    (hpay : (src.view.loc (c.tc : Thread nD τ) ↦[src.view.set]{q} fs) ⊢ pay c ks)
    (hpay' : (dst.view.loc c' ↦[dst.view.set]{fullShare} (dst.view.write Val fd (src.view.read Val fs) Finset.univ)) ⊢ pay (P.peer k c) k)
    (hr : τ.routes (c.tc : Thread nD τ) c' = true) :
    iprop(P.known pay κ ∗ (src.view.loc (c.tc : Thread nD τ) ↦[src.view.set]{q} fs) ∗ (dst.view.loc c' ↦[dst.view.set]{fullShare} fd)
        ∗ owes (c.tc : Thread nD τ) (P.owe c (k :: rest)) W ∗ P.tok c ks ∗ P.tok c k)
      ⊢ iprop(((cred (tallyAt (P.cell c ks) () (P.amt ks)) ∗ owes (c.tc : Thread nD τ) (P.owe c rest) W)
            -∗ wp frame (wpE defs 𝒱 (c.tc : Thread nD τ) none) Set.univ (kont ⟨⟩) Q)
          -∗ wp frame (wpE defs 𝒱 (c.tc : Thread nD τ) none) Set.univ (.op (.enqueueDma src (.remote c' dst sS hsc) sem hsrc hdst hsem) kont) Q) := by
  subst hc' hs hsS
  have hat : (P.tok c ks : sProp 𝕄) = dutyTok ER (P.cell c ks) 0 () := by unfold tok; rw [hks]
  rw [hN']
  iintro ⟨#Hk, Hs, Hd, HO, Ht, Ht'⟩ Hkont
  ihave H1 := (P.known_at pay κ c ks) $$ Hk
  icases H1 with ⟨#Hi1, #Hr1⟩
  ihave H2 := (P.known_at pay κ (P.peer k c) k) $$ Hk
  icases H2 with ⟨#Hi2, #Hr2⟩
  iapply (Rounds.wp_send_pointsTo 𝒱 ER (P.sched pay) (c.tc : Thread nD τ) none (c' := ((P.peer k c).tc : Thread nD τ)) (src := src) (dst := dst)
      (sS := P.sm ks) (sem := P.sm k) (q := q) (fs := fs) (fd := fd) (κ₁ := κ (P.cell c ks)) (κ₂ := κ (P.cell (P.peer k c) k))
      (r₁ := 0) (r₂ := 0) (d₁ := ()) (d₂ := ())
      (by rw [show ((c.tc : Thread nD τ), P.sm ks) = P.cell c ks from rfl, P.sched_duty]; exact Finset.mem_singleton_self _)
      (by rw [show (((P.peer k c).tc : Thread nD τ), P.sm k) = P.cell (P.peer k c) k from rfl, P.sched_duty]; exact Finset.mem_singleton_self _)
      () () (P.amt k) hN ((P.sched_amount pay c ks 0 ()).trans hN') (P.sched_amount pay (P.peer k c) k 0 ()) (P.owe c rest) rfl
      (hpay.trans (Entails.of_eq (P.sched_payload pay c ks 0 ()).symm))
      (hpay'.trans (Entails.of_eq (P.sched_payload pay (P.peer k c) k 0 ()).symm)) (hr := hr)) $$ [Hs Hd HO Ht Ht']
  · isplitr; · iexact Hi1
    isplitr; · iexact Hi2
    isplitl [Hs]; · iexact Hs
    isplitl [Hd]; · iexact Hd
    isplitl [HO]; · iexact HO
    isplitl [Ht]; · iapply (Entails.of_eq hat); iexact Ht
    isplitr; · iexact Hr1
    isplitl [Ht']; · iexact Ht'
    iexact Hr2
  iexact Hkont

/-- A copy within device `c`: the source share and the destination are handed in, the own counter `k` is paid. -/
theorem wp_copy (c : Dev nD) {src : Memref sig .tc sp s e} {dst : Memref sig (Proc.tc : Proc τ).kind sp' s e} {sem : SemLoc sig}
    {hsrc : src.view.WordExact} {hdst : dst.view.WordExact} {hsem : DmaTarget.Typed (nD := nD) (τ := τ) (p := (Proc.tc : Proc τ)) sp sem (.here dst)}
    {kont : PUnit → Prog (TpuEff nD τ sig Val Λ .tc) α}
    {q : PosShare TreeShare} {fs : Buf Val (src.view.loc (c.tc : Thread nD τ))} {fd : Buf Val (dst.view.loc (c.tc : Thread nD τ))}
    (k : K) (hs : sem = P.sm k) (hk : P.peer k c = c) (hN : dst.view.amount sem = P.amt k)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ pay c k) :
    iprop(P.known pay κ ∗ (src.view.loc (c.tc : Thread nD τ) ↦[src.view.set]{q} fs)
        ∗ (dst.view.loc (c.tc : Thread nD τ) ↦[dst.view.set]{fullShare} fd) ∗ P.tok c k)
      ⊢ iprop((cred (tallyAt (P.cell c k) () (P.amt k)) -∗ wp frame (wpE defs 𝒱 (c.tc : Thread nD τ) none) Set.univ (kont ⟨⟩) Q)
          -∗ wp frame (wpE defs 𝒱 (c.tc : Thread nD τ) none) Set.univ (.op (.enqueueDma src (.here dst) sem hsrc hdst hsem) kont) Q) := by
  subst hs
  have hat : (P.tok c k : sProp 𝕄) = dutyTok ER (P.cell c k) 0 () := by unfold tok; rw [hk]
  iintro ⟨#Hk, Hs, Hd, Ht⟩ Hkont
  ihave H1 := (P.known_at pay κ c k) $$ Hk
  icases H1 with ⟨#Hi1, #Hr1⟩
  iapply (Rounds.wp_copy_pointsTo 𝒱 ER (P.sched pay) (c.tc : Thread nD τ) none (src := src) (dst := dst) (sem := P.sm k) (q := q)
      (fs := fs) (fd := fd) (r := 0) (d := ()) (κ := κ (P.cell c k))
      (by rw [show ((c.tc : Thread nD τ), P.sm k) = P.cell c k from rfl, P.sched_duty]; exact Finset.mem_singleton_self _)
      () (P.amt k) hN (P.sched_amount pay c k 0 ())
      (hpay.trans (Entails.of_eq (P.sched_payload pay c k 0 ()).symm))) $$ [Hs Hd Ht]
  · isplitr; · iexact Hi1
    isplitl [Hs]; · iexact Hs
    isplitl [Hd]; · iexact Hd
    isplitl [Ht]; · iapply (Entails.of_eq hat); iexact Ht
    iexact Hr1
  iexact Hkont

/-- A wait for the one round of the own counter `k`, all that is still owed being of higher rank: what the copy handed over
    is received. -/
theorem wp_wait (c : Dev nD) {w : TpuEff nD τ sig Val Λ .tc PUnit} {N : ℕ} {sem : SemLoc sig}
    (hw : ∀ R : PUnit → sProp (MT nD τ sig Unit Val ℕ (UU nD τ sig) ℕ),
      wpE defs 𝒱 (c.tc : Thread nD τ) none Set.univ w R = waitSpec (c.tc : Thread nD τ) Set.univ sem N R)
    {kont : PUnit → Prog (TpuEff nD τ sig Val Λ .tc) α} (k : K) (rest : List K) {W : Waits sig Unit}
    (hs : sem = P.sm k) (hN : N = P.amt k) (hlev : ∀ k' ∈ rest, P.lev k < P.lev k') :
    iprop(P.known pay κ ∗ levAts L P.lv ∗ cred (tallyAt (P.cell c k) () (P.amt k)) ∗ owes (c.tc : Thread nD τ) (P.owe c rest) W ∗ P.pos0 c k)
      ⊢ iprop(((∃ W', owes (c.tc : Thread nD τ) (P.owe c rest) W') ∗ P.pos1 c k ∗ pay c k
            -∗ wp frame (wpE defs 𝒱 (c.tc : Thread nD τ) none) Set.univ (kont ⟨⟩) Q)
          -∗ wp frame (wpE defs 𝒱 (c.tc : Thread nD τ) none) Set.univ (.op w kont) Q) := by
  subst hs hN
  have hp : (bigSep ((P.sched pay).duties (P.cell c k) 0 \ ∅) fun d => (P.sched pay).payload (P.cell c k) 0 d) ⊢ pay c k := by
    rw [P.sched_duty, Finset.sdiff_empty, BI.bigSep_singleton, P.sched_payload]
  iintro ⟨#Hk, #Hl, Hc, HO, Hp⟩ Hkont
  ihave H1 := (P.known_at pay κ c k) $$ Hk
  icases H1 with ⟨#Hi1, -⟩
  iapply (Rounds.wp_wait_rest_token 𝒱 ER (P.sched pay) (c.tc : Thread nD τ) none (κ := κ (P.cell c k)) hw (Set.mem_univ _) ()
      (O := P.owe c rest) (W := W) (R := 0) (m := 0) (T := ∅) ((Nat.zero_add _).trans (P.sched_expect pay c k).symm)) $$ [Hc HO Hp]
  · isplitr; · iexact Hi1
    isplitl [Hc]; · iexact Hc
    isplitl [HO]; · iexact HO
    isplitr; · iapply (P.mayWait c k rest hlev); iexact Hl
    iexact Hp
  iintro ⟨HO, Hp, -, Hpay⟩
  iapply Hkont
  isplitl [HO]; · iexists _; iexact HO
  isplitl [Hp]; · iexact Hp
  iapply hp; iexact Hpay

end Steps

end Plan

end Cert.Talk

end
-- ==== Proof.Alone.lean ====
module

public import proofs.«01_k».proof.Proof.OneShot
public import Idealize.ShloMosaic.Lib.Quiescent

/-! # A program whose first call is an exchange without windows

The call's operands stay in place and the body moves all the data itself, so a launch asks one thing only: that the body,
from what the launch deals to a device, ends with the counters given back and nothing owed. -/

@[expose] public section

noncomputable section

namespace Cert.Talk

open Idealize.ShloMosaic Idealize.ShloMosaic.TcCoe Idealize.ShloMosaic.Pipeline Idealize.ShloMosaic.Rounds
open Idealize.SL
open Idealize.SL.BI (sProp bigSep Storable)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels}

local notation "𝕄" => MT nD τ sig Unit Val ℕ (UU nD τ sig) ℕ

/-- A windowless call's data: `A` before its one point and `B` after it, `O` owed before and nothing after. -/
def oneDat (cfg : Cfg sig Λ₀) [hW : IsEmpty (Fin cfg.W)] (c : Dev nD) (A B : sProp (MT nD τ sig Unit Val ℕ (UU nD τ sig) ℕ))
    (O : CellTallies nD τ sig Unit) : Dat τ Val Unit ℕ (UU nD τ sig) ℕ cfg c where
  A w := isEmptyElim w
  after w := isEmptyElim w
  Φ t := if t.val = 0 then A else B
  q w := isEmptyElim w
  owed t := if t.val = 0 then O else 0

section OneDat
variable (cfg : Cfg sig Λ₀) [IsEmpty (Fin cfg.W)] (c : Dev nD) (A B : sProp (MT nD τ sig Unit Val ℕ (UU nD τ sig) ℕ)) (O : CellTallies nD τ sig Unit)

theorem oneDat_Φ {t : Fin (cfg.N + 1)} (h : t.val = 0) : (oneDat cfg c A B O).Φ t = A := by
  show (if t.val = 0 then A else B) = A
  rw [if_pos h]

theorem oneDat_Φ' {t : Fin (cfg.N + 1)} (h : t.val ≠ 0) : (oneDat cfg c A B O).Φ t = B := by
  show (if t.val = 0 then A else B) = B
  rw [if_neg h]

theorem oneDat_owed {t : Fin (cfg.N + 1)} (h : t.val = 0) : (oneDat cfg c A B O).owed t = O := by
  show (if t.val = 0 then O else 0) = O
  rw [if_pos h]

theorem oneDat_owed' {t : Fin (cfg.N + 1)} (h : t.val ≠ 0) : (oneDat cfg c A B O).owed t = 0 := by
  show (if t.val = 0 then O else 0) = 0
  rw [if_neg h]

theorem bigSep_none {T : Type} [Fintype T] [IsEmpty T] (Φ : T → sProp 𝕄) : bigSep Finset.univ Φ = iprop(emp) := by
  rw [Finset.univ_eq_empty, BI.bigSep_empty]; rfl

/-- The call's body obligation, from a run of the body. -/
theorem oneDat_body (hN : cfg.N = 1) (defs₀ : Defs nD τ sig Val Λ₀) (𝒱₀ : Variants)
    (h : ∀ (t : Fin cfg.N) (W : Waits sig Unit) (Q : sProp (MT nD τ sig Unit Val ℕ (UU nD τ sig) ℕ)),
      iprop(A ∗ owes (c.tc : Thread nD τ) O W ∗ (B ∗ (∃ W', owes (c.tc : Thread nD τ) (0 : CellTallies nD τ sig Unit) W') -∗ Q))
        ⊢ wp frame (wpE defs₀ 𝒱₀ (c.tc : Thread nD τ) none) Set.univ (defs₀ .tc cfg.body (cfg.bodyArgs t (cfg.slots t))) fun _ => Q) :
    BodyObligation (oneDat cfg c A B O) defs₀ 𝒱₀ () Set.univ := fun t => by
  have ht : (t : ℕ) = 0 := by have := t.isLt; omega
  have e1 : (oneDat cfg c A B O).Φ t.castSucc = A := oneDat_Φ cfg c A B O ht
  have e2 : (oneDat cfg c A B O).Φ t.succ = B := oneDat_Φ' cfg c A B O (Nat.succ_ne_zero _)
  have e3 : (oneDat cfg c A B O).owed t.castSucc = O := oneDat_owed cfg c A B O ht
  have e4 : (oneDat cfg c A B O).owed t.succ = 0 := oneDat_owed' cfg c A B O (Nat.succ_ne_zero _)
  rw [bigSep_none, bigSep_none, e1, e2]
  unfold Dat.owesAt owesWithin Dat.bound
  rw [e3, e4]
  iintro ⟨HA, ⟨%W, -, HO⟩, -⟩
  iapply (h t W _)
  isplitl [HA]; · iexact HA
  isplitl [HO]; · iexact HO
  iintro ⟨HB, ⟨%W', HO⟩⟩
  isplitl [HB]; · iexact HB
  isplitl [HO]
  · iexists W'
    isplitr; · ipureintro; exact fun _ _ => Or.inl trivial
    iexact HO
  iempintro

end OneDat

variable {P : Type} [Fintype P] [DecidableEq P] [∀ e, Nonempty (Val e)]
  (pcs : P → PCfg sig Λ₀ Val) (a : Dev nD → (p : P) → (pcs p).Adm)
  (pdats : (p : P) → (c : Dev nD) → Dat τ Val Unit ℕ (UU nD τ sig) ℕ (pinD pcs a c p) c)
  (phinj : Function.Injective (PerCore.cellOf (τ := τ) (pinD pcs a)))
  (defs₀ : Defs nD τ sig Val Λ₀) (𝒱₀ : Variants) (p : P) [IsEmpty (Fin (pcs p).W)] [IsEmpty (Fin (pcs p).pre.K)]
  {K : Type} [Fintype K] [DecidableEq K] (pl : Plan nD sig K)
  (hw : WinFacts₀ (pcs p).spec) (ho : OwnSemFacts (pcs p).spec pl.sm)

instance pinD_noWindow (c : Dev nD) : IsEmpty (Fin (pinD pcs a c p).W) := inferInstanceAs (IsEmpty (Fin (pcs p).W))

include phinj hw ho in
/-- THE RUN of a program whose first call is a windowless exchange by a plan: what the body of each device leaves (`Y`) is
    taken on by the segments after the call. -/
theorem run_first (pay : Dev nD → K → sProp (MT nD τ sig Unit Val ℕ (UU nD τ sig) ℕ)) [∀ c k, Storable (upEmb : UEmb _ 𝕄) (pay c k)]
    (rem : List K) (m : (ℓ : Loc nD τ sig) → Buf Val ℓ) (g : Dev nD → PrngReg)
    (main : Dev nD → Prog (TpuEff nD τ sig Val (Sig Λ₀ P fun p => (pcs p).Adm) .tc) PUnit)
    (segs : Dev nD → List (PerCore.Seg pcs a pdats () defs₀ 𝒱₀ Plan.L pl.lv))
    (hmain : ∀ c, main c = .op (.customCall (entry p) ()) fun _ => PerCore.Seg.run (segs c))
    (hnd : ∀ c, (PerCore.Seg.pipes (segs c)).Nodup) (hnp : ∀ c, ∀ q ∈ PerCore.Seg.pipes (segs c), q ≠ p)
    (M Y Tₙ : Dev nD → sProp (MT nD τ sig Unit Val ℕ (UU nD τ sig) ℕ))
    (hpd : ∀ c, pdats p c = oneDat (pinD pcs a c p) c (iprop((pl.rights pay rem c ∗ M c) ∗ scopedRest (pcs p).spec c))
      iprop(Y c ∗ ownSems0 pl.sm c ∗ scopedRest (pcs p).spec c) (pl.owe c rem))
    (hN : ∀ c, (pinD pcs a c p).N = 1)
    (hM : (bigSep Finset.univ fun c : Dev nD => (unscopedBufs c (fun b => m ((c.tc : Thread nD τ).loc b)) : sProp 𝕄)) ⊢ bigSep Finset.univ M)
    (hbody : ∀ (c : Dev nD) (t : Fin (pinD pcs a c p).N) (W : Waits sig Unit) (Q : sProp (MT nD τ sig Unit Val ℕ (UU nD τ sig) ℕ)),
      iprop(pl.rights pay rem c ∗ M c ∗ owes (c.tc : Thread nD τ) (pl.owe c rem) W
          ∗ (Y c ∗ ownSems0 pl.sm c ∗ (∃ W', owes (c.tc : Thread nD τ) (0 : CellTallies nD τ sig Unit) W') -∗ Q))
        ⊢ wp frame (wpE defs₀ 𝒱₀ (c.tc : Thread nD τ) none) Set.univ
            (defs₀ .tc (pinD pcs a c p).body ((pinD pcs a c p).bodyArgs t ((pinD pcs a c p).slots t))) fun _ => Q)
    (hch : ∀ c, PerCore.Seg.ChainsAt c (fun c => iprop(Y c ∗ ∃ W, owes (c.tc : Thread nD τ) (0 : CellTallies nD τ sig Unit) W)) (segs c)
      fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q :=
  θ_run_first pcs a pdats () phinj EP defs₀ 𝒱₀ Plan.L pl.lv p hw ho m g main segs hmain hnd hnp
    (fun c => by
      rw [hpd c]
      refine (oneDat_body _ c _ _ _ (hN c) defs₀ 𝒱₀ fun t W Q => ?_).loose
      iintro ⟨⟨⟨Hr, HM⟩, Hs⟩, HO, HQ⟩
      iapply (hbody c t W Q)
      isplitl [Hr]; · iexact Hr
      isplitl [HM]; · iexact HM
      isplitl [HO]; · iexact HO
      iintro ⟨HY, Hz, HO⟩
      iapply HQ
      isplitr [HO]
      · isplitl [HY]; · iexact HY
        isplitl [Hz] <;> iassumption
      iexact HO)
    (fun w => isEmptyElim w) (fun w => isEmptyElim w)
    (fun c => PerCore.cellsWaits_intro _ pdats () p c fun w => isEmptyElim (α := Fin (pcs p).W) w)
    (fun c V => by
      unfold Dat.arrays
      rw [bigSep_none (T := Fin (pinD pcs a c p).W)]; exact BI.Entails.refl _)
    (fun c => by unfold prefHeld; rw [bigSep_none]; exact BI.Entails.refl _)
    (fun c => pl.owe c rem) (fun c => by rw [hpd c]; exact oneDat_owed _ c _ _ _ rfl)
    (fun c => by rw [hpd c]; exact oneDat_owed' _ c _ _ _ (by rw [Fin.val_last, hN c]; decide))
    (fun g hg => by unfold Plan.L; rw [if_neg hg])
    pl.start (initOf (PerCore.cells (pinD pcs a) phinj) (PerCore.launchToks (pinD pcs a) phinj), initOf pl.cells pl.toks)
    (by
      iintro Hu
      ihave H := (ownU_pair _ _) $$ Hu
      icases H with ⟨HP, HX⟩
      imodintro
      isplitl [HP]; · iexact HP
      unfold Plan.start; iexact HX)
    (fun c => iprop(pl.rights pay rem c ∗ M c)) Y Tₙ
    (pl.deal pay rem m g M hM)
    (fun c => by rw [hpd c]; exact Entails.of_eq (oneDat_Φ _ c _ _ _ rfl).symm)
    (fun c => by rw [hpd c]; exact Entails.of_eq (oneDat_Φ' _ c _ _ _ (by rw [Fin.val_last, hN c]; decide)))
    hch QY hfin hQ

end Cert.Talk

end
-- ==== Proof.After.lean ====
module

public import proofs.«01_k».proof.Proof.Alone
public import Idealize.ShloMosaic.Lib.Pipeline.RegionArrays

/-! # A call with windows that follows an exchange

Such a call talks to nobody: it is entered with its windows' arrays at what the exchange left, and leaves them at what its
pipeline computes. -/

@[expose] public section

noncomputable section

namespace Cert.Talk

open Idealize.ShloMosaic Idealize.ShloMosaic.TcCoe Idealize.ShloMosaic.Pipeline Idealize.ShloMosaic.Rounds
open Idealize.SL
open Idealize.SL.BI (sProp bigSep Storable)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P]

local notation "𝕄" => MT nD τ sig Unit Val ℕ (UU nD τ sig) ℕ

/-- THE SEGMENT of a call with windows that owes nothing and keeps nothing of its own: from the windows' arrays as the data has
    them at the start (and any `R`) to the arrays as it has them at the end. -/
def quiet (pcs : P → PCfg sig Λ₀ Val) (a : Dev nD → (p : P) → (pcs p).Adm)
    (pdats : (p : P) → (c : Dev nD) → Dat τ Val Unit ℕ (UU nD τ sig) ℕ (pinD pcs a c p) c)
    (defs₀ : Defs nD τ sig Val Λ₀) (𝒱₀ : Variants) (L : GSem nD τ sig → Finset Unit) (lv : GSem nD τ sig → Unit → ℕ) (p : P)
    (hw : WinFacts₀ (pcs p).spec) (hpos : ∀ w : Fin (pcs p).W, 0 < ((pcs p).spec w).block.numel)
    (hst : ∀ (w : Fin (pcs p).W) (s : Fin ((pcs p).spec w).nbuf), (((pcs p).spec w).stage s).IsWhole)
    (T : Dev nD → sProp (MT nD τ sig Unit Val ℕ (UU nD τ sig) ℕ))
    (hT : ∀ c, T c ⊢ prefHeld (pcs p).pre c (fun _ => fullShare) (a c p).1)
    (hbody : ∀ c, BodyObligation (pdats p c) defs₀ 𝒱₀ () Set.univ)
    (howed : ∀ c t, (pdats p c).owed t = 0) (hrec : ∀ c, (pdats p c).recorded 0 = Set.univ)
    (hin : ∀ c, iprop(prefHeld (pcs p).pre c (fun _ => fullShare) (a c p).1 ∗ scopedRest (pcs p).spec c) ⊢ (pdats p c).Φ 0)
    (Y : Dev nD → sProp (MT nD τ sig Unit Val ℕ (UU nD τ sig) ℕ))
    (hout : ∀ c, (pdats p c).Φ (Fin.last (pinD pcs a c p).N) ⊢ iprop(Y c ∗ scopedRest (pcs p).spec c))
    (R : Dev nD → sProp (MT nD τ sig Unit Val ℕ (UU nD τ sig) ℕ)) :
    PerCore.RegionSeg pcs a pdats () defs₀ 𝒱₀ L lv p where
  win := hw
  block_pos := hpos
  stage_whole := hst
  K := PEmpty
  osem k := k.elim
  ho := OwnSemFacts.none _
  hbody c := (hbody c).loose
  hwaits c := (show (levAts L lv : sProp 𝕄) ⊢ iprop(emp) from by iintro -; iempintro).trans
    (PerCore.cellsWaits_of_owed_zero (pinD pcs a) pdats () p c (howed c))
  pre c := iprop(((pdats p c).arrays ((pdats p c).arrAt · 0) ∗ T c ∗ R c) ∗ ∃ W, owes (c.tc : Thread nD τ) (0 : CellTallies nD τ sig Unit) W)
  post c := iprop(((pdats p c).arrays ((pdats p c).arrAt · (pinD pcs a c p).N) ∗ Y c ∗ R c) ∗ ∃ W, owes (c.tc : Thread nD τ) (0 : CellTallies nD τ sig Unit) W)
  X _ := iprop(emp)
  Y := Y
  Z := R
  hentry c := by
    rw [ownSems0_none]
    iintro ⟨⟨⟨Ha, HT, HR⟩, ⟨%W, HO⟩⟩, -, -⟩
    imodintro
    isplitl [Ha]; · iexact Ha
    isplitl [HT]; · iapply (hT c); iexact HT
    isplitl [HO]
    · unfold Dat.owesAt owesWithin Dat.bound
      rw [howed c 0, hrec c]
      iexists W; isplitr; · ipureintro; exact fun _ _ => Or.inl trivial
      iexact HO
    isplitr; · iempintro
    iexact HR
  hin c := (show _ ⊢ iprop(prefHeld (pcs p).pre c (fun _ => fullShare) (a c p).1 ∗ scopedRest (pcs p).spec c) from by
    iintro ⟨-, Hp, Hr⟩
    isplitl [Hp] <;> iassumption).trans (hin c)
  hout c := (hout c).trans (by
    rw [ownSems0_none]
    iintro ⟨HY, Hr⟩
    isplitl [HY]; · iexact HY
    isplitr; · iempintro
    iexact Hr)
  hexit c := by
    iintro ⟨Ha, HO, HY, HR⟩
    imodintro
    isplitr [HO]
    · isplitl [Ha]; · iexact Ha
      isplitl [HY]; · iexact HY
      iexact HR
    unfold Dat.owesAt owesWithin
    rw [howed c (Fin.last _)]
    icases HO with ⟨%W, -, HO⟩; iexists W; iexact HO

end Cert.Talk

end
-- ==== Proof.CoreSum.lean ====
module

public import proofs.«01_k».proof.Proof.Alone
public import proofs.«01_k».proof.Proof.After
public import proofs.«01_k».proof.Proof.Gen.CoreSumIdeal.Launch
public import proofs.«01_k».proof.Proof.Gen.CoreSumIdeal.Skeleton
public import proofs.«01_k».proof.Proof.Gen.CoreSumIdeal.Points

/-! # The exchange of halves between the two cores of a chip

Every device copies the half of its array that its neighbour sums into the neighbour's result; what its core number is, the
host works out afterwards, for the sum that follows. Two semaphores: one counts
the own copy read out (0), the other the neighbour's copy landed (1). -/

@[expose] public section

noncomputable section

namespace Cert.CoreSumProof

open Cert.CoreSumIdeal Cert.CoreSumIdeal.Gen Cert.Talk
open Idealize.ShloMosaic Idealize.ShloMosaic.TcCoe Idealize.ShloMosaic.Pipeline
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- The table the sum reads: a device's core number. -/
def tab (c : Dev nD) : pre1.Contents (Elt F) := fun
  | 0 => fun _ => BitVec.ofNat 32 (c.val % 2)
  | ⟨_ + 1, h⟩ => absurd h (Nat.not_lt.2 (Nat.le_add_left _ _))

theorem place : ∀ (c : Dev nD) (i : Fin 4) (j : Fin 8),
    (BitVec.ofNat 32 i.val).toNat = i.val
      ∧ (Scalar.addi (Scalar.muli (BitVec.ofNat 32 (c.val % 2)) 8#32) (BitVec.ofNat 32 j.val)).toNat = c.val % 2 * 8 + j.val := by decide

/-- Where the sum reads its device's own array: in the half of the device's core. -/
theorem index_own (c : Dev nD) (i : grid1.Coords) :
    cc1_transform_0 inb_S1_S1_0 numel1_S1 (tab (F := F) c) i = ![(i 0).val, c.val % 2 * 8 + (i 1).val, 0] := by
  obtain ⟨h0, h1⟩ := place c (i 0) (i 1)
  funext a
  match a with
  | ⟨0, _⟩ => exact h0
  | ⟨1, _⟩ => exact h1
  | ⟨2, _⟩ => rfl

/-- The table leads the sum to blocks inside the array. -/
theorem tab_ok (c : Dev nD) : ok1 (tab (F := F) c) := fun i => by
  have h : ∀ a, (cc1_transform_0 inb_S1_S1_0 numel1_S1 (tab (F := F) c) i a + 1) * S1x376x1024.size a ≤ S4x6016x1024.size a := by
    rw [index_own]
    have h0 : (i 0).val < 4 := (i 0).isLt
    have h1 : (i 1).val < 8 := (i 1).isLt
    intro a
    match a with
    | ⟨0, _⟩ => show ((i 0).val + 1) * 1 ≤ 4; omega
    | ⟨1, _⟩ => show (c.val % 2 * 8 + (i 1).val + 1) * 376 ≤ 6016; omega
    | ⟨2, _⟩ => show (0 + 1) * 1024 ≤ 1024; omega
  exact ⟨h, .inl rfl⟩

/-- The two calls' tables: none for the exchange, the core number for the sum. -/
def adm (c : Dev nD) : (p : Fin 2) → (pcfgs (F := F) p).Adm
  | 0 => cfg0.toPCfg_adm
  | 1 => ⟨tab c, tab_ok c⟩

/-- The device that shares the chip. -/
def nb : Dev nD ≃ Dev nD where
  toFun c := ⟨k0_dev1 c, k0_dev1_lt c⟩
  invFun c := ⟨k0_dev1 c, k0_dev1_lt c⟩
  left_inv := by intro c; revert c; decide
  right_inv := by intro c; revert c; decide

/-- The half that device `c` sends. -/
abbrev src (c : Dev nD) : Memref sig .tc .hbm S4x3008x1024 .f32 :=
  (Memref.whole main_arg0).slice (Rect.unit (s := S4x6016x1024) (k0_off1 c) S4x3008x1024.size (k0_off1_inb c)) (fun _ => rfl)
/-- The result, whole. -/
abbrev dst : Memref sig .tc .hbm S4x3008x1024 .f32 := Memref.whole main_v1

/-- The units of one copy. -/
def units : ℕ := dst.view.amount (.dma cc0_scratch1.sem)

/-- The plan: 0 counts the own copy, 1 the neighbour's. -/
def pl : Plan nD sig (Fin 2) where
  sm := ![.dma cc0_scratch0.sem, .dma cc0_scratch1.sem]
  inj := by decide
  amt _ := units
  pos _ := by decide
  peer := ![Equiv.refl _, nb]
  lev _ := 0

variable (m : (ℓ : Loc nD τ sig) → Buf (Elt F) ℓ)

/-- What the result of device `c` holds once its neighbour's copy has landed. -/
def landed (c : Dev nD) : Buf (Elt F) ((c.tc : Thread nD τ).loc main_v1) :=
  dst.view.write (Elt F) (m ((c.tc : Thread nD τ).loc main_v1)) ((src (nb c)).view.read (Elt F) (m (((nb c).tc : Thread nD τ).loc main_arg0))) Finset.univ

/-- What a landing hands over: the sent half back, the result at its contents. -/
def pay (c : Dev nD) (k : Fin 2) : sProp (MT nD τ sig Unit (Elt F) ℕ (UU nD τ sig) ℕ) :=
  if k = 0 then iprop((src c).view.loc (c.tc : Thread nD τ) ↦[(src c).view.set]{fullShare} m ((c.tc : Thread nD τ).loc main_arg0))
  else iprop(dst.view.loc (c.tc : Thread nD τ) ↦[dst.view.set]{fullShare} landed m c)

instance pay_storable (c : Dev nD) (k : Fin 2) : Storable (upEmb : UEmb _ 𝕄) (pay m c k) := by
  unfold pay; split <;> infer_instance

/-- What a device needs of memory: its own array, and its neighbour's result to copy into. -/
def M (c : Dev nD) : sProp (MT nD τ sig Unit (Elt F) ℕ (UU nD τ sig) ℕ) :=
  iprop((((c.tc : Thread nD τ).loc main_arg0) ↦{fullShare} m ((c.tc : Thread nD τ).loc main_arg0))
    ∗ (((nb c).tc : Thread nD τ).loc main_v1) ↦{fullShare} m (((nb c).tc : Thread nD τ).loc main_v1))

/-- What it has of memory afterwards: its own array and its own result. -/
def Y (c : Dev nD) : sProp (MT nD τ sig Unit (Elt F) ℕ (UU nD τ sig) ℕ) :=
  iprop((((c.tc : Thread nD τ).loc main_arg0) ↦{fullShare} m ((c.tc : Thread nD τ).loc main_arg0))
    ∗ ((c.tc : Thread nD τ).loc main_v1) ↦{fullShare} landed m c)

/-- The buffers that the host's reckoning of a device's core number uses. -/
abbrev hostRefs : List (Ref sig .tc) := [main_c, main_c_0, main_v2, main_v3, main_v4, main_v5, main_v6]
/-- The same, as buffers of the device. -/
def hostSet : Finset (DevRef τ sig) := (hostRefs.map fun b => Proc.devRef .tc b).toFinset

/-- A device's contents as they are at the start. -/
abbrev V0 (c : Dev nD) : Valuation τ sig (Elt F) := fun b => m (c, b)

/-- What rides along with the exchange: the sum's result and the host's buffers. -/
def S (c : Dev nD) : sProp (MT nD τ sig Unit (Elt F) ℕ (UU nD τ sig) ℕ) :=
  iprop((((c.tc : Thread nD τ).loc main_v7) ↦{fullShare} m ((c.tc : Thread nD τ).loc main_v7)) ∗ StableHlo.held (c.tc : Thread nD τ) hostSet (V0 m c))

theorem bufs (c : Dev nD) : (unscopedBufs c (fun b => m ((c.tc : Thread nD τ).loc b)) : sProp 𝕄)
    ⊢ iprop((((c.tc : Thread nD τ).loc main_arg0) ↦{fullShare} m ((c.tc : Thread nD τ).loc main_arg0))
        ∗ (((c.tc : Thread nD τ).loc main_v1) ↦{fullShare} m ((c.tc : Thread nD τ).loc main_v1)) ∗ S m c) := by
  have h : (StableHlo.held (c.tc : Thread nD τ) (ucRefs τ sig \ hostSet) (V0 m c) : sProp 𝕄)
      = iprop((((c.tc : Thread nD τ).loc main_arg0) ↦{fullShare} m ((c.tc : Thread nD τ).loc main_arg0))
        ∗ (((c.tc : Thread nD τ).loc main_v1) ↦{fullShare} m ((c.tc : Thread nD τ).loc main_v1))
        ∗ ((c.tc : Thread nD τ).loc main_v7) ↦{fullShare} m ((c.tc : Thread nD τ).loc main_v7)) := by
    unfold StableHlo.held
    exact BI.bigSep_eq_bigSepL_of_eq [Proc.devRef .tc main_arg0, Proc.devRef .tc main_v1, Proc.devRef .tc main_v7] (by decide) (by decide) _
  refine (Entails.of_eq (unscopedBufs_held c (V0 m c))).trans ?_
  rw [StableHlo.held_sub_split _ (T := hostSet) (by decide), h]
  unfold S
  iintro ⟨Hh, H0, H1, H7⟩
  isplitl [H0]; · iexact H0
  isplitl [H1]; · iexact H1
  isplitl [H7] <;> iassumption

theorem deal_bufs : (bigSep Finset.univ fun c : Dev nD => (unscopedBufs c (fun b => m ((c.tc : Thread nD τ).loc b)) : sProp 𝕄))
    ⊢ bigSep Finset.univ fun c => iprop(M m c ∗ S m c) := by
  refine Entails.trans (show _ ⊢ _ from BI.bigSep_mono fun c _ => bufs m c) ?_
  rw [BI.bigSep_sep', BI.bigSep_sep',
    BI.bigSep_univ_equiv nb (Φ := fun c : Dev nD => (((c.tc : Thread nD τ).loc main_v1) ↦{fullShare} m ((c.tc : Thread nD τ).loc main_v1) : sProp 𝕄)),
    BI.bigSep_sep']
  unfold M
  rw [BI.bigSep_sep']
  iintro ⟨H1, H2, H3⟩
  isplitr [H3]
  · isplitl [H1] <;> iassumption
  iexact H3

theorem routes (c : Dev nD) : τ.routes (c.tc : Thread nD τ) ((nb c).tc : Thread nD τ) = true := by
  revert c; decide

theorem dst_set : dst.view.set = Finset.univ := View.set_whole _

/-- The result as a view is the result's buffer. -/
theorem dst_pts (c : Dev nD) (f : Buf (Elt F) ((c.tc : Thread nD τ).loc main_v1)) :
    (dst.view.loc (c.tc : Thread nD τ) ↦[dst.view.set]{fullShare} f : sProp 𝕄) = (((c.tc : Thread nD τ).loc main_v1) ↦{fullShare} f) := by
  rw [dst_set]

/-- THE BODY of device `c`. -/
theorem body (𝒱₀ : Variants) (c : Dev nD) (t : Fin (pinD (pcfgs (F := F)) adm c 0).N) (W : Waits sig Unit) (Q : sProp 𝕄) :
    iprop(pl.rights (pay m) [1] c ∗ M m c ∗ owes (c.tc : Thread nD τ) (pl.owe c [1]) W
        ∗ (Y m c ∗ ownSems0 pl.sm c ∗ (∃ W', owes (c.tc : Thread nD τ) (0 : CellTallies nD τ sig Unit) W') -∗ Q))
      ⊢ wp frame (wpE (defs₀ (F := F)) 𝒱₀ (c.tc : Thread nD τ) none) Set.univ
          (defs₀ .tc (pinD (pcfgs (F := F)) adm c 0).body
            ((pinD (pcfgs (F := F)) adm c 0).bodyArgs t ((pinD (pcfgs (F := F)) adm c 0).slots t))) fun _ => Q := by
  show _ ⊢ wp frame (wpE (defs₀ (F := F)) 𝒱₀ (c.tc : Thread nD τ) none) Set.univ
    (cc0_reduce_swap_halves (F := F) (Memref.whole main_arg0) (Memref.isWhole_whole _) (Memref.whole main_v1) (Memref.isWhole_whole _) cc0_scratch0 cc0_scratch1) fun _ => Q
  rw [cc0_reduce_swap_halves_eq_skeleton]
  unfold cc0_reduce_swap_halves_skel Plan.rights M
  simp only [Prog.lift, Prog.bind_op, Prog.bind_ret, Prog.pure_eq_ret, wp_deviceId]
  rw [each_univ (pl.pos0 c) [0, 1] (by decide) (by decide), each_univ (pl.tok c) [0, 1] (by decide) (by decide)]
  unfold each each each
  iintro ⟨⟨⟨%κ, #Hk⟩, #Hl, ⟨Hp0, Hp1, -⟩, ⟨Ht0, Ht1, -⟩, ⟨Hc1, -⟩⟩, ⟨Ha, Hb⟩, HO, HQ⟩
  have hsplit := pointsTo_split_subset (U := UU nD τ sig) (Ix := Unit) (Name := ℕ) (Lvl := ℕ) (q := fullShare) (f := m ((c.tc : Thread nD τ).loc main_arg0))
    (Finset.subset_univ ((src c).view.set))
  ihave Ha' := hsplit.1 $$ Ha
  icases Ha' with ⟨Ha, Har⟩
  iapply (pl.wp_send (pay m) 𝒱₀ c (c' := ((nb c).tc : Thread nD τ)) (src := src c) (dst := dst) (sS := .dma cc0_scratch0.sem) (sem := .dma cc0_scratch1.sem) (q := fullShare) (fs := m ((c.tc : Thread nD τ).loc main_arg0))
      (fd := m (((nb c).tc : Thread nD τ).loc main_v1)) (κ := κ) 1 0 [] (W := W) rfl rfl rfl rfl rfl rfl
      (Entails.of_eq rfl) (by unfold pay; rw [if_neg (by decide)]; unfold landed; rw [show nb (pl.peer 1 c) = c from nb.left_inv c]; exact BI.Entails.refl _)
      (hr := routes c)) $$ [Ha Hb HO Ht0 Ht1]
  · isplitr; · iexact Hk
    isplitl [Ha]; · iexact Ha
    isplitl [Hb]; · iapply (Entails.of_eq (dst_pts (nb c) _).symm); iexact Hb
    isplitl [HO]; · iexact HO
    isplitl [Ht0] <;> iassumption
  iintro ⟨Hc0, HO⟩
  iapply (pl.wp_wait (pay m) 𝒱₀ c (κ := κ) (wpE_waitDma2_eq 𝒱₀ (c.tc : Thread nD τ) none Set.univ) 0 [] (W := W) rfl rfl (by simp)) $$ [Hc0 HO Hp0]
  · isplitr; · iexact Hk
    isplitr; · iexact Hl
    isplitl [Hc0]; · iexact Hc0
    isplitl [HO] <;> iassumption
  iintro ⟨⟨%W1, HO⟩, Hp0, Ha⟩
  iapply (pl.wp_wait (pay m) 𝒱₀ c (κ := κ) (wpE_waitDma2_eq 𝒱₀ (c.tc : Thread nD τ) none Set.univ) 1 [] (W := W1) rfl rfl (by simp)) $$ [Hc1 HO Hp1]
  · isplitr; · iexact Hk
    isplitr; · iexact Hl
    isplitl [Hc1]; · iexact Hc1
    isplitl [HO] <;> iassumption
  iintro ⟨⟨%W2, HO⟩, Hp1, Hb⟩
  rw [wp_ret]
  imod (pl.close (pay m) κ c) $$ [Hp0 Hp1] with Hz
  · isplitr; · iexact Hk
    rw [each_univ (pl.pos1 c) [0, 1] (by decide) (by decide)]
    unfold each each each
    isplitl [Hp0]; · iexact Hp0
    isplitl [Hp1]; · iexact Hp1
    iempintro
  imodintro
  iapply HQ
  isplitl [Ha Har Hb]
  · unfold Y
    isplitl [Ha Har]
    · iapply hsplit.2
      isplitl [Ha]; · iapply (show pay m c 0 ⊢ iprop((src c).view.loc (c.tc : Thread nD τ) ↦[(src c).view.set]{fullShare} m ((c.tc : Thread nD τ).loc main_arg0)) from Entails.of_eq rfl); iexact Ha
      iexact Har
    iapply (Entails.of_eq (dst_pts c _))
    iapply (show pay m c 1 ⊢ iprop(dst.view.loc (c.tc : Thread nD τ) ↦[dst.view.set]{fullShare} landed m c) from Entails.of_eq rfl); iexact Hb
  isplitl [Hz]; · iexact Hz
  iexists W2; iexact HO

theorem landed_eq (c : Dev nD) : landed m c = (src (nb c)).view.read (Elt F) (m (((nb c).tc : Thread nD τ).loc main_arg0)) := by
  unfold landed
  exact View.write_whole_univ _ _ _

end Cert.CoreSumProof

end
-- ==== Proof.CoreSumRun.lean ====
module

public import proofs.«01_k».proof.Proof.CoreSum
public import Idealize.ShloMosaic.Lib.Pipeline.FrameBody
public import Idealize.ShloMosaic.PureOps.Ideal
public import Idealize.ShloMosaic.Lib.Tactic
public import Idealize.ShloMosaic.Lib.ValueIdxCore
public import Idealize.ShloMosaic.Lib.ValueIdxRank6
public import Idealize.ShloMosaic.Lib.Pipeline.ValueKit.Geometry
public import Idealize.ShloMosaic.Lib.Pipeline.ValueKit.Tiles

/-! # The sum of the two cores' halves, and the run of both calls

Between the calls the host works out the device's core number. The sum reads, of its device's own array, the half of that core,
and adds what the neighbour sent, block of rows by block of rows. -/

@[expose] public section

noncomputable section

namespace Cert.CoreSumProof

open Cert.CoreSumIdeal Cert.CoreSumIdeal.Gen Cert.Talk
open Idealize.ShloMosaic Idealize.ShloMosaic.TcCoe Idealize.ShloMosaic.Tactic Idealize.ShloMosaic.Pipeline Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- Two blocks added. -/
def plus (x y : Vec F S1x376x1024 .f32) : Vec F S1x376x1024 .f32 := fun j => FloatOps.addf (x j) (y j)

/-- All of a block. -/
abbrev all : Rect S1x376x1024 := Rect.unit (s := S1x376x1024) ![0, 0, 0] S1x376x1024.size inb_S1x376x1024_S1x376x1024_0_0_0

theorem ld_all (x : Vec F S1x376x1024 .f32) : View.ld x all = x := by
  funext j
  refine View.ld_unit_apply_of x _ _ _ _ _ fun a => ?_
  fin_cases a <;> exact (Nat.zero_add _).symm

/-- What the body stores is the blocks' sum. -/
theorem pay_eq (x y : Vec F S1x376x1024 .f32) : k1_pay1 (View.ld x all) (View.ld y all) = plus x y := by
  funext j
  have e (i : S376x1024.Idx) (z : Vec F S1x376x1024 .f32) (h1 : (j 1).val = (i 0).val) (h2 : (j 2).val = (i 1).val) :
      shapeCast S376x1024 z shapeCasts_S1x376x1024_S376x1024 i = z j :=
    shapeCast_apply _ shapeCasts_S1x376x1024_S376x1024 i j (by
      have h0 : (j 0).val = 0 := by have := (j 0).isLt; change (j 0).val < 1 at this; omega
      rw [Shape.rowMajor_val_three, Shape.rowMajor_val_two]
      show (((j 0).val * 376 + (j 1).val) * 1024 + (j 2).val : ℕ) = (i 0).val * 1024 + (i 1).val
      omega)
  unfold k1_pay1 plus
  rw [ld_all, ld_all]
  let i : S376x1024.Idx := fun | ⟨0, _⟩ => j 1 | ⟨1, _⟩ => j 2
  refine (shapeCast_apply _ shapeCasts_S376x1024_S1x376x1024 j i (by
    have h0 : (j 0).val = 0 := by have := (j 0).isLt; change (j 0).val < 1 at this; omega
    rw [Shape.rowMajor_val_three, Shape.rowMajor_val_two]
    show ((j 1).val * 1024 + (j 2).val : ℕ) = ((j 0).val * 376 + (j 1).val) * 1024 + (j 2).val
    omega)).trans ?_
  exact congrArg₂ FloatOps.addf (e i x rfl rfl) (e i y rfl rfl)

set_option maxHeartbeats 1000000 in
/-- THE BODY on whole buffers: the inputs' stay, the output's holds their sum. -/
theorem sum_body (c : Dev nD) (E : Set ℕ) (i : grid1.Coords) (arg2 : Memref sig .tc .smem S1 .i32) (harg2 : arg2.IsWhole)
    (arg3 : Memref sig .tc .vmem S1x376x1024 .f32) (harg3 : arg3.IsWhole) (arg4 : Memref sig .tc .vmem S1x376x1024 .f32) (harg4 : arg4.IsWhole)
    (arg5 : Memref sig .tc .vmem S1x376x1024 .f32) (harg5 : arg5.IsWhole) (x y : Vec F S1x376x1024 .f32) (K : PUnit → sProp 𝕄) :
    iprop(owns (c : Thread nD τ) arg3 fullShare x ∗ owns (c : Thread nD τ) arg4 fullShare y ∗ (∃ d, owns (c : Thread nD τ) arg5 fullShare d)
        ∗ (iprop(owns (c : Thread nD τ) arg3 fullShare x ∗ owns (c : Thread nD τ) arg4 fullShare y ∗ owns (c : Thread nD τ) arg5 fullShare (plus x y)) -∗ K ⟨⟩))
      ⊢ wp frame (wpE (defs₀ (F := F)) Variants.none c none) E (cc1_reduce_add_cores i arg2 harg2 arg3 harg3 arg4 harg4 arg5 harg5) K := by
  simp only [cc1_reduce_add_cores_eq_skeleton]; unfold cc1_reduce_add_cores_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ fun y => View.cover_of_tiled [⟨all, _⟩] S1x376x1024.size (by rfl) y).trans ?_
  rw [View.canon_cons_unit_lit _ _ _ (by decide)]
  exact pay_eq _ _

variable (m : (ℓ : Loc nD τ sig) → Buf (Elt F) ℓ)

/-- What the neighbour sent. -/
abbrev G (c : Dev nD) : Buf (Elt F) ((c.tc : Thread nD τ).loc main_v1) := landed m c

/-- Where a place of the half lies in the whole array. -/
def own (c : Dev nD) (i : S4x3008x1024.Idx) : S4x6016x1024.Idx :=
  ix3 (i 0) (⟨c.val % 2 * 3008 + (i 1).val, by have : (i 1).val < 3008 := (i 1).isLt; omega⟩ : Fin 6016) (i 2)

/-- The sum on device `c`: at each place its own value and the neighbour's added. -/
def H (c : Dev nD) : Buf (Elt F) ((c.tc : Thread nD τ).loc main_v7) :=
  fun i : S4x3008x1024.Idx => FloatOps.addf (m ((c.tc : Thread nD τ).loc main_arg0) (own c i)) (G m c i)

/-- The sum's pipeline on device `c`. -/
abbrev kfg (c : Dev nD) : Cfg sig Λ₀ := pinD (pcfgs (F := F)) adm c 1

/-- The block of the own array at a point. -/
def blkA (c : Dev nD) (t : Fin (kfg (F := F) c).N) : Vec F S1x376x1024 .f32 :=
  (((kfg (F := F) c).win 0).blk t).view.read (Elt F) (m ((c.tc : Thread nD τ).loc main_arg0))
/-- The block of the received half at a point. -/
def blkB (c : Dev nD) (t : Fin (kfg (F := F) c).N) : Vec F S1x376x1024 .f32 :=
  (((kfg (F := F) c).win 1).blk t).view.read (Elt F) (G m c)

/-- The table, as the call holds it. -/
abbrev tabHeld (c : Dev nD) : sProp (MT nD τ sig Unit (Elt F) ℕ (UU nD τ sig) ℕ) := prefHeld pre1 c (fun _ => fullShare) (tab c)

/-- The sum's data: each point leaves the sum of its two blocks. -/
def dat (c : Dev nD) : Dat τ (Elt F) Unit ℕ (UU nD τ sig) ℕ (kfg (F := F) c) c where
  A w := match w with
    | ⟨0, _⟩ => m ((c.tc : Thread nD τ).loc main_arg0)
    | ⟨1, _⟩ => G m c
    | ⟨2, _⟩ => m ((c.tc : Thread nD τ).loc main_v7)
  after w t := match w with
    | ⟨0, _⟩ => blkA m c t
    | ⟨1, _⟩ => blkB m c t
    | ⟨2, _⟩ => plus (blkA m c t) (blkB m c t)
  Φ _ := tabHeld c
  q _ := fullShare
  owed _ := 0

theorem after0 (c : Dev nD) (t : Fin (kfg (F := F) c).N) : (dat m c).after (0 : Fin 3) t = blkA m c t := by dsimp only [dat]
theorem after1 (c : Dev nD) (t : Fin (kfg (F := F) c).N) : (dat m c).after (1 : Fin 3) t = blkB m c t := by dsimp only [dat]
theorem after2 (c : Dev nD) (t : Fin (kfg (F := F) c).N) : (dat m c).after (2 : Fin 3) t = plus (blkA m c t) (blkB m c t) := by dsimp only [dat]

theorem before0 (c : Dev nD) (t : Fin (kfg (F := F) c).N) (d) : (dat m c).before (0 : Fin 3) t d = blkA m c t :=
  ((dat m c).before_in_eq_fetched (0 : Fin 3) rfl (fun _ => rfl) (fun _ _ _ => rfl) (fun t => by rw [after0]; rfl) t d).trans rfl
theorem before1 (c : Dev nD) (t : Fin (kfg (F := F) c).N) (d) : (dat m c).before (1 : Fin 3) t d = blkB m c t :=
  ((dat m c).before_in_eq_fetched (1 : Fin 3) rfl (fun _ => rfl) (fun _ _ _ => rfl) (fun t => by rw [after1]; rfl) t d).trans rfl

/-- A window's staging buffer at a point. -/
abbrev st0 (c : Dev nD) (t : Fin (kfg (F := F) c).N) := spec1_0.stage ((kfg (F := F) c).slots t (0 : Fin 3))
abbrev st1 (c : Dev nD) (t : Fin (kfg (F := F) c).N) := spec1_1.stage ((kfg (F := F) c).slots t (1 : Fin 3))
abbrev st2 (c : Dev nD) (t : Fin (kfg (F := F) c).N) := spec1_2.stage ((kfg (F := F) c).slots t (2 : Fin 3))

/-- The body at a point. -/
abbrev bodyAt (c : Dev nD) (t : Fin (kfg (F := F) c).N) : Prog (TpuEff nD τ sig (Elt F) Λ₀ .tc) PUnit :=
  cc1_reduce_add_cores (grid1.coords t) (Memref.whole main_v6) (Memref.isWhole_whole _) (st0 c t) (stage_whole1 0 _) (st1 c t) (stage_whole1 1 _)
    (st2 c t) (stage_whole1 2 _)

theorem obligation (c : Dev nD) : BodyObligation (dat m c) (defs₀ (F := F)) Variants.none () Set.univ := fun t => by
  have hb : defs₀ (F := F) .tc (kfg (F := F) c).body ((kfg (F := F) c).bodyArgs t ((kfg (F := F) c).slots t)) = bodyAt c t := by unfold defs₀; rw [Defs.onTc_tc]; rfl
  rw [hb]
  have h : iprop((dat m c).Φ t.castSucc ∗ (dat m c).owesAt () t.castSucc
        ∗ (∃ d, owns (c : Thread nD τ) (st0 c t) fullShare ((dat m c).before (0 : Fin 3) t d))
        ∗ (∃ d, owns (c : Thread nD τ) (st1 c t) fullShare ((dat m c).before (1 : Fin 3) t d))
        ∗ (∃ d, owns (c : Thread nD τ) (st2 c t) fullShare ((dat m c).before (2 : Fin 3) t d)))
      ⊢ wp frame (wpE (defs₀ (F := F)) Variants.none c none) Set.univ (bodyAt c t) (fun _ => iprop((dat m c).Φ t.succ ∗ (dat m c).owesAt () t.succ
        ∗ owns (c : Thread nD τ) (st0 c t) fullShare ((dat m c).after (0 : Fin 3) t)
        ∗ owns (c : Thread nD τ) (st1 c t) fullShare ((dat m c).after (1 : Fin 3) t)
        ∗ owns (c : Thread nD τ) (st2 c t) fullShare ((dat m c).after (2 : Fin 3) t))) := by
    unfold bodyAt
    simp only [before0, before1]
    rw [show (dat m c).Φ t.succ = (dat m c).Φ t.castSucc from rfl,
      show (dat m c).owesAt () t.succ = (dat m c).owesAt () t.castSucc from rfl, after0, after1, after2]
    iintro ⟨HΦ, Ho, ⟨%d0, H0⟩, ⟨%d1, H1⟩, ⟨%d2, H2⟩⟩
    iapply (sum_body c Set.univ (grid1.coords t) _ _ _ _ _ _ _ _ (blkA m c t) (blkB m c t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  have e (Φ : Fin 3 → sProp 𝕄) : bigSep Finset.univ Φ = iprop(Φ (0 : Fin 3) ∗ Φ (1 : Fin 3) ∗ Φ (2 : Fin 3)) := bigSep_W1 Φ
  exact triple_restated h rfl (Entails.of_eq (by rw [e]; rfl)) fun _ => Entails.of_eq (by rw [e]; rfl)

theorem covers_any : (win1 (F := Ideal) (adm 0 1) (2 : Fin 3)).Covers := by decide +kernel

/-- The sum's blocks of rows cover its result; where they lie does not depend on the table. -/
theorem covers (c : Dev nD) : ((kfg (F := F) c).win (2 : Fin 3)).Covers := covers_any

theorem index2 (c : Dev nD) (t : Fin (kfg (F := F) c).N) : ((kfg (F := F) c).win (2 : Fin 3)).index t = ![(grid1.coords t 0).val, (grid1.coords t 1).val, 0] :=
  (by decide +kernel : ∀ t : Fin grid1.N, cc1_transform_2 (grid1.coords t) = ![(grid1.coords t 0).val, (grid1.coords t 1).val, 0]) t
theorem index1 (c : Dev nD) (t : Fin (kfg (F := F) c).N) : ((kfg (F := F) c).win (1 : Fin 3)).index t = ![(grid1.coords t 0).val, (grid1.coords t 1).val, 0] :=
  (by decide +kernel : ∀ t : Fin grid1.N, cc1_transform_1 (grid1.coords t) = ![(grid1.coords t 0).val, (grid1.coords t 1).val, 0]) t
theorem index0 (c : Dev nD) (t : Fin (kfg (F := F) c).N) :
    ((kfg (F := F) c).win (0 : Fin 3)).index t = ![(grid1.coords t 0).val, c.val % 2 * 8 + (grid1.coords t 1).val, 0] := index_own c (grid1.coords t)

/-- After the last point the sum's array holds `H`. -/
theorem final (c : Dev nD) : (dat m c).arrAt (2 : Fin 3) (kfg (F := F) c).N = H m c := by
  refine (dat m c).arrAt_eq_of_covers (2 : Fin 3) _ (covers c) fun t hf y => ?_
  blk_simp
  rw [after2]
  unfold plus H
  let i0 : Fin 3 → ℕ := ((kfg (F := F) c).win (0 : Fin 3)).index t
  let i1 : Fin 3 → ℕ := ((kfg (F := F) c).win (1 : Fin 3)).index t
  let i2 : Fin 3 → ℕ := ((kfg (F := F) c).win (2 : Fin 3)).index t
  have e0 : i0 = _ := index0 c t
  have e1 : i1 = _ := index1 c t
  have e2 : i2 = _ := index2 c t
  refine congrArg₂ FloatOps.addf ?_ ?_
  · show m ((c.tc : Thread nD τ).loc main_arg0) ((((kfg (F := F) c).win (0 : Fin 3)).blk t).view.emb y) = _
    refine congrArg (m ((c.tc : Thread nD τ).loc main_arg0)) ?_
    funext a; apply Fin.ext
    match a with
    | ⟨0, _⟩ => show i0 0 * 1 + 1 * (y (0 : Fin 3)).val = i2 0 * 1 + 1 * (y (0 : Fin 3)).val; rw [e0, e2]; rfl
    | ⟨1, _⟩ => show i0 1 * 376 + 1 * (y (1 : Fin 3)).val = c.val % 2 * 3008 + (i2 1 * 376 + 1 * (y (1 : Fin 3)).val); rw [e0, e2]; show (c.val % 2 * 8 + (grid1.coords t 1).val) * 376 + _ = _ + ((grid1.coords t 1).val * 376 + _); omega
    | ⟨2, _⟩ => show i0 2 * 1024 + 1 * (y (2 : Fin 3)).val = i2 2 * 1024 + 1 * (y (2 : Fin 3)).val; rw [e0, e2]; rfl
  · show G m c ((((kfg (F := F) c).win (1 : Fin 3)).blk t).view.emb y) = _
    refine congrArg (G m c) ?_
    funext a; apply Fin.ext
    match a with
    | ⟨0, _⟩ => show i1 0 * 1 + 1 * (y (0 : Fin 3)).val = i2 0 * 1 + 1 * (y (0 : Fin 3)).val; rw [e1, e2]
    | ⟨1, _⟩ => show i1 1 * 376 + 1 * (y (1 : Fin 3)).val = i2 1 * 376 + 1 * (y (1 : Fin 3)).val; rw [e1, e2]
    | ⟨2, _⟩ => show i1 2 * 1024 + 1 * (y (2 : Fin 3)).val = i2 2 * 1024 + 1 * (y (2 : Fin 3)).val; rw [e1, e2]

/-- The two calls' data. -/
def pdats : (p : Fin 2) → (c : Dev nD) → Dat τ (Elt F) Unit ℕ (UU nD τ sig) ℕ (pinD (pcfgs (F := F)) adm c p) c
  | 0 => fun c => oneDat (pinD (pcfgs (F := F)) adm c 0) (hW := inferInstanceAs (IsEmpty (Fin 0))) c
      (iprop((pl.rights (pay m) [1] c ∗ M m c ∗ S m c) ∗ scopedRest (pcfgs (F := F) 0).spec c))
      iprop((Y m c ∗ S m c) ∗ ownSems0 pl.sm c ∗ scopedRest (pcfgs (F := F) 0).spec c) (pl.owe c [1])
  | 1 => fun c => dat m c

instance noWindow : IsEmpty (Fin (pcfgs (F := F) 0).W) := inferInstanceAs (IsEmpty (Fin 0))
instance noTable : IsEmpty (Fin (pcfgs (F := F) 0).pre.K) := inferInstanceAs (IsEmpty (Fin 0))

/-- The staging cells are distinct, whatever the tables. -/
theorem cells_inj : Function.Injective (PerCore.cellOf (nD := nD) (τ := τ) (pinD (pcfgs (F := F)) adm)) := by
  have e (c : Dev nD) (p : Fin 2) : specSems (pinD (pcfgs (F := F)) adm c p).spec = semTab p := by
    match p with
    | 0 => rfl
    | 1 => rfl
  refine PerCore.cellOf_injective _ (fun c p => specSemsDistinct_of_nodup _ ((e c p).symm ▸ semsDistinct p)) fun c p p' h =>
    specSemsDisjoint_of_disjoint _ _ ?_
  rw [e c p, e c p']
  exact fun _ hd hd' => List.forall_iff_forall_mem.1 (semsDisjoint p p' h) _ hd hd'

/-- The table's buffer, as the call holds it. -/
theorem table_eq (c : Dev nD) : (tabHeld c : sProp 𝕄) = (((c.tc : Thread nD τ).loc main_v6) ↦{fullShare} tab (F := F) c 0) := by
  unfold tabHeld prefHeld
  exact BI.bigSep_univ_eq_bigSepL [(0 : Fin 1)] (by decide) (by decide) _

theorem core_number : ∀ c : Dev nD, IntOp.remui .host (IntOp.divui .host (Dev.word c) 1#32) 2#32 = BitVec.ofNat 32 (c.val % 2) := by decide

/-- What the host leaves for the sum's table: the device's core number. -/
theorem host_table (c : Dev nD) : StableHlo.after (hostOps1 (F := F) c) (V0 m c) (Proc.devRef .tc main_v6) = tab (F := F) c 0 := by
  after_results_simp
  funext i
  exact core_number c

/-- The sum's arrays, one by one. -/
theorem arrays_eq (c : Dev nD) (t : ℕ) : ((dat m c).arrays ((dat m c).arrAt · t) : sProp 𝕄)
    = iprop((((c.tc : Thread nD τ).loc main_arg0) ↦{fullShare} m ((c.tc : Thread nD τ).loc main_arg0))
      ∗ (((c.tc : Thread nD τ).loc main_v1) ↦{fullShare} G m c)
      ∗ (((c.tc : Thread nD τ).loc main_v7) ↦{fullShare} (dat m c).arrAt (2 : Fin 3) t)) := by
  have h0 : (dat m c).arrAt (0 : Fin 3) t = m ((c.tc : Thread nD τ).loc main_arg0) := (dat m c).arrAt_in (0 : Fin 3) rfl t
  have h1 : (dat m c).arrAt (1 : Fin 3) t = G m c := (dat m c).arrAt_in (1 : Fin 3) rfl t
  have e (Φ : Fin 3 → sProp 𝕄) : bigSep Finset.univ Φ = iprop(Φ (0 : Fin 3) ∗ Φ (1 : Fin 3) ∗ Φ (2 : Fin 3)) := bigSep_W1 Φ
  unfold Dat.arrays
  rw [e, show ((dat m c).arrAt · t) (0 : Fin 3) = m ((c.tc : Thread nD τ).loc main_arg0) from h0, show ((dat m c).arrAt · t) (1 : Fin 3) = G m c from h1,
    (dat m c).share_full (fun _ => rfl)]
  rw [show ((kfg (F := F) c).win (0 : Fin 3)).arr.view.set = Finset.univ from View.set_whole _,
    show ((kfg (F := F) c).win (1 : Fin 3)).arr.view.set = Finset.univ from View.set_whole _,
    show ((kfg (F := F) c).win (2 : Fin 3)).arr.view.set = Finset.univ from View.set_whole _]
  rfl

/-- The sum as a segment. -/
def after : PerCore.RegionSeg (pcfgs (F := F)) adm (pdats m) () (defs₀ (F := F)) Variants.none Plan.L pl.lv 1 :=
  quiet (pcfgs (F := F)) adm (pdats m) (defs₀ (F := F)) Variants.none Plan.L pl.lv 1 winFacts1.to₀ block_pos1 stage_whole1
    tabHeld (fun c => .rfl)
    (obligation m) (fun _ _ => rfl) (fun _ => rfl)
    (fun c => by
      show iprop(tabHeld c ∗ _) ⊢ tabHeld c
      iintro ⟨H, -⟩
      iexact H)
    tabHeld
    (fun c => by
      rw [show (scopedRest (pcfgs (F := F) 1).spec c : sProp 𝕄) = iprop(emp) from scopedRest1_eq c]
      show tabHeld c ⊢ iprop(tabHeld c ∗ emp)
      iintro H
      isplitl [H]
      · iexact H
      iempintro)
    (fun _ => iprop(emp))

/-- What a device has of memory between the calls, and what it owes. -/
def rest (c : Dev nD) : sProp (MT nD τ sig Unit (Elt F) ℕ (UU nD τ sig) ℕ) :=
  iprop((Y m c ∗ ((c.tc : Thread nD τ).loc main_v7) ↦{fullShare} m ((c.tc : Thread nD τ).loc main_v7))
    ∗ ∃ W, owes (c.tc : Thread nD τ) (0 : CellTallies nD τ sig Unit) W)

/-- The host's operations stay within its buffers. -/
theorem host_bufs (d : Dev nD) : ∀ op ∈ hostOps1 (F := F) d, op.bufs ⊆ hostSet := by
  refine List.forall_iff_forall_mem.1 ⟨?_, ?_, ?_, ?_, ?_, ?_, ?_⟩
  · exact (by decide : ({Proc.devRef .tc main_c} : Finset (DevRef τ sig)) ⊆ hostSet)
  · exact (by decide : ({Proc.devRef .tc main_c_0} : Finset (DevRef τ sig)) ⊆ hostSet)
  · exact (by decide : ({Proc.devRef .tc main_v2} : Finset (DevRef τ sig)) ⊆ hostSet)
  · exact (by decide : ({Proc.devRef .tc main_v2, Proc.devRef .tc main_c, Proc.devRef .tc main_v3} : Finset (DevRef τ sig)) ⊆ hostSet)
  · exact (by decide : ({Proc.devRef .tc main_v3, Proc.devRef .tc main_c_0, Proc.devRef .tc main_v4} : Finset (DevRef τ sig)) ⊆ hostSet)
  · exact (by decide : ({Proc.devRef .tc main_v4, Proc.devRef .tc main_v5} : Finset (DevRef τ sig)) ⊆ hostSet)
  · exact (by decide : ({Proc.devRef .tc main_v5, Proc.devRef .tc main_v6} : Finset (DevRef τ sig)) ⊆ hostSet)

/-- The host's line on device `d` as a segment. -/
def between (d : Dev nD) : HostSeg (Name := ℕ) (U := UU nD τ sig) (pcfgs (F := F)) (defs₀ (F := F)) Variants.none Plan.L pl.lv :=
  HostSeg.ofOps (pcfgs (F := F)) (defs₀ (F := F)) Variants.none Plan.L pl.lv hostSet (hostOps1 d)
    (host_bufs d)
    (List.forall_iff_forall_mem.1 ⟨rfl, rfl, rfl, rfl, rfl, rfl, rfl⟩) (V0 m) (rest m)

theorem sems_scoped : ∀ sm : SemLoc sig, sm.isScoped .tc = true := by decide

/-- What a device has at the end. -/
def Z (c : Dev nD) : sProp (MT nD τ sig Unit (Elt F) ℕ (UU nD τ sig) ℕ) :=
  iprop(Y m c ∗ ((c.tc : Thread nD τ).loc main_v7) ↦{fullShare} H m c)

/-- The exchange leaves what the host starts from. -/
theorem to_host (d c : Dev nD) : iprop((Y m c ∗ S m c) ∗ ∃ W, owes (c.tc : Thread nD τ) (0 : CellTallies nD τ sig Unit) W) ⊢ (between m d).pre c := by
  show _ ⊢ iprop(StableHlo.held (c.tc : Thread nD τ) hostSet (V0 m c) ∗ rest m c)
  unfold S rest
  iintro ⟨⟨HY, H7, Hh⟩, HO⟩
  isplitl [Hh]; · iexact Hh
  isplitl [HY H7]
  · isplitl [HY] <;> iassumption
  iexact HO

/-- The host leaves what the sum starts from. -/
theorem to_sum (c : Dev nD) : (between m c).post c ⊢ (after m).pre c := by
  show iprop(StableHlo.held (c.tc : Thread nD τ) hostSet (StableHlo.after (hostOps1 (F := F) c) (V0 m c)) ∗ rest m c)
    ⊢ iprop(((dat m c).arrays ((dat m c).arrAt · 0) ∗ tabHeld c ∗ emp) ∗ _)
  have h : (StableHlo.held (c.tc : Thread nD τ) {Proc.devRef .tc main_v6} (StableHlo.after (hostOps1 (F := F) c) (V0 m c)) : sProp 𝕄) ⊢ tabHeld c := by
    rw [table_eq, ← host_table m c]
    unfold StableHlo.held
    rw [BI.bigSep_singleton]
  rw [arrays_eq, StableHlo.held_sub_split _ (T := {Proc.devRef .tc main_v6}) (by decide)]
  unfold rest Y
  iintro ⟨⟨Ht, -⟩, ⟨⟨H0, H1⟩, H7⟩, HO⟩
  isplitr [HO]
  · isplitl [H0 H1 H7]
    · isplitl [H0]; · iexact H0
      isplitl [H1]; · iexact H1
      iexact H7
    isplitl [Ht]
    · iapply h; iexact Ht
    iempintro
  iexact HO

/-- What the sum leaves. -/
theorem from_sum (c : Dev nD) : (after m).post c ⊢ iprop(Z m c ∗ ∃ W, owes (c.tc : Thread nD τ) (0 : CellTallies nD τ sig Unit) W) := by
  show iprop(((dat m c).arrays ((dat m c).arrAt · (kfg (F := F) c).N) ∗ tabHeld c ∗ emp) ∗ _) ⊢ _
  rw [arrays_eq, final]
  unfold Z Y
  iintro ⟨⟨⟨H0, H1, H7⟩, -⟩, HO⟩
  isplitr [HO]
  · isplitl [H0 H1]
    · isplitl [H0] <;> iassumption
    iexact H7
  iexact HO

/-- THE RUN: from any memory with zero counters, all devices terminate, each with its array unchanged, with what its neighbour
    sent in the exchange's result and `H` in the sum's, and every counter is zero. -/
theorem run_main (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)
        ∧ r.2.mem ((c.tc : Thread nD τ).loc main_v7) = H m c ∧ r.2.mem ((c.tc : Thread nD τ).loc main_v1) = G m c)
      ∧ r.2.sem = fun _ => 0) :=
  run_first (pcfgs (F := F)) adm (pdats m) cells_inj (defs₀ (F := F)) Variants.none 0 pl
    (show WinFacts₀ cfg0.spec from by decide) (show OwnSemFacts cfg0.spec pl.sm from by decide) (pay m) [1] m g main
    (fun c => [.host (between m c), .region (after m)])
    (fun c => by rw [main_chain, PerCore.Seg.run_eq_chain]; rfl)
    (fun c => List.nodup_singleton _) (fun c q hq => by rw [List.mem_singleton.1 (show q ∈ [(1 : Fin 2)] from hq)]; decide)
    (fun c => iprop(M m c ∗ S m c)) (fun c => iprop(Y m c ∗ S m c)) (Z m)
    (fun c => rfl) (fun c => N_0) (deal_bufs m)
    (fun c t W Q => by
      refine Entails.trans ?_ (body m _ c t W Q)
      iintro ⟨Hr, ⟨HM, HS⟩, HO, HQ⟩
      isplitl [Hr]; · iexact Hr
      isplitl [HM]; · iexact HM
      isplitl [HO]; · iexact HO
      iintro ⟨HY, Hz, HO⟩
      iapply HQ
      isplitr [Hz HO]
      · isplitl [HY] <;> iassumption
      isplitl [Hz] <;> iassumption)
    (fun c => ⟨to_host m c c, to_sum m c, from_sum m c⟩)
    (fun c s => s.mem ((c.tc : Thread nD τ).loc main_arg0) = m ((c.tc : Thread nD τ).loc main_arg0) ∧ s.mem ((c.tc : Thread nD τ).loc main_v7) = H m c
      ∧ s.mem ((c.tc : Thread nD τ).loc main_v1) = G m c)
    (fun c s' => by
      unfold Z Y
      iintro ⟨⟨⟨Hx, Hy⟩, Hz⟩, HSI⟩
      icombine HSI Hx gives %hx
      icombine HSI Hy gives %hy
      icombine HSI Hz gives %hz
      imodintro
      isplitr
      · ipureintro
        exact ⟨Buf.eq_of_forall_mem_univ hx, Buf.eq_of_forall_mem_univ hz, Buf.eq_of_forall_mem_univ hy⟩
      iexact HSI)
    (fun s h hs => ⟨h, sem_eq_zero_of_scoped sems_scoped hs⟩)

end Cert.CoreSumProof

end
-- ==== Proof.CoreSumFrame.lean ====
module

public import proofs.«01_k».proof.Proof.CoreSumRun
public import proofs.«01_k».proof.Proof.Gen.CoreSum

/-! # The swap with its sum, word by word

The bit-exact program has the ideal one's text: the same calls, the same host operations, the same bodies. So the one run serves
both. What a launch may be given for a call's tables is part of a program's type, hence the text is stated for any calls of the
sizes at hand, and the two programs' calls are then seen to be equal. -/

@[expose] public section

noncomputable section

namespace Cert.CoreSumProof

open Cert.CoreSumIdeal Cert.CoreSumIdeal.Gen
open Idealize.ShloMosaic Idealize.ShloMosaic.TcCoe Idealize.SL.Sem

variable {F : FTy → Type} [FloatOps F]

/-- The text of both programs, over the calls `P`. -/
def text (P : Fin 2 → Pipeline.PCfg sig Λ₀ (Elt F)) (c : Dev nD) : Prog (TpuEff nD τ sig (Elt F) (Pipeline.Sig Λ₀ (Fin 2) fun p => (P p).Adm) .tc) PUnit :=
  Pipeline.chain [Prog.lift (.customCall (Pipeline.entry 0) ()), StableHlo.seq (hostOps1 c), Prog.lift (.customCall (Pipeline.entry 1) ())]

/-- The ideal program is that text over its calls. -/
theorem text_ideal : main (F := F) = text (pcfgs (F := F)) := funext fun c => main_chain c

/-- The bit-exact program is that text over its own calls. -/
theorem text_exact (c : Dev nD) : Cert.CoreSum.main (F := F) c = text (Cert.CoreSum.pcfgs (F := F)) c := by
  unfold text
  rewrite [Pipeline.chain_cons, StableHlo.chain_seq_cons, Pipeline.chain_cons]
  chain_rfl

/-- The two programs' calls are the same. -/
theorem same_calls : (Cert.CoreSum.pcfgs (F := F) : Fin 2 → Pipeline.PCfg sig Λ₀ (Elt F)) = pcfgs (F := F) := rfl

/-- Their bodies are the same. -/
theorem same_bodies : Cert.CoreSum.defs₀ (F := F) = defs₀ (F := F) := by
  unfold Cert.CoreSum.defs₀ defs₀
  refine congrArg Defs.onTc (funext fun l => funext fun a => ?_)
  match l, a with
  | 0, _ => rfl
  | 1, (t, s) => rfl

/-- What holds of the ideal program's runs holds of the text's over the same calls, however these are written. -/
theorem of_calls (P : Fin 2 → Pipeline.PCfg sig Λ₀ (Elt F)) (hP : P = pcfgs (F := F)) (B : Defs nD τ sig (Elt F) Λ₀) (hB : B = defs₀ (F := F))
    (σ : MemSt nD τ sig (Elt F)) (post : PUnit × MemSt nD τ sig (Elt F) → Prop)
    (h : θ_run (defs (F := F)) (onTc (τ := τ) (main (F := F))) σ post) :
    θ_run (Pipeline.defs P B) (onTc (τ := τ) (text P)) σ post := by
  subst hP hB
  rw [← text_ideal]
  exact h

/-- The bit-exact program's run: it keeps its argument and leaves its counters at zero. -/
theorem run_exact (m : (ℓ : Loc Cert.CoreSum.nD Cert.CoreSum.τ Cert.CoreSum.sig) → Buf (Elt F) ℓ) (g : Dev Cert.CoreSum.nD → PrngReg) :
    θ_run (Cert.CoreSum.defs (F := F)) (onTc (τ := Cert.CoreSum.τ) (Cert.CoreSum.main (F := F))) ⟨m, fun _ => 0, g⟩
      (fun r => (∀ c : Dev Cert.CoreSum.nD, r.2.mem ((c.tc : Thread Cert.CoreSum.nD Cert.CoreSum.τ).loc Cert.CoreSum.main_arg0)
          = m ((c.tc : Thread Cert.CoreSum.nD Cert.CoreSum.τ).loc Cert.CoreSum.main_arg0)) ∧ r.2.sem = fun _ => 0) := by
  rw [show Cert.CoreSum.main (F := F) = text (Cert.CoreSum.pcfgs (F := F)) from funext text_exact]
  exact of_calls (Cert.CoreSum.pcfgs (F := F)) same_calls (Cert.CoreSum.defs₀ (F := F)) same_bodies ⟨m, fun _ => 0, g⟩ _
    ((θ_run (defs (F := F)) _ _).mono (fun _ h => ⟨fun c => (h.1 c).1, h.2⟩) (run_main (F := F) m g))

end Cert.CoreSumProof

end
-- ==== Proof.Swap.lean ====
module

public import proofs.«01_k».proof.Proof.Alone
public import proofs.«01_k».proof.Proof.Gen.SwapIdeal.Launch
public import proofs.«01_k».proof.Proof.Gen.SwapIdeal.Skeleton
public import proofs.«01_k».proof.Proof.Gen.SwapIdeal.Points

/-! # The swap of halves between the two cores of a chip

Every device copies the half of its array that its neighbour sums into the neighbour's result. Two semaphores: one counts
the own copy read out (0), the other the neighbour's copy landed (1). -/

@[expose] public section

noncomputable section

namespace Cert.SwapProof

open Cert.SwapIdeal Cert.SwapIdeal.Gen Cert.Talk
open Idealize.ShloMosaic Idealize.ShloMosaic.TcCoe Idealize.ShloMosaic.Pipeline
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- The device that shares the chip. -/
def nb : Dev nD ≃ Dev nD where
  toFun c := ⟨k0_dev1 c, k0_dev1_lt c⟩
  invFun c := ⟨k0_dev1 c, k0_dev1_lt c⟩
  left_inv := by intro c; revert c; decide
  right_inv := by intro c; revert c; decide

/-- The half that device `c` sends. -/
abbrev src (c : Dev nD) : Memref sig .tc .hbm S4x3008x1024 .f32 :=
  (Memref.whole main_arg0).slice (Rect.unit (s := S4x6016x1024) (k0_off1 c) S4x3008x1024.size (k0_off1_inb c)) (fun _ => rfl)
/-- The result, whole. -/
abbrev dst : Memref sig .tc .hbm S4x3008x1024 .f32 := Memref.whole main_v1

/-- The units of one copy. -/
def units : ℕ := dst.view.amount (.dma cc0_scratch1.sem)

/-- The plan: 0 counts the own copy, 1 the neighbour's. -/
def pl : Plan nD sig (Fin 2) where
  sm := ![.dma cc0_scratch0.sem, .dma cc0_scratch1.sem]
  inj := by decide
  amt _ := units
  pos _ := by decide
  peer := ![Equiv.refl _, nb]
  lev _ := 0

variable (m : (ℓ : Loc nD τ sig) → Buf (Elt F) ℓ)

/-- What the result of device `c` holds once its neighbour's copy has landed. -/
def landed (c : Dev nD) : Buf (Elt F) ((c.tc : Thread nD τ).loc main_v1) :=
  dst.view.write (Elt F) (m ((c.tc : Thread nD τ).loc main_v1)) ((src (nb c)).view.read (Elt F) (m (((nb c).tc : Thread nD τ).loc main_arg0))) Finset.univ

/-- What a landing hands over: the sent half back, the result at its contents. -/
def pay (c : Dev nD) (k : Fin 2) : sProp (MT nD τ sig Unit (Elt F) ℕ (UU nD τ sig) ℕ) :=
  if k = 0 then iprop((src c).view.loc (c.tc : Thread nD τ) ↦[(src c).view.set]{fullShare} m ((c.tc : Thread nD τ).loc main_arg0))
  else iprop(dst.view.loc (c.tc : Thread nD τ) ↦[dst.view.set]{fullShare} landed m c)

instance pay_storable (c : Dev nD) (k : Fin 2) : Storable (upEmb : UEmb _ 𝕄) (pay m c k) := by
  unfold pay; split <;> infer_instance

/-- What a device needs of memory: its own array, and its neighbour's result to copy into. -/
def M (c : Dev nD) : sProp (MT nD τ sig Unit (Elt F) ℕ (UU nD τ sig) ℕ) :=
  iprop((((c.tc : Thread nD τ).loc main_arg0) ↦{fullShare} m ((c.tc : Thread nD τ).loc main_arg0))
    ∗ (((nb c).tc : Thread nD τ).loc main_v1) ↦{fullShare} m (((nb c).tc : Thread nD τ).loc main_v1))

/-- What it has of memory afterwards: its own array and its own result. -/
def Y (c : Dev nD) : sProp (MT nD τ sig Unit (Elt F) ℕ (UU nD τ sig) ℕ) :=
  iprop((((c.tc : Thread nD τ).loc main_arg0) ↦{fullShare} m ((c.tc : Thread nD τ).loc main_arg0))
    ∗ ((c.tc : Thread nD τ).loc main_v1) ↦{fullShare} landed m c)

theorem bufs_eq (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ ((c.tc : Thread nD τ).loc main_v1) ↦{fullShare} V main_v1) := by
  unfold unscopedBufs
  exact BI.bigSep_eq_bigSepL_of_eq [main_arg0, main_v1] (by decide) (by decide) _

theorem deal_bufs : (bigSep Finset.univ fun c : Dev nD => (unscopedBufs c (fun b => m ((c.tc : Thread nD τ).loc b)) : sProp 𝕄))
    ⊢ bigSep Finset.univ (M m) := by
  have e : (bigSep Finset.univ fun c : Dev nD => (unscopedBufs c (fun b => m ((c.tc : Thread nD τ).loc b)) : sProp 𝕄))
      = iprop((bigSep Finset.univ fun c : Dev nD => (((c.tc : Thread nD τ).loc main_arg0) ↦{fullShare} m ((c.tc : Thread nD τ).loc main_arg0) : sProp 𝕄))
        ∗ bigSep Finset.univ fun c : Dev nD => (((c.tc : Thread nD τ).loc main_v1) ↦{fullShare} m ((c.tc : Thread nD τ).loc main_v1) : sProp 𝕄)) := by
    rw [← BI.bigSep_sep']
    exact BI.bigSep_congr fun c _ => bufs_eq c _
  rw [e, BI.bigSep_univ_equiv nb (Φ := fun c : Dev nD => (((c.tc : Thread nD τ).loc main_v1) ↦{fullShare} m ((c.tc : Thread nD τ).loc main_v1) : sProp 𝕄)),
    ← BI.bigSep_sep']
  exact BI.Entails.refl _

theorem routes (c : Dev nD) : τ.routes (c.tc : Thread nD τ) ((nb c).tc : Thread nD τ) = true := by
  revert c; decide

theorem dst_set : dst.view.set = Finset.univ := View.set_whole _

/-- The result as a view is the result's buffer. -/
theorem dst_pts (c : Dev nD) (f : Buf (Elt F) ((c.tc : Thread nD τ).loc main_v1)) :
    (dst.view.loc (c.tc : Thread nD τ) ↦[dst.view.set]{fullShare} f : sProp 𝕄) = (((c.tc : Thread nD τ).loc main_v1) ↦{fullShare} f) := by
  rw [dst_set]

/-- THE BODY of device `c`. -/
theorem body (𝒱₀ : Variants) (c : Dev nD) (t : Fin (pinD (pcfgs (F := F)) (fun _ p => (cfgs p).toPCfg_adm) c 0).N) (W : Waits sig Unit) (Q : sProp 𝕄) :
    iprop(pl.rights (pay m) [1] c ∗ M m c ∗ owes (c.tc : Thread nD τ) (pl.owe c [1]) W
        ∗ (Y m c ∗ ownSems0 pl.sm c ∗ (∃ W', owes (c.tc : Thread nD τ) (0 : CellTallies nD τ sig Unit) W') -∗ Q))
      ⊢ wp frame (wpE (defs₀ (F := F)) 𝒱₀ (c.tc : Thread nD τ) none) Set.univ
          (defs₀ .tc (pinD (pcfgs (F := F)) (fun _ p => (cfgs p).toPCfg_adm) c 0).body
            ((pinD (pcfgs (F := F)) (fun _ p => (cfgs p).toPCfg_adm) c 0).bodyArgs t ((pinD (pcfgs (F := F)) (fun _ p => (cfgs p).toPCfg_adm) c 0).slots t))) fun _ => Q := by
  show _ ⊢ wp frame (wpE (defs₀ (F := F)) 𝒱₀ (c.tc : Thread nD τ) none) Set.univ
    (cc0_reduce_swap_halves (F := F) (Memref.whole main_arg0) (Memref.isWhole_whole _) (Memref.whole main_v1) (Memref.isWhole_whole _) cc0_scratch0 cc0_scratch1) fun _ => Q
  rw [cc0_reduce_swap_halves_eq_skeleton]
  unfold cc0_reduce_swap_halves_skel Plan.rights M
  simp only [Prog.lift, Prog.bind_op, Prog.bind_ret, Prog.pure_eq_ret, wp_deviceId]
  rw [each_univ (pl.pos0 c) [0, 1] (by decide) (by decide), each_univ (pl.tok c) [0, 1] (by decide) (by decide)]
  unfold each each each
  iintro ⟨⟨⟨%κ, #Hk⟩, #Hl, ⟨Hp0, Hp1, -⟩, ⟨Ht0, Ht1, -⟩, ⟨Hc1, -⟩⟩, ⟨Ha, Hb⟩, HO, HQ⟩
  have hsplit := pointsTo_split_subset (U := UU nD τ sig) (Ix := Unit) (Name := ℕ) (Lvl := ℕ) (q := fullShare) (f := m ((c.tc : Thread nD τ).loc main_arg0))
    (Finset.subset_univ ((src c).view.set))
  ihave Ha' := hsplit.1 $$ Ha
  icases Ha' with ⟨Ha, Har⟩
  iapply (pl.wp_send (pay m) 𝒱₀ c (c' := ((nb c).tc : Thread nD τ)) (src := src c) (dst := dst) (sS := .dma cc0_scratch0.sem) (sem := .dma cc0_scratch1.sem) (q := fullShare) (fs := m ((c.tc : Thread nD τ).loc main_arg0))
      (fd := m (((nb c).tc : Thread nD τ).loc main_v1)) (κ := κ) 1 0 [] (W := W) rfl rfl rfl rfl rfl rfl
      (Entails.of_eq rfl) (by unfold pay; rw [if_neg (by decide)]; unfold landed; rw [show nb (pl.peer 1 c) = c from nb.left_inv c]; exact BI.Entails.refl _)
      (hr := routes c)) $$ [Ha Hb HO Ht0 Ht1]
  · isplitr; · iexact Hk
    isplitl [Ha]; · iexact Ha
    isplitl [Hb]; · iapply (Entails.of_eq (dst_pts (nb c) _).symm); iexact Hb
    isplitl [HO]; · iexact HO
    isplitl [Ht0] <;> iassumption
  iintro ⟨Hc0, HO⟩
  iapply (pl.wp_wait (pay m) 𝒱₀ c (κ := κ) (wpE_waitDma2_eq 𝒱₀ (c.tc : Thread nD τ) none Set.univ) 0 [] (W := W) rfl rfl (by simp)) $$ [Hc0 HO Hp0]
  · isplitr; · iexact Hk
    isplitr; · iexact Hl
    isplitl [Hc0]; · iexact Hc0
    isplitl [HO] <;> iassumption
  iintro ⟨⟨%W1, HO⟩, Hp0, Ha⟩
  iapply (pl.wp_wait (pay m) 𝒱₀ c (κ := κ) (wpE_waitDma2_eq 𝒱₀ (c.tc : Thread nD τ) none Set.univ) 1 [] (W := W1) rfl rfl (by simp)) $$ [Hc1 HO Hp1]
  · isplitr; · iexact Hk
    isplitr; · iexact Hl
    isplitl [Hc1]; · iexact Hc1
    isplitl [HO] <;> iassumption
  iintro ⟨⟨%W2, HO⟩, Hp1, Hb⟩
  rw [wp_ret]
  imod (pl.close (pay m) κ c) $$ [Hp0 Hp1] with Hz
  · isplitr; · iexact Hk
    rw [each_univ (pl.pos1 c) [0, 1] (by decide) (by decide)]
    unfold each each each
    isplitl [Hp0]; · iexact Hp0
    isplitl [Hp1]; · iexact Hp1
    iempintro
  imodintro
  iapply HQ
  isplitl [Ha Har Hb]
  · unfold Y
    isplitl [Ha Har]
    · iapply hsplit.2
      isplitl [Ha]; · iapply (show pay m c 0 ⊢ iprop((src c).view.loc (c.tc : Thread nD τ) ↦[(src c).view.set]{fullShare} m ((c.tc : Thread nD τ).loc main_arg0)) from Entails.of_eq rfl); iexact Ha
      iexact Har
    iapply (Entails.of_eq (dst_pts c _))
    iapply (show pay m c 1 ⊢ iprop(dst.view.loc (c.tc : Thread nD τ) ↦[dst.view.set]{fullShare} landed m c) from Entails.of_eq rfl); iexact Hb
  isplitl [Hz]; · iexact Hz
  iexists W2; iexact HO

theorem landed_eq (c : Dev nD) : landed m c = (src (nb c)).view.read (Elt F) (m (((nb c).tc : Thread nD τ).loc main_arg0)) := by
  unfold landed
  exact View.write_whole_univ _ _ _

theorem sems_scoped : ∀ sm : SemLoc sig, sm.isScoped .tc = true := by decide

/-- The call's data: the body's run between what the launch deals and what is left. -/
def pdats : (p : Fin 1) → (c : Dev nD) → Dat τ (Elt F) Unit ℕ (UU nD τ sig) ℕ (pinD (pcfgs (F := F)) (fun _ p => (cfgs p).toPCfg_adm) c p) c
  | 0 => fun c => oneDat (pinD (pcfgs (F := F)) (fun _ p => (cfgs p).toPCfg_adm) c 0) (hW := inferInstanceAs (IsEmpty (Fin 0))) c
      (iprop((pl.rights (pay m) [1] c ∗ M m c) ∗ scopedRest (pcfgs (F := F) 0).spec c))
      iprop(Y m c ∗ ownSems0 pl.sm c ∗ scopedRest (pcfgs (F := F) 0).spec c) (pl.owe c [1])

instance noWindow : IsEmpty (Fin (pcfgs (F := F) 0).W) := inferInstanceAs (IsEmpty (Fin 0))
instance noTable : IsEmpty (Fin (pcfgs (F := F) 0).pre.K) := inferInstanceAs (IsEmpty (Fin 0))

/-- THE RUN: from any memory with zero counters, all devices terminate, each with its array unchanged and with the half that
    its neighbour sends in its result, and every counter is zero. -/
theorem run_main (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)
        ∧ r.2.mem ((c.tc : Thread nD τ).loc main_v1) = (src (nb c)).view.read (Elt F) (m (((nb c).tc : Thread nD τ).loc main_arg0)))
      ∧ r.2.sem = fun _ => 0) :=
  run_first (pcfgs (F := F)) (fun _ p => (cfgs p).toPCfg_adm) (pdats m) cellOf_inj (defs₀ (F := F)) Variants.none 0 pl
    (show WinFacts₀ cfg0.spec from by decide) (show OwnSemFacts cfg0.spec pl.sm from by decide) (pay m) [1] m g main (fun _ => []) (fun c => rfl) (fun c => by simp [PerCore.Seg.pipes]) (fun c => by simp [PerCore.Seg.pipes])
    (M m) (Y m) (Y m) (fun c => rfl) (fun c => N_0) (deal_bufs m) (body m _) (fun c => BI.Entails.refl _)
    (fun c s => s.mem ((c.tc : Thread nD τ).loc main_arg0) = m ((c.tc : Thread nD τ).loc main_arg0) ∧ s.mem ((c.tc : Thread nD τ).loc main_v1) = landed m c)
    (fun c s' => by
      unfold Y
      iintro ⟨⟨Hx, Hy⟩, HSI⟩
      icombine HSI Hx gives %hx
      icombine HSI Hy gives %hy
      imodintro
      isplitr
      · ipureintro
        exact ⟨Buf.eq_of_forall_mem_univ hx, Buf.eq_of_forall_mem_univ hy⟩
      iexact HSI)
    (fun s h hs => ⟨fun c => ⟨(h c).1, (h c).2.trans (landed_eq m c)⟩, sem_eq_zero_of_scoped sems_scoped hs⟩)

end Cert.SwapProof

end
-- ==== Proof.SwapValue.lean ====
module

public import proofs.«01_k».proof.Proof.Swap
public import proofs.«01_k».proof.Proof.Gen.SwapRefIdeal.Run
public import Idealize.ShloMosaic.Lib.Layout
public import Idealize.ShloMosaic.Lib.Pipeline.Value
public import Idealize.ShloMosaic.Lib.ValueIdxRank6
public import Idealize.ShloMosaic.Lib.Pipeline.ValueKit.Geometry

/-! # What the swap computes

The half that a device receives is its block of the reference's result: the reference lays out, per chip, first what core 1
holds of the first halves and then what core 0 holds of the second ones. -/

@[expose] public section

noncomputable section

namespace Cert.SwapProof

open Idealize.ShloMosaic Idealize.ShloMosaic.TcCoe Idealize.ShloMosaic.ValueIdx
open Cert.SwapRefIdeal Cert.SwapRefIdeal.Facts₀

variable {α : Type}

/-- The reference's result of the whole array `A`. -/
def out (A : S32x6016x1024.Idx → α) : S32x3008x1024.Idx → α :=
  shapeCast _ (concatenate S4x2x4x3008x1024 1
    [⟨S4x1x4x3008x1024, (broadcastInDim S4x1x4x3008x1024 ![0, 2, 3, 4] bcast_S4x4x3008x1024_S4x1x4x3008x1024_0_2_3_4
        (shapeCast _ (extractStridedSlice S4x1x4x1x3008x1024 ![0, 1, 0, 0, 0, 0] (shapeCast _ A shapeCasts_S32x6016x1024_S4x2x4x2x3008x1024)
          slices_S4x2x4x2x3008x1024_S4x1x4x1x3008x1024_0_1_0_0_0_0) shapeCasts_S4x1x4x1x3008x1024_S4x4x3008x1024))⟩,
      ⟨S4x1x4x3008x1024, (broadcastInDim S4x1x4x3008x1024 ![0, 2, 3, 4] bcast_S4x4x3008x1024_S4x1x4x3008x1024_0_2_3_4
        (shapeCast _ (extractStridedSlice S4x1x4x1x3008x1024 ![0, 0, 0, 1, 0, 0] (shapeCast _ A shapeCasts_S32x6016x1024_S4x2x4x2x3008x1024)
          slices_S4x2x4x2x3008x1024_S4x1x4x1x3008x1024_0_0_0_1_0_0) shapeCasts_S4x1x4x1x3008x1024_S4x4x3008x1024))⟩]
    concatenates_S4x1x4x3008x1024_S4x1x4x3008x1024_S4x2x4x3008x1024_d1) shapeCasts_S4x2x4x3008x1024_S32x3008x1024

/-- One of the two cores' parts: of chip `p`'s array `j` on core `a`, half `b`. -/
theorem part_apply (A : S32x6016x1024.Idx → α) (off : Fin 6 → ℕ) (a b : Fin 2) (ho : off = ![0, a.val, 0, b.val, 0, 0])
    (hs : S4x2x4x2x3008x1024.Slices off S4x1x4x1x3008x1024) (p j : Fin 4) (h : Fin 3008) (k : Fin 1024) (u : Fin 1) (z : S32x6016x1024.Idx)
    (h0 : (z 0).val = 8 * p.val + 4 * a.val + j.val) (h1 : (z 1).val = 3008 * b.val + h.val) (h2 : (z 2).val = k.val) :
    broadcastInDim S4x1x4x3008x1024 ![0, 2, 3, 4] bcast_S4x4x3008x1024_S4x1x4x3008x1024_0_2_3_4
        (shapeCast _ (extractStridedSlice S4x1x4x1x3008x1024 off (shapeCast _ A shapeCasts_S32x6016x1024_S4x2x4x2x3008x1024) hs)
          shapeCasts_S4x1x4x1x3008x1024_S4x4x3008x1024) (ix5 p u j h k) = A z := by
  subst ho
  rw [broadcastInDim_apply _ _ _ _ (ix4 p j h k) (by intro a; fin_cases a <;> rfl)]
  rw [shapeCast_apply _ _ _ (ix6 p (0 : Fin 1) j (0 : Fin 1) h k) (by
    rw [Shape.rowMajor_val_six, Shape.rowMajor_val_four]
    show (((((p.val * 1 + 0) * 4 + j.val) * 1 + 0) * 3008 + h.val) * 1024 + k.val : ℕ) = ((p.val * 4 + j.val) * 3008 + h.val) * 1024 + k.val
    omega)]
  rw [extractStridedSlice_apply _ _ _ _ (ix6 p a j b h k) (by
    intro x
    fin_cases x
    · show p.val = 0 + p.val; omega
    · show a.val = a.val + 0; omega
    · show j.val = 0 + j.val; omega
    · show b.val = b.val + 0; omega
    · show h.val = 0 + h.val; omega
    · show k.val = 0 + k.val; omega)]
  exact shapeCast_apply _ _ _ z (by
    rw [Shape.rowMajor_val_six, Shape.rowMajor_val_three]
    show (((z 0).val * 6016 + (z 1).val) * 1024 + (z 2).val : ℕ) = ((((p.val * 2 + a.val) * 4 + j.val) * 2 + b.val) * 3008 + h.val) * 1024 + k.val
    rw [h0, h1, h2]
    omega)

/-- The reference's result read at chip `p`, core `q`, array `j`. -/
theorem out_apply (A : S32x6016x1024.Idx → α) (p : Fin 4) (q : Fin 2) (j : Fin 4) (h : Fin 3008) (k : Fin 1024) (y : S32x3008x1024.Idx) (z : S32x6016x1024.Idx)
    (y0 : (y 0).val = 8 * p.val + 4 * q.val + j.val) (y1 : (y 1).val = h.val) (y2 : (y 2).val = k.val)
    (h0 : (z 0).val = 8 * p.val + 4 * (1 - q.val) + j.val) (h1 : (z 1).val = 3008 * q.val + h.val) (h2 : (z 2).val = k.val) :
    out A y = A z := by
  unfold out
  refine (shapeCast_apply _ shapeCasts_S4x2x4x3008x1024_S32x3008x1024 y (ix5 p q j h k) (by
    rw [Shape.rowMajor_val_five, Shape.rowMajor_val_three]
    show ((((p.val * 2 + q.val) * 4 + j.val) * 3008 + h.val) * 1024 + k.val : ℕ) = ((y 0).val * 3008 + (y 1).val) * 1024 + (y 2).val
    rw [y0, y1, y2]; omega)).trans ?_
  have hq : q = 0 ∨ q = 1 := by omega
  rcases hq with rfl | rfl
  · refine (concatenate_pair_apply_left (s₁ := S4x1x4x3008x1024) (t := S4x2x4x3008x1024) 1 _ _ _ (ix5 p (0 : Fin 2) j h k) rfl (ix5 p (0 : Fin 1) j h k) (by intro b; fin_cases b <;> rfl)).trans ?_
    exact part_apply A _ 1 0 rfl _ p j h k 0 z h0 h1 h2
  · refine (concatenate_pair_apply_right (s₁ := S4x1x4x3008x1024) (s₂ := S4x1x4x3008x1024) (t := S4x2x4x3008x1024) 1 _ _ _ (ix5 p (1 : Fin 2) j h k) rfl rfl (ix5 p (0 : Fin 1) j h k)
      (by intro b hb; fin_cases b <;> first | rfl | exact absurd rfl hb) rfl).trans ?_
    exact part_apply A _ 0 1 rfl _ p j h k 0 z h0 h1 h2

/-- WHAT THE SWAP LEAVES on device `c`: block `c` of the reference's result. -/
theorem value {F : FTy → Type} (A : S32x6016x1024.Idx → Elt F .f32) (c : Dev Cert.SwapIdeal.nD) :
    (src (nb c)).view.read (Elt F) (Layout.block ⟨3, ![4, 6016, 1024]⟩ ⟨3, ![32, 6016, 1024]⟩ 0 8 (nb c) A)
      = Layout.block ⟨3, ![4, 3008, 1024]⟩ ⟨3, ![32, 3008, 1024]⟩ 0 8 c (out A) := by
  funext i
  have hc : (c : ℕ) < 8 := c.isLt
  have hi : (i 0).val < 4 := (i 0).isLt
  have hn : (nb c).val = 4 * (c.val / 4) + 2 * (c.val / 2 % 2) + 1 - c.val % 2 := Cert.SwapIdeal.Gen.k0_dev1_eq c
  have ho := Cert.SwapIdeal.Gen.k0_off1_eq (nb c)
  have e : ∀ a, ((src (nb c)).view.emb i a).val = Cert.SwapIdeal.k0_off1 (nb c) a + (i a).val :=
    fun a => ValueKit.view_emb_slice_whole_unit_val Cert.SwapIdeal.main_arg0 _ _ _ i a
  rw [ho] at e
  rw [Layout.block_apply, View.read_apply, Layout.block_apply]
  generalize (src (nb c)).view.emb i = w at e ⊢
  have e0 : (w 0).val = 0 + (i 0).val := e 0
  have e1 : (w 1).val = 3008 - 3008 * ((nb c).val % 2) + (i 1).val := e 1
  have e2 : (w 2).val = 0 + (i 2).val := e 2
  refine (out_apply A ⟨c.val / 2, by omega⟩ ⟨c.val % 2, by omega⟩ ⟨(i 0).val, hi⟩ ⟨(i 1).val, (i 1).isLt⟩ ⟨(i 2).val, (i 2).isLt⟩ _ _ ?_ rfl rfl ?_ ?_ ?_).symm
  · show c.val * 4 + (i 0).val = 8 * (c.val / 2) + 4 * (c.val % 2) + (i 0).val
    omega
  · show (nb c).val * 4 + (w 0).val = 8 * (c.val / 2) + 4 * (1 - c.val % 2) + (i 0).val
    omega
  · show (w 1).val = 3008 * (c.val % 2) + (i 1).val
    omega
  · show (w 2).val = (i 2).val
    omega

end Cert.SwapProof

end
-- ==== Proof.CoreSumValue.lean ====
module

public import proofs.«01_k».proof.Proof.CoreSumRun
public import proofs.«01_k».proof.Proof.SwapValue
public import proofs.«01_k».proof.Proof.Gen.CoreSumRefIdeal.Run
public import Idealize.ShloMosaic.Lib.Pipeline.Value
public import Idealize.ShloMosaic.Lib.Layout
public import Idealize.ShloMosaic.Lib.IdealHost
public import Idealize.ShloMosaic.Lib.Pointwise.Reduce
public import Idealize.ShloMosaic.Lib.ValueIdxRank6
public import Idealize.ShloMosaic.Lib.Pipeline.ValueKit.Geometry

/-! # What the swap and the sum after it compute

The received halves are those of the swap alone. A device's own half and the received one are the two cores' values of the same
places, so that their sum is the sum over the cores; on core 1 its terms stand in the other order. -/

@[expose] public section

noncomputable section

namespace Cert.CoreSumProof

open Idealize.ShloMosaic hiding ix4 ix5 ix6
open Idealize.ShloMosaic.TcCoe Idealize.ShloMosaic.ValueIdx
open Cert.CoreSumRefIdeal Cert.CoreSumRefIdeal.Facts₀

/-- The reference's received halves of the whole array `A`: those of the swap alone. -/
abbrev out {α : Type} (A : S32x6016x1024.Idx → α) : S32x3008x1024.Idx → α := Cert.SwapProof.out A

/-- What device `c` receives at place `i`, of the whole array: what the other core of its chip holds there. -/
theorem landed_apply {F : FTy → Type} [FloatOps F] (m : (ℓ : Loc Cert.CoreSumIdeal.nD Cert.CoreSumIdeal.τ Cert.CoreSumIdeal.sig) → Buf (Elt F) ℓ) (A : S32x6016x1024.Idx → Elt F .f32)
    (hm : ∀ c : Dev Cert.CoreSumIdeal.nD, m ((c.tc : Thread Cert.CoreSumIdeal.nD Cert.CoreSumIdeal.τ).loc Cert.CoreSumIdeal.main_arg0)
      = Layout.block ⟨3, ![4, 6016, 1024]⟩ ⟨3, ![32, 6016, 1024]⟩ 0 8 c A)
    (c : Dev Cert.CoreSumIdeal.nD) (i : Cert.CoreSumIdeal.S4x3008x1024.Idx) :
    ∃ z : S32x6016x1024.Idx, G m c i = A z ∧ (z 0).val = 8 * (c.val / 2) + 4 * (1 - c.val % 2) + (i 0).val
      ∧ (z 1).val = 3008 * (c.val % 2) + (i 1).val ∧ (z 2).val = (i 2).val := by
  have hc : (c : ℕ) < 8 := c.isLt
  have hn : (nb c).val = 4 * (c.val / 4) + 2 * (c.val / 2 % 2) + 1 - c.val % 2 := Cert.CoreSumIdeal.Gen.k0_dev1_eq c
  have ho := Cert.CoreSumIdeal.Gen.k0_off1_eq (nb c)
  have e : ∀ a, ((src (nb c)).view.emb i a).val = Cert.CoreSumIdeal.k0_off1 (nb c) a + (i a).val :=
    fun a => ValueKit.view_emb_slice_whole_unit_val Cert.CoreSumIdeal.main_arg0 _ _ _ i a
  rw [ho] at e
  unfold G
  rw [landed_eq, hm, View.read_apply, Layout.block_apply]
  generalize (src (nb c)).view.emb i = w at e ⊢
  have e0 : (w 0).val = 0 + (i 0).val := e 0
  have e1 : (w 1).val = 3008 - 3008 * ((nb c).val % 2) + (i 1).val := e 1
  have e2 : (w 2).val = 0 + (i 2).val := e 2
  refine ⟨_, rfl, ?_, ?_, ?_⟩
  · show (nb c).val * 4 + (w 0).val = 8 * (c.val / 2) + 4 * (1 - c.val % 2) + (i 0).val
    omega
  · show (w 1).val = 3008 * (c.val % 2) + (i 1).val
    omega
  · show (w 2).val = (i 2).val
    omega

/-- WHAT THE SWAP LEAVES on device `c`: block `c` of the reference's received halves. -/
theorem value {F : FTy → Type} [FloatOps F] (m : (ℓ : Loc Cert.CoreSumIdeal.nD Cert.CoreSumIdeal.τ Cert.CoreSumIdeal.sig) → Buf (Elt F) ℓ) (A : S32x6016x1024.Idx → Elt F .f32)
    (hm : ∀ c : Dev Cert.CoreSumIdeal.nD, m ((c.tc : Thread Cert.CoreSumIdeal.nD Cert.CoreSumIdeal.τ).loc Cert.CoreSumIdeal.main_arg0)
      = Layout.block ⟨3, ![4, 6016, 1024]⟩ ⟨3, ![32, 6016, 1024]⟩ 0 8 c A)
    (c : Dev Cert.CoreSumIdeal.nD) :
    G m c = Layout.block ⟨3, ![4, 3008, 1024]⟩ ⟨3, ![32, 3008, 1024]⟩ 0 8 c (out A) := by
  funext i
  have hc : (c : ℕ) < 8 := c.isLt
  obtain ⟨z, hz, h0, h1, h2⟩ := landed_apply m A hm c i
  rw [hz, Layout.block_apply]
  refine (Cert.SwapProof.out_apply A ⟨c.val / 2, by omega⟩ ⟨c.val % 2, by omega⟩ ⟨(i 0).val, (i 0).isLt⟩ ⟨(i 1).val, (i 1).isLt⟩ ⟨(i 2).val, (i 2).isLt⟩ _ z ?_ rfl rfl h0 h1 h2).symm
  show c.val * 4 + (i 0).val = 8 * (c.val / 2) + 4 * (c.val % 2) + (i 0).val
  omega

/-- The reference's sum over the cores, over the extended reals. -/
def outSum (A : FVec Ideal S32x6016x1024 .f32) : FVec Ideal S32x3008x1024 .f32 :=
  shapeCast _ (transpose S4x2x4x3008x1024 [0, 2, 1, 3, 4] (Host.reduceAdd (F := Ideal) (shapeCast _ A shapeCasts_S32x6016x1024_S4x2x4x2x3008x1024)
    (constant (F := Ideal) S_ .f32 0x00000000#32) reducesTo_S4x2x4x2x3008x1024_S4x4x2x3008x1024_d1 h_S_)
    transposes_S4x4x2x3008x1024_S4x2x4x3008x1024_0_2_1_3_4) shapeCasts_S4x2x4x3008x1024_S32x3008x1024

/-- The places of the whole array that the sum over the cores adds up: one of each core. -/
theorem core_fiber (p j : Fin 4) (q : Fin 2) (h : Fin 3008) (k : Fin 1024) (i : S4x2x4x2x3008x1024.Idx) :
    reducesTo_S4x2x4x2x3008x1024_S4x4x2x3008x1024_d1.drop i = ix5 p j q h k ↔ ∃ a : Fin 2, ix6 p a j q h k = i := by
  constructor
  · intro e
    refine ⟨i 1, ?_⟩
    funext b
    apply Fin.ext
    match b with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (congrArg Fin.val (congrFun e 4)).symm
  · rintro ⟨a, rfl⟩
    funext b
    apply Fin.ext
    match b with
    | ⟨0, _⟩ => rfl
    | ⟨1, _⟩ => rfl
    | ⟨2, _⟩ => rfl
    | ⟨3, _⟩ => rfl
    | ⟨4, _⟩ => rfl

/-- The reference's sum read at chip `p`, half `q`, array `j`. -/
theorem outSum_apply (A : FVec Ideal S32x6016x1024 .f32) (p : Fin 4) (q : Fin 2) (j : Fin 4) (h : Fin 3008) (k : Fin 1024) (y : S32x3008x1024.Idx)
    (z : Fin 2 → S32x6016x1024.Idx)
    (y0 : (y 0).val = 8 * p.val + 4 * q.val + j.val) (y1 : (y 1).val = h.val) (y2 : (y 2).val = k.val)
    (h0 : ∀ a, (z a 0).val = 8 * p.val + 4 * a.val + j.val) (h1 : ∀ a, (z a 1).val = 3008 * q.val + h.val) (h2 : ∀ a, (z a 2).val = k.val) :
    outSum A y = ∑ a, A (z a) := by
  unfold outSum
  refine (shapeCast_apply _ shapeCasts_S4x2x4x3008x1024_S32x3008x1024 y (ix5 p q j h k) (by
    rw [Shape.rowMajor_val_five, Shape.rowMajor_val_three]
    show ((((p.val * 2 + q.val) * 4 + j.val) * 3008 + h.val) * 1024 + k.val : ℕ) = ((y 0).val * 3008 + (y 1).val) * 1024 + (y 2).val
    rw [y0, y1, y2]; omega)).trans ?_
  refine (transpose_apply [0, 2, 1, 3, 4] _ transposes_S4x4x2x3008x1024_S4x2x4x3008x1024_0_2_1_3_4 (ix5 p q j h k) (ix5 p j q h k)
    (by intro b; fin_cases b <;> rfl)).trans ?_
  simp only [pointwise, Ideal.hostReduceAdd_def]
  show Ideal.ofBits .f32 0x00000000#32 + _ = _
  rw [Ideal.ofBits_zero_f32, zero_add]
  refine (Finset.sum_filter_eq_sum_of_fiber _ (fun a : Fin 2 => ix6 p a j q h k) (fun _ _ e => congrFun e 1) (core_fiber p j q h k) _).trans ?_
  refine Finset.sum_congr rfl fun a _ => ?_
  exact shapeCast_apply _ _ _ (z a) (by
    rw [Shape.rowMajor_val_six, Shape.rowMajor_val_three]
    show (((z a 0).val * 6016 + (z a 1).val) * 1024 + (z a 2).val : ℕ) = ((((p.val * 2 + a.val) * 4 + j.val) * 2 + q.val) * 3008 + h.val) * 1024 + k.val
    rw [h0, h1, h2]; omega)

/-- WHAT THE SUM LEAVES on device `c`: block `c` of the reference's sum. -/
theorem value_sum (m : (ℓ : Loc Cert.CoreSumIdeal.nD Cert.CoreSumIdeal.τ Cert.CoreSumIdeal.sig) → Buf (Elt Ideal) ℓ) (A : S32x6016x1024.Idx → Elt Ideal .f32)
    (hm : ∀ c : Dev Cert.CoreSumIdeal.nD, m ((c.tc : Thread Cert.CoreSumIdeal.nD Cert.CoreSumIdeal.τ).loc Cert.CoreSumIdeal.main_arg0)
      = Layout.block ⟨3, ![4, 6016, 1024]⟩ ⟨3, ![32, 6016, 1024]⟩ 0 8 c A)
    (c : Dev Cert.CoreSumIdeal.nD) :
    H m c = Layout.block ⟨3, ![4, 3008, 1024]⟩ ⟨3, ![32, 3008, 1024]⟩ 0 8 c (outSum A) := by
  funext i
  have hc : (c : ℕ) < 8 := c.isLt
  obtain ⟨z, hz, h0, h1, h2⟩ := landed_apply m A hm c i
  obtain ⟨w, hw, w0, w1, w2⟩ : ∃ w : S32x6016x1024.Idx,
      m ((c.tc : Thread Cert.CoreSumIdeal.nD Cert.CoreSumIdeal.τ).loc Cert.CoreSumIdeal.main_arg0) (own c i) = A w
        ∧ (w 0).val = 8 * (c.val / 2) + 4 * (c.val % 2) + (i 0).val ∧ (w 1).val = 3008 * (c.val % 2) + (i 1).val ∧ (w 2).val = (i 2).val := by
    rw [hm, Layout.block_apply]
    refine ⟨_, rfl, ?_, ?_, rfl⟩
    · show c.val * 4 + (i 0).val = 8 * (c.val / 2) + 4 * (c.val % 2) + (i 0).val
      omega
    · show c.val % 2 * 3008 + (i 1).val = 3008 * (c.val % 2) + (i 1).val
      omega
  unfold H
  rw [hz, hw, Layout.block_apply]
  have key := outSum_apply A (⟨c.val / 2, by omega⟩ : Fin 4) (⟨c.val % 2, by omega⟩ : Fin 2) (⟨(i 0).val, (i 0).isLt⟩ : Fin 4) (⟨(i 1).val, (i 1).isLt⟩ : Fin 3008)
    (⟨(i 2).val, (i 2).isLt⟩ : Fin 1024)
  have hy : c.val * 4 + (i 0).val = 8 * (c.val / 2) + 4 * (c.val % 2) + (i 0).val := by omega
  have hq : c.val % 2 = 0 ∨ c.val % 2 = 1 := by omega
  rcases hq with hq | hq
  · refine ((key _ ![w, z] hy rfl rfl (fun a => ?_) (fun a => ?_) (fun a => ?_)).trans (Fin.sum_univ_two _)).symm
    · match a with
      | 0 => show (w 0).val = 8 * (c.val / 2) + 4 * 0 + (i 0).val; omega
      | 1 => show (z 0).val = 8 * (c.val / 2) + 4 * 1 + (i 0).val; omega
    · match a with
      | 0 => exact w1
      | 1 => exact h1
    · match a with
      | 0 => exact w2
      | 1 => exact h2
  · refine ((key _ ![z, w] hy rfl rfl (fun a => ?_) (fun a => ?_) (fun a => ?_)).trans ((Fin.sum_univ_two _).trans (add_comm (A z) (A w)))).symm
    · match a with
      | 0 => show (z 0).val = 8 * (c.val / 2) + 4 * 0 + (i 0).val; omega
      | 1 => show (w 0).val = 8 * (c.val / 2) + 4 * 1 + (i 0).val; omega
    · match a with
      | 0 => exact h1
      | 1 => exact w1
    · match a with
      | 0 => exact h2
      | 1 => exact w2

end Cert.CoreSumProof

end
-- ==== Proof.Pieces.lean ====
module

public import proofs.«01_k».proof.Proof.OneShot
public import Idealize.ShloMosaic.Lib.Ring.Tabled

/-! # Arrays cut into pieces

An array is cut by a key of its indices: a piece is the set of the indices of one key. A copy reads one piece and writes
another; what it leaves is stated as a piece of a given final array, so that the pieces of the final array join. -/

@[expose] public section

noncomputable section

namespace Cert.Talk

open Idealize.ShloMosaic Idealize.ShloMosaic.TcCoe Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}

local notation "𝕄" => MT nD τ sig Unit Val ℕ (UU nD τ sig) ℕ

/-- The indices of key `s`. -/
def piece {X S : Type} [Fintype X] [DecidableEq S] (key : X → S) (s : S) : Finset X := Finset.univ.filter fun i => key i = s

theorem mem_piece {X S : Type} [Fintype X] [DecidableEq S] {key : X → S} {s : S} {i : X} : i ∈ piece key s ↔ key i = s := by
  simp [piece]

/-- An array is its pieces, listed in any order. -/
theorem cut {S : Type} [Fintype S] [DecidableEq S] {ℓ : Loc nD τ sig} (key : Idx ℓ → S) {q : PosShare TreeShare} (f : Buf Val ℓ) (l : List S) (hn : l.Nodup) (hl : ∀ s, s ∈ l) :
    (ℓ ↦{q} f : sProp 𝕄) = each (fun s => ℓ ↦[piece key s]{q} f) l := by
  rw [← each_univ _ l hn hl, ← pointsTo_biUnion Finset.univ (piece key) fun s _ t _ h => Finset.disjoint_left.mpr fun i hi hj => h ((mem_piece.mp hi).symm.trans (mem_piece.mp hj))]
  congr 1
  exact Finset.ext fun i => by simp [mem_piece]

/-- An array, or a piece of it, shared out in two. -/
theorem halve {ℓ : Loc nD τ sig} (I : Finset (Idx ℓ)) (q : PosShare TreeShare) (f : Buf Val ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- The pieces of one array on all devices, dealt out: `who j c` is the device on which `c` gets piece `s j c`. -/
theorem deal_pieces {S J : Type} [Fintype S] [DecidableEq S] [Fintype J] [DecidableEq J] (f : Dev nD → S → sProp 𝕄) (who : J → Dev nD ≃ Dev nD) (s : J → Dev nD → S)
    (hb : ∀ d, Function.Bijective fun j => s j ((who j).symm d)) :
    (bigSep Finset.univ fun d => bigSep Finset.univ (f d)) = bigSep Finset.univ fun c => bigSep Finset.univ fun j => f (who j c) (s j c) := by
  rw [BI.bigSep_univ_comm (fun c j => f (who j c) (s j c))]
  have e : ∀ j, (bigSep Finset.univ fun c => f (who j c) (s j c)) = bigSep Finset.univ fun d => f d (s j ((who j).symm d)) := fun j => by
    rw [BI.bigSep_univ_equiv (who j) (Φ := fun d => f d (s j ((who j).symm d)))]
    simp only [Equiv.symm_apply_apply]
  rw [BI.bigSep_congr fun j _ => e j, BI.bigSep_univ_comm (fun j d => f d (s j ((who j).symm d)))]
  exact BI.bigSep_congr fun d _ => BI.bigSep_univ_equiv (Equiv.ofBijective _ (hb d)) (Φ := f d)

/-- A view of a block of a whole array, and its squeezed form, reach the block's indices. -/
theorem set_block {κ : Kind} (b : Ref sig κ) {off size : Fin b.ty.shape.rank → ℕ} (inb) {S : Type} [DecidableEq S] (key : b.ty.shape.Idx → S) (s : S)
    (h : ∀ i : b.ty.shape.Idx, (∀ a, off a ≤ (i a).val ∧ (i a).val < off a + size a) ↔ key i = s) :
    ((View.whole b).slice (Rect.unit off size inb)).set = piece key s := by
  rw [View.set_slice_whole]
  exact Finset.ext fun i => by
    rw [mem_piece, ← h i]
    exact Rect.mem_set_unit

/-- What a copy leaves, as a piece of the final array `G`. -/
theorem written {ℓ : Thread nD τ} {s : Shape} {e : EltTy} {sp : Space} (v : View sig ℓ.2.kind sp s e) {q : PosShare TreeShare}
    (fd G : Buf Val (v.loc ℓ)) (w : s.Idx → Val e) (h : ∀ x, v.read Val G x = w x) :
    (v.loc ℓ ↦[v.set]{q} v.write Val fd w Finset.univ : sProp 𝕄) = (v.loc ℓ ↦[v.set]{q} G) := by
  refine pointsTo_congr fun i hi => ?_
  obtain ⟨x, -, rfl⟩ := Finset.mem_map.mp hi
  have e1 := View.read_write_univ (v := v) fd w
  have e2 : v.read Val (v.write Val fd w Finset.univ) x = v.read Val G x := by rw [e1, h]
  rw [View.read_apply, View.read_apply] at e2
  exact eq_of_heq ((cast_heq _ _).symm.trans ((heq_of_eq e2).trans (cast_heq _ _)))

namespace Plan

variable {K : Type} (P : Plan nD sig K) [Fintype K] [DecidableEq K] (pay : Dev nD → K → sProp (MT nD τ sig Unit Val ℕ (UU nD τ sig) ℕ))
variable {Λ : Labels} {defs : Defs nD τ sig Val Λ} (𝒱 : Variants) {α : Type} {Q : α → sProp (MT nD τ sig Unit Val ℕ (UU nD τ sig) ℕ)}
  {sp sp' : Space} {s : Shape} {e : EltTy} {κ : GSem nD τ sig → ℕ}

/-- A copy of a piece to a peer. -/
theorem step_send (c : Dev nD) {c' : Thread nD τ} {src : Memref sig .tc sp s e} {dst : Memref sig c'.2.kind sp' s e}
    {hsc : dst.view.ref.isScScratch = false} {sS sem : SemLoc sig} {hsrc : src.view.WordExact} {hdst : dst.view.WordExact}
    {hsem : DmaTarget.Typed sp sem (.remote c' dst sS hsc)} {kont : PUnit → Prog (TpuEff nD τ sig Val Λ .tc) α}
    {q : PosShare TreeShare} {fs : Buf Val (src.view.loc (c.tc : Thread nD τ))} {fd : Buf Val (dst.view.loc c')} (G : Buf Val (dst.view.loc c'))
    (I : Finset (Idx (src.view.loc (c.tc : Thread nD τ)))) (J : Finset (Idx (dst.view.loc c')))
    (k ks : K) (rest : List K) {W : Waits sig Unit}
    (hc' : ((P.peer k c).tc : Thread nD τ) = c') (hs : sem = P.sm k) (hsS : sS = P.sm ks) (hks : P.peer ks c = c)
    (hN : dst.view.amount sem = P.amt k) (hN' : P.amt ks = P.amt k)
    (hI : src.view.set = I) (hJ : dst.view.set = J) (hG : ∀ x, dst.view.read Val G x = src.view.read Val fs x)
    (hpay : (src.view.loc (c.tc : Thread nD τ) ↦[I]{q} fs) ⊢ pay c ks)
    (hpay' : (dst.view.loc c' ↦[J]{fullShare} G) ⊢ pay (P.peer k c) k)
    (hr : τ.routes (c.tc : Thread nD τ) c' = true) :
    P.known pay κ ⊢ iprop((src.view.loc (c.tc : Thread nD τ) ↦[I]{q} fs) -∗ (dst.view.loc c' ↦[J]{fullShare} fd)
        -∗ owes (c.tc : Thread nD τ) (P.owe c (k :: rest)) W -∗ P.tok c ks -∗ P.tok c k
        -∗ (cred (tallyAt (P.cell c ks) () (P.amt ks)) -∗ owes (c.tc : Thread nD τ) (P.owe c rest) W
            -∗ wp frame (wpE defs 𝒱 (c.tc : Thread nD τ) none) Set.univ (kont ⟨⟩) Q)
        -∗ wp frame (wpE defs 𝒱 (c.tc : Thread nD τ) none) Set.univ (.op (.enqueueDma src (.remote c' dst sS hsc) sem hsrc hdst hsem) kont) Q) := by
  subst hI hJ
  iintro #Hk Hs Hd HO Ht Ht' Hkont
  iapply (P.wp_send pay 𝒱 c (c' := c') (src := src) (dst := dst) (sS := sS) (sem := sem) (q := q) (fs := fs) (fd := fd) (κ := κ) k ks rest (W := W)
    hc' hs hsS hks hN hN' hpay ((Entails.of_eq (written dst.view fd G _ hG)).trans hpay') (hr := hr)) $$ [Hs Hd HO Ht Ht']
  · isplitr; · iexact Hk
    isplitl [Hs]; · iexact Hs
    isplitl [Hd]; · iexact Hd
    isplitl [HO]; · iexact HO
    isplitl [Ht] <;> iassumption
  iintro ⟨Hc, HO⟩
  iapply Hkont $$ Hc HO

/-- A copy of a piece within the device. -/
theorem step_copy (c : Dev nD) {src : Memref sig .tc sp s e} {dst : Memref sig (Proc.tc : Proc τ).kind sp' s e} {sem : SemLoc sig}
    {hsrc : src.view.WordExact} {hdst : dst.view.WordExact} {hsem : DmaTarget.Typed (nD := nD) (τ := τ) (p := (Proc.tc : Proc τ)) sp sem (.here dst)}
    {kont : PUnit → Prog (TpuEff nD τ sig Val Λ .tc) α}
    {q : PosShare TreeShare} {fs : Buf Val (src.view.loc (c.tc : Thread nD τ))} {fd : Buf Val (dst.view.loc (c.tc : Thread nD τ))} (G : Buf Val (dst.view.loc (c.tc : Thread nD τ)))
    (I : Finset (Idx (src.view.loc (c.tc : Thread nD τ)))) (J : Finset (Idx (dst.view.loc (c.tc : Thread nD τ))))
    (k : K) (hs : sem = P.sm k) (hk : P.peer k c = c) (hN : dst.view.amount sem = P.amt k)
    (hI : src.view.set = I) (hJ : dst.view.set = J) (hG : ∀ x, dst.view.read Val G x = src.view.read Val fs x)
    (hpay : iprop((dst.view.loc (c.tc : Thread nD τ) ↦[J]{fullShare} G) ∗ (src.view.loc (c.tc : Thread nD τ) ↦[I]{q} fs)) ⊢ pay c k) :
    P.known pay κ ⊢ iprop((src.view.loc (c.tc : Thread nD τ) ↦[I]{q} fs) -∗ (dst.view.loc (c.tc : Thread nD τ) ↦[J]{fullShare} fd) -∗ P.tok c k
        -∗ (cred (tallyAt (P.cell c k) () (P.amt k)) -∗ wp frame (wpE defs 𝒱 (c.tc : Thread nD τ) none) Set.univ (kont ⟨⟩) Q)
        -∗ wp frame (wpE defs 𝒱 (c.tc : Thread nD τ) none) Set.univ (.op (.enqueueDma src (.here dst) sem hsrc hdst hsem) kont) Q) := by
  subst hI hJ
  iintro #Hk Hs Hd Ht Hkont
  iapply (P.wp_copy pay 𝒱 c (src := src) (dst := dst) (sem := sem) (q := q) (fs := fs) (fd := fd) (κ := κ) k hs hk hN
    ((sep_mono (Entails.of_eq (written (ℓ := (c.tc : Thread nD τ)) dst.view fd G _ hG)) (BI.Entails.refl _)).trans hpay)) $$ [Hs Hd Ht]
  · isplitr; · iexact Hk
    isplitl [Hs]; · iexact Hs
    isplitl [Hd] <;> iassumption
  iexact Hkont

/-- A wait. -/
theorem step_wait (c : Dev nD) {w : TpuEff nD τ sig Val Λ .tc PUnit} {N : ℕ} {sem : SemLoc sig}
    (hw : ∀ R : PUnit → sProp (MT nD τ sig Unit Val ℕ (UU nD τ sig) ℕ),
      wpE defs 𝒱 (c.tc : Thread nD τ) none Set.univ w R = waitSpec (c.tc : Thread nD τ) Set.univ sem N R)
    {kont : PUnit → Prog (TpuEff nD τ sig Val Λ .tc) α} (k : K) (rest : List K) {W : Waits sig Unit}
    (hs : sem = P.sm k) (hN : N = P.amt k) (hlev : ∀ k' ∈ rest, P.lev k < P.lev k') :
    P.known pay κ ⊢ iprop(levAts L P.lv -∗ cred (tallyAt (P.cell c k) () (P.amt k)) -∗ owes (c.tc : Thread nD τ) (P.owe c rest) W -∗ P.pos0 c k
        -∗ (∀ W', owes (c.tc : Thread nD τ) (P.owe c rest) W' -∗ P.pos1 c k -∗ pay c k
            -∗ wp frame (wpE defs 𝒱 (c.tc : Thread nD τ) none) Set.univ (kont ⟨⟩) Q)
        -∗ wp frame (wpE defs 𝒱 (c.tc : Thread nD τ) none) Set.univ (.op w kont) Q) := by
  iintro #Hk #Hl Hc HO Hp Hkont
  iapply (P.wp_wait pay 𝒱 c (κ := κ) hw k rest (W := W) hs hN hlev) $$ [Hc HO Hp]
  · isplitr; · iexact Hk
    isplitr; · iexact Hl
    isplitl [Hc]; · iexact Hc
    isplitl [HO] <;> iassumption
  iintro ⟨⟨%W', HO⟩, Hp, Hy⟩
  iapply Hkont $$ %W' HO Hp Hy

end Plan

end Cert.Talk

end
-- ==== Proof.ChipSum.lean ====
module

public import proofs.«01_k».proof.Proof.Pieces
public import proofs.«01_k».proof.Proof.After
public import proofs.«01_k».proof.Proof.Gen.ChipSumIdeal.Launch
public import proofs.«01_k».proof.Proof.Gen.ChipSumIdeal.Skeleton
public import proofs.«01_k».proof.Proof.Gen.ChipSumIdeal.Points
public import Idealize.ShloMosaic.Lib.ValueIdxCore
public import Idealize.ShloMosaic.Lib.Pipeline.ValueKit.Geometry

/-! # The exchange between the chips

Every device holds four arrays, one for each chip, and sends each chip its array: slot `chip c` of the result of device `d` is
what device `c` holds for the chip of `d`. Seven semaphores: 0–2 count the own copies read out, 3–5 the other chips' copies
landed, 6 the copy of the own array. -/

@[expose] public section

noncomputable section

namespace Cert.ChipSumProof

open Cert.ChipSumIdeal Cert.ChipSumIdeal.Gen Cert.Talk
open Idealize.ShloMosaic Idealize.ShloMosaic.TcCoe Idealize.ShloMosaic.Pipeline Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- The devices that device `c` talks to: itself, and those of the same core on the three other chips. -/
def nb : Fin 4 → Dev nD ≃ Dev nD := ![Equiv.refl _,
  ⟨fun c => ⟨k0_dev1 c, k0_dev1_lt c⟩, fun c => ⟨k0_dev1 c, k0_dev1_lt c⟩, by intro c; revert c; decide, by intro c; revert c; decide⟩,
  ⟨fun c => ⟨k0_dev2 c, k0_dev2_lt c⟩, fun c => ⟨k0_dev2 c, k0_dev2_lt c⟩, by intro c; revert c; decide, by intro c; revert c; decide⟩,
  ⟨fun c => ⟨k0_dev3 c, k0_dev3_lt c⟩, fun c => ⟨k0_dev3 c, k0_dev3_lt c⟩, by intro c; revert c; decide, by intro c; revert c; decide⟩]

theorem nb_nb (j : Fin 4) (c : Dev nD) : nb j (nb j c) = c := by revert c; revert j; decide

/-- The chip of a device. -/
def chip (c : Dev nD) : Fin 4 := ⟨c.val / 2, by have : c.val < 8 := c.isLt; omega⟩

/-- The device of the same core as `c` on chip `s`. -/
def on (s : Fin 4) (c : Dev nD) : Dev nD := ⟨2 * s.val + c.val % 2, by have := s.isLt; show _ < 8; omega⟩

theorem on_chip (j : Fin 4) (c : Dev nD) : on (chip (nb j c)) c = nb j c := by revert c; revert j; decide

/-- The key of an index: its leading coordinate. -/
abbrev key (i : S4x3008x1024.Idx) : Fin 4 := i 0

/-- The order in which device `c` meets the chips. -/
def order (c : Dev nD) : List (Fin 4) := [chip c, chip (nb 1 c), chip (nb 2 c), chip (nb 3 c)]
theorem order_nodup (c : Dev nD) : (order c).Nodup := by revert c; decide
theorem mem_order (c : Dev nD) (s : Fin 4) : s ∈ order c := by revert s; revert c; decide

/-- The units of one copy. -/
def units : ℕ := ((Memref.whole main_v1).slice (Rect.unit (s := S4x3008x1024) ![0, 0, 0] S1x3008x1024.size (by decide)) (fun _ => rfl) : Memref sig .tc .hbm S1x3008x1024 .f32).view.amount (.dma cc0_scratch2.sem)

/-- The plan. -/
def pl : Plan nD sig (Fin 7) where
  sm k := .dma (k.castLE (by decide))
  inj := by decide
  amt _ := units
  pos _ := by decide
  peer := ![Equiv.refl _, Equiv.refl _, Equiv.refl _, nb 1, nb 2, nb 3, Equiv.refl _]
  lev _ := 0

variable (m : (ℓ : Loc nD τ sig) → Buf (Elt F) ℓ)

/-- The result of device `c`: slot `s` is what the device on chip `s` holds for the chip of `c`. -/
def G (c : Dev nD) : Buf (Elt F) ((c.tc : Thread nD τ).loc main_v1) :=
  fun i : S4x3008x1024.Idx => m (((on (i 0) c).tc : Thread nD τ).loc main_arg0) (ix3 (chip c) (i 1) (i 2))

/-- The array that device `c` holds for the chip of `d`. -/
abbrev A (c d : Dev nD) : sProp (MT nD τ sig Unit (Elt F) ℕ (UU nD τ sig) ℕ) :=
  ((c.tc : Thread nD τ).loc main_arg0) ↦[piece key (chip d)]{fullShare} m ((c.tc : Thread nD τ).loc main_arg0)

/-- Slot `chip d` of the result of `c`. -/
abbrev O (c d : Dev nD) (f : Buf (Elt F) ((c.tc : Thread nD τ).loc main_v1)) : sProp (MT nD τ sig Unit (Elt F) ℕ (UU nD τ sig) ℕ) :=
  ((c.tc : Thread nD τ).loc main_v1) ↦[piece key (chip d)]{fullShare} f

/-- What a landing hands over. -/
def pay (c : Dev nD) (k : Fin 7) : sProp (MT nD τ sig Unit (Elt F) ℕ (UU nD τ sig) ℕ) :=
  match k with
  | 0 => A m c (nb 1 c)
  | 1 => A m c (nb 2 c)
  | 2 => A m c (nb 3 c)
  | 3 => O c (nb 1 c) (G m c)
  | 4 => O c (nb 2 c) (G m c)
  | 5 => O c (nb 3 c) (G m c)
  | 6 => iprop(O c c (G m c) ∗ A m c c)

instance pay_storable (c : Dev nD) (k : Fin 7) : Storable (upEmb : UEmb _ 𝕄) (pay m c k) := by
  unfold pay A O
  split <;> infer_instance

/-- What a device needs of memory: its own array, and its slot on each device it talks to. -/
def M (c : Dev nD) : sProp (MT nD τ sig Unit (Elt F) ℕ (UU nD τ sig) ℕ) :=
  iprop((((c.tc : Thread nD τ).loc main_arg0) ↦{fullShare} m ((c.tc : Thread nD τ).loc main_arg0))
    ∗ bigSep Finset.univ fun j => O (nb j c) c (m (((nb j c).tc : Thread nD τ).loc main_v1)))

/-- What it has of memory afterwards: its own array and its own result. -/
def Y (c : Dev nD) : sProp (MT nD τ sig Unit (Elt F) ℕ (UU nD τ sig) ℕ) :=
  iprop((((c.tc : Thread nD τ).loc main_arg0) ↦{fullShare} m ((c.tc : Thread nD τ).loc main_arg0))
    ∗ ((c.tc : Thread nD τ).loc main_v1) ↦{fullShare} G m c)

/-- The sum's result on device `c`, as found. -/
abbrev S (c : Dev nD) (f : Buf (Elt F) ((c.tc : Thread nD τ).loc main_v2)) : sProp (MT nD τ sig Unit (Elt F) ℕ (UU nD τ sig) ℕ) :=
  ((c.tc : Thread nD τ).loc main_v2) ↦{fullShare} f

theorem bufs_eq (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ (((c.tc : Thread nD τ).loc main_v1) ↦{fullShare} V main_v1)
        ∗ S c (V main_v2)) := by
  unfold unscopedBufs
  exact BI.bigSep_eq_bigSepL_of_eq [main_arg0, main_v1, main_v2] (by decide) (by decide) _

theorem slots (c : Dev nD) (f : Buf (Elt F) ((c.tc : Thread nD τ).loc main_v1)) :
    (((c.tc : Thread nD τ).loc main_v1) ↦{fullShare} f : sProp 𝕄) = each (fun s => ((c.tc : Thread nD τ).loc main_v1) ↦[piece key s]{fullShare} f) (order c) :=
  cut (ℓ := (c.tc : Thread nD τ).loc main_v1) key f (order c) (order_nodup c) (mem_order c)

theorem deal_bufs : (bigSep Finset.univ fun c : Dev nD => (unscopedBufs c (fun b => m ((c.tc : Thread nD τ).loc b)) : sProp 𝕄))
    ⊢ bigSep Finset.univ fun c => iprop(M m c ∗ S c (m ((c.tc : Thread nD τ).loc main_v2))) := by
  have e2 (c : Dev nD) : (((c.tc : Thread nD τ).loc main_v1) ↦{fullShare} m ((c.tc : Thread nD τ).loc main_v1) : sProp 𝕄)
      = bigSep Finset.univ fun s : Fin 4 => ((c.tc : Thread nD τ).loc main_v1) ↦[piece key s]{fullShare} m ((c.tc : Thread nD τ).loc main_v1) := by
    rw [slots, each_univ _ (order c) (order_nodup c) (mem_order c)]
  have e : (bigSep Finset.univ fun c : Dev nD => (unscopedBufs c (fun b => m ((c.tc : Thread nD τ).loc b)) : sProp 𝕄))
      = iprop((bigSep Finset.univ fun c : Dev nD => (((c.tc : Thread nD τ).loc main_arg0) ↦{fullShare} m ((c.tc : Thread nD τ).loc main_arg0) : sProp 𝕄))
        ∗ (bigSep Finset.univ fun c : Dev nD => bigSep Finset.univ fun s : Fin 4 => ((c.tc : Thread nD τ).loc main_v1) ↦[piece key s]{fullShare} m ((c.tc : Thread nD τ).loc main_v1))
        ∗ bigSep Finset.univ fun c : Dev nD => S c (m ((c.tc : Thread nD τ).loc main_v2))) := by
    rw [← BI.bigSep_sep', ← BI.bigSep_sep']
    exact BI.bigSep_congr fun c _ => by rw [bufs_eq, e2]
  rw [e, deal_pieces (fun (c : Dev nD) (s : Fin 4) => (((c.tc : Thread nD τ).loc main_v1) ↦[piece key s]{fullShare} m ((c.tc : Thread nD τ).loc main_v1) : sProp 𝕄))
    nb (fun _ c => chip c) (by decide), BI.bigSep_sep']
  unfold M
  rw [BI.bigSep_sep']
  iintro ⟨H1, H2, H3⟩
  isplitr [H3]
  · isplitl [H1] <;> iassumption
  iexact H3

theorem routes (j : Fin 4) (c : Dev nD) : τ.routes (c.tc : Thread nD τ) ((nb j c).tc : Thread nD τ) = true := by
  revert c; revert j; decide

/-- One array of the four, as the kernel names it. -/
abbrev slot (b : Memref sig .tc .hbm S4x3008x1024 .f32) (off : Fin 3 → ℕ) (inb : ∀ a, off a + S1x3008x1024.size a ≤ S4x3008x1024.size a) : Memref sig .tc .hbm S3008x1024 .f32 :=
  (b.slice (Rect.unit (s := S4x3008x1024) off S1x3008x1024.size inb) (fun _ => rfl)).squeeze S3008x1024 squeezes_S1x3008x1024_S3008x1024

theorem block_iff (s : Fin 4) (i : S4x3008x1024.Idx) :
    (∀ a, (![s.val, 0, 0] : Fin 3 → ℕ) a ≤ (i a).val ∧ (i a).val < (![s.val, 0, 0] : Fin 3 → ℕ) a + S1x3008x1024.size a) ↔ key i = s := by
  constructor
  · intro h
    have h0 : s.val ≤ (i 0).val ∧ (i 0).val < s.val + 1 := h 0
    exact Fin.ext (by show (i 0).val = s.val; omega)
  · rintro rfl a
    have h1 : (i 1).val < 3008 := (i 1).isLt
    have h2 : (i 2).val < 1024 := (i 2).isLt
    fin_cases a
    · show (i 0).val ≤ (i 0).val ∧ (i 0).val < (i 0).val + 1; omega
    · show 0 ≤ (i 1).val ∧ (i 1).val < 0 + 3008; omega
    · show 0 ≤ (i 2).val ∧ (i 2).val < 0 + 1024; omega

/-- The slot's indices in the argument. -/
theorem set_arg (off) (inb) (s : Fin 4) (ho : off = ![s.val, 0, 0]) : (slot (Memref.whole main_arg0) off inb).view.set = piece key s := by
  subst ho
  exact (View.set_reshape _ _).trans (set_block main_arg0 _ key s (block_iff s))

/-- The slot's indices in the result. -/
theorem set_res (off) (inb) (s : Fin 4) (ho : off = ![s.val, 0, 0]) : (slot (Memref.whole main_v1) off inb).view.set = piece key s := by
  subst ho
  exact (View.set_reshape _ _).trans (set_block main_v1 _ key s (block_iff s))

theorem unsqueeze (x : S3008x1024.Idx) : Shape.reshapeEquiv (squeezes_S1x3008x1024_S3008x1024).numel_eq x = (ix3 (0 : Fin 1) (x 0) (x 1) : S1x3008x1024.Idx) :=
  Shape.reshapeEquiv_eq_of_rowMajor _ (by
    rw [Shape.rowMajor_val_three, Shape.rowMajor_val_two]
    show (0 * 3008 + (x 0).val) * 1024 + (x 1).val = (x 0).val * 1024 + (x 1).val
    omega)

/-- Where an index of the slot lies in the argument. -/
theorem emb_arg (off) (inb) (s : Fin 4) (ho : off = ![s.val, 0, 0]) (x : S3008x1024.Idx) : (slot (Memref.whole main_arg0) off inb).view.emb x = (ix3 s (x 0) (x 1) : S4x3008x1024.Idx) := by
  subst ho
  refine (congrArg (fun y => ((View.whole main_arg0).slice (Rect.unit (s := S4x3008x1024) ![s.val, 0, 0] S1x3008x1024.size inb)).emb y) (unsqueeze x)).trans
    (funext fun a => Fin.ext ((ValueKit.view_emb_slice_whole_unit_val main_arg0 _ _ _ (ix3 (0 : Fin 1) (x 0) (x 1) : S1x3008x1024.Idx) a).trans ?_))
  fin_cases a
  · show s.val + 0 = s.val; omega
  · show 0 + (x 0).val = (x 0).val; omega
  · show 0 + (x 1).val = (x 1).val; omega

/-- Where an index of the slot lies in the result. -/
theorem emb_res (off) (inb) (s : Fin 4) (ho : off = ![s.val, 0, 0]) (x : S3008x1024.Idx) : (slot (Memref.whole main_v1) off inb).view.emb x = (ix3 s (x 0) (x 1) : S4x3008x1024.Idx) := by
  subst ho
  refine (congrArg (fun y => ((View.whole main_v1).slice (Rect.unit (s := S4x3008x1024) ![s.val, 0, 0] S1x3008x1024.size inb)).emb y) (unsqueeze x)).trans
    (funext fun a => Fin.ext ((ValueKit.view_emb_slice_whole_unit_val main_v1 _ _ _ (ix3 (0 : Fin 1) (x 0) (x 1) : S1x3008x1024.Idx) a).trans ?_))
  fin_cases a
  · show s.val + 0 = s.val; omega
  · show 0 + (x 0).val = (x 0).val; omega
  · show 0 + (x 1).val = (x 1).val; omega

theorem on_back (j : Fin 4) (c : Dev nD) : on (chip c) (nb j c) = c := by revert c; revert j; decide

/-- What the copy from `c` to the device of its core on chip `chip (nb j c)` carries is that device's slot `chip c`. -/
theorem carries (j : Fin 4) (c : Dev nD) (off off') (inb) (inb') (ho : off = ![(chip (nb j c)).val, 0, 0]) (ho' : off' = ![(chip c).val, 0, 0]) (x : S3008x1024.Idx) :
    (slot (Memref.whole main_v1) off' inb').view.read (Elt F) (G m (nb j c)) x = (slot (Memref.whole main_arg0) off inb).view.read (Elt F) (m ((c.tc : Thread nD τ).loc main_arg0)) x := by
  rw [View.read_apply, View.read_apply, emb_arg off inb _ ho, emb_res off' inb' _ ho']
  show m (((on (chip c) (nb j c)).tc : Thread nD τ).loc main_arg0) (ix3 (chip (nb j c)) (x 0) (x 1)) = m ((c.tc : Thread nD τ).loc main_arg0) (ix3 (chip (nb j c)) (x 0) (x 1))
  rw [on_back]

theorem off1 (c : Dev nD) : k0_off1 c = ![(chip c).val, 0, 0] := by revert c; decide
theorem off2 (c : Dev nD) : k0_off2 c = ![(chip (nb 1 c)).val, 0, 0] := by revert c; decide
theorem off3 (c : Dev nD) : k0_off3 c = ![(chip (nb 2 c)).val, 0, 0] := by revert c; decide
theorem off4 (c : Dev nD) : k0_off4 c = ![(chip (nb 3 c)).val, 0, 0] := by revert c; decide

/-- What lands on the `j`-th peer is slot `chip c` of its result. -/
theorem pay_back (j : Fin 4) (c : Dev nD) (k : Fin 7) (hk : k.val = j.val + 2) (hj : j ≠ 0) :
    (iprop((((nb j c).tc : Thread nD τ).loc main_v1) ↦[piece key (chip c)]{fullShare} G m (nb j c)) : sProp 𝕄) ⊢ pay m (pl.peer k c) k := by
  have hj' : j = 1 ∨ j = 2 ∨ j = 3 := by clear hk; revert hj; revert j; decide
  rcases hj' with rfl | rfl | rfl
  · obtain rfl : k = 3 := Fin.ext hk
    show _ ⊢ O (nb 1 c) (nb 1 (nb 1 c)) (G m (nb 1 c))
    rw [nb_nb]
  · obtain rfl : k = 4 := Fin.ext hk
    show _ ⊢ O (nb 2 c) (nb 2 (nb 2 c)) (G m (nb 2 c))
    rw [nb_nb]
  · obtain rfl : k = 5 := Fin.ext hk
    show _ ⊢ O (nb 3 c) (nb 3 (nb 3 c)) (G m (nb 3 c))
    rw [nb_nb]

theorem arrays (c : Dev nD) (f : Buf (Elt F) ((c.tc : Thread nD τ).loc main_arg0)) :
    (((c.tc : Thread nD τ).loc main_arg0) ↦{fullShare} f : sProp 𝕄) = each (fun s => ((c.tc : Thread nD τ).loc main_arg0) ↦[piece key s]{fullShare} f) (order c) :=
  cut (ℓ := (c.tc : Thread nD τ).loc main_arg0) key f (order c) (order_nodup c) (mem_order c)

set_option maxHeartbeats 1000000 in
/-- THE BODY of device `c`. -/
theorem body (𝒱₀ : Variants) (c : Dev nD) (t : Fin (pinD (pcfgs (F := F)) (fun _ p => (cfgs p).toPCfg_adm) c 0).N) (W : Waits sig Unit) (Q : sProp 𝕄) :
    iprop(pl.rights (pay m) [3, 4, 5] c ∗ M m c ∗ owes (c.tc : Thread nD τ) (pl.owe c [3, 4, 5]) W
        ∗ (Y m c ∗ ownSems0 pl.sm c ∗ (∃ W', owes (c.tc : Thread nD τ) (0 : CellTallies nD τ sig Unit) W') -∗ Q))
      ⊢ wp frame (wpE (defs₀ (F := F)) 𝒱₀ (c.tc : Thread nD τ) none) Set.univ
          (defs₀ .tc (pinD (pcfgs (F := F)) (fun _ p => (cfgs p).toPCfg_adm) c 0).body
            ((pinD (pcfgs (F := F)) (fun _ p => (cfgs p).toPCfg_adm) c 0).bodyArgs t ((pinD (pcfgs (F := F)) (fun _ p => (cfgs p).toPCfg_adm) c 0).slots t))) fun _ => Q := by
  show _ ⊢ wp frame (wpE (defs₀ (F := F)) 𝒱₀ (c.tc : Thread nD τ) none) Set.univ
    (cc0_reduce_exchange_chips (F := F) (Memref.whole main_arg0) (Memref.isWhole_whole _) (Memref.whole main_v1) (Memref.isWhole_whole _) cc0_scratch0 cc0_scratch1 cc0_scratch2) fun _ => Q
  rw [cc0_reduce_exchange_chips_eq_skeleton]
  unfold cc0_reduce_exchange_chips_skel Plan.rights M
  rw [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  rw [each_univ (pl.pos0 c) [0, 1, 2, 3, 4, 5, 6] (by decide) (by decide), each_univ (pl.tok c) [0, 1, 2, 3, 4, 5, 6] (by decide) (by decide),
    each_univ (fun j : Fin 4 => O (nb j c) c (m (((nb j c).tc : Thread nD τ).loc main_v1))) [0, 1, 2, 3] (by decide) (by decide), arrays]
  simp only [each, order]
  rw [show O (nb 0 c) c (m (((nb 0 c).tc : Thread nD τ).loc main_v1)) = O c c (m ((c.tc : Thread nD τ).loc main_v1)) from rfl]
  iintro ⟨⟨⟨%κ, #Hk⟩, #Hl, ⟨Hp0, Hp1, Hp2, Hp3, Hp4, Hp5, Hp6, -⟩, ⟨Ht0, Ht1, Ht2, Ht3, Ht4, Ht5, Ht6, -⟩, ⟨Hc3, Hc4, Hc5, -⟩⟩, ⟨⟨Ha0, Ha1, Ha2, Ha3, -⟩, ⟨Hb0, Hb1, Hb2, Hb3, -⟩⟩, HO, HQ⟩
  iapply (pl.step_copy (pay m) 𝒱₀ c (κ := κ) (src := slot (Memref.whole main_arg0) (k0_off1 c) (k0_off1_inb c)) (dst := slot (Memref.whole main_v1) (k0_off1 c) (k0_off1_inb c))
      (q := fullShare) (fs := m ((c.tc : Thread nD τ).loc main_arg0)) (fd := m ((c.tc : Thread nD τ).loc main_v1)) (G m c) (piece key (chip c)) (piece key (chip c)) 6 rfl rfl rfl
      (set_arg _ _ _ (off1 c)) (set_res _ _ _ (off1 c)) (carries m 0 c _ _ _ _ (off1 c) (off1 c)) (BI.Entails.refl _)) $$ Hk [Ha0] [Hb0] Ht6
  · iexact Ha0
  · iexact Hb0
  iintro Hc6
  iapply (pl.step_send (pay m) 𝒱₀ c (κ := κ) (c' := ((nb 1 c).tc : Thread nD τ)) (src := slot (Memref.whole main_arg0) (k0_off2 c) (k0_off2_inb c)) (dst := slot (Memref.whole main_v1) (k0_off1 c) (k0_off1_inb c))
      (q := fullShare) (fs := m ((c.tc : Thread nD τ).loc main_arg0)) (fd := m (((nb 1 c).tc : Thread nD τ).loc main_v1)) (G m (nb 1 c)) (piece key (chip (nb 1 c))) (piece key (chip c)) 3 0 [4, 5] (W := W)
      rfl rfl rfl rfl rfl rfl (set_arg _ _ _ (off2 c)) (set_res _ _ _ (off1 c)) (carries m 1 c _ _ _ _ (off2 c) (off1 c)) (BI.Entails.refl _) (pay_back m 1 c 3 rfl (by decide)) (hr := routes 1 c)) $$ Hk [Ha1] [Hb1] HO Ht0 Ht3
  · iexact Ha1
  · iexact Hb1
  iintro Hc0 HO
  iapply (pl.step_send (pay m) 𝒱₀ c (κ := κ) (c' := ((nb 2 c).tc : Thread nD τ)) (src := slot (Memref.whole main_arg0) (k0_off3 c) (k0_off3_inb c)) (dst := slot (Memref.whole main_v1) (k0_off1 c) (k0_off1_inb c))
      (q := fullShare) (fs := m ((c.tc : Thread nD τ).loc main_arg0)) (fd := m (((nb 2 c).tc : Thread nD τ).loc main_v1)) (G m (nb 2 c)) (piece key (chip (nb 2 c))) (piece key (chip c)) 4 1 [5] (W := W)
      rfl rfl rfl rfl rfl rfl (set_arg _ _ _ (off3 c)) (set_res _ _ _ (off1 c)) (carries m 2 c _ _ _ _ (off3 c) (off1 c)) (BI.Entails.refl _) (pay_back m 2 c 4 rfl (by decide)) (hr := routes 2 c)) $$ Hk [Ha2] [Hb2] HO Ht1 Ht4
  · iexact Ha2
  · iexact Hb2
  iintro Hc1 HO
  iapply (pl.step_send (pay m) 𝒱₀ c (κ := κ) (c' := ((nb 3 c).tc : Thread nD τ)) (src := slot (Memref.whole main_arg0) (k0_off4 c) (k0_off4_inb c)) (dst := slot (Memref.whole main_v1) (k0_off1 c) (k0_off1_inb c))
      (q := fullShare) (fs := m ((c.tc : Thread nD τ).loc main_arg0)) (fd := m (((nb 3 c).tc : Thread nD τ).loc main_v1)) (G m (nb 3 c)) (piece key (chip (nb 3 c))) (piece key (chip c)) 5 2 [] (W := W)
      rfl rfl rfl rfl rfl rfl (set_arg _ _ _ (off4 c)) (set_res _ _ _ (off1 c)) (carries m 3 c _ _ _ _ (off4 c) (off1 c)) (BI.Entails.refl _) (pay_back m 3 c 5 rfl (by decide)) (hr := routes 3 c)) $$ Hk [Ha3] [Hb3] HO Ht2 Ht5
  · iexact Ha3
  · iexact Hb3
  iintro Hc2 HO
  iapply (pl.step_wait (pay m) 𝒱₀ c (κ := κ) (wpE_waitDma2_eq 𝒱₀ (c.tc : Thread nD τ) none Set.univ) 3 [] (W := W) rfl rfl (by simp)) $$ Hk Hl Hc3 HO Hp3
  iintro %W3 HO Hp3 Hy3
  iapply (pl.step_wait (pay m) 𝒱₀ c (κ := κ) (wpE_waitDma2_eq 𝒱₀ (c.tc : Thread nD τ) none Set.univ) 4 [] (W := W3) rfl rfl (by simp)) $$ Hk Hl Hc4 HO Hp4
  iintro %W4 HO Hp4 Hy4
  iapply (pl.step_wait (pay m) 𝒱₀ c (κ := κ) (wpE_waitDma2_eq 𝒱₀ (c.tc : Thread nD τ) none Set.univ) 5 [] (W := W4) rfl rfl (by simp)) $$ Hk Hl Hc5 HO Hp5
  iintro %W5 HO Hp5 Hy5
  iapply (pl.step_wait (pay m) 𝒱₀ c (κ := κ) (wpE_waitDma2_eq 𝒱₀ (c.tc : Thread nD τ) none Set.univ) 0 [] (W := W5) rfl rfl (by simp)) $$ Hk Hl Hc0 HO Hp0
  iintro %W0 HO Hp0 Hy0
  iapply (pl.step_wait (pay m) 𝒱₀ c (κ := κ) (wpE_waitDma2_eq 𝒱₀ (c.tc : Thread nD τ) none Set.univ) 1 [] (W := W0) rfl rfl (by simp)) $$ Hk Hl Hc1 HO Hp1
  iintro %W1 HO Hp1 Hy1
  iapply (pl.step_wait (pay m) 𝒱₀ c (κ := κ) (wpE_waitDma2_eq 𝒱₀ (c.tc : Thread nD τ) none Set.univ) 2 [] (W := W1) rfl rfl (by simp)) $$ Hk Hl Hc2 HO Hp2
  iintro %W2 HO Hp2 Hy2
  iapply (pl.step_wait (pay m) 𝒱₀ c (κ := κ) (wpE_waitDma2_eq 𝒱₀ (c.tc : Thread nD τ) none Set.univ) 6 [] (W := W2) rfl rfl (by simp)) $$ Hk Hl Hc6 HO Hp6
  iintro %W6 HO Hp6 Hy6
  rw [wp_ret]
  imod (pl.close (pay m) κ c) $$ [Hp0 Hp1 Hp2 Hp3 Hp4 Hp5 Hp6] with Hz
  · isplitr; · iexact Hk
    rw [each_univ (pl.pos1 c) [0, 1, 2, 3, 4, 5, 6] (by decide) (by decide)]
    simp only [each]
    iframe
  imodintro
  iapply HQ
  ihave Hy0 := (show pay m c 0 ⊢ A m c (nb 1 c) from BI.Entails.refl _) $$ Hy0
  ihave Hy1 := (show pay m c 1 ⊢ A m c (nb 2 c) from BI.Entails.refl _) $$ Hy1
  ihave Hy2 := (show pay m c 2 ⊢ A m c (nb 3 c) from BI.Entails.refl _) $$ Hy2
  ihave Hy3 := (show pay m c 3 ⊢ O c (nb 1 c) (G m c) from BI.Entails.refl _) $$ Hy3
  ihave Hy4 := (show pay m c 4 ⊢ O c (nb 2 c) (G m c) from BI.Entails.refl _) $$ Hy4
  ihave Hy5 := (show pay m c 5 ⊢ O c (nb 3 c) (G m c) from BI.Entails.refl _) $$ Hy5
  icases (show pay m c 6 ⊢ iprop(O c c (G m c) ∗ A m c c) from BI.Entails.refl _) $$ Hy6 with ⟨Hb0, Ha0⟩
  isplitl [Ha0 Hb0 Hy0 Hy1 Hy2 Hy3 Hy4 Hy5]
  · unfold Y
    rw [arrays, slots]
    simp only [each, order]
    isplitl [Ha0 Hy0 Hy1 Hy2]
    · isplitl [Ha0]; · iexact Ha0
      isplitl [Hy0]; · iexact Hy0
      isplitl [Hy1]; · iexact Hy1
      isplitl [Hy2]; · iexact Hy2
      iempintro
    isplitl [Hb0]; · iexact Hb0
    isplitl [Hy3]; · iexact Hy3
    isplitl [Hy4]; · iexact Hy4
    isplitl [Hy5]; · iexact Hy5
    iempintro
  isplitl [Hz]; · iexact Hz
  iexists W6; iexact HO

end Cert.ChipSumProof

end
-- ==== Proof.ChipSumRun.lean ====
module

public import proofs.«01_k».proof.Proof.ChipSum
public import Idealize.ShloMosaic.Lib.Pipeline.FrameBody
public import Idealize.ShloMosaic.Lib.Tactic
public import Idealize.ShloMosaic.Lib.Pipeline.ValueKit.Tiles

/-! # The sum of the exchanged halves, and the run of both calls

The sum adds, block of rows by block of rows, the four slots of what the exchange left. -/

@[expose] public section

noncomputable section

namespace Cert.ChipSumProof

open Cert.ChipSumIdeal Cert.ChipSumIdeal.Gen Cert.Talk
open Idealize.ShloMosaic Idealize.ShloMosaic.TcCoe Idealize.ShloMosaic.Tactic Idealize.ShloMosaic.Pipeline Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- Four values added in order. -/
def sum4 (f : Fin 4 → F .f32) : F .f32 :=
  FloatOps.addf (FloatOps.addf (FloatOps.addf (f 0) (f 1)) (f 2)) (f 3)

/-- A block's sum over its slots. -/
def tot (x : Vec F S4x376x1024 .f32) : Vec F S376x1024 .f32 := fun y => sum4 fun s => x (ix3 s (y 0) (y 1))

/-- One slot of a block. -/
abbrev row (s : Fin 4) : Rect S4x376x1024 := Rect.unit (s := S4x376x1024) ![s.val, 0, 0] S1x376x1024.size (by revert s; decide)

/-- All of a block of the result. -/
abbrev all : Rect S376x1024 := Rect.unit (s := S376x1024) ![0, 0] S376x1024.size inb_S376x1024_S376x1024_0_0

theorem row_apply (x : Vec F S4x376x1024 .f32) (s : Fin 4) (y : S376x1024.Idx) :
    shapeCast S376x1024 (View.ld x (row s)) shapeCasts_S1x376x1024_S376x1024 y = x (ix3 s (y 0) (y 1)) := by
  rw [shapeCast_apply _ shapeCasts_S1x376x1024_S376x1024 y (ix3 (0 : Fin 1) (y 0) (y 1)) (by
    rw [Shape.rowMajor_val_three, Shape.rowMajor_val_two]
    show ((0 * 376 + (y 0).val) * 1024 + (y 1).val : ℕ) = (y 0).val * 1024 + (y 1).val
    omega)]
  refine View.ld_unit_apply_of x _ _ _ _ _ fun a => ?_
  fin_cases a
  · show s.val = s.val + 0; omega
  · show (y 0).val = 0 + (y 0).val; omega
  · show (y 1).val = 0 + (y 1).val; omega

/-- What the body stores is the block's sum. -/
theorem pay_eq (x : Vec F S4x376x1024 .f32) :
    k1_pay1 (View.ld x (row 0)) (View.ld x (row 1)) (View.ld x (row 2)) (View.ld x (row 3)) = tot x := by
  funext y
  unfold tot sum4
  simp only [← row_apply]
  rfl

set_option maxHeartbeats 1000000 in
/-- THE BODY on whole buffers: the input's stays, the output's holds its sum. -/
theorem sum_body (c : Dev nD) (E : Set ℕ) (i : grid1.Coords) (arg1 : Memref sig .tc .vmem S4x376x1024 .f32) (harg1 : arg1.IsWhole)
    (arg2 : Memref sig .tc .vmem S376x1024 .f32) (harg2 : arg2.IsWhole) (x : Vec F S4x376x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (tot x)) -∗ K ⟨⟩))
      ⊢ wp frame (wpE (defs₀ (F := F)) Variants.none c none) E (cc1_reduce_add_chips i arg1 harg1 arg2 harg2) K := by
  simp only [cc1_reduce_add_chips_eq_skeleton]; unfold cc1_reduce_add_chips_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ fun y => View.cover_of_tiled [⟨all, _⟩] S376x1024.size (by rfl) y).trans ?_
  rw [View.canon_cons_unit_lit _ _ _ (by decide)]
  exact pay_eq _

variable (m : (ℓ : Loc nD τ sig) → Buf (Elt F) ℓ)

/-- The sum on device `c`: at each place the four slots added. -/
def H (c : Dev nD) : Buf (Elt F) ((c.tc : Thread nD τ).loc main_v2) :=
  fun i : S3008x1024.Idx => sum4 fun s => G m c (ix3 s (i 0) (i 1) : S4x3008x1024.Idx)

/-- The block of the exchanged halves at a point. -/
def blk (c : Dev nD) (t : Fin cfg1.N) : Vec F S4x376x1024 .f32 := ((cfg1.win 0).blk t).view.read (Elt F) (G m c)

/-- The sum's data: from the exchanged halves, each point leaves the sum of its block. -/
def dat (c : Dev nD) : Dat τ (Elt F) Unit ℕ (UU nD τ sig) ℕ cfg1 c where
  A w := match w with
    | ⟨0, _⟩ => G m c
    | ⟨1, _⟩ => m ((c.tc : Thread nD τ).loc main_v2)
  after w t := match w with
    | ⟨0, _⟩ => blk m c t
    | ⟨1, _⟩ => tot (blk m c t)
  Φ _ := iprop(emp)
  q _ := fullShare
  owed _ := 0

theorem after0 (c : Dev nD) (t : Fin cfg1.N) : (dat m c).after 0 t = blk m c t := by dsimp only [dat]
theorem after1 (c : Dev nD) (t : Fin cfg1.N) : (dat m c).after 1 t = tot (blk m c t) := by dsimp only [dat]

theorem before0 (c : Dev nD) (t : Fin cfg1.N) (d) : (dat m c).before 0 t d = blk m c t :=
  ((dat m c).before_in_eq_fetched 0 rfl (fun _ => rfl) (fun _ _ _ => rfl) (fun t => by rw [after0]; rfl) t d).trans rfl

theorem obligation (c : Dev nD) : BodyObligation (dat m c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  have h : iprop((dat m c).Φ t.castSucc ∗ (dat m c).owesAt () t.castSucc
        ∗ (∃ d, owns (c : Thread nD τ) (st1_0 t) fullShare ((dat m c).before 0 t d))
        ∗ (∃ d, owns (c : Thread nD τ) (st1_1 t) fullShare ((dat m c).before 1 t d)))
      ⊢ wp frame (wpE (defs₀ (F := F)) Variants.none c none) Set.univ (bodyAt1 t) (fun _ => iprop((dat m c).Φ t.succ ∗ (dat m c).owesAt () t.succ
        ∗ owns (c : Thread nD τ) (st1_0 t) fullShare ((dat m c).after 0 t)
        ∗ owns (c : Thread nD τ) (st1_1 t) fullShare ((dat m c).after 1 t))) := by
    unfold bodyAt1
    simp only [before0]
    rw [show (dat m c).Φ t.succ = (dat m c).Φ t.castSucc from rfl,
      show (dat m c).owesAt () t.succ = (dat m c).owesAt () t.castSucc from rfl, after0, after1]
    iintro ⟨HΦ, Ho, ⟨%d0, H0⟩, ⟨%d1, H1⟩⟩
    iapply (sum_body c Set.univ (grid1.coords t) _ _ _ _ (blk m c t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  exact triple_restated h rfl .rfl fun _ => .rfl

theorem index1_0 : ∀ t : Fin cfg1.N, win1_0.index t = ![0, win1_1.index t 0, 0] := (by decide +kernel : ∀ t : Fin grid1.N, _)
theorem index1_1 : ∀ t : Fin cfg1.N, win1_1.index t 1 = 0 := (by decide +kernel : ∀ t : Fin grid1.N, _)

/-- After the last point the sum's array holds `H`. -/
theorem final (c : Dev nD) : (dat m c).arrAt 1 cfg1.N = H m c := by
  refine (dat m c).arrAt_eq_of_covers 1 _ (by decide +kernel) fun t hf y => ?_
  blk_simp
  rw [after1]
  unfold tot H
  refine congrArg sum4 (funext fun s => ?_)
  unfold blk
  rw [View.read_apply]
  refine congrArg (G m c) ?_
  funext a; apply Fin.ext
  match a with
  | ⟨0, _⟩ => show win1_0.index t 0 * 4 + 1 * s.val = s.val; rw [index1_0]; show 0 * 4 + 1 * s.val = s.val; omega
  | ⟨1, _⟩ => show win1_0.index t 1 * 376 + 1 * (y 0).val = win1_1.index t 0 * 376 + 1 * (y 0).val; rw [index1_0]; rfl
  | ⟨2, _⟩ => show win1_0.index t 2 * 1024 + 1 * (y 1).val = win1_1.index t 1 * 1024 + 1 * (y 1).val; rw [index1_0, index1_1]; rfl

/-- The two calls' data. -/
def pdats : (p : Fin 2) → (c : Dev nD) → Dat τ (Elt F) Unit ℕ (UU nD τ sig) ℕ (pinD (pcfgs (F := F)) (fun _ p => (cfgs p).toPCfg_adm) c p) c
  | 0 => fun c => oneDat (pinD (pcfgs (F := F)) (fun _ p => (cfgs p).toPCfg_adm) c 0) (hW := inferInstanceAs (IsEmpty (Fin 0))) c
      (iprop((pl.rights (pay m) [3, 4, 5] c ∗ M m c ∗ S c (m ((c.tc : Thread nD τ).loc main_v2))) ∗ scopedRest (pcfgs (F := F) 0).spec c))
      iprop((Y m c ∗ S c (m ((c.tc : Thread nD τ).loc main_v2))) ∗ ownSems0 pl.sm c ∗ scopedRest (pcfgs (F := F) 0).spec c) (pl.owe c [3, 4, 5])
  | 1 => fun c => dat m c

instance noWindow : IsEmpty (Fin (pcfgs (F := F) 0).W) := inferInstanceAs (IsEmpty (Fin 0))
instance noTable (p : Fin 2) : IsEmpty (Fin (pcfgs (F := F) p).pre.K) := by fin_cases p <;> exact inferInstanceAs (IsEmpty (Fin 0))

/-- The sum's arrays, one by one. -/
theorem arrays_eq (c : Dev nD) (t : ℕ) : ((dat m c).arrays ((dat m c).arrAt · t) : sProp 𝕄)
    = iprop((((c.tc : Thread nD τ).loc main_v1) ↦{fullShare} G m c) ∗ S c ((dat m c).arrAt 1 t)) := by
  have h0 : (dat m c).arrAt 0 t = G m c := (dat m c).arrAt_in 0 rfl t
  unfold Dat.arrays
  rw [bigSep_W1, show ((dat m c).arrAt · t) 0 = G m c from h0, (dat m c).share_full (fun _ => rfl)]
  rw [show (cfg1.win 0).arr.view.set = Finset.univ from View.set_whole _, show (cfg1.win 1).arr.view.set = Finset.univ from View.set_whole _]
  rfl

/-- The sum as a segment. -/
def after : PerCore.RegionSeg (pcfgs (F := F)) (fun _ p => (cfgs p).toPCfg_adm) (pdats m) () (defs₀ (F := F)) Variants.none Plan.L pl.lv 1 :=
  quiet (pcfgs (F := F)) (fun _ p => (cfgs p).toPCfg_adm) (pdats m) (defs₀ (F := F)) Variants.none Plan.L pl.lv 1 winFacts1.to₀ block_pos1 stage_whole1
    (fun _ => iprop(emp)) (fun c => by unfold prefHeld; rw [bigSep_none])
    (obligation m) (fun _ _ => rfl) (fun _ => rfl)
    (fun c => by
      iintro -
      iempintro)
    (fun _ => iprop(emp))
    (fun c => by
      rw [show (scopedRest (pcfgs (F := F) 1).spec c : sProp 𝕄) = iprop(emp) from scopedRest1_eq c]
      iintro -
      isplitr <;> iempintro)
    (fun c => ((c.tc : Thread nD τ).loc main_arg0) ↦{fullShare} m ((c.tc : Thread nD τ).loc main_arg0))

theorem sems_scoped : ∀ sm : SemLoc sig, sm.isScoped .tc = true := by decide

/-- What a device has at the end. -/
def Z (c : Dev nD) : sProp (MT nD τ sig Unit (Elt F) ℕ (UU nD τ sig) ℕ) := iprop(Y m c ∗ S c (H m c))

/-- THE RUN: from any memory with zero counters, all devices terminate, each with its array unchanged, with `G` in the exchange's
    result and `H` in the sum's, and every counter is zero. -/
theorem run_main (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)
        ∧ r.2.mem ((c.tc : Thread nD τ).loc main_v2) = H m c ∧ r.2.mem ((c.tc : Thread nD τ).loc main_v1) = G m c)
      ∧ r.2.sem = fun _ => 0) :=
  run_first (pcfgs (F := F)) (fun _ p => (cfgs p).toPCfg_adm) (pdats m) cellOf_inj (defs₀ (F := F)) Variants.none 0 pl
    (show WinFacts₀ cfg0.spec from by decide) (show OwnSemFacts cfg0.spec pl.sm from by decide) (pay m) [3, 4, 5] m g main
    (fun _ => [.region (after m)]) (fun c => rfl) (fun c => List.nodup_singleton _) (fun c q hq => by rw [List.mem_singleton.1 hq]; decide)
    (fun c => iprop(M m c ∗ S c (m ((c.tc : Thread nD τ).loc main_v2)))) (fun c => iprop(Y m c ∗ S c (m ((c.tc : Thread nD τ).loc main_v2)))) (Z m)
    (fun c => rfl) (fun c => N_0) (deal_bufs m)
    (fun c t W Q => by
      refine Entails.trans ?_ (body m _ c t W Q)
      iintro ⟨Hr, ⟨HM, HS⟩, HO, HQ⟩
      isplitl [Hr]; · iexact Hr
      isplitl [HM]; · iexact HM
      isplitl [HO]; · iexact HO
      iintro ⟨HY, Hz, HO⟩
      iapply HQ
      isplitr [Hz HO]
      · isplitl [HY] <;> iassumption
      isplitl [Hz] <;> iassumption)
    (fun c => ⟨by
      show _ ⊢ iprop(((dat m c).arrays ((dat m c).arrAt · 0) ∗ _ ∗ _) ∗ _)
      rw [arrays_eq]
      unfold Y
      iintro ⟨⟨⟨Ha, Hg⟩, HS⟩, HO⟩
      isplitr [HO]
      · isplitl [Hg HS]
        · isplitl [Hg]; · iexact Hg
          iexact HS
        isplitr; · iempintro
        iexact Ha
      iexact HO, by
      show iprop(((dat m c).arrays ((dat m c).arrAt · cfg1.N) ∗ _ ∗ _) ∗ _) ⊢ _
      rw [arrays_eq, final]
      unfold Z Y
      iintro ⟨⟨⟨Hg, HS⟩, -, Ha⟩, HO⟩
      isplitr [HO]
      · isplitl [Ha Hg]
        · isplitl [Ha]; · iexact Ha
          iexact Hg
        iexact HS
      iexact HO⟩)
    (fun c s => s.mem ((c.tc : Thread nD τ).loc main_arg0) = m ((c.tc : Thread nD τ).loc main_arg0) ∧ s.mem ((c.tc : Thread nD τ).loc main_v2) = H m c
      ∧ s.mem ((c.tc : Thread nD τ).loc main_v1) = G m c)
    (fun c s' => by
      unfold Z Y
      iintro ⟨⟨⟨Hx, Hy⟩, Hz⟩, HSI⟩
      icombine HSI Hx gives %hx
      icombine HSI Hy gives %hy
      icombine HSI Hz gives %hz
      imodintro
      isplitr
      · ipureintro
        exact ⟨Buf.eq_of_forall_mem_univ hx, Buf.eq_of_forall_mem_univ hz, Buf.eq_of_forall_mem_univ hy⟩
      iexact HSI)
    (fun s h hs => ⟨h, sem_eq_zero_of_scoped sems_scoped hs⟩)

end Cert.ChipSumProof

end
-- ==== Proof.ChipSumValue.lean ====
module

public import proofs.«01_k».proof.Proof.ChipSumRun
public import proofs.«01_k».proof.Proof.Gen.ChipSumRefIdeal.Run
public import Idealize.ShloMosaic.Lib.Pipeline.Value
public import Idealize.ShloMosaic.Lib.Layout
public import Idealize.ShloMosaic.Lib.IdealHost
public import Idealize.ShloMosaic.Lib.Pointwise.Reduce
public import Idealize.ShloMosaic.Lib.ValueIdxRank6

/-! # What the exchange between the chips computes

On the whole array the exchange is one transpose: of the axis of the chip that holds an array, and the axis of the chip it is for. -/

@[expose] public section

noncomputable section

namespace Cert.ChipSumProof

open Idealize.ShloMosaic hiding ix4 ix5
open Idealize.ShloMosaic.TcCoe Idealize.ShloMosaic.ValueIdx
open Cert.ChipSumRefIdeal Cert.ChipSumRefIdeal.Facts₀

/-- The reference's result of the whole array `A`. -/
def out {α : Type} (A : S32x3008x1024.Idx → α) : S32x3008x1024.Idx → α :=
  shapeCast _ (transpose S4x2x4x3008x1024 [2, 1, 0, 3, 4] (shapeCast _ A shapeCasts_S32x3008x1024_S4x2x4x3008x1024)
    transposes_S4x2x4x3008x1024_S4x2x4x3008x1024_2_1_0_3_4) shapeCasts_S4x2x4x3008x1024_S32x3008x1024

/-- The reference's result read at chip `p`, core `q`, array `j`. -/
theorem out_apply {α : Type} (A : S32x3008x1024.Idx → α) (p : Fin 4) (q : Fin 2) (j : Fin 4) (h : Fin 3008) (k : Fin 1024) (y z : S32x3008x1024.Idx)
    (y0 : (y 0).val = 8 * p.val + 4 * q.val + j.val) (y1 : (y 1).val = h.val) (y2 : (y 2).val = k.val)
    (h0 : (z 0).val = 8 * j.val + 4 * q.val + p.val) (h1 : (z 1).val = h.val) (h2 : (z 2).val = k.val) :
    out A y = A z := by
  unfold out
  refine (shapeCast_apply _ shapeCasts_S4x2x4x3008x1024_S32x3008x1024 y (ix5 p q j h k) (by
    rw [Shape.rowMajor_val_five, Shape.rowMajor_val_three]
    show ((((p.val * 2 + q.val) * 4 + j.val) * 3008 + h.val) * 1024 + k.val : ℕ) = ((y 0).val * 3008 + (y 1).val) * 1024 + (y 2).val
    rw [y0, y1, y2]; omega)).trans ?_
  refine (transpose_apply [2, 1, 0, 3, 4] _ transposes_S4x2x4x3008x1024_S4x2x4x3008x1024_2_1_0_3_4 (ix5 p q j h k) (ix5 j q p h k)
    (by intro b; fin_cases b <;> rfl)).trans ?_
  exact shapeCast_apply _ _ _ z (by
    rw [Shape.rowMajor_val_five, Shape.rowMajor_val_three]
    show (((z 0).val * 3008 + (z 1).val) * 1024 + (z 2).val : ℕ) = (((j.val * 2 + q.val) * 4 + p.val) * 3008 + h.val) * 1024 + k.val
    rw [h0, h1, h2]; omega)

/-- WHAT THE EXCHANGE LEAVES on device `c`: block `c` of the reference's result. -/
theorem value {F : FTy → Type} (m : (ℓ : Loc Cert.ChipSumIdeal.nD Cert.ChipSumIdeal.τ Cert.ChipSumIdeal.sig) → Buf (Elt F) ℓ) (A : S32x3008x1024.Idx → Elt F .f32)
    (hm : ∀ c : Dev Cert.ChipSumIdeal.nD, m ((c.tc : Thread Cert.ChipSumIdeal.nD Cert.ChipSumIdeal.τ).loc Cert.ChipSumIdeal.main_arg0)
      = Layout.block ⟨3, ![4, 3008, 1024]⟩ ⟨3, ![32, 3008, 1024]⟩ 0 8 c A)
    (c : Dev Cert.ChipSumIdeal.nD) :
    G m c = Layout.block ⟨3, ![4, 3008, 1024]⟩ ⟨3, ![32, 3008, 1024]⟩ 0 8 c (out A) := by
  funext i
  have hc : (c : ℕ) < 8 := c.isLt
  unfold G
  rw [hm, Layout.block_apply, Layout.block_apply]
  refine (out_apply A ⟨c.val / 2, by omega⟩ ⟨c.val % 2, by omega⟩ ⟨(i 0).val, (i 0).isLt⟩ ⟨(i 1).val, (i 1).isLt⟩ ⟨(i 2).val, (i 2).isLt⟩ _ _ ?_ rfl rfl ?_ rfl rfl).symm
  · show c.val * 4 + (i 0).val = 8 * (c.val / 2) + 4 * (c.val % 2) + (i 0).val
    omega
  · show (2 * (i 0).val + c.val % 2) * 4 + c.val / 2 = 8 * (i 0).val + 4 * (c.val % 2) + c.val / 2
    omega

/-- The reference's sum, over the extended reals. -/
def outSum (A : FVec Ideal S32x3008x1024 .f32) : FVec Ideal S24064x1024 .f32 :=
  shapeCast _ (transpose S4x2x3008x1024 [1, 0, 2, 3] (Host.reduceAdd (F := Ideal) (shapeCast _ A shapeCasts_S32x3008x1024_S4x2x4x3008x1024)
    (constant (F := Ideal) S_ .f32 0x00000000#32) reducesTo_S4x2x4x3008x1024_S2x4x3008x1024_d0 h_S_)
    transposes_S2x4x3008x1024_S4x2x3008x1024_1_0_2_3) shapeCasts_S4x2x3008x1024_S24064x1024

/-- The reference's sum read at chip `p`, core `q`. -/
theorem outSum_apply (A : FVec Ideal S32x3008x1024 .f32) (p : Fin 4) (q : Fin 2) (h : Fin 3008) (k : Fin 1024) (y : S24064x1024.Idx)
    (z : Fin 4 → S32x3008x1024.Idx)
    (y0 : (y 0).val = (2 * p.val + q.val) * 3008 + h.val) (y1 : (y 1).val = k.val)
    (h0 : ∀ j, (z j 0).val = 8 * j.val + 4 * q.val + p.val) (h1 : ∀ j, (z j 1).val = h.val) (h2 : ∀ j, (z j 2).val = k.val) :
    outSum A y = ∑ j, A (z j) := by
  unfold outSum
  refine (shapeCast_apply _ shapeCasts_S4x2x3008x1024_S24064x1024 y (ix4 p q h k) (by
    rw [Shape.rowMajor_val_four, Shape.rowMajor_val_two]
    show ((p.val * 2 + q.val) * 3008 + h.val) * 1024 + k.val = (y 0).val * 1024 + (y 1).val
    rw [y0, y1]; omega)).trans ?_
  refine (transpose_apply [1, 0, 2, 3] _ transposes_S2x4x3008x1024_S4x2x3008x1024_1_0_2_3 (ix4 p q h k) (ix4 q p h k)
    (by intro b; fin_cases b <;> rfl)).trans ?_
  simp only [pointwise, Ideal.hostReduceAdd_def]
  show Ideal.ofBits .f32 0x00000000#32 + _ = _
  rw [Ideal.ofBits_zero_f32, zero_add]
  refine Finset.sum_congr rfl fun j _ => ?_
  exact shapeCast_apply _ _ _ (z j) (by
    rw [Shape.rowMajor_val_five, Shape.rowMajor_val_three]
    show (((z j 0).val * 3008 + (z j 1).val) * 1024 + (z j 2).val : ℕ) = (((j.val * 2 + q.val) * 4 + p.val) * 3008 + h.val) * 1024 + k.val
    rw [h0, h1, h2]; omega)

theorem sum4_eq (f : Fin 4 → EReal) : sum4 (F := Ideal) f = ∑ s, f s := by
  rw [Fin.sum_univ_four]; rfl

/-- WHAT THE SUM LEAVES on device `c`: block `c` of the reference's sum. -/
theorem value_sum (m : (ℓ : Loc Cert.ChipSumIdeal.nD Cert.ChipSumIdeal.τ Cert.ChipSumIdeal.sig) → Buf (Elt Ideal) ℓ) (A : S32x3008x1024.Idx → Elt Ideal .f32)
    (hm : ∀ c : Dev Cert.ChipSumIdeal.nD, m ((c.tc : Thread Cert.ChipSumIdeal.nD Cert.ChipSumIdeal.τ).loc Cert.ChipSumIdeal.main_arg0)
      = Layout.block ⟨3, ![4, 3008, 1024]⟩ ⟨3, ![32, 3008, 1024]⟩ 0 8 c A)
    (c : Dev Cert.ChipSumIdeal.nD) :
    H m c = Layout.block ⟨2, ![3008, 1024]⟩ ⟨2, ![24064, 1024]⟩ 0 8 c (outSum A) := by
  funext i
  have hc : (c : ℕ) < 8 := c.isLt
  unfold H
  rw [Layout.block_apply, sum4_eq]
  unfold G
  simp only [hm, Layout.block_apply]
  refine (outSum_apply A ⟨c.val / 2, by omega⟩ ⟨c.val % 2, by omega⟩ ⟨(i 0).val, (i 0).isLt⟩ ⟨(i 1).val, (i 1).isLt⟩ _ _ ?_ rfl ?_ (fun _ => rfl) (fun _ => rfl)).symm
  · show c.val * 3008 + (i 0).val = (2 * (c.val / 2) + c.val % 2) * 3008 + (i 0).val
    omega
  · intro j
    show (2 * j.val + c.val % 2) * 4 + c.val / 2 = 8 * j.val + 4 * (c.val % 2) + c.val / 2
    omega

end Cert.ChipSumProof

end
-- ==== Proof.SmallSum.lean ====
module

public import proofs.«01_k».proof.Proof.Pieces
public import proofs.«01_k».proof.Proof.After
public import proofs.«01_k».proof.Proof.Gen.SmallSumIdeal.Launch
public import proofs.«01_k».proof.Proof.Gen.SmallSumIdeal.Skeleton
public import proofs.«01_k».proof.Proof.Gen.SmallSumIdeal.Points
public import Idealize.ShloMosaic.Lib.ValueIdxCore
public import Idealize.ShloMosaic.Lib.Pipeline.ValueKit.Geometry

/-! # The gather of the small gradients

Every device sends its array to the seven others and copies it into its own result. Fifteen semaphores: 0–6 count the own array
read out, 7–13 the other devices' arrays landed, 14 the copy of the own array. -/

@[expose] public section

noncomputable section

namespace Cert.SmallSumProof

open Cert.SmallSumIdeal Cert.SmallSumIdeal.Gen Cert.Talk
open Idealize.ShloMosaic Idealize.ShloMosaic.TcCoe Idealize.ShloMosaic.Pipeline Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- The devices that device `c` sends to, itself first. -/
def nb : Fin 8 → Dev nD ≃ Dev nD := ![Equiv.refl _,
  ⟨fun c => ⟨k0_dev1 c, k0_dev1_lt c⟩, fun c => ⟨k0_dev1 c, k0_dev1_lt c⟩, by intro c; revert c; decide, by intro c; revert c; decide⟩,
  ⟨fun c => ⟨k0_dev2 c, k0_dev2_lt c⟩, fun c => ⟨k0_dev2 c, k0_dev2_lt c⟩, by intro c; revert c; decide, by intro c; revert c; decide⟩,
  ⟨fun c => ⟨k0_dev3 c, k0_dev3_lt c⟩, fun c => ⟨k0_dev3 c, k0_dev3_lt c⟩, by intro c; revert c; decide, by intro c; revert c; decide⟩,
  ⟨fun c => ⟨k0_dev4 c, k0_dev4_lt c⟩, fun c => ⟨k0_dev4 c, k0_dev4_lt c⟩, by intro c; revert c; decide, by intro c; revert c; decide⟩,
  ⟨fun c => ⟨k0_dev5 c, k0_dev5_lt c⟩, fun c => ⟨k0_dev5 c, k0_dev5_lt c⟩, by intro c; revert c; decide, by intro c; revert c; decide⟩,
  ⟨fun c => ⟨k0_dev6 c, k0_dev6_lt c⟩, fun c => ⟨k0_dev6 c, k0_dev6_lt c⟩, by intro c; revert c; decide, by intro c; revert c; decide⟩,
  ⟨fun c => ⟨k0_dev7 c, k0_dev7_lt c⟩, fun c => ⟨k0_dev7 c, k0_dev7_lt c⟩, by intro c; revert c; decide, by intro c; revert c; decide⟩]

theorem nb_nb (j : Fin 8) (c : Dev nD) : nb j (nb j c) = c := by revert c; revert j; decide

/-- The slot of a device. -/
def own (c : Dev nD) : Fin 8 := ⟨c.val, c.isLt⟩

/-- The device that fills slot `s` of the result of `c`. -/
def filler (s : Fin 8) (c : Dev nD) : Dev nD := ⟨s.val, s.isLt⟩

theorem filler_own (j : Fin 8) (c : Dev nD) : filler (own c) (nb j c) = c := by revert c; revert j; decide

/-- The slot in which an index of the result lies. -/
abbrev key (i : S8x1120x128.Idx) : Fin 8 := i 0

/-- The order in which device `c` names the slots. -/
def order (c : Dev nD) : List (Fin 8) := [own c, own (nb 1 c), own (nb 2 c), own (nb 3 c), own (nb 4 c), own (nb 5 c), own (nb 6 c), own (nb 7 c)]
theorem order_nodup (c : Dev nD) : (order c).Nodup := by revert c; decide
theorem mem_order (c : Dev nD) (s : Fin 8) : s ∈ order c := by revert s; revert c; decide

/-- The slot of the result that an offset names. -/
abbrev slot (off : Fin 3 → ℕ) (inb : ∀ a, off a + S1x1120x128.size a ≤ S8x1120x128.size a) : Memref sig .tc .hbm S1120x128 .f32 :=
  ((Memref.whole main_v1).slice (Rect.unit (s := S8x1120x128) off S1x1120x128.size inb) (fun _ => rfl)).squeeze S1120x128 squeezes_S1x1120x128_S1120x128

/-- The units of one copy. -/
def units : ℕ := (slot ![0, 0, 0] (by decide)).view.amount (.dma cc0_scratch2.sem)

/-- The plan. -/
def pl : Plan nD sig (Fin 15) where
  sm k := .dma (k.castLE (by decide))
  inj := by decide
  amt _ := units
  pos _ := by decide
  peer := ![Equiv.refl _, Equiv.refl _, Equiv.refl _, Equiv.refl _, Equiv.refl _, Equiv.refl _, Equiv.refl _, nb 1, nb 2, nb 3, nb 4, nb 5, nb 6, nb 7, Equiv.refl _]
  lev _ := 0

variable (m : (ℓ : Loc nD τ sig) → Buf (Elt F) ℓ)

/-- The result of device `c`: each slot, from the device that fills it. -/
def G (c : Dev nD) : Buf (Elt F) ((c.tc : Thread nD τ).loc main_v1) :=
  fun i : S8x1120x128.Idx => m (((filler (key i) c).tc : Thread nD τ).loc main_arg0) (ix2 (i 1) (i 2))

/-- A share of the array of device `c`. -/
abbrev A (c : Dev nD) (q : PosShare TreeShare) : sProp (MT nD τ sig Unit (Elt F) ℕ (UU nD τ sig) ℕ) :=
  ((c.tc : Thread nD τ).loc main_arg0) ↦{q} m ((c.tc : Thread nD τ).loc main_arg0)

/-- The slot of device `d` in the result of device `c`. -/
abbrev O (c d : Dev nD) (f : Buf (Elt F) ((c.tc : Thread nD τ).loc main_v1)) : sProp (MT nD τ sig Unit (Elt F) ℕ (UU nD τ sig) ℕ) :=
  ((c.tc : Thread nD τ).loc main_v1) ↦[piece key (own d)]{fullShare} f

/-- The shares of the own array: the copy's first, then one for each send. -/
abbrev q0 : PosShare TreeShare := fullShare.left
abbrev q1 : PosShare TreeShare := fullShare.right.left
abbrev q2 : PosShare TreeShare := fullShare.right.right.left
abbrev q3 : PosShare TreeShare := fullShare.right.right.right.left
abbrev q4 : PosShare TreeShare := fullShare.right.right.right.right.left
abbrev q5 : PosShare TreeShare := fullShare.right.right.right.right.right.left
abbrev q6 : PosShare TreeShare := fullShare.right.right.right.right.right.right.left
abbrev q7 : PosShare TreeShare := fullShare.right.right.right.right.right.right.right

/-- What a landing hands over. -/
def pay (c : Dev nD) (k : Fin 15) : sProp (MT nD τ sig Unit (Elt F) ℕ (UU nD τ sig) ℕ) :=
  match k with
  | 0 => A m c q1
  | 1 => A m c q2
  | 2 => A m c q3
  | 3 => A m c q4
  | 4 => A m c q5
  | 5 => A m c q6
  | 6 => A m c q7
  | 7 => O c (nb 1 c) (G m c)
  | 8 => O c (nb 2 c) (G m c)
  | 9 => O c (nb 3 c) (G m c)
  | 10 => O c (nb 4 c) (G m c)
  | 11 => O c (nb 5 c) (G m c)
  | 12 => O c (nb 6 c) (G m c)
  | 13 => O c (nb 7 c) (G m c)
  | 14 => iprop(O c c (G m c) ∗ A m c q0)

instance pay_storable (c : Dev nD) (k : Fin 15) : Storable (upEmb : UEmb _ 𝕄) (pay m c k) := by
  unfold pay
  split <;> infer_instance

/-- What a device needs of memory: its own array, and its slot on each device it talks to. -/
def M (c : Dev nD) : sProp (MT nD τ sig Unit (Elt F) ℕ (UU nD τ sig) ℕ) :=
  iprop((((c.tc : Thread nD τ).loc main_arg0) ↦{fullShare} m ((c.tc : Thread nD τ).loc main_arg0))
    ∗ bigSep Finset.univ fun j => O (nb j c) c (m (((nb j c).tc : Thread nD τ).loc main_v1)))

/-- What it has of memory afterwards: its own array and its own result. -/
def Y (c : Dev nD) : sProp (MT nD τ sig Unit (Elt F) ℕ (UU nD τ sig) ℕ) :=
  iprop((((c.tc : Thread nD τ).loc main_arg0) ↦{fullShare} m ((c.tc : Thread nD τ).loc main_arg0))
    ∗ ((c.tc : Thread nD τ).loc main_v1) ↦{fullShare} G m c)

/-- The sum's result on device `c`, as found. -/
abbrev S (c : Dev nD) (f : Buf (Elt F) ((c.tc : Thread nD τ).loc main_v2)) : sProp (MT nD τ sig Unit (Elt F) ℕ (UU nD τ sig) ℕ) :=
  ((c.tc : Thread nD τ).loc main_v2) ↦{fullShare} f

theorem bufs_eq (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ (((c.tc : Thread nD τ).loc main_v1) ↦{fullShare} V main_v1)
        ∗ S c (V main_v2)) := by
  unfold unscopedBufs
  exact BI.bigSep_eq_bigSepL_of_eq [main_arg0, main_v1, main_v2] (by decide) (by decide) _

theorem slots (c : Dev nD) (f : Buf (Elt F) ((c.tc : Thread nD τ).loc main_v1)) :
    (((c.tc : Thread nD τ).loc main_v1) ↦{fullShare} f : sProp 𝕄) = each (fun s => ((c.tc : Thread nD τ).loc main_v1) ↦[piece key s]{fullShare} f) (order c) :=
  cut (ℓ := (c.tc : Thread nD τ).loc main_v1) key f (order c) (order_nodup c) (mem_order c)

theorem deal_bufs : (bigSep Finset.univ fun c : Dev nD => (unscopedBufs c (fun b => m ((c.tc : Thread nD τ).loc b)) : sProp 𝕄))
    ⊢ bigSep Finset.univ fun c => iprop(M m c ∗ S c (m ((c.tc : Thread nD τ).loc main_v2))) := by
  have e2 (c : Dev nD) : (((c.tc : Thread nD τ).loc main_v1) ↦{fullShare} m ((c.tc : Thread nD τ).loc main_v1) : sProp 𝕄)
      = bigSep Finset.univ fun s : Fin 8 => ((c.tc : Thread nD τ).loc main_v1) ↦[piece key s]{fullShare} m ((c.tc : Thread nD τ).loc main_v1) := by
    rw [slots, each_univ _ (order c) (order_nodup c) (mem_order c)]
  have e : (bigSep Finset.univ fun c : Dev nD => (unscopedBufs c (fun b => m ((c.tc : Thread nD τ).loc b)) : sProp 𝕄))
      = iprop((bigSep Finset.univ fun c : Dev nD => (((c.tc : Thread nD τ).loc main_arg0) ↦{fullShare} m ((c.tc : Thread nD τ).loc main_arg0) : sProp 𝕄))
        ∗ (bigSep Finset.univ fun c : Dev nD => bigSep Finset.univ fun s : Fin 8 => ((c.tc : Thread nD τ).loc main_v1) ↦[piece key s]{fullShare} m ((c.tc : Thread nD τ).loc main_v1))
        ∗ bigSep Finset.univ fun c : Dev nD => S c (m ((c.tc : Thread nD τ).loc main_v2))) := by
    rw [← BI.bigSep_sep', ← BI.bigSep_sep']
    exact BI.bigSep_congr fun c _ => by rw [bufs_eq, e2]
  rw [e, deal_pieces (fun (c : Dev nD) (s : Fin 8) => (((c.tc : Thread nD τ).loc main_v1) ↦[piece key s]{fullShare} m ((c.tc : Thread nD τ).loc main_v1) : sProp 𝕄))
    nb (fun _ c => own c) (by decide), BI.bigSep_sep']
  unfold M
  rw [BI.bigSep_sep']
  iintro ⟨H1, H2, H3⟩
  isplitr [H3]
  · isplitl [H1] <;> iassumption
  iexact H3

theorem routes (j : Fin 8) (c : Dev nD) : τ.routes (c.tc : Thread nD τ) ((nb j c).tc : Thread nD τ) = true := by
  revert c; revert j; decide

theorem off1 (c : Dev nD) : k0_off1 c = ![(own c).val, 0, 0] := by revert c; decide

/-- A device writes its own slot. -/
theorem set_slot (c : Dev nD) : (slot (k0_off1 c) (k0_off1_inb c)).view.set = piece key (own c) := by
  refine (View.set_reshape _ _).trans (set_block main_v1 _ key (own c) fun i => ?_)
  have h1 : (i 1).val < 1120 := (i 1).isLt
  have h2 : (i 2).val < 128 := (i 2).isLt
  rw [off1]
  constructor
  · intro hh
    have e0 : (own c).val ≤ (i 0).val ∧ (i 0).val < (own c).val + 1 := hh 0
    exact Fin.ext (by show (i 0).val = (own c).val; omega)
  · intro hh a
    have e : (i 0).val = (own c).val := congrArg Fin.val hh
    fin_cases a
    · show (own c).val ≤ (i 0).val ∧ (i 0).val < (own c).val + 1; omega
    · show 0 ≤ (i 1).val ∧ (i 1).val < 0 + 1120; omega
    · show 0 ≤ (i 2).val ∧ (i 2).val < 0 + 128; omega

theorem unsqueeze (x : S1120x128.Idx) : Shape.reshapeEquiv (squeezes_S1x1120x128_S1120x128).numel_eq x = (ix3 (0 : Fin 1) (x 0) (x 1) : S1x1120x128.Idx) :=
  Shape.reshapeEquiv_eq_of_rowMajor _ (by
    rw [Shape.rowMajor_val_three, Shape.rowMajor_val_two]
    show (0 * 1120 + (x 0).val) * 128 + (x 1).val = (x 0).val * 128 + (x 1).val
    omega)

/-- Where an index of a slot lies. -/
theorem emb_slot (off) (inb) (s : Fin 8) (ho : off = ![s.val, 0, 0]) (x : S1120x128.Idx) : (slot off inb).view.emb x = (ix3 s (x 0) (x 1) : S8x1120x128.Idx) := by
  subst ho
  refine (congrArg (fun y => ((View.whole main_v1).slice (Rect.unit (s := S8x1120x128) ![s.val, 0, 0] S1x1120x128.size inb)).emb y) (unsqueeze x)).trans
    (funext fun a => Fin.ext ((ValueKit.view_emb_slice_whole_unit_val main_v1 _ _ _ (ix3 (0 : Fin 1) (x 0) (x 1) : S1x1120x128.Idx) a).trans ?_))
  fin_cases a
  · show s.val + 0 = s.val; omega
  · show 0 + (x 0).val = (x 0).val; omega
  · show 0 + (x 1).val = (x 1).val; omega

/-- What a copy to the `j`-th peer carries is the own slot of that peer's result. -/
theorem carries (j : Fin 8) (c : Dev nD) (x : S1120x128.Idx) :
    (slot (k0_off1 c) (k0_off1_inb c)).view.read (Elt F) (G m (nb j c)) x = (Memref.whole main_arg0).view.read (Elt F) (m ((c.tc : Thread nD τ).loc main_arg0)) x := by
  rw [View.read_apply, emb_slot _ _ _ (off1 c)]
  show m (((filler (own c) (nb j c)).tc : Thread nD τ).loc main_arg0) (ix2 (x 0) (x 1)) = m ((c.tc : Thread nD τ).loc main_arg0) x
  rw [filler_own]
  exact congrArg _ (funext fun a => by fin_cases a <;> rfl)

/-- The own array, shared out. -/
theorem shares (c : Dev nD) : (A m c fullShare : sProp 𝕄) = iprop(A m c q0 ∗ A m c q1 ∗ A m c q2 ∗ A m c q3 ∗ A m c q4 ∗ A m c q5 ∗ A m c q6 ∗ A m c q7) := by
  have h (q : PosShare TreeShare) : (A m c q : sProp 𝕄) = iprop(A m c q.left ∗ A m c q.right) :=
    halve (ℓ := (c.tc : Thread nD τ).loc main_arg0) Finset.univ q (m ((c.tc : Thread nD τ).loc main_arg0))
  rw [h fullShare, h (fullShare.right), h (fullShare.right.right), h (fullShare.right.right.right), h (fullShare.right.right.right.right), h (fullShare.right.right.right.right.right), h (fullShare.right.right.right.right.right.right)]

/-- What lands at a peer is what the peer expects. -/
theorem landed (j : Fin 8) (c : Dev nD) : (O (nb j c) c (G m (nb j c)) : sProp 𝕄) ⊢ O (nb j c) (nb j (nb j c)) (G m (nb j c)) := by
  rw [nb_nb]

set_option maxHeartbeats 1000000 in
/-- THE BODY of device `c`. -/
theorem body (𝒱₀ : Variants) (c : Dev nD) (t : Fin (pinD (pcfgs (F := F)) (fun _ p => (cfgs p).toPCfg_adm) c 0).N) (W : Waits sig Unit) (Q : sProp 𝕄) :
    iprop(pl.rights (pay m) [7, 8, 9, 10, 11, 12, 13] c ∗ M m c ∗ owes (c.tc : Thread nD τ) (pl.owe c [7, 8, 9, 10, 11, 12, 13]) W
        ∗ (Y m c ∗ ownSems0 pl.sm c ∗ (∃ W', owes (c.tc : Thread nD τ) (0 : CellTallies nD τ sig Unit) W') -∗ Q))
      ⊢ wp frame (wpE (defs₀ (F := F)) 𝒱₀ (c.tc : Thread nD τ) none) Set.univ
          (defs₀ .tc (pinD (pcfgs (F := F)) (fun _ p => (cfgs p).toPCfg_adm) c 0).body
            ((pinD (pcfgs (F := F)) (fun _ p => (cfgs p).toPCfg_adm) c 0).bodyArgs t ((pinD (pcfgs (F := F)) (fun _ p => (cfgs p).toPCfg_adm) c 0).slots t))) fun _ => Q := by
  show _ ⊢ wp frame (wpE (defs₀ (F := F)) 𝒱₀ (c.tc : Thread nD τ) none) Set.univ
    (cc0_gather_small (F := F) (Memref.whole main_arg0) (Memref.isWhole_whole _) (Memref.whole main_v1) (Memref.isWhole_whole _) cc0_scratch0 cc0_scratch1 cc0_scratch2) fun _ => Q
  rw [cc0_gather_small_eq_skeleton]
  unfold cc0_gather_small_skel Plan.rights M
  rw [k0_part8_eq_skeleton]
  unfold k0_part8_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  rw [each_univ (pl.pos0 c) [0, 1, 2, 3, 4, 5, 6, 7, 8, 9, 10, 11, 12, 13, 14] (by decide) (by decide), each_univ (pl.tok c) [0, 1, 2, 3, 4, 5, 6, 7, 8, 9, 10, 11, 12, 13, 14] (by decide) (by decide),
    each_univ (fun j => O (nb j c) c (m (((nb j c).tc : Thread nD τ).loc main_v1))) [0, 1, 2, 3, 4, 5, 6, 7] (by decide) (by decide), show ((((c.tc : Thread nD τ).loc main_arg0) ↦{fullShare} m ((c.tc : Thread nD τ).loc main_arg0)) : sProp 𝕄) = A m c fullShare from rfl, shares]
  simp only [each]
  rw [show O (nb 0 c) c (m (((nb 0 c).tc : Thread nD τ).loc main_v1)) = O c c (m ((c.tc : Thread nD τ).loc main_v1)) from rfl]
  iintro ⟨⟨⟨%κ, #Hk⟩, #Hl, ⟨Hp0, Hp1, Hp2, Hp3, Hp4, Hp5, Hp6, Hp7, Hp8, Hp9, Hp10, Hp11, Hp12, Hp13, Hp14, -⟩, ⟨Ht0, Ht1, Ht2, Ht3, Ht4, Ht5, Ht6, Ht7, Ht8, Ht9, Ht10, Ht11, Ht12, Ht13, Ht14, -⟩, ⟨Hc7, Hc8, Hc9, Hc10, Hc11, Hc12, Hc13, -⟩⟩, ⟨⟨Ha0, Ha1, Ha2, Ha3, Ha4, Ha5, Ha6, Ha7⟩, ⟨Hb0, Hb1, Hb2, Hb3, Hb4, Hb5, Hb6, Hb7, -⟩⟩, HO, HQ⟩
  iapply (pl.step_copy (pay m) 𝒱₀ c (κ := κ) (src := Memref.whole main_arg0) (dst := slot (k0_off1 c) (k0_off1_inb c))
      (q := q0) (fs := m ((c.tc : Thread nD τ).loc main_arg0)) (fd := m ((c.tc : Thread nD τ).loc main_v1)) (G m c) Finset.univ (piece key (own c)) 14 rfl rfl rfl
      (View.set_whole _) (set_slot c) (carries m 0 c) (BI.Entails.refl _)) $$ Hk [Ha0] [Hb0] Ht14
  · iexact Ha0
  · iexact Hb0
  iintro Hc14
  iapply (pl.step_send (pay m) 𝒱₀ c (κ := κ) (c' := ((nb 1 c).tc : Thread nD τ)) (src := Memref.whole main_arg0) (dst := slot (k0_off1 c) (k0_off1_inb c))
      (q := q1) (fs := m ((c.tc : Thread nD τ).loc main_arg0)) (fd := m (((nb 1 c).tc : Thread nD τ).loc main_v1)) (G m (nb 1 c)) Finset.univ (piece key (own c)) 7 0 [8, 9, 10, 11, 12, 13] (W := W)
      rfl rfl rfl rfl rfl rfl (View.set_whole _) (set_slot c) (carries m 1 c) (BI.Entails.refl _) (landed m 1 c) (hr := routes 1 c)) $$ Hk [Ha1] [Hb1] HO Ht0 Ht7
  · iexact Ha1
  · iexact Hb1
  iintro Hc0 HO
  iapply (pl.step_send (pay m) 𝒱₀ c (κ := κ) (c' := ((nb 2 c).tc : Thread nD τ)) (src := Memref.whole main_arg0) (dst := slot (k0_off1 c) (k0_off1_inb c))
      (q := q2) (fs := m ((c.tc : Thread nD τ).loc main_arg0)) (fd := m (((nb 2 c).tc : Thread nD τ).loc main_v1)) (G m (nb 2 c)) Finset.univ (piece key (own c)) 8 1 [9, 10, 11, 12, 13] (W := W)
      rfl rfl rfl rfl rfl rfl (View.set_whole _) (set_slot c) (carries m 2 c) (BI.Entails.refl _) (landed m 2 c) (hr := routes 2 c)) $$ Hk [Ha2] [Hb2] HO Ht1 Ht8
  · iexact Ha2
  · iexact Hb2
  iintro Hc1 HO
  iapply (pl.step_send (pay m) 𝒱₀ c (κ := κ) (c' := ((nb 3 c).tc : Thread nD τ)) (src := Memref.whole main_arg0) (dst := slot (k0_off1 c) (k0_off1_inb c))
      (q := q3) (fs := m ((c.tc : Thread nD τ).loc main_arg0)) (fd := m (((nb 3 c).tc : Thread nD τ).loc main_v1)) (G m (nb 3 c)) Finset.univ (piece key (own c)) 9 2 [10, 11, 12, 13] (W := W)
      rfl rfl rfl rfl rfl rfl (View.set_whole _) (set_slot c) (carries m 3 c) (BI.Entails.refl _) (landed m 3 c) (hr := routes 3 c)) $$ Hk [Ha3] [Hb3] HO Ht2 Ht9
  · iexact Ha3
  · iexact Hb3
  iintro Hc2 HO
  iapply (pl.step_send (pay m) 𝒱₀ c (κ := κ) (c' := ((nb 4 c).tc : Thread nD τ)) (src := Memref.whole main_arg0) (dst := slot (k0_off1 c) (k0_off1_inb c))
      (q := q4) (fs := m ((c.tc : Thread nD τ).loc main_arg0)) (fd := m (((nb 4 c).tc : Thread nD τ).loc main_v1)) (G m (nb 4 c)) Finset.univ (piece key (own c)) 10 3 [11, 12, 13] (W := W)
      rfl rfl rfl rfl rfl rfl (View.set_whole _) (set_slot c) (carries m 4 c) (BI.Entails.refl _) (landed m 4 c) (hr := routes 4 c)) $$ Hk [Ha4] [Hb4] HO Ht3 Ht10
  · iexact Ha4
  · iexact Hb4
  iintro Hc3 HO
  iapply (pl.step_send (pay m) 𝒱₀ c (κ := κ) (c' := ((nb 5 c).tc : Thread nD τ)) (src := Memref.whole main_arg0) (dst := slot (k0_off1 c) (k0_off1_inb c))
      (q := q5) (fs := m ((c.tc : Thread nD τ).loc main_arg0)) (fd := m (((nb 5 c).tc : Thread nD τ).loc main_v1)) (G m (nb 5 c)) Finset.univ (piece key (own c)) 11 4 [12, 13] (W := W)
      rfl rfl rfl rfl rfl rfl (View.set_whole _) (set_slot c) (carries m 5 c) (BI.Entails.refl _) (landed m 5 c) (hr := routes 5 c)) $$ Hk [Ha5] [Hb5] HO Ht4 Ht11
  · iexact Ha5
  · iexact Hb5
  iintro Hc4 HO
  iapply (pl.step_send (pay m) 𝒱₀ c (κ := κ) (c' := ((nb 6 c).tc : Thread nD τ)) (src := Memref.whole main_arg0) (dst := slot (k0_off1 c) (k0_off1_inb c))
      (q := q6) (fs := m ((c.tc : Thread nD τ).loc main_arg0)) (fd := m (((nb 6 c).tc : Thread nD τ).loc main_v1)) (G m (nb 6 c)) Finset.univ (piece key (own c)) 12 5 [13] (W := W)
      rfl rfl rfl rfl rfl rfl (View.set_whole _) (set_slot c) (carries m 6 c) (BI.Entails.refl _) (landed m 6 c) (hr := routes 6 c)) $$ Hk [Ha6] [Hb6] HO Ht5 Ht12
  · iexact Ha6
  · iexact Hb6
  iintro Hc5 HO
  iapply (pl.step_send (pay m) 𝒱₀ c (κ := κ) (c' := ((nb 7 c).tc : Thread nD τ)) (src := Memref.whole main_arg0) (dst := slot (k0_off1 c) (k0_off1_inb c))
      (q := q7) (fs := m ((c.tc : Thread nD τ).loc main_arg0)) (fd := m (((nb 7 c).tc : Thread nD τ).loc main_v1)) (G m (nb 7 c)) Finset.univ (piece key (own c)) 13 6 [] (W := W)
      rfl rfl rfl rfl rfl rfl (View.set_whole _) (set_slot c) (carries m 7 c) (BI.Entails.refl _) (landed m 7 c) (hr := routes 7 c)) $$ Hk [Ha7] [Hb7] HO Ht6 Ht13
  · iexact Ha7
  · iexact Hb7
  iintro Hc6 HO
  iapply (pl.step_wait (pay m) 𝒱₀ c (κ := κ) (wpE_waitDma2_eq 𝒱₀ (c.tc : Thread nD τ) none Set.univ) 7 [] (W := W) rfl rfl (by simp)) $$ Hk Hl Hc7 HO Hp7
  iintro %W7 HO Hp7 Hy7
  ihave Hy7 := (show pay m c 7 ⊢ O c (nb 1 c) (G m c) from BI.Entails.refl _) $$ Hy7
  iapply (pl.step_wait (pay m) 𝒱₀ c (κ := κ) (wpE_waitDma2_eq 𝒱₀ (c.tc : Thread nD τ) none Set.univ) 8 [] (W := W7) rfl rfl (by simp)) $$ Hk Hl Hc8 HO Hp8
  iintro %W8 HO Hp8 Hy8
  ihave Hy8 := (show pay m c 8 ⊢ O c (nb 2 c) (G m c) from BI.Entails.refl _) $$ Hy8
  iapply (pl.step_wait (pay m) 𝒱₀ c (κ := κ) (wpE_waitDma2_eq 𝒱₀ (c.tc : Thread nD τ) none Set.univ) 9 [] (W := W8) rfl rfl (by simp)) $$ Hk Hl Hc9 HO Hp9
  iintro %W9 HO Hp9 Hy9
  ihave Hy9 := (show pay m c 9 ⊢ O c (nb 3 c) (G m c) from BI.Entails.refl _) $$ Hy9
  iapply (pl.step_wait (pay m) 𝒱₀ c (κ := κ) (wpE_waitDma2_eq 𝒱₀ (c.tc : Thread nD τ) none Set.univ) 10 [] (W := W9) rfl rfl (by simp)) $$ Hk Hl Hc10 HO Hp10
  iintro %W10 HO Hp10 Hy10
  ihave Hy10 := (show pay m c 10 ⊢ O c (nb 4 c) (G m c) from BI.Entails.refl _) $$ Hy10
  iapply (pl.step_wait (pay m) 𝒱₀ c (κ := κ) (wpE_waitDma2_eq 𝒱₀ (c.tc : Thread nD τ) none Set.univ) 11 [] (W := W10) rfl rfl (by simp)) $$ Hk Hl Hc11 HO Hp11
  iintro %W11 HO Hp11 Hy11
  ihave Hy11 := (show pay m c 11 ⊢ O c (nb 5 c) (G m c) from BI.Entails.refl _) $$ Hy11
  iapply (pl.step_wait (pay m) 𝒱₀ c (κ := κ) (wpE_waitDma2_eq 𝒱₀ (c.tc : Thread nD τ) none Set.univ) 12 [] (W := W11) rfl rfl (by simp)) $$ Hk Hl Hc12 HO Hp12
  iintro %W12 HO Hp12 Hy12
  ihave Hy12 := (show pay m c 12 ⊢ O c (nb 6 c) (G m c) from BI.Entails.refl _) $$ Hy12
  iapply (pl.step_wait (pay m) 𝒱₀ c (κ := κ) (wpE_waitDma2_eq 𝒱₀ (c.tc : Thread nD τ) none Set.univ) 13 [] (W := W12) rfl rfl (by simp)) $$ Hk Hl Hc13 HO Hp13
  iintro %W13 HO Hp13 Hy13
  ihave Hy13 := (show pay m c 13 ⊢ O c (nb 7 c) (G m c) from BI.Entails.refl _) $$ Hy13
  iapply (pl.step_wait (pay m) 𝒱₀ c (κ := κ) (wpE_waitDma2_eq 𝒱₀ (c.tc : Thread nD τ) none Set.univ) 0 [] (W := W13) rfl rfl (by simp)) $$ Hk Hl Hc0 HO Hp0
  iintro %W0 HO Hp0 Hy0
  ihave Hy0 := (show pay m c 0 ⊢ A m c q1 from BI.Entails.refl _) $$ Hy0
  iapply (pl.step_wait (pay m) 𝒱₀ c (κ := κ) (wpE_waitDma2_eq 𝒱₀ (c.tc : Thread nD τ) none Set.univ) 1 [] (W := W0) rfl rfl (by simp)) $$ Hk Hl Hc1 HO Hp1
  iintro %W1 HO Hp1 Hy1
  ihave Hy1 := (show pay m c 1 ⊢ A m c q2 from BI.Entails.refl _) $$ Hy1
  iapply (pl.step_wait (pay m) 𝒱₀ c (κ := κ) (wpE_waitDma2_eq 𝒱₀ (c.tc : Thread nD τ) none Set.univ) 2 [] (W := W1) rfl rfl (by simp)) $$ Hk Hl Hc2 HO Hp2
  iintro %W2 HO Hp2 Hy2
  ihave Hy2 := (show pay m c 2 ⊢ A m c q3 from BI.Entails.refl _) $$ Hy2
  iapply (pl.step_wait (pay m) 𝒱₀ c (κ := κ) (wpE_waitDma2_eq 𝒱₀ (c.tc : Thread nD τ) none Set.univ) 3 [] (W := W2) rfl rfl (by simp)) $$ Hk Hl Hc3 HO Hp3
  iintro %W3 HO Hp3 Hy3
  ihave Hy3 := (show pay m c 3 ⊢ A m c q4 from BI.Entails.refl _) $$ Hy3
  iapply (pl.step_wait (pay m) 𝒱₀ c (κ := κ) (wpE_waitDma2_eq 𝒱₀ (c.tc : Thread nD τ) none Set.univ) 4 [] (W := W3) rfl rfl (by simp)) $$ Hk Hl Hc4 HO Hp4
  iintro %W4 HO Hp4 Hy4
  ihave Hy4 := (show pay m c 4 ⊢ A m c q5 from BI.Entails.refl _) $$ Hy4
  iapply (pl.step_wait (pay m) 𝒱₀ c (κ := κ) (wpE_waitDma2_eq 𝒱₀ (c.tc : Thread nD τ) none Set.univ) 5 [] (W := W4) rfl rfl (by simp)) $$ Hk Hl Hc5 HO Hp5
  iintro %W5 HO Hp5 Hy5
  ihave Hy5 := (show pay m c 5 ⊢ A m c q6 from BI.Entails.refl _) $$ Hy5
  iapply (pl.step_wait (pay m) 𝒱₀ c (κ := κ) (wpE_waitDma2_eq 𝒱₀ (c.tc : Thread nD τ) none Set.univ) 6 [] (W := W5) rfl rfl (by simp)) $$ Hk Hl Hc6 HO Hp6
  iintro %W6 HO Hp6 Hy6
  ihave Hy6 := (show pay m c 6 ⊢ A m c q7 from BI.Entails.refl _) $$ Hy6
  iapply (pl.step_wait (pay m) 𝒱₀ c (κ := κ) (wpE_waitDma2_eq 𝒱₀ (c.tc : Thread nD τ) none Set.univ) 14 [] (W := W6) rfl rfl (by simp)) $$ Hk Hl Hc14 HO Hp14
  iintro %W14 HO Hp14 Hy14
  icases (show pay m c 14 ⊢ iprop(O c c (G m c) ∗ A m c q0) from BI.Entails.refl _) $$ Hy14 with ⟨Hb0, Ha0⟩
  rw [wp_ret]
  imod (pl.close (pay m) κ c) $$ [Hp0 Hp1 Hp2 Hp3 Hp4 Hp5 Hp6 Hp7 Hp8 Hp9 Hp10 Hp11 Hp12 Hp13 Hp14] with Hz
  · isplitr; · iexact Hk
    rw [each_univ (pl.pos1 c) [0, 1, 2, 3, 4, 5, 6, 7, 8, 9, 10, 11, 12, 13, 14] (by decide) (by decide)]
    simp only [each]
    iframe
  imodintro
  iapply HQ
  isplitl [Ha0 Hb0 Hy0 Hy1 Hy2 Hy3 Hy4 Hy5 Hy6 Hy7 Hy8 Hy9 Hy10 Hy11 Hy12 Hy13]
  · unfold Y
    isplitl [Ha0 Hy0 Hy1 Hy2 Hy3 Hy4 Hy5 Hy6]
    · iapply (Entails.of_eq (shares m c).symm)
      isplitl [Ha0]; · iexact Ha0
      isplitl [Hy0]; · iexact Hy0
      isplitl [Hy1]; · iexact Hy1
      isplitl [Hy2]; · iexact Hy2
      isplitl [Hy3]; · iexact Hy3
      isplitl [Hy4]; · iexact Hy4
      isplitl [Hy5]; · iexact Hy5
      iexact Hy6
    rw [slots]
    unfold order
    simp only [each]
    isplitl [Hb0]; · iexact Hb0
    isplitl [Hy7]; · iexact Hy7
    isplitl [Hy8]; · iexact Hy8
    isplitl [Hy9]; · iexact Hy9
    isplitl [Hy10]; · iexact Hy10
    isplitl [Hy11]; · iexact Hy11
    isplitl [Hy12]; · iexact Hy12
    isplitl [Hy13]; · iexact Hy13
    iempintro
  isplitl [Hz]; · iexact Hz
  iexists W14; iexact HO

end Cert.SmallSumProof

end
-- ==== Proof.SmallSumRun.lean ====
module

public import proofs.«01_k».proof.Proof.SmallSum
public import Idealize.ShloMosaic.Lib.Pipeline.FrameBody
public import Idealize.ShloMosaic.Lib.Tactic
public import Idealize.ShloMosaic.Lib.Pipeline.ValueKit.Tiles

/-! # The sum of the gathered small gradients, and the run of both calls

The sum adds, block of rows by block of rows, the eight slots of what the gather left. -/

@[expose] public section

noncomputable section

namespace Cert.SmallSumProof

open Cert.SmallSumIdeal Cert.SmallSumIdeal.Gen Cert.Talk
open Idealize.ShloMosaic Idealize.ShloMosaic.TcCoe Idealize.ShloMosaic.Tactic Idealize.ShloMosaic.Pipeline Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- Eight values added in order. -/
def sum8 (f : Fin 8 → F .f32) : F .f32 :=
  FloatOps.addf (FloatOps.addf (FloatOps.addf (FloatOps.addf (FloatOps.addf (FloatOps.addf (FloatOps.addf (f 0) (f 1)) (f 2)) (f 3)) (f 4)) (f 5)) (f 6)) (f 7)

/-- A block's sum over its slots. -/
def tot (x : Vec F S8x280x128 .f32) : Vec F S280x128 .f32 := fun y => sum8 fun s => x (ix3 s (y 0) (y 1))

/-- One slot of a block. -/
abbrev row (s : Fin 8) : Rect S8x280x128 := Rect.unit (s := S8x280x128) ![s.val, 0, 0] S1x280x128.size (by revert s; decide)

/-- All of a block of the result. -/
abbrev all : Rect S280x128 := Rect.unit (s := S280x128) ![0, 0] S280x128.size inb_S280x128_S280x128_0_0

theorem row_apply (x : Vec F S8x280x128 .f32) (s : Fin 8) (y : S280x128.Idx) :
    shapeCast S280x128 (View.ld x (row s)) shapeCasts_S1x280x128_S280x128 y = x (ix3 s (y 0) (y 1)) := by
  rw [shapeCast_apply _ shapeCasts_S1x280x128_S280x128 y (ix3 (0 : Fin 1) (y 0) (y 1)) (by
    rw [Shape.rowMajor_val_three, Shape.rowMajor_val_two]
    show ((0 * 280 + (y 0).val) * 128 + (y 1).val : ℕ) = (y 0).val * 128 + (y 1).val
    omega)]
  refine View.ld_unit_apply_of x _ _ _ _ _ fun a => ?_
  fin_cases a
  · show s.val = s.val + 0; omega
  · show (y 0).val = 0 + (y 0).val; omega
  · show (y 1).val = 0 + (y 1).val; omega

/-- What the body stores is the block's sum. -/
theorem pay_eq (x : Vec F S8x280x128 .f32) :
    k1_pay1 (View.ld x (row 0)) (View.ld x (row 1)) (View.ld x (row 2)) (View.ld x (row 3)) (View.ld x (row 4)) (View.ld x (row 5))
      (View.ld x (row 6)) (View.ld x (row 7)) = tot x := by
  funext y
  unfold tot sum8
  simp only [← row_apply]
  rfl

set_option maxHeartbeats 1000000 in
/-- THE BODY on whole buffers: the input's stays, the output's holds its sum. -/
theorem sum_body (c : Dev nD) (E : Set ℕ) (i : grid1.Coords) (arg1 : Memref sig .tc .vmem S8x280x128 .f32) (harg1 : arg1.IsWhole)
    (arg2 : Memref sig .tc .vmem S280x128 .f32) (harg2 : arg2.IsWhole) (x : Vec F S8x280x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (tot x)) -∗ K ⟨⟩))
      ⊢ wp frame (wpE (defs₀ (F := F)) Variants.none c none) E (cc1_sum_small i arg1 harg1 arg2 harg2) K := by
  simp only [cc1_sum_small_eq_skeleton]; unfold cc1_sum_small_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ fun y => View.cover_of_tiled [⟨all, _⟩] S280x128.size (by rfl) y).trans ?_
  rw [View.canon_cons_unit_lit _ _ _ (by decide)]
  exact pay_eq _

variable (m : (ℓ : Loc nD τ sig) → Buf (Elt F) ℓ)

/-- The sum on device `c`: at each place the eight slots added. -/
def H (c : Dev nD) : Buf (Elt F) ((c.tc : Thread nD τ).loc main_v2) :=
  fun i : S1120x128.Idx => sum8 fun s => G m c (ix3 s (i 0) (i 1) : S8x1120x128.Idx)

/-- The block of the gathered arrays at a point. -/
def blk (c : Dev nD) (t : Fin cfg1.N) : Vec F S8x280x128 .f32 := ((cfg1.win 0).blk t).view.read (Elt F) (G m c)

/-- The sum's data: from the gathered arrays, each point leaves the sum of its block. -/
def dat (c : Dev nD) : Dat τ (Elt F) Unit ℕ (UU nD τ sig) ℕ cfg1 c where
  A w := match w with
    | ⟨0, _⟩ => G m c
    | ⟨1, _⟩ => m ((c.tc : Thread nD τ).loc main_v2)
  after w t := match w with
    | ⟨0, _⟩ => blk m c t
    | ⟨1, _⟩ => tot (blk m c t)
  Φ _ := iprop(emp)
  q _ := fullShare
  owed _ := 0

theorem after0 (c : Dev nD) (t : Fin cfg1.N) : (dat m c).after 0 t = blk m c t := by dsimp only [dat]
theorem after1 (c : Dev nD) (t : Fin cfg1.N) : (dat m c).after 1 t = tot (blk m c t) := by dsimp only [dat]

theorem before0 (c : Dev nD) (t : Fin cfg1.N) (d) : (dat m c).before 0 t d = blk m c t :=
  ((dat m c).before_in_eq_fetched 0 rfl (fun _ => rfl) (fun _ _ _ => rfl) (fun t => by rw [after0]; rfl) t d).trans rfl

theorem obligation (c : Dev nD) : BodyObligation (dat m c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  have h : iprop((dat m c).Φ t.castSucc ∗ (dat m c).owesAt () t.castSucc
        ∗ (∃ d, owns (c : Thread nD τ) (st1_0 t) fullShare ((dat m c).before 0 t d))
        ∗ (∃ d, owns (c : Thread nD τ) (st1_1 t) fullShare ((dat m c).before 1 t d)))
      ⊢ wp frame (wpE (defs₀ (F := F)) Variants.none c none) Set.univ (bodyAt1 t) (fun _ => iprop((dat m c).Φ t.succ ∗ (dat m c).owesAt () t.succ
        ∗ owns (c : Thread nD τ) (st1_0 t) fullShare ((dat m c).after 0 t)
        ∗ owns (c : Thread nD τ) (st1_1 t) fullShare ((dat m c).after 1 t))) := by
    unfold bodyAt1
    simp only [before0]
    rw [show (dat m c).Φ t.succ = (dat m c).Φ t.castSucc from rfl,
      show (dat m c).owesAt () t.succ = (dat m c).owesAt () t.castSucc from rfl, after0, after1]
    iintro ⟨HΦ, Ho, ⟨%d0, H0⟩, ⟨%d1, H1⟩⟩
    iapply (sum_body c Set.univ (grid1.coords t) _ _ _ _ (blk m c t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  exact triple_restated h rfl .rfl fun _ => .rfl

theorem index1_0 : ∀ t : Fin cfg1.N, win1_0.index t = ![0, win1_1.index t 0, 0] := (by decide +kernel : ∀ t : Fin grid1.N, _)
theorem index1_1 : ∀ t : Fin cfg1.N, win1_1.index t 1 = 0 := (by decide +kernel : ∀ t : Fin grid1.N, _)

/-- After the last point the sum's array holds `H`. -/
theorem final (c : Dev nD) : (dat m c).arrAt 1 cfg1.N = H m c := by
  refine (dat m c).arrAt_eq_of_covers 1 _ (by decide +kernel) fun t hf y => ?_
  blk_simp
  rw [after1]
  unfold tot H
  refine congrArg sum8 (funext fun s => ?_)
  unfold blk
  rw [View.read_apply]
  refine congrArg (G m c) ?_
  funext a; apply Fin.ext
  match a with
  | ⟨0, _⟩ => show win1_0.index t 0 * 8 + 1 * s.val = s.val; rw [index1_0]; show 0 * 8 + 1 * s.val = s.val; omega
  | ⟨1, _⟩ => show win1_0.index t 1 * 280 + 1 * (y 0).val = win1_1.index t 0 * 280 + 1 * (y 0).val; rw [index1_0]; rfl
  | ⟨2, _⟩ => show win1_0.index t 2 * 128 + 1 * (y 1).val = win1_1.index t 1 * 128 + 1 * (y 1).val; rw [index1_0, index1_1]; rfl

/-- The two calls' data. -/
def pdats : (p : Fin 2) → (c : Dev nD) → Dat τ (Elt F) Unit ℕ (UU nD τ sig) ℕ (pinD (pcfgs (F := F)) (fun _ p => (cfgs p).toPCfg_adm) c p) c
  | 0 => fun c => oneDat (pinD (pcfgs (F := F)) (fun _ p => (cfgs p).toPCfg_adm) c 0) (hW := inferInstanceAs (IsEmpty (Fin 0))) c
      (iprop((pl.rights (pay m) [7, 8, 9, 10, 11, 12, 13] c ∗ M m c ∗ S c (m ((c.tc : Thread nD τ).loc main_v2))) ∗ scopedRest (pcfgs (F := F) 0).spec c))
      iprop((Y m c ∗ S c (m ((c.tc : Thread nD τ).loc main_v2))) ∗ ownSems0 pl.sm c ∗ scopedRest (pcfgs (F := F) 0).spec c) (pl.owe c [7, 8, 9, 10, 11, 12, 13])
  | 1 => fun c => dat m c

instance noWindow : IsEmpty (Fin (pcfgs (F := F) 0).W) := inferInstanceAs (IsEmpty (Fin 0))
instance noTable (p : Fin 2) : IsEmpty (Fin (pcfgs (F := F) p).pre.K) := by fin_cases p <;> exact inferInstanceAs (IsEmpty (Fin 0))

/-- The sum's arrays, one by one. -/
theorem arrays_eq (c : Dev nD) (t : ℕ) : ((dat m c).arrays ((dat m c).arrAt · t) : sProp 𝕄)
    = iprop((((c.tc : Thread nD τ).loc main_v1) ↦{fullShare} G m c) ∗ S c ((dat m c).arrAt 1 t)) := by
  have h0 : (dat m c).arrAt 0 t = G m c := (dat m c).arrAt_in 0 rfl t
  unfold Dat.arrays
  rw [bigSep_W1, show ((dat m c).arrAt · t) 0 = G m c from h0, (dat m c).share_full (fun _ => rfl)]
  rw [show (cfg1.win 0).arr.view.set = Finset.univ from View.set_whole _, show (cfg1.win 1).arr.view.set = Finset.univ from View.set_whole _]
  rfl

/-- The sum as a segment. -/
def after : PerCore.RegionSeg (pcfgs (F := F)) (fun _ p => (cfgs p).toPCfg_adm) (pdats m) () (defs₀ (F := F)) Variants.none Plan.L pl.lv 1 :=
  quiet (pcfgs (F := F)) (fun _ p => (cfgs p).toPCfg_adm) (pdats m) (defs₀ (F := F)) Variants.none Plan.L pl.lv 1 winFacts1.to₀ block_pos1 stage_whole1
    (fun _ => iprop(emp)) (fun c => by unfold prefHeld; rw [bigSep_none])
    (obligation m) (fun _ _ => rfl) (fun _ => rfl)
    (fun c => by
      iintro -
      iempintro)
    (fun _ => iprop(emp))
    (fun c => by
      rw [show (scopedRest (pcfgs (F := F) 1).spec c : sProp 𝕄) = iprop(emp) from scopedRest1_eq c]
      iintro -
      isplitr <;> iempintro)
    (fun c => ((c.tc : Thread nD τ).loc main_arg0) ↦{fullShare} m ((c.tc : Thread nD τ).loc main_arg0))

theorem sems_scoped : ∀ sm : SemLoc sig, sm.isScoped .tc = true := by decide

/-- What a device has at the end. -/
def Z (c : Dev nD) : sProp (MT nD τ sig Unit (Elt F) ℕ (UU nD τ sig) ℕ) := iprop(Y m c ∗ S c (H m c))

/-- THE RUN: from any memory with zero counters, all devices terminate, each with its array unchanged, with `G` in the gather's
    result and `H` in the sum's, and every counter is zero. -/
theorem run_main (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)
        ∧ r.2.mem ((c.tc : Thread nD τ).loc main_v2) = H m c ∧ r.2.mem ((c.tc : Thread nD τ).loc main_v1) = G m c)
      ∧ r.2.sem = fun _ => 0) :=
  run_first (pcfgs (F := F)) (fun _ p => (cfgs p).toPCfg_adm) (pdats m) cellOf_inj (defs₀ (F := F)) Variants.none 0 pl
    (show WinFacts₀ cfg0.spec from by decide) (show OwnSemFacts cfg0.spec pl.sm from by decide) (pay m) [7, 8, 9, 10, 11, 12, 13] m g main
    (fun _ => [.region (after m)]) (fun c => rfl) (fun c => List.nodup_singleton _) (fun c q hq => by rw [List.mem_singleton.1 hq]; decide)
    (fun c => iprop(M m c ∗ S c (m ((c.tc : Thread nD τ).loc main_v2)))) (fun c => iprop(Y m c ∗ S c (m ((c.tc : Thread nD τ).loc main_v2)))) (Z m)
    (fun c => rfl) (fun c => N_0) (deal_bufs m)
    (fun c t W Q => by
      refine Entails.trans ?_ (body m _ c t W Q)
      iintro ⟨Hr, ⟨HM, HS⟩, HO, HQ⟩
      isplitl [Hr]; · iexact Hr
      isplitl [HM]; · iexact HM
      isplitl [HO]; · iexact HO
      iintro ⟨HY, Hz, HO⟩
      iapply HQ
      isplitr [Hz HO]
      · isplitl [HY] <;> iassumption
      isplitl [Hz] <;> iassumption)
    (fun c => ⟨by
      show _ ⊢ iprop(((dat m c).arrays ((dat m c).arrAt · 0) ∗ _ ∗ _) ∗ _)
      rw [arrays_eq]
      unfold Y
      iintro ⟨⟨⟨Ha, Hg⟩, HS⟩, HO⟩
      isplitr [HO]
      · isplitl [Hg HS]
        · isplitl [Hg]; · iexact Hg
          iexact HS
        isplitr; · iempintro
        iexact Ha
      iexact HO, by
      show iprop(((dat m c).arrays ((dat m c).arrAt · cfg1.N) ∗ _ ∗ _) ∗ _) ⊢ _
      rw [arrays_eq, final]
      unfold Z Y
      iintro ⟨⟨⟨Hg, HS⟩, -, Ha⟩, HO⟩
      isplitr [HO]
      · isplitl [Ha Hg]
        · isplitl [Ha]; · iexact Ha
          iexact Hg
        iexact HS
      iexact HO⟩)
    (fun c s => s.mem ((c.tc : Thread nD τ).loc main_arg0) = m ((c.tc : Thread nD τ).loc main_arg0) ∧ s.mem ((c.tc : Thread nD τ).loc main_v2) = H m c
      ∧ s.mem ((c.tc : Thread nD τ).loc main_v1) = G m c)
    (fun c s' => by
      unfold Z Y
      iintro ⟨⟨⟨Hx, Hy⟩, Hz⟩, HSI⟩
      icombine HSI Hx gives %hx
      icombine HSI Hy gives %hy
      icombine HSI Hz gives %hz
      imodintro
      isplitr
      · ipureintro
        exact ⟨Buf.eq_of_forall_mem_univ hx, Buf.eq_of_forall_mem_univ hz, Buf.eq_of_forall_mem_univ hy⟩
      iexact HSI)
    (fun s h hs => ⟨h, sem_eq_zero_of_scoped sems_scoped hs⟩)

end Cert.SmallSumProof

end
-- ==== Proof.SmallSumValue.lean ====
module

public import proofs.«01_k».proof.Proof.SmallSumRun
public import proofs.«01_k».proof.Proof.Gen.SmallSumRefIdeal.Run
public import Idealize.ShloMosaic.Lib.Pipeline.Value
public import Idealize.ShloMosaic.Lib.Layout
public import Idealize.ShloMosaic.Lib.IdealHost
public import Idealize.ShloMosaic.Lib.Pointwise.Reduce

/-! # What the gather of the small gradients and their sum compute

The whole array, its rows split by device; and the sum over the devices. -/

@[expose] public section

noncomputable section

namespace Cert.SmallSumProof

open Idealize.ShloMosaic Idealize.ShloMosaic.TcCoe Idealize.ShloMosaic.ValueIdx
open Cert.SmallSumRefIdeal Cert.SmallSumRefIdeal.Facts₀

/-- The reference's result of the whole array `A`. -/
def out {α : Type} (A : S8960x128.Idx → α) : S8x1120x128.Idx → α := shapeCast _ A shapeCasts_S8960x128_S8x1120x128

/-- The reference's result read at row `y 1` of device `y 0`. -/
theorem out_apply {α : Type} (A : S8960x128.Idx → α) (y : S8x1120x128.Idx) (z : S8960x128.Idx)
    (h0 : (z 0).val = 1120 * (y 0).val + (y 1).val) (h1 : (z 1).val = (y 2).val) : out A y = A z :=
  shapeCast_apply _ shapeCasts_S8960x128_S8x1120x128 y z (by
    rw [Shape.rowMajor_val_three, Shape.rowMajor_val_two]
    show ((z 0).val * 128 + (z 1).val : ℕ) = ((y 0).val * 1120 + (y 1).val) * 128 + (y 2).val
    rw [h0, h1]; omega)

/-- WHAT THE GATHER LEAVES on every device: all of the reference's result. -/
theorem value {F : FTy → Type} (m : (ℓ : Loc Cert.SmallSumIdeal.nD Cert.SmallSumIdeal.τ Cert.SmallSumIdeal.sig) → Buf (Elt F) ℓ) (A : S8960x128.Idx → Elt F .f32)
    (hm : ∀ c : Dev Cert.SmallSumIdeal.nD, m ((c.tc : Thread Cert.SmallSumIdeal.nD Cert.SmallSumIdeal.τ).loc Cert.SmallSumIdeal.main_arg0)
      = Layout.block ⟨2, ![1120, 128]⟩ ⟨2, ![8960, 128]⟩ 0 8 c A)
    (c : Dev Cert.SmallSumIdeal.nD) : G m c = out A := by
  funext i
  unfold G
  rw [hm, Layout.block_apply]
  refine (out_apply A _ _ ?_ rfl).symm
  show (i 0).val * 1120 + (i 1).val = 1120 * (i 0).val + (i 1).val
  omega

/-- The reference's sum, over the extended reals. -/
def outSum (A : FVec Ideal S8960x128 .f32) : FVec Ideal S1120x128 .f32 :=
  Host.reduceAdd (F := Ideal) (out A) (constant (F := Ideal) S_ .f32 0x00000000#32) reducesTo_S8x1120x128_S1120x128_d0 h_S_

theorem sum8_eq (f : Fin 8 → EReal) : sum8 (F := Ideal) f = ∑ s, f s := by
  rw [Fin.sum_univ_eight]; rfl

/-- WHAT THE SUM LEAVES on every device: the reference's sum. -/
theorem value_sum (m : (ℓ : Loc Cert.SmallSumIdeal.nD Cert.SmallSumIdeal.τ Cert.SmallSumIdeal.sig) → Buf (Elt Ideal) ℓ) (A : S8960x128.Idx → Elt Ideal .f32)
    (hm : ∀ c : Dev Cert.SmallSumIdeal.nD, m ((c.tc : Thread Cert.SmallSumIdeal.nD Cert.SmallSumIdeal.τ).loc Cert.SmallSumIdeal.main_arg0)
      = Layout.block ⟨2, ![1120, 128]⟩ ⟨2, ![8960, 128]⟩ 0 8 c A)
    (c : Dev Cert.SmallSumIdeal.nD) : H m c = outSum A := by
  funext i
  unfold H outSum
  rw [value m A hm c, sum8_eq]
  simp only [pointwise, Ideal.hostReduceAdd_def]
  show _ = Ideal.ofBits .f32 0x00000000#32 + _
  rw [Ideal.ofBits_zero_f32, zero_add]
  rfl

end Cert.SmallSumProof

end
-- ==== Proof.FfnRow.lean ====
/-
  One row of the backward feed-forward layer, as arithmetic over the extended reals.

  A row is a token. `u` is the gradient that comes into the row, `v` the row of the layer's input, `g` the norm's gain;
  `a` and `b` are the row's two pre-activations, one for each of the four shards of the hidden layer; `wg`, `wu` and
  `wd` are the layer's three weights. Each definition is one quantity of the row; the kernel and the reference are both
  read as these.
-/
module

public import Idealize.ShloMosaic.Lib.Pointwise

@[expose] public section

noncomputable section

namespace Cert.FfnRow

open Idealize.ShloMosaic

/-- The constants one half, 1024 and the norm's epsilon. -/
def half : EReal := Ideal.ofBits .f32 0x3F000000#32
def width : EReal := Ideal.ofBits .f32 0x44800000#32
def eps : EReal := Ideal.ofBits .f32 0x358637BD#32

/-- The reciprocal root mean square of a row. -/
def rinv (v : Fin 1024 → EReal) : EReal := Ideal.rsqrt (Ideal.div (∑ k, v k * v k) width + eps)

/-- The normalised row. -/
def xhat (v : Fin 1024 → EReal) (d : Fin 1024) : EReal := v d * rinv v

/-- The logistic function. -/
def gate (x : EReal) : EReal := Ideal.div 1 (1 + Ideal.exp (-x))

/-- The gradient of the hidden product: half of the incoming row against one row of a shard's last weight. -/
def ds (u : Fin 1024 → EReal) (wd : Fin 704 → Fin 1024 → EReal) (f : Fin 704) : EReal := ∑ k, half * u k * wd f k

/-- The hidden activation of one entry. -/
def act (a b : EReal) : EReal := a * gate a * b

/-- The gradient of the first pre-activation, from `s`, the gradient of the hidden product. -/
def da (s a b : EReal) : EReal := s * b * (gate a * (1 + a * (1 - gate a)))

/-- The gradient of the second pre-activation. -/
def db (s a : EReal) : EReal := s * (a * gate a)

section

variable (u v g : Fin 1024 → EReal) (a b : Fin 4 → Fin 704 → EReal) (wg wu : Fin 4 → Fin 1024 → Fin 704 → EReal)
  (wd : Fin 4 → Fin 704 → Fin 1024 → EReal)

/-- What one shard adds to the gradient of the normed input. -/
def part (j : Fin 4) (d : Fin 1024) : EReal :=
  (∑ f, da (ds u (wd j) f) (a j f) (b j f) * wg j d f) + ∑ f, db (ds u (wd j) f) (a j f) * wu j d f

/-- The gradient of the normed input: the shards' parts together. -/
def dh (d : Fin 1024) : EReal := ∑ j, part u a b wg wu wd j d

/-- The gradient that leaves the row: the residual's share plus the way back through the norm. -/
def dx (d : Fin 1024) : EReal :=
  u d + rinv v * (dh u a b wg wu wd d * g d - xhat v d *
    Ideal.div (∑ k, dh u a b wg wu wd k * g k * xhat v k) width)

/-- What the row adds to the gradient of the gain. -/
def dg (d : Fin 1024) : EReal := dh u a b wg wu wd d * xhat v d

end

end Cert.FfnRow

end
-- ==== Proof.FfnArr.lean ====
/-
  The seven results of the backward feed-forward layer over whole arrays: each row by `FfnRow.lean`'s arithmetic, and the
  gain's gradient summed over all rows.
-/
module

public import proofs.«01_k».proof.Proof.FfnRow
public import Idealize.ShloMosaic.Lib.Pointwise

@[expose] public section

noncomputable section

namespace Cert.FfnArr

open Idealize.ShloMosaic

/-- Arrays of 8192 rows, of four shards of rows, of four shards of a weight, and a gain, over the extended reals. -/
abbrev Rows := (⟨2, ![8192, 1024]⟩ : Shape).Idx → EReal
abbrev Acts := (⟨3, ![4, 8192, 704]⟩ : Shape).Idx → EReal
abbrev Wide := (⟨3, ![4, 1024, 704]⟩ : Shape).Idx → EReal
abbrev Tall := (⟨3, ![4, 704, 1024]⟩ : Shape).Idx → EReal
abbrev Gain := (⟨2, ![1, 1024]⟩ : Shape).Idx → EReal

def row (x : Rows) (r : Fin 8192) : Fin 1024 → EReal := fun d => x (ix2 r d)
def rows (x : Acts) (r : Fin 8192) : Fin 4 → Fin 704 → EReal := fun j f => x (ix3 j r f)
def wide (x : Wide) : Fin 4 → Fin 1024 → Fin 704 → EReal := fun j d f => x (ix3 j d f)
def tall (x : Tall) : Fin 4 → Fin 704 → Fin 1024 → EReal := fun j f d => x (ix3 j f d)
def flat (x : Gain) : Fin 1024 → EReal := fun d => x (ix2 0 d)

variable (u v : Rows) (g : Gain) (a b : Acts) (wg wu : Wide) (wd : Tall)

/-- The gradient that leaves the rows. -/
def dx (r : Fin 8192) (d : Fin 1024) : EReal :=
  FfnRow.dx (row u r) (row v r) (flat g) (rows a r) (rows b r) (wide wg) (wide wu) (tall wd) d

/-- The gradients of the two pre-activations. -/
def da (j : Fin 4) (r : Fin 8192) (f : Fin 704) : EReal :=
  FfnRow.da (FfnRow.ds (row u r) (tall wd j) f) (rows a r j f) (rows b r j f)

def db (j : Fin 4) (r : Fin 8192) (f : Fin 704) : EReal := FfnRow.db (FfnRow.ds (row u r) (tall wd j) f) (rows a r j f)

/-- The hidden activation. -/
def act (j : Fin 4) (r : Fin 8192) (f : Fin 704) : EReal := FfnRow.act (rows a r j f) (rows b r j f)

/-- The normed rows, and half of the incoming gradient. -/
def normed (r : Fin 8192) (d : Fin 1024) : EReal := FfnRow.xhat (row v r) d * flat g d

def halved (r : Fin 8192) (d : Fin 1024) : EReal := FfnRow.half * row u r d

/-- The gradient of the gain. -/
def dg (d : Fin 1024) : EReal :=
  ∑ r, FfnRow.dg (row u r) (row v r) (rows a r) (rows b r) (wide wg) (wide wu) (tall wd) d

/-- The seven arrays by their indices. -/
def Dx : Rows := fun i => dx u v g a b wg wu wd (i 0) (i 1)
def Da : Acts := fun i => da u a b wd (i 0) (i 1) (i 2)
def Db : Acts := fun i => db u a wd (i 0) (i 1) (i 2)
def Act : Acts := fun i => act a b (i 0) (i 1) (i 2)
def Normed : Rows := fun i => normed v g (i 0) (i 1)
def Halved : Rows := fun i => halved u (i 0) (i 1)
def Dg : Gain := fun i => dg u v a b wg wu wd (i 1)

/-- An index by its coordinates. -/
theorem split2 {n k : ℕ} (y : (⟨2, ![n, k]⟩ : Shape).Idx) : y = ix2 (y 0) (y 1) := by
  funext a
  match a with
  | 0 => rfl
  | 1 => rfl

theorem split3 {l n k : ℕ} (y : (⟨3, ![l, n, k]⟩ : Shape).Idx) : y = ix3 (y 0) (y 1) (y 2) := by
  funext a
  match a with
  | 0 => rfl
  | 1 => rfl
  | 2 => rfl

theorem split1 {k : ℕ} (y : (⟨2, ![1, k]⟩ : Shape).Idx) : y = ix2 (0 : Fin 1) (y 1) := by
  funext a
  match a with
  | 0 => exact Subsingleton.elim (α := Fin 1) _ _
  | 1 => rfl

end Cert.FfnArr
-- ==== Proof.FfnBlock.lean ====
/-
  What the backward feed-forward kernel computes from one block of 256 rows, row by row.

  The kernel's stages are named over the blocks it loads; read at a row, each is the quantity of that row defined in
  `FfnRow.lean`.
-/
module

public import proofs.«01_k».proof.Proof.FfnRow
public import proofs.«01_k».proof.Proof.Gen.FfnBwdIdeal.Skeleton

@[expose] public section

noncomputable section

namespace Cert.FfnBlock

open Cert.FfnBwdIdeal Cert.FfnBwdIdeal.Gen Idealize.ShloMosaic

/-! ## The stages, over any float values -/

section Stages

variable {F : FTy → Type} [FloatOps F]

/-- Shard `j` of an array of four, under a leading axis of extent one. -/
def shard {n k : ℕ} (x : (⟨3, ![4, n, k]⟩ : Shape).Idx → F .bf16) (j : Fin 4) : (⟨3, ![1, n, k]⟩ : Shape).Idx → F .bf16 :=
  fun i => x (ix3 j (i 1) (i 2))

variable (x0 x1 : Vec F S256x1024 .f32) (x2 : Vec F S1x1024 .f32) (x3 x4 : Vec F S4x256x704 .bf16)
  (x5 x6 : Vec F S4x1024x704 .bf16) (x7 : Vec F S4x704x1024 .bf16)

/-- The two pre-activations' gradients and the activation of shard `j`. -/
def daB (j : Fin 4) : FVec F S256x704 .bf16 := k0_pay30 (k0_pay8 x0) (shard x3 j) (shard x4 j) (shard x7 j)
def dbB (j : Fin 4) : FVec F S256x704 .bf16 := k0_pay29 (k0_pay8 x0) (shard x3 j) (shard x7 j)
def actB (j : Fin 4) : FVec F S256x704 .bf16 := truncf .bf16 (k0_pay33 (shard x3 j) (shard x4 j)) bitsLt_bf16_f32

/-- Shard `j`'s two products added to what the shards before it gave. -/
def addB (acc : FVec F S256x1024 .f32) (j : Fin 4) : FVec F S256x1024 .f32 :=
  k0_pay35 acc (dbB x0 x3 x7 j) (daB x0 x3 x4 x7 j) (shard x5 j) (shard x6 j)

/-- The gradient of the normed rows: the four shards added in order. -/
def dhB : FVec F S256x1024 .f32 :=
  addB x0 x3 x4 x5 x6 x7 (addB x0 x3 x4 x5 x6 x7 (addB x0 x3 x4 x5 x6 x7 (addB x0 x3 x4 x5 x6 x7 k0_pay9 0) 1) 2) 3

/-- The gradient that leaves the block, from `dh`. -/
def backB (dh : FVec F S256x1024 .f32) : FVec F S256x1024 .f32 :=
  have g : FVec F S256x1024 .f32 := mulf dh (broadcastTo S256x1024 x2 broadcasts_S1x1024_S256x1024)
  have s : FVec F S256 .f32 :=
    multiReduction .add [1] S256 (mulf g (k0_pay6 x1)) 0x00000000#32 reduces_S256x1024_S256 (.inl rfl) rfl
  have q : FVec F S256x1 .f32 :=
    divf (shapeCast S256x1 s shapeCasts_S256_S256x1) (broadcast S256x1 (Scalar.ofBits .f32 0x44800000#32))
  have t : FVec F S256x1024 .f32 := subf g (mulf (k0_pay6 x1) (broadcastTo S256x1024 q broadcasts_S256x1_S256x1024))
  addf x0 (mulf (broadcastTo S256x1024 (k0_pay5 x1) broadcasts_S256x1_S256x1024) t)

/-- The block's column sums for the gain, added to what the blocks before it gave. -/
def gainB (acc : FVec F S1x1024 .f32) (dh : FVec F S256x1024 .f32) : FVec F S1x1024 .f32 :=
  have s : FVec F S1024 .f32 :=
    multiReduction .add [0] S1024 (mulf dh (k0_pay6 x1)) 0x00000000#32 reduces_S256x1024_S1024 (.inl rfl) rfl
  addf (shapeCast S1x1024 acc shapeCasts_S1x1024_S1x1024) (shapeCast S1x1024 s shapeCasts_S1024_S1x1024)

end Stages

/-! ## The stages at a row, over the extended reals -/

section Rows

variable (x0 x1 : Vec Ideal S256x1024 .f32) (x2 : Vec Ideal S1x1024 .f32) (x3 x4 : Vec Ideal S4x256x704 .bf16)
  (x5 x6 : Vec Ideal S4x1024x704 .bf16) (x7 : Vec Ideal S4x704x1024 .bf16) (p : Fin 256)

/-- Row `p` of a block, row `p` of each shard's block, and a weight by its coordinates. -/
abbrev row (x : Vec Ideal S256x1024 .f32) (p : Fin 256) : Fin 1024 → EReal := fun d => x (ix2 p d)
abbrev rows (x : Vec Ideal S4x256x704 .bf16) (p : Fin 256) : Fin 4 → Fin 704 → EReal := fun j f => x (ix3 j p f)
abbrev wide (x : Vec Ideal S4x1024x704 .bf16) : Fin 4 → Fin 1024 → Fin 704 → EReal := fun j d f => x (ix3 j d f)
abbrev tall (x : Vec Ideal S4x704x1024 .bf16) : Fin 4 → Fin 704 → Fin 1024 → EReal := fun j f d => x (ix3 j f d)
abbrev flat (x : Vec Ideal S1x1024 .f32) : Fin 1024 → EReal := fun d => x (ix2 0 d)

theorem shard_at {n k : ℕ} (x : (⟨3, ![4, n, k]⟩ : Shape).Idx → EReal) (j : Fin 4) (r : Fin n) (l : Fin k) :
    shard (F := Ideal) x j (ix3 0 r l) = x (ix3 j r l) := rfl

theorem half_at (k : Fin 1024) : k0_pay8 x0 (ix2 p k) = FfnRow.half * row x0 p k := by
  pointwise [k0_pay8]
  rfl

theorem daB_at (j : Fin 4) (f : Fin 704) :
    daB x0 x3 x4 x7 j (ix2 p f) = FfnRow.da (FfnRow.ds (row x0 p) (tall x7 j) f) (rows x3 p j f) (rows x4 p j f) := by
  unfold daB
  pointwise [k0_pay30, k0_pay24, k0_pay25, k0_pay26, k0_pay28]
  simp only [half_at, shard_at, zero_sub]
  rfl

theorem dbB_at (j : Fin 4) (f : Fin 704) :
    dbB x0 x3 x7 j (ix2 p f) = FfnRow.db (FfnRow.ds (row x0 p) (tall x7 j) f) (rows x3 p j f) := by
  unfold dbB
  pointwise [k0_pay29, k0_pay24, k0_pay26, k0_pay27, k0_pay28]
  simp only [half_at, shard_at, zero_sub]
  rfl

theorem actB_at (j : Fin 4) (f : Fin 704) :
    actB x3 x4 j (ix2 p f) = FfnRow.act (rows x3 p j f) (rows x4 p j f) := by
  unfold actB
  pointwise [k0_pay33, k0_pay24, k0_pay25, k0_pay26, k0_pay27]
  simp only [shard_at, zero_sub]
  rfl

theorem addB_at (acc : FVec Ideal S256x1024 .f32) (j : Fin 4) (d : Fin 1024) :
    addB x0 x3 x4 x5 x6 x7 acc j (ix2 p d) = acc (ix2 p d)
      + FfnRow.part (row x0 p) (rows x3 p) (rows x4 p) (wide x5) (wide x6) (tall x7) j d := by
  unfold addB
  pointwise [k0_pay35]
  simp only [daB_at, dbB_at, shard_at]
  exact add_assoc _ _ _

theorem dhB_at (d : Fin 1024) :
    dhB x0 x3 x4 x5 x6 x7 (ix2 p d)
      = FfnRow.dh (row x0 p) (rows x3 p) (rows x4 p) (wide x5) (wide x6) (tall x7) d := by
  have z : (k0_pay9 (F := Ideal)) (ix2 p d) = (0 : EReal) := by pointwise [k0_pay9]
  unfold dhB FfnRow.dh
  simp only [addB_at]
  rw [z, Fin.sum_univ_four, zero_add]

theorem xhat_at (d : Fin 1024) : k0_pay6 x1 (ix2 p d) = FfnRow.xhat (row x1 p) d := by
  pointwise [k0_pay6, k0_pay5]
  rfl

theorem rinv_at : k0_pay5 x1 (ix2 p 0) = FfnRow.rinv (row x1 p) := by
  pointwise [k0_pay5]
  rfl

/-- The normed row before it is stored. -/
theorem normed_at (d : Fin 1024) : k0_pay7 x1 x2 (ix2 p d) = FfnRow.xhat (row x1 p) d * flat x2 d := by
  pointwise [k0_pay7]
  simp only [xhat_at]

theorem backB_at (d : Fin 1024) :
    backB x0 x1 x2 (dhB x0 x3 x4 x5 x6 x7) (ix2 p d)
      = FfnRow.dx (row x0 p) (row x1 p) (flat x2) (rows x3 p) (rows x4 p) (wide x5) (wide x6) (tall x7) d := by
  unfold backB
  pointwise
  simp only [xhat_at, rinv_at, dhB_at]
  rfl

theorem gainB_at (acc : FVec Ideal S1x1024 .f32) (d : Fin 1024) :
    gainB x1 acc (dhB x0 x3 x4 x5 x6 x7) (ix2 0 d) = acc (ix2 0 d)
      + ∑ p, FfnRow.dg (row x0 p) (row x1 p) (rows x3 p) (rows x4 p) (wide x5) (wide x6) (tall x7) d := by
  unfold gainB
  pointwise
  simp only [xhat_at, dhB_at]
  rfl

end Rows

end Cert.FfnBlock

end
-- ==== Proof.FfnOpen.lean ====
/-
  What each grid point of the backward feed-forward kernel leaves in its seven output blocks.

  The frame names each block by the stores its run made. Here each is one of the stages of `FfnBlock.lean` over the
  point's input blocks; for the gain's block, what the point before left is added, or zero at the first point.
-/
module

public import proofs.«01_k».proof.Proof.FfnBlock
public import proofs.«01_k».proof.Proof.Gen.FfnBwdIdeal.Value
public import Idealize.ShloMosaic.Lib.Pipeline.ValueKit
public import Idealize.ShloMosaic.Lib.Pipeline.ReadBack

@[expose] public section

noncomputable section

namespace Cert.FfnOpen

open Cert.FfnBwdIdeal Cert.FfnBwdIdeal.Gen Cert.FfnBlock Idealize.ShloMosaic Idealize.ShloMosaic.TcCoe Idealize.SL.Sem

variable {F : FTy → Type} [FloatOps F]
variable (m : (ℓ : Loc nD τ sig) → Buf (Elt F) ℓ) (c : Dev nD) (t : Fin cfg0.N)

/-- A load of one shard of four is that shard. -/
theorem ld_shard {n k : ℕ} (x : (⟨3, ![4, n, k]⟩ : Shape).Idx → F .bf16) (o : ℕ) (j : Fin 4) (h : j.val = o)
    (inb : ∀ i : Fin 3, (![o, 0, 0] : Fin 3 → ℕ) i + (![1, n, k] : Fin 3 → ℕ) i ≤ (⟨3, ![4, n, k]⟩ : Shape).size i) :
    View.ld (Val := Elt F) (e' := .bf16) x (Rect.unit (s := ⟨3, ![4, n, k]⟩) ![o, 0, 0] ![1, n, k] inb) = shard x j := by
  funext i
  refine View.ld_unit_apply_of (Val := Elt F) (e := .bf16) x _ _ _ i (ix3 j (i 1) (i 2)) fun a => ?_
  have h0 : (i 0 : ℕ) < 1 := (i 0).isLt
  fin_cases a
  · show j.val = o + (i 0 : ℕ)
    omega
  · show (i 1 : ℕ) = 0 + (i 1 : ℕ)
    omega
  · show (i 2 : ℕ) = 0 + (i 2 : ℕ)
    omega

/-- Four stores, one array of a family under each index of the leading axis, leave the family. -/
theorem canon_family (v : Fin 4 → FVec F S256x704 .bf16) (j : Fin 4) (p : Fin 256) (f : Fin 704) :
    View.canon (Val := Elt F) (e := .bf16)
      [⟨Rect.unit (s := S4x256x704) ![3, 0, 0] S1x256x704.size inb_S4x256x704_S1x256x704_3_0_0,
        shapeCast S1x256x704 (v 3) shapeCasts_S256x704_S1x256x704⟩,
       ⟨Rect.unit (s := S4x256x704) ![2, 0, 0] S1x256x704.size inb_S4x256x704_S1x256x704_2_0_0,
        shapeCast S1x256x704 (v 2) shapeCasts_S256x704_S1x256x704⟩,
       ⟨Rect.unit (s := S4x256x704) ![1, 0, 0] S1x256x704.size inb_S4x256x704_S1x256x704_1_0_0,
        shapeCast S1x256x704 (v 1) shapeCasts_S256x704_S1x256x704⟩,
       ⟨Rect.unit (s := S4x256x704) ![0, 0, 0] S1x256x704.size inb_S4x256x704_S1x256x704_0_0_0,
        shapeCast S1x256x704 (v 0) shapeCasts_S256x704_S1x256x704⟩] (ix3 j p f) = v j (ix2 p f) := by
  have piece : ∀ (o : Fin 4) (x : S1x256x704.Idx), j.val = o.val + (x 0 : ℕ) → (x 0 : ℕ) < 1 → p.val = (x 1 : ℕ) →
      f.val = (x 2 : ℕ) → shapeCast S1x256x704 (v o) shapeCasts_S256x704_S1x256x704 x = v j (ix2 p f) := by
    intro o x h0 h h1 h2
    obtain rfl : o = j := Fin.ext (by omega)
    obtain rfl : p = x 1 := Fin.ext h1
    obtain rfl : f = x 2 := Fin.ext h2
    pointwise
  canon_tiles x h
  · exact piece 3 x h0 x0_lt h1 h2
  · exact piece 2 x h0 x0_lt h1 h2
  · exact piece 1 x h0 x0_lt h1 h2
  · exact piece 0 x (h0.trans (Nat.zero_add _).symm) x0_lt h1 h2

/-- The first result's block: the gradient that leaves the rows. -/
theorem out8 : (outsAt0 m c t.val t.isLt).1 = backB (iblk m c 0 t) (iblk m c 1 t) (iblk m c 2 t)
    (dhB (iblk m c 0 t) (iblk m c 3 t) (iblk m c 4 t) (iblk m c 5 t) (iblk m c 6 t) (iblk m c 7 t)) := by
  by_cases h : t.val % 32 = 0
  · rw [outsAt0_A m c t h]
    frame_out
    simp only [ld_shard _ 0 0 rfl, ld_shard _ 1 1 rfl, ld_shard _ 2 2 rfl, ld_shard _ 3 3 rfl]
    rfl
  · rw [outsAt0_B m c t h]
    frame_out
    simp only [ld_shard _ 0 0 rfl, ld_shard _ 1 1 rfl, ld_shard _ 2 2 rfl, ld_shard _ 3 3 rfl]
    rfl

/-- The second result's block: the first pre-activation's gradient, shard by shard. -/
theorem out9 (j : Fin 4) (p : Fin 256) (f : Fin 704) : (outsAt0 m c t.val t.isLt).2.1 (ix3 j p f)
    = daB (iblk m c 0 t) (iblk m c 3 t) (iblk m c 4 t) (iblk m c 7 t) j (ix2 p f) := by
  by_cases h : t.val % 32 = 0
  · rw [outsAt0_A m c t h]
    frame_out
    simp only [ld_shard _ 0 0 rfl, ld_shard _ 1 1 rfl, ld_shard _ 2 2 rfl, ld_shard _ 3 3 rfl]
    exact canon_family (daB (iblk m c 0 t) (iblk m c 3 t) (iblk m c 4 t) (iblk m c 7 t)) j p f
  · rw [outsAt0_B m c t h]
    frame_out
    simp only [ld_shard _ 0 0 rfl, ld_shard _ 1 1 rfl, ld_shard _ 2 2 rfl, ld_shard _ 3 3 rfl]
    exact canon_family (daB (iblk m c 0 t) (iblk m c 3 t) (iblk m c 4 t) (iblk m c 7 t)) j p f

/-- The third result's block: the second pre-activation's gradient. -/
theorem out10 (j : Fin 4) (p : Fin 256) (f : Fin 704) : (outsAt0 m c t.val t.isLt).2.2.1 (ix3 j p f)
    = dbB (iblk m c 0 t) (iblk m c 3 t) (iblk m c 7 t) j (ix2 p f) := by
  by_cases h : t.val % 32 = 0
  · rw [outsAt0_A m c t h]
    frame_out
    simp only [ld_shard _ 0 0 rfl, ld_shard _ 1 1 rfl, ld_shard _ 2 2 rfl, ld_shard _ 3 3 rfl]
    exact canon_family (dbB (iblk m c 0 t) (iblk m c 3 t) (iblk m c 7 t)) j p f
  · rw [outsAt0_B m c t h]
    frame_out
    simp only [ld_shard _ 0 0 rfl, ld_shard _ 1 1 rfl, ld_shard _ 2 2 rfl, ld_shard _ 3 3 rfl]
    exact canon_family (dbB (iblk m c 0 t) (iblk m c 3 t) (iblk m c 7 t)) j p f

/-- The fourth result's block: the hidden activation. -/
theorem out11 (j : Fin 4) (p : Fin 256) (f : Fin 704) : (outsAt0 m c t.val t.isLt).2.2.2.1 (ix3 j p f)
    = actB (iblk m c 3 t) (iblk m c 4 t) j (ix2 p f) := by
  by_cases h : t.val % 32 = 0
  · rw [outsAt0_A m c t h]
    frame_out
    simp only [ld_shard _ 0 0 rfl, ld_shard _ 1 1 rfl, ld_shard _ 2 2 rfl, ld_shard _ 3 3 rfl]
    exact canon_family (actB (iblk m c 3 t) (iblk m c 4 t)) j p f
  · rw [outsAt0_B m c t h]
    frame_out
    simp only [ld_shard _ 0 0 rfl, ld_shard _ 1 1 rfl, ld_shard _ 2 2 rfl, ld_shard _ 3 3 rfl]
    exact canon_family (actB (iblk m c 3 t) (iblk m c 4 t)) j p f

/-- The fifth and sixth results' blocks: the normed rows, and half of the incoming gradient. -/
theorem out12 : (outsAt0 m c t.val t.isLt).2.2.2.2.1 = k0_pay7 (iblk m c 1 t) (iblk m c 2 t) := by
  by_cases h : t.val % 32 = 0
  · rw [outsAt0_A m c t h]
    frame_out
  · rw [outsAt0_B m c t h]
    frame_out

theorem out13 : (outsAt0 m c t.val t.isLt).2.2.2.2.2.1 = k0_pay8 (iblk m c 0 t) := by
  by_cases h : t.val % 32 = 0
  · rw [outsAt0_A m c t h]
    frame_out
  · rw [outsAt0_B m c t h]
    frame_out

/-- The seventh result's block at the first point: the block's column sums added to zero. -/
theorem out14_first (h : t.val % 32 = 0) : (outsAt0 m c t.val t.isLt).2.2.2.2.2.2 = gainB (iblk m c 1 t) k0_pay2
    (dhB (iblk m c 0 t) (iblk m c 3 t) (iblk m c 4 t) (iblk m c 5 t) (iblk m c 6 t) (iblk m c 7 t)) := by
  rw [outsAt0_A m c t h]
  frame_out
  simp only [ld_shard _ 0 0 rfl, ld_shard _ 1 1 rfl, ld_shard _ 2 2 rfl, ld_shard _ 3 3 rfl]
  rfl

/-- … and at a later point: added to what the point before left. -/
theorem out14_later (h : ¬t.val % 32 = 0) : (outsAt0 m c t.val t.isLt).2.2.2.2.2.2 = gainB (iblk m c 1 t)
    (outsAt0 m c (t.val - 1) (Nat.lt_of_le_of_lt (Nat.sub_le _ _) t.isLt)).2.2.2.2.2.2
    (dhB (iblk m c 0 t) (iblk m c 3 t) (iblk m c 4 t) (iblk m c 5 t) (iblk m c 6 t) (iblk m c 7 t)) := by
  rw [outsAt0_B m c t h]
  frame_out
  simp only [ld_shard _ 0 0 rfl, ld_shard _ 1 1 rfl, ld_shard _ 2 2 rfl, ld_shard _ 3 3 rfl]
  rfl

end Cert.FfnOpen

end
-- ==== Proof.FfnWhole.lean ====
/-
  The backward feed-forward kernel's seven results, whole: what the 32 points leave is `FfnArr.lean`'s arrays.
-/
module

public import proofs.«01_k».proof.Proof.FfnArr
public import proofs.«01_k».proof.Proof.FfnOpen

@[expose] public section

noncomputable section

namespace Cert.FfnWhole

open Cert.FfnBwdIdeal Cert.FfnBwdIdeal.Gen Cert.FfnBlock Cert.FfnOpen Idealize.ShloMosaic Idealize.ShloMosaic.TcCoe Idealize.SL.Sem

variable (m : (ℓ : Loc nD τ sig) → Buf (Elt Ideal) ℓ) (c : Dev nD) (t : Fin cfg0.N)

/-- The eight arguments on device `c`. -/
abbrev a0 : FfnArr.Rows := m ((c : Thread nD τ).loc main_arg0)
abbrev a1 : FfnArr.Rows := m ((c : Thread nD τ).loc main_arg1)
abbrev a2 : FfnArr.Gain := m ((c : Thread nD τ).loc main_arg2)
abbrev a3 : FfnArr.Acts := m ((c : Thread nD τ).loc main_arg3)
abbrev a4 : FfnArr.Acts := m ((c : Thread nD τ).loc main_arg4)
abbrev a5 : FfnArr.Wide := m ((c : Thread nD τ).loc main_arg5)
abbrev a6 : FfnArr.Wide := m ((c : Thread nD τ).loc main_arg6)
abbrev a7 : FfnArr.Tall := m ((c : Thread nD τ).loc main_arg7)

/-- Where each window's block lies at a point. -/
theorem idx_rows : ∀ t : Fin cfg0.N, win0_0.index t = ![t.val, 0] ∧ win0_1.index t = ![t.val, 0] ∧ win0_8.index t = ![t.val, 0]
    ∧ win0_12.index t = ![t.val, 0] ∧ win0_13.index t = ![t.val, 0] :=
  (by decide +kernel : ∀ t : Fin grid0.N, _)

theorem idx_acts : ∀ t : Fin cfg0.N, win0_3.index t = ![0, t.val, 0] ∧ win0_4.index t = ![0, t.val, 0]
    ∧ win0_9.index t = ![0, t.val, 0] ∧ win0_10.index t = ![0, t.val, 0] ∧ win0_11.index t = ![0, t.val, 0] :=
  (by decide +kernel : ∀ t : Fin grid0.N, _)

theorem idx_fixed : ∀ t : Fin cfg0.N, win0_2.index t = ![0, 0] ∧ win0_5.index t = ![0, 0, 0] ∧ win0_6.index t = ![0, 0, 0]
    ∧ win0_7.index t = ![0, 0, 0] ∧ win0_14.index t = ![0, 0] :=
  (by decide +kernel : ∀ t : Fin grid0.N, _)

/-- Row `p` of a point's block is this row of the array. -/
def place (p : Fin 256) : Fin 8192 := ⟨t.val * 256 + p.val, by have h : t.val < 32 := t.isLt; omega⟩

theorem row0 (p : Fin 256) : row (iblk m c 0 t) p = FfnArr.row (a0 m c) (place t p) := by
  funext d
  unfold row FfnArr.row place
  blk_ext [iblk, V, idx_rows t]

theorem row1 (p : Fin 256) : row (iblk m c 1 t) p = FfnArr.row (a1 m c) (place t p) := by
  funext d
  unfold row FfnArr.row place
  blk_ext [iblk, V, idx_rows t]

theorem flat2 : flat (iblk m c 2 t) = FfnArr.flat (a2 m c) := by
  funext d
  unfold flat FfnArr.flat
  blk_ext [iblk, V, idx_fixed t]

theorem rows3 (p : Fin 256) : rows (iblk m c 3 t) p = FfnArr.rows (a3 m c) (place t p) := by
  funext j f
  unfold rows FfnArr.rows place
  blk_ext [iblk, V, idx_acts t]

theorem rows4 (p : Fin 256) : rows (iblk m c 4 t) p = FfnArr.rows (a4 m c) (place t p) := by
  funext j f
  unfold rows FfnArr.rows place
  blk_ext [iblk, V, idx_acts t]

theorem wide5 : wide (iblk m c 5 t) = FfnArr.wide (a5 m c) := by
  funext j d f
  unfold wide FfnArr.wide
  blk_ext [iblk, V, idx_fixed t]

theorem wide6 : wide (iblk m c 6 t) = FfnArr.wide (a6 m c) := by
  funext j d f
  unfold wide FfnArr.wide
  blk_ext [iblk, V, idx_fixed t]

theorem tall7 : tall (iblk m c 7 t) = FfnArr.tall (a7 m c) := by
  funext j f d
  unfold tall FfnArr.tall
  blk_ext [iblk, V, idx_fixed t]

/-! ## The results at a row of a point's block -/

section Points

variable (p : Fin 256)

theorem point8 (d : Fin 1024) : (outsAt0 m c t.val t.isLt).1 (ix2 p d)
    = FfnArr.dx (a0 m c) (a1 m c) (a2 m c) (a3 m c) (a4 m c) (a5 m c) (a6 m c) (a7 m c) (place t p) d := by
  rw [out8, backB_at, row0, row1, flat2, rows3, rows4, wide5, wide6, tall7]
  rfl

theorem point9 (j : Fin 4) (f : Fin 704) : (outsAt0 m c t.val t.isLt).2.1 (ix3 j p f)
    = FfnArr.da (a0 m c) (a3 m c) (a4 m c) (a7 m c) j (place t p) f := by
  rw [out9, daB_at, row0, rows3, rows4, tall7]
  rfl

theorem point10 (j : Fin 4) (f : Fin 704) : (outsAt0 m c t.val t.isLt).2.2.1 (ix3 j p f)
    = FfnArr.db (a0 m c) (a3 m c) (a7 m c) j (place t p) f := by
  rw [out10, dbB_at, row0, rows3, tall7]
  rfl

theorem point11 (j : Fin 4) (f : Fin 704) : (outsAt0 m c t.val t.isLt).2.2.2.1 (ix3 j p f)
    = FfnArr.act (a3 m c) (a4 m c) j (place t p) f := by
  rw [out11, actB_at, rows3, rows4]
  rfl

theorem point12 (d : Fin 1024) : (outsAt0 m c t.val t.isLt).2.2.2.2.1 (ix2 p d)
    = FfnArr.normed (a1 m c) (a2 m c) (place t p) d := by
  rw [out12, normed_at, row1, flat2]
  rfl

theorem point13 (d : Fin 1024) : (outsAt0 m c t.val t.isLt).2.2.2.2.2.1 (ix2 p d)
    = FfnArr.halved (a0 m c) (place t p) d := by
  rw [out13, half_at, row0]
  rfl

/-- What a point's rows add to the gain's gradient. -/
def adds (d : Fin 1024) : EReal := ∑ q : Fin 256, FfnRow.dg (FfnArr.row (a0 m c) (place t q)) (FfnArr.row (a1 m c) (place t q))
  (FfnArr.rows (a3 m c) (place t q)) (FfnArr.rows (a4 m c) (place t q)) (FfnArr.wide (a5 m c)) (FfnArr.wide (a6 m c))
  (FfnArr.tall (a7 m c)) d

theorem adds_eq (d : Fin 1024) : ∑ q, FfnRow.dg (row (iblk m c 0 t) q) (row (iblk m c 1 t) q) (rows (iblk m c 3 t) q)
    (rows (iblk m c 4 t) q) (wide (iblk m c 5 t)) (wide (iblk m c 6 t)) (tall (iblk m c 7 t)) d = adds m c t d := by
  unfold adds
  refine Finset.sum_congr rfl fun q _ => ?_
  rw [row0, row1, rows3, rows4, wide5, wide6, tall7]

theorem point14_first (h : t.val % 32 = 0) (d : Fin 1024) :
    (outsAt0 m c t.val t.isLt).2.2.2.2.2.2 (ix2 0 d) = 0 + adds m c t d := by
  rw [out14_first m c t h, gainB_at, adds_eq]
  refine congrArg (· + _) ?_
  pointwise [k0_pay2]

theorem point14_later (h : ¬t.val % 32 = 0) (d : Fin 1024) : (outsAt0 m c t.val t.isLt).2.2.2.2.2.2 (ix2 0 d)
    = (outsAt0 m c (t.val - 1) (Nat.lt_of_le_of_lt (Nat.sub_le _ _) t.isLt)).2.2.2.2.2.2 (ix2 0 d) + adds m c t d := by
  rw [out14_later m c t h, gainB_at, adds_eq]

/-- After the last point: the sum over all rows. -/
theorem point14 (ht : t.val + 1 = cfg0.N) (d : Fin 1024) : (outsAt0 m c t.val t.isLt).2.2.2.2.2.2 (ix2 0 d)
    = FfnArr.dg (a0 m c) (a1 m c) (a3 m c) (a4 m c) (a5 m c) (a6 m c) (a7 m c) d := by
  have h := Pipeline.eq_sum_fin_of_reset_step_apply_last (ι := Fin 1024) (M := EReal)
    (fun n hn d => (outsAt0 m c n hn).2.2.2.2.2.2 (ix2 0 d)) 32 (fun _ => 0) (fun t d => adds m c t d)
    (fun t h d => point14_first m c t h d) (fun t h d => point14_later m c t h d) (by decide) t ht d
  refine h.trans ((zero_add _).trans ?_)
  unfold adds FfnArr.dg
  exact Fin.sum_mul_add_congr (L := 8192) (S := 32) (n := 256) fun _ _ _ => rfl

end Points

/-! ## The arrays -/

theorem whole8 : (dats m 0 c).arrAt 8 cfg0.N
    = FfnArr.Dx (a0 m c) (a1 m c) (a2 m c) (a3 m c) (a4 m c) (a5 m c) (a6 m c) (a7 m c) := by
  refine (dats m 0 c).arrAt_eq_of_covers 8 _ (by decide +kernel) fun t hf y => ?_
  have e0 : ((((cfg0.win 8).blk t).view.emb y) 0 : ℕ) = t.val * 256 + (y 0 : ℕ) := by blk_simp [idx_rows t]
  have e1 : ((((cfg0.win 8).blk t).view.emb y) 1 : ℕ) = (y 1 : ℕ) := by blk_simp [idx_rows t]
  generalize ((cfg0.win 8).blk t).view.emb y = z at e0 e1 ⊢
  rw [after0_8]
  refine (congrArg (outsAt0 m c t.val t.isLt).1 (FfnArr.split2 y)).trans ((point8 m c t (y 0) (y 1)).trans ?_)
  exact congrArg₂ (FfnArr.dx _ _ _ _ _ _ _ _) (Fin.ext e0.symm) (Fin.ext e1.symm)

theorem whole9 : (dats m 0 c).arrAt 9 cfg0.N = FfnArr.Da (a0 m c) (a3 m c) (a4 m c) (a7 m c) := by
  refine (dats m 0 c).arrAt_eq_of_covers 9 _ (by decide +kernel) fun t hf y => ?_
  have e0 : ((((cfg0.win 9).blk t).view.emb y) 0 : ℕ) = (y 0 : ℕ) := by blk_simp [idx_acts t]
  have e1 : ((((cfg0.win 9).blk t).view.emb y) 1 : ℕ) = t.val * 256 + (y 1 : ℕ) := by blk_simp [idx_acts t]
  have e2 : ((((cfg0.win 9).blk t).view.emb y) 2 : ℕ) = (y 2 : ℕ) := by blk_simp [idx_acts t]
  generalize ((cfg0.win 9).blk t).view.emb y = z at e0 e1 e2 ⊢
  rw [after0_9]
  refine (congrArg (outsAt0 m c t.val t.isLt).2.1 (FfnArr.split3 y)).trans ((point9 m c t (y 1) (y 0) (y 2)).trans ?_)
  exact congr (congrArg₂ (FfnArr.da (a0 m c) (a3 m c) (a4 m c) (a7 m c)) (Fin.ext e0.symm) (Fin.ext e1.symm)) (Fin.ext e2.symm)

theorem whole10 : (dats m 0 c).arrAt 10 cfg0.N = FfnArr.Db (a0 m c) (a3 m c) (a7 m c) := by
  refine (dats m 0 c).arrAt_eq_of_covers 10 _ (by decide +kernel) fun t hf y => ?_
  have e0 : ((((cfg0.win 10).blk t).view.emb y) 0 : ℕ) = (y 0 : ℕ) := by blk_simp [idx_acts t]
  have e1 : ((((cfg0.win 10).blk t).view.emb y) 1 : ℕ) = t.val * 256 + (y 1 : ℕ) := by blk_simp [idx_acts t]
  have e2 : ((((cfg0.win 10).blk t).view.emb y) 2 : ℕ) = (y 2 : ℕ) := by blk_simp [idx_acts t]
  generalize ((cfg0.win 10).blk t).view.emb y = z at e0 e1 e2 ⊢
  rw [after0_10]
  refine (congrArg (outsAt0 m c t.val t.isLt).2.2.1 (FfnArr.split3 y)).trans ((point10 m c t (y 1) (y 0) (y 2)).trans ?_)
  exact congr (congrArg₂ (FfnArr.db (a0 m c) (a3 m c) (a7 m c)) (Fin.ext e0.symm) (Fin.ext e1.symm)) (Fin.ext e2.symm)

theorem whole11 : (dats m 0 c).arrAt 11 cfg0.N = FfnArr.Act (a3 m c) (a4 m c) := by
  refine (dats m 0 c).arrAt_eq_of_covers 11 _ (by decide +kernel) fun t hf y => ?_
  have e0 : ((((cfg0.win 11).blk t).view.emb y) 0 : ℕ) = (y 0 : ℕ) := by blk_simp [idx_acts t]
  have e1 : ((((cfg0.win 11).blk t).view.emb y) 1 : ℕ) = t.val * 256 + (y 1 : ℕ) := by blk_simp [idx_acts t]
  have e2 : ((((cfg0.win 11).blk t).view.emb y) 2 : ℕ) = (y 2 : ℕ) := by blk_simp [idx_acts t]
  generalize ((cfg0.win 11).blk t).view.emb y = z at e0 e1 e2 ⊢
  rw [after0_11]
  refine (congrArg (outsAt0 m c t.val t.isLt).2.2.2.1 (FfnArr.split3 y)).trans ((point11 m c t (y 1) (y 0) (y 2)).trans ?_)
  exact congr (congrArg₂ (FfnArr.act (a3 m c) (a4 m c)) (Fin.ext e0.symm) (Fin.ext e1.symm)) (Fin.ext e2.symm)

theorem whole12 : (dats m 0 c).arrAt 12 cfg0.N = FfnArr.Normed (a1 m c) (a2 m c) := by
  refine (dats m 0 c).arrAt_eq_of_covers 12 _ (by decide +kernel) fun t hf y => ?_
  have e0 : ((((cfg0.win 12).blk t).view.emb y) 0 : ℕ) = t.val * 256 + (y 0 : ℕ) := by blk_simp [idx_rows t]
  have e1 : ((((cfg0.win 12).blk t).view.emb y) 1 : ℕ) = (y 1 : ℕ) := by blk_simp [idx_rows t]
  generalize ((cfg0.win 12).blk t).view.emb y = z at e0 e1 ⊢
  rw [after0_12]
  refine (congrArg (outsAt0 m c t.val t.isLt).2.2.2.2.1 (FfnArr.split2 y)).trans ((point12 m c t (y 0) (y 1)).trans ?_)
  exact congrArg₂ (FfnArr.normed (a1 m c) (a2 m c)) (Fin.ext e0.symm) (Fin.ext e1.symm)

theorem whole13 : (dats m 0 c).arrAt 13 cfg0.N = FfnArr.Halved (a0 m c) := by
  refine (dats m 0 c).arrAt_eq_of_covers 13 _ (by decide +kernel) fun t hf y => ?_
  have e0 : ((((cfg0.win 13).blk t).view.emb y) 0 : ℕ) = t.val * 256 + (y 0 : ℕ) := by blk_simp [idx_rows t]
  have e1 : ((((cfg0.win 13).blk t).view.emb y) 1 : ℕ) = (y 1 : ℕ) := by blk_simp [idx_rows t]
  generalize ((cfg0.win 13).blk t).view.emb y = z at e0 e1 ⊢
  rw [after0_13]
  refine (congrArg (outsAt0 m c t.val t.isLt).2.2.2.2.2.1 (FfnArr.split2 y)).trans ((point13 m c t (y 0) (y 1)).trans ?_)
  exact congrArg₂ (FfnArr.halved (a0 m c)) (Fin.ext e0.symm) (Fin.ext e1.symm)

/-- One block that every point holds, written back after the last. -/
theorem whole14 : (dats m 0 c).arrAt 14 cfg0.N
    = FfnArr.Dg (a0 m c) (a1 m c) (a3 m c) (a4 m c) (a5 m c) (a6 m c) (a7 m c) := by
  refine (dats m 0 c).arrAt_eq_of_covers 14 _ (by decide +kernel) fun t hf y => ?_
  have e1 : ((((cfg0.win 14).blk t).view.emb y) 1 : ℕ) = (y 1 : ℕ) := by blk_simp [idx_fixed t]
  generalize ((cfg0.win 14).blk t).view.emb y = z at e1 ⊢
  have ht : t.val + 1 = cfg0.N := by
    have h1 := (flush0_14 t).mp hf
    have h2 : t.val < 32 := t.isLt
    show t.val + 1 = 32
    omega
  rw [after0_14]
  refine (congrArg (outsAt0 m c t.val t.isLt).2.2.2.2.2.2 (FfnArr.split1 y)).trans ((point14 m c t ht (y 1)).trans ?_)
  exact congrArg (FfnArr.dg _ _ _ _ _ _ _) (Fin.ext e1.symm)

/-- The kernel runs, leaves the seven arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = FfnArr.Dx (a0 m c) (a1 m c) (a2 m c) (a3 m c) (a4 m c) (a5 m c) (a6 m c) (a7 m c)
      ∧ r.2.mem ((c : Thread nD τ).loc main_v0_1) = FfnArr.Da (a0 m c) (a3 m c) (a4 m c) (a7 m c)
      ∧ r.2.mem ((c : Thread nD τ).loc main_v0_2) = FfnArr.Db (a0 m c) (a3 m c) (a7 m c)
      ∧ r.2.mem ((c : Thread nD τ).loc main_v0_3) = FfnArr.Act (a3 m c) (a4 m c)
      ∧ r.2.mem ((c : Thread nD τ).loc main_v0_4) = FfnArr.Normed (a1 m c) (a2 m c)
      ∧ r.2.mem ((c : Thread nD τ).loc main_v0_5) = FfnArr.Halved (a0 m c)
      ∧ r.2.mem ((c : Thread nD τ).loc main_v0_6) = FfnArr.Dg (a0 m c) (a1 m c) (a3 m c) (a4 m c) (a5 m c) (a6 m c) (a7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    have ⟨h0, h1, h2, h3, h4, h5, h6, hk⟩ := h c
    ⟨h0.trans (whole8 m c), h1.trans (whole9 m c), h2.trans (whole10 m c), h3.trans (whole11 m c), h4.trans (whole12 m c),
      h5.trans (whole13 m c), h6.trans (whole14 m c), hk⟩) (Value.run_blocks m ρ)

end Cert.FfnWhole
-- ==== Proof.FfnRef.lean ====
/-
  The backward feed-forward layer's reference, read row by row: its seven results are `FfnArr.lean`'s arrays.
-/
module

public import proofs.«01_k».proof.Proof.FfnArr
public import proofs.«01_k».proof.Proof.Gen.FfnBwdRefIdeal.Run
public import Idealize.ShloMosaic.Lib.Pointwise

@[expose] public section

noncomputable section

namespace Cert.FfnRef

open Cert.FfnBwdRefIdeal Cert.FfnBwdRefIdeal.Gen Idealize.ShloMosaic Idealize.ShloMosaic.TcCoe Idealize.ShloMosaic.StableHlo Idealize.SL.Sem

/-! ## The reference's intermediate arrays, as the program forms them -/

section Stages

variable (u v : Vec Ideal S8192x1024 .f32) (g : Vec Ideal S1x1024 .f32) (a b : Vec Ideal S4x8192x704 .bf16)
  (wg wu : Vec Ideal S4x1024x704 .bf16) (wd : Vec Ideal S4x704x1024 .bf16)

def hRinv : FVec Ideal S8192x1 .f32 :=
  Host.rsqrt (addf (Host.divf (broadcastInDim S8192x1 ![0] bcast_S8192_S8192x1_0 (Host.reduceAdd (mulf v v) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))

def hXhat : FVec Ideal S8192x1024 .f32 :=
  mulf v (broadcastInDim S8192x1024 ![0, 1] bcast_S8192x1_S8192x1024_0_1 (hRinv v))

def hHalf : FVec Ideal S8192x1024 .f32 :=
  mulf (broadcastInDim S8192x1024 ![] bcast_S_S8192x1024 (constant S_ .f32 0x3F000000#32)) u

def hDs : FVec Ideal S4x8192x704 .f32 :=
  transpose S4x8192x704 [0, 2, 1] (Host.dotGeneral dot_S4x704x1024_S8192x1024_S4x704x8192_2_1_01_0_n_n none (extf .f32 wd bitsLt_bf16_f32) (hHalf u)) transposes_S4x704x8192_S4x8192x704_0_2_1

def hOne : FVec Ideal S4x8192x704 .f32 := broadcastInDim S4x8192x704 ![] bcast_S_S4x8192x704 (constant S_ .f32 0x3F800000#32)

def hGate : FVec Ideal S4x8192x704 .f32 := Host.divf hOne (addf hOne (Host.exp (Host.negf (extf .f32 a bitsLt_bf16_f32))))

def hDa : FVec Ideal S4x8192x704 .f32 :=
  mulf (mulf (hDs u wd) (extf .f32 b bitsLt_bf16_f32)) (mulf (hGate a) (addf hOne (mulf (extf .f32 a bitsLt_bf16_f32) (subf hOne (hGate a)))))

def hDb : FVec Ideal S4x8192x704 .f32 := mulf (hDs u wd) (mulf (extf .f32 a bitsLt_bf16_f32) (hGate a))

def hAct : FVec Ideal S4x8192x704 .f32 := mulf (mulf (extf .f32 a bitsLt_bf16_f32) (hGate a)) (extf .f32 b bitsLt_bf16_f32)

def hDh : FVec Ideal S8192x1024 .f32 :=
  Host.reduceAdd (addf (Host.dotGeneral dot_S4x8192x704_S4x1024x704_S4x8192x1024_2_2_1_1_0_0 none (hDa u a b wd) (extf .f32 wg bitsLt_bf16_f32))
    (Host.dotGeneral dot_S4x8192x704_S4x1024x704_S4x8192x1024_2_2_1_1_0_0 none (hDb u a wd) (extf .f32 wu bitsLt_bf16_f32)))
    (constant S_ .f32 0x00000000#32) reducesTo_S4x8192x1024_S8192x1024_d0 h_S_

def hDxh : FVec Ideal S8192x1024 .f32 :=
  mulf (hDh u a b wg wu wd) (broadcastInDim S8192x1024 ![0, 1] bcast_S1x1024_S8192x1024_0_1 g)

def hDx : FVec Ideal S8192x1024 .f32 :=
  addf u (mulf (broadcastInDim S8192x1024 ![0, 1] bcast_S8192x1_S8192x1024_0_1 (hRinv v)) (subf (hDxh u g a b wg wu wd)
    (mulf (hXhat v) (broadcastInDim S8192x1024 ![0, 1] bcast_S8192x1_S8192x1024_0_1 (Host.divf (broadcastInDim S8192x1 ![0] bcast_S8192_S8192x1_0
      (Host.reduceAdd (mulf (hDxh u g a b wg wu wd) (hXhat v)) (constant S_ .f32 0x00000000#32) reducesTo_S8192x1024_S8192_d1 h_S_))
      (broadcastInDim S8192x1 ![] bcast_S_S8192x1 (constant S_ .f32 0x44800000#32)))))))

def hNormed : FVec Ideal S8192x1024 .f32 := mulf (hXhat v) (broadcastInDim S8192x1024 ![0, 1] bcast_S1x1024_S8192x1024_0_1 g)

def hDg : FVec Ideal S1x1024 .f32 :=
  broadcastInDim S1x1024 ![1] bcast_S1024_S1x1024_1 (Host.reduceAdd (mulf (hDh u a b wg wu wd) (hXhat v)) (constant S_ .f32 0x00000000#32) reducesTo_S8192x1024_S1024_d0 h_S_)

/-! ## The same arrays at an index -/

variable (r : Fin 8192) (d : Fin 1024) (j : Fin 4) (f : Fin 704)

theorem hRinv_at : hRinv v (ix2 r 0) = FfnRow.rinv (FfnArr.row v r) := by
  unfold hRinv
  pointwise
  rfl

theorem hXhat_at : hXhat v (ix2 r d) = FfnRow.xhat (FfnArr.row v r) d := by
  unfold hXhat
  pointwise
  rw [hRinv_at]
  rfl

theorem hHalf_at : hHalf u (ix2 r d) = FfnArr.halved u r d := by
  unfold hHalf
  pointwise
  rfl

theorem hDs_at : hDs u wd (ix3 j r f) = FfnRow.ds (FfnArr.row u r) (FfnArr.tall wd j) f := by
  unfold hDs
  pointwise
  unfold FfnRow.ds
  refine Finset.sum_congr rfl fun k _ => ?_
  rw [hHalf_at, mul_comm]
  rfl

theorem hOne_at : hOne (ix3 j r f) = 1 := by
  unfold hOne
  pointwise

theorem hGate_at : hGate a (ix3 j r f) = FfnRow.gate (FfnArr.rows a r j f) := by
  unfold hGate
  pointwise
  simp only [hOne_at]
  rfl

theorem hDa_at : hDa u a b wd (ix3 j r f) = FfnArr.da u a b wd j r f := by
  unfold hDa
  pointwise
  simp only [hOne_at, hGate_at, hDs_at]
  rfl

theorem hDb_at : hDb u a wd (ix3 j r f) = FfnArr.db u a wd j r f := by
  unfold hDb
  pointwise
  simp only [hGate_at, hDs_at]
  rfl

theorem hAct_at : hAct a b (ix3 j r f) = FfnArr.act a b j r f := by
  unfold hAct
  pointwise
  simp only [hGate_at]
  rfl

theorem hDh_at : hDh u a b wg wu wd (ix2 r d) = FfnRow.dh (FfnArr.row u r) (FfnArr.rows a r) (FfnArr.rows b r)
    (FfnArr.wide wg) (FfnArr.wide wu) (FfnArr.tall wd) d := by
  unfold hDh
  pointwise
  simp only [hDa_at, hDb_at]
  rfl

theorem hDxh_at : hDxh u g a b wg wu wd (ix2 r d) = FfnRow.dh (FfnArr.row u r) (FfnArr.rows a r) (FfnArr.rows b r)
    (FfnArr.wide wg) (FfnArr.wide wu) (FfnArr.tall wd) d * FfnArr.flat g d := by
  unfold hDxh
  pointwise
  rw [hDh_at]
  rfl

theorem hDx_at : hDx u v g a b wg wu wd (ix2 r d) = FfnArr.dx u v g a b wg wu wd r d := by
  unfold hDx
  pointwise
  simp only [hRinv_at, hXhat_at, hDxh_at]
  rfl

theorem hNormed_at : hNormed v g (ix2 r d) = FfnArr.normed v g r d := by
  unfold hNormed
  pointwise
  rw [hXhat_at]
  rfl

theorem hDg_at : hDg u v a b wg wu wd (ix2 0 d) = FfnArr.dg u v a b wg wu wd d := by
  unfold hDg
  pointwise
  simp only [hDh_at, hXhat_at]
  rfl

end Stages

/-! ## The run -/

variable (m : (ℓ : Loc nD τ sig) → Buf (Elt Ideal) ℓ) (c : Dev nD)

/-- The eight arguments. -/
abbrev a0 : FfnArr.Rows := m ((c : Thread nD τ).loc main_arg0)
abbrev a1 : FfnArr.Rows := m ((c : Thread nD τ).loc main_arg1)
abbrev a2 : FfnArr.Gain := m ((c : Thread nD τ).loc main_arg2)
abbrev a3 : FfnArr.Acts := m ((c : Thread nD τ).loc main_arg3)
abbrev a4 : FfnArr.Acts := m ((c : Thread nD τ).loc main_arg4)
abbrev a5 : FfnArr.Wide := m ((c : Thread nD τ).loc main_arg5)
abbrev a6 : FfnArr.Wide := m ((c : Thread nD τ).loc main_arg6)
abbrev a7 : FfnArr.Tall := m ((c : Thread nD τ).loc main_arg7)

/-- The reference runs, leaves the seven arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v51) = FfnArr.Dx (a0 m c) (a1 m c) (a2 m c) (a3 m c) (a4 m c) (a5 m c) (a6 m c) (a7 m c)
      ∧ r.2.mem ((c : Thread nD τ).loc main_v52) = FfnArr.Da (a0 m c) (a3 m c) (a4 m c) (a7 m c)
      ∧ r.2.mem ((c : Thread nD τ).loc main_v53) = FfnArr.Db (a0 m c) (a3 m c) (a7 m c)
      ∧ r.2.mem ((c : Thread nD τ).loc main_v56) = FfnArr.Act (a3 m c) (a4 m c)
      ∧ r.2.mem ((c : Thread nD τ).loc main_v59) = FfnArr.Normed (a1 m c) (a2 m c)
      ∧ r.2.mem ((c : Thread nD τ).loc main_v60) = FfnArr.Halved (a0 m c)
      ∧ r.2.mem ((c : Thread nD τ).loc main_v63) = FfnArr.Dg (a0 m c) (a1 m c) (a3 m c) (a4 m c) (a5 m c) (a6 m c) (a7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    have ⟨h0, h1, h2, h3, h4, h5, h6, hk⟩ := h c
    ⟨h0.trans (funext fun i => (congrArg (hDx (a0 m c) (a1 m c) (a2 m c) (a3 m c) (a4 m c) (a5 m c) (a6 m c) (a7 m c)) (FfnArr.split2 i)).trans (hDx_at ..)),
      h1.trans (funext fun i => (congrArg (hDa (a0 m c) (a3 m c) (a4 m c) (a7 m c)) (FfnArr.split3 i)).trans (hDa_at ..)),
      h2.trans (funext fun i => (congrArg (hDb (a0 m c) (a3 m c) (a7 m c)) (FfnArr.split3 i)).trans (hDb_at ..)),
      h3.trans (funext fun i => (congrArg (hAct (a3 m c) (a4 m c)) (FfnArr.split3 i)).trans (hAct_at ..)),
      h4.trans (funext fun i => (congrArg (hNormed (a1 m c) (a2 m c)) (FfnArr.split2 i)).trans (hNormed_at ..)),
      h5.trans (funext fun i => (congrArg (hHalf (a0 m c)) (FfnArr.split2 i)).trans (hHalf_at ..)),
      h6.trans (funext fun i => (congrArg (hDg (a0 m c) (a1 m c) (a3 m c) (a4 m c) (a5 m c) (a6 m c) (a7 m c)) (FfnArr.split1 i)).trans (hDg_at ..)),
      hk⟩) (Value.run (F := Ideal) m ρ)

end Cert.FfnRef
-- ==== Proof.FwdRow.lean ====
/-
  The forward feed-forward layer over the extended reals: each row by itself, then as whole arrays.

  A row is normed and scaled by the gain, multiplied with the two first weights of each of the four shards, gated, and
  multiplied back with the shard's last weight; half of the four shards' sum is added to the row.
-/
module

public import proofs.«01_k».proof.Proof.FfnArr

@[expose] public section

noncomputable section

namespace Cert.FwdRow

open Idealize.ShloMosaic

/-- A pre-activation: the normed row against one column of a weight. -/
def pre (v g : Fin 1024 → EReal) (w : Fin 1024 → Fin 704 → EReal) (f : Fin 704) : EReal :=
  ∑ d, FfnRow.xhat v d * g d * w d f

section

variable (v g : Fin 1024 → EReal) (wg wu : Fin 4 → Fin 1024 → Fin 704 → EReal) (wd : Fin 4 → Fin 704 → Fin 1024 → EReal)

/-- One shard's part of the layer's output. -/
def part (j : Fin 4) (d : Fin 1024) : EReal := ∑ f, FfnRow.act (pre v g (wg j) f) (pre v g (wu j) f) * wd j f d

/-- The row that leaves the layer. -/
def out (d : Fin 1024) : EReal := v d + FfnRow.half * ∑ j, part v g wg wu wd j d

end

section

variable (x : FfnArr.Rows) (g : FfnArr.Gain) (wg wu : FfnArr.Wide) (wd : FfnArr.Tall)

/-- The layer's output and a pre-activation at an index, and as arrays. -/
def outAt (r : Fin 8192) (d : Fin 1024) : EReal :=
  out (FfnArr.row x r) (FfnArr.flat g) (FfnArr.wide wg) (FfnArr.wide wu) (FfnArr.tall wd) d

def preAt (j : Fin 4) (r : Fin 8192) (f : Fin 704) : EReal := pre (FfnArr.row x r) (FfnArr.flat g) (FfnArr.wide wg j) f

def Out : FfnArr.Rows := fun i => outAt x g wg wu wd (i 0) (i 1)
def Pre : FfnArr.Acts := fun i => preAt x g wg (i 0) (i 1) (i 2)

end

end Cert.FwdRow
-- ==== Proof.FwdBlock.lean ====
/-
  What the forward feed-forward kernel computes from one block of 512 rows: each stage, read at a row, is the row's
  quantity of `FwdRow.lean`; and what a grid point leaves in its three output blocks.
-/
module

public import proofs.«01_k».proof.Proof.FwdRow
public import proofs.«01_k».proof.Proof.FfnOpen
public import proofs.«01_k».proof.Proof.Gen.FfnFwdIdeal.Value

@[expose] public section

noncomputable section

namespace Cert.FwdBlock

open Cert.FfnFwdIdeal Cert.FfnFwdIdeal.Gen Idealize.ShloMosaic Idealize.ShloMosaic.TcCoe Idealize.SL.Sem
open Cert.FfnBlock (shard shard_at wide tall flat)
open Cert.FfnOpen (ld_shard)

section Stages

variable {F : FTy → Type} [FloatOps F]
variable (x0 : Vec F S512x1024 .f32) (x1 : Vec F S1x1024 .f32) (x2 x3 : Vec F S4x1024x704 .bf16) (x4 : Vec F S4x704x1024 .bf16)

/-- Shard `j`'s pre-activation from one of the first weights, as it is stored, and its activation. -/
def preB (j : Fin 4) : FVec F S512x704 .bf16 := truncf .bf16 (k0_pay9 (k0_pay1 x0 x1) (shard x2 j)) bitsLt_bf16_f32
def actB (j : Fin 4) : FVec F S512x704 .bf16 := k0_pay13 (k0_pay1 x0 x1) (shard x2 j) (shard x3 j)

/-- Shard `j`'s product added to what the shards before it gave. -/
def addB (acc : FVec F S512x1024 .f32) (j : Fin 4) : FVec F S512x1024 .f32 :=
  addf acc (matmul dot_S512x704_S704x1024_S512x1024_1_0_0_1_n_n none (actB x0 x1 x2 x3 j)
    (shapeCast S704x1024 (shard x4 j : Vec F S1x704x1024 .bf16) shapeCasts_S1x704x1024_S704x1024)
    (constant S512x1024 .f32 0x00000000#32))

/-- The rows that leave the layer. -/
def outB : FVec F S512x1024 .f32 :=
  addf x0 (mulf (broadcast S512x1024 (Scalar.ofBits .f32 0x3F000000#32)) (addB x0 x1 x2 x3 x4 (addB x0 x1 x2 x3 x4
    (addB x0 x1 x2 x3 x4 (addB x0 x1 x2 x3 x4 k0_pay2 0) 1) 2) 3))

/-- Four stores, one array of a family under each index of the leading axis, leave the family. -/
theorem canon_family (v : Fin 4 → FVec F S512x704 .bf16) (j : Fin 4) (p : Fin 512) (f : Fin 704) :
    View.canon (Val := Elt F) (e := .bf16)
      [⟨r0_12, shapeCast S1x512x704 (v 3) shapeCasts_S512x704_S1x512x704⟩,
       ⟨r0_9, shapeCast S1x512x704 (v 2) shapeCasts_S512x704_S1x512x704⟩,
       ⟨r0_6, shapeCast S1x512x704 (v 1) shapeCasts_S512x704_S1x512x704⟩,
       ⟨r0_3, shapeCast S1x512x704 (v 0) shapeCasts_S512x704_S1x512x704⟩] (ix3 j p f) = v j (ix2 p f) := by
  have piece : ∀ (o : Fin 4) (x : S1x512x704.Idx), j.val = o.val + (x 0 : ℕ) → (x 0 : ℕ) < 1 → p.val = (x 1 : ℕ) →
      f.val = (x 2 : ℕ) → shapeCast S1x512x704 (v o) shapeCasts_S512x704_S1x512x704 x = v j (ix2 p f) := by
    intro o x h0 h h1 h2
    obtain rfl : o = j := Fin.ext (by omega)
    obtain rfl : p = x 1 := Fin.ext h1
    obtain rfl : f = x 2 := Fin.ext h2
    pointwise
  canon_tiles x h
  · exact piece 3 x h0 x0_lt h1 h2
  · exact piece 2 x h0 x0_lt h1 h2
  · exact piece 1 x h0 x0_lt h1 h2
  · exact piece 0 x (h0.trans (Nat.zero_add _).symm) x0_lt h1 h2

/-- The three output blocks. -/
theorem out5 : out0_5 x0 x1 x2 x3 x4 = outB x0 x1 x2 x3 x4 := by
  unfold_out out0_5
  frame_out
  simp only [ld_shard _ 0 0 rfl, ld_shard _ 1 1 rfl, ld_shard _ 2 2 rfl, ld_shard _ 3 3 rfl]
  rfl

theorem out6 (j : Fin 4) (p : Fin 512) (f : Fin 704) : out0_6 x0 x1 x2 x3 x4 (ix3 j p f) = preB x0 x1 x2 j (ix2 p f) := by
  unfold_out out0_6
  frame_out
  simp only [ld_shard _ 0 0 rfl, ld_shard _ 1 1 rfl, ld_shard _ 2 2 rfl, ld_shard _ 3 3 rfl]
  exact canon_family (preB x0 x1 x2) j p f

theorem out7 (j : Fin 4) (p : Fin 512) (f : Fin 704) : out0_7 x0 x1 x2 x3 x4 (ix3 j p f) = preB x0 x1 x3 j (ix2 p f) := by
  unfold_out out0_7
  frame_out
  simp only [ld_shard _ 0 0 rfl, ld_shard _ 1 1 rfl, ld_shard _ 2 2 rfl, ld_shard _ 3 3 rfl]
  exact canon_family (preB x0 x1 x3) j p f

end Stages

/-! ## The stages at a row, over the extended reals -/

section Rows

variable (x0 : Vec Ideal S512x1024 .f32) (x1 : Vec Ideal S1x1024 .f32) (x2 x3 : Vec Ideal S4x1024x704 .bf16)
  (x4 : Vec Ideal S4x704x1024 .bf16) (p : Fin 512)

/-- Row `p` of a block. -/
abbrev row (x : Vec Ideal S512x1024 .f32) (p : Fin 512) : Fin 1024 → EReal := fun d => x (ix2 p d)

theorem normed_at (d : Fin 1024) : k0_pay1 x0 x1 (ix2 p d) = FfnRow.xhat (row x0 p) d * flat x1 d := by
  pointwise [k0_pay1]
  rfl

theorem preB_at (j : Fin 4) (f : Fin 704) : preB x0 x1 x2 j (ix2 p f) = FwdRow.pre (row x0 p) (flat x1) (wide x2 j) f := by
  unfold preB
  pointwise [k0_pay9]
  simp only [normed_at, shard_at]
  rfl

theorem actB_at (j : Fin 4) (f : Fin 704) : actB x0 x1 x2 x3 j (ix2 p f)
    = FfnRow.act (FwdRow.pre (row x0 p) (flat x1) (wide x2 j) f) (FwdRow.pre (row x0 p) (flat x1) (wide x3 j) f) := by
  unfold actB
  pointwise [k0_pay13, k0_pay9, k0_pay10]
  simp only [normed_at, shard_at, zero_sub]
  rfl

theorem addB_at (acc : FVec Ideal S512x1024 .f32) (j : Fin 4) (d : Fin 1024) : addB x0 x1 x2 x3 x4 acc j (ix2 p d)
    = acc (ix2 p d) + FwdRow.part (row x0 p) (flat x1) (wide x2) (wide x3) (tall x4) j d := by
  unfold addB
  pointwise
  simp only [actB_at, shard_at]
  rfl

theorem outB_at (d : Fin 1024) :
    outB x0 x1 x2 x3 x4 (ix2 p d) = FwdRow.out (row x0 p) (flat x1) (wide x2) (wide x3) (tall x4) d := by
  have z : (k0_pay2 (F := Ideal)) (ix2 p d) = (0 : EReal) := by pointwise [k0_pay2]
  unfold outB FwdRow.out
  pointwise
  simp only [addB_at]
  rw [z, Fin.sum_univ_four, zero_add]
  rfl

end Rows

end Cert.FwdBlock
-- ==== Proof.FwdWhole.lean ====
/-
  The forward feed-forward kernel's three results, whole: what the 16 points leave is `FwdRow.lean`'s arrays.
-/
module

public import proofs.«01_k».proof.Proof.FwdBlock

@[expose] public section

noncomputable section

namespace Cert.FwdWhole

open Cert.FfnFwdIdeal Cert.FfnFwdIdeal.Gen Cert.FwdBlock Idealize.ShloMosaic Idealize.ShloMosaic.TcCoe Idealize.SL.Sem
open Cert.FfnBlock (wide tall flat)

variable (m : (ℓ : Loc nD τ sig) → Buf (Elt Ideal) ℓ) (c : Dev nD)

/-- The five arguments on device `c`. -/
abbrev a0 : FfnArr.Rows := m ((c : Thread nD τ).loc main_arg0)
abbrev a1 : FfnArr.Gain := m ((c : Thread nD τ).loc main_arg1)
abbrev a2 : FfnArr.Wide := m ((c : Thread nD τ).loc main_arg2)
abbrev a3 : FfnArr.Wide := m ((c : Thread nD τ).loc main_arg3)
abbrev a4 : FfnArr.Tall := m ((c : Thread nD τ).loc main_arg4)

section Points

variable (t : Fin cfg0.N)

/-- Where each window's block lies at a point. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0]
    ∧ win0_6.index t = ![0, t.val, 0] ∧ win0_7.index t = ![0, t.val, 0] :=
  (by decide +kernel : ∀ t : Fin grid0.N, _)

/-- Row `p` of a point's block is this row of the array. -/
def place (p : Fin 512) : Fin 8192 := ⟨t.val * 512 + p.val, by have h : t.val < 16 := t.isLt; omega⟩

theorem row0 (p : Fin 512) : row (iblk m c 0 t) p = FfnArr.row (a0 m c) (place t p) := by
  funext d
  unfold row FfnArr.row place
  blk_ext [iblk, V, idx t]

theorem flat1 : flat (iblk m c 1 t) = FfnArr.flat (a1 m c) := by
  funext d
  unfold flat FfnArr.flat
  blk_ext [iblk, V, idx t]

theorem wide2 : wide (iblk m c 2 t) = FfnArr.wide (a2 m c) := by
  funext j d f
  unfold wide FfnArr.wide
  blk_ext [iblk, V, idx t]

theorem wide3 : wide (iblk m c 3 t) = FfnArr.wide (a3 m c) := by
  funext j d f
  unfold wide FfnArr.wide
  blk_ext [iblk, V, idx t]

theorem tall4 : tall (iblk m c 4 t) = FfnArr.tall (a4 m c) := by
  funext j f d
  unfold tall FfnArr.tall
  blk_ext [iblk, V, idx t]

/-- The output blocks at a point. -/
theorem point5 (p : Fin 512) (d : Fin 1024) :
    out0_5 (iblk m c 0 t) (iblk m c 1 t) (iblk m c 2 t) (iblk m c 3 t) (iblk m c 4 t) (ix2 p d)
      = FwdRow.outAt (a0 m c) (a1 m c) (a2 m c) (a3 m c) (a4 m c) (place t p) d := by
  rw [out5, outB_at, row0, flat1, wide2, wide3, tall4]
  rfl

theorem point6 (p : Fin 512) (j : Fin 4) (f : Fin 704) :
    out0_6 (iblk m c 0 t) (iblk m c 1 t) (iblk m c 2 t) (iblk m c 3 t) (iblk m c 4 t) (ix3 j p f)
      = FwdRow.preAt (a0 m c) (a1 m c) (a2 m c) j (place t p) f := by
  rw [out6, preB_at, row0, flat1, wide2]
  rfl

theorem point7 (p : Fin 512) (j : Fin 4) (f : Fin 704) :
    out0_7 (iblk m c 0 t) (iblk m c 1 t) (iblk m c 2 t) (iblk m c 3 t) (iblk m c 4 t) (ix3 j p f)
      = FwdRow.preAt (a0 m c) (a1 m c) (a3 m c) j (place t p) f := by
  rw [out7, preB_at, row0, flat1, wide3]
  rfl

end Points

/-! ## The arrays -/

theorem whole5 : (dats m 0 c).arrAt 5 cfg0.N = FwdRow.Out (a0 m c) (a1 m c) (a2 m c) (a3 m c) (a4 m c) := by
  refine (dats m 0 c).arrAt_eq_of_covers 5 _ (by decide +kernel) fun t hf y => ?_
  have e0 : ((((cfg0.win 5).blk t).view.emb y) 0 : ℕ) = t.val * 512 + (y 0 : ℕ) := by blk_simp [idx t]
  have e1 : ((((cfg0.win 5).blk t).view.emb y) 1 : ℕ) = (y 1 : ℕ) := by blk_simp [idx t]
  generalize ((cfg0.win 5).blk t).view.emb y = z at e0 e1 ⊢
  rw [after0_5]
  have h := point5 m c t
  generalize out0_5 (iblk m c 0 t) (iblk m c 1 t) (iblk m c 2 t) (iblk m c 3 t) (iblk m c 4 t) = v at h ⊢
  refine (congrArg v (FfnArr.split2 y)).trans ((h (y 0) (y 1)).trans ?_)
  exact congrArg₂ (FwdRow.outAt _ _ _ _ _) (Fin.ext e0.symm) (Fin.ext e1.symm)

theorem whole6 : (dats m 0 c).arrAt 6 cfg0.N = FwdRow.Pre (a0 m c) (a1 m c) (a2 m c) := by
  refine (dats m 0 c).arrAt_eq_of_covers 6 _ (by decide +kernel) fun t hf y => ?_
  have e0 : ((((cfg0.win 6).blk t).view.emb y) 0 : ℕ) = (y 0 : ℕ) := by blk_simp [idx t]
  have e1 : ((((cfg0.win 6).blk t).view.emb y) 1 : ℕ) = t.val * 512 + (y 1 : ℕ) := by blk_simp [idx t]
  have e2 : ((((cfg0.win 6).blk t).view.emb y) 2 : ℕ) = (y 2 : ℕ) := by blk_simp [idx t]
  generalize ((cfg0.win 6).blk t).view.emb y = z at e0 e1 e2 ⊢
  rw [after0_6]
  have h := point6 m c t
  generalize out0_6 (iblk m c 0 t) (iblk m c 1 t) (iblk m c 2 t) (iblk m c 3 t) (iblk m c 4 t) = v at h ⊢
  refine (congrArg v (FfnArr.split3 y)).trans ((h (y 1) (y 0) (y 2)).trans ?_)
  exact congr (congrArg₂ (FwdRow.preAt _ _ _) (Fin.ext e0.symm) (Fin.ext e1.symm)) (Fin.ext e2.symm)

theorem whole7 : (dats m 0 c).arrAt 7 cfg0.N = FwdRow.Pre (a0 m c) (a1 m c) (a3 m c) := by
  refine (dats m 0 c).arrAt_eq_of_covers 7 _ (by decide +kernel) fun t hf y => ?_
  have e0 : ((((cfg0.win 7).blk t).view.emb y) 0 : ℕ) = (y 0 : ℕ) := by blk_simp [idx t]
  have e1 : ((((cfg0.win 7).blk t).view.emb y) 1 : ℕ) = t.val * 512 + (y 1 : ℕ) := by blk_simp [idx t]
  have e2 : ((((cfg0.win 7).blk t).view.emb y) 2 : ℕ) = (y 2 : ℕ) := by blk_simp [idx t]
  generalize ((cfg0.win 7).blk t).view.emb y = z at e0 e1 e2 ⊢
  rw [after0_7]
  have h := point7 m c t
  generalize out0_7 (iblk m c 0 t) (iblk m c 1 t) (iblk m c 2 t) (iblk m c 3 t) (iblk m c 4 t) = v at h ⊢
  refine (congrArg v (FfnArr.split3 y)).trans ((h (y 1) (y 0) (y 2)).trans ?_)
  exact congr (congrArg₂ (FwdRow.preAt _ _ _) (Fin.ext e0.symm) (Fin.ext e1.symm)) (Fin.ext e2.symm)

/-- The kernel runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = FwdRow.Out (a0 m c) (a1 m c) (a2 m c) (a3 m c) (a4 m c)
      ∧ r.2.mem ((c : Thread nD τ).loc main_v0_1) = FwdRow.Pre (a0 m c) (a1 m c) (a2 m c)
      ∧ r.2.mem ((c : Thread nD τ).loc main_v0_2) = FwdRow.Pre (a0 m c) (a1 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    have ⟨h0, h1, h2, hk⟩ := h c
    ⟨h0.trans (whole5 m c), h1.trans (whole6 m c), h2.trans (whole7 m c), hk⟩) (Value.run_blocks m ρ)

end Cert.FwdWhole
-- ==== Proof.FwdRef.lean ====
/-
  The forward feed-forward layer's reference, read row by row: its three results are `FwdRow.lean`'s arrays.
-/
module

public import proofs.«01_k».proof.Proof.FwdRow
public import proofs.«01_k».proof.Proof.Gen.FfnFwdRefIdeal.Run

@[expose] public section

noncomputable section

namespace Cert.FwdRef

open Cert.FfnFwdRefIdeal Cert.FfnFwdRefIdeal.Gen Idealize.ShloMosaic Idealize.ShloMosaic.TcCoe Idealize.ShloMosaic.StableHlo Idealize.SL.Sem

/-! ## The reference's intermediate arrays, as the program forms them -/

variable (v : Vec Ideal S8192x1024 .f32) (g : Vec Ideal S1x1024 .f32) (wg wu : Vec Ideal S4x1024x704 .bf16)
  (wd : Vec Ideal S4x704x1024 .bf16)

def hNormed : FVec Ideal S8192x1024 .f32 :=
  mulf (mulf v (broadcastInDim S8192x1024 ![0, 1] bcast_S8192x1_S8192x1024_0_1 (Host.rsqrt (addf (Host.divf (broadcastInDim S8192x1 ![0] bcast_S8192_S8192x1_0 (Host.reduceAdd (mulf v v) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 g)

def hPre : FVec Ideal S4x8192x704 .f32 :=
  transpose S4x8192x704 [0, 2, 1] (Host.dotGeneral dot_S4x1024x704_S8192x1024_S4x704x8192_1_1_02_0_n_n none (extf .f32 wg bitsLt_bf16_f32) (hNormed v g)) transposes_S4x704x8192_S4x8192x704_0_2_1

def hOne : FVec Ideal S4x8192x704 .f32 := broadcastInDim S4x8192x704 ![] bcast_S_S4x8192x704 (constant S_ .f32 0x3F800000#32)

def hAct : FVec Ideal S4x8192x704 .f32 :=
  mulf (mulf (hPre v g wg) (Host.divf hOne (addf hOne (Host.exp (Host.negf (hPre v g wg)))))) (hPre v g wu)

def hOut : FVec Ideal S8192x1024 .f32 :=
  addf v (mulf (broadcastInDim S8192x1024 ![] bcast_S_S8192x1024 (constant S_ .f32 0x3F000000#32)) (Host.reduceAdd (Host.dotGeneral dot_S4x8192x704_S4x704x1024_S4x8192x1024_2_1_1_2_0_0 none (hAct v g wg wu) (extf .f32 wd bitsLt_bf16_f32)) (constant S_ .f32 0x00000000#32) reducesTo_S4x8192x1024_S8192x1024_d0 h_S_))

/-! ## The same arrays at an index -/

variable (r : Fin 8192) (d : Fin 1024) (j : Fin 4) (f : Fin 704)

theorem hNormed_at : hNormed v g (ix2 r d) = FfnRow.xhat (FfnArr.row v r) d * FfnArr.flat g d := by
  unfold hNormed
  pointwise
  rfl

theorem hPre_at : hPre v g wg (ix3 j r f) = FwdRow.preAt v g wg j r f := by
  unfold hPre
  pointwise
  unfold FwdRow.preAt FwdRow.pre
  refine Finset.sum_congr rfl fun k _ => ?_
  rw [hNormed_at, mul_comm]
  rfl

theorem hAct_at : hAct v g wg wu (ix3 j r f) = FfnRow.act (FwdRow.preAt v g wg j r f) (FwdRow.preAt v g wu j r f) := by
  have one : hOne (ix3 j r f) = 1 := by
    unfold hOne
    pointwise
  unfold hAct
  pointwise
  simp only [one, hPre_at]
  rfl

theorem hOut_at : hOut v g wg wu wd (ix2 r d) = FwdRow.outAt v g wg wu wd r d := by
  unfold hOut
  pointwise
  simp only [hAct_at]
  rfl

theorem hPre_stored : (truncf .bf16 (hPre v g wg) bitsLt_bf16_f32 : FVec Ideal S4x8192x704 .bf16) = FwdRow.Pre v g wg :=
  funext fun i => (congrArg (hPre v g wg) (FfnArr.split3 i)).trans (hPre_at ..)

/-! ## The run -/

variable (m : (ℓ : Loc nD τ sig) → Buf (Elt Ideal) ℓ) (c : Dev nD)

/-- The five arguments. -/
abbrev a0 : FfnArr.Rows := m ((c : Thread nD τ).loc main_arg0)
abbrev a1 : FfnArr.Gain := m ((c : Thread nD τ).loc main_arg1)
abbrev a2 : FfnArr.Wide := m ((c : Thread nD τ).loc main_arg2)
abbrev a3 : FfnArr.Wide := m ((c : Thread nD τ).loc main_arg3)
abbrev a4 : FfnArr.Tall := m ((c : Thread nD τ).loc main_arg4)

/-- The reference runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v31) = FwdRow.Out (a0 m c) (a1 m c) (a2 m c) (a3 m c) (a4 m c)
      ∧ r.2.mem ((c : Thread nD τ).loc main_v32) = FwdRow.Pre (a0 m c) (a1 m c) (a2 m c)
      ∧ r.2.mem ((c : Thread nD τ).loc main_v33) = FwdRow.Pre (a0 m c) (a1 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    have ⟨h0, h1, h2, hk⟩ := h c
    ⟨h0.trans (funext fun i => (congrArg (hOut (a0 m c) (a1 m c) (a2 m c) (a3 m c) (a4 m c)) (FfnArr.split2 i)).trans (hOut_at ..)),
      h1.trans (hPre_stored ..), h2.trans (hPre_stored ..), hk⟩) (Value.run (F := Ideal) m ρ)

end Cert.FwdRef
-- ==== Proof.DwSum.lean ====
/-
  A product that contracts 8192 rows, collected sixteen tiles of 512 rows at a time.

  The weight-gradient kernels walk the rows of one shard in sixteen points, then those of the next. At one entry of the
  block each point adds its tile's part; after the sixteenth the entry is the sum over all rows.
-/
module

public import Idealize.ShloMosaic.Lib.Pointwise
public import Idealize.ShloMosaic.Lib.Pipeline.ValueKit

@[expose] public section

noncomputable section

namespace Cert.DwSum

open Idealize.ShloMosaic

/-- Row `p` of the tile that point `t` reads. -/
def spot (t : ℕ) (p : Fin 512) : Fin 8192 := ⟨t % 16 * 512 + p.val, by have := Nat.mod_lt t (by decide : 0 < 16); omega⟩

/-- A tile's part of the product of two columns. -/
def tile (x y : Fin 8192 → EReal) (t : ℕ) : EReal := ∑ p : Fin 512, x (spot t p) * y (spot t p)

/-- The product of two columns. -/
def whole (x y : Fin 8192 → EReal) : EReal := ∑ l, x l * y l

theorem tiles (x y : Fin 8192 → EReal) (k : ℕ) : ∑ s : Fin 16, tile x y (16 * k + s.val) = whole x y := by
  unfold tile whole
  refine Fin.sum_mul_add_congr (L := 8192) (S := 16) (n := 512) fun s p h => ?_
  have e : spot (16 * k + s.val) p = ⟨s.val * 512 + p.val, h⟩ :=
    Fin.ext (by show (16 * k + s.val) % 16 * 512 + p.val = s.val * 512 + p.val; omega)
  rw [e]

/-- An entry that starts at zero with each shard and takes one tile's part at every point holds the whole product at the
    shard's last point. -/
theorem collect {N : ℕ} (f : (n : ℕ) → n < N → EReal) (x y : ℕ → Fin 8192 → EReal)
    (first : ∀ t : Fin N, t.val % 16 = 0 → f t.val t.isLt = 0 + tile (x (t.val / 16)) (y (t.val / 16)) t.val)
    (later : ∀ t : Fin N, ¬t.val % 16 = 0 → f t.val t.isLt
      = f (t.val - 1) (Nat.lt_of_le_of_lt (Nat.sub_le _ _) t.isLt) + tile (x (t.val / 16)) (y (t.val / 16)) t.val)
    (t : Fin N) (ht : t.val % 16 = 15) : f t.val t.isLt = whole (x (t.val / 16)) (y (t.val / 16)) := by
  rw [Pipeline.eq_sum_fin_of_reset_step_of_flush f 16 0 (fun t => tile (x (t.val / 16)) (y (t.val / 16)) t.val) first later
    t ht, zero_add]
  refine (Finset.sum_congr rfl fun s _ => ?_).trans (tiles _ _ (t.val / 16))
  have e : (16 * (t.val / 16) + s.val) / 16 = t.val / 16 := by have := s.isLt; omega
  show tile (x ((16 * (t.val / 16) + s.val) / 16)) (y ((16 * (t.val / 16) + s.val) / 16)) _ = _
  rw [e]

/-- An index of a block of one shard, and of an array, from its coordinates. -/
theorem split3 {k n : ℕ} (y : (⟨3, ![1, k, n]⟩ : Shape).Idx) : y = ix3 (0 : Fin 1) (y 1) (y 2) := by
  funext a
  fin_cases a
  · exact Subsingleton.elim (α := Fin 1) _ _
  · rfl
  · rfl

theorem split {s k n : ℕ} (y : (⟨3, ![s, k, n]⟩ : Shape).Idx) : y = ix3 (y 0) (y 1) (y 2) := by
  funext a
  fin_cases a <;> rfl

/-! ## Arrays of shards -/

/-- An array of shards of `K` columns of 8192 rows. -/
abbrev Shards (S K : ℕ) := (⟨3, ![S, 8192, K]⟩ : Shape).Idx → EReal

/-- The shard an operand of `A` shards gives to shard `k` of the product: the `k`-th, or its only one. -/
def pick (A : ℕ) [NeZero A] (k : ℕ) : Fin A := ⟨k % A, Nat.mod_lt k (NeZero.pos A)⟩

/-- The product of two arrays' shards at one entry, and as an array. -/
def entry {A B K N : ℕ} [NeZero A] [NeZero B] (x : Shards A K) (y : Shards B N) (j : ℕ) (k : Fin K) (n : Fin N) : EReal :=
  whole (fun l => x (ix3 (pick A j) l k)) (fun l => y (ix3 (pick B j) l n))

def Product (S : ℕ) {A B K N : ℕ} [NeZero A] [NeZero B] (x : Shards A K) (y : Shards B N) :
    (⟨3, ![S, K, N]⟩ : Shape).Idx → EReal := fun i => entry x y (i 0 : ℕ) (i 1) (i 2)

/-- What point `t` adds to an entry of its block. -/
def part {A B K N : ℕ} [NeZero A] [NeZero B] (x : Shards A K) (y : Shards B N) (t : ℕ) (k : Fin K) (n : Fin N) : EReal :=
  tile (fun l => x (ix3 (pick A (t / 16)) l k)) (fun l => y (ix3 (pick B (t / 16)) l n)) t

/-- `collect` for the entries of a block. -/
theorem block {G A B K N : ℕ} [NeZero A] [NeZero B] (x : Shards A K) (y : Shards B N)
    (f : (n : ℕ) → n < G → (⟨3, ![1, K, N]⟩ : Shape).Idx → EReal)
    (first : ∀ t : Fin G, t.val % 16 = 0 → ∀ k n, f t.val t.isLt (ix3 0 k n) = 0 + part x y t.val k n)
    (later : ∀ t : Fin G, ¬t.val % 16 = 0 → ∀ k n, f t.val t.isLt (ix3 0 k n)
      = f (t.val - 1) (Nat.lt_of_le_of_lt (Nat.sub_le _ _) t.isLt) (ix3 0 k n) + part x y t.val k n)
    (t : Fin G) (ht : t.val % 16 = 15) (k : Fin K) (n : Fin N) :
    f t.val t.isLt (ix3 0 k n) = entry x y (t.val / 16) k n :=
  collect (fun g h => f g h (ix3 0 k n)) (fun j l => x (ix3 (pick A j) l k)) (fun j l => y (ix3 (pick B j) l n))
    (fun t h => first t h k n) (fun t h => later t h k n) t ht

/-- A block's contents laid in the array at the shard of its point. -/
theorem laid {S A B K N : ℕ} [NeZero A] [NeZero B] (x : Shards A K) (y : Shards B N)
    (v : (⟨3, ![1, K, N]⟩ : Shape).Idx → EReal) (j : ℕ) (h : ∀ k n, v (ix3 0 k n) = entry x y j k n)
    (i : (⟨3, ![1, K, N]⟩ : Shape).Idx) (z : (⟨3, ![S, K, N]⟩ : Shape).Idx) (e0 : (z 0 : ℕ) = j) (e1 : (z 1 : ℕ) = (i 1 : ℕ))
    (e2 : (z 2 : ℕ) = (i 2 : ℕ)) : v i = Product S x y z := by
  refine (congrArg v (split3 i)).trans ((h (i 1) (i 2)).trans ?_)
  exact congr (congrArg₂ (entry x y) e0.symm (Fin.ext e1.symm)) (Fin.ext e2.symm)

end Cert.DwSum
-- ==== Proof.DwGateValue.lean ====
/-
  The gate's and the up-projection's weight gradient: the kernel and its reference both leave, for each of the four
  shards, the normed rows transposed times the shard's gradient rows.
-/
module

public import proofs.«01_k».proof.Proof.DwSum
public import proofs.«01_k».proof.Proof.Gen.DwGateIdeal.Value
public import proofs.«01_k».proof.Proof.Gen.DwGateRefIdeal.Run

@[expose] public section

noncomputable section

namespace Cert.DwGateValue

open Idealize.ShloMosaic Idealize.ShloMosaic.TcCoe Idealize.SL.Sem

namespace Kernel

open Cert.DwGateIdeal Cert.DwGateIdeal.Gen

variable (m : (ℓ : Loc nD τ sig) → Buf (Elt Ideal) ℓ) (c : Dev nD) (t : Fin cfg0.N)

abbrev a0 : DwSum.Shards 1 1024 := m ((c : Thread nD τ).loc main_arg0)
abbrev a1 : DwSum.Shards 4 704 := m ((c : Thread nD τ).loc main_arg1)

/-- Where each window's block lies at a point. -/
theorem idx : ∀ t : Fin cfg0.N, win0_0.index t = ![0, t.val % 16, 0] ∧ win0_1.index t = ![t.val / 16, t.val % 16, 0]
    ∧ win0_2.index t = ![t.val / 16, 0, 0] :=
  (by decide +kernel : ∀ t : Fin grid0.N, _)

/-- The rows a point reads of either operand. -/
theorem left_at (p : Fin 512) (k : Fin 1024) :
    iblk m c 0 t (ix3 0 p k) = a0 m c (ix3 (DwSum.pick 1 (t.val / 16)) (DwSum.spot t.val p) k) := by
  have h : (DwSum.pick 1 (t.val / 16) : ℕ) = 0 := Nat.mod_one _
  generalize DwSum.pick 1 (t.val / 16) = j at h ⊢
  unfold DwSum.spot
  blk_ext [iblk, V, idx t]

theorem right_at (p : Fin 512) (n : Fin 704) :
    iblk m c 1 t (ix3 0 p n) = a1 m c (ix3 (DwSum.pick 4 (t.val / 16)) (DwSum.spot t.val p) n) := by
  have h : (DwSum.pick 4 (t.val / 16) : ℕ) = t.val / 16 := Nat.mod_eq_of_lt (by have h : t.val < 64 := t.isLt; omega)
  generalize DwSum.pick 4 (t.val / 16) = j at h ⊢
  unfold DwSum.spot
  blk_ext [iblk, V, idx t]

/-- One point's arithmetic, and what it adds to what the block holds. -/
theorem pay_at (acc : Vec Ideal S1x1024x704 .f32) (x : Vec Ideal S1x512x1024 .bf16) (y : Vec Ideal S1x512x704 .bf16)
    (k : Fin 1024) (n : Fin 704) :
    k0_pay2 acc x y (ix3 0 k n) = acc (ix3 0 k n) + ∑ p : Fin 512, (x (ix3 0 p k) : EReal) * y (ix3 0 p n) := by
  pointwise [k0_pay2]

theorem step_at (acc : Vec Ideal S1x1024x704 .f32) (k : Fin 1024) (n : Fin 704) :
    k0_pay2 acc (iblk m c 0 t) (iblk m c 1 t) (ix3 0 k n) = acc (ix3 0 k n) + DwSum.part (a0 m c) (a1 m c) t.val k n :=
  (pay_at ..).trans (congrArg _ (Finset.sum_congr rfl fun p _ => congrArg₂ _ (left_at m c t p k) (right_at m c t p n)))

theorem zero_at (k : Fin 1024) (n : Fin 704) : (k0_pay1 (F := Ideal) (ix3 0 k n) : EReal) = 0 := by
  pointwise [k0_pay1]

/-- The block at a shard's last point. -/
theorem point (ht : t.val % 16 = 15) (k : Fin 1024) (n : Fin 704) :
    outsAt0 m c t.val t.isLt (ix3 0 k n) = DwSum.entry (a0 m c) (a1 m c) (t.val / 16) k n :=
  DwSum.block (a0 m c) (a1 m c) (outsAt0 m c)
    (fun t h k n => by rw [outsAt0_A m c t h, Value.out_A_2_eq, step_at, zero_at])
    (fun t h k n => by rw [outsAt0_B m c t h, Value.out_B_2_eq, step_at]) t ht k n

/-- The blocks written back make up the array. -/
theorem array : (dats m 0 c).arrAt 2 cfg0.N = DwSum.Product 4 (a0 m c) (a1 m c) := by
  refine (dats m 0 c).arrAt_eq_of_covers 2 _ (by decide +kernel) fun t hf y => ?_
  have e0 : ((((cfg0.win 2).blk t).view.emb y) 0 : ℕ) = t.val / 16 := by blk_simp [idx t]
  have e1 : ((((cfg0.win 2).blk t).view.emb y) 1 : ℕ) = (y 1 : ℕ) := by blk_simp [idx t]
  have e2 : ((((cfg0.win 2).blk t).view.emb y) 2 : ℕ) = (y 2 : ℕ) := by blk_simp [idx t]
  rw [after0_2]
  exact DwSum.laid _ _ _ _ (point m c t ((flush0_2 t).mp hf)) y _ e0 e1 e2

/-- The kernel runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = DwSum.Product 4 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array m c), (h c).2⟩) (Value.run_blocks m ρ)

end Kernel

namespace Reference

open Cert.DwGateRefIdeal Cert.DwGateRefIdeal.Gen

variable (m : (ℓ : Loc nD τ sig) → Buf (Elt Ideal) ℓ) (c : Dev nD)

abbrev a0 : DwSum.Shards 1 1024 := m ((c : Thread nD τ).loc main_arg0)
abbrev a1 : DwSum.Shards 4 704 := m ((c : Thread nD τ).loc main_arg1)

/-- The reference's product, as the program forms it. -/
def formed (x : FVec Ideal S1x8192x1024 .bf16) (y : FVec Ideal S4x8192x704 .bf16) : FVec Ideal S4x1024x704 .f32 :=
  Host.dotGeneral dot_S4x8192x1024_S4x8192x704_S4x1024x704_1_1_2_2_0_0 none (broadcastInDim S4x8192x1024 ![0, 1, 2] bcast_S1x8192x1024_S4x8192x1024_0_1_2 (extf .f32 x bitsLt_bf16_f32)) (extf .f32 y bitsLt_bf16_f32)

theorem formed_at (x : DwSum.Shards 1 1024) (y : DwSum.Shards 4 704) (j : Fin 4) (k : Fin 1024) (n : Fin 704) :
    formed x y (ix3 j k n) = DwSum.entry x y j k n := by
  have h0 : DwSum.pick 1 j = 0 := Subsingleton.elim _ _
  have h1 : DwSum.pick 4 j = j := Fin.ext (Nat.mod_eq_of_lt j.isLt)
  unfold DwSum.entry
  rw [h0, h1]
  unfold formed
  pointwise
  rfl

/-- The reference runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v3) = DwSum.Product 4 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i =>
    (congrArg (formed (a0 m c) (a1 m c)) (DwSum.split i)).trans (formed_at ..)), (h c).2⟩) (Value.run (F := Ideal) m ρ)

end Reference

end Cert.DwGateValue
-- ==== Proof.DwDownValue.lean ====
/-
  The down-projection's weight gradient: the kernel and its reference both leave, for each of the four
  shards, the shard's activations transposed times the halved gradient rows.
-/
module

public import proofs.«01_k».proof.Proof.DwSum
public import proofs.«01_k».proof.Proof.Gen.DwDownIdeal.Value
public import proofs.«01_k».proof.Proof.Gen.DwDownRefIdeal.Run

@[expose] public section

noncomputable section

namespace Cert.DwDownValue

open Idealize.ShloMosaic Idealize.ShloMosaic.TcCoe Idealize.SL.Sem

namespace Kernel

open Cert.DwDownIdeal Cert.DwDownIdeal.Gen

variable (m : (ℓ : Loc nD τ sig) → Buf (Elt Ideal) ℓ) (c : Dev nD) (t : Fin cfg0.N)

abbrev a0 : DwSum.Shards 4 704 := m ((c : Thread nD τ).loc main_arg0)
abbrev a1 : DwSum.Shards 1 1024 := m ((c : Thread nD τ).loc main_arg1)

/-- Where each window's block lies at a point. -/
theorem idx : ∀ t : Fin cfg0.N, win0_0.index t = ![t.val / 16, t.val % 16, 0] ∧ win0_1.index t = ![0, t.val % 16, 0]
    ∧ win0_2.index t = ![t.val / 16, 0, 0] :=
  (by decide +kernel : ∀ t : Fin grid0.N, _)

/-- The rows a point reads of either operand. -/
theorem left_at (p : Fin 512) (k : Fin 704) :
    iblk m c 0 t (ix3 0 p k) = a0 m c (ix3 (DwSum.pick 4 (t.val / 16)) (DwSum.spot t.val p) k) := by
  have h : (DwSum.pick 4 (t.val / 16) : ℕ) = t.val / 16 := Nat.mod_eq_of_lt (by have h : t.val < 64 := t.isLt; omega)
  generalize DwSum.pick 4 (t.val / 16) = j at h ⊢
  unfold DwSum.spot
  blk_ext [iblk, V, idx t]

theorem right_at (p : Fin 512) (n : Fin 1024) :
    iblk m c 1 t (ix3 0 p n) = a1 m c (ix3 (DwSum.pick 1 (t.val / 16)) (DwSum.spot t.val p) n) := by
  have h : (DwSum.pick 1 (t.val / 16) : ℕ) = 0 := Nat.mod_one _
  generalize DwSum.pick 1 (t.val / 16) = j at h ⊢
  unfold DwSum.spot
  blk_ext [iblk, V, idx t]

/-- One point's arithmetic, and what it adds to what the block holds. -/
theorem pay_at (acc : Vec Ideal S1x704x1024 .f32) (x : Vec Ideal S1x512x704 .bf16) (y : Vec Ideal S1x512x1024 .bf16)
    (k : Fin 704) (n : Fin 1024) :
    k0_pay2 acc x y (ix3 0 k n) = acc (ix3 0 k n) + ∑ p : Fin 512, (x (ix3 0 p k) : EReal) * y (ix3 0 p n) := by
  pointwise [k0_pay2]

theorem step_at (acc : Vec Ideal S1x704x1024 .f32) (k : Fin 704) (n : Fin 1024) :
    k0_pay2 acc (iblk m c 0 t) (iblk m c 1 t) (ix3 0 k n) = acc (ix3 0 k n) + DwSum.part (a0 m c) (a1 m c) t.val k n :=
  (pay_at ..).trans (congrArg _ (Finset.sum_congr rfl fun p _ => congrArg₂ _ (left_at m c t p k) (right_at m c t p n)))

theorem zero_at (k : Fin 704) (n : Fin 1024) : (k0_pay1 (F := Ideal) (ix3 0 k n) : EReal) = 0 := by
  pointwise [k0_pay1]

/-- The block at a shard's last point. -/
theorem point (ht : t.val % 16 = 15) (k : Fin 704) (n : Fin 1024) :
    outsAt0 m c t.val t.isLt (ix3 0 k n) = DwSum.entry (a0 m c) (a1 m c) (t.val / 16) k n :=
  DwSum.block (a0 m c) (a1 m c) (outsAt0 m c)
    (fun t h k n => by rw [outsAt0_A m c t h, Value.out_A_2_eq, step_at, zero_at])
    (fun t h k n => by rw [outsAt0_B m c t h, Value.out_B_2_eq, step_at]) t ht k n

/-- The blocks written back make up the array. -/
theorem array : (dats m 0 c).arrAt 2 cfg0.N = DwSum.Product 4 (a0 m c) (a1 m c) := by
  refine (dats m 0 c).arrAt_eq_of_covers 2 _ (by decide +kernel) fun t hf y => ?_
  have e0 : ((((cfg0.win 2).blk t).view.emb y) 0 : ℕ) = t.val / 16 := by blk_simp [idx t]
  have e1 : ((((cfg0.win 2).blk t).view.emb y) 1 : ℕ) = (y 1 : ℕ) := by blk_simp [idx t]
  have e2 : ((((cfg0.win 2).blk t).view.emb y) 2 : ℕ) = (y 2 : ℕ) := by blk_simp [idx t]
  rw [after0_2]
  exact DwSum.laid _ _ _ _ (point m c t ((flush0_2 t).mp hf)) y _ e0 e1 e2

/-- The kernel runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = DwSum.Product 4 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array m c), (h c).2⟩) (Value.run_blocks m ρ)

end Kernel

namespace Reference

open Cert.DwDownRefIdeal Cert.DwDownRefIdeal.Gen

variable (m : (ℓ : Loc nD τ sig) → Buf (Elt Ideal) ℓ) (c : Dev nD)

abbrev a0 : DwSum.Shards 4 704 := m ((c : Thread nD τ).loc main_arg0)
abbrev a1 : DwSum.Shards 1 1024 := m ((c : Thread nD τ).loc main_arg1)

/-- The reference's product, as the program forms it. -/
def formed (x : FVec Ideal S4x8192x704 .bf16) (y : FVec Ideal S1x8192x1024 .bf16) : FVec Ideal S4x704x1024 .f32 :=
  Host.dotGeneral dot_S4x8192x704_S4x8192x1024_S4x704x1024_1_1_2_2_0_0 none (extf .f32 x bitsLt_bf16_f32) (broadcastInDim S4x8192x1024 ![0, 1, 2] bcast_S1x8192x1024_S4x8192x1024_0_1_2 (extf .f32 y bitsLt_bf16_f32))

theorem formed_at (x : DwSum.Shards 4 704) (y : DwSum.Shards 1 1024) (j : Fin 4) (k : Fin 704) (n : Fin 1024) :
    formed x y (ix3 j k n) = DwSum.entry x y j k n := by
  have h0 : DwSum.pick 4 j = j := Fin.ext (Nat.mod_eq_of_lt j.isLt)
  have h1 : DwSum.pick 1 j = 0 := Subsingleton.elim _ _
  unfold DwSum.entry
  rw [h0, h1]
  unfold formed
  pointwise
  rfl

/-- The reference runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v3) = DwSum.Product 4 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i =>
    (congrArg (formed (a0 m c) (a1 m c)) (DwSum.split i)).trans (formed_at ..)), (h c).2⟩) (Value.run (F := Ideal) m ρ)

end Reference

end Cert.DwDownValue
-- ==== Proof.DwOutValue.lean ====
/-
  The output projection's weight gradient: the kernel and its reference both leave the mixed rows transposed times
  the gradient rows.
-/
module

public import proofs.«01_k».proof.Proof.DwSum
public import proofs.«01_k».proof.Proof.Gen.DwOutIdeal.Value
public import proofs.«01_k».proof.Proof.Gen.DwOutRefIdeal.Run

@[expose] public section

noncomputable section

namespace Cert.DwOutValue

open Idealize.ShloMosaic Idealize.ShloMosaic.TcCoe Idealize.SL.Sem

namespace Kernel

open Cert.DwOutIdeal Cert.DwOutIdeal.Gen

variable (m : (ℓ : Loc nD τ sig) → Buf (Elt Ideal) ℓ) (c : Dev nD) (t : Fin cfg0.N)

abbrev a0 : DwSum.Shards 1 1024 := m ((c : Thread nD τ).loc main_arg0)
abbrev a1 : DwSum.Shards 1 1024 := m ((c : Thread nD τ).loc main_arg1)

/-- Where each window's block lies at a point. -/
theorem idx : ∀ t : Fin cfg0.N, win0_0.index t = ![0, t.val % 16, 0] ∧ win0_1.index t = ![0, t.val % 16, 0]
    ∧ win0_2.index t = ![t.val / 16, 0, 0] :=
  (by decide +kernel : ∀ t : Fin grid0.N, _)

/-- The rows a point reads of either operand. -/
theorem left_at (p : Fin 512) (k : Fin 1024) :
    iblk m c 0 t (ix3 0 p k) = a0 m c (ix3 (DwSum.pick 1 (t.val / 16)) (DwSum.spot t.val p) k) := by
  have h : (DwSum.pick 1 (t.val / 16) : ℕ) = 0 := Nat.mod_one _
  generalize DwSum.pick 1 (t.val / 16) = j at h ⊢
  unfold DwSum.spot
  blk_ext [iblk, V, idx t]

theorem right_at (p : Fin 512) (n : Fin 1024) :
    iblk m c 1 t (ix3 0 p n) = a1 m c (ix3 (DwSum.pick 1 (t.val / 16)) (DwSum.spot t.val p) n) := by
  have h : (DwSum.pick 1 (t.val / 16) : ℕ) = 0 := Nat.mod_one _
  generalize DwSum.pick 1 (t.val / 16) = j at h ⊢
  unfold DwSum.spot
  blk_ext [iblk, V, idx t]

/-- One point's arithmetic, and what it adds to what the block holds. -/
theorem pay_at (acc : Vec Ideal S1x1024x1024 .f32) (x : Vec Ideal S1x512x1024 .bf16) (y : Vec Ideal S1x512x1024 .f32)
    (k : Fin 1024) (n : Fin 1024) :
    k0_pay2 acc x y (ix3 0 k n) = acc (ix3 0 k n) + ∑ p : Fin 512, (x (ix3 0 p k) : EReal) * y (ix3 0 p n) := by
  pointwise [k0_pay2]

theorem step_at (acc : Vec Ideal S1x1024x1024 .f32) (k : Fin 1024) (n : Fin 1024) :
    k0_pay2 acc (iblk m c 0 t) (iblk m c 1 t) (ix3 0 k n) = acc (ix3 0 k n) + DwSum.part (a0 m c) (a1 m c) t.val k n :=
  (pay_at ..).trans (congrArg _ (Finset.sum_congr rfl fun p _ => congrArg₂ _ (left_at m c t p k) (right_at m c t p n)))

theorem zero_at (k : Fin 1024) (n : Fin 1024) : (k0_pay1 (F := Ideal) (ix3 0 k n) : EReal) = 0 := by
  pointwise [k0_pay1]

/-- The block at a shard's last point. -/
theorem point (ht : t.val % 16 = 15) (k : Fin 1024) (n : Fin 1024) :
    outsAt0 m c t.val t.isLt (ix3 0 k n) = DwSum.entry (a0 m c) (a1 m c) (t.val / 16) k n :=
  DwSum.block (a0 m c) (a1 m c) (outsAt0 m c)
    (fun t h k n => by rw [outsAt0_A m c t h, Value.out_A_2_eq, step_at, zero_at])
    (fun t h k n => by rw [outsAt0_B m c t h, Value.out_B_2_eq, step_at]) t ht k n

/-- The blocks written back make up the array. -/
theorem array : (dats m 0 c).arrAt 2 cfg0.N = DwSum.Product 1 (a0 m c) (a1 m c) := by
  refine (dats m 0 c).arrAt_eq_of_covers 2 _ (by decide +kernel) fun t hf y => ?_
  have e0 : ((((cfg0.win 2).blk t).view.emb y) 0 : ℕ) = t.val / 16 := by blk_simp [idx t]
  have e1 : ((((cfg0.win 2).blk t).view.emb y) 1 : ℕ) = (y 1 : ℕ) := by blk_simp [idx t]
  have e2 : ((((cfg0.win 2).blk t).view.emb y) 2 : ℕ) = (y 2 : ℕ) := by blk_simp [idx t]
  rw [after0_2]
  exact DwSum.laid _ _ _ _ (point m c t ((flush0_2 t).mp hf)) y _ e0 e1 e2

/-- The kernel runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = DwSum.Product 1 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array m c), (h c).2⟩) (Value.run_blocks m ρ)

end Kernel

namespace Reference

open Cert.DwOutRefIdeal Cert.DwOutRefIdeal.Gen

variable (m : (ℓ : Loc nD τ sig) → Buf (Elt Ideal) ℓ) (c : Dev nD)

abbrev a0 : DwSum.Shards 1 1024 := m ((c : Thread nD τ).loc main_arg0)
abbrev a1 : DwSum.Shards 1 1024 := m ((c : Thread nD τ).loc main_arg1)

/-- The reference's product, as the program forms it. -/
def formed (x : FVec Ideal S1x8192x1024 .bf16) (y : FVec Ideal S1x8192x1024 .f32) : FVec Ideal S1x1024x1024 .f32 :=
  Host.dotGeneral dot_S1x8192x1024_S1x8192x1024_S1x1024x1024_1_1_2_2_0_0 none (extf .f32 x bitsLt_bf16_f32) y

theorem formed_at (x : DwSum.Shards 1 1024) (y : DwSum.Shards 1 1024) (j : Fin 1) (k : Fin 1024) (n : Fin 1024) :
    formed x y (ix3 j k n) = DwSum.entry x y j k n := by
  have h0 : DwSum.pick 1 j = j := Fin.ext (Nat.mod_eq_of_lt j.isLt)
  unfold DwSum.entry
  rw [h0]
  unfold formed
  pointwise
  rfl

/-- The reference runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v1) = DwSum.Product 1 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i =>
    (congrArg (formed (a0 m c) (a1 m c)) (DwSum.split i)).trans (formed_at ..)), (h c).2⟩) (Value.run (F := Ideal) m ρ)

end Reference

end Cert.DwOutValue
-- ==== Proof.DwAttnValue.lean ====
/-
  The attention branch's weight gradient: the kernel and its reference both leave the attention's rows transposed times
  the gradient rows.
-/
module

public import proofs.«01_k».proof.Proof.DwSum
public import proofs.«01_k».proof.Proof.Gen.DwAttnIdeal.Value
public import proofs.«01_k».proof.Proof.Gen.DwAttnRefIdeal.Run

@[expose] public section

noncomputable section

namespace Cert.DwAttnValue

open Idealize.ShloMosaic Idealize.ShloMosaic.TcCoe Idealize.SL.Sem

namespace Kernel

open Cert.DwAttnIdeal Cert.DwAttnIdeal.Gen

variable (m : (ℓ : Loc nD τ sig) → Buf (Elt Ideal) ℓ) (c : Dev nD) (t : Fin cfg0.N)

abbrev a0 : DwSum.Shards 1 256 := m ((c : Thread nD τ).loc main_arg0)
abbrev a1 : DwSum.Shards 1 1024 := m ((c : Thread nD τ).loc main_arg1)

/-- Where each window's block lies at a point. -/
theorem idx : ∀ t : Fin cfg0.N, win0_0.index t = ![0, t.val % 16, 0] ∧ win0_1.index t = ![0, t.val % 16, 0]
    ∧ win0_2.index t = ![t.val / 16, 0, 0] :=
  (by decide +kernel : ∀ t : Fin grid0.N, _)

/-- The rows a point reads of either operand. -/
theorem left_at (p : Fin 512) (k : Fin 256) :
    iblk m c 0 t (ix3 0 p k) = a0 m c (ix3 (DwSum.pick 1 (t.val / 16)) (DwSum.spot t.val p) k) := by
  have h : (DwSum.pick 1 (t.val / 16) : ℕ) = 0 := Nat.mod_one _
  generalize DwSum.pick 1 (t.val / 16) = j at h ⊢
  unfold DwSum.spot
  blk_ext [iblk, V, idx t]

theorem right_at (p : Fin 512) (n : Fin 1024) :
    iblk m c 1 t (ix3 0 p n) = a1 m c (ix3 (DwSum.pick 1 (t.val / 16)) (DwSum.spot t.val p) n) := by
  have h : (DwSum.pick 1 (t.val / 16) : ℕ) = 0 := Nat.mod_one _
  generalize DwSum.pick 1 (t.val / 16) = j at h ⊢
  unfold DwSum.spot
  blk_ext [iblk, V, idx t]

/-- One point's arithmetic, and what it adds to what the block holds. -/
theorem pay_at (acc : Vec Ideal S1x256x1024 .f32) (x : Vec Ideal S1x512x256 .f32) (y : Vec Ideal S1x512x1024 .bf16)
    (k : Fin 256) (n : Fin 1024) :
    k0_pay2 acc x y (ix3 0 k n) = acc (ix3 0 k n) + ∑ p : Fin 512, (x (ix3 0 p k) : EReal) * y (ix3 0 p n) := by
  pointwise [k0_pay2]

theorem step_at (acc : Vec Ideal S1x256x1024 .f32) (k : Fin 256) (n : Fin 1024) :
    k0_pay2 acc (iblk m c 0 t) (iblk m c 1 t) (ix3 0 k n) = acc (ix3 0 k n) + DwSum.part (a0 m c) (a1 m c) t.val k n :=
  (pay_at ..).trans (congrArg _ (Finset.sum_congr rfl fun p _ => congrArg₂ _ (left_at m c t p k) (right_at m c t p n)))

theorem zero_at (k : Fin 256) (n : Fin 1024) : (k0_pay1 (F := Ideal) (ix3 0 k n) : EReal) = 0 := by
  pointwise [k0_pay1]

/-- The block at a shard's last point. -/
theorem point (ht : t.val % 16 = 15) (k : Fin 256) (n : Fin 1024) :
    outsAt0 m c t.val t.isLt (ix3 0 k n) = DwSum.entry (a0 m c) (a1 m c) (t.val / 16) k n :=
  DwSum.block (a0 m c) (a1 m c) (outsAt0 m c)
    (fun t h k n => by rw [outsAt0_A m c t h, Value.out_A_2_eq, step_at, zero_at])
    (fun t h k n => by rw [outsAt0_B m c t h, Value.out_B_2_eq, step_at]) t ht k n

/-- The blocks written back make up the array. -/
theorem array : (dats m 0 c).arrAt 2 cfg0.N = DwSum.Product 1 (a0 m c) (a1 m c) := by
  refine (dats m 0 c).arrAt_eq_of_covers 2 _ (by decide +kernel) fun t hf y => ?_
  have e0 : ((((cfg0.win 2).blk t).view.emb y) 0 : ℕ) = t.val / 16 := by blk_simp [idx t]
  have e1 : ((((cfg0.win 2).blk t).view.emb y) 1 : ℕ) = (y 1 : ℕ) := by blk_simp [idx t]
  have e2 : ((((cfg0.win 2).blk t).view.emb y) 2 : ℕ) = (y 2 : ℕ) := by blk_simp [idx t]
  rw [after0_2]
  exact DwSum.laid _ _ _ _ (point m c t ((flush0_2 t).mp hf)) y _ e0 e1 e2

/-- The kernel runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = DwSum.Product 1 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array m c), (h c).2⟩) (Value.run_blocks m ρ)

end Kernel

namespace Reference

open Cert.DwAttnRefIdeal Cert.DwAttnRefIdeal.Gen

variable (m : (ℓ : Loc nD τ sig) → Buf (Elt Ideal) ℓ) (c : Dev nD)

abbrev a0 : DwSum.Shards 1 256 := m ((c : Thread nD τ).loc main_arg0)
abbrev a1 : DwSum.Shards 1 1024 := m ((c : Thread nD τ).loc main_arg1)

/-- The reference's product, as the program forms it. -/
def formed (x : FVec Ideal S1x8192x256 .f32) (y : FVec Ideal S1x8192x1024 .bf16) : FVec Ideal S1x256x1024 .f32 :=
  Host.dotGeneral dot_S1x8192x256_S1x8192x1024_S1x256x1024_1_1_2_2_0_0 none x (extf .f32 y bitsLt_bf16_f32)

theorem formed_at (x : DwSum.Shards 1 256) (y : DwSum.Shards 1 1024) (j : Fin 1) (k : Fin 256) (n : Fin 1024) :
    formed x y (ix3 j k n) = DwSum.entry x y j k n := by
  have h0 : DwSum.pick 1 j = j := Fin.ext (Nat.mod_eq_of_lt j.isLt)
  unfold DwSum.entry
  rw [h0]
  unfold formed
  pointwise
  rfl

/-- The reference runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v1) = DwSum.Product 1 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i =>
    (congrArg (formed (a0 m c) (a1 m c)) (DwSum.split i)).trans (formed_at ..)), (h c).2⟩) (Value.run (F := Ideal) m ρ)

end Reference

end Cert.DwAttnValue
-- ==== Proof.DwSsmValue.lean ====
/-
  The state-space branch's weight gradients: the kernel and its reference both leave 512 columns transposed times
  the gradient rows.
-/
module

public import proofs.«01_k».proof.Proof.DwSum
public import proofs.«01_k».proof.Proof.Gen.DwSsmIdeal.Value
public import proofs.«01_k».proof.Proof.Gen.DwSsmRefIdeal.Run

@[expose] public section

noncomputable section

namespace Cert.DwSsmValue

open Idealize.ShloMosaic Idealize.ShloMosaic.TcCoe Idealize.SL.Sem

namespace Kernel

open Cert.DwSsmIdeal Cert.DwSsmIdeal.Gen

variable (m : (ℓ : Loc nD τ sig) → Buf (Elt Ideal) ℓ) (c : Dev nD) (t : Fin cfg0.N)

abbrev a0 : DwSum.Shards 1 512 := m ((c : Thread nD τ).loc main_arg0)
abbrev a1 : DwSum.Shards 1 1024 := m ((c : Thread nD τ).loc main_arg1)

/-- Where each window's block lies at a point. -/
theorem idx : ∀ t : Fin cfg0.N, win0_0.index t = ![0, t.val % 16, 0] ∧ win0_1.index t = ![0, t.val % 16, 0]
    ∧ win0_2.index t = ![t.val / 16, 0, 0] :=
  (by decide +kernel : ∀ t : Fin grid0.N, _)

/-- The rows a point reads of either operand. -/
theorem left_at (p : Fin 512) (k : Fin 512) :
    iblk m c 0 t (ix3 0 p k) = a0 m c (ix3 (DwSum.pick 1 (t.val / 16)) (DwSum.spot t.val p) k) := by
  have h : (DwSum.pick 1 (t.val / 16) : ℕ) = 0 := Nat.mod_one _
  generalize DwSum.pick 1 (t.val / 16) = j at h ⊢
  unfold DwSum.spot
  blk_ext [iblk, V, idx t]

theorem right_at (p : Fin 512) (n : Fin 1024) :
    iblk m c 1 t (ix3 0 p n) = a1 m c (ix3 (DwSum.pick 1 (t.val / 16)) (DwSum.spot t.val p) n) := by
  have h : (DwSum.pick 1 (t.val / 16) : ℕ) = 0 := Nat.mod_one _
  generalize DwSum.pick 1 (t.val / 16) = j at h ⊢
  unfold DwSum.spot
  blk_ext [iblk, V, idx t]

/-- One point's arithmetic, and what it adds to what the block holds. -/
theorem pay_at (acc : Vec Ideal S1x512x1024 .f32) (x : Vec Ideal S1x512x512 .bf16) (y : Vec Ideal S1x512x1024 .bf16)
    (k : Fin 512) (n : Fin 1024) :
    k0_pay2 acc x y (ix3 0 k n) = acc (ix3 0 k n) + ∑ p : Fin 512, (x (ix3 0 p k) : EReal) * y (ix3 0 p n) := by
  pointwise [k0_pay2]

theorem step_at (acc : Vec Ideal S1x512x1024 .f32) (k : Fin 512) (n : Fin 1024) :
    k0_pay2 acc (iblk m c 0 t) (iblk m c 1 t) (ix3 0 k n) = acc (ix3 0 k n) + DwSum.part (a0 m c) (a1 m c) t.val k n :=
  (pay_at ..).trans (congrArg _ (Finset.sum_congr rfl fun p _ => congrArg₂ _ (left_at m c t p k) (right_at m c t p n)))

theorem zero_at (k : Fin 512) (n : Fin 1024) : (k0_pay1 (F := Ideal) (ix3 0 k n) : EReal) = 0 := by
  pointwise [k0_pay1]

/-- The block at a shard's last point. -/
theorem point (ht : t.val % 16 = 15) (k : Fin 512) (n : Fin 1024) :
    outsAt0 m c t.val t.isLt (ix3 0 k n) = DwSum.entry (a0 m c) (a1 m c) (t.val / 16) k n :=
  DwSum.block (a0 m c) (a1 m c) (outsAt0 m c)
    (fun t h k n => by rw [outsAt0_A m c t h, Value.out_A_2_eq, step_at, zero_at])
    (fun t h k n => by rw [outsAt0_B m c t h, Value.out_B_2_eq, step_at]) t ht k n

/-- The blocks written back make up the array. -/
theorem array : (dats m 0 c).arrAt 2 cfg0.N = DwSum.Product 1 (a0 m c) (a1 m c) := by
  refine (dats m 0 c).arrAt_eq_of_covers 2 _ (by decide +kernel) fun t hf y => ?_
  have e0 : ((((cfg0.win 2).blk t).view.emb y) 0 : ℕ) = t.val / 16 := by blk_simp [idx t]
  have e1 : ((((cfg0.win 2).blk t).view.emb y) 1 : ℕ) = (y 1 : ℕ) := by blk_simp [idx t]
  have e2 : ((((cfg0.win 2).blk t).view.emb y) 2 : ℕ) = (y 2 : ℕ) := by blk_simp [idx t]
  rw [after0_2]
  exact DwSum.laid _ _ _ _ (point m c t ((flush0_2 t).mp hf)) y _ e0 e1 e2

/-- The kernel runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = DwSum.Product 1 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array m c), (h c).2⟩) (Value.run_blocks m ρ)

end Kernel

namespace Reference

open Cert.DwSsmRefIdeal Cert.DwSsmRefIdeal.Gen

variable (m : (ℓ : Loc nD τ sig) → Buf (Elt Ideal) ℓ) (c : Dev nD)

abbrev a0 : DwSum.Shards 1 512 := m ((c : Thread nD τ).loc main_arg0)
abbrev a1 : DwSum.Shards 1 1024 := m ((c : Thread nD τ).loc main_arg1)

/-- The reference's product, as the program forms it. -/
def formed (x : FVec Ideal S1x8192x512 .bf16) (y : FVec Ideal S1x8192x1024 .bf16) : FVec Ideal S1x512x1024 .f32 :=
  Host.dotGeneral dot_S1x8192x512_S1x8192x1024_S1x512x1024_1_1_2_2_0_0 none (extf .f32 x bitsLt_bf16_f32) (extf .f32 y bitsLt_bf16_f32)

theorem formed_at (x : DwSum.Shards 1 512) (y : DwSum.Shards 1 1024) (j : Fin 1) (k : Fin 512) (n : Fin 1024) :
    formed x y (ix3 j k n) = DwSum.entry x y j k n := by
  have h0 : DwSum.pick 1 j = j := Fin.ext (Nat.mod_eq_of_lt j.isLt)
  unfold DwSum.entry
  rw [h0]
  unfold formed
  pointwise
  rfl

/-- The reference runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v2) = DwSum.Product 1 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i =>
    (congrArg (formed (a0 m c) (a1 m c)) (DwSum.split i)).trans (formed_at ..)), (h c).2⟩) (Value.run (F := Ideal) m ρ)

end Reference

end Cert.DwSsmValue
-- ==== Proof.DwInValue.lean ====
/-
  The input projection's weight gradient: the kernel and its reference both leave the normed rows transposed times
  the gradients of all projected columns.
-/
module

public import proofs.«01_k».proof.Proof.DwSum
public import proofs.«01_k».proof.Proof.Gen.DwInIdeal.Value
public import proofs.«01_k».proof.Proof.Gen.DwInRefIdeal.Run

@[expose] public section

noncomputable section

namespace Cert.DwInValue

open Idealize.ShloMosaic Idealize.ShloMosaic.TcCoe Idealize.SL.Sem

namespace Kernel

open Cert.DwInIdeal Cert.DwInIdeal.Gen

variable (m : (ℓ : Loc nD τ sig) → Buf (Elt Ideal) ℓ) (c : Dev nD) (t : Fin cfg0.N)

abbrev a0 : DwSum.Shards 1 1024 := m ((c : Thread nD τ).loc main_arg0)
abbrev a1 : DwSum.Shards 1 4864 := m ((c : Thread nD τ).loc main_arg1)

/-- Where each window's block lies at a point. -/
theorem idx : ∀ t : Fin cfg0.N, win0_0.index t = ![0, t.val % 16, 0] ∧ win0_1.index t = ![0, t.val % 16, 0]
    ∧ win0_2.index t = ![t.val / 16, 0, 0] :=
  (by decide +kernel : ∀ t : Fin grid0.N, _)

/-- The rows a point reads of either operand. -/
theorem left_at (p : Fin 512) (k : Fin 1024) :
    iblk m c 0 t (ix3 0 p k) = a0 m c (ix3 (DwSum.pick 1 (t.val / 16)) (DwSum.spot t.val p) k) := by
  have h : (DwSum.pick 1 (t.val / 16) : ℕ) = 0 := Nat.mod_one _
  generalize DwSum.pick 1 (t.val / 16) = j at h ⊢
  unfold DwSum.spot
  blk_ext [iblk, V, idx t]

theorem right_at (p : Fin 512) (n : Fin 4864) :
    iblk m c 1 t (ix3 0 p n) = a1 m c (ix3 (DwSum.pick 1 (t.val / 16)) (DwSum.spot t.val p) n) := by
  have h : (DwSum.pick 1 (t.val / 16) : ℕ) = 0 := Nat.mod_one _
  generalize DwSum.pick 1 (t.val / 16) = j at h ⊢
  unfold DwSum.spot
  blk_ext [iblk, V, idx t]

/-- One point's arithmetic, and what it adds to what the block holds. -/
theorem pay_at (acc : Vec Ideal S1x1024x4864 .f32) (x : Vec Ideal S1x512x1024 .bf16) (y : Vec Ideal S1x512x4864 .bf16)
    (k : Fin 1024) (n : Fin 4864) :
    k0_pay2 acc x y (ix3 0 k n) = acc (ix3 0 k n) + ∑ p : Fin 512, (x (ix3 0 p k) : EReal) * y (ix3 0 p n) := by
  pointwise [k0_pay2]

theorem step_at (acc : Vec Ideal S1x1024x4864 .f32) (k : Fin 1024) (n : Fin 4864) :
    k0_pay2 acc (iblk m c 0 t) (iblk m c 1 t) (ix3 0 k n) = acc (ix3 0 k n) + DwSum.part (a0 m c) (a1 m c) t.val k n :=
  (pay_at ..).trans (congrArg _ (Finset.sum_congr rfl fun p _ => congrArg₂ _ (left_at m c t p k) (right_at m c t p n)))

theorem zero_at (k : Fin 1024) (n : Fin 4864) : (k0_pay1 (F := Ideal) (ix3 0 k n) : EReal) = 0 := by
  pointwise [k0_pay1]

/-- The block at a shard's last point. -/
theorem point (ht : t.val % 16 = 15) (k : Fin 1024) (n : Fin 4864) :
    outsAt0 m c t.val t.isLt (ix3 0 k n) = DwSum.entry (a0 m c) (a1 m c) (t.val / 16) k n :=
  DwSum.block (a0 m c) (a1 m c) (outsAt0 m c)
    (fun t h k n => by rw [outsAt0_A m c t h, Value.out_A_2_eq, step_at, zero_at])
    (fun t h k n => by rw [outsAt0_B m c t h, Value.out_B_2_eq, step_at]) t ht k n

/-- The blocks written back make up the array. -/
theorem array : (dats m 0 c).arrAt 2 cfg0.N = DwSum.Product 1 (a0 m c) (a1 m c) := by
  refine (dats m 0 c).arrAt_eq_of_covers 2 _ (by decide +kernel) fun t hf y => ?_
  have e0 : ((((cfg0.win 2).blk t).view.emb y) 0 : ℕ) = t.val / 16 := by blk_simp [idx t]
  have e1 : ((((cfg0.win 2).blk t).view.emb y) 1 : ℕ) = (y 1 : ℕ) := by blk_simp [idx t]
  have e2 : ((((cfg0.win 2).blk t).view.emb y) 2 : ℕ) = (y 2 : ℕ) := by blk_simp [idx t]
  rw [after0_2]
  exact DwSum.laid _ _ _ _ (point m c t ((flush0_2 t).mp hf)) y _ e0 e1 e2

/-- The kernel runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = DwSum.Product 1 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array m c), (h c).2⟩) (Value.run_blocks m ρ)

end Kernel

namespace Reference

open Cert.DwInRefIdeal Cert.DwInRefIdeal.Gen

variable (m : (ℓ : Loc nD τ sig) → Buf (Elt Ideal) ℓ) (c : Dev nD)

abbrev a0 : DwSum.Shards 1 1024 := m ((c : Thread nD τ).loc main_arg0)
abbrev a1 : DwSum.Shards 1 4864 := m ((c : Thread nD τ).loc main_arg1)

/-- The reference's product, as the program forms it. -/
def formed (x : FVec Ideal S1x8192x1024 .bf16) (y : FVec Ideal S1x8192x4864 .bf16) : FVec Ideal S1x1024x4864 .f32 :=
  Host.dotGeneral dot_S1x8192x1024_S1x8192x4864_S1x1024x4864_1_1_2_2_0_0 none (extf .f32 x bitsLt_bf16_f32) (extf .f32 y bitsLt_bf16_f32)

theorem formed_at (x : DwSum.Shards 1 1024) (y : DwSum.Shards 1 4864) (j : Fin 1) (k : Fin 1024) (n : Fin 4864) :
    formed x y (ix3 j k n) = DwSum.entry x y j k n := by
  have h0 : DwSum.pick 1 j = j := Fin.ext (Nat.mod_eq_of_lt j.isLt)
  unfold DwSum.entry
  rw [h0]
  unfold formed
  pointwise
  rfl

/-- The reference runs, leaves the product and keeps its arguments. -/
theorem run (ρ : Dev nD → PrngReg) : θ_run defs (onTc (τ := τ) (main (F := Ideal))) ⟨m, fun _ => 0, ρ⟩ fun r => ∀ c : Dev nD,
      r.2.mem ((c : Thread nD τ).loc main_v2) = DwSum.Product 1 (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i =>
    (congrArg (formed (a0 m c) (a1 m c)) (DwSum.split i)).trans (formed_at ..)), (h c).2⟩) (Value.run (F := Ideal) m ρ)

end Reference

end Cert.DwInValue
-- ==== Proof.LossRow.lean ====
/-
  The squared-error loss of normed rows, and its gradients, over the extended reals: each row, then the whole arrays.

  `v` is a row, `g` the norm's gain, `y` the row's target.
-/
module

public import proofs.«01_k».proof.Proof.FfnArr
public import Idealize.ShloMosaic.Lib.IdealHost

@[expose] public section

noncomputable section

namespace Cert.LossRow

open Idealize.ShloMosaic

/-- The constant 1 / 1024. -/
def share : EReal := Ideal.ofBits .f32 0x3A800000#32

section

variable (v g y : Fin 1024 → EReal)

/-- The error of the normed row against its target. -/
def err (d : Fin 1024) : EReal := FfnRow.xhat v d * g d - y d

/-- The mean square of the row's error. -/
def cost : EReal := (∑ k, err v g y k * err v g y k) * share

/-- The gradient of the normed row. -/
def dy (d : Fin 1024) : EReal := err v g y d * share

/-- The gradient of the row. -/
def dx (d : Fin 1024) : EReal :=
  FfnRow.rinv v * (dy v g y d * g d - FfnRow.xhat v d * Ideal.div (∑ k, dy v g y k * g k * FfnRow.xhat v k) FfnRow.width)

/-- The row's part of the gain's gradient. -/
def dg (d : Fin 1024) : EReal := dy v g y d * FfnRow.xhat v d

end

/-- The array that holds the loss at every index. -/
abbrev Tile := (⟨2, ![8, 128]⟩ : Shape).Idx → EReal

section

variable (v : FfnArr.Rows) (g : FfnArr.Gain) (y : FfnArr.Rows)

def loss : EReal := FfnRow.half * ∑ r, cost (FfnArr.row v r) (FfnArr.flat g) (FfnArr.row y r)
def dxAt (r : Fin 8192) (d : Fin 1024) : EReal := dx (FfnArr.row v r) (FfnArr.flat g) (FfnArr.row y r) d
def dgAt (d : Fin 1024) : EReal := ∑ r, dg (FfnArr.row v r) (FfnArr.flat g) (FfnArr.row y r) d

def Loss : Tile := fun _ => loss v g y
def Dx : FfnArr.Rows := fun i => dxAt v g y (i 0) (i 1)
def Dg : FfnArr.Gain := fun i => dgAt v g y (i 1)

end

/-- One half is a real number, and not negative. -/
theorem half_eq : FfnRow.half = ((1 / 2 : ℝ) : EReal) := by
  unfold FfnRow.half
  simp [Ideal.ofBits, Ideal.ieee, -EReal.coe_mul]
  norm_num

/-- So a half goes into a sum of extended reals, whatever their signs. -/
theorem half_sum {ι : Type} [Fintype ι] (f : ι → EReal) : FfnRow.half * ∑ i, f i = ∑ i, FfnRow.half * f i := by
  have h : 0 ≤ FfnRow.half := by
    rw [half_eq]
    exact EReal.coe_nonneg.mpr (by norm_num)
  have h' : FfnRow.half ≠ ⊤ := by
    rw [half_eq]
    exact EReal.coe_ne_top _
  exact map_sum (⟨⟨fun x => FfnRow.half * x, mul_zero _⟩, fun a b => EReal.left_distrib_of_nonneg_of_ne_top h h' a b⟩ : EReal →+ EReal)
    f Finset.univ

end Cert.LossRow
-- ==== Proof.LossWhole.lean ====
/-
  The loss kernel: what each grid point leaves, read at a row, and its three results whole.
-/
module

public import proofs.«01_k».proof.Proof.LossRow
public import proofs.«01_k».proof.Proof.Gen.LossIdeal.Value
public import Idealize.ShloMosaic.Lib.Pipeline.ValueKit
public import Idealize.ShloMosaic.Lib.Pipeline.ReadBack

@[expose] public section

noncomputable section

namespace Cert.LossWhole

open Cert.LossIdeal Cert.LossIdeal.Gen Idealize.ShloMosaic Idealize.ShloMosaic.TcCoe Idealize.SL.Sem

/-! ## A block of 512 rows, row by row -/

section Rows

variable (x0 : Vec Ideal S512x1024 .f32) (x1 : Vec Ideal S1x1024 .f32) (x2 : Vec Ideal S512x1024 .f32) (p : Fin 512)

/-- Row `p` of a block, and the gain by its coordinate. -/
abbrev row (x : Vec Ideal S512x1024 .f32) (p : Fin 512) : Fin 1024 → EReal := fun d => x (ix2 p d)
abbrev flat (x : Vec Ideal S1x1024 .f32) : Fin 1024 → EReal := fun d => x (ix2 0 d)

theorem rinv_at : k0_pay3 x0 (ix2 p 0) = FfnRow.rinv (row x0 p) := by
  pointwise [k0_pay3]
  rfl

theorem xhat_at (d : Fin 1024) : k0_pay4 x0 (ix2 p d) = FfnRow.xhat (row x0 p) d := by
  pointwise [k0_pay4]
  rw [rinv_at]
  rfl

theorem err_at (d : Fin 1024) : k0_pay5 x0 x1 x2 (ix2 p d) = LossRow.err (row x0 p) (flat x1) (row x2 p) d := by
  pointwise [k0_pay5]
  rw [xhat_at]
  rfl

theorem dy_at (d : Fin 1024) : k0_pay6 x0 x1 x2 (ix2 p d) = LossRow.dy (row x0 p) (flat x1) (row x2 p) d := by
  pointwise [k0_pay6]
  rw [err_at]
  rfl

theorem back_at (d : Fin 1024) : k0_pay2 x1 (k0_pay3 x0) (k0_pay4 x0) (k0_pay6 x0 x1 x2) (ix2 p d)
    = LossRow.dx (row x0 p) (flat x1) (row x2 p) d := by
  pointwise [k0_pay2]
  simp only [xhat_at, rinv_at, dy_at]
  rfl

theorem gain_at (acc : Vec Ideal S1x1024 .f32) (d : Fin 1024) :
    k0_pay1 (k0_pay4 x0) (k0_pay6 x0 x1 x2) acc (ix2 0 d)
      = acc (ix2 0 d) + ∑ q, LossRow.dg (row x0 q) (flat x1) (row x2 q) d := by
  pointwise [k0_pay1]
  simp only [xhat_at, dy_at]
  rfl

theorem cost_at (acc : Vec Ideal S8x128 .f32) (a : Fin 8) (b : Fin 128) : k0_pay9 x0 x1 x2 acc (ix2 a b)
    = acc (ix2 a b) + FfnRow.half * ∑ q, LossRow.cost (row x0 q) (flat x1) (row x2 q) := by
  pointwise [k0_pay9]
  simp only [err_at]
  rfl

end Rows

variable (m : (ℓ : Loc nD τ sig) → Buf (Elt Ideal) ℓ) (c : Dev nD)

/-- The three arguments on device `c`. -/
abbrev a0 : FfnArr.Rows := m ((c : Thread nD τ).loc main_arg0)
abbrev a1 : FfnArr.Gain := m ((c : Thread nD τ).loc main_arg1)
abbrev a2 : FfnArr.Rows := m ((c : Thread nD τ).loc main_arg2)

section Points

variable (t : Fin cfg0.N)

/-- Where each window's block lies at a point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- Row `p` of a point's block is this row of the array. -/
def place (p : Fin 512) : Fin 8192 := ⟨t.val * 512 + p.val, by have h : t.val < 16 := t.isLt; omega⟩

theorem row0 (p : Fin 512) : row (iblk m c 0 t) p = FfnArr.row (a0 m c) (place t p) := by
  funext d
  unfold row FfnArr.row place
  blk_ext [iblk, V, idx t]

theorem flat1 : flat (iblk m c 1 t) = FfnArr.flat (a1 m c) := by
  funext d
  unfold flat FfnArr.flat
  blk_ext [iblk, V, idx t]

theorem row2 (p : Fin 512) : row (iblk m c 2 t) p = FfnArr.row (a2 m c) (place t p) := by
  funext d
  unfold row FfnArr.row place
  blk_ext [iblk, V, idx t]

/-- The rows' gradients at a point. -/
theorem point4 (p : Fin 512) (d : Fin 1024) :
    (outsAt0 m c t.val t.isLt).2.1 (ix2 p d) = LossRow.dxAt (a0 m c) (a1 m c) (a2 m c) (place t p) d := by
  have e : (outsAt0 m c t.val t.isLt).2.1 = k0_pay2 (iblk m c 1 t) (k0_pay3 (iblk m c 0 t)) (k0_pay4 (iblk m c 0 t))
      (k0_pay6 (iblk m c 0 t) (iblk m c 1 t) (iblk m c 2 t)) := by
    by_cases h : t.val % 16 = 0
    · rw [outsAt0_A m c t h]
      frame_out
    · rw [outsAt0_B m c t h]
      frame_out
  rw [e, back_at, row0, flat1, row2]
  rfl

/-- What a point adds to the loss, and to the gain's gradient. -/
def part : EReal := FfnRow.half * ∑ q : Fin 512,
  LossRow.cost (FfnArr.row (a0 m c) (place t q)) (FfnArr.flat (a1 m c)) (FfnArr.row (a2 m c) (place t q))

def adds (d : Fin 1024) : EReal := ∑ q : Fin 512,
  LossRow.dg (FfnArr.row (a0 m c) (place t q)) (FfnArr.flat (a1 m c)) (FfnArr.row (a2 m c) (place t q)) d

theorem loss_step (acc : Vec Ideal S8x128 .f32) (a : Fin 8) (b : Fin 128) :
    k0_pay9 (iblk m c 0 t) (iblk m c 1 t) (iblk m c 2 t) acc (ix2 a b) = acc (ix2 a b) + part m c t := by
  refine (cost_at ..).trans (congrArg _ (congrArg _ (Finset.sum_congr rfl fun q _ => ?_)))
  rw [row0, flat1, row2]

theorem gain_step (acc : Vec Ideal S1x1024 .f32) (d : Fin 1024) :
    k0_pay1 (k0_pay4 (iblk m c 0 t)) (k0_pay6 (iblk m c 0 t) (iblk m c 1 t) (iblk m c 2 t)) acc (ix2 0 d)
      = acc (ix2 0 d) + adds m c t d := by
  refine (gain_at ..).trans (congrArg _ (Finset.sum_congr rfl fun q _ => ?_))
  rw [row0, flat1, row2]

theorem point3_first (h : t.val % 16 = 0) (a : Fin 8) (b : Fin 128) :
    (outsAt0 m c t.val t.isLt).1 (ix2 a b) = 0 + part m c t := by
  have e : (outsAt0 m c t.val t.isLt).1
      = k0_pay9 (iblk m c 0 t) (iblk m c 1 t) (iblk m c 2 t) (k0_pay8 (F := Ideal)) := by
    rw [outsAt0_A m c t h]
    frame_out
  rw [e, loss_step]
  exact congrArg (· + _) (by pointwise [k0_pay8])

theorem point3_later (h : ¬t.val % 16 = 0) (a : Fin 8) (b : Fin 128) : (outsAt0 m c t.val t.isLt).1 (ix2 a b)
    = (outsAt0 m c (t.val - 1) (Nat.lt_of_le_of_lt (Nat.sub_le _ _) t.isLt)).1 (ix2 a b) + part m c t := by
  have e : (outsAt0 m c t.val t.isLt).1 = k0_pay9 (iblk m c 0 t) (iblk m c 1 t) (iblk m c 2 t)
      (outsAt0 m c (t.val - 1) (Nat.lt_of_le_of_lt (Nat.sub_le _ _) t.isLt)).1 := by
    rw [outsAt0_B m c t h]
    frame_out
  rw [e, loss_step]

theorem point5_first (h : t.val % 16 = 0) (d : Fin 1024) :
    (outsAt0 m c t.val t.isLt).2.2 (ix2 0 d) = 0 + adds m c t d := by
  have e : (outsAt0 m c t.val t.isLt).2.2 = k0_pay1 (k0_pay4 (iblk m c 0 t))
      (k0_pay6 (iblk m c 0 t) (iblk m c 1 t) (iblk m c 2 t)) (k0_pay7 (F := Ideal)) := by
    rw [outsAt0_A m c t h]
    frame_out
  rw [e, gain_step]
  exact congrArg (· + _) (by pointwise [k0_pay7])

theorem point5_later (h : ¬t.val % 16 = 0) (d : Fin 1024) : (outsAt0 m c t.val t.isLt).2.2 (ix2 0 d)
    = (outsAt0 m c (t.val - 1) (Nat.lt_of_le_of_lt (Nat.sub_le _ _) t.isLt)).2.2 (ix2 0 d) + adds m c t d := by
  have e : (outsAt0 m c t.val t.isLt).2.2 = k0_pay1 (k0_pay4 (iblk m c 0 t))
      (k0_pay6 (iblk m c 0 t) (iblk m c 1 t) (iblk m c 2 t))
      (outsAt0 m c (t.val - 1) (Nat.lt_of_le_of_lt (Nat.sub_le _ _) t.isLt)).2.2 := by
    rw [outsAt0_B m c t h]
    frame_out
  rw [e, gain_step]

/-- After the last point: half of the rows' costs together, at every index. -/
theorem point3 (ht : t.val + 1 = cfg0.N) (a : Fin 8) (b : Fin 128) :
    (outsAt0 m c t.val t.isLt).1 (ix2 a b) = LossRow.loss (a0 m c) (a1 m c) (a2 m c) := by
  have h := Pipeline.eq_sum_fin_of_reset_step_apply_last (ι := Fin 8 × Fin 128) (M := EReal)
    (fun n hn i => (outsAt0 m c n hn).1 (ix2 i.1 i.2)) 16 (fun _ => 0) (fun t _ => part m c t)
    (fun t h i => point3_first m c t h i.1 i.2) (fun t h i => point3_later m c t h i.1 i.2) (by decide) t ht (a, b)
  refine h.trans ((zero_add _).trans ?_)
  unfold LossRow.loss part
  rw [← LossRow.half_sum]
  exact congrArg _ (Fin.sum_mul_add_congr (L := 8192) (S := 16) (n := 512) fun _ _ _ => rfl)

/-- After the last point: the sum over all rows. -/
theorem point5 (ht : t.val + 1 = cfg0.N) (d : Fin 1024) :
    (outsAt0 m c t.val t.isLt).2.2 (ix2 0 d) = LossRow.dgAt (a0 m c) (a1 m c) (a2 m c) d := by
  have h := Pipeline.eq_sum_fin_of_reset_step_apply_last (ι := Fin 1024) (M := EReal)
    (fun n hn d => (outsAt0 m c n hn).2.2 (ix2 0 d)) 16 (fun _ => 0) (fun t d => adds m c t d)
    (fun t h d => point5_first m c t h d) (fun t h d => point5_later m c t h d) (by decide) t ht d
  refine h.trans ((zero_add _).trans ?_)
  unfold adds LossRow.dgAt
  exact Fin.sum_mul_add_congr (L := 8192) (S := 16) (n := 512) fun _ _ _ => rfl

end Points

/-! ## The arrays -/

/-- One block that every point holds, written back after the last. -/
theorem whole3 : (dats m 0 c).arrAt 3 cfg0.N = LossRow.Loss (a0 m c) (a1 m c) (a2 m c) := by
  refine (dats m 0 c).arrAt_eq_of_covers 3 _ (by decide +kernel) fun t hf y => ?_
  have ht : t.val + 1 = cfg0.N := by
    have h1 := (flush0_3 t).mp hf
    have h2 : t.val < 16 := t.isLt
    show t.val + 1 = 16
    omega
  rw [after0_3]
  exact (congrArg (outsAt0 m c t.val t.isLt).1 (FfnArr.split2 y)).trans (point3 m c t ht (y 0) (y 1))

theorem whole4 : (dats m 0 c).arrAt 4 cfg0.N = LossRow.Dx (a0 m c) (a1 m c) (a2 m c) := by
  refine (dats m 0 c).arrAt_eq_of_covers 4 _ (by decide +kernel) fun t hf y => ?_
  have e0 : ((((cfg0.win 4).blk t).view.emb y) 0 : ℕ) = t.val * 512 + (y 0 : ℕ) := by blk_simp [idx t]
  have e1 : ((((cfg0.win 4).blk t).view.emb y) 1 : ℕ) = (y 1 : ℕ) := by blk_simp [idx t]
  generalize ((cfg0.win 4).blk t).view.emb y = z at e0 e1 ⊢
  rw [after0_4]
  refine (congrArg (outsAt0 m c t.val t.isLt).2.1 (FfnArr.split2 y)).trans ((point4 m c t (y 0) (y 1)).trans ?_)
  exact congrArg₂ (LossRow.dxAt _ _ _) (Fin.ext e0.symm) (Fin.ext e1.symm)

theorem whole5 : (dats m 0 c).arrAt 5 cfg0.N = LossRow.Dg (a0 m c) (a1 m c) (a2 m c) := by
  refine (dats m 0 c).arrAt_eq_of_covers 5 _ (by decide +kernel) fun t hf y => ?_
  have e1 : ((((cfg0.win 5).blk t).view.emb y) 1 : ℕ) = (y 1 : ℕ) := by blk_simp [idx t]
  generalize ((cfg0.win 5).blk t).view.emb y = z at e1 ⊢
  have ht : t.val + 1 = cfg0.N := by
    have h1 := (flush0_5 t).mp hf
    have h2 : t.val < 16 := t.isLt
    show t.val + 1 = 16
    omega
  rw [after0_5]
  refine (congrArg (outsAt0 m c t.val t.isLt).2.2 (FfnArr.split1 y)).trans ((point5 m c t ht (y 1)).trans ?_)
  exact congrArg (LossRow.dgAt _ _ _) (Fin.ext e1.symm)

/-- The kernel runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = LossRow.Loss (a0 m c) (a1 m c) (a2 m c)
      ∧ r.2.mem ((c : Thread nD τ).loc main_v0_1) = LossRow.Dx (a0 m c) (a1 m c) (a2 m c)
      ∧ r.2.mem ((c : Thread nD τ).loc main_v0_2) = LossRow.Dg (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    have ⟨h0, h1, h2, hk⟩ := h c
    ⟨h0.trans (whole3 m c), h1.trans (whole4 m c), h2.trans (whole5 m c), hk⟩) (Value.run_blocks m ρ)

end Cert.LossWhole
-- ==== Proof.LossRef.lean ====
/-
  The loss's reference, read row by row: its three results are `LossRow.lean`'s arrays.
-/
module

public import proofs.«01_k».proof.Proof.LossRow
public import proofs.«01_k».proof.Proof.Gen.LossRefIdeal.Run

@[expose] public section

noncomputable section

namespace Cert.LossRef

open Cert.LossRefIdeal Cert.LossRefIdeal.Gen Idealize.ShloMosaic Idealize.ShloMosaic.TcCoe Idealize.ShloMosaic.StableHlo Idealize.SL.Sem

/-! ## The reference's intermediate arrays, as the program forms them -/

variable (v : Vec Ideal S8192x1024 .f32) (g : Vec Ideal S1x1024 .f32) (y : Vec Ideal S8192x1024 .f32)

def hRinv : FVec Ideal S8192x1 .f32 :=
  Host.rsqrt (addf (Host.divf (broadcastInDim S8192x1 ![0] bcast_S8192_S8192x1_0 (Host.reduceAdd (mulf v v) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))

def hXhat : FVec Ideal S8192x1024 .f32 :=
  mulf v (broadcastInDim S8192x1024 ![0, 1] bcast_S8192x1_S8192x1024_0_1 (hRinv v))

def hGain : FVec Ideal S8192x1024 .f32 := broadcastInDim S8192x1024 ![0, 1] bcast_S1x1024_S8192x1024_0_1 g

def hErr : FVec Ideal S8192x1024 .f32 := subf (mulf (hXhat v) (hGain g)) y

def hCost : FVec Ideal S8192 .f32 :=
  mulf (Host.reduceAdd (mulf (hErr v g y) (hErr v g y)) (constant S_ .f32 0x00000000#32) reducesTo_S8192x1024_S8192_d1 h_S_) (broadcastInDim S8192 ![] bcast_S_S8192 (constant S_ .f32 0x3A800000#32))

def hLoss : FVec Ideal S8x128 .f32 :=
  broadcastInDim S8x128 ![] bcast_S_S8x128 (mulf (constant S_ .f32 0x3F000000#32) (Host.reduceAdd (hCost v g y) (constant S_ .f32 0x00000000#32) reducesTo_S8192_S_d0 h_S_))

def hDy : FVec Ideal S8192x1024 .f32 :=
  mulf (hErr v g y) (broadcastInDim S8192x1024 ![] bcast_S_S8192x1024 (constant S_ .f32 0x3A800000#32))

def hMean : FVec Ideal S8192x1 .f32 :=
  Host.divf (broadcastInDim S8192x1 ![0] bcast_S8192_S8192x1_0 (Host.reduceAdd (mulf (mulf (hDy v g y) (hGain g)) (hXhat v)) (constant S_ .f32 0x00000000#32) reducesTo_S8192x1024_S8192_d1 h_S_)) (broadcastInDim S8192x1 ![] bcast_S_S8192x1 (constant S_ .f32 0x44800000#32))

def hDx : FVec Ideal S8192x1024 .f32 :=
  mulf (broadcastInDim S8192x1024 ![0, 1] bcast_S8192x1_S8192x1024_0_1 (hRinv v)) (subf (mulf (hDy v g y) (hGain g))
    (mulf (hXhat v) (broadcastInDim S8192x1024 ![0, 1] bcast_S8192x1_S8192x1024_0_1 (hMean v g y))))

def hDg : FVec Ideal S1x1024 .f32 :=
  broadcastInDim S1x1024 ![1] bcast_S1024_S1x1024_1 (Host.reduceAdd (mulf (hDy v g y) (hXhat v)) (constant S_ .f32 0x00000000#32) reducesTo_S8192x1024_S1024_d0 h_S_)

/-! ## The same arrays at an index -/

variable (r : Fin 8192) (d : Fin 1024)

theorem hRinv_at : hRinv v (ix2 r 0) = FfnRow.rinv (FfnArr.row v r) := by
  unfold hRinv
  pointwise
  rfl

theorem hXhat_at : hXhat v (ix2 r d) = FfnRow.xhat (FfnArr.row v r) d := by
  unfold hXhat
  pointwise
  rw [hRinv_at]
  rfl

theorem hGain_at : hGain g (ix2 r d) = FfnArr.flat g d := by
  unfold hGain
  pointwise
  rfl

theorem hErr_at : hErr v g y (ix2 r d) = LossRow.err (FfnArr.row v r) (FfnArr.flat g) (FfnArr.row y r) d := by
  unfold hErr
  pointwise
  rw [hXhat_at, hGain_at]
  rfl

theorem hCost_at : hCost v g y (ix1 r) = LossRow.cost (FfnArr.row v r) (FfnArr.flat g) (FfnArr.row y r) := by
  unfold hCost
  pointwise
  simp only [hErr_at]
  rfl

theorem hLoss_at (a : Fin 8) (b : Fin 128) : hLoss v g y (ix2 a b) = LossRow.loss v g y := by
  unfold hLoss
  pointwise
  simp only [hCost_at]
  rfl

theorem hDy_at : hDy v g y (ix2 r d) = LossRow.dy (FfnArr.row v r) (FfnArr.flat g) (FfnArr.row y r) d := by
  unfold hDy
  pointwise
  rw [hErr_at]
  rfl

theorem hMean_at : hMean v g y (ix2 r 0) = Ideal.div (∑ k, LossRow.dy (FfnArr.row v r) (FfnArr.flat g) (FfnArr.row y r) k
    * FfnArr.flat g k * FfnRow.xhat (FfnArr.row v r) k) FfnRow.width := by
  unfold hMean
  pointwise
  simp only [hDy_at, hGain_at, hXhat_at]
  rfl

theorem hDx_at : hDx v g y (ix2 r d) = LossRow.dxAt v g y r d := by
  unfold hDx
  pointwise
  simp only [hDy_at, hGain_at, hXhat_at, hRinv_at, hMean_at]
  rfl

theorem hDg_at : hDg v g y (ix2 0 d) = LossRow.dgAt v g y d := by
  unfold hDg
  pointwise
  simp only [hDy_at, hXhat_at]
  rfl

/-! ## The run -/

variable (m : (ℓ : Loc nD τ sig) → Buf (Elt Ideal) ℓ) (c : Dev nD)

/-- The three arguments. -/
abbrev a0 : FfnArr.Rows := m ((c : Thread nD τ).loc main_arg0)
abbrev a1 : FfnArr.Gain := m ((c : Thread nD τ).loc main_arg1)
abbrev a2 : FfnArr.Rows := m ((c : Thread nD τ).loc main_arg2)

/-- The reference runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v33) = LossRow.Loss (a0 m c) (a1 m c) (a2 m c)
      ∧ r.2.mem ((c : Thread nD τ).loc main_v32) = LossRow.Dx (a0 m c) (a1 m c) (a2 m c)
      ∧ r.2.mem ((c : Thread nD τ).loc main_v36) = LossRow.Dg (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    have ⟨h0, h1, h2, hk⟩ := h c
    ⟨h0.trans (funext fun i => (congrArg (hLoss (a0 m c) (a1 m c) (a2 m c)) (FfnArr.split2 i)).trans (hLoss_at ..)),
      h1.trans (funext fun i => (congrArg (hDx (a0 m c) (a1 m c) (a2 m c)) (FfnArr.split2 i)).trans (hDx_at ..)),
      h2.trans (funext fun i => (congrArg (hDg (a0 m c) (a1 m c) (a2 m c)) (FfnArr.split1 i)).trans (hDg_at ..)),
      hk⟩) (Value.run (F := Ideal) m ρ)

end Cert.LossRef
-- ==== Proof.ProjRow.lean ====
/-
  Backward through the input projection and its norm, over the extended reals: each row by itself, then whole arrays.

  `u` is the gradient that comes into the row past the layer, `v` the row, `g` the norm's gain, `z` the gradients of the
  row's 4864 projected columns, `w` the projection's weight.
-/
module

public import proofs.«01_k».proof.Proof.FfnArr

@[expose] public section

noncomputable section

namespace Cert.ProjRow

open Idealize.ShloMosaic

section

variable (u v g : Fin 1024 → EReal) (z : Fin 4864 → EReal) (w : Fin 1024 → Fin 4864 → EReal)

/-- The gradient of the normed row. -/
def dh (d : Fin 1024) : EReal := ∑ k, z k * w d k

/-- The gradient that leaves the row. -/
def dx (d : Fin 1024) : EReal :=
  u d + FfnRow.rinv v * (dh z w d * g d - FfnRow.xhat v d * Ideal.div (∑ k, dh z w k * g k * FfnRow.xhat v k) FfnRow.width)

/-- The row's part of the gain's gradient. -/
def dg (d : Fin 1024) : EReal := dh z w d * FfnRow.xhat v d

end

/-- The projected columns' gradients, and the weight. -/
abbrev Cols := (⟨2, ![8192, 4864]⟩ : Shape).Idx → EReal
abbrev Weight := (⟨2, ![1024, 4864]⟩ : Shape).Idx → EReal

def cols (z : Cols) (r : Fin 8192) : Fin 4864 → EReal := fun k => z (ix2 r k)
def weight (w : Weight) : Fin 1024 → Fin 4864 → EReal := fun d k => w (ix2 d k)

section

variable (u v : FfnArr.Rows) (g : FfnArr.Gain) (z : Cols) (w : Weight)

def dxAt (r : Fin 8192) (d : Fin 1024) : EReal := dx (FfnArr.row u r) (FfnArr.row v r) (FfnArr.flat g) (cols z r) (weight w) d
def dgAt (d : Fin 1024) : EReal := ∑ r, dg (FfnArr.row v r) (cols z r) (weight w) d

def Dx : FfnArr.Rows := fun i => dxAt u v g z w (i 0) (i 1)
def Dg : FfnArr.Gain := fun i => dgAt v z w (i 1)

end

end Cert.ProjRow
-- ==== Proof.MixRow.lean ====
/-
  The norm and the input projection, over the extended reals: each row by itself, then whole arrays.

  `v` is a row, `g` the norm's gain, `w` the projection's weight, whose 4864 columns are the queries (768), the keys (768),
  the values (768), the state-space inputs (512) and the gates (2048); `b` is the gates' bias.
-/
module

public import proofs.«01_k».proof.Proof.ProjRow

@[expose] public section

noncomputable section

namespace Cert.MixRow

open Idealize.ShloMosaic

/-- The queries' scale, one eighth. -/
def scale : EReal := Ideal.ofBits .f32 0x3E000000#32

/-- A projected column of a row. -/
def proj (v g : Fin 1024 → EReal) (w : Fin 1024 → Fin 4864 → EReal) (k : Fin 4864) : EReal :=
  ∑ d, FfnRow.xhat v d * g d * w d k

/-- Column `j` of the `n` columns that begin at column `o`. -/
def col (o : ℕ) {n : ℕ} (h : o + n ≤ 4864) (j : Fin n) : Fin 4864 := ⟨o + j.val, by omega⟩

/-- Arrays of 8192 rows, and the gates' bias. -/
abbrev Cut (n : ℕ) := (⟨2, ![8192, n]⟩ : Shape).Idx → EReal
abbrev Bias := (⟨2, ![1, 2048]⟩ : Shape).Idx → EReal

variable (v : FfnArr.Rows) (g : FfnArr.Gain) (w : ProjRow.Weight) (b : Bias)

def projAt (r : Fin 8192) (k : Fin 4864) : EReal := proj (FfnArr.row v r) (FfnArr.flat g) (ProjRow.weight w) k

def queryAt (r : Fin 8192) (j : Fin 768) : EReal := projAt v g w r (col 0 (by decide) j) * scale
def gateAt (r : Fin 8192) (j : Fin 2048) : EReal := FfnRow.gate (projAt v g w r (col 2816 (by decide) j) + b (ix2 0 j))

/-- The scaled queries; the columns from `o` as they are; the gates. -/
def Query : Cut 768 := fun i => queryAt v g w (i 0) (i 1)
def Part (o : ℕ) (n : ℕ) (h : o + n ≤ 4864) : Cut n := fun i => projAt v g w (i 0) (col o h (i 1))
def Gate : Cut 2048 := fun i => gateAt v g w b (i 0) (i 1)

end Cert.MixRow
-- ==== Proof.MixWhole.lean ====
/-
  The kernel of the input projection: what each grid point leaves, read at a row, and its five results whole.
-/
module

public import proofs.«01_k».proof.Proof.MixRow
public import proofs.«01_k».proof.Proof.Gen.MixInFwdIdeal.Value
public import Idealize.ShloMosaic.Lib.Pipeline.ValueKit
public import Idealize.ShloMosaic.Lib.Pipeline.ReadBack

@[expose] public section

noncomputable section

namespace Cert.MixWhole

open Cert.MixInFwdIdeal Cert.MixInFwdIdeal.Gen Idealize.ShloMosaic Idealize.ShloMosaic.TcCoe Idealize.SL.Sem

/-! ## A block of 512 rows, row by row -/

section Rows

/-- The `n` columns of the weight that begin at column `o`, and a load of them. -/
def cut (x : Vec Ideal S1024x4864 .bf16) (o n : ℕ) (h : o + n ≤ 4864) : (⟨2, ![1024, n]⟩ : Shape).Idx → Ideal .bf16 :=
  fun i => x (ix2 (i 0) (MixRow.col o h (i 1)))

theorem ld_cut (x : Vec Ideal S1024x4864 .bf16) (o n : ℕ) (h : o + n ≤ 4864)
    (inb : ∀ i : Fin 2, (![0, o] : Fin 2 → ℕ) i + (![1024, n] : Fin 2 → ℕ) i ≤ S1024x4864.size i) :
    View.ld (Val := Elt Ideal) (e' := .bf16) x (Rect.unit (s := S1024x4864) ![0, o] ![1024, n] inb) = cut x o n h := by
  funext i
  refine View.ld_unit_apply_of (Val := Elt Ideal) (e := .bf16) x _ _ _ i (ix2 (i 0) (MixRow.col o h (i 1))) fun a => ?_
  fin_cases a
  · show (i 0 : ℕ) = 0 + (i 0 : ℕ)
    omega
  · rfl

variable (x0 : Vec Ideal S512x1024 .f32) (x1 : Vec Ideal S1x1024 .f32) (x2 : Vec Ideal S1024x4864 .bf16)
  (x3 : Vec Ideal S1x2048 .f32) (p : Fin 512)

/-- Row `p` of a block, and the gain and the weight by their coordinates. -/
abbrev row (x : Vec Ideal S512x1024 .f32) (p : Fin 512) : Fin 1024 → EReal := fun d => x (ix2 p d)
abbrev flat (x : Vec Ideal S1x1024 .f32) : Fin 1024 → EReal := fun d => x (ix2 0 d)
abbrev weight (x : Vec Ideal S1024x4864 .bf16) : Fin 1024 → Fin 4864 → EReal := fun d k => x (ix2 d k)

theorem normed_at (d : Fin 1024) : k0_pay3 x0 x1 (ix2 p d) = FfnRow.xhat (row x0 p) d * flat x1 d := by
  pointwise [k0_pay3]
  rfl

theorem query_at (j : Fin 768) : k0_pay4 x0 x1 (cut x2 0 768 (by decide)) (ix2 p j)
    = MixRow.proj (row x0 p) (flat x1) (weight x2) (MixRow.col 0 (by decide) j) * MixRow.scale := by
  pointwise [k0_pay4]
  simp only [normed_at]
  rfl

theorem key_at (j : Fin 768) : k0_pay5 x0 x1 (cut x2 768 768 (by decide)) (ix2 p j)
    = MixRow.proj (row x0 p) (flat x1) (weight x2) (MixRow.col 768 (by decide) j) := by
  pointwise [k0_pay5]
  simp only [normed_at]
  rfl

theorem value_at (j : Fin 768) : k0_pay6 x0 x1 (cut x2 1536 768 (by decide)) (ix2 p j)
    = MixRow.proj (row x0 p) (flat x1) (weight x2) (MixRow.col 1536 (by decide) j) := by
  pointwise [k0_pay6]
  simp only [normed_at]
  rfl

theorem state_at (j : Fin 512) :
    k0_pay1 (k0_pay3 x0 x1) (cut x2 2304 512 (by decide)) (constant S512x512 .f32 0x00000000#32) (ix2 p j)
      = MixRow.proj (row x0 p) (flat x1) (weight x2) (MixRow.col 2304 (by decide) j) := by
  pointwise [k0_pay1]
  simp only [normed_at]
  rfl

theorem gate_at (j : Fin 2048) : k0_pay2 (k0_pay3 x0 x1) (cut x2 2816 2048 (by decide)) x3 (ix2 p j)
    = FfnRow.gate (MixRow.proj (row x0 p) (flat x1) (weight x2) (MixRow.col 2816 (by decide) j) + x3 (ix2 0 j)) := by
  pointwise [k0_pay2]
  simp only [normed_at, zero_sub]
  rfl

theorem out4 : out0_4 x0 x1 x2 x3 = k0_pay4 x0 x1 (cut x2 0 768 (by decide)) := by
  unfold_out out0_4
  frame_out
  exact congrArg _ (ld_cut ..)

theorem out5 : out0_5 x0 x1 x2 x3 = k0_pay5 x0 x1 (cut x2 768 768 (by decide)) := by
  unfold_out out0_5
  frame_out
  exact congrArg _ (ld_cut ..)

theorem out6 : out0_6 x0 x1 x2 x3 = k0_pay6 x0 x1 (cut x2 1536 768 (by decide)) := by
  unfold_out out0_6
  frame_out
  exact congrArg _ (ld_cut ..)

theorem out7 : out0_7 x0 x1 x2 x3
    = k0_pay1 (k0_pay3 x0 x1) (cut x2 2304 512 (by decide)) (constant S512x512 .f32 0x00000000#32) := by
  unfold_out out0_7
  frame_out
  exact congrArg (k0_pay1 (k0_pay3 x0 x1) · _) (ld_cut ..)

theorem out8 : out0_8 x0 x1 x2 x3 = k0_pay2 (k0_pay3 x0 x1) (cut x2 2816 2048 (by decide)) x3 := by
  unfold_out out0_8
  frame_out
  exact congrArg (k0_pay2 (k0_pay3 x0 x1) · _) (ld_cut ..)

end Rows

variable (m : (ℓ : Loc nD τ sig) → Buf (Elt Ideal) ℓ) (c : Dev nD)

/-- The four arguments on device `c`. -/
abbrev a0 : FfnArr.Rows := m ((c : Thread nD τ).loc main_arg0)
abbrev a1 : FfnArr.Gain := m ((c : Thread nD τ).loc main_arg1)
abbrev a2 : ProjRow.Weight := m ((c : Thread nD τ).loc main_arg2)
abbrev a3 : MixRow.Bias := m ((c : Thread nD τ).loc main_arg3)

section Points

variable (t : Fin cfg0.N)

/-- Where each window's block lies at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- Row `p` of a point's block is this row of the array. -/
def place (p : Fin 512) : Fin 8192 := ⟨t.val * 512 + p.val, by have h : t.val < 16 := t.isLt; omega⟩

theorem row0 (p : Fin 512) : row (iblk m c 0 t) p = FfnArr.row (a0 m c) (place t p) := by
  funext d
  unfold row FfnArr.row place
  blk_ext [iblk, V, idx t]

theorem flat1 : flat (iblk m c 1 t) = FfnArr.flat (a1 m c) := by
  funext d
  unfold flat FfnArr.flat
  blk_ext [iblk, V, idx t]

theorem weight2 : weight (iblk m c 2 t) = ProjRow.weight (a2 m c) := by
  funext d k
  unfold weight ProjRow.weight
  blk_ext [iblk, V, idx t]

theorem bias3 (j : Fin 2048) : iblk m c 3 t (ix2 0 j) = a3 m c (ix2 0 j) := by
  unfold a3
  blk_ext [iblk, V, idx t]

/-- The five output blocks at a point. -/
theorem point4 (p : Fin 512) (j : Fin 768) : out0_4 (iblk m c 0 t) (iblk m c 1 t) (iblk m c 2 t) (iblk m c 3 t) (ix2 p j)
    = MixRow.queryAt (a0 m c) (a1 m c) (a2 m c) (place t p) j := by
  rw [out4, query_at, row0, flat1, weight2]
  rfl

theorem point5 (p : Fin 512) (j : Fin 768) : out0_5 (iblk m c 0 t) (iblk m c 1 t) (iblk m c 2 t) (iblk m c 3 t) (ix2 p j)
    = MixRow.projAt (a0 m c) (a1 m c) (a2 m c) (place t p) (MixRow.col 768 (by decide) j) := by
  rw [out5, key_at, row0, flat1, weight2]
  rfl

theorem point6 (p : Fin 512) (j : Fin 768) : out0_6 (iblk m c 0 t) (iblk m c 1 t) (iblk m c 2 t) (iblk m c 3 t) (ix2 p j)
    = MixRow.projAt (a0 m c) (a1 m c) (a2 m c) (place t p) (MixRow.col 1536 (by decide) j) := by
  rw [out6, value_at, row0, flat1, weight2]
  rfl

theorem point7 (p : Fin 512) (j : Fin 512) : out0_7 (iblk m c 0 t) (iblk m c 1 t) (iblk m c 2 t) (iblk m c 3 t) (ix2 p j)
    = MixRow.projAt (a0 m c) (a1 m c) (a2 m c) (place t p) (MixRow.col 2304 (by decide) j) := by
  rw [out7, state_at, row0, flat1, weight2]
  rfl

theorem point8 (p : Fin 512) (j : Fin 2048) : out0_8 (iblk m c 0 t) (iblk m c 1 t) (iblk m c 2 t) (iblk m c 3 t) (ix2 p j)
    = MixRow.gateAt (a0 m c) (a1 m c) (a2 m c) (a3 m c) (place t p) j := by
  rw [out8, gate_at, row0, flat1, weight2, bias3]
  rfl

end Points

/-! ## The arrays -/

theorem whole4 : (dats m 0 c).arrAt 4 cfg0.N = MixRow.Query (a0 m c) (a1 m c) (a2 m c) := by
  refine (dats m 0 c).arrAt_eq_of_covers 4 _ (by decide +kernel) fun t hf y => ?_
  have e0 : ((((cfg0.win 4).blk t).view.emb y) 0 : ℕ) = t.val * 512 + (y 0 : ℕ) := by blk_simp [idx t]
  have e1 : ((((cfg0.win 4).blk t).view.emb y) 1 : ℕ) = (y 1 : ℕ) := by blk_simp [idx t]
  generalize ((cfg0.win 4).blk t).view.emb y = z at e0 e1 ⊢
  rw [after0_4]
  have h := point4 m c t
  generalize out0_4 (iblk m c 0 t) (iblk m c 1 t) (iblk m c 2 t) (iblk m c 3 t) = v at h ⊢
  refine (congrArg v (FfnArr.split2 y)).trans ((h (y 0) (y 1)).trans ?_)
  exact congrArg₂ (MixRow.queryAt _ _ _) (Fin.ext e0.symm) (Fin.ext e1.symm)

theorem whole5 : (dats m 0 c).arrAt 5 cfg0.N = MixRow.Part (a0 m c) (a1 m c) (a2 m c) 768 768 (by decide) := by
  refine (dats m 0 c).arrAt_eq_of_covers 5 _ (by decide +kernel) fun t hf y => ?_
  have e0 : ((((cfg0.win 5).blk t).view.emb y) 0 : ℕ) = t.val * 512 + (y 0 : ℕ) := by blk_simp [idx t]
  have e1 : ((((cfg0.win 5).blk t).view.emb y) 1 : ℕ) = (y 1 : ℕ) := by blk_simp [idx t]
  generalize ((cfg0.win 5).blk t).view.emb y = z at e0 e1 ⊢
  rw [after0_5]
  have h := point5 m c t
  generalize out0_5 (iblk m c 0 t) (iblk m c 1 t) (iblk m c 2 t) (iblk m c 3 t) = v at h ⊢
  refine (congrArg v (FfnArr.split2 y)).trans ((h (y 0) (y 1)).trans ?_)
  exact congrArg₂ (fun a b => MixRow.projAt (a0 m c) (a1 m c) (a2 m c) a (MixRow.col 768 (by decide) b)) (Fin.ext e0.symm) (Fin.ext e1.symm)

theorem whole6 : (dats m 0 c).arrAt 6 cfg0.N = MixRow.Part (a0 m c) (a1 m c) (a2 m c) 1536 768 (by decide) := by
  refine (dats m 0 c).arrAt_eq_of_covers 6 _ (by decide +kernel) fun t hf y => ?_
  have e0 : ((((cfg0.win 6).blk t).view.emb y) 0 : ℕ) = t.val * 512 + (y 0 : ℕ) := by blk_simp [idx t]
  have e1 : ((((cfg0.win 6).blk t).view.emb y) 1 : ℕ) = (y 1 : ℕ) := by blk_simp [idx t]
  generalize ((cfg0.win 6).blk t).view.emb y = z at e0 e1 ⊢
  rw [after0_6]
  have h := point6 m c t
  generalize out0_6 (iblk m c 0 t) (iblk m c 1 t) (iblk m c 2 t) (iblk m c 3 t) = v at h ⊢
  refine (congrArg v (FfnArr.split2 y)).trans ((h (y 0) (y 1)).trans ?_)
  exact congrArg₂ (fun a b => MixRow.projAt (a0 m c) (a1 m c) (a2 m c) a (MixRow.col 1536 (by decide) b)) (Fin.ext e0.symm) (Fin.ext e1.symm)

theorem whole7 : (dats m 0 c).arrAt 7 cfg0.N = MixRow.Part (a0 m c) (a1 m c) (a2 m c) 2304 512 (by decide) := by
  refine (dats m 0 c).arrAt_eq_of_covers 7 _ (by decide +kernel) fun t hf y => ?_
  have e0 : ((((cfg0.win 7).blk t).view.emb y) 0 : ℕ) = t.val * 512 + (y 0 : ℕ) := by blk_simp [idx t]
  have e1 : ((((cfg0.win 7).blk t).view.emb y) 1 : ℕ) = (y 1 : ℕ) := by blk_simp [idx t]
  generalize ((cfg0.win 7).blk t).view.emb y = z at e0 e1 ⊢
  rw [after0_7]
  have h := point7 m c t
  generalize out0_7 (iblk m c 0 t) (iblk m c 1 t) (iblk m c 2 t) (iblk m c 3 t) = v at h ⊢
  refine (congrArg v (FfnArr.split2 y)).trans ((h (y 0) (y 1)).trans ?_)
  exact congrArg₂ (fun a b => MixRow.projAt (a0 m c) (a1 m c) (a2 m c) a (MixRow.col 2304 (by decide) b)) (Fin.ext e0.symm) (Fin.ext e1.symm)

theorem whole8 : (dats m 0 c).arrAt 8 cfg0.N = MixRow.Gate (a0 m c) (a1 m c) (a2 m c) (a3 m c) := by
  refine (dats m 0 c).arrAt_eq_of_covers 8 _ (by decide +kernel) fun t hf y => ?_
  have e0 : ((((cfg0.win 8).blk t).view.emb y) 0 : ℕ) = t.val * 512 + (y 0 : ℕ) := by blk_simp [idx t]
  have e1 : ((((cfg0.win 8).blk t).view.emb y) 1 : ℕ) = (y 1 : ℕ) := by blk_simp [idx t]
  generalize ((cfg0.win 8).blk t).view.emb y = z at e0 e1 ⊢
  rw [after0_8]
  have h := point8 m c t
  generalize out0_8 (iblk m c 0 t) (iblk m c 1 t) (iblk m c 2 t) (iblk m c 3 t) = v at h ⊢
  refine (congrArg v (FfnArr.split2 y)).trans ((h (y 0) (y 1)).trans ?_)
  exact congrArg₂ (MixRow.gateAt _ _ _ _) (Fin.ext e0.symm) (Fin.ext e1.symm)

/-- The kernel runs, leaves the five arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = MixRow.Query (a0 m c) (a1 m c) (a2 m c)
      ∧ r.2.mem ((c : Thread nD τ).loc main_v0_1) = MixRow.Part (a0 m c) (a1 m c) (a2 m c) 768 768 (by decide)
      ∧ r.2.mem ((c : Thread nD τ).loc main_v0_2) = MixRow.Part (a0 m c) (a1 m c) (a2 m c) 1536 768 (by decide)
      ∧ r.2.mem ((c : Thread nD τ).loc main_v0_3) = MixRow.Part (a0 m c) (a1 m c) (a2 m c) 2304 512 (by decide)
      ∧ r.2.mem ((c : Thread nD τ).loc main_v0_4) = MixRow.Gate (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    have ⟨h0, h1, h2, h3, h4, hk⟩ := h c
    ⟨h0.trans (whole4 m c), h1.trans (whole5 m c), h2.trans (whole6 m c), h3.trans (whole7 m c), h4.trans (whole8 m c), hk⟩)
    (Value.run_blocks m ρ)

end Cert.MixWhole
-- ==== Proof.MixRef.lean ====
/-
  The reference of the input projection, read row by row: its five results are `MixRow.lean`'s arrays.
-/
module

public import proofs.«01_k».proof.Proof.MixRow
public import proofs.«01_k».proof.Proof.Gen.MixInFwdRefIdeal.Run

@[expose] public section

noncomputable section

namespace Cert.MixRef

open Cert.MixInFwdRefIdeal Cert.MixInFwdRefIdeal.Gen Idealize.ShloMosaic Idealize.ShloMosaic.TcCoe Idealize.ShloMosaic.StableHlo Idealize.SL.Sem

/-! ## The reference's intermediate arrays, as the program forms them -/

variable (v : Vec Ideal S8192x1024 .f32) (g : Vec Ideal S1x1024 .f32) (w : Vec Ideal S1024x4864 .bf16) (b : Vec Ideal S1x2048 .f32)

def hNormed : FVec Ideal S8192x1024 .f32 :=
  mulf (mulf v (broadcastInDim S8192x1024 ![0, 1] bcast_S8192x1_S8192x1024_0_1 (Host.rsqrt (addf (Host.divf (broadcastInDim S8192x1 ![0] bcast_S8192_S8192x1_0 (Host.reduceAdd (mulf v v) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)

def hProj : FVec Ideal S8192x4864 .f32 :=
  Host.dotGeneral dot_S8192x1024_S1024x4864_S8192x4864_1_0_0_1_n_n none (hNormed v g) (extf .f32 w bitsLt_bf16_f32)

def hQuery : FVec Ideal S8192x768 .bf16 :=
  truncf .bf16 (mulf (extractStridedSlice S8192x768 ![0, 0] (hProj v g w) slices_S8192x4864_S8192x768_0_0) (broadcastInDim S8192x768 ![] bcast_S_S8192x768 (constant S_ .f32 0x3E000000#32))) bitsLt_bf16_f32

def hKey : FVec Ideal S8192x768 .bf16 := truncf .bf16 (extractStridedSlice S8192x768 ![0, 768] (hProj v g w) slices_S8192x4864_S8192x768_0_768) bitsLt_bf16_f32

def hValue : FVec Ideal S8192x768 .bf16 := truncf .bf16 (extractStridedSlice S8192x768 ![0, 1536] (hProj v g w) slices_S8192x4864_S8192x768_0_1536) bitsLt_bf16_f32

def hState : FVec Ideal S8192x512 .f32 := extractStridedSlice S8192x512 ![0, 2304] (hProj v g w) slices_S8192x4864_S8192x512_0_2304

def hGate : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 2816] (hProj v g w) slices_S8192x4864_S8192x2048_0_2816) (broadcastInDim S8192x2048 ![0, 1] bcast_S1x2048_S8192x2048_0_1 b)))))

/-! ## The same arrays at an index -/

variable (r : Fin 8192)

theorem hNormed_at (d : Fin 1024) : hNormed v g (ix2 r d) = FfnRow.xhat (FfnArr.row v r) d * FfnArr.flat g d := by
  unfold hNormed
  pointwise
  rfl

theorem hProj_at (k : Fin 4864) : hProj v g w (ix2 r k) = MixRow.projAt v g w r k := by
  unfold hProj
  pointwise
  simp only [hNormed_at]
  rfl

/-- A run of the projected columns. -/
theorem cut_at (o n : ℕ) (h : o + n ≤ 4864) (hs : (⟨2, ![8192, 4864]⟩ : Shape).Slices ![0, o] ⟨2, ![8192, n]⟩) (j : Fin n) :
    extractStridedSlice ⟨2, ![8192, n]⟩ ![0, o] (hProj v g w) hs (ix2 r j) = MixRow.projAt v g w r (MixRow.col o h j) := by
  rw [← hProj_at]
  refine congrArg (hProj v g w) (funext fun a => Fin.ext ?_)
  match a with
  | 0 => exact Nat.zero_add _
  | 1 => rfl

theorem hQuery_at (j : Fin 768) : hQuery v g w (ix2 r j) = MixRow.queryAt v g w r j :=
  congrArg (· * MixRow.scale) (cut_at v g w r 0 768 (by decide) _ j)

theorem hKey_at (j : Fin 768) : hKey v g w (ix2 r j) = MixRow.projAt v g w r (MixRow.col 768 (by decide) j) :=
  cut_at v g w r 768 768 (by decide) slices_S8192x4864_S8192x768_0_768 j

theorem hValue_at (j : Fin 768) : hValue v g w (ix2 r j) = MixRow.projAt v g w r (MixRow.col 1536 (by decide) j) :=
  cut_at v g w r 1536 768 (by decide) slices_S8192x4864_S8192x768_0_1536 j

theorem hState_at (j : Fin 512) : hState v g w (ix2 r j) = MixRow.projAt v g w r (MixRow.col 2304 (by decide) j) :=
  cut_at v g w r 2304 512 (by decide) _ j

theorem hGate_at (j : Fin 2048) : hGate v g w b (ix2 r j) = MixRow.gateAt v g w b r j := by
  have h := cut_at v g w r 2816 2048 (by decide) slices_S8192x4864_S8192x2048_0_2816 j
  unfold hGate MixRow.gateAt
  rw [← h]
  generalize extractStridedSlice S8192x2048 ![0, 2816] (hProj v g w) slices_S8192x4864_S8192x2048_0_2816 = z
  pointwise
  rfl

/-! ## The run -/

variable (m : (ℓ : Loc nD τ sig) → Buf (Elt Ideal) ℓ) (c : Dev nD)

/-- The four arguments. -/
abbrev a0 : FfnArr.Rows := m ((c : Thread nD τ).loc main_arg0)
abbrev a1 : FfnArr.Gain := m ((c : Thread nD τ).loc main_arg1)
abbrev a2 : ProjRow.Weight := m ((c : Thread nD τ).loc main_arg2)
abbrev a3 : MixRow.Bias := m ((c : Thread nD τ).loc main_arg3)

/-- The reference runs, leaves the five arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v21) = MixRow.Query (a0 m c) (a1 m c) (a2 m c)
      ∧ r.2.mem ((c : Thread nD τ).loc main_v22) = MixRow.Part (a0 m c) (a1 m c) (a2 m c) 768 768 (by decide)
      ∧ r.2.mem ((c : Thread nD τ).loc main_v23) = MixRow.Part (a0 m c) (a1 m c) (a2 m c) 1536 768 (by decide)
      ∧ r.2.mem ((c : Thread nD τ).loc main_v17) = MixRow.Part (a0 m c) (a1 m c) (a2 m c) 2304 512 (by decide)
      ∧ r.2.mem ((c : Thread nD τ).loc main_v31) = MixRow.Gate (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    have ⟨h0, h1, h2, h3, h4, hk⟩ := h c
    ⟨h0.trans (funext fun i => (congrArg (hQuery (a0 m c) (a1 m c) (a2 m c)) (FfnArr.split2 i)).trans (hQuery_at ..)),
      h1.trans (funext fun i => (congrArg (hKey (a0 m c) (a1 m c) (a2 m c)) (FfnArr.split2 i)).trans (hKey_at ..)),
      h2.trans (funext fun i => (congrArg (hValue (a0 m c) (a1 m c) (a2 m c)) (FfnArr.split2 i)).trans (hValue_at ..)),
      h3.trans (funext fun i => (congrArg (hState (a0 m c) (a1 m c) (a2 m c)) (FfnArr.split2 i)).trans (hState_at ..)),
      h4.trans (funext fun i => (congrArg (hGate (a0 m c) (a1 m c) (a2 m c) (a3 m c)) (FfnArr.split2 i)).trans (hGate_at ..)),
      hk⟩) (Value.run (F := Ideal) m ρ)

end Cert.MixRef
-- ==== Proof.ProjWhole.lean ====
/-
  The backward kernel of the input projection: what each grid point leaves, read at a row, and its three results whole.
-/
module

public import proofs.«01_k».proof.Proof.ProjRow
public import proofs.«01_k».proof.Proof.Gen.MixInBwdIdeal.Value
public import Idealize.ShloMosaic.Lib.Pipeline.ValueKit
public import Idealize.ShloMosaic.Lib.Pipeline.ReadBack

@[expose] public section

noncomputable section

namespace Cert.ProjWhole

open Cert.MixInBwdIdeal Cert.MixInBwdIdeal.Gen Idealize.ShloMosaic Idealize.ShloMosaic.TcCoe Idealize.SL.Sem

/-! ## A block of 512 rows, row by row -/

section Rows

variable (x0 x1 : Vec Ideal S512x1024 .f32) (x2 : Vec Ideal S1x1024 .f32) (x3 : Vec Ideal S512x4864 .bf16)
  (x4 : Vec Ideal S1024x4864 .bf16) (p : Fin 512)

/-- Row `p` of a block, of the projected columns' block, and the gain and the weight by their coordinates. -/
abbrev row (x : Vec Ideal S512x1024 .f32) (p : Fin 512) : Fin 1024 → EReal := fun d => x (ix2 p d)
abbrev cols (x : Vec Ideal S512x4864 .bf16) (p : Fin 512) : Fin 4864 → EReal := fun k => x (ix2 p k)
abbrev flat (x : Vec Ideal S1x1024 .f32) : Fin 1024 → EReal := fun d => x (ix2 0 d)
abbrev weight (x : Vec Ideal S1024x4864 .bf16) : Fin 1024 → Fin 4864 → EReal := fun d k => x (ix2 d k)

theorem rinv_at : k0_pay2 x1 (ix2 p 0) = FfnRow.rinv (row x1 p) := by
  pointwise [k0_pay2]
  rfl

theorem xhat_at (d : Fin 1024) : k0_pay3 x1 (ix2 p d) = FfnRow.xhat (row x1 p) d := by
  pointwise [k0_pay3]
  rw [rinv_at]
  rfl

theorem normed_at (d : Fin 1024) : k0_pay4 x2 x1 (ix2 p d) = FfnRow.xhat (row x1 p) d * flat x2 d := by
  pointwise [k0_pay4]
  rw [xhat_at]

theorem dh_at (d : Fin 1024) : k0_pay5 x3 x4 (ix2 p d) = ProjRow.dh (cols x3 p) (weight x4) d := by
  pointwise [k0_pay5]
  rfl

theorem back_at (d : Fin 1024) :
    k0_pay1 (k0_pay2 x1) (k0_pay3 x1) x0 (k0_pay8 x2 x3 x4) (k0_pay9 x2 x1 x3 x4) (ix2 p d)
      = ProjRow.dx (row x0 p) (row x1 p) (flat x2) (cols x3 p) (weight x4) d := by
  pointwise [k0_pay1, k0_pay8, k0_pay9]
  simp only [xhat_at, rinv_at, dh_at]
  rfl

theorem gain_at (acc : Vec Ideal S1x1024 .f32) (d : Fin 1024) : k0_pay7 x1 x3 x4 acc (ix2 0 d)
    = acc (ix2 0 d) + ∑ q, ProjRow.dg (row x1 q) (cols x3 q) (weight x4) d := by
  pointwise [k0_pay7]
  simp only [xhat_at, dh_at]
  rfl

end Rows

variable (m : (ℓ : Loc nD τ sig) → Buf (Elt Ideal) ℓ) (c : Dev nD)

/-- The five arguments on device `c`. -/
abbrev a0 : FfnArr.Rows := m ((c : Thread nD τ).loc main_arg0)
abbrev a1 : FfnArr.Rows := m ((c : Thread nD τ).loc main_arg1)
abbrev a2 : FfnArr.Gain := m ((c : Thread nD τ).loc main_arg2)
abbrev a3 : ProjRow.Cols := m ((c : Thread nD τ).loc main_arg3)
abbrev a4 : ProjRow.Weight := m ((c : Thread nD τ).loc main_arg4)

section Points

variable (t : Fin cfg0.N)

/-- Where each window's block lies at a point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0]
    ∧ win0_6.index t = ![t.val, 0] ∧ win0_7.index t = ![0, 0] :=
  (by decide +kernel : ∀ t : Fin grid0.N, _)

/-- Row `p` of a point's block is this row of the array. -/
def place (p : Fin 512) : Fin 8192 := ⟨t.val * 512 + p.val, by have h : t.val < 16 := t.isLt; omega⟩

theorem row0 (p : Fin 512) : row (iblk m c 0 t) p = FfnArr.row (a0 m c) (place t p) := by
  funext d
  unfold row FfnArr.row place
  blk_ext [iblk, V, idx t]

theorem row1 (p : Fin 512) : row (iblk m c 1 t) p = FfnArr.row (a1 m c) (place t p) := by
  funext d
  unfold row FfnArr.row place
  blk_ext [iblk, V, idx t]

theorem flat2 : flat (iblk m c 2 t) = FfnArr.flat (a2 m c) := by
  funext d
  unfold flat FfnArr.flat
  blk_ext [iblk, V, idx t]

theorem cols3 (p : Fin 512) : cols (iblk m c 3 t) p = ProjRow.cols (a3 m c) (place t p) := by
  funext k
  unfold cols ProjRow.cols place
  blk_ext [iblk, V, idx t]

theorem weight4 : weight (iblk m c 4 t) = ProjRow.weight (a4 m c) := by
  funext d k
  unfold weight ProjRow.weight
  blk_ext [iblk, V, idx t]

/-- The first two output blocks at a point. -/
theorem point5 (p : Fin 512) (d : Fin 1024) : (outsAt0 m c t.val t.isLt).1 (ix2 p d)
    = ProjRow.dxAt (a0 m c) (a1 m c) (a2 m c) (a3 m c) (a4 m c) (place t p) d := by
  have e : (outsAt0 m c t.val t.isLt).1 = k0_pay1 (k0_pay2 (iblk m c 1 t)) (k0_pay3 (iblk m c 1 t)) (iblk m c 0 t)
      (k0_pay8 (iblk m c 2 t) (iblk m c 3 t) (iblk m c 4 t))
      (k0_pay9 (iblk m c 2 t) (iblk m c 1 t) (iblk m c 3 t) (iblk m c 4 t)) := by
    by_cases h : t.val % 16 = 0
    · rw [outsAt0_A m c t h]
      frame_out
    · rw [outsAt0_B m c t h]
      frame_out
  rw [e, back_at, row0, row1, flat2, cols3, weight4]
  rfl

theorem point6 (p : Fin 512) (d : Fin 1024) :
    (outsAt0 m c t.val t.isLt).2.1 (ix2 p d) = FfnArr.normed (a1 m c) (a2 m c) (place t p) d := by
  have e : (outsAt0 m c t.val t.isLt).2.1 = k0_pay4 (iblk m c 2 t) (iblk m c 1 t) := by
    by_cases h : t.val % 16 = 0
    · rw [outsAt0_A m c t h]
      frame_out
    · rw [outsAt0_B m c t h]
      frame_out
  rw [e, normed_at, row1, flat2]
  rfl

/-- What a point adds to the gain's gradient. -/
def adds (d : Fin 1024) : EReal :=
  ∑ q : Fin 512, ProjRow.dg (FfnArr.row (a1 m c) (place t q)) (ProjRow.cols (a3 m c) (place t q)) (ProjRow.weight (a4 m c)) d

theorem gain_step (acc : Vec Ideal S1x1024 .f32) (d : Fin 1024) :
    k0_pay7 (iblk m c 1 t) (iblk m c 3 t) (iblk m c 4 t) acc (ix2 0 d) = acc (ix2 0 d) + adds m c t d := by
  refine (gain_at ..).trans (congrArg _ (Finset.sum_congr rfl fun q _ => ?_))
  rw [row1, cols3, weight4]

theorem point7_first (h : t.val % 16 = 0) (d : Fin 1024) :
    (outsAt0 m c t.val t.isLt).2.2 (ix2 0 d) = 0 + adds m c t d := by
  have e : (outsAt0 m c t.val t.isLt).2.2 = k0_pay7 (iblk m c 1 t) (iblk m c 3 t) (iblk m c 4 t) (k0_pay6 (F := Ideal)) := by
    rw [outsAt0_A m c t h]
    frame_out
  rw [e, gain_step]
  exact congrArg (· + _) (by pointwise [k0_pay6])

theorem point7_later (h : ¬t.val % 16 = 0) (d : Fin 1024) : (outsAt0 m c t.val t.isLt).2.2 (ix2 0 d)
    = (outsAt0 m c (t.val - 1) (Nat.lt_of_le_of_lt (Nat.sub_le _ _) t.isLt)).2.2 (ix2 0 d) + adds m c t d := by
  have e : (outsAt0 m c t.val t.isLt).2.2 = k0_pay7 (iblk m c 1 t) (iblk m c 3 t) (iblk m c 4 t)
      (outsAt0 m c (t.val - 1) (Nat.lt_of_le_of_lt (Nat.sub_le _ _) t.isLt)).2.2 := by
    rw [outsAt0_B m c t h]
    frame_out
  rw [e, gain_step]

/-- After the last point: the sum over all rows. -/
theorem point7 (ht : t.val + 1 = cfg0.N) (d : Fin 1024) :
    (outsAt0 m c t.val t.isLt).2.2 (ix2 0 d) = ProjRow.dgAt (a1 m c) (a3 m c) (a4 m c) d := by
  have h := Pipeline.eq_sum_fin_of_reset_step_apply_last (ι := Fin 1024) (M := EReal)
    (fun n hn d => (outsAt0 m c n hn).2.2 (ix2 0 d)) 16 (fun _ => 0) (fun t d => adds m c t d)
    (fun t h d => point7_first m c t h d) (fun t h d => point7_later m c t h d) (by decide) t ht d
  refine h.trans ((zero_add _).trans ?_)
  unfold adds ProjRow.dgAt
  exact Fin.sum_mul_add_congr (L := 8192) (S := 16) (n := 512) fun _ _ _ => rfl

end Points

/-! ## The arrays -/

theorem whole5 : (dats m 0 c).arrAt 5 cfg0.N = ProjRow.Dx (a0 m c) (a1 m c) (a2 m c) (a3 m c) (a4 m c) := by
  refine (dats m 0 c).arrAt_eq_of_covers 5 _ (by decide +kernel) fun t hf y => ?_
  have e0 : ((((cfg0.win 5).blk t).view.emb y) 0 : ℕ) = t.val * 512 + (y 0 : ℕ) := by blk_simp [idx t]
  have e1 : ((((cfg0.win 5).blk t).view.emb y) 1 : ℕ) = (y 1 : ℕ) := by blk_simp [idx t]
  generalize ((cfg0.win 5).blk t).view.emb y = z at e0 e1 ⊢
  rw [after0_5]
  refine (congrArg (outsAt0 m c t.val t.isLt).1 (FfnArr.split2 y)).trans ((point5 m c t (y 0) (y 1)).trans ?_)
  exact congrArg₂ (ProjRow.dxAt _ _ _ _ _) (Fin.ext e0.symm) (Fin.ext e1.symm)

theorem whole6 : (dats m 0 c).arrAt 6 cfg0.N = FfnArr.Normed (a1 m c) (a2 m c) := by
  refine (dats m 0 c).arrAt_eq_of_covers 6 _ (by decide +kernel) fun t hf y => ?_
  have e0 : ((((cfg0.win 6).blk t).view.emb y) 0 : ℕ) = t.val * 512 + (y 0 : ℕ) := by blk_simp [idx t]
  have e1 : ((((cfg0.win 6).blk t).view.emb y) 1 : ℕ) = (y 1 : ℕ) := by blk_simp [idx t]
  generalize ((cfg0.win 6).blk t).view.emb y = z at e0 e1 ⊢
  rw [after0_6]
  refine (congrArg (outsAt0 m c t.val t.isLt).2.1 (FfnArr.split2 y)).trans ((point6 m c t (y 0) (y 1)).trans ?_)
  exact congrArg₂ (FfnArr.normed (a1 m c) (a2 m c)) (Fin.ext e0.symm) (Fin.ext e1.symm)

/-- One block that every point holds, written back after the last. -/
theorem whole7 : (dats m 0 c).arrAt 7 cfg0.N = ProjRow.Dg (a1 m c) (a3 m c) (a4 m c) := by
  refine (dats m 0 c).arrAt_eq_of_covers 7 _ (by decide +kernel) fun t hf y => ?_
  have e1 : ((((cfg0.win 7).blk t).view.emb y) 1 : ℕ) = (y 1 : ℕ) := by blk_simp [idx t]
  generalize ((cfg0.win 7).blk t).view.emb y = z at e1 ⊢
  have ht : t.val + 1 = cfg0.N := by
    have h1 := (flush0_7 t).mp hf
    have h2 : t.val < 16 := t.isLt
    show t.val + 1 = 16
    omega
  rw [after0_7]
  refine (congrArg (outsAt0 m c t.val t.isLt).2.2 (FfnArr.split1 y)).trans ((point7 m c t ht (y 1)).trans ?_)
  exact congrArg (ProjRow.dgAt _ _ _) (Fin.ext e1.symm)

/-- The kernel runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = ProjRow.Dx (a0 m c) (a1 m c) (a2 m c) (a3 m c) (a4 m c)
      ∧ r.2.mem ((c : Thread nD τ).loc main_v0_1) = FfnArr.Normed (a1 m c) (a2 m c)
      ∧ r.2.mem ((c : Thread nD τ).loc main_v0_2) = ProjRow.Dg (a1 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    have ⟨h0, h1, h2, hk⟩ := h c
    ⟨h0.trans (whole5 m c), h1.trans (whole6 m c), h2.trans (whole7 m c), hk⟩) (Value.run_blocks m ρ)

end Cert.ProjWhole
-- ==== Proof.ProjRef.lean ====
/-
  The reference of the input projection's backward layer, read row by row: its three results are `ProjRow.lean`'s arrays.
-/
module

public import proofs.«01_k».proof.Proof.ProjRow
public import proofs.«01_k».proof.Proof.Gen.MixInBwdRefIdeal.Run

@[expose] public section

noncomputable section

namespace Cert.ProjRef

open Cert.MixInBwdRefIdeal Cert.MixInBwdRefIdeal.Gen Idealize.ShloMosaic Idealize.ShloMosaic.TcCoe Idealize.ShloMosaic.StableHlo Idealize.SL.Sem

/-! ## The reference's intermediate arrays, as the program forms them -/

variable (u v : Vec Ideal S8192x1024 .f32) (g : Vec Ideal S1x1024 .f32) (z : Vec Ideal S8192x4864 .bf16)
  (w : Vec Ideal S1024x4864 .bf16)

def hRinv : FVec Ideal S8192x1 .f32 :=
  Host.rsqrt (addf (Host.divf (broadcastInDim S8192x1 ![0] bcast_S8192_S8192x1_0 (Host.reduceAdd (mulf v v) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))

def hXhat : FVec Ideal S8192x1024 .f32 :=
  mulf v (broadcastInDim S8192x1024 ![0, 1] bcast_S8192x1_S8192x1024_0_1 (hRinv v))

def hGain : FVec Ideal S8192x1024 .f32 := broadcastInDim S8192x1024 ![0, 1] bcast_S1x1024_S8192x1024_0_1 g

def hDh : FVec Ideal S8192x1024 .f32 :=
  Host.dotGeneral dot_S8192x4864_S1024x4864_S8192x1024_1_1_0_0_n_n none (extf .f32 z bitsLt_bf16_f32) (extf .f32 w bitsLt_bf16_f32)

def hMean : FVec Ideal S8192x1 .f32 :=
  Host.divf (broadcastInDim S8192x1 ![0] bcast_S8192_S8192x1_0 (Host.reduceAdd (mulf (mulf (hDh z w) (hGain g)) (hXhat v)) (constant S_ .f32 0x00000000#32) reducesTo_S8192x1024_S8192_d1 h_S_)) (broadcastInDim S8192x1 ![] bcast_S_S8192x1 (constant S_ .f32 0x44800000#32))

def hDx : FVec Ideal S8192x1024 .f32 :=
  addf u (mulf (broadcastInDim S8192x1024 ![0, 1] bcast_S8192x1_S8192x1024_0_1 (hRinv v)) (subf (mulf (hDh z w) (hGain g))
    (mulf (hXhat v) (broadcastInDim S8192x1024 ![0, 1] bcast_S8192x1_S8192x1024_0_1 (hMean v g z w)))))

def hNormed : FVec Ideal S8192x1024 .bf16 := truncf .bf16 (mulf (hXhat v) (hGain g)) bitsLt_bf16_f32

def hDg : FVec Ideal S1x1024 .f32 :=
  broadcastInDim S1x1024 ![1] bcast_S1024_S1x1024_1 (Host.reduceAdd (mulf (hDh z w) (hXhat v)) (constant S_ .f32 0x00000000#32) reducesTo_S8192x1024_S1024_d0 h_S_)

/-! ## The same arrays at an index -/

variable (r : Fin 8192) (d : Fin 1024)

theorem hRinv_at : hRinv v (ix2 r 0) = FfnRow.rinv (FfnArr.row v r) := by
  unfold hRinv
  pointwise
  rfl

theorem hXhat_at : hXhat v (ix2 r d) = FfnRow.xhat (FfnArr.row v r) d := by
  unfold hXhat
  pointwise
  rw [hRinv_at]
  rfl

theorem hGain_at : hGain g (ix2 r d) = FfnArr.flat g d := by
  unfold hGain
  pointwise
  rfl

theorem hDh_at : hDh z w (ix2 r d) = ProjRow.dh (ProjRow.cols z r) (ProjRow.weight w) d := by
  unfold hDh
  pointwise
  rfl

theorem hMean_at : hMean v g z w (ix2 r 0) = Ideal.div (∑ k, ProjRow.dh (ProjRow.cols z r) (ProjRow.weight w) k
    * FfnArr.flat g k * FfnRow.xhat (FfnArr.row v r) k) FfnRow.width := by
  unfold hMean
  pointwise
  simp only [hDh_at, hGain_at, hXhat_at]
  rfl

theorem hDx_at : hDx u v g z w (ix2 r d) = ProjRow.dxAt u v g z w r d := by
  unfold hDx
  pointwise
  simp only [hDh_at, hGain_at, hXhat_at, hRinv_at, hMean_at]
  rfl

theorem hNormed_at : hNormed v g (ix2 r d) = FfnArr.normed v g r d := by
  unfold hNormed
  pointwise
  simp only [hGain_at, hXhat_at]
  rfl

theorem hDg_at : hDg v z w (ix2 0 d) = ProjRow.dgAt v z w d := by
  unfold hDg
  pointwise
  simp only [hDh_at, hXhat_at]
  rfl

/-! ## The run -/

variable (m : (ℓ : Loc nD τ sig) → Buf (Elt Ideal) ℓ) (c : Dev nD)

/-- The five arguments. -/
abbrev a0 : FfnArr.Rows := m ((c : Thread nD τ).loc main_arg0)
abbrev a1 : FfnArr.Rows := m ((c : Thread nD τ).loc main_arg1)
abbrev a2 : FfnArr.Gain := m ((c : Thread nD τ).loc main_arg2)
abbrev a3 : ProjRow.Cols := m ((c : Thread nD τ).loc main_arg3)
abbrev a4 : ProjRow.Weight := m ((c : Thread nD τ).loc main_arg4)

/-- The reference runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v25) = ProjRow.Dx (a0 m c) (a1 m c) (a2 m c) (a3 m c) (a4 m c)
      ∧ r.2.mem ((c : Thread nD τ).loc main_v28) = FfnArr.Normed (a1 m c) (a2 m c)
      ∧ r.2.mem ((c : Thread nD τ).loc main_v31) = ProjRow.Dg (a1 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    have ⟨h0, h1, h2, hk⟩ := h c
    ⟨h0.trans (funext fun i => (congrArg (hDx (a0 m c) (a1 m c) (a2 m c) (a3 m c) (a4 m c)) (FfnArr.split2 i)).trans (hDx_at ..)),
      h1.trans (funext fun i => (congrArg (hNormed (a1 m c) (a2 m c)) (FfnArr.split2 i)).trans (hNormed_at ..)),
      h2.trans (funext fun i => (congrArg (hDg (a1 m c) (a3 m c) (a4 m c)) (FfnArr.split1 i)).trans (hDg_at ..)),
      hk⟩) (Value.run (F := Ideal) m ρ)

end Cert.ProjRef
-- ==== Proof.AttnRow.lean ====
/-
  Windowed attention over blocks of 128 rows, four heads of 64 columns, over the extended reals.

  A row looks at 256 keys: the rows of the block before and those of its own block.  Of the 8192 rows the attention with
  dilation `d` takes every `d`-th, from row `r` on; `n` counts the blocks of those.
-/
module

public import proofs.«01_k».proof.Proof.FfnArr
public import Idealize.ShloMosaic.Lib.IdealHost
public import Idealize.ShloMosaic.Lib.WordArith

@[expose] public section

noncomputable section

namespace Cert.AttnRow

open Idealize.ShloMosaic

/-! ## One block -/

/-- Row `p` of block `n` sees key `j`: at most 128 rows back, and none before the first row. -/
def Near (n p j : ℕ) : Prop := j ≤ p + 128 ∧ p ≤ j ∧ (0 < n ∨ 128 ≤ j)

instance (n p j : ℕ) : Decidable (Near n p j) := by unfold Near; infer_instance

/-- Column `c` of head `h`, and the head of a column. -/
def col (h : Fin 4) (c : Fin 64) : Fin 256 := ⟨h.val * 64 + c.val, by omega⟩
def head (e : Fin 256) : Fin 4 := ⟨e.val / 64, by omega⟩

theorem head_col (h : Fin 4) (c : Fin 64) : head (col h c) = h := Fin.ext (by simp only [head, col]; omega)

/-- The logit of a pair that does not see one another, and the least start of a maximum. -/
def far : EReal := Ideal.ofBits .f32 0xF149F2CA#32
def low : EReal := Ideal.ofBits .f32 0xFF800000#32

section

variable (n : ℕ) (q : Fin 128 → Fin 256 → EReal) (k v : Fin 256 → Fin 256 → EReal)
  (b : Fin 4 → Fin 128 → Fin 256 → EReal)

def logit (h : Fin 4) (p : Fin 128) (j : Fin 256) : EReal :=
  if Near n p.val j.val then (∑ c, q p (col h c) * k j (col h c)) + b h p j else far

def top (h : Fin 4) (p : Fin 128) : EReal := Finset.univ.fold max low fun j => logit n q k b h p j

def weight (h : Fin 4) (p : Fin 128) (j : Fin 256) : EReal := Ideal.exp (logit n q k b h p j - top n q k b h p)

def den (h : Fin 4) (p : Fin 128) : EReal := ∑ j, weight n q k b h p j

/-- The attention of row `p` at column `e`. -/
def out (p : Fin 128) (e : Fin 256) : EReal :=
  Ideal.div (∑ j, weight n q k b (head e) p j * v j e) (den n q k b (head e) p)

/-- The logarithm of the sum of the exponentials of the row's logits, of the column's head. -/
def lse (p : Fin 128) (e : Fin 256) : EReal := top n q k b (head e) p + Ideal.log (den n q k b (head e) p)

end

/-- A sum over all columns that counts those of one head is a sum over the head's. -/
theorem sum_head (h : Fin 4) (f : Fin 256 → EReal) :
    (∑ e : Fin 256, if head e = h then f e else 0) = ∑ c, f (col h c) := by
  rw [← Finset.sum_filter]
  symm
  refine Finset.sum_bij (fun c _ => col h c) ?_ ?_ ?_ (fun _ _ => rfl)
  · intro c _
    simp only [Finset.mem_filter, Finset.mem_univ, true_and]
    apply Fin.ext
    simp only [head, col]
    omega
  · intro a _ c _ he
    have := congrArg Fin.val he
    simp only [col] at this
    apply Fin.ext
    omega
  · intro e he
    simp only [Finset.mem_filter, Finset.mem_univ, true_and] at he
    have := congrArg Fin.val he
    simp only [head] at this
    refine ⟨⟨e.val - h.val * 64, by omega⟩, Finset.mem_univ _, ?_⟩
    apply Fin.ext
    simp only [col]
    omega

/-! ## Words -/

/-- A small number's word, read with a sign. -/
theorem small (a : ℕ) (h : a < 1024) : (BitVec.ofNat 32 a).toInt = a := by
  rw [BitVec.toInt_eq_toNat_of_lt]
  · rw [BitVec.toNat_ofNat, Nat.mod_eq_of_lt (by omega)]
  · rw [BitVec.toNat_ofNat, Nat.mod_eq_of_lt (by omega)]
    omega

theorem add_small (a : ℕ) : IntOp.addi (BitVec.ofNat 32 a) 128#32 = BitVec.ofNat 32 (a + 128) :=
  (BitVec.ofNat_add a 128).symm

theorem sub_small (a b : ℕ) (ha : a < 512) (hb : b < 512) :
    (IntOp.subi (BitVec.ofNat 32 a) (BitVec.ofNat 32 b)).toInt = (a : ℤ) - b := by
  unfold IntOp.subi
  rw [BitVec.toInt_sub, small a (by omega), small b (by omega), Int.bmod_def]
  split <;> omega

/-- A bit that says whether `w` holds. -/
theorem bit_if (b : BitVec 1) (w : Prop) [Decidable w] (h : b = 1#1 ↔ w) : b = if w then 1#1 else 0#1 := by
  split
  · exact h.mpr ‹_›
  · exact (BitVec.eq_zero_or_eq_one b).resolve_right fun hb => absurd (h.mp hb) ‹_›

theorem select_if {α : Type} (w : Prop) [Decidable w] (x y : α) :
    Scalar.select (if w then 1#1 else 0#1) x y = if w then x else y := by
  split <;> rfl

/-- The two spellings of the mask: by the difference of the row and the key, and by comparing them. -/
theorem near_sub (n p j : ℕ) (hn : n < 64) (hp : p < 128) (hj : j < 256) :
    IntOp.andi
      (IntOp.andi (IntOp.cmpi .sge (IntOp.subi (IntOp.addi (BitVec.ofNat 32 p) 128#32) (BitVec.ofNat 32 j)) 0#32)
        (IntOp.cmpi .sle (IntOp.subi (IntOp.addi (BitVec.ofNat 32 p) 128#32) (BitVec.ofNat 32 j)) 128#32))
      (IntOp.ori (IntOp.cmpi .sgt (BitVec.ofNat 32 n) 0#32) (IntOp.cmpi .sge (BitVec.ofNat 32 j) 128#32))
    = if Near n p j then 1#1 else 0#1 := by
  have a1 := sub_small (p + 128) j (by omega) (by omega)
  have h0 : (0#32).toInt = 0 := by decide
  have h128 : (128#32).toInt = 128 := by decide
  refine bit_if _ _ ?_
  unfold Near
  simp only [IntOp.cmpi, WordArith.andi_ofBool, WordArith.ori_ofBool, WordArith.ofBool_eq_one_iff, Bool.and_eq_true,
    Bool.or_eq_true, BitVec.sle_iff_toInt_le, BitVec.slt_iff_toInt_lt, add_small, a1, h0, h128, small n (by omega),
    small j (by omega)]
  omega

theorem near_cmp (n p j : ℕ) (hn : n < 64) (hp : p < 128) (hj : j < 256) :
    IntOp.andi
      (IntOp.andi (IntOp.cmpi .sge (BitVec.ofNat 32 j) (BitVec.ofNat 32 p))
        (IntOp.cmpi .sle (BitVec.ofNat 32 j) (IntOp.addi (BitVec.ofNat 32 p) 128#32)))
      (IntOp.ori (IntOp.cmpi .sgt (BitVec.ofNat 32 n) 0#32) (IntOp.cmpi .sge (BitVec.ofNat 32 j) 128#32))
    = if Near n p j then 1#1 else 0#1 := by
  have h0 : (0#32).toInt = 0 := by decide
  have h128 : (128#32).toInt = 128 := by decide
  refine bit_if _ _ ?_
  unfold Near
  simp only [IntOp.cmpi, WordArith.andi_ofBool, WordArith.ori_ofBool, WordArith.ofBool_eq_one_iff, Bool.and_eq_true,
    Bool.or_eq_true, BitVec.sle_iff_toInt_le, BitVec.slt_iff_toInt_lt, add_small, h0, h128, small n (by omega),
    small j (by omega), small p (by omega), small (p + 128) (by omega)]
  omega

/-! ## The whole arrays -/

abbrev Arr (a b : ℕ) := (⟨2, ![a, b]⟩ : Shape).Idx → EReal

abbrev Bias := (⟨3, ![4, 128, 256]⟩ : Shape).Idx → EReal

/-- The array at a row and a column, by their numbers. -/
def rd (x : Arr 8192 768) (i j : ℕ) : EReal := x (ix2 (Fin.ofNat 8192 i) (Fin.ofNat 768 j))

theorem rd_eq (x : Arr 8192 768) (i : Fin 8192) (j : Fin 768) (a b : ℕ) (ha : i.val = a) (hb : j.val = b) :
    x (ix2 i j) = rd x a b := by
  subst ha hb
  unfold rd
  congr 2
  · exact Fin.ext (Nat.mod_eq_of_lt i.isLt).symm
  · exact Fin.ext (Nat.mod_eq_of_lt j.isLt).symm

section

variable (g d : ℕ)

/-- Block `n` of every `d`-th row, from `r` on, at the columns of group `g`. -/
def block (x : Arr 8192 768) (r n : ℕ) (p : Fin 128) (e : Fin 256) : EReal :=
  rd x ((n * 128 + p.val) * d + r) (256 * g + e.val)

/-- The block before, of the first block itself, then the block. -/
def two (x : Arr 8192 768) (r n : ℕ) (j : Fin 256) (e : Fin 256) : EReal :=
  if h : j.val < 128 then block g d x r (n - 1) ⟨j.val, h⟩ e else block g d x r n ⟨j.val - 128, by omega⟩ e

def bias (b : Bias) (h : Fin 4) (p : Fin 128) (j : Fin 256) : EReal := b (ix3 h p j)

variable (q k v : Arr 8192 768) (b : Bias)

def outAt (r n : ℕ) (p : Fin 128) (e : Fin 256) : EReal :=
  out n (block g d q r n) (two g d k r n) (two g d v r n) (bias b) p e

def lseAt (r n : ℕ) (p : Fin 128) (e : Fin 256) : EReal :=
  lse n (block g d q r n) (two g d k r n) (bias b) p e

/-- The results: row `128 n + p`, column `256 r + e`. -/
def Out {s t : ℕ} : Arr s t := fun i =>
  outAt g d q k v b ((i 1).val / 256) ((i 0).val / 128) ⟨(i 0).val % 128, Nat.mod_lt _ (by decide)⟩
    ⟨(i 1).val % 256, Nat.mod_lt _ (by decide)⟩

def Lse {s t : ℕ} : Arr s t := fun i =>
  lseAt g d q k b ((i 1).val / 256) ((i 0).val / 128) ⟨(i 0).val % 128, Nat.mod_lt _ (by decide)⟩
    ⟨(i 1).val % 256, Nat.mod_lt _ (by decide)⟩

variable {s t : ℕ} (z : (⟨2, ![s, t]⟩ : Shape).Idx) (r n : ℕ) (p : Fin 128) (e : Fin 256)
  (h0 : (z 0).val = n * 128 + p.val) (h1 : (z 1).val = r * 256 + e.val)

include h0 h1

theorem Out_at : Out g d q k v b z = outAt g d q k v b r n p e := by
  have e0 : (z 0).val / 128 = n := by omega
  have e1 : (z 1).val / 256 = r := by omega
  have ep : (⟨(z 0).val % 128, Nat.mod_lt _ (by decide)⟩ : Fin 128) = p := Fin.ext (by simp only []; omega)
  have ee : (⟨(z 1).val % 256, Nat.mod_lt _ (by decide)⟩ : Fin 256) = e := Fin.ext (by simp only []; omega)
  unfold Out
  rw [e0, e1, ep, ee]

theorem Lse_at : Lse g d q k b z = lseAt g d q k b r n p e := by
  have e0 : (z 0).val / 128 = n := by omega
  have e1 : (z 1).val / 256 = r := by omega
  have ep : (⟨(z 0).val % 128, Nat.mod_lt _ (by decide)⟩ : Fin 128) = p := Fin.ext (by simp only []; omega)
  have ee : (⟨(z 1).val % 256, Nat.mod_lt _ (by decide)⟩ : Fin 256) = e := Fin.ext (by simp only []; omega)
  unfold Lse
  rw [e0, e1, ep, ee]

end

end Cert.AttnRow
-- ==== Proof.AttnBlock.lean ====
/-
  The attention kernel's body over a block, head by head, and what it leaves at a row and a column.
-/
module

public import proofs.«01_k».proof.Proof.AttnRow
public import proofs.«01_k».proof.Proof.Gen.Attn0Ideal.Value
public import Idealize.ShloMosaic.Lib.Pipeline.ValueKit
public import Idealize.ShloMosaic.Lib.Pipeline.ReadBack

@[expose] public section

noncomputable section

namespace Cert.AttnBlock

open Cert.Attn0Ideal Cert.Attn0Ideal.Gen Idealize.ShloMosaic Idealize.ShloMosaic.TcCoe

/-! ## The two words of a row and a column: whether they see one another, and the column's head -/

/-- The mask at block `n`. -/
def mask (n : BitVec 32) : IVec S128x256 1 :=
  andi
    (andi
      (cmpi .sge (subi (addi (iota .tc S128x256 32 [0] iota_S128x256_d0_w32) (broadcast S128x256 128#32))
        (iota .tc S128x256 32 [1] iota_S128x256_d1_w32)) (broadcast S128x256 0#32))
      (cmpi .sle (subi (addi (iota .tc S128x256 32 [0] iota_S128x256_d0_w32) (broadcast S128x256 128#32))
        (iota .tc S128x256 32 [1] iota_S128x256_d1_w32)) (broadcast S128x256 128#32)))
    (ori (broadcast S128x256 (Scalar.cmpi .sgt n 0#32))
      (cmpi .sge (iota .tc S128x256 32 [1] iota_S128x256_d1_w32) (broadcast S128x256 128#32)))

theorem mask_at (n : ℕ) (hn : n < 64) (p : Fin 128) (j : Fin 256) :
    mask (BitVec.ofNat 32 n) (ix2 p j) = if AttnRow.Near n p.val j.val then 1#1 else 0#1 := by
  unfold mask
  pointwise
  exact AttnRow.near_sub n p.val j.val hn p.isLt j.isLt

theorem head_at (p : Fin 128) (e : Fin 256) : k0_pay9 (ix2 p e) = BitVec.ofNat 32 (AttnRow.head e).val := by
  pointwise [k0_pay9]
  revert e
  decide +kernel

/-- Whether a column is of head `h`. -/
def here (h : Fin 4) : IVec S128x256 1 := cmpi .eq k0_pay9 (broadcast S128x256 (BitVec.ofNat 32 h.val))

theorem here_at (h : Fin 4) (p : Fin 128) (e : Fin 256) :
    here h (ix2 p e) = if AttnRow.head e = h then 1#1 else 0#1 := by
  unfold here
  pointwise
  rw [head_at]
  generalize AttnRow.head e = a
  revert a h
  decide +kernel

/-! ## One head -/

section Head

variable (n : ℕ) (hn : n < 64) (h : Fin 4) (q : Vec Ideal S128x256 .bf16) (k v : FVec Ideal S256x256 .bf16)
  (b : Vec Ideal S1x128x256 .f32) (p : Fin 128)

def logits : FVec Ideal S128x256 .f32 :=
  select (mask (BitVec.ofNat 32 n))
    (addf (matmul dot_S128x256_S256x256_S128x256_1_1_0_0_n_n none
        (select (here h) q (broadcast S128x256 (Scalar.ofBits .bf16 0x0000#16 : Ideal .bf16))) k
        (constant S128x256 .f32 0x00000000#32))
      (shapeCast S128x256 b shapeCasts_S1x128x256_S128x256))
    (broadcast S128x256 (Scalar.ofBits .f32 0xF149F2CA#32 : Ideal .f32))

def tops : FVec Ideal S128x1 .f32 :=
  shapeCast S128x1 (multiReduction .maximumf [1] S128 (logits n h q k b) 0xFF800000#32 reduces_S128x256_S128 (.inl rfl) rfl)
    shapeCasts_S128_S128x1

def weights : FVec Ideal S128x256 .f32 :=
  exp (subf (logits n h q k b) (broadcastTo S128x256 (tops n h q k b) broadcasts_S128x1_S128x256))

def dens : FVec Ideal S128x1 .f32 :=
  shapeCast S128x1 (multiReduction .add [1] S128 (weights n h q k b) 0x00000000#32 reduces_S128x256_S128 (.inl rfl) rfl)
    shapeCasts_S128_S128x1

def outs : FVec Ideal S128x256 .f32 :=
  divf (matmul dot_S128x256_S256x256_S128x256_1_0_0_1_n_n none (truncf .bf16 (weights n h q k b) bitsLt_bf16_f32) v
      (constant S128x256 .f32 0x00000000#32))
    (broadcastTo S128x256 (dens n h q k b) broadcasts_S128x1_S128x256)

def lses : FVec Ideal S128x256 .f32 :=
  broadcastTo S128x256 (shapeCast S128x1 (addf (tops n h q k b) (log (dens n h q k b))) shapeCasts_S128x1_S128x1)
    broadcasts_S128x1_S128x256

/-- The block's arrays by row and column. -/
abbrev rows (x : Vec Ideal S128x256 .bf16) (p : Fin 128) (e : Fin 256) : EReal := x (ix2 p e)
abbrev keys (x : FVec Ideal S256x256 .bf16) (j : Fin 256) (e : Fin 256) : EReal := x (ix2 j e)

variable (bs : Fin 4 → Fin 128 → Fin 256 → EReal) (hb : ∀ p j, b (ix3 0 p j) = bs h p j)

include hn hb

theorem logits_at (j : Fin 256) : logits n h q k b (ix2 p j) = AttnRow.logit n (rows q) (keys k) bs h p j := by
  unfold logits AttnRow.logit
  pointwise
  simp only [mask_at n hn, here_at, AttnRow.select_if, hb, AttnRow.sum_head h fun x => q (ix2 p x) * k (ix2 j x)]
  rfl

theorem tops_at : tops n h q k b (ix2 p 0) = AttnRow.top n (rows q) (keys k) bs h p := by
  unfold tops AttnRow.top
  pointwise
  simp only [logits_at n hn h q k b p bs hb]
  rfl

theorem weights_at (j : Fin 256) : weights n h q k b (ix2 p j) = AttnRow.weight n (rows q) (keys k) bs h p j := by
  unfold weights AttnRow.weight
  pointwise
  simp only [logits_at n hn h q k b p bs hb, tops_at n hn h q k b p bs hb]

theorem dens_at : dens n h q k b (ix2 p 0) = AttnRow.den n (rows q) (keys k) bs h p := by
  unfold dens AttnRow.den
  pointwise
  simp only [weights_at n hn h q k b p bs hb]

theorem outs_at (e : Fin 256) (he : AttnRow.head e = h) :
    outs n h q k v b (ix2 p e) = AttnRow.out n (rows q) (keys k) (keys v) bs p e := by
  unfold outs AttnRow.out
  pointwise
  simp only [weights_at n hn h q k b p bs hb, dens_at n hn h q k b p bs hb, he]

theorem lses_at (e : Fin 256) (he : AttnRow.head e = h) :
    lses n h q k b (ix2 p e) = AttnRow.lse n (rows q) (keys k) bs p e := by
  unfold lses AttnRow.lse
  pointwise
  simp only [tops_at n hn h q k b p bs hb, dens_at n hn h q k b p bs hb, he]

end Head

/-! ## The four heads together -/

/-- Of four arrays, the one of each column's head. -/
def pick (x : Fin 4 → FVec Ideal S128x256 .f32) : FVec Ideal S128x256 .f32 :=
  select (here 3) (x 3) (select (here 2) (x 2) (select (here 1) (x 1) (select (here 0) (x 0)
    (broadcast S128x256 (Scalar.ofBits .f32 0x00000000#32 : Ideal .f32)))))

theorem pick_at (x : Fin 4 → FVec Ideal S128x256 .f32) (p : Fin 128) (e : Fin 256) :
    pick x (ix2 p e) = x (AttnRow.head e) (ix2 p e) := by
  unfold pick
  pointwise
  simp only [here_at, AttnRow.select_if]
  generalize AttnRow.head e = h
  fin_cases h <;> simp

/-- The two blocks of keys one above the other. -/
def stack (x y : Vec Ideal S128x256 .bf16) : FVec Ideal S256x256 .bf16 :=
  concatenate S256x256 0 [⟨S128x256, x⟩, ⟨S128x256, y⟩] concatenates_S128x256_S128x256_S256x256_d0

theorem stack_at (x y : Vec Ideal S128x256 .bf16) (j e : Fin 256) :
    stack x y (ix2 j e) = if h : j.val < 128 then x (ix2 ⟨j.val, h⟩ e) else y (ix2 ⟨j.val - 128, by omega⟩ e) := by
  unfold stack
  pointwise

section Body

variable (n : ℕ) (hn : n < 64) (q k₀ k₁ v₀ v₁ : Vec Ideal S128x256 .bf16) (b : Fin 4 → Vec Ideal S1x128x256 .f32)

/-- The block of the attention and the block of the logarithms. -/
def out : FVec Ideal S128x256 .f32 := pick fun h => outs n h q (stack k₀ k₁) (stack v₀ v₁) (b h)
def lse : FVec Ideal S128x256 .f32 := pick fun h => lses n h q (stack k₀ k₁) (b h)

variable (p : Fin 128) (e : Fin 256)

include hn

theorem out_at : out n q k₀ k₁ v₀ v₁ b (ix2 p e)
    = AttnRow.out n (rows q) (keys (stack k₀ k₁)) (keys (stack v₀ v₁)) (fun h p j => b h (ix3 0 p j)) p e :=
  (pick_at _ p e).trans (outs_at n hn _ q _ _ _ p (fun h p j => b h (ix3 0 p j)) (fun _ _ => rfl) e rfl)

theorem lse_at : lse n q k₀ k₁ b (ix2 p e)
    = AttnRow.lse n (rows q) (keys (stack k₀ k₁)) (fun h p j => b h (ix3 0 p j)) p e :=
  (pick_at _ p e).trans (lses_at n hn _ q _ _ p (fun h p j => b h (ix3 0 p j)) (fun _ _ => rfl) e rfl)

variable (g d r : ℕ) (Q K V : AttnRow.Arr 8192 768) (B : AttnRow.Bias)
  (hq : ∀ p e, q (ix2 p e) = AttnRow.block g d Q r n p e)
  (hk₀ : ∀ p e, k₀ (ix2 p e) = AttnRow.block g d K r (n - 1) p e) (hk₁ : ∀ p e, k₁ (ix2 p e) = AttnRow.block g d K r n p e)
  (hv₀ : ∀ p e, v₀ (ix2 p e) = AttnRow.block g d V r (n - 1) p e) (hv₁ : ∀ p e, v₁ (ix2 p e) = AttnRow.block g d V r n p e)
  (hb : ∀ h p j, b h (ix3 0 p j) = B (ix3 h p j))

omit hn in
theorem keys_two (x y : Vec Ideal S128x256 .bf16) (X : AttnRow.Arr 8192 768)
    (hx : ∀ p e, x (ix2 p e) = AttnRow.block g d X r (n - 1) p e) (hy : ∀ p e, y (ix2 p e) = AttnRow.block g d X r n p e) :
    keys (stack x y) = AttnRow.two g d X r n := by
  funext j e
  unfold keys AttnRow.two
  rw [stack_at]
  split
  · exact hx _ _
  · exact hy _ _

include hq hk₀ hk₁ hb

/-- Of the blocks of a whole array's rows, the two blocks are those of the whole results. -/
theorem lse_whole : lse n q k₀ k₁ b (ix2 p e) = AttnRow.lseAt g d Q K B r n p e := by
  have h1 : rows q = AttnRow.block g d Q r n := funext fun p => funext fun e => hq p e
  have h2 : (fun h p j => b h (ix3 0 p j)) = AttnRow.bias B := funext fun h => funext fun p => funext fun j => hb h p j
  rw [lse_at n hn, h1, h2, keys_two n g d r k₀ k₁ K hk₀ hk₁]
  rfl

include hv₀ hv₁

theorem out_whole : out n q k₀ k₁ v₀ v₁ b (ix2 p e) = AttnRow.outAt g d Q K V B r n p e := by
  have h1 : rows q = AttnRow.block g d Q r n := funext fun p => funext fun e => hq p e
  have h2 : (fun h p j => b h (ix3 0 p j)) = AttnRow.bias B := funext fun h => funext fun p => funext fun j => hb h p j
  rw [out_at n hn, h1, h2, keys_two n g d r k₀ k₁ K hk₀ hk₁, keys_two n g d r v₀ v₁ V hv₀ hv₁]
  rfl

end Body

end Cert.AttnBlock
-- ==== Proof.Attn0Whole.lean ====
/-
  The attention kernel of group 0: its two results whole.
-/
module

public import proofs.«01_k».proof.Proof.AttnBlock

@[expose] public section

noncomputable section

namespace Cert.Attn0Whole

open Cert.Attn0Ideal Cert.Attn0Ideal.Gen Idealize.ShloMosaic Idealize.ShloMosaic.TcCoe Idealize.SL.Sem

/-! ## The body's outputs -/

/-- The bias of each head. -/
def heads (b : Vec Ideal S4x128x256 .f32) : Fin 4 → Vec Ideal S1x128x256 .f32 :=
  ![View.ld b r0_1, View.ld b r0_2, View.ld b r0_3, View.ld b r0_4]

theorem heads_at (b : Vec Ideal S4x128x256 .f32) (h : Fin 4) (p : Fin 128) (j : Fin 256) :
    heads b h (ix3 0 p j) = b (ix3 h p j) := by
  fin_cases h
  · show View.ld b r0_1 (ix3 0 p j) = _
    pointwise
  · show View.ld b r0_2 (ix3 0 p j) = _
    pointwise
  · show View.ld b r0_3 (ix3 0 p j) = _
    pointwise
  · show View.ld b r0_4 (ix3 0 p j) = _
    pointwise

variable (i : grid0.Coords) (q k₀ k₁ v₀ v₁ : Vec Ideal S128x256 .bf16) (b : Vec Ideal S4x128x256 .f32)

theorem out6 : out0_6 i q k₀ k₁ v₀ v₁ b = AttnBlock.out (i 1).val q k₀ k₁ v₀ v₁ (heads b) := by
  unfold_out out0_6
  frame_out
  rfl

theorem out7 : out0_7 i q k₀ k₁ v₀ v₁ b = AttnBlock.lse (i 1).val q k₀ k₁ (heads b) := by
  unfold_out out0_7
  frame_out
  rfl

/-! ## The blocks at a point -/

variable (m : (ℓ : Loc nD τ sig) → Buf (Elt Ideal) ℓ) (c : Dev nD)

/-- The arguments on device `c`. -/
abbrev a0 : AttnRow.Arr 8192 768 := m ((c : Thread nD τ).loc main_arg0)
abbrev a1 : AttnRow.Arr 8192 768 := m ((c : Thread nD τ).loc main_arg1)
abbrev a2 : AttnRow.Arr 8192 768 := m ((c : Thread nD τ).loc main_arg2)
abbrev a3 : AttnRow.Bias := m ((c : Thread nD τ).loc main_arg3)

variable (t : Fin cfg0.N)

theorem idx : ∀ t : Fin cfg0.N, win0_0.index t = ![t.val, 0] ∧ win0_1.index t = ![t.val - 1, 0]
    ∧ win0_2.index t = ![t.val, 0] ∧ win0_3.index t = ![t.val - 1, 0] ∧ win0_4.index t = ![t.val, 0]
    ∧ win0_5.index t = ![0, 0, 0] ∧ win0_6.index t = ![t.val, 0] ∧ win0_7.index t = ![t.val, 0]
    ∧ (grid0.coords t 1).val = t.val :=
  (by decide +kernel : ∀ t : Fin grid0.N, _)

/-- A block of the array, read by its row and column numbers. -/
theorem block_at (x : AttnRow.Arr 8192 768) (n : ℕ) (i : Fin 8192) (j : Fin 768) (p : Fin 128) (e : Fin 256)
    (hi : i.val = n * 128 + p.val) (hj : j.val = e.val) : x (ix2 i j) = AttnRow.block 0 1 x 0 n p e :=
  AttnRow.rd_eq x i j _ _ (by omega) (by omega)

theorem at0 (p : Fin 128) (e : Fin 256) : iblk m c 0 t (ix2 p e) = AttnRow.block 0 1 (a0 m c) 0 t.val p e := by
  have ht : t.val < 64 := t.isLt
  rw [← block_at (a0 m c) t.val ⟨t.val * 128 + p.val, by omega⟩ ⟨e.val, by omega⟩ p e rfl rfl]
  blk_ext [iblk, V, idx t]

theorem at1 (p : Fin 128) (e : Fin 256) : iblk m c 1 t (ix2 p e) = AttnRow.block 0 1 (a1 m c) 0 (t.val - 1) p e := by
  have ht : t.val < 64 := t.isLt
  rw [← block_at (a1 m c) (t.val - 1) ⟨(t.val - 1) * 128 + p.val, by omega⟩ ⟨e.val, by omega⟩ p e rfl rfl]
  blk_ext [iblk, V, idx t]

theorem at2 (p : Fin 128) (e : Fin 256) : iblk m c 2 t (ix2 p e) = AttnRow.block 0 1 (a1 m c) 0 t.val p e := by
  have ht : t.val < 64 := t.isLt
  rw [← block_at (a1 m c) t.val ⟨t.val * 128 + p.val, by omega⟩ ⟨e.val, by omega⟩ p e rfl rfl]
  blk_ext [iblk, V, idx t]

theorem at3 (p : Fin 128) (e : Fin 256) : iblk m c 3 t (ix2 p e) = AttnRow.block 0 1 (a2 m c) 0 (t.val - 1) p e := by
  have ht : t.val < 64 := t.isLt
  rw [← block_at (a2 m c) (t.val - 1) ⟨(t.val - 1) * 128 + p.val, by omega⟩ ⟨e.val, by omega⟩ p e rfl rfl]
  blk_ext [iblk, V, idx t]

theorem at4 (p : Fin 128) (e : Fin 256) : iblk m c 4 t (ix2 p e) = AttnRow.block 0 1 (a2 m c) 0 t.val p e := by
  have ht : t.val < 64 := t.isLt
  rw [← block_at (a2 m c) t.val ⟨t.val * 128 + p.val, by omega⟩ ⟨e.val, by omega⟩ p e rfl rfl]
  blk_ext [iblk, V, idx t]

theorem at5 (h : Fin 4) (p : Fin 128) (j : Fin 256) : iblk m c 5 t (ix3 h p j) = a3 m c (ix3 h p j) := by
  blk_ext [iblk, V, idx t]

theorem coord : (grid0.coords t 1).val = t.val := (idx t).2.2.2.2.2.2.2.2

theorem point6 (p : Fin 128) (e : Fin 256) : out0_6 (grid0.coords t) (iblk m c 0 t) (iblk m c 1 t) (iblk m c 2 t) (iblk m c 3 t)
    (iblk m c 4 t) (iblk m c 5 t) (ix2 p e) = AttnRow.outAt 0 1 (a0 m c) (a1 m c) (a2 m c) (a3 m c) 0 t.val p e := by
  rw [out6, coord]
  exact AttnBlock.out_whole t.val t.isLt _ _ _ _ _ _ p e 0 1 0 _ _ _ _ (at0 m c t) (at1 m c t) (at2 m c t) (at3 m c t)
    (at4 m c t) fun h p j => (heads_at _ h p j).trans (at5 m c t h p j)

theorem point7 (p : Fin 128) (e : Fin 256) : out0_7 (grid0.coords t) (iblk m c 0 t) (iblk m c 1 t) (iblk m c 2 t) (iblk m c 3 t)
    (iblk m c 4 t) (iblk m c 5 t) (ix2 p e) = AttnRow.lseAt 0 1 (a0 m c) (a1 m c) (a3 m c) 0 t.val p e := by
  rw [out7, coord]
  exact AttnBlock.lse_whole t.val t.isLt _ _ _ _ p e 0 1 0 _ _ _ (at0 m c t) (at1 m c t) (at2 m c t)
    fun h p j => (heads_at _ h p j).trans (at5 m c t h p j)

/-! ## The arrays -/

theorem whole6 : (dats m 0 c).arrAt 6 cfg0.N = AttnRow.Out 0 1 (a0 m c) (a1 m c) (a2 m c) (a3 m c) := by
  refine (dats m 0 c).arrAt_eq_of_covers 6 _ (by decide +kernel) fun t hf y => ?_
  have e0 : ((((cfg0.win 6).blk t).view.emb y) 0 : ℕ) = t.val * 128 + (y 0 : ℕ) := by blk_simp [idx t]
  have e1 : ((((cfg0.win 6).blk t).view.emb y) 1 : ℕ) = 0 * 256 + (y 1 : ℕ) := by blk_simp [idx t]
  generalize ((cfg0.win 6).blk t).view.emb y = z at e0 e1 ⊢
  rw [after0_6]
  have h := point6 m c t
  generalize out0_6 (grid0.coords t) (iblk m c 0 t) (iblk m c 1 t) (iblk m c 2 t) (iblk m c 3 t) (iblk m c 4 t) (iblk m c 5 t) = v at h ⊢
  exact (congrArg v (FfnArr.split2 y)).trans ((h (y 0) (y 1)).trans (AttnRow.Out_at 0 1 _ _ _ _ z 0 t.val (y 0) (y 1) e0 e1).symm)

theorem whole7 : (dats m 0 c).arrAt 7 cfg0.N = AttnRow.Lse 0 1 (a0 m c) (a1 m c) (a3 m c) := by
  refine (dats m 0 c).arrAt_eq_of_covers 7 _ (by decide +kernel) fun t hf y => ?_
  have e0 : ((((cfg0.win 7).blk t).view.emb y) 0 : ℕ) = t.val * 128 + (y 0 : ℕ) := by blk_simp [idx t]
  have e1 : ((((cfg0.win 7).blk t).view.emb y) 1 : ℕ) = 0 * 256 + (y 1 : ℕ) := by blk_simp [idx t]
  generalize ((cfg0.win 7).blk t).view.emb y = z at e0 e1 ⊢
  rw [after0_7]
  have h := point7 m c t
  generalize out0_7 (grid0.coords t) (iblk m c 0 t) (iblk m c 1 t) (iblk m c 2 t) (iblk m c 3 t) (iblk m c 4 t) (iblk m c 5 t) = v at h ⊢
  exact (congrArg v (FfnArr.split2 y)).trans ((h (y 0) (y 1)).trans (AttnRow.Lse_at 0 1 _ _ _ z 0 t.val (y 0) (y 1) e0 e1).symm)

/-- The kernel runs, leaves the two arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = AttnRow.Out 0 1 (a0 m c) (a1 m c) (a2 m c) (a3 m c)
      ∧ r.2.mem ((c : Thread nD τ).loc main_v0_1) = AttnRow.Lse 0 1 (a0 m c) (a1 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    have ⟨h0, h1, hk⟩ := h c
    ⟨h0.trans (whole6 m c), h1.trans (whole7 m c), hk⟩)
    (Value.run_blocks m ρ)

end Cert.Attn0Whole
-- ==== Proof.Attn0Ref.lean ====
/-
  The reference of the attention of group 0: its two results are `AttnRow.lean`'s arrays.
-/
module

public import proofs.«01_k».proof.Proof.AttnRow
public import proofs.«01_k».proof.Proof.Gen.Attn0RefIdeal.Run

@[expose] public section

noncomputable section

namespace Cert.Attn0Ref

open Cert.Attn0RefIdeal Cert.Attn0RefIdeal.Gen Idealize.ShloMosaic Idealize.ShloMosaic.TcCoe Idealize.ShloMosaic.StableHlo Idealize.SL.Sem

/-! ## The reference's intermediate arrays, as the program forms them -/

/-- The group's columns, split into blocks, rows within a block, first rows, heads and columns of a head. -/
def hSplit (x : FVec Ideal S8192x768 .bf16) : FVec Ideal S64x128x1x4x64 .f32 :=
  shapeCast _ (extf .f32 (extractStridedSlice S8192x256 ![0, 0] x slices_S8192x768_S8192x256_0_0) bitsLt_bf16_f32)
    shapeCasts_S8192x256_S64x128x1x4x64

/-- The blocks before; the first block is its own. -/
def hPrev (s : FVec Ideal S64x128x1x4x64 .f32) : FVec Ideal S64x128x1x4x64 .f32 :=
  concatenate S64x128x1x4x64 0
    [⟨S1x128x1x4x64, extractStridedSlice S1x128x1x4x64 ![0, 0, 0, 0, 0] s slices_S64x128x1x4x64_S1x128x1x4x64_0_0_0_0_0⟩,
      ⟨S63x128x1x4x64, extractStridedSlice S63x128x1x4x64 ![0, 0, 0, 0, 0] s slices_S64x128x1x4x64_S63x128x1x4x64_0_0_0_0_0⟩]
    concatenates_S1x128x1x4x64_S63x128x1x4x64_S64x128x1x4x64_d0

/-- Each block after the one before. -/
def hTwo (s : FVec Ideal S64x128x1x4x64 .f32) : FVec Ideal S64x256x1x4x64 .f32 :=
  concatenate S64x256x1x4x64 1 [⟨S64x128x1x4x64, hPrev s⟩, ⟨S64x128x1x4x64, s⟩]
    concatenates_S64x128x1x4x64_S64x128x1x4x64_S64x256x1x4x64_d1

/-- The rows and the keys that see one another. -/
def hNear : IVec S64x128x256 1 :=
  andi
    (broadcastInDim S64x128x256 ![0, 1, 2] bcast_S1x128x256_S64x128x256_0_1_2
      (andi
        (cmpi .sge
          (broadcastInDim S1x128x256 ![0, 1, 2] bcast_S1x1x256_S1x128x256_0_1_2 (broadcastInDim S1x1x256 ![2] bcast_S256_S1x1x256_2 (iotaInDim S256 32 0)))
          (broadcastInDim S1x128x256 ![0, 1, 2] bcast_S1x128x1_S1x128x256_0_1_2 (broadcastInDim S1x128x1 ![1] bcast_S128_S1x128x1_1 (iotaInDim S128 32 0))))
        (cmpi .sle
          (broadcastInDim S1x128x256 ![0, 1, 2] bcast_S1x1x256_S1x128x256_0_1_2 (broadcastInDim S1x1x256 ![2] bcast_S256_S1x1x256_2 (iotaInDim S256 32 0)))
          (broadcastInDim S1x128x256 ![0, 1, 2] bcast_S1x128x1_S1x128x256_0_1_2
            (addi (broadcastInDim S1x128x1 ![1] bcast_S128_S1x128x1_1 (iotaInDim S128 32 0)) (broadcastInDim S1x128x1 ![] bcast_S_S1x128x1 (constantI S_ 32 128#32)))))))
    (broadcastInDim S64x128x256 ![0, 1, 2] bcast_S64x1x256_S64x128x256_0_1_2
      (ori
        (broadcastInDim S64x1x256 ![0, 1, 2] bcast_S64x1x1_S64x1x256_0_1_2
          (cmpi .sgt (broadcastInDim S64x1x1 ![0] bcast_S64_S64x1x1_0 (iotaInDim S64 32 0)) (broadcastInDim S64x1x1 ![] bcast_S_S64x1x1 (constantI S_ 32 0#32))))
        (broadcastInDim S64x1x256 ![0, 1, 2] bcast_S1x1x256_S64x1x256_0_1_2
          (cmpi .sge (broadcastInDim S1x1x256 ![2] bcast_S256_S1x1x256_2 (iotaInDim S256 32 0)) (broadcastInDim S1x1x256 ![] bcast_S_S1x1x256 (constantI S_ 32 128#32))))))

variable (q k v : FVec Ideal S8192x768 .bf16) (b : Vec Ideal S4x128x256 .f32)

def hLogit : FVec Ideal S64x1x4x128x256 .f32 :=
  select
    (broadcastInDim S64x1x4x128x256 ![0, 1, 2, 3, 4] bcast_S64x1x1x128x256_S64x1x4x128x256_0_1_2_3_4
      (broadcastInDim S64x1x1x128x256 ![0, 3, 4] bcast_S64x128x256_S64x1x1x128x256_0_3_4 hNear))
    (addf (Host.dotGeneral dot_S64x128x1x4x64_S64x256x1x4x64_S64x1x4x128x256_4_4_1_1_023_023 none (hSplit q) (hTwo (hSplit k)))
      (broadcastInDim S64x1x4x128x256 ![0, 1, 2, 3, 4] bcast_S1x1x4x128x256_S64x1x4x128x256_0_1_2_3_4
        (broadcastInDim S1x1x4x128x256 ![2, 3, 4] bcast_S4x128x256_S1x1x4x128x256_2_3_4 b)))
    (broadcastInDim S64x1x4x128x256 ![] bcast_S_S64x1x4x128x256 (id (constant S_ .f32 0xF149F2CA#32)))

def hTop : FVec Ideal S64x1x4x128 .f32 :=
  Host.reduce FloatOps.maximumf (hLogit q k b) (constant S_ .f32 0xFF800000#32) reducesTo_S64x1x4x128x256_S64x1x4x128_d4 h_S_

def hWeight : FVec Ideal S64x1x4x128x256 .f32 :=
  Host.exp (subf (hLogit q k b)
    (broadcastInDim S64x1x4x128x256 ![0, 1, 2, 3, 4] bcast_S64x1x4x128x1_S64x1x4x128x256_0_1_2_3_4
      (broadcastInDim S64x1x4x128x1 ![0, 1, 2, 3] bcast_S64x1x4x128_S64x1x4x128x1_0_1_2_3 (hTop q k b))))

def hDen : FVec Ideal S64x1x4x128 .f32 :=
  Host.reduceAdd (hWeight q k b) (constant S_ .f32 0x00000000#32) reducesTo_S64x1x4x128x256_S64x1x4x128_d4 h_S_

/-- A number per row and head, at each column of the head. -/
def hSpread (x : FVec Ideal S64x1x4x128 .f32) : FVec Ideal S64x128x1x4x64 .f32 :=
  broadcastInDim S64x128x1x4x64 ![0, 1, 2, 3, 4] bcast_S64x128x1x4x1_S64x128x1x4x64_0_1_2_3_4
    (broadcastInDim S64x128x1x4x1 ![0, 1, 2, 3] bcast_S64x128x1x4_S64x128x1x4x1_0_1_2_3
      (transpose S64x128x1x4 [0, 3, 1, 2] x transposes_S64x1x4x128_S64x128x1x4_0_3_1_2))

def hOut : FVec Ideal S64x128x1x4x64 .f32 :=
  Host.divf
    (transpose S64x128x1x4x64 [0, 4, 1, 2, 3]
      (Host.dotGeneral dot_S64x256x1x4x64_S64x1x4x128x256_S64x1x4x64x128_1_4_4_3_023_012 none (hTwo (hSplit v)) (hWeight q k b))
      transposes_S64x1x4x64x128_S64x128x1x4x64_0_4_1_2_3)
    (hSpread (hDen q k b))

/-- A number per row and head, given an axis of one and laid flat again. -/
def hKeep (x : FVec Ideal S64x1x4x128 .f32) : FVec Ideal S64x1x4x128 .f32 :=
  shapeCast _ (broadcastInDim S64x1x4x128x1 ![0, 1, 2, 3] bcast_S64x1x4x128_S64x1x4x128x1_0_1_2_3 x) shapeCasts_S64x1x4x128x1_S64x1x4x128

def hLse : FVec Ideal S64x128x1x4x64 .f32 :=
  hSpread (addf (hKeep (hTop q k b)) (Host.log (hDen q k b)))

/-- The results' layout: a block's rows one below the other, the first rows beside one another. -/
def hLay (x : FVec Ideal S64x128x1x4x64 .f32) : FVec Ideal S8192x256 .f32 := shapeCast _ x shapeCasts_S64x128x1x4x64_S8192x256

/-! ## The same arrays at an index -/

variable (n : Fin 64) (h : Fin 4) (p : Fin 128)

theorem hSplit_at (x : FVec Ideal S8192x768 .bf16) (e : Fin 64) :
    hSplit x (ix5 n p 0 h e) = AttnRow.block 0 1 x 0 n.val p (AttnRow.col h e) := by
  unfold hSplit
  refine (shapeCast_apply _ shapeCasts_S8192x256_S64x128x1x4x64 (ix5 n p 0 h e)
    (ix2 (⟨(n.val * 128 + p.val) * 1 + 0, by omega⟩ : Fin 8192) (AttnRow.col h e)) (by
      rw [Shape.rowMajor_val_five, Shape.rowMajor_val_two]
      show ((n.val * 128 + p.val) * 1 + 0) * 256 + (h.val * 64 + e.val)
        = (((n.val * 128 + p.val) * 1 + 0) * 4 + h.val) * 64 + e.val
      omega)).trans ?_
  pointwise
  exact AttnRow.rd_eq x _ _ _ _ (by first | rfl | simp) (by first | rfl | (simp only [AttnRow.col]; omega))

theorem hPrev_at (s : FVec Ideal S64x128x1x4x64 .f32) (e : Fin 64) :
    hPrev s (ix5 n p 0 h e) = s (ix5 ⟨n.val - 1, by omega⟩ p 0 h e) := by
  unfold hPrev
  pointwise
  by_cases hn : n.val < 1
  · rw [dif_pos hn]
    exact congrArg (fun a => s (ix5 a p 0 h e)) (Fin.ext (by simp only []; omega))
  · rw [dif_neg hn]

theorem hTwo_at (x : FVec Ideal S8192x768 .bf16) (j : Fin 256) (e : Fin 64) :
    hTwo (hSplit x) (ix5 n j 0 h e) = AttnRow.two 0 1 x 0 n.val j (AttnRow.col h e) := by
  unfold hTwo AttnRow.two
  pointwise
  by_cases hj : j.val < 128
  · rw [dif_pos hj, dif_pos hj, hPrev_at, hSplit_at]
  · rw [dif_neg hj, dif_neg hj, hSplit_at]

theorem hNear_at (j : Fin 256) : hNear (ix3 n p j) = if AttnRow.Near n.val p.val j.val then 1#1 else 0#1 := by
  unfold hNear
  pointwise
  exact AttnRow.near_cmp n.val p.val j.val (by omega) p.isLt j.isLt

theorem hLogit_at (j : Fin 256) : hLogit q k b (ix5 n 0 h p j)
    = AttnRow.logit n.val (AttnRow.block 0 1 q 0 n.val) (AttnRow.two 0 1 k 0 n.val) (AttnRow.bias b) h p j := by
  unfold hLogit AttnRow.logit
  pointwise
  simp only [hNear_at, hSplit_at, hTwo_at, AttnRow.select_if]
  rfl

theorem hTop_at : hTop q k b (ix4 n 0 h p)
    = AttnRow.top n.val (AttnRow.block 0 1 q 0 n.val) (AttnRow.two 0 1 k 0 n.val) (AttnRow.bias b) h p := by
  unfold hTop AttnRow.top
  pointwise
  simp only [hLogit_at]
  rfl

theorem hWeight_at (j : Fin 256) : hWeight q k b (ix5 n 0 h p j)
    = AttnRow.weight n.val (AttnRow.block 0 1 q 0 n.val) (AttnRow.two 0 1 k 0 n.val) (AttnRow.bias b) h p j := by
  unfold hWeight AttnRow.weight
  pointwise
  simp only [hLogit_at, hTop_at]

theorem hDen_at : hDen q k b (ix4 n 0 h p)
    = AttnRow.den n.val (AttnRow.block 0 1 q 0 n.val) (AttnRow.two 0 1 k 0 n.val) (AttnRow.bias b) h p := by
  unfold hDen AttnRow.den
  pointwise
  simp only [hWeight_at]

theorem hSpread_at (x : FVec Ideal S64x1x4x128 .f32) (e : Fin 64) : hSpread x (ix5 n p 0 h e) = x (ix4 n 0 h p) := by
  unfold hSpread
  pointwise

theorem hOut_at (e : Fin 64) : hOut q k v b (ix5 n p 0 h e) = AttnRow.outAt 0 1 q k v b 0 n.val p (AttnRow.col h e) := by
  unfold hOut AttnRow.outAt AttnRow.out
  pointwise
  simp only [hSpread_at, hDen_at, hWeight_at, hTwo_at, AttnRow.head_col, mul_comm]

theorem hKeep_at (x : FVec Ideal S64x1x4x128 .f32) : hKeep x (ix4 n 0 h p) = x (ix4 n 0 h p) := by
  unfold hKeep
  refine (shapeCast_apply _ shapeCasts_S64x1x4x128x1_S64x1x4x128 (ix4 n 0 h p) (ix5 n 0 h p (0 : Fin 1)) (by
      rw [Shape.rowMajor_val_five, Shape.rowMajor_val_four]
      show (((n.val * 1 + 0) * 4 + h.val) * 128 + p.val) * 1 + 0 = ((n.val * 1 + 0) * 4 + h.val) * 128 + p.val
      omega)).trans ?_
  pointwise

theorem hSum_at (x y : FVec Ideal S64x1x4x128 .f32) (e : Fin 64) :
    hSpread (addf (hKeep x) (Host.log y)) (ix5 n p 0 h e) = x (ix4 n 0 h p) + Ideal.log (y (ix4 n 0 h p)) := by
  rw [hSpread_at]
  pointwise
  rw [hKeep_at]

theorem hLse_at (e : Fin 64) : hLse q k b (ix5 n p 0 h e) = AttnRow.lseAt 0 1 q k b 0 n.val p (AttnRow.col h e) := by
  refine (hSum_at n h p (hTop q k b) (hDen q k b) e).trans ?_
  rw [hTop_at, hDen_at]
  unfold AttnRow.lseAt AttnRow.lse
  rw [AttnRow.head_col]

/-- The laid-out array at an index. -/
theorem hLay_at (x : FVec Ideal S64x128x1x4x64 .f32) (i : Fin 8192) (j : Fin 256) :
    hLay x (ix2 i j) = x (ix5 ⟨i.val / 128, by omega⟩ ⟨i.val % 128, by omega⟩ 0
      ⟨j.val % 256 / 64, by omega⟩ ⟨j.val % 64, by omega⟩) := by
  unfold hLay
  exact shapeCast_apply _ _ _ _ (by
    rw [Shape.rowMajor_val_five, Shape.rowMajor_val_two]
    show (((i.val / 128 * 128 + i.val % 128) * 1 + 0) * 4 + j.val % 256 / 64) * 64 + j.val % 64 = i.val * 256 + j.val
    omega)

/-! ## The results -/

/-- The one first row's columns are the heads'. -/
theorem col_eq (j : Fin 256) : j.val = 0 * 256 + (AttnRow.col ⟨j.val % 256 / 64, by omega⟩ ⟨j.val % 64, by omega⟩).val := by
  simp only [AttnRow.col]
  omega

theorem row_eq (i : Fin 8192) : i.val = i.val / 128 * 128 + i.val % 128 := by omega

theorem out_eq : hLay (hOut q k v b) = AttnRow.Out 0 1 q k v b := by
  funext y
  exact (congrArg _ (FfnArr.split2 y)).trans ((hLay_at _ (y 0) (y 1)).trans ((hOut_at q k v b _ _ _ _).trans
    (AttnRow.Out_at 0 1 q k v b y 0 _ _ _ (row_eq (y 0)) (col_eq (y 1))).symm))

theorem lse_eq : hLay (hLse q k b) = AttnRow.Lse 0 1 q k b := by
  funext y
  exact (congrArg _ (FfnArr.split2 y)).trans ((hLay_at _ (y 0) (y 1)).trans ((hLse_at q k b _ _ _ _).trans
    (AttnRow.Lse_at 0 1 q k b y 0 _ _ _ (row_eq (y 0)) (col_eq (y 1))).symm))

section Run

variable (m : (ℓ : Loc nD τ sig) → Buf (Elt Ideal) ℓ) (c : Dev nD)

/-- The arguments. -/
abbrev a0 : AttnRow.Arr 8192 768 := m ((c.tc : Thread nD τ).loc main_arg0)
abbrev a1 : AttnRow.Arr 8192 768 := m ((c.tc : Thread nD τ).loc main_arg1)
abbrev a2 : AttnRow.Arr 8192 768 := m ((c.tc : Thread nD τ).loc main_arg2)
abbrev a3 : AttnRow.Bias := m ((c.tc : Thread nD τ).loc main_arg3)

/-- The reference runs, leaves the two arrays and keeps its arguments. -/
theorem run (ρ : Dev nD → PrngReg) : θ_run defs (onTc (τ := τ) (main (F := Ideal))) ⟨m, fun _ => 0, ρ⟩ fun r => ∀ c : Dev nD,
      r.2.mem ((c.tc : Thread nD τ).loc main_v64) = AttnRow.Out 0 1 (a0 m c) (a1 m c) (a2 m c) (a3 m c)
      ∧ r.2.mem ((c.tc : Thread nD τ).loc main_v67) = AttnRow.Lse 0 1 (a0 m c) (a1 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have ⟨h0, h1, hk⟩ := h c
    ⟨h0.trans (out_eq (a0 m c) (a1 m c) (a2 m c) (a3 m c)), h1.trans (lse_eq (a0 m c) (a1 m c) (a3 m c)), hk⟩)
    (Value.run (F := Ideal) m ρ)

end Run

end Cert.Attn0Ref
-- ==== Proof.Attn1Whole.lean ====
/-
  The attention kernel of group 1, whose rows are every 4-th: its two results whole.
-/
module

public import proofs.«01_k».proof.Proof.AttnBlock
public import proofs.«01_k».proof.Proof.Gen.Attn1Ideal.Value

@[expose] public section

noncomputable section

namespace Cert.Attn1Whole

open Cert.Attn1Ideal Cert.Attn1Ideal.Gen Idealize.ShloMosaic Idealize.ShloMosaic.TcCoe Idealize.SL.Sem

/-! ## The body's outputs -/

/-- The bias of each head. -/
def heads (b : Vec Ideal S4x128x256 .f32) : Fin 4 → Vec Ideal S1x128x256 .f32 :=
  ![View.ld b r0_1, View.ld b r0_2, View.ld b r0_3, View.ld b r0_4]

theorem heads_at (b : Vec Ideal S4x128x256 .f32) (h : Fin 4) (p : Fin 128) (j : Fin 256) :
    heads b h (ix3 0 p j) = b (ix3 h p j) := by
  fin_cases h
  · show View.ld b r0_1 (ix3 0 p j) = _
    pointwise
  · show View.ld b r0_2 (ix3 0 p j) = _
    pointwise
  · show View.ld b r0_3 (ix3 0 p j) = _
    pointwise
  · show View.ld b r0_4 (ix3 0 p j) = _
    pointwise

section

variable (i : grid0.Coords) (q k₀ k₁ v₀ v₁ : Vec Ideal S128x256 .bf16) (b : Vec Ideal S4x128x256 .f32)

/-- A block cast to its own shape is itself. -/
theorem cast_self (x : Vec Ideal S128x256 .bf16) : shapeCast S128x256 x shapeCasts_S128x256_S128x256 = x := by
  funext y
  exact shapeCast_apply x _ y y rfl

theorem out6 : out0_6 i q k₀ k₁ v₀ v₁ b = AttnBlock.out (i 1).val q k₀ k₁ v₀ v₁ (heads b) := by
  have h : out0_6 i q k₀ k₁ v₀ v₁ b = AttnBlock.out (i 1).val (shapeCast S128x256 q shapeCasts_S128x256_S128x256)
      (shapeCast S128x256 k₀ shapeCasts_S128x256_S128x256) (shapeCast S128x256 k₁ shapeCasts_S128x256_S128x256)
      (shapeCast S128x256 v₀ shapeCasts_S128x256_S128x256) (shapeCast S128x256 v₁ shapeCasts_S128x256_S128x256) (heads b) := by
    unfold_out out0_6
    frame_out
    rfl
  rw [h, cast_self, cast_self, cast_self, cast_self, cast_self]

theorem out7 : out0_7 i q k₀ k₁ v₀ v₁ b = AttnBlock.lse (i 1).val q k₀ k₁ (heads b) := by
  have h : out0_7 i q k₀ k₁ v₀ v₁ b = AttnBlock.lse (i 1).val (shapeCast S128x256 q shapeCasts_S128x256_S128x256)
      (shapeCast S128x256 k₀ shapeCasts_S128x256_S128x256) (shapeCast S128x256 k₁ shapeCasts_S128x256_S128x256) (heads b) := by
    unfold_out out0_7
    frame_out
    rfl
  rw [h, cast_self, cast_self, cast_self]

end

/-! ## The blocks at a point -/

variable (m : (ℓ : Loc nD τ sig) → Buf (Elt Ideal) ℓ) (c : Dev nD)

/-- The arguments on device `c`. -/
abbrev a0 : AttnRow.Arr 8192 768 := m ((c : Thread nD τ).loc main_arg0)
abbrev a1 : AttnRow.Arr 8192 768 := m ((c : Thread nD τ).loc main_arg1)
abbrev a2 : AttnRow.Arr 8192 768 := m ((c : Thread nD τ).loc main_arg2)
abbrev a3 : AttnRow.Bias := m ((c : Thread nD τ).loc main_arg3)

variable (t : Fin cfg0.N)

theorem idx : ∀ t : Fin cfg0.N, win0_0.index t = ![t.val % 16, 3 * (t.val / 16) + 1]
    ∧ win0_1.index t = ![t.val % 16 - 1, 3 * (t.val / 16) + 1] ∧ win0_2.index t = ![t.val % 16, 3 * (t.val / 16) + 1]
    ∧ win0_3.index t = ![t.val % 16 - 1, 3 * (t.val / 16) + 1] ∧ win0_4.index t = ![t.val % 16, 3 * (t.val / 16) + 1]
    ∧ win0_5.index t = ![0, 0, 0] ∧ win0_6.index t = ![t.val % 16, t.val / 16] ∧ win0_7.index t = ![t.val % 16, t.val / 16]
    ∧ (grid0.coords t 1).val = t.val % 16 :=
  (by decide +kernel : ∀ t : Fin grid0.N, _)

/-- The rows, 4 to a line. -/
def wide (x : AttnRow.Arr 8192 768) : AttnRow.Arr 2048 3072 := shapeCast S2048x3072 x shapeCasts_S8192x768_S2048x3072

/-- A block of the lines, read by row and column numbers of the array. -/
theorem wide_at (x : AttnRow.Arr 8192 768) (r n : ℕ) (hr : r < 4) (hn : n < 16) (p : Fin 128) (e : Fin 256) (i : Fin 2048) (j : Fin 3072)
    (hi : i.val = n * 128 + p.val) (hj : j.val = (3 * r + 1) * 256 + e.val) :
    wide x (ix2 i j) = AttnRow.block 1 4 x r n p e := by
  unfold wide
  refine (shapeCast_apply x shapeCasts_S8192x768_S2048x3072 (ix2 i j)
    (ix2 (⟨(n * 128 + p.val) * 4 + r, by omega⟩ : Fin 8192) (⟨256 * 1 + e.val, by omega⟩ : Fin 768)) (by
      rw [Shape.rowMajor_val_two, Shape.rowMajor_val_two]
      show ((n * 128 + p.val) * 4 + r) * 768 + (256 * 1 + e.val) = i.val * 3072 + j.val
      omega)).trans ?_
  exact AttnRow.rd_eq x _ _ _ _ rfl rfl

theorem point_lt : t.val % 16 < 16 ∧ t.val / 16 < 4 := by
  have ht : t.val < 64 := t.isLt
  omega

theorem at0 (p : Fin 128) (e : Fin 256) : iblk m c 0 t (ix2 p e) = AttnRow.block 1 4 (a0 m c) (t.val / 16) (t.val % 16) p e := by
  have ⟨hn, hr⟩ := point_lt t
  rw [← wide_at (a0 m c) _ _ hr hn p e ⟨(t.val % 16) * 128 + p.val, by omega⟩ ⟨(3 * (t.val / 16) + 1) * 256 + e.val, by omega⟩ rfl rfl]
  unfold iblk
  entry_read
  blk_ext [idx t]

theorem at1 (p : Fin 128) (e : Fin 256) : iblk m c 1 t (ix2 p e) = AttnRow.block 1 4 (a1 m c) (t.val / 16) (t.val % 16 - 1) p e := by
  have ⟨hn, hr⟩ := point_lt t
  rw [← wide_at (a1 m c) _ _ hr (by omega) p e ⟨(t.val % 16 - 1) * 128 + p.val, by omega⟩ ⟨(3 * (t.val / 16) + 1) * 256 + e.val, by omega⟩ rfl rfl]
  unfold iblk
  entry_read
  blk_ext [idx t]

theorem at2 (p : Fin 128) (e : Fin 256) : iblk m c 2 t (ix2 p e) = AttnRow.block 1 4 (a1 m c) (t.val / 16) (t.val % 16) p e := by
  have ⟨hn, hr⟩ := point_lt t
  rw [← wide_at (a1 m c) _ _ hr hn p e ⟨(t.val % 16) * 128 + p.val, by omega⟩ ⟨(3 * (t.val / 16) + 1) * 256 + e.val, by omega⟩ rfl rfl]
  unfold iblk
  entry_read
  blk_ext [idx t]

theorem at3 (p : Fin 128) (e : Fin 256) : iblk m c 3 t (ix2 p e) = AttnRow.block 1 4 (a2 m c) (t.val / 16) (t.val % 16 - 1) p e := by
  have ⟨hn, hr⟩ := point_lt t
  rw [← wide_at (a2 m c) _ _ hr (by omega) p e ⟨(t.val % 16 - 1) * 128 + p.val, by omega⟩ ⟨(3 * (t.val / 16) + 1) * 256 + e.val, by omega⟩ rfl rfl]
  unfold iblk
  entry_read
  blk_ext [idx t]

theorem at4 (p : Fin 128) (e : Fin 256) : iblk m c 4 t (ix2 p e) = AttnRow.block 1 4 (a2 m c) (t.val / 16) (t.val % 16) p e := by
  have ⟨hn, hr⟩ := point_lt t
  rw [← wide_at (a2 m c) _ _ hr hn p e ⟨(t.val % 16) * 128 + p.val, by omega⟩ ⟨(3 * (t.val / 16) + 1) * 256 + e.val, by omega⟩ rfl rfl]
  unfold iblk
  entry_read
  blk_ext [idx t]

theorem at5 (h : Fin 4) (p : Fin 128) (j : Fin 256) : iblk m c 5 t (ix3 h p j) = a3 m c (ix3 h p j) := by
  blk_ext [iblk, V, idx t]

theorem coord : (grid0.coords t 1).val = t.val % 16 := (idx t).2.2.2.2.2.2.2.2

theorem point6 (p : Fin 128) (e : Fin 256) : out0_6 (grid0.coords t) (iblk m c 0 t) (iblk m c 1 t) (iblk m c 2 t) (iblk m c 3 t)
    (iblk m c 4 t) (iblk m c 5 t) (ix2 p e) = AttnRow.outAt 1 4 (a0 m c) (a1 m c) (a2 m c) (a3 m c) (t.val / 16) (t.val % 16) p e := by
  rw [out6, coord]
  exact AttnBlock.out_whole (t.val % 16) (Nat.lt_of_lt_of_le (point_lt t).1 (by decide)) _ _ _ _ _ _ p e 1 4 (t.val / 16) _ _ _ _ (at0 m c t) (at1 m c t) (at2 m c t) (at3 m c t)
    (at4 m c t) fun h p j => (heads_at _ h p j).trans (at5 m c t h p j)

theorem point7 (p : Fin 128) (e : Fin 256) : out0_7 (grid0.coords t) (iblk m c 0 t) (iblk m c 1 t) (iblk m c 2 t) (iblk m c 3 t)
    (iblk m c 4 t) (iblk m c 5 t) (ix2 p e) = AttnRow.lseAt 1 4 (a0 m c) (a1 m c) (a3 m c) (t.val / 16) (t.val % 16) p e := by
  rw [out7, coord]
  exact AttnBlock.lse_whole (t.val % 16) (Nat.lt_of_lt_of_le (point_lt t).1 (by decide)) _ _ _ _ p e 1 4 (t.val / 16) _ _ _ (at0 m c t) (at1 m c t) (at2 m c t)
    fun h p j => (heads_at _ h p j).trans (at5 m c t h p j)

/-! ## The arrays -/

theorem whole6 : (dats m 0 c).arrAt 6 cfg0.N = AttnRow.Out 1 4 (a0 m c) (a1 m c) (a2 m c) (a3 m c) := by
  refine (dats m 0 c).arrAt_eq_of_covers 6 _ (by decide +kernel) fun t hf y => ?_
  have e0 : ((((cfg0.win 6).blk t).view.emb y) 0 : ℕ) = t.val % 16 * 128 + (y 0 : ℕ) := by blk_simp [idx t]
  have e1 : ((((cfg0.win 6).blk t).view.emb y) 1 : ℕ) = t.val / 16 * 256 + (y 1 : ℕ) := by blk_simp [idx t]
  generalize ((cfg0.win 6).blk t).view.emb y = z at e0 e1 ⊢
  rw [after0_6]
  have h := point6 m c t
  generalize out0_6 (grid0.coords t) (iblk m c 0 t) (iblk m c 1 t) (iblk m c 2 t) (iblk m c 3 t) (iblk m c 4 t) (iblk m c 5 t) = v at h ⊢
  exact (congrArg v (FfnArr.split2 y)).trans ((h (y 0) (y 1)).trans (AttnRow.Out_at 1 4 _ _ _ _ z (t.val / 16) (t.val % 16) (y 0) (y 1) e0 e1).symm)

theorem whole7 : (dats m 0 c).arrAt 7 cfg0.N = AttnRow.Lse 1 4 (a0 m c) (a1 m c) (a3 m c) := by
  refine (dats m 0 c).arrAt_eq_of_covers 7 _ (by decide +kernel) fun t hf y => ?_
  have e0 : ((((cfg0.win 7).blk t).view.emb y) 0 : ℕ) = t.val % 16 * 128 + (y 0 : ℕ) := by blk_simp [idx t]
  have e1 : ((((cfg0.win 7).blk t).view.emb y) 1 : ℕ) = t.val / 16 * 256 + (y 1 : ℕ) := by blk_simp [idx t]
  generalize ((cfg0.win 7).blk t).view.emb y = z at e0 e1 ⊢
  rw [after0_7]
  have h := point7 m c t
  generalize out0_7 (grid0.coords t) (iblk m c 0 t) (iblk m c 1 t) (iblk m c 2 t) (iblk m c 3 t) (iblk m c 4 t) (iblk m c 5 t) = v at h ⊢
  exact (congrArg v (FfnArr.split2 y)).trans ((h (y 0) (y 1)).trans (AttnRow.Lse_at 1 4 _ _ _ z (t.val / 16) (t.val % 16) (y 0) (y 1) e0 e1).symm)

/-- The kernel runs, leaves the two arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v3_0) = AttnRow.Out 1 4 (a0 m c) (a1 m c) (a2 m c) (a3 m c)
      ∧ r.2.mem ((c : Thread nD τ).loc main_v3_1) = AttnRow.Lse 1 4 (a0 m c) (a1 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    have ⟨h0, h1, hk⟩ := h c
    ⟨h0.trans (whole6 m c), h1.trans (whole7 m c), hk⟩)
    (Value.run_blocks m ρ)

end Cert.Attn1Whole
-- ==== Proof.Attn1Ref.lean ====
/-
  The reference of the attention of group 1: its two results are `AttnRow.lean`'s arrays.
-/
module

public import proofs.«01_k».proof.Proof.AttnRow
public import proofs.«01_k».proof.Proof.Gen.Attn1RefIdeal.Run

@[expose] public section

noncomputable section

namespace Cert.Attn1Ref

open Cert.Attn1RefIdeal Cert.Attn1RefIdeal.Gen Idealize.ShloMosaic Idealize.ShloMosaic.TcCoe Idealize.ShloMosaic.StableHlo Idealize.SL.Sem

/-! ## The reference's intermediate arrays, as the program forms them -/

/-- The group's columns, split into blocks, rows within a block, first rows, heads and columns of a head. -/
def hSplit (x : FVec Ideal S8192x768 .bf16) : FVec Ideal S16x128x4x4x64 .f32 :=
  shapeCast _ (extf .f32 (extractStridedSlice S8192x256 ![0, 256] x slices_S8192x768_S8192x256_0_256) bitsLt_bf16_f32)
    shapeCasts_S8192x256_S16x128x4x4x64

/-- The blocks before; the first block is its own. -/
def hPrev (s : FVec Ideal S16x128x4x4x64 .f32) : FVec Ideal S16x128x4x4x64 .f32 :=
  concatenate S16x128x4x4x64 0
    [⟨S1x128x4x4x64, extractStridedSlice S1x128x4x4x64 ![0, 0, 0, 0, 0] s slices_S16x128x4x4x64_S1x128x4x4x64_0_0_0_0_0⟩,
      ⟨S15x128x4x4x64, extractStridedSlice S15x128x4x4x64 ![0, 0, 0, 0, 0] s slices_S16x128x4x4x64_S15x128x4x4x64_0_0_0_0_0⟩]
    concatenates_S1x128x4x4x64_S15x128x4x4x64_S16x128x4x4x64_d0

/-- Each block after the one before. -/
def hTwo (s : FVec Ideal S16x128x4x4x64 .f32) : FVec Ideal S16x256x4x4x64 .f32 :=
  concatenate S16x256x4x4x64 1 [⟨S16x128x4x4x64, hPrev s⟩, ⟨S16x128x4x4x64, s⟩]
    concatenates_S16x128x4x4x64_S16x128x4x4x64_S16x256x4x4x64_d1

/-- The rows and the keys that see one another. -/
def hNear : IVec S16x128x256 1 :=
  andi
    (broadcastInDim S16x128x256 ![0, 1, 2] bcast_S1x128x256_S16x128x256_0_1_2
      (andi
        (cmpi .sge
          (broadcastInDim S1x128x256 ![0, 1, 2] bcast_S1x1x256_S1x128x256_0_1_2 (broadcastInDim S1x1x256 ![2] bcast_S256_S1x1x256_2 (iotaInDim S256 32 0)))
          (broadcastInDim S1x128x256 ![0, 1, 2] bcast_S1x128x1_S1x128x256_0_1_2 (broadcastInDim S1x128x1 ![1] bcast_S128_S1x128x1_1 (iotaInDim S128 32 0))))
        (cmpi .sle
          (broadcastInDim S1x128x256 ![0, 1, 2] bcast_S1x1x256_S1x128x256_0_1_2 (broadcastInDim S1x1x256 ![2] bcast_S256_S1x1x256_2 (iotaInDim S256 32 0)))
          (broadcastInDim S1x128x256 ![0, 1, 2] bcast_S1x128x1_S1x128x256_0_1_2
            (addi (broadcastInDim S1x128x1 ![1] bcast_S128_S1x128x1_1 (iotaInDim S128 32 0)) (broadcastInDim S1x128x1 ![] bcast_S_S1x128x1 (constantI S_ 32 128#32)))))))
    (broadcastInDim S16x128x256 ![0, 1, 2] bcast_S16x1x256_S16x128x256_0_1_2
      (ori
        (broadcastInDim S16x1x256 ![0, 1, 2] bcast_S16x1x1_S16x1x256_0_1_2
          (cmpi .sgt (broadcastInDim S16x1x1 ![0] bcast_S16_S16x1x1_0 (iotaInDim S16 32 0)) (broadcastInDim S16x1x1 ![] bcast_S_S16x1x1 (constantI S_ 32 0#32))))
        (broadcastInDim S16x1x256 ![0, 1, 2] bcast_S1x1x256_S16x1x256_0_1_2
          (cmpi .sge (broadcastInDim S1x1x256 ![2] bcast_S256_S1x1x256_2 (iotaInDim S256 32 0)) (broadcastInDim S1x1x256 ![] bcast_S_S1x1x256 (constantI S_ 32 128#32))))))

variable (q k v : FVec Ideal S8192x768 .bf16) (b : Vec Ideal S4x128x256 .f32)

def hLogit : FVec Ideal S16x4x4x128x256 .f32 :=
  select
    (broadcastInDim S16x4x4x128x256 ![0, 1, 2, 3, 4] bcast_S16x1x1x128x256_S16x4x4x128x256_0_1_2_3_4
      (broadcastInDim S16x1x1x128x256 ![0, 3, 4] bcast_S16x128x256_S16x1x1x128x256_0_3_4 hNear))
    (addf (Host.dotGeneral dot_S16x128x4x4x64_S16x256x4x4x64_S16x4x4x128x256_4_4_1_1_023_023 none (hSplit q) (hTwo (hSplit k)))
      (broadcastInDim S16x4x4x128x256 ![0, 1, 2, 3, 4] bcast_S1x1x4x128x256_S16x4x4x128x256_0_1_2_3_4
        (broadcastInDim S1x1x4x128x256 ![2, 3, 4] bcast_S4x128x256_S1x1x4x128x256_2_3_4 b)))
    (broadcastInDim S16x4x4x128x256 ![] bcast_S_S16x4x4x128x256 (id (constant S_ .f32 0xF149F2CA#32)))

def hTop : FVec Ideal S16x4x4x128 .f32 :=
  Host.reduce FloatOps.maximumf (hLogit q k b) (constant S_ .f32 0xFF800000#32) reducesTo_S16x4x4x128x256_S16x4x4x128_d4 h_S_

def hWeight : FVec Ideal S16x4x4x128x256 .f32 :=
  Host.exp (subf (hLogit q k b)
    (broadcastInDim S16x4x4x128x256 ![0, 1, 2, 3, 4] bcast_S16x4x4x128x1_S16x4x4x128x256_0_1_2_3_4
      (broadcastInDim S16x4x4x128x1 ![0, 1, 2, 3] bcast_S16x4x4x128_S16x4x4x128x1_0_1_2_3 (hTop q k b))))

def hDen : FVec Ideal S16x4x4x128 .f32 :=
  Host.reduceAdd (hWeight q k b) (constant S_ .f32 0x00000000#32) reducesTo_S16x4x4x128x256_S16x4x4x128_d4 h_S_

/-- A number per row and head, at each column of the head. -/
def hSpread (x : FVec Ideal S16x4x4x128 .f32) : FVec Ideal S16x128x4x4x64 .f32 :=
  broadcastInDim S16x128x4x4x64 ![0, 1, 2, 3, 4] bcast_S16x128x4x4x1_S16x128x4x4x64_0_1_2_3_4
    (broadcastInDim S16x128x4x4x1 ![0, 1, 2, 3] bcast_S16x128x4x4_S16x128x4x4x1_0_1_2_3
      (transpose S16x128x4x4 [0, 3, 1, 2] x transposes_S16x4x4x128_S16x128x4x4_0_3_1_2))

def hOut : FVec Ideal S16x128x4x4x64 .f32 :=
  Host.divf
    (transpose S16x128x4x4x64 [0, 4, 1, 2, 3]
      (Host.dotGeneral dot_S16x256x4x4x64_S16x4x4x128x256_S16x4x4x64x128_1_4_4_3_023_012 none (hTwo (hSplit v)) (hWeight q k b))
      transposes_S16x4x4x64x128_S16x128x4x4x64_0_4_1_2_3)
    (hSpread (hDen q k b))

/-- A number per row and head, given an axis of one and laid flat again. -/
def hKeep (x : FVec Ideal S16x4x4x128 .f32) : FVec Ideal S16x4x4x128 .f32 :=
  shapeCast _ (broadcastInDim S16x4x4x128x1 ![0, 1, 2, 3] bcast_S16x4x4x128_S16x4x4x128x1_0_1_2_3 x) shapeCasts_S16x4x4x128x1_S16x4x4x128

def hLse : FVec Ideal S16x128x4x4x64 .f32 :=
  hSpread (addf (hKeep (hTop q k b)) (Host.log (hDen q k b)))

/-- The results' layout: a block's rows one below the other, the first rows beside one another. -/
def hLay (x : FVec Ideal S16x128x4x4x64 .f32) : FVec Ideal S2048x1024 .f32 := shapeCast _ x shapeCasts_S16x128x4x4x64_S2048x1024

/-! ## The same arrays at an index -/

variable (n : Fin 16) (r : Fin 4) (h : Fin 4) (p : Fin 128)

theorem hSplit_at (x : FVec Ideal S8192x768 .bf16) (e : Fin 64) :
    hSplit x (ix5 n p r h e) = AttnRow.block 1 4 x r.val n.val p (AttnRow.col h e) := by
  unfold hSplit
  refine (shapeCast_apply _ shapeCasts_S8192x256_S16x128x4x4x64 (ix5 n p r h e)
    (ix2 (⟨(n.val * 128 + p.val) * 4 + r.val, by omega⟩ : Fin 8192) (AttnRow.col h e)) (by
      rw [Shape.rowMajor_val_five, Shape.rowMajor_val_two]
      show ((n.val * 128 + p.val) * 4 + r.val) * 256 + (h.val * 64 + e.val)
        = (((n.val * 128 + p.val) * 4 + r.val) * 4 + h.val) * 64 + e.val
      omega)).trans ?_
  pointwise
  exact AttnRow.rd_eq x _ _ _ _ (by first | rfl | simp) (by first | rfl | (simp only [AttnRow.col]; omega))

theorem hPrev_at (s : FVec Ideal S16x128x4x4x64 .f32) (e : Fin 64) :
    hPrev s (ix5 n p r h e) = s (ix5 ⟨n.val - 1, by omega⟩ p r h e) := by
  unfold hPrev
  pointwise
  by_cases hn : n.val < 1
  · rw [dif_pos hn]
    exact congrArg (fun a => s (ix5 a p r h e)) (Fin.ext (by simp only []; omega))
  · rw [dif_neg hn]

theorem hTwo_at (x : FVec Ideal S8192x768 .bf16) (j : Fin 256) (e : Fin 64) :
    hTwo (hSplit x) (ix5 n j r h e) = AttnRow.two 1 4 x r.val n.val j (AttnRow.col h e) := by
  unfold hTwo AttnRow.two
  pointwise
  by_cases hj : j.val < 128
  · rw [dif_pos hj, dif_pos hj, hPrev_at, hSplit_at]
  · rw [dif_neg hj, dif_neg hj, hSplit_at]

theorem hNear_at (j : Fin 256) : hNear (ix3 n p j) = if AttnRow.Near n.val p.val j.val then 1#1 else 0#1 := by
  unfold hNear
  pointwise
  exact AttnRow.near_cmp n.val p.val j.val (by omega) p.isLt j.isLt

theorem hLogit_at (j : Fin 256) : hLogit q k b (ix5 n r h p j)
    = AttnRow.logit n.val (AttnRow.block 1 4 q r.val n.val) (AttnRow.two 1 4 k r.val n.val) (AttnRow.bias b) h p j := by
  unfold hLogit AttnRow.logit
  pointwise
  simp only [hNear_at, hSplit_at, hTwo_at, AttnRow.select_if]
  rfl

theorem hTop_at : hTop q k b (ix4 n r h p)
    = AttnRow.top n.val (AttnRow.block 1 4 q r.val n.val) (AttnRow.two 1 4 k r.val n.val) (AttnRow.bias b) h p := by
  unfold hTop AttnRow.top
  pointwise
  simp only [hLogit_at]
  rfl

theorem hWeight_at (j : Fin 256) : hWeight q k b (ix5 n r h p j)
    = AttnRow.weight n.val (AttnRow.block 1 4 q r.val n.val) (AttnRow.two 1 4 k r.val n.val) (AttnRow.bias b) h p j := by
  unfold hWeight AttnRow.weight
  pointwise
  simp only [hLogit_at, hTop_at]

theorem hDen_at : hDen q k b (ix4 n r h p)
    = AttnRow.den n.val (AttnRow.block 1 4 q r.val n.val) (AttnRow.two 1 4 k r.val n.val) (AttnRow.bias b) h p := by
  unfold hDen AttnRow.den
  pointwise
  simp only [hWeight_at]

theorem hSpread_at (x : FVec Ideal S16x4x4x128 .f32) (e : Fin 64) : hSpread x (ix5 n p r h e) = x (ix4 n r h p) := by
  unfold hSpread
  pointwise

theorem hOut_at (e : Fin 64) : hOut q k v b (ix5 n p r h e) = AttnRow.outAt 1 4 q k v b r.val n.val p (AttnRow.col h e) := by
  unfold hOut AttnRow.outAt AttnRow.out
  pointwise
  simp only [hSpread_at, hDen_at, hWeight_at, hTwo_at, AttnRow.head_col, mul_comm]

theorem hKeep_at (x : FVec Ideal S16x4x4x128 .f32) : hKeep x (ix4 n r h p) = x (ix4 n r h p) := by
  unfold hKeep
  refine (shapeCast_apply _ shapeCasts_S16x4x4x128x1_S16x4x4x128 (ix4 n r h p) (ix5 n r h p (0 : Fin 1)) (by
      rw [Shape.rowMajor_val_five, Shape.rowMajor_val_four]
      show (((n.val * 4 + r.val) * 4 + h.val) * 128 + p.val) * 1 + 0 = ((n.val * 4 + r.val) * 4 + h.val) * 128 + p.val
      omega)).trans ?_
  pointwise

theorem hSum_at (x y : FVec Ideal S16x4x4x128 .f32) (e : Fin 64) :
    hSpread (addf (hKeep x) (Host.log y)) (ix5 n p r h e) = x (ix4 n r h p) + Ideal.log (y (ix4 n r h p)) := by
  rw [hSpread_at]
  pointwise
  rw [hKeep_at]

theorem hLse_at (e : Fin 64) : hLse q k b (ix5 n p r h e) = AttnRow.lseAt 1 4 q k b r.val n.val p (AttnRow.col h e) := by
  refine (hSum_at n r h p (hTop q k b) (hDen q k b) e).trans ?_
  rw [hTop_at, hDen_at]
  unfold AttnRow.lseAt AttnRow.lse
  rw [AttnRow.head_col]

/-- The laid-out array at an index. -/
theorem hLay_at (x : FVec Ideal S16x128x4x4x64 .f32) (i : Fin 2048) (j : Fin 1024) :
    hLay x (ix2 i j) = x (ix5 ⟨i.val / 128, by omega⟩ ⟨i.val % 128, by omega⟩ ⟨j.val / 256, by omega⟩
      ⟨j.val % 256 / 64, by omega⟩ ⟨j.val % 64, by omega⟩) := by
  unfold hLay
  exact shapeCast_apply _ _ _ _ (by
    rw [Shape.rowMajor_val_five, Shape.rowMajor_val_two]
    show (((i.val / 128 * 128 + i.val % 128) * 4 + j.val / 256) * 4 + j.val % 256 / 64) * 64 + j.val % 64 = i.val * 1024 + j.val
    omega)

/-! ## The results -/

theorem out_eq : hLay (hOut q k v b) = AttnRow.Out 1 4 q k v b := by
  funext y
  have e : ∀ j : Fin 1024, AttnRow.col ⟨j.val % 256 / 64, by omega⟩ ⟨j.val % 64, by omega⟩
      = (⟨j.val % 256, by omega⟩ : Fin 256) := fun j => Fin.ext (by simp only [AttnRow.col]; omega)
  exact (congrArg _ (FfnArr.split2 y)).trans ((hLay_at _ (y 0) (y 1)).trans ((hOut_at q k v b _ _ _ _ _).trans
    (congrArg (AttnRow.outAt 1 4 q k v b _ _ _) (e (y 1)))))

theorem lse_eq : hLay (hLse q k b) = AttnRow.Lse 1 4 q k b := by
  funext y
  have e : ∀ j : Fin 1024, AttnRow.col ⟨j.val % 256 / 64, by omega⟩ ⟨j.val % 64, by omega⟩
      = (⟨j.val % 256, by omega⟩ : Fin 256) := fun j => Fin.ext (by simp only [AttnRow.col]; omega)
  exact (congrArg _ (FfnArr.split2 y)).trans ((hLay_at _ (y 0) (y 1)).trans ((hLse_at q k b _ _ _ _ _).trans
    (congrArg (AttnRow.lseAt 1 4 q k b _ _ _) (e (y 1)))))

section Run

variable (m : (ℓ : Loc nD τ sig) → Buf (Elt Ideal) ℓ) (c : Dev nD)

/-- The arguments. -/
abbrev a0 : AttnRow.Arr 8192 768 := m ((c.tc : Thread nD τ).loc main_arg0)
abbrev a1 : AttnRow.Arr 8192 768 := m ((c.tc : Thread nD τ).loc main_arg1)
abbrev a2 : AttnRow.Arr 8192 768 := m ((c.tc : Thread nD τ).loc main_arg2)
abbrev a3 : AttnRow.Bias := m ((c.tc : Thread nD τ).loc main_arg3)

/-- The reference runs, leaves the two arrays and keeps its arguments. -/
theorem run (ρ : Dev nD → PrngReg) : θ_run defs (onTc (τ := τ) (main (F := Ideal))) ⟨m, fun _ => 0, ρ⟩ fun r => ∀ c : Dev nD,
      r.2.mem ((c.tc : Thread nD τ).loc main_v64) = AttnRow.Out 1 4 (a0 m c) (a1 m c) (a2 m c) (a3 m c)
      ∧ r.2.mem ((c.tc : Thread nD τ).loc main_v67) = AttnRow.Lse 1 4 (a0 m c) (a1 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have ⟨h0, h1, hk⟩ := h c
    ⟨h0.trans (out_eq (a0 m c) (a1 m c) (a2 m c) (a3 m c)), h1.trans (lse_eq (a0 m c) (a1 m c) (a3 m c)), hk⟩)
    (Value.run (F := Ideal) m ρ)

end Run

end Cert.Attn1Ref
-- ==== Proof.Attn2Whole.lean ====
/-
  The attention kernel of group 2, whose rows are every 16-th: its two results whole.
-/
module

public import proofs.«01_k».proof.Proof.AttnBlock
public import proofs.«01_k».proof.Proof.Gen.Attn2Ideal.Value

@[expose] public section

noncomputable section

namespace Cert.Attn2Whole

open Cert.Attn2Ideal Cert.Attn2Ideal.Gen Idealize.ShloMosaic Idealize.ShloMosaic.TcCoe Idealize.SL.Sem

/-! ## The body's outputs -/

/-- The bias of each head. -/
def heads (b : Vec Ideal S4x128x256 .f32) : Fin 4 → Vec Ideal S1x128x256 .f32 :=
  ![View.ld b r0_1, View.ld b r0_2, View.ld b r0_3, View.ld b r0_4]

theorem heads_at (b : Vec Ideal S4x128x256 .f32) (h : Fin 4) (p : Fin 128) (j : Fin 256) :
    heads b h (ix3 0 p j) = b (ix3 h p j) := by
  fin_cases h
  · show View.ld b r0_1 (ix3 0 p j) = _
    pointwise
  · show View.ld b r0_2 (ix3 0 p j) = _
    pointwise
  · show View.ld b r0_3 (ix3 0 p j) = _
    pointwise
  · show View.ld b r0_4 (ix3 0 p j) = _
    pointwise

section

variable (i : grid0.Coords) (q k₀ k₁ v₀ v₁ : Vec Ideal S128x256 .bf16) (b : Vec Ideal S4x128x256 .f32)

/-- A block cast to its own shape is itself. -/
theorem cast_self (x : Vec Ideal S128x256 .bf16) : shapeCast S128x256 x shapeCasts_S128x256_S128x256 = x := by
  funext y
  exact shapeCast_apply x _ y y rfl

theorem out6 : out0_6 i q k₀ k₁ v₀ v₁ b = AttnBlock.out (i 1).val q k₀ k₁ v₀ v₁ (heads b) := by
  have h : out0_6 i q k₀ k₁ v₀ v₁ b = AttnBlock.out (i 1).val (shapeCast S128x256 q shapeCasts_S128x256_S128x256)
      (shapeCast S128x256 k₀ shapeCasts_S128x256_S128x256) (shapeCast S128x256 k₁ shapeCasts_S128x256_S128x256)
      (shapeCast S128x256 v₀ shapeCasts_S128x256_S128x256) (shapeCast S128x256 v₁ shapeCasts_S128x256_S128x256) (heads b) := by
    unfold_out out0_6
    frame_out
    rfl
  rw [h, cast_self, cast_self, cast_self, cast_self, cast_self]

theorem out7 : out0_7 i q k₀ k₁ v₀ v₁ b = AttnBlock.lse (i 1).val q k₀ k₁ (heads b) := by
  have h : out0_7 i q k₀ k₁ v₀ v₁ b = AttnBlock.lse (i 1).val (shapeCast S128x256 q shapeCasts_S128x256_S128x256)
      (shapeCast S128x256 k₀ shapeCasts_S128x256_S128x256) (shapeCast S128x256 k₁ shapeCasts_S128x256_S128x256) (heads b) := by
    unfold_out out0_7
    frame_out
    rfl
  rw [h, cast_self, cast_self, cast_self]

end

/-! ## The blocks at a point -/

variable (m : (ℓ : Loc nD τ sig) → Buf (Elt Ideal) ℓ) (c : Dev nD)

/-- The arguments on device `c`. -/
abbrev a0 : AttnRow.Arr 8192 768 := m ((c : Thread nD τ).loc main_arg0)
abbrev a1 : AttnRow.Arr 8192 768 := m ((c : Thread nD τ).loc main_arg1)
abbrev a2 : AttnRow.Arr 8192 768 := m ((c : Thread nD τ).loc main_arg2)
abbrev a3 : AttnRow.Bias := m ((c : Thread nD τ).loc main_arg3)

variable (t : Fin cfg0.N)

theorem idx : ∀ t : Fin cfg0.N, win0_0.index t = ![t.val % 4, 3 * (t.val / 4) + 2]
    ∧ win0_1.index t = ![t.val % 4 - 1, 3 * (t.val / 4) + 2] ∧ win0_2.index t = ![t.val % 4, 3 * (t.val / 4) + 2]
    ∧ win0_3.index t = ![t.val % 4 - 1, 3 * (t.val / 4) + 2] ∧ win0_4.index t = ![t.val % 4, 3 * (t.val / 4) + 2]
    ∧ win0_5.index t = ![0, 0, 0] ∧ win0_6.index t = ![t.val % 4, t.val / 4] ∧ win0_7.index t = ![t.val % 4, t.val / 4]
    ∧ (grid0.coords t 1).val = t.val % 4 :=
  (by decide +kernel : ∀ t : Fin grid0.N, _)

/-- The rows, 16 to a line. -/
def wide (x : AttnRow.Arr 8192 768) : AttnRow.Arr 512 12288 := shapeCast S512x12288 x shapeCasts_S8192x768_S512x12288

/-- A block of the lines, read by row and column numbers of the array. -/
theorem wide_at (x : AttnRow.Arr 8192 768) (r n : ℕ) (hr : r < 16) (hn : n < 4) (p : Fin 128) (e : Fin 256) (i : Fin 512) (j : Fin 12288)
    (hi : i.val = n * 128 + p.val) (hj : j.val = (3 * r + 2) * 256 + e.val) :
    wide x (ix2 i j) = AttnRow.block 2 16 x r n p e := by
  unfold wide
  refine (shapeCast_apply x shapeCasts_S8192x768_S512x12288 (ix2 i j)
    (ix2 (⟨(n * 128 + p.val) * 16 + r, by omega⟩ : Fin 8192) (⟨256 * 2 + e.val, by omega⟩ : Fin 768)) (by
      rw [Shape.rowMajor_val_two, Shape.rowMajor_val_two]
      show ((n * 128 + p.val) * 16 + r) * 768 + (256 * 2 + e.val) = i.val * 12288 + j.val
      omega)).trans ?_
  exact AttnRow.rd_eq x _ _ _ _ rfl rfl

theorem point_lt : t.val % 4 < 4 ∧ t.val / 4 < 16 := by
  have ht : t.val < 64 := t.isLt
  omega

theorem at0 (p : Fin 128) (e : Fin 256) : iblk m c 0 t (ix2 p e) = AttnRow.block 2 16 (a0 m c) (t.val / 4) (t.val % 4) p e := by
  have ⟨hn, hr⟩ := point_lt t
  rw [← wide_at (a0 m c) _ _ hr hn p e ⟨(t.val % 4) * 128 + p.val, by omega⟩ ⟨(3 * (t.val / 4) + 2) * 256 + e.val, by omega⟩ rfl rfl]
  unfold iblk
  entry_read
  blk_ext [idx t]

theorem at1 (p : Fin 128) (e : Fin 256) : iblk m c 1 t (ix2 p e) = AttnRow.block 2 16 (a1 m c) (t.val / 4) (t.val % 4 - 1) p e := by
  have ⟨hn, hr⟩ := point_lt t
  rw [← wide_at (a1 m c) _ _ hr (by omega) p e ⟨(t.val % 4 - 1) * 128 + p.val, by omega⟩ ⟨(3 * (t.val / 4) + 2) * 256 + e.val, by omega⟩ rfl rfl]
  unfold iblk
  entry_read
  blk_ext [idx t]

theorem at2 (p : Fin 128) (e : Fin 256) : iblk m c 2 t (ix2 p e) = AttnRow.block 2 16 (a1 m c) (t.val / 4) (t.val % 4) p e := by
  have ⟨hn, hr⟩ := point_lt t
  rw [← wide_at (a1 m c) _ _ hr hn p e ⟨(t.val % 4) * 128 + p.val, by omega⟩ ⟨(3 * (t.val / 4) + 2) * 256 + e.val, by omega⟩ rfl rfl]
  unfold iblk
  entry_read
  blk_ext [idx t]

theorem at3 (p : Fin 128) (e : Fin 256) : iblk m c 3 t (ix2 p e) = AttnRow.block 2 16 (a2 m c) (t.val / 4) (t.val % 4 - 1) p e := by
  have ⟨hn, hr⟩ := point_lt t
  rw [← wide_at (a2 m c) _ _ hr (by omega) p e ⟨(t.val % 4 - 1) * 128 + p.val, by omega⟩ ⟨(3 * (t.val / 4) + 2) * 256 + e.val, by omega⟩ rfl rfl]
  unfold iblk
  entry_read
  blk_ext [idx t]

theorem at4 (p : Fin 128) (e : Fin 256) : iblk m c 4 t (ix2 p e) = AttnRow.block 2 16 (a2 m c) (t.val / 4) (t.val % 4) p e := by
  have ⟨hn, hr⟩ := point_lt t
  rw [← wide_at (a2 m c) _ _ hr hn p e ⟨(t.val % 4) * 128 + p.val, by omega⟩ ⟨(3 * (t.val / 4) + 2) * 256 + e.val, by omega⟩ rfl rfl]
  unfold iblk
  entry_read
  blk_ext [idx t]

theorem at5 (h : Fin 4) (p : Fin 128) (j : Fin 256) : iblk m c 5 t (ix3 h p j) = a3 m c (ix3 h p j) := by
  blk_ext [iblk, V, idx t]

theorem coord : (grid0.coords t 1).val = t.val % 4 := (idx t).2.2.2.2.2.2.2.2

theorem point6 (p : Fin 128) (e : Fin 256) : out0_6 (grid0.coords t) (iblk m c 0 t) (iblk m c 1 t) (iblk m c 2 t) (iblk m c 3 t)
    (iblk m c 4 t) (iblk m c 5 t) (ix2 p e) = AttnRow.outAt 2 16 (a0 m c) (a1 m c) (a2 m c) (a3 m c) (t.val / 4) (t.val % 4) p e := by
  rw [out6, coord]
  exact AttnBlock.out_whole (t.val % 4) (Nat.lt_of_lt_of_le (point_lt t).1 (by decide)) _ _ _ _ _ _ p e 2 16 (t.val / 4) _ _ _ _ (at0 m c t) (at1 m c t) (at2 m c t) (at3 m c t)
    (at4 m c t) fun h p j => (heads_at _ h p j).trans (at5 m c t h p j)

theorem point7 (p : Fin 128) (e : Fin 256) : out0_7 (grid0.coords t) (iblk m c 0 t) (iblk m c 1 t) (iblk m c 2 t) (iblk m c 3 t)
    (iblk m c 4 t) (iblk m c 5 t) (ix2 p e) = AttnRow.lseAt 2 16 (a0 m c) (a1 m c) (a3 m c) (t.val / 4) (t.val % 4) p e := by
  rw [out7, coord]
  exact AttnBlock.lse_whole (t.val % 4) (Nat.lt_of_lt_of_le (point_lt t).1 (by decide)) _ _ _ _ p e 2 16 (t.val / 4) _ _ _ (at0 m c t) (at1 m c t) (at2 m c t)
    fun h p j => (heads_at _ h p j).trans (at5 m c t h p j)

/-! ## The arrays -/

theorem whole6 : (dats m 0 c).arrAt 6 cfg0.N = AttnRow.Out 2 16 (a0 m c) (a1 m c) (a2 m c) (a3 m c) := by
  refine (dats m 0 c).arrAt_eq_of_covers 6 _ (by decide +kernel) fun t hf y => ?_
  have e0 : ((((cfg0.win 6).blk t).view.emb y) 0 : ℕ) = t.val % 4 * 128 + (y 0 : ℕ) := by blk_simp [idx t]
  have e1 : ((((cfg0.win 6).blk t).view.emb y) 1 : ℕ) = t.val / 4 * 256 + (y 1 : ℕ) := by blk_simp [idx t]
  generalize ((cfg0.win 6).blk t).view.emb y = z at e0 e1 ⊢
  rw [after0_6]
  have h := point6 m c t
  generalize out0_6 (grid0.coords t) (iblk m c 0 t) (iblk m c 1 t) (iblk m c 2 t) (iblk m c 3 t) (iblk m c 4 t) (iblk m c 5 t) = v at h ⊢
  exact (congrArg v (FfnArr.split2 y)).trans ((h (y 0) (y 1)).trans (AttnRow.Out_at 2 16 _ _ _ _ z (t.val / 4) (t.val % 4) (y 0) (y 1) e0 e1).symm)

theorem whole7 : (dats m 0 c).arrAt 7 cfg0.N = AttnRow.Lse 2 16 (a0 m c) (a1 m c) (a3 m c) := by
  refine (dats m 0 c).arrAt_eq_of_covers 7 _ (by decide +kernel) fun t hf y => ?_
  have e0 : ((((cfg0.win 7).blk t).view.emb y) 0 : ℕ) = t.val % 4 * 128 + (y 0 : ℕ) := by blk_simp [idx t]
  have e1 : ((((cfg0.win 7).blk t).view.emb y) 1 : ℕ) = t.val / 4 * 256 + (y 1 : ℕ) := by blk_simp [idx t]
  generalize ((cfg0.win 7).blk t).view.emb y = z at e0 e1 ⊢
  rw [after0_7]
  have h := point7 m c t
  generalize out0_7 (grid0.coords t) (iblk m c 0 t) (iblk m c 1 t) (iblk m c 2 t) (iblk m c 3 t) (iblk m c 4 t) (iblk m c 5 t) = v at h ⊢
  exact (congrArg v (FfnArr.split2 y)).trans ((h (y 0) (y 1)).trans (AttnRow.Lse_at 2 16 _ _ _ z (t.val / 4) (t.val % 4) (y 0) (y 1) e0 e1).symm)

/-- The kernel runs, leaves the two arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v3_0) = AttnRow.Out 2 16 (a0 m c) (a1 m c) (a2 m c) (a3 m c)
      ∧ r.2.mem ((c : Thread nD τ).loc main_v3_1) = AttnRow.Lse 2 16 (a0 m c) (a1 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    have ⟨h0, h1, hk⟩ := h c
    ⟨h0.trans (whole6 m c), h1.trans (whole7 m c), hk⟩)
    (Value.run_blocks m ρ)

end Cert.Attn2Whole
-- ==== Proof.Attn2Ref.lean ====
/-
  The reference of the attention of group 2: its two results are `AttnRow.lean`'s arrays.
-/
module

public import proofs.«01_k».proof.Proof.AttnRow
public import proofs.«01_k».proof.Proof.Gen.Attn2RefIdeal.Run

@[expose] public section

noncomputable section

namespace Cert.Attn2Ref

open Cert.Attn2RefIdeal Cert.Attn2RefIdeal.Gen Idealize.ShloMosaic Idealize.ShloMosaic.TcCoe Idealize.ShloMosaic.StableHlo Idealize.SL.Sem

/-! ## The reference's intermediate arrays, as the program forms them -/

/-- The group's columns, split into blocks, rows within a block, first rows, heads and columns of a head. -/
def hSplit (x : FVec Ideal S8192x768 .bf16) : FVec Ideal S4x128x16x4x64 .f32 :=
  shapeCast _ (extf .f32 (extractStridedSlice S8192x256 ![0, 512] x slices_S8192x768_S8192x256_0_512) bitsLt_bf16_f32)
    shapeCasts_S8192x256_S4x128x16x4x64

/-- The blocks before; the first block is its own. -/
def hPrev (s : FVec Ideal S4x128x16x4x64 .f32) : FVec Ideal S4x128x16x4x64 .f32 :=
  concatenate S4x128x16x4x64 0
    [⟨S1x128x16x4x64, extractStridedSlice S1x128x16x4x64 ![0, 0, 0, 0, 0] s slices_S4x128x16x4x64_S1x128x16x4x64_0_0_0_0_0⟩,
      ⟨S3x128x16x4x64, extractStridedSlice S3x128x16x4x64 ![0, 0, 0, 0, 0] s slices_S4x128x16x4x64_S3x128x16x4x64_0_0_0_0_0⟩]
    concatenates_S1x128x16x4x64_S3x128x16x4x64_S4x128x16x4x64_d0

/-- Each block after the one before. -/
def hTwo (s : FVec Ideal S4x128x16x4x64 .f32) : FVec Ideal S4x256x16x4x64 .f32 :=
  concatenate S4x256x16x4x64 1 [⟨S4x128x16x4x64, hPrev s⟩, ⟨S4x128x16x4x64, s⟩]
    concatenates_S4x128x16x4x64_S4x128x16x4x64_S4x256x16x4x64_d1

/-- The rows and the keys that see one another. -/
def hNear : IVec S4x128x256 1 :=
  andi
    (broadcastInDim S4x128x256 ![0, 1, 2] bcast_S1x128x256_S4x128x256_0_1_2
      (andi
        (cmpi .sge
          (broadcastInDim S1x128x256 ![0, 1, 2] bcast_S1x1x256_S1x128x256_0_1_2 (broadcastInDim S1x1x256 ![2] bcast_S256_S1x1x256_2 (iotaInDim S256 32 0)))
          (broadcastInDim S1x128x256 ![0, 1, 2] bcast_S1x128x1_S1x128x256_0_1_2 (broadcastInDim S1x128x1 ![1] bcast_S128_S1x128x1_1 (iotaInDim S128 32 0))))
        (cmpi .sle
          (broadcastInDim S1x128x256 ![0, 1, 2] bcast_S1x1x256_S1x128x256_0_1_2 (broadcastInDim S1x1x256 ![2] bcast_S256_S1x1x256_2 (iotaInDim S256 32 0)))
          (broadcastInDim S1x128x256 ![0, 1, 2] bcast_S1x128x1_S1x128x256_0_1_2
            (addi (broadcastInDim S1x128x1 ![1] bcast_S128_S1x128x1_1 (iotaInDim S128 32 0)) (broadcastInDim S1x128x1 ![] bcast_S_S1x128x1 (constantI S_ 32 128#32)))))))
    (broadcastInDim S4x128x256 ![0, 1, 2] bcast_S4x1x256_S4x128x256_0_1_2
      (ori
        (broadcastInDim S4x1x256 ![0, 1, 2] bcast_S4x1x1_S4x1x256_0_1_2
          (cmpi .sgt (broadcastInDim S4x1x1 ![0] bcast_S4_S4x1x1_0 (iotaInDim S4 32 0)) (broadcastInDim S4x1x1 ![] bcast_S_S4x1x1 (constantI S_ 32 0#32))))
        (broadcastInDim S4x1x256 ![0, 1, 2] bcast_S1x1x256_S4x1x256_0_1_2
          (cmpi .sge (broadcastInDim S1x1x256 ![2] bcast_S256_S1x1x256_2 (iotaInDim S256 32 0)) (broadcastInDim S1x1x256 ![] bcast_S_S1x1x256 (constantI S_ 32 128#32))))))

variable (q k v : FVec Ideal S8192x768 .bf16) (b : Vec Ideal S4x128x256 .f32)

def hLogit : FVec Ideal S4x16x4x128x256 .f32 :=
  select
    (broadcastInDim S4x16x4x128x256 ![0, 1, 2, 3, 4] bcast_S4x1x1x128x256_S4x16x4x128x256_0_1_2_3_4
      (broadcastInDim S4x1x1x128x256 ![0, 3, 4] bcast_S4x128x256_S4x1x1x128x256_0_3_4 hNear))
    (addf (Host.dotGeneral dot_S4x128x16x4x64_S4x256x16x4x64_S4x16x4x128x256_4_4_1_1_023_023 none (hSplit q) (hTwo (hSplit k)))
      (broadcastInDim S4x16x4x128x256 ![0, 1, 2, 3, 4] bcast_S1x1x4x128x256_S4x16x4x128x256_0_1_2_3_4
        (broadcastInDim S1x1x4x128x256 ![2, 3, 4] bcast_S4x128x256_S1x1x4x128x256_2_3_4 b)))
    (broadcastInDim S4x16x4x128x256 ![] bcast_S_S4x16x4x128x256 (id (constant S_ .f32 0xF149F2CA#32)))

def hTop : FVec Ideal S4x16x4x128 .f32 :=
  Host.reduce FloatOps.maximumf (hLogit q k b) (constant S_ .f32 0xFF800000#32) reducesTo_S4x16x4x128x256_S4x16x4x128_d4 h_S_

def hWeight : FVec Ideal S4x16x4x128x256 .f32 :=
  Host.exp (subf (hLogit q k b)
    (broadcastInDim S4x16x4x128x256 ![0, 1, 2, 3, 4] bcast_S4x16x4x128x1_S4x16x4x128x256_0_1_2_3_4
      (broadcastInDim S4x16x4x128x1 ![0, 1, 2, 3] bcast_S4x16x4x128_S4x16x4x128x1_0_1_2_3 (hTop q k b))))

def hDen : FVec Ideal S4x16x4x128 .f32 :=
  Host.reduceAdd (hWeight q k b) (constant S_ .f32 0x00000000#32) reducesTo_S4x16x4x128x256_S4x16x4x128_d4 h_S_

/-- A number per row and head, at each column of the head. -/
def hSpread (x : FVec Ideal S4x16x4x128 .f32) : FVec Ideal S4x128x16x4x64 .f32 :=
  broadcastInDim S4x128x16x4x64 ![0, 1, 2, 3, 4] bcast_S4x128x16x4x1_S4x128x16x4x64_0_1_2_3_4
    (broadcastInDim S4x128x16x4x1 ![0, 1, 2, 3] bcast_S4x128x16x4_S4x128x16x4x1_0_1_2_3
      (transpose S4x128x16x4 [0, 3, 1, 2] x transposes_S4x16x4x128_S4x128x16x4_0_3_1_2))

def hOut : FVec Ideal S4x128x16x4x64 .f32 :=
  Host.divf
    (transpose S4x128x16x4x64 [0, 4, 1, 2, 3]
      (Host.dotGeneral dot_S4x256x16x4x64_S4x16x4x128x256_S4x16x4x64x128_1_4_4_3_023_012 none (hTwo (hSplit v)) (hWeight q k b))
      transposes_S4x16x4x64x128_S4x128x16x4x64_0_4_1_2_3)
    (hSpread (hDen q k b))

/-- A number per row and head, given an axis of one and laid flat again. -/
def hKeep (x : FVec Ideal S4x16x4x128 .f32) : FVec Ideal S4x16x4x128 .f32 :=
  shapeCast _ (broadcastInDim S4x16x4x128x1 ![0, 1, 2, 3] bcast_S4x16x4x128_S4x16x4x128x1_0_1_2_3 x) shapeCasts_S4x16x4x128x1_S4x16x4x128

def hLse : FVec Ideal S4x128x16x4x64 .f32 :=
  hSpread (addf (hKeep (hTop q k b)) (Host.log (hDen q k b)))

/-- The results' layout: a block's rows one below the other, the first rows beside one another. -/
def hLay (x : FVec Ideal S4x128x16x4x64 .f32) : FVec Ideal S512x4096 .f32 := shapeCast _ x shapeCasts_S4x128x16x4x64_S512x4096

/-! ## The same arrays at an index -/

variable (n : Fin 4) (r : Fin 16) (h : Fin 4) (p : Fin 128)

theorem hSplit_at (x : FVec Ideal S8192x768 .bf16) (e : Fin 64) :
    hSplit x (ix5 n p r h e) = AttnRow.block 2 16 x r.val n.val p (AttnRow.col h e) := by
  unfold hSplit
  refine (shapeCast_apply _ shapeCasts_S8192x256_S4x128x16x4x64 (ix5 n p r h e)
    (ix2 (⟨(n.val * 128 + p.val) * 16 + r.val, by omega⟩ : Fin 8192) (AttnRow.col h e)) (by
      rw [Shape.rowMajor_val_five, Shape.rowMajor_val_two]
      show ((n.val * 128 + p.val) * 16 + r.val) * 256 + (h.val * 64 + e.val)
        = (((n.val * 128 + p.val) * 16 + r.val) * 4 + h.val) * 64 + e.val
      omega)).trans ?_
  pointwise
  exact AttnRow.rd_eq x _ _ _ _ (by first | rfl | simp) (by first | rfl | (simp only [AttnRow.col]; omega))

theorem hPrev_at (s : FVec Ideal S4x128x16x4x64 .f32) (e : Fin 64) :
    hPrev s (ix5 n p r h e) = s (ix5 ⟨n.val - 1, by omega⟩ p r h e) := by
  unfold hPrev
  pointwise
  by_cases hn : n.val < 1
  · rw [dif_pos hn]
    exact congrArg (fun a => s (ix5 a p r h e)) (Fin.ext (by simp only []; omega))
  · rw [dif_neg hn]

theorem hTwo_at (x : FVec Ideal S8192x768 .bf16) (j : Fin 256) (e : Fin 64) :
    hTwo (hSplit x) (ix5 n j r h e) = AttnRow.two 2 16 x r.val n.val j (AttnRow.col h e) := by
  unfold hTwo AttnRow.two
  pointwise
  by_cases hj : j.val < 128
  · rw [dif_pos hj, dif_pos hj, hPrev_at, hSplit_at]
  · rw [dif_neg hj, dif_neg hj, hSplit_at]

theorem hNear_at (j : Fin 256) : hNear (ix3 n p j) = if AttnRow.Near n.val p.val j.val then 1#1 else 0#1 := by
  unfold hNear
  pointwise
  exact AttnRow.near_cmp n.val p.val j.val (by omega) p.isLt j.isLt

theorem hLogit_at (j : Fin 256) : hLogit q k b (ix5 n r h p j)
    = AttnRow.logit n.val (AttnRow.block 2 16 q r.val n.val) (AttnRow.two 2 16 k r.val n.val) (AttnRow.bias b) h p j := by
  unfold hLogit AttnRow.logit
  pointwise
  simp only [hNear_at, hSplit_at, hTwo_at, AttnRow.select_if]
  rfl

theorem hTop_at : hTop q k b (ix4 n r h p)
    = AttnRow.top n.val (AttnRow.block 2 16 q r.val n.val) (AttnRow.two 2 16 k r.val n.val) (AttnRow.bias b) h p := by
  unfold hTop AttnRow.top
  pointwise
  simp only [hLogit_at]
  rfl

theorem hWeight_at (j : Fin 256) : hWeight q k b (ix5 n r h p j)
    = AttnRow.weight n.val (AttnRow.block 2 16 q r.val n.val) (AttnRow.two 2 16 k r.val n.val) (AttnRow.bias b) h p j := by
  unfold hWeight AttnRow.weight
  pointwise
  simp only [hLogit_at, hTop_at]

theorem hDen_at : hDen q k b (ix4 n r h p)
    = AttnRow.den n.val (AttnRow.block 2 16 q r.val n.val) (AttnRow.two 2 16 k r.val n.val) (AttnRow.bias b) h p := by
  unfold hDen AttnRow.den
  pointwise
  simp only [hWeight_at]

theorem hSpread_at (x : FVec Ideal S4x16x4x128 .f32) (e : Fin 64) : hSpread x (ix5 n p r h e) = x (ix4 n r h p) := by
  unfold hSpread
  pointwise

theorem hOut_at (e : Fin 64) : hOut q k v b (ix5 n p r h e) = AttnRow.outAt 2 16 q k v b r.val n.val p (AttnRow.col h e) := by
  unfold hOut AttnRow.outAt AttnRow.out
  pointwise
  simp only [hSpread_at, hDen_at, hWeight_at, hTwo_at, AttnRow.head_col, mul_comm]

theorem hKeep_at (x : FVec Ideal S4x16x4x128 .f32) : hKeep x (ix4 n r h p) = x (ix4 n r h p) := by
  unfold hKeep
  refine (shapeCast_apply _ shapeCasts_S4x16x4x128x1_S4x16x4x128 (ix4 n r h p) (ix5 n r h p (0 : Fin 1)) (by
      rw [Shape.rowMajor_val_five, Shape.rowMajor_val_four]
      show (((n.val * 16 + r.val) * 4 + h.val) * 128 + p.val) * 1 + 0 = ((n.val * 16 + r.val) * 4 + h.val) * 128 + p.val
      omega)).trans ?_
  pointwise

theorem hSum_at (x y : FVec Ideal S4x16x4x128 .f32) (e : Fin 64) :
    hSpread (addf (hKeep x) (Host.log y)) (ix5 n p r h e) = x (ix4 n r h p) + Ideal.log (y (ix4 n r h p)) := by
  rw [hSpread_at]
  pointwise
  rw [hKeep_at]

theorem hLse_at (e : Fin 64) : hLse q k b (ix5 n p r h e) = AttnRow.lseAt 2 16 q k b r.val n.val p (AttnRow.col h e) := by
  refine (hSum_at n r h p (hTop q k b) (hDen q k b) e).trans ?_
  rw [hTop_at, hDen_at]
  unfold AttnRow.lseAt AttnRow.lse
  rw [AttnRow.head_col]

/-- The laid-out array at an index. -/
theorem hLay_at (x : FVec Ideal S4x128x16x4x64 .f32) (i : Fin 512) (j : Fin 4096) :
    hLay x (ix2 i j) = x (ix5 ⟨i.val / 128, by omega⟩ ⟨i.val % 128, by omega⟩ ⟨j.val / 256, by omega⟩
      ⟨j.val % 256 / 64, by omega⟩ ⟨j.val % 64, by omega⟩) := by
  unfold hLay
  exact shapeCast_apply _ _ _ _ (by
    rw [Shape.rowMajor_val_five, Shape.rowMajor_val_two]
    show (((i.val / 128 * 128 + i.val % 128) * 16 + j.val / 256) * 4 + j.val % 256 / 64) * 64 + j.val % 64 = i.val * 4096 + j.val
    omega)

/-! ## The results -/

theorem out_eq : hLay (hOut q k v b) = AttnRow.Out 2 16 q k v b := by
  funext y
  have e : ∀ j : Fin 4096, AttnRow.col ⟨j.val % 256 / 64, by omega⟩ ⟨j.val % 64, by omega⟩
      = (⟨j.val % 256, by omega⟩ : Fin 256) := fun j => Fin.ext (by simp only [AttnRow.col]; omega)
  exact (congrArg _ (FfnArr.split2 y)).trans ((hLay_at _ (y 0) (y 1)).trans ((hOut_at q k v b _ _ _ _ _).trans
    (congrArg (AttnRow.outAt 2 16 q k v b _ _ _) (e (y 1)))))

theorem lse_eq : hLay (hLse q k b) = AttnRow.Lse 2 16 q k b := by
  funext y
  have e : ∀ j : Fin 4096, AttnRow.col ⟨j.val % 256 / 64, by omega⟩ ⟨j.val % 64, by omega⟩
      = (⟨j.val % 256, by omega⟩ : Fin 256) := fun j => Fin.ext (by simp only [AttnRow.col]; omega)
  exact (congrArg _ (FfnArr.split2 y)).trans ((hLay_at _ (y 0) (y 1)).trans ((hLse_at q k b _ _ _ _ _).trans
    (congrArg (AttnRow.lseAt 2 16 q k b _ _ _) (e (y 1)))))

section Run

variable (m : (ℓ : Loc nD τ sig) → Buf (Elt Ideal) ℓ) (c : Dev nD)

/-- The arguments. -/
abbrev a0 : AttnRow.Arr 8192 768 := m ((c.tc : Thread nD τ).loc main_arg0)
abbrev a1 : AttnRow.Arr 8192 768 := m ((c.tc : Thread nD τ).loc main_arg1)
abbrev a2 : AttnRow.Arr 8192 768 := m ((c.tc : Thread nD τ).loc main_arg2)
abbrev a3 : AttnRow.Bias := m ((c.tc : Thread nD τ).loc main_arg3)

/-- The reference runs, leaves the two arrays and keeps its arguments. -/
theorem run (ρ : Dev nD → PrngReg) : θ_run defs (onTc (τ := τ) (main (F := Ideal))) ⟨m, fun _ => 0, ρ⟩ fun r => ∀ c : Dev nD,
      r.2.mem ((c.tc : Thread nD τ).loc main_v64) = AttnRow.Out 2 16 (a0 m c) (a1 m c) (a2 m c) (a3 m c)
      ∧ r.2.mem ((c.tc : Thread nD τ).loc main_v67) = AttnRow.Lse 2 16 (a0 m c) (a1 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have ⟨h0, h1, hk⟩ := h c
    ⟨h0.trans (out_eq (a0 m c) (a1 m c) (a2 m c) (a3 m c)), h1.trans (lse_eq (a0 m c) (a1 m c) (a3 m c)), hk⟩)
    (Value.run (F := Ideal) m ρ)

end Run

end Cert.Attn2Ref
-- ==== Proof.OutRow.lean ====
/-
  The mixer's output over the extended reals: each row by itself, then whole arrays.

  Three groups' partial attentions `u` with their log sums `l` are joined to one; it and the state-space branch `y` are
  projected, weighed by the gates and projected once more.
-/
module

public import proofs.«01_k».proof.Proof.ProjRow

@[expose] public section

noncomputable section

namespace Cert.OutRow

open Idealize.ShloMosaic

/-- Column `j` of the first `n` of `N` columns, and of the `n` that begin at column `o`. -/
def fst {n N : ℕ} (h : n ≤ N) (j : Fin n) : Fin N := ⟨j.val, by omega⟩
def col (o : ℕ) {n N : ℕ} (h : o + n ≤ N) (j : Fin n) : Fin N := ⟨o + j.val, by omega⟩

/-! ## Three groups joined -/

section Join

variable (l0 l1 l2 u0 u1 u2 : EReal)

/-- The greatest of the three log sums. -/
def top : EReal := max (max l0 l1) l2

/-- The three groups' weights together. -/
def tot : EReal := Ideal.exp (l0 - top l0 l1 l2) + Ideal.exp (l1 - top l0 l1 l2) + Ideal.exp (l2 - top l0 l1 l2)

/-- The joined attention, and the joined log sum. -/
def joined : EReal :=
  Ideal.div (Ideal.exp (l0 - top l0 l1 l2) * u0 + Ideal.exp (l1 - top l0 l1 l2) * u1 + Ideal.exp (l2 - top l0 l1 l2) * u2)
    (tot l0 l1 l2)
def lse : EReal := top l0 l1 l2 + Ideal.log (tot l0 l1 l2)

end Join

/-! ## The branches of a row -/

/-- The cubic's coefficient and the scale of the smooth step's argument. -/
def cubic : EReal := Ideal.ofBits .f32 0x3D372713#32
def scale : EReal := Ideal.ofBits .f32 0x3F4C422A#32

/-- The smooth step, and the activation that it gates. -/
def step (x : EReal) : EReal := Ideal.tanh (scale * (x + cubic * x * x * x))
def act (x : EReal) : EReal := FfnRow.half * x * (1 + step x)

section Row

variable (o : Fin 256 → EReal) (y : Fin 512 → EReal) (g : Fin 2048 → EReal)
  (wa : Fin 256 → Fin 1024 → EReal) (wg ws : Fin 512 → Fin 1024 → EReal) (wo : Fin 1024 → Fin 1024 → EReal)

/-- The state-space rows' two halves, and the first gated by the second. -/
def glu (k : Fin 1024) : EReal := ∑ j, act (y j) * wg j k
def lead (j : Fin 512) : EReal := glu y wg (fst (by decide) j)
def valve (j : Fin 512) : EReal := FfnRow.gate (glu y wg (col 512 (by decide) j))
def state (j : Fin 512) : EReal := lead y wg j * valve y wg j

/-- The two branches projected. -/
def attn (d : Fin 1024) : EReal := ∑ e, o e * wa e d
def ssm (d : Fin 1024) : EReal := ∑ j, state y wg j * ws j d

/-- The two halves of the gates. -/
def ga (d : Fin 1024) : EReal := g (fst (by decide) d)
def gs (d : Fin 1024) : EReal := g (col 1024 (by decide) d)

/-- The gated sum of the branches. -/
def blend (d : Fin 1024) : EReal := ga g d * attn o wa d + gs g d * ssm y wg ws d

/-- The row that leaves. -/
def out (x : Fin 1024 → EReal) (d : Fin 1024) : EReal := x d + ∑ k, blend o y g wa wg ws k * wo k d

end Row

/-! ## The arrays -/

/-- Arrays of two dimensions. -/
abbrev Arr (n k : ℕ) := (⟨2, ![n, k]⟩ : Shape).Idx → EReal

def row {n k : ℕ} (x : Arr n k) (r : Fin n) : Fin k → EReal := fun j => x (ix2 r j)
def mat {n k : ℕ} (x : Arr n k) : Fin n → Fin k → EReal := fun i j => x (ix2 i j)

section Arrays

variable (x : Arr 8192 1024) (u0 u1 u2 l0 l1 l2 : Arr 8192 256) (y : Arr 8192 512) (g : Arr 8192 2048)
  (wa : Arr 256 1024) (wg ws : Arr 512 1024) (wo : Arr 1024 1024)

def joinedAt (r : Fin 8192) (e : Fin 256) : EReal :=
  joined (row l0 r e) (row l1 r e) (row l2 r e) (row u0 r e) (row u1 r e) (row u2 r e)
def lseAt (r : Fin 8192) (e : Fin 256) : EReal := lse (row l0 r e) (row l1 r e) (row l2 r e)
def outAt (r : Fin 8192) (d : Fin 1024) : EReal :=
  out (joinedAt u0 u1 u2 l0 l1 l2 r) (row y r) (row g r) (mat wa) (mat wg) (mat ws) (mat wo) (row x r) d

/-- The joined attention, its log sums, and the rows that leave. -/
def Joined : Arr 8192 256 := fun i => joinedAt u0 u1 u2 l0 l1 l2 (i 0) (i 1)
def Lse : Arr 8192 256 := fun i => lseAt l0 l1 l2 (i 0) (i 1)
def Out : Arr 8192 1024 := fun i => outAt x u0 u1 u2 l0 l1 l2 y g wa wg ws wo (i 0) (i 1)

end Arrays

end Cert.OutRow
-- ==== Proof.OutWhole.lean ====
/-
  The kernel of the mixer's output: what each grid point leaves, read at a row, and its three results whole.
-/
module

public import proofs.«01_k».proof.Proof.OutRow
public import proofs.«01_k».proof.Proof.Gen.MixOutFwdIdeal.Value
public import Idealize.ShloMosaic.Lib.Pipeline.ValueKit
public import Idealize.ShloMosaic.Lib.Pipeline.ReadBack

@[expose] public section

noncomputable section

namespace Cert.OutWhole

open Cert.MixOutFwdIdeal Cert.MixOutFwdIdeal.Gen Idealize.ShloMosaic Idealize.ShloMosaic.TcCoe Idealize.SL.Sem

/-! ## A block of 512 rows, row by row -/

section Rows

variable (x0 : Vec Ideal S512x1024 .f32) (x1 x2 x3 x4 x5 x6 : Vec Ideal S512x256 .f32) (x7 : Vec Ideal S512x512 .f32)
  (x8 : Vec Ideal S512x2048 .f32) (x9 : Vec Ideal S256x1024 .bf16) (x10 x11 : Vec Ideal S512x1024 .bf16)
  (x12 : Vec Ideal S1024x1024 .bf16) (p : Fin 512)

theorem top_at (e : Fin 256) : k0_pay2 x4 x5 x6 (ix2 p e) = OutRow.top (x4 (ix2 p e)) (x5 (ix2 p e)) (x6 (ix2 p e)) := by
  pointwise [k0_pay2]
  rfl

theorem tot_at (e : Fin 256) : k0_pay6 x4 x5 x6 (ix2 p e) = OutRow.tot (x4 (ix2 p e)) (x5 (ix2 p e)) (x6 (ix2 p e)) := by
  pointwise [k0_pay6, k0_pay3, k0_pay4, k0_pay5]
  simp only [top_at]
  rfl

/-- The joined attention of a block. -/
def joined (e : Fin 256) : EReal :=
  OutRow.joined (x4 (ix2 p e)) (x5 (ix2 p e)) (x6 (ix2 p e)) (x1 (ix2 p e)) (x2 (ix2 p e)) (x3 (ix2 p e))

theorem joined_at (e : Fin 256) : k0_pay7 x4 x5 x6 x1 x2 x3 (ix2 p e) = joined x1 x2 x3 x4 x5 x6 p e := by
  pointwise [k0_pay7, k0_pay3, k0_pay4, k0_pay5]
  simp only [top_at, tot_at]
  rfl

theorem lse_at (e : Fin 256) : k0_pay8 x4 x5 x6 (ix2 p e) = OutRow.lse (x4 (ix2 p e)) (x5 (ix2 p e)) (x6 (ix2 p e)) := by
  pointwise [k0_pay8]
  simp only [top_at, tot_at]
  rfl

theorem attn_at (d : Fin 1024) : k0_pay9 x4 x5 x6 x1 x2 x3 x9 (ix2 p d)
    = OutRow.attn (joined x1 x2 x3 x4 x5 x6 p) (OutRow.mat x9) d := by
  pointwise [k0_pay9]
  simp only [joined_at]
  rfl

theorem out_at (d : Fin 1024) :
    k0_pay1 x7 x8 (k0_pay9 x4 x5 x6 x1 x2 x3 x9) (k0_pay10 x7) x10 x11 x0 x12 (ix2 p d)
      = OutRow.out (joined x1 x2 x3 x4 x5 x6 p) (OutRow.row x7 p) (OutRow.row x8 p) (OutRow.mat x9) (OutRow.mat x10)
          (OutRow.mat x11) (OutRow.mat x12) (OutRow.row x0 p) d := by
  pointwise [k0_pay1, k0_pay10]
  simp only [attn_at, zero_sub]
  unfold OutRow.out OutRow.blend OutRow.ssm OutRow.state OutRow.lead OutRow.valve OutRow.glu OutRow.act OutRow.step FfnRow.gate
  rfl

theorem out13 : out0_13 x0 x1 x2 x3 x4 x5 x6 x7 x8 x9 x10 x11 x12 = k0_pay1 x7 x8 (k0_pay9 x4 x5 x6 x1 x2 x3 x9) (k0_pay10 x7) x10 x11 x0 x12 := by
  unfold out0_13
  frame_out

theorem out14 : out0_14 x0 x1 x2 x3 x4 x5 x6 x7 x8 x9 x10 x11 x12 = k0_pay7 x4 x5 x6 x1 x2 x3 := by
  unfold out0_14
  frame_out

theorem out15 : out0_15 x0 x1 x2 x3 x4 x5 x6 x7 x8 x9 x10 x11 x12 = k0_pay8 x4 x5 x6 := by
  unfold out0_15
  frame_out

end Rows

variable (m : (ℓ : Loc nD τ sig) → Buf (Elt Ideal) ℓ) (c : Dev nD)

/-- The arguments on device `c`. -/
abbrev a0 : OutRow.Arr 8192 1024 := m ((c : Thread nD τ).loc main_arg0)
abbrev a1 : OutRow.Arr 8192 256 := m ((c : Thread nD τ).loc main_arg1)
abbrev a2 : OutRow.Arr 8192 256 := m ((c : Thread nD τ).loc main_arg2)
abbrev a3 : OutRow.Arr 8192 256 := m ((c : Thread nD τ).loc main_arg3)
abbrev a4 : OutRow.Arr 8192 256 := m ((c : Thread nD τ).loc main_arg4)
abbrev a5 : OutRow.Arr 8192 256 := m ((c : Thread nD τ).loc main_arg5)
abbrev a6 : OutRow.Arr 8192 256 := m ((c : Thread nD τ).loc main_arg6)
abbrev a7 : OutRow.Arr 8192 512 := m ((c : Thread nD τ).loc main_arg7)
abbrev a8 : OutRow.Arr 8192 2048 := m ((c : Thread nD τ).loc main_arg8)
abbrev a9 : OutRow.Arr 256 1024 := m ((c : Thread nD τ).loc main_arg9)
abbrev a10 : OutRow.Arr 512 1024 := m ((c : Thread nD τ).loc main_arg10)
abbrev a11 : OutRow.Arr 512 1024 := m ((c : Thread nD τ).loc main_arg11)
abbrev a12 : OutRow.Arr 1024 1024 := m ((c : Thread nD τ).loc main_arg12)

section Points

variable (t : Fin cfg0.N)

/-- Where each window's block lies at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![0, 0] ∧ win0_10.index t = ![0, 0] ∧ win0_11.index t = ![0, 0]
    ∧ win0_12.index t = ![0, 0] ∧ win0_13.index t = ![t.val, 0] ∧ win0_14.index t = ![t.val, 0]
    ∧ win0_15.index t = ![t.val, 0] :=
  (by decide +kernel : ∀ t : Fin grid0.N, _)

/-- Row `p` of a point's block is this row of the array. -/
def place (p : Fin 512) : Fin 8192 := ⟨t.val * 512 + p.val, by have h : t.val < 16 := t.isLt; omega⟩

theorem at0 (p : Fin 512) (j : Fin 1024) : iblk m c 0 t (ix2 p j) = OutRow.row (a0 m c) (place t p) j := by
  unfold OutRow.row place
  blk_ext [iblk, V, idx t]

theorem at1 (p : Fin 512) (j : Fin 256) : iblk m c 1 t (ix2 p j) = OutRow.row (a1 m c) (place t p) j := by
  unfold OutRow.row place
  blk_ext [iblk, V, idx t]

theorem at2 (p : Fin 512) (j : Fin 256) : iblk m c 2 t (ix2 p j) = OutRow.row (a2 m c) (place t p) j := by
  unfold OutRow.row place
  blk_ext [iblk, V, idx t]

theorem at3 (p : Fin 512) (j : Fin 256) : iblk m c 3 t (ix2 p j) = OutRow.row (a3 m c) (place t p) j := by
  unfold OutRow.row place
  blk_ext [iblk, V, idx t]

theorem at4 (p : Fin 512) (j : Fin 256) : iblk m c 4 t (ix2 p j) = OutRow.row (a4 m c) (place t p) j := by
  unfold OutRow.row place
  blk_ext [iblk, V, idx t]

theorem at5 (p : Fin 512) (j : Fin 256) : iblk m c 5 t (ix2 p j) = OutRow.row (a5 m c) (place t p) j := by
  unfold OutRow.row place
  blk_ext [iblk, V, idx t]

theorem at6 (p : Fin 512) (j : Fin 256) : iblk m c 6 t (ix2 p j) = OutRow.row (a6 m c) (place t p) j := by
  unfold OutRow.row place
  blk_ext [iblk, V, idx t]

theorem at7 (p : Fin 512) (j : Fin 512) : iblk m c 7 t (ix2 p j) = OutRow.row (a7 m c) (place t p) j := by
  unfold OutRow.row place
  blk_ext [iblk, V, idx t]

theorem at8 (p : Fin 512) (j : Fin 2048) : iblk m c 8 t (ix2 p j) = OutRow.row (a8 m c) (place t p) j := by
  unfold OutRow.row place
  blk_ext [iblk, V, idx t]

theorem at9 : OutRow.mat (iblk m c 9 t) = OutRow.mat (a9 m c) := by
  funext i j
  unfold OutRow.mat
  blk_ext [iblk, V, idx t]

theorem at10 : OutRow.mat (iblk m c 10 t) = OutRow.mat (a10 m c) := by
  funext i j
  unfold OutRow.mat
  blk_ext [iblk, V, idx t]

theorem at11 : OutRow.mat (iblk m c 11 t) = OutRow.mat (a11 m c) := by
  funext i j
  unfold OutRow.mat
  blk_ext [iblk, V, idx t]

theorem at12 : OutRow.mat (iblk m c 12 t) = OutRow.mat (a12 m c) := by
  funext i j
  unfold OutRow.mat
  blk_ext [iblk, V, idx t]

/-- The joined attention of a point's block. -/
theorem joined_place (p : Fin 512) : joined (iblk m c 1 t) (iblk m c 2 t) (iblk m c 3 t) (iblk m c 4 t) (iblk m c 5 t)
    (iblk m c 6 t) p = OutRow.joinedAt (a1 m c) (a2 m c) (a3 m c) (a4 m c) (a5 m c) (a6 m c) (place t p) := by
  funext e
  unfold joined
  rw [at1, at2, at3, at4, at5, at6]
  rfl

/-- The three output blocks at a point. -/
theorem point13 (p : Fin 512) (d : Fin 1024) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p d)
    = OutRow.outAt (a0 m c) (a1 m c) (a2 m c) (a3 m c) (a4 m c) (a5 m c) (a6 m c) (a7 m c) (a8 m c) (a9 m c) (a10 m c) (a11 m c) (a12 m c) (place t p) d := by
  rw [out13, out_at, joined_place, at9, at10, at11, at12]
  have h0 : OutRow.row (iblk m c 0 t) p = OutRow.row (a0 m c) (place t p) := funext (at0 m c t p)
  have h7 : OutRow.row (iblk m c 7 t) p = OutRow.row (a7 m c) (place t p) := funext (at7 m c t p)
  have h8 : OutRow.row (iblk m c 8 t) p = OutRow.row (a8 m c) (place t p) := funext (at8 m c t p)
  rw [h0, h7, h8]
  rfl

theorem point14 (p : Fin 512) (e : Fin 256) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p e)
    = OutRow.joinedAt (a1 m c) (a2 m c) (a3 m c) (a4 m c) (a5 m c) (a6 m c) (place t p) e := by
  rw [out14, joined_at, joined_place]

theorem point15 (p : Fin 512) (e : Fin 256) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p e)
    = OutRow.lseAt (a4 m c) (a5 m c) (a6 m c) (place t p) e := by
  rw [out15, lse_at, at4, at5, at6]
  rfl

end Points

/-! ## The arrays -/

theorem whole13 : (dats m 0 c).arrAt 13 cfg0.N = OutRow.Out (a0 m c) (a1 m c) (a2 m c) (a3 m c) (a4 m c) (a5 m c) (a6 m c) (a7 m c) (a8 m c) (a9 m c) (a10 m c) (a11 m c) (a12 m c) := by
  refine (dats m 0 c).arrAt_eq_of_covers 13 _ (by decide +kernel) fun t hf y => ?_
  have e0 : ((((cfg0.win 13).blk t).view.emb y) 0 : ℕ) = t.val * 512 + (y 0 : ℕ) := by blk_simp [idx t]
  have e1 : ((((cfg0.win 13).blk t).view.emb y) 1 : ℕ) = (y 1 : ℕ) := by blk_simp [idx t]
  generalize ((cfg0.win 13).blk t).view.emb y = z at e0 e1 ⊢
  rw [after0_13]
  have h := point13 m c t
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = v at h ⊢
  refine (congrArg v (FfnArr.split2 y)).trans ((h (y 0) (y 1)).trans ?_)
  exact congrArg₂ (OutRow.outAt _ _ _ _ _ _ _ _ _ _ _ _ _) (Fin.ext e0.symm) (Fin.ext e1.symm)

theorem whole14 : (dats m 0 c).arrAt 14 cfg0.N = OutRow.Joined (a1 m c) (a2 m c) (a3 m c) (a4 m c) (a5 m c) (a6 m c) := by
  refine (dats m 0 c).arrAt_eq_of_covers 14 _ (by decide +kernel) fun t hf y => ?_
  have e0 : ((((cfg0.win 14).blk t).view.emb y) 0 : ℕ) = t.val * 512 + (y 0 : ℕ) := by blk_simp [idx t]
  have e1 : ((((cfg0.win 14).blk t).view.emb y) 1 : ℕ) = (y 1 : ℕ) := by blk_simp [idx t]
  generalize ((cfg0.win 14).blk t).view.emb y = z at e0 e1 ⊢
  rw [after0_14]
  have h := point14 m c t
  generalize out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = v at h ⊢
  refine (congrArg v (FfnArr.split2 y)).trans ((h (y 0) (y 1)).trans ?_)
  exact congrArg₂ (OutRow.joinedAt _ _ _ _ _ _) (Fin.ext e0.symm) (Fin.ext e1.symm)

theorem whole15 : (dats m 0 c).arrAt 15 cfg0.N = OutRow.Lse (a4 m c) (a5 m c) (a6 m c) := by
  refine (dats m 0 c).arrAt_eq_of_covers 15 _ (by decide +kernel) fun t hf y => ?_
  have e0 : ((((cfg0.win 15).blk t).view.emb y) 0 : ℕ) = t.val * 512 + (y 0 : ℕ) := by blk_simp [idx t]
  have e1 : ((((cfg0.win 15).blk t).view.emb y) 1 : ℕ) = (y 1 : ℕ) := by blk_simp [idx t]
  generalize ((cfg0.win 15).blk t).view.emb y = z at e0 e1 ⊢
  rw [after0_15]
  have h := point15 m c t
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = v at h ⊢
  refine (congrArg v (FfnArr.split2 y)).trans ((h (y 0) (y 1)).trans ?_)
  exact congrArg₂ (OutRow.lseAt _ _ _) (Fin.ext e0.symm) (Fin.ext e1.symm)

/-- The kernel runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = OutRow.Out (a0 m c) (a1 m c) (a2 m c) (a3 m c) (a4 m c) (a5 m c) (a6 m c) (a7 m c) (a8 m c) (a9 m c) (a10 m c) (a11 m c) (a12 m c)
      ∧ r.2.mem ((c : Thread nD τ).loc main_v0_1) = OutRow.Joined (a1 m c) (a2 m c) (a3 m c) (a4 m c) (a5 m c) (a6 m c)
      ∧ r.2.mem ((c : Thread nD τ).loc main_v0_2) = OutRow.Lse (a4 m c) (a5 m c) (a6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c =>
    have ⟨h0, h1, h2, hk⟩ := h c
    ⟨h0.trans (whole13 m c), h1.trans (whole14 m c), h2.trans (whole15 m c), hk⟩)
    (Value.run_blocks m ρ)

end Cert.OutWhole
-- ==== Proof.OutRef.lean ====
/-
  The reference of the mixer's output, read row by row: its three results are `OutRow.lean`'s arrays.
-/
module

public import proofs.«01_k».proof.Proof.OutRow
public import proofs.«01_k».proof.Proof.Gen.MixOutFwdRefIdeal.Run

@[expose] public section

noncomputable section

namespace Cert.OutRef

open Cert.MixOutFwdRefIdeal Cert.MixOutFwdRefIdeal.Gen Idealize.ShloMosaic Idealize.ShloMosaic.TcCoe Idealize.ShloMosaic.StableHlo Idealize.SL.Sem

/-! ## The reference's intermediate arrays, as the program forms them -/

variable (x : Vec Ideal S8192x1024 .f32) (u0 u1 u2 l0 l1 l2 : Vec Ideal S8192x256 .f32) (y : Vec Ideal S8192x512 .f32)
  (g : Vec Ideal S8192x2048 .f32) (wa : Vec Ideal S256x1024 .bf16) (wg ws : Vec Ideal S512x1024 .bf16)
  (wo : Vec Ideal S1024x1024 .bf16)

def hTop : FVec Ideal S8192x256 .f32 := maximumf (maximumf l0 l1) l2

def hTot : FVec Ideal S8192x256 .f32 :=
  addf (addf (Host.exp (subf l0 (hTop l0 l1 l2))) (Host.exp (subf l1 (hTop l0 l1 l2)))) (Host.exp (subf l2 (hTop l0 l1 l2)))

def hJoined : FVec Ideal S8192x256 .f32 :=
  Host.divf (addf (addf (mulf (Host.exp (subf l0 (hTop l0 l1 l2))) u0) (mulf (Host.exp (subf l1 (hTop l0 l1 l2))) u1)) (mulf (Host.exp (subf l2 (hTop l0 l1 l2))) u2)) (hTot l0 l1 l2)

def hLse : FVec Ideal S8192x256 .f32 := addf (hTop l0 l1 l2) (Host.log (hTot l0 l1 l2))

def hAct : FVec Ideal S8192x512 .f32 :=
  mulf (mulf (broadcastInDim S8192x512 ![] bcast_S_S8192x512 (constant S_ .f32 0x3F000000#32)) y) (addf (broadcastInDim S8192x512 ![] bcast_S_S8192x512 (constant S_ .f32 0x3F800000#32)) (Host.tanh (mulf (broadcastInDim S8192x512 ![] bcast_S_S8192x512 (constant S_ .f32 0x3F4C422A#32)) (addf y (mulf (mulf (mulf (broadcastInDim S8192x512 ![] bcast_S_S8192x512 (constant S_ .f32 0x3D372713#32)) y) y) y)))))

def hGlu : FVec Ideal S8192x1024 .f32 :=
  Host.dotGeneral dot_S8192x512_S512x1024_S8192x1024_1_0_0_1_n_n none (hAct y) (extf .f32 wg bitsLt_bf16_f32)

def hState : FVec Ideal S8192x512 .f32 :=
  mulf (extractStridedSlice S8192x512 ![0, 0] (hGlu y wg) slices_S8192x1024_S8192x512_0_0) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 512] (hGlu y wg) slices_S8192x1024_S8192x512_0_512)))))

def hSsm : FVec Ideal S8192x1024 .f32 :=
  Host.dotGeneral dot_S8192x512_S512x1024_S8192x1024_1_0_0_1_n_n none (hState y wg) (extf .f32 ws bitsLt_bf16_f32)

def hAttn (o : FVec Ideal S8192x256 .f32) : FVec Ideal S8192x1024 .f32 :=
  Host.dotGeneral dot_S8192x256_S256x1024_S8192x1024_1_0_0_1_n_n none o (extf .f32 wa bitsLt_bf16_f32)

def hBlend (o : FVec Ideal S8192x256 .f32) : FVec Ideal S8192x1024 .f32 :=
  addf (mulf (extractStridedSlice S8192x1024 ![0, 0] g slices_S8192x2048_S8192x1024_0_0) (hAttn wa o)) (mulf (extractStridedSlice S8192x1024 ![0, 1024] g slices_S8192x2048_S8192x1024_0_1024) (hSsm y wg ws))

def hOut (o : FVec Ideal S8192x256 .f32) : FVec Ideal S8192x1024 .f32 :=
  addf x (Host.dotGeneral dot_S8192x1024_S1024x1024_S8192x1024_1_0_0_1_n_n none (hBlend y g wa wg ws o) (extf .f32 wo bitsLt_bf16_f32))

/-! ## The same arrays at an index -/

variable (o : FVec Ideal S8192x256 .f32) (r : Fin 8192)

theorem hTop_at (e : Fin 256) : hTop l0 l1 l2 (ix2 r e) = OutRow.top (l0 (ix2 r e)) (l1 (ix2 r e)) (l2 (ix2 r e)) := by
  unfold hTop
  pointwise
  rfl

theorem hTot_at (e : Fin 256) : hTot l0 l1 l2 (ix2 r e) = OutRow.tot (l0 (ix2 r e)) (l1 (ix2 r e)) (l2 (ix2 r e)) := by
  unfold hTot
  pointwise
  simp only [hTop_at]
  rfl

theorem hJoined_at (e : Fin 256) : hJoined u0 u1 u2 l0 l1 l2 (ix2 r e) = OutRow.joinedAt u0 u1 u2 l0 l1 l2 r e := by
  unfold hJoined
  pointwise
  simp only [hTop_at, hTot_at]
  rfl

theorem hLse_at (e : Fin 256) : hLse l0 l1 l2 (ix2 r e) = OutRow.lseAt l0 l1 l2 r e := by
  unfold hLse
  pointwise
  simp only [hTop_at, hTot_at]
  rfl

theorem hAct_at (j : Fin 512) : hAct y (ix2 r j) = OutRow.act (y (ix2 r j)) := by
  unfold hAct
  pointwise
  rfl

theorem hGlu_at (k : Fin 1024) : hGlu y wg (ix2 r k) = OutRow.glu (OutRow.row y r) (OutRow.mat wg) k := by
  unfold hGlu
  pointwise
  simp only [hAct_at]
  rfl

theorem hState_at (j : Fin 512) : hState y wg (ix2 r j) = OutRow.state (OutRow.row y r) (OutRow.mat wg) j := by
  unfold hState
  pointwise
  simp only [hGlu_at]
  rfl

theorem hSsm_at (d : Fin 1024) : hSsm y wg ws (ix2 r d) = OutRow.ssm (OutRow.row y r) (OutRow.mat wg) (OutRow.mat ws) d := by
  unfold hSsm
  pointwise
  simp only [hState_at]
  rfl

theorem hAttn_at (d : Fin 1024) : hAttn wa o (ix2 r d) = OutRow.attn (OutRow.row o r) (OutRow.mat wa) d := by
  unfold hAttn
  pointwise
  rfl

theorem hBlend_at (d : Fin 1024) : hBlend y g wa wg ws o (ix2 r d)
    = OutRow.blend (OutRow.row o r) (OutRow.row y r) (OutRow.row g r) (OutRow.mat wa) (OutRow.mat wg) (OutRow.mat ws) d := by
  unfold hBlend
  pointwise
  simp only [hAttn_at, hSsm_at]
  rfl

theorem hOut_at (d : Fin 1024) : hOut x y g wa wg ws wo o (ix2 r d) = OutRow.out (OutRow.row o r) (OutRow.row y r)
    (OutRow.row g r) (OutRow.mat wa) (OutRow.mat wg) (OutRow.mat ws) (OutRow.mat wo) (OutRow.row x r) d := by
  unfold hOut
  pointwise
  simp only [hBlend_at]
  rfl

theorem hOut_joined (d : Fin 1024) : hOut x y g wa wg ws wo (hJoined u0 u1 u2 l0 l1 l2) (ix2 r d)
    = OutRow.outAt x u0 u1 u2 l0 l1 l2 y g wa wg ws wo r d := by
  have h : OutRow.row (hJoined u0 u1 u2 l0 l1 l2) r = OutRow.joinedAt u0 u1 u2 l0 l1 l2 r := funext fun e => hJoined_at u0 u1 u2 l0 l1 l2 r e
  rw [hOut_at, h]
  rfl

/-! ## The run -/

variable (m : (ℓ : Loc nD τ sig) → Buf (Elt Ideal) ℓ) (c : Dev nD)

/-- The arguments. -/
abbrev a0 : OutRow.Arr 8192 1024 := m ((c : Thread nD τ).loc main_arg0)
abbrev a1 : OutRow.Arr 8192 256 := m ((c : Thread nD τ).loc main_arg1)
abbrev a2 : OutRow.Arr 8192 256 := m ((c : Thread nD τ).loc main_arg2)
abbrev a3 : OutRow.Arr 8192 256 := m ((c : Thread nD τ).loc main_arg3)
abbrev a4 : OutRow.Arr 8192 256 := m ((c : Thread nD τ).loc main_arg4)
abbrev a5 : OutRow.Arr 8192 256 := m ((c : Thread nD τ).loc main_arg5)
abbrev a6 : OutRow.Arr 8192 256 := m ((c : Thread nD τ).loc main_arg6)
abbrev a7 : OutRow.Arr 8192 512 := m ((c : Thread nD τ).loc main_arg7)
abbrev a8 : OutRow.Arr 8192 2048 := m ((c : Thread nD τ).loc main_arg8)
abbrev a9 : OutRow.Arr 256 1024 := m ((c : Thread nD τ).loc main_arg9)
abbrev a10 : OutRow.Arr 512 1024 := m ((c : Thread nD τ).loc main_arg10)
abbrev a11 : OutRow.Arr 512 1024 := m ((c : Thread nD τ).loc main_arg11)
abbrev a12 : OutRow.Arr 1024 1024 := m ((c : Thread nD τ).loc main_arg12)

/-- The reference runs, leaves the three arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v51) = OutRow.Out (a0 m c) (a1 m c) (a2 m c) (a3 m c) (a4 m c) (a5 m c) (a6 m c) (a7 m c) (a8 m c) (a9 m c) (a10 m c) (a11 m c) (a12 m c)
      ∧ r.2.mem ((c : Thread nD τ).loc main_v19) = OutRow.Joined (a1 m c) (a2 m c) (a3 m c) (a4 m c) (a5 m c) (a6 m c)
      ∧ r.2.mem ((c : Thread nD τ).loc main_v53) = OutRow.Lse (a4 m c) (a5 m c) (a6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c =>
    have ⟨h0, h1, h2, hk⟩ := h c
    ⟨h0.trans (funext fun i => (congrArg (hOut (a0 m c) (a7 m c) (a8 m c) (a9 m c) (a10 m c) (a11 m c) (a12 m c)
        (hJoined (a1 m c) (a2 m c) (a3 m c) (a4 m c) (a5 m c) (a6 m c))) (FfnArr.split2 i)).trans (hOut_joined ..)),
      h1.trans (funext fun i => (congrArg (hJoined (a1 m c) (a2 m c) (a3 m c) (a4 m c) (a5 m c) (a6 m c)) (FfnArr.split2 i)).trans (hJoined_at ..)),
      h2.trans (funext fun i => (congrArg (hLse (a4 m c) (a5 m c) (a6 m c)) (FfnArr.split2 i)).trans (hLse_at ..)),
      hk⟩) (Value.run (F := Ideal) m ρ)

end Cert.OutRef
-- ==== Proof.BackRow.lean ====
/-
  The backward step of the mixer's output over the extended reals: each row by itself, then whole arrays.

  `u` is the gradient row that comes back, `o` the joined attention, `y` the state-space branch, `g` the gates; the
  weights are those of `OutRow.lean`, and `hs` sums the columns of each head.
-/
module

public import proofs.«01_k».proof.Proof.OutRow

@[expose] public section

noncomputable section

namespace Cert.BackRow

open Idealize.ShloMosaic Cert.OutRow

/-- Three times the cubic's coefficient. -/
def cubic3 : EReal := Ideal.ofBits .f32 0x3E095D4F#32

/-- The activation's slope. -/
def slope (x : EReal) : EReal :=
  FfnRow.half * (1 + step x) + FfnRow.half * x * (1 - step x * step x) * scale * (1 + cubic3 * x * x)

section Row

variable (u : Fin 1024 → EReal) (o : Fin 256 → EReal) (y : Fin 512 → EReal) (g : Fin 2048 → EReal)
  (wa : Fin 256 → Fin 1024 → EReal) (wg ws : Fin 512 → Fin 1024 → EReal) (wo : Fin 1024 → Fin 1024 → EReal)
  (hs : Fin 256 → Fin 256 → EReal)

/-- The gradient of the gated sum, and of the two projected branches. -/
def dmix (d : Fin 1024) : EReal := ∑ k, u k * wo d k
def dya (d : Fin 1024) : EReal := dmix u wo d * ga g d
def dys (d : Fin 1024) : EReal := dmix u wo d * gs g d

/-- The gradient before the gates' step, half by half. -/
def dgate (k : Fin 2048) : EReal :=
  if h : (k : ℕ) < 1024 then dmix u wo ⟨k, h⟩ * attn o wa ⟨k, h⟩ * ga g ⟨k, h⟩ * (1 - ga g ⟨k, h⟩)
  else dmix u wo ⟨k - 1024, by omega⟩ * ssm y wg ws ⟨k - 1024, by omega⟩ * gs g ⟨k - 1024, by omega⟩
    * (1 - gs g ⟨k - 1024, by omega⟩)

/-- The attention's gradient, and its product with the attention summed over each head. -/
def dattn (e : Fin 256) : EReal := ∑ d, dya u g wo d * wa e d
def delta (f : Fin 256) : EReal := ∑ e, dattn u g wa wo e * o e * hs e f

/-- The gradient of the gated state-space row, of its two halves, and of the branch itself. -/
def dstate (j : Fin 512) : EReal := ∑ d, dys u g wo d * ws j d
def dglu (k : Fin 1024) : EReal :=
  if h : (k : ℕ) < 512 then dstate u g ws wo ⟨k, h⟩ * valve y wg ⟨k, h⟩
  else dstate u g ws wo ⟨k - 512, by omega⟩ * lead y wg ⟨k - 512, by omega⟩ * valve y wg ⟨k - 512, by omega⟩
    * (1 - valve y wg ⟨k - 512, by omega⟩)
def dy (j : Fin 512) : EReal := (∑ k, dglu u y g wg ws wo k * wg j k) * slope (y j)

end Row

/-! ## The arrays -/

/-- Rows laid into an array. -/
def lay {n k : ℕ} (f : Fin n → Fin k → EReal) : Arr n k := fun i => f (i 0) (i 1)

/-- What a block holds row by row, found where the block lies in the array. -/
theorem laid {k : ℕ} (v : Arr 512 k) (f : Fin 8192 → Fin k → EReal) (q : Fin 512 → Fin 8192)
    (h : ∀ p j, v (ix2 p j) = f (q p) j) (i : (⟨2, ![512, k]⟩ : Shape).Idx) (z : (⟨2, ![8192, k]⟩ : Shape).Idx)
    (e0 : (z 0 : ℕ) = q (i 0)) (e1 : (z 1 : ℕ) = i 1) : v i = lay f z :=
  (congrArg v (FfnArr.split2 i)).trans ((h (i 0) (i 1)).trans (congrArg₂ f (Fin.ext e0.symm) (Fin.ext e1.symm)))

section Arrays

variable (u : Arr 8192 1024) (o : Arr 8192 256) (y : Arr 8192 512) (g : Arr 8192 2048)
  (wa : Arr 256 1024) (wg ws : Arr 512 1024) (wo : Arr 1024 1024) (hs : Arr 256 256)

/-- The eleven results: ten row by row, the last summed over all rows. -/
def Dattn : Arr 8192 256 := lay fun r => dattn (row u r) (row g r) (mat wa) (mat wo)
def Delta : Arr 8192 256 := lay fun r => delta (row u r) (row o r) (row g r) (mat wa) (mat wo) (mat hs)
def Dy : Arr 8192 512 := lay fun r => dy (row u r) (row y r) (row g r) (mat wg) (mat ws) (mat wo)
def Dgate : Arr 8192 2048 :=
  lay fun r => dgate (row u r) (row o r) (row y r) (row g r) (mat wa) (mat wg) (mat ws) (mat wo)
def Blend : Arr 8192 1024 := lay fun r => blend (row o r) (row y r) (row g r) (mat wa) (mat wg) (mat ws)
def Dya : Arr 8192 1024 := lay fun r => dya (row u r) (row g r) (mat wo)
def Dys : Arr 8192 1024 := lay fun r => dys (row u r) (row g r) (mat wo)
def State : Arr 8192 512 := lay fun r => state (row y r) (mat wg)
def Act : Arr 8192 512 := lay fun r j => act (row y r j)
def Dglu : Arr 8192 1024 := lay fun r => dglu (row u r) (row y r) (row g r) (mat wg) (mat ws) (mat wo)
def dbiasAt (k : Fin 2048) : EReal :=
  ∑ r, dgate (row u r) (row o r) (row y r) (row g r) (mat wa) (mat wg) (mat ws) (mat wo) k
def Dbias : Arr 1 2048 := fun i => dbiasAt u o y g wa wg ws wo (i 1)

end Arrays

end Cert.BackRow
-- ==== Proof.BackBlock.lean ====
/-
  The kernel of the mixer's backward step on a block of 512 rows: its arithmetic, read at a row.
-/
module

public import proofs.«01_k».proof.Proof.BackRow
public import proofs.«01_k».proof.Proof.Gen.MixOutBwdIdeal.Skeleton

@[expose] public section

noncomputable section

namespace Cert.BackBlock

open Cert.MixOutBwdIdeal Cert.MixOutBwdIdeal.Gen Idealize.ShloMosaic Idealize.ShloMosaic.TcCoe Cert.OutRow

variable (x0 : Vec Ideal S512x1024 .f32) (x1 : Vec Ideal S512x256 .f32) (x2 : Vec Ideal S512x512 .f32)
  (x3 : Vec Ideal S512x2048 .f32) (x4 : Vec Ideal S256x1024 .bf16) (x5 x6 : Vec Ideal S512x1024 .bf16)
  (x7 : Vec Ideal S1024x1024 .bf16) (x8 : Vec Ideal S256x256 .f32) (p : Fin 512)

theorem attn_at (d : Fin 1024) : k0_pay2 x1 x4 (ix2 p d) = attn (row x1 p) (mat x4) d := by
  pointwise [k0_pay2]
  rfl

theorem act_at (j : Fin 512) : k0_pay3 x2 (ix2 p j) = act (x2 (ix2 p j)) := by
  pointwise [k0_pay3]
  rfl

theorem glu_at (k : Fin 1024) : k0_pay4 x2 x5 (ix2 p k) = glu (row x2 p) (mat x5) k := by
  pointwise [k0_pay4]
  simp only [act_at]
  rfl

theorem lead_at (j : Fin 512) : k0_pay5 x2 x5 (ix2 p j) = lead (row x2 p) (mat x5) j := by
  pointwise [k0_pay5]
  simp only [glu_at]
  rfl

theorem valve_at (j : Fin 512) : k0_pay6 x2 x5 (ix2 p j) = valve (row x2 p) (mat x5) j := by
  pointwise [k0_pay6]
  simp only [glu_at, zero_sub]
  rfl

theorem state_at (j : Fin 512) : k0_pay7 x2 x5 (ix2 p j) = state (row x2 p) (mat x5) j := by
  pointwise [k0_pay7]
  simp only [lead_at, valve_at]
  rfl

theorem ssm_at (d : Fin 1024) : k0_pay8 x2 x5 x6 (ix2 p d) = ssm (row x2 p) (mat x5) (mat x6) d := by
  pointwise [k0_pay8]
  simp only [state_at]
  rfl

theorem ga_at (d : Fin 1024) : k0_pay9 x3 (ix2 p d) = ga (row x3 p) d := by
  pointwise [k0_pay9]
  rfl

theorem gs_at (d : Fin 1024) : k0_pay10 x3 (ix2 p d) = gs (row x3 p) d := by
  pointwise [k0_pay10]
  rfl

theorem blended_at (d : Fin 1024) :
    k0_pay11 (k0_pay2 x1 x4) (k0_pay8 x2 x5 x6) (k0_pay9 x3) (k0_pay10 x3) (ix2 p d)
      = blend (row x1 p) (row x2 p) (row x3 p) (mat x4) (mat x5) (mat x6) d := by
  pointwise [k0_pay11]
  simp only [attn_at, ssm_at, ga_at, gs_at]
  rfl

theorem stated_at (j : Fin 512) : k0_pay12 (k0_pay7 x2 x5) (ix2 p j) = state (row x2 p) (mat x5) j := by
  pointwise [k0_pay12]
  exact state_at ..

theorem acted_at (j : Fin 512) : k0_pay13 (k0_pay3 x2) (ix2 p j) = act (row x2 p j) := by
  pointwise [k0_pay13]
  exact act_at ..

theorem dmix_at (d : Fin 1024) : k0_pay14 x0 x7 (ix2 p d) = BackRow.dmix (row x0 p) (mat x7) d := by
  pointwise [k0_pay14]
  rfl

/-- The gradient before the gates' step. -/
def gated : FVec Ideal S512x2048 .f32 :=
  k0_pay15 (k0_pay2 x1 x4) (k0_pay8 x2 x5 x6) (k0_pay9 x3) (k0_pay10 x3) x0 x7

theorem gated_at (k : Fin 2048) : gated x0 x1 x2 x3 x4 x5 x6 x7 (ix2 p k)
    = BackRow.dgate (row x0 p) (row x1 p) (row x2 p) (row x3 p) (mat x4) (mat x5) (mat x6) (mat x7) k := by
  pointwise [gated, k0_pay15]
  simp only [dmix_at, attn_at, ssm_at, ga_at, gs_at]
  rfl

theorem dgate_at (k : Fin 2048) :
    k0_pay16 (k0_pay2 x1 x4) (k0_pay8 x2 x5 x6) (k0_pay9 x3) (k0_pay10 x3) x0 x7 (ix2 p k)
      = BackRow.dgate (row x0 p) (row x1 p) (row x2 p) (row x3 p) (mat x4) (mat x5) (mat x6) (mat x7) k :=
  gated_at ..

theorem bias_at (acc : Vec Ideal S1x2048 .f32) (k : Fin 2048) :
    k0_pay18 (k0_pay2 x1 x4) (k0_pay8 x2 x5 x6) (k0_pay9 x3) (k0_pay10 x3) x0 x7 acc (ix2 0 k) = acc (ix2 0 k)
      + ∑ q, BackRow.dgate (row x0 q) (row x1 q) (row x2 q) (row x3 q) (mat x4) (mat x5) (mat x6) (mat x7) k := by
  have h := fun q => gated_at x0 x1 x2 x3 x4 x5 x6 x7 q k
  unfold gated at h
  unfold k0_pay18
  generalize k0_pay15 (k0_pay2 x1 x4) (k0_pay8 x2 x5 x6) (k0_pay9 x3) (k0_pay10 x3) x0 x7 = z at h ⊢
  pointwise
  simp only [h]

theorem dya_at (d : Fin 1024) : k0_pay19 (k0_pay9 x3) (k0_pay14 x0 x7) (ix2 p d)
    = BackRow.dya (row x0 p) (row x3 p) (mat x7) d := by
  pointwise [k0_pay19]
  simp only [dmix_at, ga_at]
  rfl

theorem dys_at (d : Fin 1024) : k0_pay20 (k0_pay10 x3) (k0_pay14 x0 x7) (ix2 p d)
    = BackRow.dys (row x0 p) (row x3 p) (mat x7) d := by
  pointwise [k0_pay20]
  simp only [dmix_at, gs_at]
  rfl

theorem attnBack_at (e : Fin 256) : k0_pay21 (k0_pay9 x3) (k0_pay14 x0 x7) x4 (ix2 p e)
    = BackRow.dattn (row x0 p) (row x3 p) (mat x4) (mat x7) e := by
  pointwise [k0_pay21]
  simp only [dya_at]
  rfl

theorem dattn_at (e : Fin 256) : k0_pay22 (k0_pay9 x3) (k0_pay14 x0 x7) x4 (ix2 p e)
    = BackRow.dattn (row x0 p) (row x3 p) (mat x4) (mat x7) e := by
  pointwise [k0_pay22]
  exact attnBack_at ..

theorem delta_at (f : Fin 256) : k0_pay23 x1 (k0_pay9 x3) (k0_pay14 x0 x7) x4 x8 (ix2 p f)
    = BackRow.delta (row x0 p) (row x1 p) (row x3 p) (mat x4) (mat x7) (mat x8) f := by
  pointwise [k0_pay23]
  simp only [attnBack_at]
  rfl

theorem dglu_at (k : Fin 1024) : k0_pay24 (k0_pay5 x2 x5) (k0_pay6 x2 x5) (k0_pay10 x3) (k0_pay14 x0 x7) x6 (ix2 p k)
    = BackRow.dglu (row x0 p) (row x2 p) (row x3 p) (mat x5) (mat x6) (mat x7) k := by
  pointwise [k0_pay24]
  simp only [dys_at, lead_at, valve_at]
  rfl

theorem branch_at (j : Fin 512) :
    k0_pay25 (k0_pay5 x2 x5) (k0_pay6 x2 x5) (k0_pay10 x3) (k0_pay14 x0 x7) x6 x5 (ix2 p j)
      = ∑ k, BackRow.dglu (row x0 p) (row x2 p) (row x3 p) (mat x5) (mat x6) (mat x7) k * mat x5 j k := by
  pointwise [k0_pay25]
  simp only [dglu_at]
  rfl

theorem dy_at (j : Fin 512) :
    k0_pay1 x2 (k0_pay25 (k0_pay5 x2 x5) (k0_pay6 x2 x5) (k0_pay10 x3) (k0_pay14 x0 x7) x6 x5) (k0_pay26 (F := Ideal)) (ix2 p j)
      = BackRow.dy (row x0 p) (row x2 p) (row x3 p) (mat x5) (mat x6) (mat x7) j := by
  pointwise [k0_pay1, k0_pay26]
  simp only [branch_at]
  rfl

end Cert.BackBlock
-- ==== Proof.BackWhole.lean ====
/-
  The kernel of the mixer's backward step: what each grid point leaves, and its eleven results whole.
-/
module

public import proofs.«01_k».proof.Proof.BackBlock
public import proofs.«01_k».proof.Proof.Gen.MixOutBwdIdeal.Value
public import Idealize.ShloMosaic.Lib.Pipeline.ValueKit
public import Idealize.ShloMosaic.Lib.Pipeline.ReadBack

@[expose] public section

noncomputable section

namespace Cert.BackWhole

open Cert.MixOutBwdIdeal Cert.MixOutBwdIdeal.Gen Idealize.ShloMosaic Idealize.ShloMosaic.TcCoe Idealize.SL.Sem
open Cert.OutRow Cert.BackBlock

variable (m : (ℓ : Loc nD τ sig) → Buf (Elt Ideal) ℓ) (c : Dev nD)

/-- The arguments on device `c`. -/
abbrev a0 : Arr 8192 1024 := m ((c : Thread nD τ).loc main_arg0)
abbrev a1 : Arr 8192 256 := m ((c : Thread nD τ).loc main_arg1)
abbrev a2 : Arr 8192 512 := m ((c : Thread nD τ).loc main_arg2)
abbrev a3 : Arr 8192 2048 := m ((c : Thread nD τ).loc main_arg3)
abbrev a4 : Arr 256 1024 := m ((c : Thread nD τ).loc main_arg4)
abbrev a5 : Arr 512 1024 := m ((c : Thread nD τ).loc main_arg5)
abbrev a6 : Arr 512 1024 := m ((c : Thread nD τ).loc main_arg6)
abbrev a7 : Arr 1024 1024 := m ((c : Thread nD τ).loc main_arg7)
abbrev a8 : Arr 256 256 := m ((c : Thread nD τ).loc main_arg8)

section Points

variable (t : Fin cfg0.N)

/-- Where each window's block lies at a point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧
    win0_5.index t = ![0, 0] ∧ win0_6.index t = ![0, 0] ∧ win0_7.index t = ![0, 0] ∧ win0_8.index t = ![0, 0] ∧ win0_9.index t = ![t.val, 0] ∧
    win0_10.index t = ![t.val, 0] ∧ win0_11.index t = ![t.val, 0] ∧ win0_12.index t = ![t.val, 0] ∧ win0_13.index t = ![t.val, 0] ∧ win0_14.index t = ![t.val, 0] ∧
    win0_15.index t = ![t.val, 0] ∧ win0_16.index t = ![t.val, 0] ∧ win0_17.index t = ![t.val, 0] ∧ win0_18.index t = ![t.val, 0] ∧ win0_19.index t = ![0, 0] :=
  (by decide +kernel : ∀ t : Fin grid0.N, _)

/-- Row `p` of a point's block is this row of the array. -/
def place (p : Fin 512) : Fin 8192 := ⟨t.val * 512 + p.val, by have h : t.val < 16 := t.isLt; omega⟩

/-- The blocks' rows, and the weights. -/
theorem row0 (p : Fin 512) : row (iblk m c 0 t) p = row (a0 m c) (place t p) := by
  funext j
  unfold row place
  blk_ext [iblk, V, idx t]

theorem row1 (p : Fin 512) : row (iblk m c 1 t) p = row (a1 m c) (place t p) := by
  funext j
  unfold row place
  blk_ext [iblk, V, idx t]

theorem row2 (p : Fin 512) : row (iblk m c 2 t) p = row (a2 m c) (place t p) := by
  funext j
  unfold row place
  blk_ext [iblk, V, idx t]

theorem row3 (p : Fin 512) : row (iblk m c 3 t) p = row (a3 m c) (place t p) := by
  funext j
  unfold row place
  blk_ext [iblk, V, idx t]

theorem mat4 : mat (iblk m c 4 t) = mat (a4 m c) := by
  funext i j
  unfold mat
  blk_ext [iblk, V, idx t]

theorem mat5 : mat (iblk m c 5 t) = mat (a5 m c) := by
  funext i j
  unfold mat
  blk_ext [iblk, V, idx t]

theorem mat6 : mat (iblk m c 6 t) = mat (a6 m c) := by
  funext i j
  unfold mat
  blk_ext [iblk, V, idx t]

theorem mat7 : mat (iblk m c 7 t) = mat (a7 m c) := by
  funext i j
  unfold mat
  blk_ext [iblk, V, idx t]

theorem mat8 : mat (iblk m c 8 t) = mat (a8 m c) := by
  funext i j
  unfold mat
  blk_ext [iblk, V, idx t]

/-- What a point leaves in its ten row blocks. -/
theorem outs : (outsAt0 m c t.val t.isLt).1 = k0_pay22 (k0_pay9 (iblk m c 3 t)) (k0_pay14 (iblk m c 0 t) (iblk m c 7 t)) (iblk m c 4 t)
    ∧ (outsAt0 m c t.val t.isLt).2.1 = k0_pay23 (iblk m c 1 t) (k0_pay9 (iblk m c 3 t)) (k0_pay14 (iblk m c 0 t) (iblk m c 7 t)) (iblk m c 4 t) (iblk m c 8 t)
    ∧ (outsAt0 m c t.val t.isLt).2.2.1 = k0_pay1 (iblk m c 2 t) (k0_pay25 (k0_pay5 (iblk m c 2 t) (iblk m c 5 t)) (k0_pay6 (iblk m c 2 t) (iblk m c 5 t)) (k0_pay10 (iblk m c 3 t)) (k0_pay14 (iblk m c 0 t) (iblk m c 7 t)) (iblk m c 6 t) (iblk m c 5 t)) (k0_pay26 (F := Ideal))
    ∧ (outsAt0 m c t.val t.isLt).2.2.2.1 = k0_pay16 (k0_pay2 (iblk m c 1 t) (iblk m c 4 t)) (k0_pay8 (iblk m c 2 t) (iblk m c 5 t) (iblk m c 6 t)) (k0_pay9 (iblk m c 3 t)) (k0_pay10 (iblk m c 3 t)) (iblk m c 0 t) (iblk m c 7 t)
    ∧ (outsAt0 m c t.val t.isLt).2.2.2.2.1 = k0_pay11 (k0_pay2 (iblk m c 1 t) (iblk m c 4 t)) (k0_pay8 (iblk m c 2 t) (iblk m c 5 t) (iblk m c 6 t)) (k0_pay9 (iblk m c 3 t)) (k0_pay10 (iblk m c 3 t))
    ∧ (outsAt0 m c t.val t.isLt).2.2.2.2.2.1 = k0_pay19 (k0_pay9 (iblk m c 3 t)) (k0_pay14 (iblk m c 0 t) (iblk m c 7 t))
    ∧ (outsAt0 m c t.val t.isLt).2.2.2.2.2.2.1 = k0_pay20 (k0_pay10 (iblk m c 3 t)) (k0_pay14 (iblk m c 0 t) (iblk m c 7 t))
    ∧ (outsAt0 m c t.val t.isLt).2.2.2.2.2.2.2.1 = k0_pay12 (k0_pay7 (iblk m c 2 t) (iblk m c 5 t))
    ∧ (outsAt0 m c t.val t.isLt).2.2.2.2.2.2.2.2.1 = k0_pay13 (k0_pay3 (iblk m c 2 t))
    ∧ (outsAt0 m c t.val t.isLt).2.2.2.2.2.2.2.2.2.1 = k0_pay24 (k0_pay5 (iblk m c 2 t) (iblk m c 5 t)) (k0_pay6 (iblk m c 2 t) (iblk m c 5 t)) (k0_pay10 (iblk m c 3 t)) (k0_pay14 (iblk m c 0 t) (iblk m c 7 t)) (iblk m c 6 t) := by
  by_cases h : t.val % 16 = 0
  · rw [outsAt0_A m c t h]
    refine ⟨?_, ?_, ?_, ?_, ?_, ?_, ?_, ?_, ?_, ?_⟩ <;> frame_out
  · rw [outsAt0_B m c t h]
    refine ⟨?_, ?_, ?_, ?_, ?_, ?_, ?_, ?_, ?_, ?_⟩ <;> frame_out

theorem point9 (p : Fin 512) (j : Fin 256) : (outsAt0 m c t.val t.isLt).1 (ix2 p j)
    = BackRow.dattn (row (a0 m c) (place t p)) (row (a3 m c) (place t p)) (mat (a4 m c)) (mat (a7 m c)) j := by
  rw [(outs m c t).1, dattn_at, row0, row3, mat4, mat7]

theorem point10 (p : Fin 512) (j : Fin 256) : (outsAt0 m c t.val t.isLt).2.1 (ix2 p j)
    = BackRow.delta (row (a0 m c) (place t p)) (row (a1 m c) (place t p)) (row (a3 m c) (place t p)) (mat (a4 m c)) (mat (a7 m c)) (mat (a8 m c)) j := by
  rw [(outs m c t).2.1, delta_at, row0, row1, row3, mat4, mat7, mat8]

theorem point11 (p : Fin 512) (j : Fin 512) : (outsAt0 m c t.val t.isLt).2.2.1 (ix2 p j)
    = BackRow.dy (row (a0 m c) (place t p)) (row (a2 m c) (place t p)) (row (a3 m c) (place t p)) (mat (a5 m c)) (mat (a6 m c)) (mat (a7 m c)) j := by
  rw [(outs m c t).2.2.1, dy_at, row0, row2, row3, mat5, mat6, mat7]

theorem point12 (p : Fin 512) (j : Fin 2048) : (outsAt0 m c t.val t.isLt).2.2.2.1 (ix2 p j)
    = BackRow.dgate (row (a0 m c) (place t p)) (row (a1 m c) (place t p)) (row (a2 m c) (place t p)) (row (a3 m c) (place t p)) (mat (a4 m c)) (mat (a5 m c)) (mat (a6 m c)) (mat (a7 m c)) j := by
  rw [(outs m c t).2.2.2.1, dgate_at, row0, row1, row2, row3, mat4, mat5, mat6, mat7]

theorem point13 (p : Fin 512) (j : Fin 1024) : (outsAt0 m c t.val t.isLt).2.2.2.2.1 (ix2 p j)
    = OutRow.blend (row (a1 m c) (place t p)) (row (a2 m c) (place t p)) (row (a3 m c) (place t p)) (mat (a4 m c)) (mat (a5 m c)) (mat (a6 m c)) j := by
  rw [(outs m c t).2.2.2.2.1, blended_at, row1, row2, row3, mat4, mat5, mat6]

theorem point14 (p : Fin 512) (j : Fin 1024) : (outsAt0 m c t.val t.isLt).2.2.2.2.2.1 (ix2 p j)
    = BackRow.dya (row (a0 m c) (place t p)) (row (a3 m c) (place t p)) (mat (a7 m c)) j := by
  rw [(outs m c t).2.2.2.2.2.1, dya_at, row0, row3, mat7]

theorem point15 (p : Fin 512) (j : Fin 1024) : (outsAt0 m c t.val t.isLt).2.2.2.2.2.2.1 (ix2 p j)
    = BackRow.dys (row (a0 m c) (place t p)) (row (a3 m c) (place t p)) (mat (a7 m c)) j := by
  rw [(outs m c t).2.2.2.2.2.2.1, dys_at, row0, row3, mat7]

theorem point16 (p : Fin 512) (j : Fin 512) : (outsAt0 m c t.val t.isLt).2.2.2.2.2.2.2.1 (ix2 p j)
    = OutRow.state (row (a2 m c) (place t p)) (mat (a5 m c)) j := by
  rw [(outs m c t).2.2.2.2.2.2.2.1, stated_at, row2, mat5]

theorem point17 (p : Fin 512) (j : Fin 512) : (outsAt0 m c t.val t.isLt).2.2.2.2.2.2.2.2.1 (ix2 p j)
    = OutRow.act (row (a2 m c) (place t p) j) := by
  rw [(outs m c t).2.2.2.2.2.2.2.2.1, acted_at, row2]

theorem point18 (p : Fin 512) (j : Fin 1024) : (outsAt0 m c t.val t.isLt).2.2.2.2.2.2.2.2.2.1 (ix2 p j)
    = BackRow.dglu (row (a0 m c) (place t p)) (row (a2 m c) (place t p)) (row (a3 m c) (place t p)) (mat (a5 m c)) (mat (a6 m c)) (mat (a7 m c)) j := by
  rw [(outs m c t).2.2.2.2.2.2.2.2.2, dglu_at, row0, row2, row3, mat5, mat6, mat7]

/-- What a point adds to the sum over the rows. -/
def adds (k : Fin 2048) : EReal := ∑ p : Fin 512, BackRow.dgate (row (a0 m c) (place t p)) (row (a1 m c) (place t p)) (row (a2 m c) (place t p)) (row (a3 m c) (place t p)) (mat (a4 m c)) (mat (a5 m c)) (mat (a6 m c)) (mat (a7 m c)) k

theorem step (acc : Vec Ideal S1x2048 .f32) (k : Fin 2048) :
    k0_pay18 (k0_pay2 (iblk m c 1 t) (iblk m c 4 t)) (k0_pay8 (iblk m c 2 t) (iblk m c 5 t) (iblk m c 6 t)) (k0_pay9 (iblk m c 3 t)) (k0_pay10 (iblk m c 3 t)) (iblk m c 0 t) (iblk m c 7 t) acc (ix2 0 k) = acc (ix2 0 k) + adds m c t k := by
  refine (bias_at ..).trans (congrArg _ (Finset.sum_congr rfl fun p _ => ?_))
  rw [row0, row1, row2, row3, mat4, mat5, mat6, mat7]

theorem point19_first (h : t.val % 16 = 0) (k : Fin 2048) :
    (outsAt0 m c t.val t.isLt).2.2.2.2.2.2.2.2.2.2 (ix2 0 k) = 0 + adds m c t k := by
  have e : (outsAt0 m c t.val t.isLt).2.2.2.2.2.2.2.2.2.2 = k0_pay18 (k0_pay2 (iblk m c 1 t) (iblk m c 4 t)) (k0_pay8 (iblk m c 2 t) (iblk m c 5 t) (iblk m c 6 t)) (k0_pay9 (iblk m c 3 t)) (k0_pay10 (iblk m c 3 t)) (iblk m c 0 t) (iblk m c 7 t) (k0_pay17 (F := Ideal)) := by
    rw [outsAt0_A m c t h]
    frame_out
  rw [e, step]
  exact congrArg (· + _) (by pointwise [k0_pay17])

theorem point19_later (h : ¬t.val % 16 = 0) (k : Fin 2048) : (outsAt0 m c t.val t.isLt).2.2.2.2.2.2.2.2.2.2 (ix2 0 k)
    = (outsAt0 m c (t.val - 1) (Nat.lt_of_le_of_lt (Nat.sub_le _ _) t.isLt)).2.2.2.2.2.2.2.2.2.2 (ix2 0 k) + adds m c t k := by
  have e : (outsAt0 m c t.val t.isLt).2.2.2.2.2.2.2.2.2.2 = k0_pay18 (k0_pay2 (iblk m c 1 t) (iblk m c 4 t)) (k0_pay8 (iblk m c 2 t) (iblk m c 5 t) (iblk m c 6 t)) (k0_pay9 (iblk m c 3 t)) (k0_pay10 (iblk m c 3 t)) (iblk m c 0 t) (iblk m c 7 t)
      (outsAt0 m c (t.val - 1) (Nat.lt_of_le_of_lt (Nat.sub_le _ _) t.isLt)).2.2.2.2.2.2.2.2.2.2 := by
    rw [outsAt0_B m c t h]
    frame_out
  rw [e, step]

/-- After the last point: the sum over all rows. -/
theorem point19 (ht : t.val + 1 = cfg0.N) (k : Fin 2048) : (outsAt0 m c t.val t.isLt).2.2.2.2.2.2.2.2.2.2 (ix2 0 k)
    = BackRow.dbiasAt (a0 m c) (a1 m c) (a2 m c) (a3 m c) (a4 m c) (a5 m c) (a6 m c) (a7 m c) k := by
  have h := Pipeline.eq_sum_fin_of_reset_step_apply_last (ι := Fin 2048) (M := EReal)
    (fun n hn k => (outsAt0 m c n hn).2.2.2.2.2.2.2.2.2.2 (ix2 0 k)) 16 (fun _ => 0) (fun t k => adds m c t k)
    (fun t h k => point19_first m c t h k) (fun t h k => point19_later m c t h k) (by decide) t ht k
  refine h.trans ((zero_add _).trans ?_)
  unfold adds BackRow.dbiasAt
  exact Fin.sum_mul_add_congr (L := 8192) (S := 16) (n := 512) fun _ _ _ => rfl

end Points

/-! ## The arrays -/

theorem whole9 : (dats m 0 c).arrAt 9 cfg0.N = BackRow.Dattn (a0 m c) (a3 m c) (a4 m c) (a7 m c) := by
  refine (dats m 0 c).arrAt_eq_of_covers 9 _ (by decide +kernel) fun t hf i => ?_
  have e0 : ((((cfg0.win 9).blk t).view.emb i) 0 : ℕ) = t.val * 512 + (i 0 : ℕ) := by blk_simp [idx t]
  have e1 : ((((cfg0.win 9).blk t).view.emb i) 1 : ℕ) = (i 1 : ℕ) := by blk_simp [idx t]
  rw [after0_9]
  exact BackRow.laid _ _ (place t) (point9 m c t) i _ e0 e1

theorem whole10 : (dats m 0 c).arrAt 10 cfg0.N = BackRow.Delta (a0 m c) (a1 m c) (a3 m c) (a4 m c) (a7 m c) (a8 m c) := by
  refine (dats m 0 c).arrAt_eq_of_covers 10 _ (by decide +kernel) fun t hf i => ?_
  have e0 : ((((cfg0.win 10).blk t).view.emb i) 0 : ℕ) = t.val * 512 + (i 0 : ℕ) := by blk_simp [idx t]
  have e1 : ((((cfg0.win 10).blk t).view.emb i) 1 : ℕ) = (i 1 : ℕ) := by blk_simp [idx t]
  rw [after0_10]
  exact BackRow.laid _ _ (place t) (point10 m c t) i _ e0 e1

theorem whole11 : (dats m 0 c).arrAt 11 cfg0.N = BackRow.Dy (a0 m c) (a2 m c) (a3 m c) (a5 m c) (a6 m c) (a7 m c) := by
  refine (dats m 0 c).arrAt_eq_of_covers 11 _ (by decide +kernel) fun t hf i => ?_
  have e0 : ((((cfg0.win 11).blk t).view.emb i) 0 : ℕ) = t.val * 512 + (i 0 : ℕ) := by blk_simp [idx t]
  have e1 : ((((cfg0.win 11).blk t).view.emb i) 1 : ℕ) = (i 1 : ℕ) := by blk_simp [idx t]
  rw [after0_11]
  exact BackRow.laid _ _ (place t) (point11 m c t) i _ e0 e1

theorem whole12 : (dats m 0 c).arrAt 12 cfg0.N = BackRow.Dgate (a0 m c) (a1 m c) (a2 m c) (a3 m c) (a4 m c) (a5 m c) (a6 m c) (a7 m c) := by
  refine (dats m 0 c).arrAt_eq_of_covers 12 _ (by decide +kernel) fun t hf i => ?_
  have e0 : ((((cfg0.win 12).blk t).view.emb i) 0 : ℕ) = t.val * 512 + (i 0 : ℕ) := by blk_simp [idx t]
  have e1 : ((((cfg0.win 12).blk t).view.emb i) 1 : ℕ) = (i 1 : ℕ) := by blk_simp [idx t]
  rw [after0_12]
  exact BackRow.laid _ _ (place t) (point12 m c t) i _ e0 e1

theorem whole13 : (dats m 0 c).arrAt 13 cfg0.N = BackRow.Blend (a1 m c) (a2 m c) (a3 m c) (a4 m c) (a5 m c) (a6 m c) := by
  refine (dats m 0 c).arrAt_eq_of_covers 13 _ (by decide +kernel) fun t hf i => ?_
  have e0 : ((((cfg0.win 13).blk t).view.emb i) 0 : ℕ) = t.val * 512 + (i 0 : ℕ) := by blk_simp [idx t]
  have e1 : ((((cfg0.win 13).blk t).view.emb i) 1 : ℕ) = (i 1 : ℕ) := by blk_simp [idx t]
  rw [after0_13]
  exact BackRow.laid _ _ (place t) (point13 m c t) i _ e0 e1

theorem whole14 : (dats m 0 c).arrAt 14 cfg0.N = BackRow.Dya (a0 m c) (a3 m c) (a7 m c) := by
  refine (dats m 0 c).arrAt_eq_of_covers 14 _ (by decide +kernel) fun t hf i => ?_
  have e0 : ((((cfg0.win 14).blk t).view.emb i) 0 : ℕ) = t.val * 512 + (i 0 : ℕ) := by blk_simp [idx t]
  have e1 : ((((cfg0.win 14).blk t).view.emb i) 1 : ℕ) = (i 1 : ℕ) := by blk_simp [idx t]
  rw [after0_14]
  exact BackRow.laid _ _ (place t) (point14 m c t) i _ e0 e1

theorem whole15 : (dats m 0 c).arrAt 15 cfg0.N = BackRow.Dys (a0 m c) (a3 m c) (a7 m c) := by
  refine (dats m 0 c).arrAt_eq_of_covers 15 _ (by decide +kernel) fun t hf i => ?_
  have e0 : ((((cfg0.win 15).blk t).view.emb i) 0 : ℕ) = t.val * 512 + (i 0 : ℕ) := by blk_simp [idx t]
  have e1 : ((((cfg0.win 15).blk t).view.emb i) 1 : ℕ) = (i 1 : ℕ) := by blk_simp [idx t]
  rw [after0_15]
  exact BackRow.laid _ _ (place t) (point15 m c t) i _ e0 e1

theorem whole16 : (dats m 0 c).arrAt 16 cfg0.N = BackRow.State (a2 m c) (a5 m c) := by
  refine (dats m 0 c).arrAt_eq_of_covers 16 _ (by decide +kernel) fun t hf i => ?_
  have e0 : ((((cfg0.win 16).blk t).view.emb i) 0 : ℕ) = t.val * 512 + (i 0 : ℕ) := by blk_simp [idx t]
  have e1 : ((((cfg0.win 16).blk t).view.emb i) 1 : ℕ) = (i 1 : ℕ) := by blk_simp [idx t]
  rw [after0_16]
  exact BackRow.laid _ _ (place t) (point16 m c t) i _ e0 e1

theorem whole17 : (dats m 0 c).arrAt 17 cfg0.N = BackRow.Act (a2 m c) := by
  refine (dats m 0 c).arrAt_eq_of_covers 17 _ (by decide +kernel) fun t hf i => ?_
  have e0 : ((((cfg0.win 17).blk t).view.emb i) 0 : ℕ) = t.val * 512 + (i 0 : ℕ) := by blk_simp [idx t]
  have e1 : ((((cfg0.win 17).blk t).view.emb i) 1 : ℕ) = (i 1 : ℕ) := by blk_simp [idx t]
  rw [after0_17]
  exact BackRow.laid _ _ (place t) (point17 m c t) i _ e0 e1

theorem whole18 : (dats m 0 c).arrAt 18 cfg0.N = BackRow.Dglu (a0 m c) (a2 m c) (a3 m c) (a5 m c) (a6 m c) (a7 m c) := by
  refine (dats m 0 c).arrAt_eq_of_covers 18 _ (by decide +kernel) fun t hf i => ?_
  have e0 : ((((cfg0.win 18).blk t).view.emb i) 0 : ℕ) = t.val * 512 + (i 0 : ℕ) := by blk_simp [idx t]
  have e1 : ((((cfg0.win 18).blk t).view.emb i) 1 : ℕ) = (i 1 : ℕ) := by blk_simp [idx t]
  rw [after0_18]
  exact BackRow.laid _ _ (place t) (point18 m c t) i _ e0 e1

theorem whole19 : (dats m 0 c).arrAt 19 cfg0.N = BackRow.Dbias (a0 m c) (a1 m c) (a2 m c) (a3 m c) (a4 m c) (a5 m c) (a6 m c) (a7 m c) := by
  refine (dats m 0 c).arrAt_eq_of_covers 19 _ (by decide +kernel) fun t hf i => ?_
  have e1 : ((((cfg0.win 19).blk t).view.emb i) 1 : ℕ) = (i 1 : ℕ) := by blk_simp [idx t]
  generalize ((cfg0.win 19).blk t).view.emb i = z at e1 ⊢
  have ht : t.val + 1 = cfg0.N := by
    have h1 := (flush0_19 t).mp hf
    have h2 : t.val < 16 := t.isLt
    show t.val + 1 = 16
    omega
  rw [after0_19]
  refine (congrArg (outsAt0 m c t.val t.isLt).2.2.2.2.2.2.2.2.2.2 (FfnArr.split1 i)).trans ((point19 m c t ht (i 1)).trans ?_)
  exact congrArg (BackRow.dbiasAt _ _ _ _ _ _ _ _) (Fin.ext e1.symm)

/-- The kernel runs, leaves the eleven arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = BackRow.Dattn (a0 m c) (a3 m c) (a4 m c) (a7 m c)
      ∧ r.2.mem ((c : Thread nD τ).loc main_v0_1) = BackRow.Delta (a0 m c) (a1 m c) (a3 m c) (a4 m c) (a7 m c) (a8 m c)
      ∧ r.2.mem ((c : Thread nD τ).loc main_v0_2) = BackRow.Dy (a0 m c) (a2 m c) (a3 m c) (a5 m c) (a6 m c) (a7 m c)
      ∧ r.2.mem ((c : Thread nD τ).loc main_v0_3) = BackRow.Dgate (a0 m c) (a1 m c) (a2 m c) (a3 m c) (a4 m c) (a5 m c) (a6 m c) (a7 m c)
      ∧ r.2.mem ((c : Thread nD τ).loc main_v0_4) = BackRow.Blend (a1 m c) (a2 m c) (a3 m c) (a4 m c) (a5 m c) (a6 m c)
      ∧ r.2.mem ((c : Thread nD τ).loc main_v0_5) = BackRow.Dya (a0 m c) (a3 m c) (a7 m c)
      ∧ r.2.mem ((c : Thread nD τ).loc main_v0_6) = BackRow.Dys (a0 m c) (a3 m c) (a7 m c)
      ∧ r.2.mem ((c : Thread nD τ).loc main_v0_7) = BackRow.State (a2 m c) (a5 m c)
      ∧ r.2.mem ((c : Thread nD τ).loc main_v0_8) = BackRow.Act (a2 m c)
      ∧ r.2.mem ((c : Thread nD τ).loc main_v0_9) = BackRow.Dglu (a0 m c) (a2 m c) (a3 m c) (a5 m c) (a6 m c) (a7 m c)
      ∧ r.2.mem ((c : Thread nD τ).loc main_v0_10) = BackRow.Dbias (a0 m c) (a1 m c) (a2 m c) (a3 m c) (a4 m c) (a5 m c) (a6 m c) (a7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    have ⟨h0, h1, h2, h3, h4, h5, h6, h7, h8, h9, h10, hk⟩ := h c
    ⟨h0.trans (whole9 m c), h1.trans (whole10 m c), h2.trans (whole11 m c), h3.trans (whole12 m c), h4.trans (whole13 m c), h5.trans (whole14 m c), h6.trans (whole15 m c), h7.trans (whole16 m c), h8.trans (whole17 m c), h9.trans (whole18 m c), h10.trans (whole19 m c), hk⟩)
    (Value.run_blocks m ρ)

end Cert.BackWhole
-- ==== Proof.BackRef.lean ====
/-
  The reference of the mixer's backward step, read row by row: its eleven results are `BackRow.lean`'s arrays.
-/
module

public import proofs.«01_k».proof.Proof.BackRow
public import proofs.«01_k».proof.Proof.Gen.MixOutBwdRefIdeal.Run

@[expose] public section

noncomputable section

namespace Cert.BackRef

open Cert.MixOutBwdRefIdeal Cert.MixOutBwdRefIdeal.Gen Idealize.ShloMosaic Idealize.ShloMosaic.TcCoe Idealize.ShloMosaic.StableHlo Idealize.SL.Sem
open Cert.OutRow

/-! ## The reference's intermediate arrays, as the program forms them -/

variable (u : FVec Ideal S8192x1024 .f32) (o : FVec Ideal S8192x256 .f32) (y : Vec Ideal S8192x512 .f32)
  (g : Vec Ideal S8192x2048 .f32) (wa : Vec Ideal S256x1024 .bf16) (wg ws : Vec Ideal S512x1024 .bf16)
  (wo : Vec Ideal S1024x1024 .bf16) (hs : FVec Ideal S256x256 .f32)

/-- One constant everywhere. -/
abbrev narrow (b : BitVec 32) : FVec Ideal S8192x512 .f32 := broadcastInDim S8192x512 ![] bcast_S_S8192x512 (constant S_ .f32 b)
abbrev wide (b : BitVec 32) : FVec Ideal S8192x1024 .f32 := broadcastInDim S8192x1024 ![] bcast_S_S8192x1024 (constant S_ .f32 b)

def hStep : FVec Ideal S8192x512 .f32 :=
  Host.tanh (mulf (narrow 0x3F4C422A#32) (addf y (mulf (mulf (mulf (narrow 0x3D372713#32) y) y) y)))

def hAct : FVec Ideal S8192x512 .f32 := mulf (mulf (narrow 0x3F000000#32) y) (addf (narrow 0x3F800000#32) (hStep y))

def hSlope : FVec Ideal S8192x512 .f32 :=
  addf (mulf (narrow 0x3F000000#32) (addf (narrow 0x3F800000#32) (hStep y)))
    (mulf (mulf (mulf (mulf (narrow 0x3F000000#32) y) (subf (narrow 0x3F800000#32) (mulf (hStep y) (hStep y)))) (narrow 0x3F4C422A#32))
      (addf (narrow 0x3F800000#32) (mulf (mulf (narrow 0x3E095D4F#32) y) y)))

def hGlu : FVec Ideal S8192x1024 .f32 :=
  Host.dotGeneral dot_S8192x512_S512x1024_S8192x1024_1_0_0_1_n_n none (hAct y) (extf .f32 wg bitsLt_bf16_f32)

def hLead : FVec Ideal S8192x512 .f32 := extractStridedSlice S8192x512 ![0, 0] (hGlu y wg) slices_S8192x1024_S8192x512_0_0

def hValve : FVec Ideal S8192x512 .f32 :=
  Host.divf (narrow 0x3F800000#32) (addf (narrow 0x3F800000#32) (Host.exp (Host.negf
    (extractStridedSlice S8192x512 ![0, 512] (hGlu y wg) slices_S8192x1024_S8192x512_0_512))))

def hState : FVec Ideal S8192x512 .f32 := mulf (hLead y wg) (hValve y wg)

def hSsm : FVec Ideal S8192x1024 .f32 :=
  Host.dotGeneral dot_S8192x512_S512x1024_S8192x1024_1_0_0_1_n_n none (hState y wg) (extf .f32 ws bitsLt_bf16_f32)

def hAttn : FVec Ideal S8192x1024 .f32 :=
  Host.dotGeneral dot_S8192x256_S256x1024_S8192x1024_1_0_0_1_n_n none o (extf .f32 wa bitsLt_bf16_f32)

def hGa : FVec Ideal S8192x1024 .f32 := extractStridedSlice S8192x1024 ![0, 0] g slices_S8192x2048_S8192x1024_0_0
def hGs : FVec Ideal S8192x1024 .f32 := extractStridedSlice S8192x1024 ![0, 1024] g slices_S8192x2048_S8192x1024_0_1024

def hBlend : FVec Ideal S8192x1024 .f32 := addf (mulf (hGa g) (hAttn o wa)) (mulf (hGs g) (hSsm y wg ws))

def hMix : FVec Ideal S8192x1024 .f32 :=
  Host.dotGeneral dot_S8192x1024_S1024x1024_S8192x1024_1_1_0_0_n_n none u (extf .f32 wo bitsLt_bf16_f32)

def hYa : FVec Ideal S8192x1024 .f32 := mulf (hMix u wo) (hGa g)
def hYs : FVec Ideal S8192x1024 .f32 := mulf (hMix u wo) (hGs g)

def hGate : FVec Ideal S8192x2048 .f32 :=
  concatenate S8192x2048 1 [⟨S8192x1024, mulf (mulf (mulf (hMix u wo) (hAttn o wa)) (hGa g)) (subf (wide 0x3F800000#32) (hGa g))⟩,
    ⟨S8192x1024, mulf (mulf (mulf (hMix u wo) (hSsm y wg ws)) (hGs g)) (subf (wide 0x3F800000#32) (hGs g))⟩]
    concatenates_S8192x1024_S8192x1024_S8192x2048_d1

def hDattn : FVec Ideal S8192x256 .f32 :=
  Host.dotGeneral dot_S8192x1024_S256x1024_S8192x256_1_1_0_0_n_n none (hYa u g wo) (extf .f32 wa bitsLt_bf16_f32)

def hDelta : FVec Ideal S8192x256 .f32 :=
  Host.dotGeneral dot_S8192x256_S256x256_S8192x256_1_0_0_1_n_n none (mulf (hDattn u g wa wo) o) hs

def hDstate : FVec Ideal S8192x512 .f32 :=
  Host.dotGeneral dot_S8192x1024_S512x1024_S8192x512_1_1_0_0_n_n none (hYs u g wo) (extf .f32 ws bitsLt_bf16_f32)

def hDglu : FVec Ideal S8192x1024 .f32 :=
  concatenate S8192x1024 1 [⟨S8192x512, mulf (hDstate u g ws wo) (hValve y wg)⟩,
    ⟨S8192x512, mulf (mulf (mulf (hDstate u g ws wo) (hLead y wg)) (hValve y wg)) (subf (narrow 0x3F800000#32) (hValve y wg))⟩]
    concatenates_S8192x512_S8192x512_S8192x1024_d1

def hDy : FVec Ideal S8192x512 .f32 :=
  mulf (Host.dotGeneral dot_S8192x1024_S512x1024_S8192x512_1_1_0_0_n_n none (hDglu u y g wg ws wo) (extf .f32 wg bitsLt_bf16_f32))
    (hSlope y)

def hBias : FVec Ideal S1x2048 .f32 :=
  broadcastInDim S1x2048 ![1] bcast_S2048_S1x2048_1
    (Host.reduceAdd (hGate u o y g wa wg ws wo) (constant S_ .f32 0x00000000#32) reducesTo_S8192x2048_S2048_d0 h_S_)

/-! ## The same arrays at an index -/

variable (r : Fin 8192)

theorem hStep_at (j : Fin 512) : hStep y (ix2 r j) = OutRow.step (y (ix2 r j)) := by
  unfold hStep
  pointwise
  rfl

theorem hAct_at (j : Fin 512) : hAct y (ix2 r j) = act (row y r j) := by
  unfold hAct
  pointwise
  simp only [hStep_at]
  rfl

theorem hSlope_at (j : Fin 512) : hSlope y (ix2 r j) = BackRow.slope (row y r j) := by
  unfold hSlope
  pointwise
  simp only [hStep_at]
  rfl

theorem hGlu_at (j : Fin 1024) : hGlu y wg (ix2 r j) = glu (row y r) (mat wg) j := by
  unfold hGlu
  pointwise
  simp only [hAct_at]
  rfl

theorem hLead_at (j : Fin 512) : hLead y wg (ix2 r j) = lead (row y r) (mat wg) j := by
  unfold hLead
  pointwise
  simp only [hGlu_at]
  rfl

theorem hValve_at (j : Fin 512) : hValve y wg (ix2 r j) = valve (row y r) (mat wg) j := by
  unfold hValve
  pointwise
  simp only [hGlu_at]
  rfl

theorem hState_at (j : Fin 512) : hState y wg (ix2 r j) = state (row y r) (mat wg) j := by
  unfold hState
  pointwise
  simp only [hLead_at, hValve_at]
  rfl

theorem hSsm_at (j : Fin 1024) : hSsm y wg ws (ix2 r j) = ssm (row y r) (mat wg) (mat ws) j := by
  unfold hSsm
  pointwise
  simp only [hState_at]
  rfl

theorem hAttn_at (j : Fin 1024) : hAttn o wa (ix2 r j) = attn (row o r) (mat wa) j := by
  unfold hAttn
  pointwise
  rfl

theorem hGa_at (j : Fin 1024) : hGa g (ix2 r j) = ga (row g r) j := by
  unfold hGa
  pointwise
  rfl

theorem hGs_at (j : Fin 1024) : hGs g (ix2 r j) = gs (row g r) j := by
  unfold hGs
  pointwise
  rfl

theorem hBlend_at (j : Fin 1024) : hBlend o y g wa wg ws (ix2 r j) = blend (row o r) (row y r) (row g r) (mat wa) (mat wg) (mat ws) j := by
  unfold hBlend
  pointwise
  simp only [hGa_at, hGs_at, hAttn_at, hSsm_at]
  rfl

theorem hMix_at (j : Fin 1024) : hMix u wo (ix2 r j) = BackRow.dmix (row u r) (mat wo) j := by
  unfold hMix
  pointwise
  rfl

theorem hYa_at (j : Fin 1024) : hYa u g wo (ix2 r j) = BackRow.dya (row u r) (row g r) (mat wo) j := by
  unfold hYa
  pointwise
  simp only [hMix_at, hGa_at]
  rfl

theorem hYs_at (j : Fin 1024) : hYs u g wo (ix2 r j) = BackRow.dys (row u r) (row g r) (mat wo) j := by
  unfold hYs
  pointwise
  simp only [hMix_at, hGs_at]
  rfl

theorem hGate_at (j : Fin 2048) : hGate u o y g wa wg ws wo (ix2 r j) = BackRow.dgate (row u r) (row o r) (row y r) (row g r) (mat wa) (mat wg) (mat ws) (mat wo) j := by
  unfold hGate
  pointwise
  simp only [hMix_at, hAttn_at, hSsm_at, hGa_at, hGs_at]
  rfl

theorem hDattn_at (j : Fin 256) : hDattn u g wa wo (ix2 r j) = BackRow.dattn (row u r) (row g r) (mat wa) (mat wo) j := by
  unfold hDattn
  pointwise
  simp only [hYa_at]
  rfl

theorem hDelta_at (j : Fin 256) : hDelta u o g wa wo hs (ix2 r j) = BackRow.delta (row u r) (row o r) (row g r) (mat wa) (mat wo) (mat hs) j := by
  unfold hDelta
  pointwise
  simp only [hDattn_at]
  rfl

theorem hDstate_at (j : Fin 512) : hDstate u g ws wo (ix2 r j) = BackRow.dstate (row u r) (row g r) (mat ws) (mat wo) j := by
  unfold hDstate
  pointwise
  simp only [hYs_at]
  rfl

theorem hDglu_at (j : Fin 1024) : hDglu u y g wg ws wo (ix2 r j) = BackRow.dglu (row u r) (row y r) (row g r) (mat wg) (mat ws) (mat wo) j := by
  unfold hDglu
  pointwise
  simp only [hDstate_at, hLead_at, hValve_at]
  rfl

theorem hDy_at (j : Fin 512) : hDy u y g wg ws wo (ix2 r j) = BackRow.dy (row u r) (row y r) (row g r) (mat wg) (mat ws) (mat wo) j := by
  unfold hDy
  pointwise
  simp only [hDglu_at, hSlope_at]
  rfl

theorem hBias_at (k : Fin 2048) : hBias u o y g wa wg ws wo (ix2 0 k) = BackRow.dbiasAt u o y g wa wg ws wo k := by
  have h := fun r => hGate_at u o y g wa wg ws wo r k
  unfold hBias
  generalize hGate u o y g wa wg ws wo = z at h ⊢
  pointwise
  simp only [h]
  rfl

/-! ## The run -/

variable (m : (ℓ : Loc nD τ sig) → Buf (Elt Ideal) ℓ) (c : Dev nD)

/-- The arguments. -/
abbrev a0 : Arr 8192 1024 := m ((c : Thread nD τ).loc main_arg0)
abbrev a1 : Arr 8192 256 := m ((c : Thread nD τ).loc main_arg1)
abbrev a2 : Arr 8192 512 := m ((c : Thread nD τ).loc main_arg2)
abbrev a3 : Arr 8192 2048 := m ((c : Thread nD τ).loc main_arg3)
abbrev a4 : Arr 256 1024 := m ((c : Thread nD τ).loc main_arg4)
abbrev a5 : Arr 512 1024 := m ((c : Thread nD τ).loc main_arg5)
abbrev a6 : Arr 512 1024 := m ((c : Thread nD τ).loc main_arg6)
abbrev a7 : Arr 1024 1024 := m ((c : Thread nD τ).loc main_arg7)
abbrev a8 : Arr 256 256 := m ((c : Thread nD τ).loc main_arg8)

/-- An array is known by its entries. -/
theorem ext2 {n k : ℕ} {v : Arr n k} {f : Fin n → Fin k → EReal} (h : ∀ r j, v (ix2 r j) = f r j) : v = BackRow.lay f :=
  funext fun i => (congrArg v (FfnArr.split2 i)).trans (h (i 0) (i 1))

/-- The same of an array that is rounded to the shorter format. -/
def cut {s : Shape} (v : FVec Ideal s .f32) : FVec Ideal s .bf16 := truncf .bf16 v bitsLt_bf16_f32

theorem ext2_cut {n k : ℕ} {v : FVec Ideal ⟨2, ![n, k]⟩ .f32} {f : Fin n → Fin k → EReal}
    (h : ∀ r j, v (ix2 r j) = f r j) : (cut v : Arr n k) = BackRow.lay f :=
  ext2 h

/-- The reference runs, leaves the eleven arrays and keeps its arguments. -/
theorem run (ρ : Dev nD → PrngReg) : θ_run defs (onTc (τ := τ) (main (F := Ideal))) ⟨m, fun _ => 0, ρ⟩ fun r => ∀ c : Dev nD,
      r.2.mem ((c : Thread nD τ).loc main_v75) = BackRow.Dattn (a0 m c) (a3 m c) (a4 m c) (a7 m c)
      ∧ r.2.mem ((c : Thread nD τ).loc main_v77) = BackRow.Delta (a0 m c) (a1 m c) (a3 m c) (a4 m c) (a7 m c) (a8 m c)
      ∧ r.2.mem ((c : Thread nD τ).loc main_v74) = BackRow.Dy (a0 m c) (a2 m c) (a3 m c) (a5 m c) (a6 m c) (a7 m c)
      ∧ r.2.mem ((c : Thread nD τ).loc main_v78) = BackRow.Dgate (a0 m c) (a1 m c) (a2 m c) (a3 m c) (a4 m c) (a5 m c) (a6 m c) (a7 m c)
      ∧ r.2.mem ((c : Thread nD τ).loc main_v82) = BackRow.Blend (a1 m c) (a2 m c) (a3 m c) (a4 m c) (a5 m c) (a6 m c)
      ∧ r.2.mem ((c : Thread nD τ).loc main_v83) = BackRow.Dya (a0 m c) (a3 m c) (a7 m c)
      ∧ r.2.mem ((c : Thread nD τ).loc main_v84) = BackRow.Dys (a0 m c) (a3 m c) (a7 m c)
      ∧ r.2.mem ((c : Thread nD τ).loc main_v86) = BackRow.State (a2 m c) (a5 m c)
      ∧ r.2.mem ((c : Thread nD τ).loc main_v87) = BackRow.Act (a2 m c)
      ∧ r.2.mem ((c : Thread nD τ).loc main_v88) = BackRow.Dglu (a0 m c) (a2 m c) (a3 m c) (a5 m c) (a6 m c) (a7 m c)
      ∧ r.2.mem ((c : Thread nD τ).loc main_v90) = BackRow.Dbias (a0 m c) (a1 m c) (a2 m c) (a3 m c) (a4 m c) (a5 m c) (a6 m c) (a7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    have ⟨h0, h1, h2, h3, h4, h5, h6, h7, h8, h9, h10, hk⟩ := h c
    ⟨h0.trans (ext2_cut (v := hDattn (a0 m c) (a3 m c) (a4 m c) (a7 m c)) (hDattn_at (a0 m c) (a3 m c) (a4 m c) (a7 m c))),
      h1.trans (ext2 (v := hDelta (a0 m c) (a1 m c) (a3 m c) (a4 m c) (a7 m c) (a8 m c)) (hDelta_at (a0 m c) (a1 m c) (a3 m c) (a4 m c) (a7 m c) (a8 m c))),
      h2.trans (ext2 (v := hDy (a0 m c) (a2 m c) (a3 m c) (a5 m c) (a6 m c) (a7 m c)) (hDy_at (a0 m c) (a2 m c) (a3 m c) (a5 m c) (a6 m c) (a7 m c))),
      h3.trans (ext2_cut (v := hGate (a0 m c) (a1 m c) (a2 m c) (a3 m c) (a4 m c) (a5 m c) (a6 m c) (a7 m c)) (hGate_at (a0 m c) (a1 m c) (a2 m c) (a3 m c) (a4 m c) (a5 m c) (a6 m c) (a7 m c))),
      h4.trans (ext2_cut (v := hBlend (a1 m c) (a2 m c) (a3 m c) (a4 m c) (a5 m c) (a6 m c)) (hBlend_at (a1 m c) (a2 m c) (a3 m c) (a4 m c) (a5 m c) (a6 m c))),
      h5.trans (ext2_cut (v := hYa (a0 m c) (a3 m c) (a7 m c)) (hYa_at (a0 m c) (a3 m c) (a7 m c))),
      h6.trans (ext2_cut (v := hYs (a0 m c) (a3 m c) (a7 m c)) (hYs_at (a0 m c) (a3 m c) (a7 m c))),
      h7.trans (ext2_cut (v := hState (a2 m c) (a5 m c)) (hState_at (a2 m c) (a5 m c))),
      h8.trans (ext2_cut (v := hAct (a2 m c)) (hAct_at (a2 m c))),
      h9.trans (ext2_cut (v := hDglu (a0 m c) (a2 m c) (a3 m c) (a5 m c) (a6 m c) (a7 m c)) (hDglu_at (a0 m c) (a2 m c) (a3 m c) (a5 m c) (a6 m c) (a7 m c))),
      h10.trans (funext fun i => (congrArg (hBias (a0 m c) (a1 m c) (a2 m c) (a3 m c) (a4 m c) (a5 m c) (a6 m c) (a7 m c)) (FfnArr.split1 i)).trans (hBias_at ..)),
      hk⟩) (Value.run (F := Ideal) m ρ)

end Cert.BackRef
-- ==== Proof.BiasValue.lean ====
/-
  The position bias: spread from its buckets over the positions, and gathered back. In both calls the kernel and its
  reference leave the same sums, group by group.
-/
module

public import proofs.«01_k».proof.Proof.Gen.BiasExpandIdeal.Value
public import proofs.«01_k».proof.Proof.Gen.BiasExpandRefIdeal.Run
public import proofs.«01_k».proof.Proof.Gen.BiasReduceIdeal.Value
public import proofs.«01_k».proof.Proof.Gen.BiasReduceRefIdeal.Run
public import Idealize.ShloMosaic.Lib.Pipeline.ValueKit
public import Idealize.ShloMosaic.Lib.Pipeline.ReadBack

@[expose] public section

noncomputable section

namespace Cert.BiasValue

open Idealize.ShloMosaic Idealize.ShloMosaic.TcCoe Idealize.SL.Sem

/-- An array of three groups, and one group of it. -/
abbrev Arr (n k : ℕ) : Type := (⟨3, ![3, n, k]⟩ : Shape).Idx → EReal
abbrev Block (n k : ℕ) : Type := (⟨3, ![1, n, k]⟩ : Shape).Idx → EReal

/-- An index is its three coordinates; in one group the first is zero. -/
theorem split {n k : ℕ} (i : (⟨3, ![3, n, k]⟩ : Shape).Idx) : i = ix3 (i 0) (i 1) (i 2) := by
  funext a
  fin_cases a <;> rfl

theorem split0 {n k : ℕ} (i : (⟨3, ![1, n, k]⟩ : Shape).Idx) : i = ix3 0 (i 1) (i 2) := by
  funext a
  fin_cases a
  · exact Fin.ext (Nat.lt_one_iff.mp (i 0).isLt)
  · rfl
  · rfl

/-- What a block holds, found where the block lies in the array. -/
theorem laid {n k : ℕ} (v : Block n k) (f : Fin 3 → Fin n → Fin k → EReal) (g : Fin 3) (h : ∀ p j, v (ix3 0 p j) = f g p j)
    (i : (⟨3, ![1, n, k]⟩ : Shape).Idx) (z : (⟨3, ![3, n, k]⟩ : Shape).Idx) (e0 : (z 0 : ℕ) = g) (e1 : (z 1 : ℕ) = i 1)
    (e2 : (z 2 : ℕ) = i 2) : v i = f (z 0) (z 1) (z 2) := by
  obtain rfl : z 0 = g := Fin.ext e0
  have h1 : z 1 = i 1 := Fin.ext e1
  have h2 : z 2 = i 2 := Fin.ext e2
  rw [h1, h2]
  exact (congrArg v (split0 i)).trans (h (i 1) (i 2))

/-! ## Expand -/

/-- Of one group, one head: the sum over the buckets of a head's table times the bucket's positions. -/
def expandAt (x : Arr 8 32) (y : Arr 32 32768) (g : Fin 3) (p : Fin 8) (j : Fin 32768) : EReal := ∑ b : Fin 32, x (ix3 g p b) * y (ix3 g b j)
def expand (x : Arr 8 32) (y : Arr 32 32768) : Arr 8 32768 := fun i => expandAt x y (i 0) (i 1) (i 2)

namespace ExpandKernel

open Cert.BiasExpandIdeal Cert.BiasExpandIdeal.Gen

theorem pay_at (x : Vec Ideal S1x8x32 .f32) (y : Vec Ideal S1x32x32768 .f32) (p : Fin 8) (j : Fin 32768) :
    k0_pay1 x y (ix3 0 p j) = ∑ b : Fin 32, x (ix3 0 p b) * y (ix3 0 b j) := by
  pointwise [k0_pay1]

theorem out (x : Vec Ideal S1x8x32 .f32) (y : Vec Ideal S1x32x32768 .f32) : out0_2 x y = k0_pay1 x y := by
  unfold out0_2
  frame_out

variable (m : (ℓ : Loc nD τ sig) → Buf (Elt Ideal) ℓ) (c : Dev nD) (t : Fin cfg0.N)

abbrev a0 : Arr 8 32 := m ((c : Thread nD τ).loc main_arg0)
abbrev a1 : Arr 32 32768 := m ((c : Thread nD τ).loc main_arg1)

/-- Where each window's block lies at a point: the point's group. -/
theorem idx : ∀ t : Fin cfg0.N, win0_0.index t = ![t.val, 0, 0] ∧ win0_1.index t = ![t.val, 0, 0]
    ∧ win0_2.index t = ![t.val, 0, 0] :=
  (by decide +kernel : ∀ t : Fin grid0.N, _)

def group : Fin 3 := ⟨t.val, t.isLt⟩

theorem left_at (p : Fin 8) (k : Fin 32) : iblk m c 0 t (ix3 0 p k) = a0 m c (ix3 (group t) p k) := by
  unfold group
  blk_ext [iblk, V, idx t]

theorem right_at (p : Fin 32) (k : Fin 32768) : iblk m c 1 t (ix3 0 p k) = a1 m c (ix3 (group t) p k) := by
  unfold group
  blk_ext [iblk, V, idx t]

theorem point (p : Fin 8) (j : Fin 32768) :
    out0_2 (iblk m c 0 t) (iblk m c 1 t) (ix3 0 p j) = expandAt (a0 m c) (a1 m c) (group t) p j := by
  rw [out, pay_at]
  exact Finset.sum_congr rfl fun _ _ => congrArg₂ _ (left_at ..) (right_at ..)

/-- The blocks written back make up the array. -/
theorem array : (dats m 0 c).arrAt 2 cfg0.N = expand (a0 m c) (a1 m c) := by
  refine (dats m 0 c).arrAt_eq_of_covers 2 _ (by decide +kernel) fun t hf i => ?_
  have e0 : ((((cfg0.win 2).blk t).view.emb i) 0 : ℕ) = t.val := by blk_simp [idx t]
  have e1 : ((((cfg0.win 2).blk t).view.emb i) 1 : ℕ) = (i 1 : ℕ) := by blk_simp [idx t]
  have e2 : ((((cfg0.win 2).blk t).view.emb i) 2 : ℕ) = (i 2 : ℕ) := by blk_simp [idx t]
  generalize ((cfg0.win 2).blk t).view.emb i = z at e0 e1 e2 ⊢
  rw [after0_2]
  have h := point m c t
  generalize out0_2 (iblk m c 0 t) (iblk m c 1 t) = v at h ⊢
  exact laid v (expandAt (a0 m c) (a1 m c)) (group t) h i z e0 e1 e2

/-- The kernel runs, leaves the sums and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = expand (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array m c), (h c).2⟩) (Value.run_blocks m ρ)

end ExpandKernel

namespace ExpandReference

open Cert.BiasExpandRefIdeal Cert.BiasExpandRefIdeal.Gen

variable (m : (ℓ : Loc nD τ sig) → Buf (Elt Ideal) ℓ) (c : Dev nD)

abbrev a0 : Arr 8 32 := m ((c : Thread nD τ).loc main_arg0)
abbrev a1 : Arr 32 32768 := m ((c : Thread nD τ).loc main_arg1)

/-- The reference's sums, as the program forms them. -/
def formed (x : FVec Ideal S3x8x32 .f32) (y : FVec Ideal S3x32x32768 .f32) : FVec Ideal S3x8x32768 .f32 :=
  Host.dotGeneral dot_S3x8x32_S3x32x32768_S3x8x32768_2_1_1_2_0_0 none x y

theorem formed_at (x : Arr 8 32) (y : Arr 32 32768) (g : Fin 3) (p : Fin 8) (j : Fin 32768) :
    formed x y (ix3 g p j) = expandAt x y g p j := by
  unfold formed expandAt
  pointwise

/-- The reference runs, leaves the sums and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = expand (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i =>
    (congrArg (formed (a0 m c) (a1 m c)) (split i)).trans (formed_at ..)), (h c).2⟩) (Value.run (F := Ideal) m ρ)

end ExpandReference

/-! ## Reduce -/

/-- Of one group, one head: the sum over the positions of a head's gradient times the bucket's positions. -/
def reduceAt (x : Arr 8 32768) (y : Arr 32 32768) (g : Fin 3) (p : Fin 8) (j : Fin 32) : EReal := ∑ n : Fin 32768, x (ix3 g p n) * y (ix3 g j n)
def reduce (x : Arr 8 32768) (y : Arr 32 32768) : Arr 8 32 := fun i => reduceAt x y (i 0) (i 1) (i 2)

namespace ReduceKernel

open Cert.BiasReduceIdeal Cert.BiasReduceIdeal.Gen

theorem pay_at (x : Vec Ideal S1x8x32768 .f32) (y : Vec Ideal S1x32x32768 .f32) (p : Fin 8) (j : Fin 32) :
    k0_pay1 x y (ix3 0 p j) = ∑ n : Fin 32768, x (ix3 0 p n) * y (ix3 0 j n) := by
  pointwise [k0_pay1]

theorem out (x : Vec Ideal S1x8x32768 .f32) (y : Vec Ideal S1x32x32768 .f32) : out0_2 x y = k0_pay1 x y := by
  unfold out0_2
  frame_out

variable (m : (ℓ : Loc nD τ sig) → Buf (Elt Ideal) ℓ) (c : Dev nD) (t : Fin cfg0.N)

abbrev a0 : Arr 8 32768 := m ((c : Thread nD τ).loc main_arg0)
abbrev a1 : Arr 32 32768 := m ((c : Thread nD τ).loc main_arg1)

/-- Where each window's block lies at a point: the point's group. -/
theorem idx : ∀ t : Fin cfg0.N, win0_0.index t = ![t.val, 0, 0] ∧ win0_1.index t = ![t.val, 0, 0]
    ∧ win0_2.index t = ![t.val, 0, 0] :=
  (by decide +kernel : ∀ t : Fin grid0.N, _)

def group : Fin 3 := ⟨t.val, t.isLt⟩

theorem left_at (p : Fin 8) (k : Fin 32768) : iblk m c 0 t (ix3 0 p k) = a0 m c (ix3 (group t) p k) := by
  unfold group
  blk_ext [iblk, V, idx t]

theorem right_at (p : Fin 32) (k : Fin 32768) : iblk m c 1 t (ix3 0 p k) = a1 m c (ix3 (group t) p k) := by
  unfold group
  blk_ext [iblk, V, idx t]

theorem point (p : Fin 8) (j : Fin 32) :
    out0_2 (iblk m c 0 t) (iblk m c 1 t) (ix3 0 p j) = reduceAt (a0 m c) (a1 m c) (group t) p j := by
  rw [out, pay_at]
  exact Finset.sum_congr rfl fun _ _ => congrArg₂ _ (left_at ..) (right_at ..)

/-- The blocks written back make up the array. -/
theorem array : (dats m 0 c).arrAt 2 cfg0.N = reduce (a0 m c) (a1 m c) := by
  refine (dats m 0 c).arrAt_eq_of_covers 2 _ (by decide +kernel) fun t hf i => ?_
  have e0 : ((((cfg0.win 2).blk t).view.emb i) 0 : ℕ) = t.val := by blk_simp [idx t]
  have e1 : ((((cfg0.win 2).blk t).view.emb i) 1 : ℕ) = (i 1 : ℕ) := by blk_simp [idx t]
  have e2 : ((((cfg0.win 2).blk t).view.emb i) 2 : ℕ) = (i 2 : ℕ) := by blk_simp [idx t]
  generalize ((cfg0.win 2).blk t).view.emb i = z at e0 e1 e2 ⊢
  rw [after0_2]
  have h := point m c t
  generalize out0_2 (iblk m c 0 t) (iblk m c 1 t) = v at h ⊢
  exact laid v (reduceAt (a0 m c) (a1 m c)) (group t) h i z e0 e1 e2

/-- The kernel runs, leaves the sums and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = reduce (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array m c), (h c).2⟩) (Value.run_blocks m ρ)

end ReduceKernel

namespace ReduceReference

open Cert.BiasReduceRefIdeal Cert.BiasReduceRefIdeal.Gen

variable (m : (ℓ : Loc nD τ sig) → Buf (Elt Ideal) ℓ) (c : Dev nD)

abbrev a0 : Arr 8 32768 := m ((c : Thread nD τ).loc main_arg0)
abbrev a1 : Arr 32 32768 := m ((c : Thread nD τ).loc main_arg1)

/-- The reference's sums, as the program forms them. -/
def formed (x : FVec Ideal S3x8x32768 .f32) (y : FVec Ideal S3x32x32768 .f32) : FVec Ideal S3x8x32 .f32 :=
  Host.dotGeneral dot_S3x8x32768_S3x32x32768_S3x8x32_2_2_1_1_0_0 none x y

theorem formed_at (x : Arr 8 32768) (y : Arr 32 32768) (g : Fin 3) (p : Fin 8) (j : Fin 32) :
    formed x y (ix3 g p j) = reduceAt x y g p j := by
  unfold formed reduceAt
  pointwise

/-- The reference runs, leaves the sums and keeps its arguments. -/
theorem run (ρ : Dev nD → PrngReg) : θ_run defs (onTc (τ := τ) (main (F := Ideal))) ⟨m, fun _ => 0, ρ⟩ fun r => ∀ c : Dev nD,
      r.2.mem ((c : Thread nD τ).loc main_v0) = reduce (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun i =>
    (congrArg (formed (a0 m c) (a1 m c)) (split i)).trans (formed_at ..)), (h c).2⟩) (Value.run (F := Ideal) m ρ)

end ReduceReference

end Cert.BiasValue
-- ==== Proof.Weights.lean ====
module

public import proofs.«01_k».proof.Proof.Alone
public import proofs.«01_k».proof.Proof.Pieces
public import proofs.«01_k».proof.Proof.Gen.WeightsIdeal.Launch
public import proofs.«01_k».proof.Proof.Gen.WeightsIdeal.Skeleton
public import proofs.«01_k».proof.Proof.Gen.WeightsIdeal.Points
public import Idealize.ShloMosaic.Lib.ValueIdxCore
public import Idealize.ShloMosaic.Lib.Pipeline.ValueKit.Geometry

/-! # The gather of the weights

The two cores of a chip hold the same shard. Each sends its half of the shard to its own core on the three other chips, and
forwards what arrives from there to the other core of its chip; the own shard is copied. Thirteen semaphores: 0–2 count the
own half read out, 3–5 the forwarded halves read out, 6–8 the halves landed from the other chips, 9–11 the halves landed from the
other core, 12 the copy of the own shard. A device waits for 6–8 while it still owes 9–11, so these have the higher level. -/

@[expose] public section

noncomputable section

namespace Cert.WeightsProof

open Cert.WeightsIdeal Cert.WeightsIdeal.Gen Cert.Talk
open Idealize.ShloMosaic Idealize.ShloMosaic.TcCoe Idealize.ShloMosaic.Pipeline Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- The devices that device `c` sends to: itself, those of the same core on the three other chips, and three times the other core of its chip. -/
def nb : Fin 7 → Dev nD ≃ Dev nD := ![Equiv.refl _,
  ⟨fun c => ⟨k0_dev1 c, k0_dev1_lt c⟩, fun c => ⟨k0_dev1 c, k0_dev1_lt c⟩, by intro c; revert c; decide, by intro c; revert c; decide⟩,
  ⟨fun c => ⟨k0_dev2 c, k0_dev2_lt c⟩, fun c => ⟨k0_dev2 c, k0_dev2_lt c⟩, by intro c; revert c; decide, by intro c; revert c; decide⟩,
  ⟨fun c => ⟨k0_dev3 c, k0_dev3_lt c⟩, fun c => ⟨k0_dev3 c, k0_dev3_lt c⟩, by intro c; revert c; decide, by intro c; revert c; decide⟩,
  ⟨fun c => ⟨k0_dev4 c, k0_dev4_lt c⟩, fun c => ⟨k0_dev4 c, k0_dev4_lt c⟩, by intro c; revert c; decide, by intro c; revert c; decide⟩,
  ⟨fun c => ⟨k0_dev5 c, k0_dev5_lt c⟩, fun c => ⟨k0_dev5 c, k0_dev5_lt c⟩, by intro c; revert c; decide, by intro c; revert c; decide⟩,
  ⟨fun c => ⟨k0_dev6 c, k0_dev6_lt c⟩, fun c => ⟨k0_dev6 c, k0_dev6_lt c⟩, by intro c; revert c; decide, by intro c; revert c; decide⟩]

/-- The chip of a device. -/
def chip (c : Dev nD) : Fin 4 := ⟨c.val / 2, by have : c.val < 8 := c.isLt; omega⟩

/-- The core of a device. -/
def core (c : Dev nD) : Fin 2 := ⟨c.val % 2, by omega⟩

/-- The device from which device `c` has half `h` of the shard of chip `s`: itself for its own chip, else core `h` of chip `s`. -/
def source (c : Dev nD) (s : Fin 4) (h : Fin 2) : Dev nD := if s = chip c then c else ⟨2 * s.val + h.val, by have := s.isLt; have := h.isLt; show _ < 8; omega⟩

/-- The part of the result of device `c` in which half `h` of the shard of chip `s` lies: 0 the own shard, 1–3 the own half of
    another chip's shard, 4–6 the other half. -/
def place (c : Dev nD) (s : Fin 4) (h : Fin 2) : Fin 7 :=
  if s = chip c then 0 else if s = chip (nb 1 c) then (if h = core c then 1 else 4) else if s = chip (nb 2 c) then (if h = core c then 2 else 5)
    else (if h = core c then 3 else 6)

/-- The half in which a row lies. -/
def half (r : Fin 6016) : Fin 2 := ⟨r.val / 3008, by have := r.isLt; omega⟩

/-- The part in which an index of the result lies. -/
abbrev key (c : Dev nD) (i : S4x6016x1024.Idx) : Fin 7 := place c (i 0) (half (i 1))

/-- The half in which an index of the shard lies. -/
abbrev key₂ (i : S6016x1024.Idx) : Fin 2 := half (i 0)

/-- The slot of one shard in the result, as the kernel names it. -/
abbrev slot (off : Fin 3 → ℕ) (inb : ∀ a, off a + S1x6016x1024.size a ≤ S4x6016x1024.size a) : Memref sig .tc .hbm S6016x1024 .bf16 :=
  ((Memref.whole main_v1).slice (Rect.unit (s := S4x6016x1024) off S1x6016x1024.size inb) (fun _ => rfl)).squeeze S6016x1024 squeezes_S1x6016x1024_S6016x1024

/-- Half of a slot. -/
abbrev hslot (off : Fin 3 → ℕ) (inb : ∀ a, off a + S1x3008x1024.size a ≤ S4x6016x1024.size a) : Memref sig .tc .hbm S3008x1024 .bf16 :=
  ((Memref.whole main_v1).slice (Rect.unit (s := S4x6016x1024) off S1x3008x1024.size inb) (fun _ => rfl)).squeeze S3008x1024 squeezes_S1x3008x1024_S3008x1024

/-- Half of the own shard. -/
abbrev mine (off : Fin 2 → ℕ) (inb : ∀ a, off a + S3008x1024.size a ≤ S6016x1024.size a) : Memref sig .tc .hbm S3008x1024 .bf16 :=
  (Memref.whole main_arg0).slice (Rect.unit (s := S6016x1024) off S3008x1024.size inb) (fun _ => rfl)

/-- The units of a copy of a half, and of a whole shard. -/
def units : ℕ := (hslot ![0, 0, 0] (by decide)).view.amount (.dma cc0_scratch2.sem)
def units₂ : ℕ := (slot ![0, 0, 0] (by decide)).view.amount (.dma cc0_scratch2.sem)

/-- The plan. -/
def pl : Plan nD sig (Fin 13) where
  sm k := .dma k
  inj := by decide
  amt := ![units, units, units, units, units, units, units, units, units, units, units, units, units₂]
  pos := by decide
  peer := ![Equiv.refl _, Equiv.refl _, Equiv.refl _, Equiv.refl _, Equiv.refl _, Equiv.refl _, nb 1, nb 2, nb 3, nb 4, nb 5, nb 6, Equiv.refl _]
  lev := ![0, 0, 0, 0, 0, 0, 0, 0, 0, 1, 1, 1, 0]

variable (m : (ℓ : Loc nD τ sig) → Buf (Elt F) ℓ)

/-- The result of device `c`: each shard, from the device it has it from. -/
def G (c : Dev nD) : Buf (Elt F) ((c.tc : Thread nD τ).loc main_v1) :=
  fun i : S4x6016x1024.Idx => m (((source c (i 0) (half (i 1))).tc : Thread nD τ).loc main_arg0) (ix2 (i 1) (i 2))

/-- Part `k` of the result of device `d`. -/
abbrev O (d : Dev nD) (k : Fin 7) (f : Buf (Elt F) ((d.tc : Thread nD τ).loc main_v1)) : sProp (MT nD τ sig Unit (Elt F) ℕ (UU nD τ sig) ℕ) :=
  ((d.tc : Thread nD τ).loc main_v1) ↦[piece (key d) k]{fullShare} f

/-- A share of half `h` of the shard of device `c`. -/
abbrev A (c : Dev nD) (h : Fin 2) (q : PosShare TreeShare) : sProp (MT nD τ sig Unit (Elt F) ℕ (UU nD τ sig) ℕ) :=
  ((c.tc : Thread nD τ).loc main_arg0) ↦[piece key₂ h]{q} m ((c.tc : Thread nD τ).loc main_arg0)

/-- A share of the shard of device `c`. -/
abbrev A' (c : Dev nD) (q : PosShare TreeShare) : sProp (MT nD τ sig Unit (Elt F) ℕ (UU nD τ sig) ℕ) :=
  ((c.tc : Thread nD τ).loc main_arg0) ↦{q} m ((c.tc : Thread nD τ).loc main_arg0)

/-- The four shares of the own shard: the copy's, and those of the three copies of the own half. -/
abbrev q₀ : PosShare TreeShare := fullShare.left
abbrev q₁ : PosShare TreeShare := fullShare.right.left
abbrev q₂ : PosShare TreeShare := fullShare.right.right.left
abbrev q₃ : PosShare TreeShare := fullShare.right.right.right

/-- What a landing hands over. -/
def pay (c : Dev nD) (k : Fin 13) : sProp (MT nD τ sig Unit (Elt F) ℕ (UU nD τ sig) ℕ) :=
  match k with
  | 0 => A m c (core c) q₁
  | 1 => A m c (core c) q₂
  | 2 => A m c (core c) q₃
  | 3 => O c 1 (G m c)
  | 4 => O c 2 (G m c)
  | 5 => O c 3 (G m c)
  | 6 => O c 1 (G m c)
  | 7 => O c 2 (G m c)
  | 8 => O c 3 (G m c)
  | 9 => O c 4 (G m c)
  | 10 => O c 5 (G m c)
  | 11 => O c 6 (G m c)
  | 12 => iprop(O c 0 (G m c) ∗ A' m c q₀)

instance pay_storable (c : Dev nD) (k : Fin 13) : Storable (upEmb : UEmb _ 𝕄) (pay m c k) := by
  unfold pay
  split <;> infer_instance

/-- What a device needs of memory: its own shard, and the parts it writes. -/
def M (c : Dev nD) : sProp (MT nD τ sig Unit (Elt F) ℕ (UU nD τ sig) ℕ) :=
  iprop(A' m c fullShare ∗ bigSep Finset.univ fun j => O (nb j c) j (m (((nb j c).tc : Thread nD τ).loc main_v1)))

/-- What it has of memory afterwards: its own shard and its own result. -/
def Y (c : Dev nD) : sProp (MT nD τ sig Unit (Elt F) ℕ (UU nD τ sig) ℕ) :=
  iprop(A' m c fullShare ∗ ((c.tc : Thread nD τ).loc main_v1) ↦{fullShare} G m c)

theorem bufs_eq (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ ((c.tc : Thread nD τ).loc main_v1) ↦{fullShare} V main_v1) := by
  unfold unscopedBufs
  exact BI.bigSep_eq_bigSepL_of_eq [main_arg0, main_v1] (by decide) (by decide) _

/-- The parts, listed. -/
abbrev parts : List (Fin 7) := [0, 1, 2, 3, 4, 5, 6]

theorem slots (c : Dev nD) (f : Buf (Elt F) ((c.tc : Thread nD τ).loc main_v1)) :
    (((c.tc : Thread nD τ).loc main_v1) ↦{fullShare} f : sProp 𝕄) = each (fun k => O c k f) parts :=
  cut (ℓ := (c.tc : Thread nD τ).loc main_v1) (key c) f parts (by decide) (by decide)

theorem halves (c : Dev nD) (q : PosShare TreeShare) : (A' m c q : sProp 𝕄) = iprop(A m c (core c) q ∗ A m c (1 - core c) q ∗ emp) :=
  cut (ℓ := (c.tc : Thread nD τ).loc main_arg0) key₂ _ [core c, 1 - core c] (by revert c; decide) (by revert c; decide)

theorem deal_bufs : (bigSep Finset.univ fun c : Dev nD => (unscopedBufs c (fun b => m ((c.tc : Thread nD τ).loc b)) : sProp 𝕄))
    ⊢ bigSep Finset.univ (M m) := by
  have e2 (c : Dev nD) : (((c.tc : Thread nD τ).loc main_v1) ↦{fullShare} m ((c.tc : Thread nD τ).loc main_v1) : sProp 𝕄)
      = bigSep Finset.univ fun k : Fin 7 => O c k (m ((c.tc : Thread nD τ).loc main_v1)) := by
    rw [slots, each_univ _ parts (by decide) (by decide)]
  have e : (bigSep Finset.univ fun c : Dev nD => (unscopedBufs c (fun b => m ((c.tc : Thread nD τ).loc b)) : sProp 𝕄))
      = iprop((bigSep Finset.univ fun c : Dev nD => (((c.tc : Thread nD τ).loc main_arg0) ↦{fullShare} m ((c.tc : Thread nD τ).loc main_arg0) : sProp 𝕄))
        ∗ bigSep Finset.univ fun c : Dev nD => bigSep Finset.univ fun k : Fin 7 => O c k (m ((c.tc : Thread nD τ).loc main_v1))) := by
    rw [← BI.bigSep_sep']
    exact BI.bigSep_congr fun c _ => by rw [bufs_eq, e2]
  rw [e, deal_pieces (fun (c : Dev nD) (k : Fin 7) => (O c k (m ((c.tc : Thread nD τ).loc main_v1)) : sProp 𝕄))
    nb (fun k _ => k) (fun _ => Function.bijective_id), ← BI.bigSep_sep']
  exact BI.Entails.refl _

theorem routes (j : Fin 7) (c : Dev nD) : τ.routes (c.tc : Thread nD τ) ((nb j c).tc : Thread nD τ) = true := by
  revert c; revert j; decide

theorem off1 (c : Dev nD) : k0_off1 c = ![(chip c).val, 0, 0] := by revert c; decide
theorem off2 (c : Dev nD) : k0_off2 c = ![(chip c).val, 3008 * (core c).val, 0] := by revert c; decide
theorem off3 (c : Dev nD) : k0_off3 c = ![3008 * (core c).val, 0] := by revert c; decide
theorem off4 (c : Dev nD) : k0_off4 c = ![(chip (nb 1 c)).val, 3008 * (core c).val, 0] := by revert c; decide
theorem off5 (c : Dev nD) : k0_off5 c = ![(chip (nb 2 c)).val, 3008 * (core c).val, 0] := by revert c; decide
theorem off6 (c : Dev nD) : k0_off6 c = ![(chip (nb 3 c)).val, 3008 * (core c).val, 0] := by revert c; decide

/-- The part that half a slot is. -/
theorem set_hslot (d : Dev nD) (off) (inb) (s : Fin 4) (h : Fin 2) (k : Fin 7) (ho : off = ![s.val, 3008 * h.val, 0]) (hk : ∀ s' h', place d s' h' = k ↔ s' = s ∧ h' = h) :
    (hslot off inb).view.set = piece (key d) k := by
  subst ho
  refine (View.set_reshape _ _).trans (set_block main_v1 _ (key d) k fun i => ?_)
  have h1 : (i 1).val < 6016 := (i 1).isLt
  have h2 : (i 2).val < 1024 := (i 2).isLt
  refine Iff.trans ?_ (hk (i 0) (half (i 1))).symm
  constructor
  · intro hh
    have e0 : s.val ≤ (i 0).val ∧ (i 0).val < s.val + 1 := hh 0
    have e1 : 3008 * h.val ≤ (i 1).val ∧ (i 1).val < 3008 * h.val + 3008 := hh 1
    exact ⟨Fin.ext (by show (i 0).val = s.val; omega), Fin.ext (by show (i 1).val / 3008 = h.val; omega)⟩
  · rintro ⟨rfl, rfl⟩ a
    fin_cases a
    · show (i 0).val ≤ (i 0).val ∧ (i 0).val < (i 0).val + 1; omega
    · show 3008 * ((i 1).val / 3008) ≤ (i 1).val ∧ (i 1).val < 3008 * ((i 1).val / 3008) + 3008; omega
    · show 0 ≤ (i 2).val ∧ (i 2).val < 0 + 1024; omega

/-- The part that the own slot is. -/
theorem set_slot (c : Dev nD) : (slot (k0_off1 c) (k0_off1_inb c)).view.set = piece (key c) 0 := by
  refine (View.set_reshape _ _).trans (set_block main_v1 _ (key c) 0 fun i => ?_)
  have h1 : (i 1).val < 6016 := (i 1).isLt
  have h2 : (i 2).val < 1024 := (i 2).isLt
  rw [off1]
  refine Iff.trans ?_ (show i 0 = chip c ↔ _ from (show ∀ (c : Dev nD) s h, s = chip c ↔ place c s h = 0 by decide) c (i 0) (half (i 1)))
  constructor
  · intro hh
    have e0 : (chip c).val ≤ (i 0).val ∧ (i 0).val < (chip c).val + 1 := hh 0
    exact Fin.ext (by show (i 0).val = (chip c).val; omega)
  · intro hh a
    fin_cases a
    · show (chip c).val ≤ (i 0).val ∧ (i 0).val < (chip c).val + 1; rw [hh]; omega
    · show 0 ≤ (i 1).val ∧ (i 1).val < 0 + 6016; omega
    · show 0 ≤ (i 2).val ∧ (i 2).val < 0 + 1024; omega

/-- The half of the shard that is sent. -/
theorem set_mine (off) (inb) (h : Fin 2) (ho : off = ![3008 * h.val, 0]) : (mine off inb).view.set = piece key₂ h := by
  subst ho
  refine set_block main_arg0 _ key₂ h fun i => ?_
  have h1 : (i 0).val < 6016 := (i 0).isLt
  have h2 : (i 1).val < 1024 := (i 1).isLt
  constructor
  · intro hh
    have e1 : 3008 * h.val ≤ (i 0).val ∧ (i 0).val < 3008 * h.val + 3008 := hh 0
    exact Fin.ext (by show (i 0).val / 3008 = h.val; omega)
  · intro hh a
    have e : (i 0).val / 3008 = h.val := congrArg Fin.val hh
    fin_cases a
    · show 3008 * h.val ≤ (i 0).val ∧ (i 0).val < 3008 * h.val + 3008; omega
    · show 0 ≤ (i 1).val ∧ (i 1).val < 0 + 1024; omega

theorem place_send (j : Fin 7) (h : j = 1 ∨ j = 2 ∨ j = 3) (c : Dev nD) (s') (h') : place (nb j c) s' h' = j ↔ s' = chip c ∧ h' = core c := by
  revert h' s' c h; revert j; decide
theorem place_got (j : Fin 7) (h : j = 1 ∨ j = 2 ∨ j = 3) (c : Dev nD) (s') (h') : place c s' h' = j ↔ s' = chip (nb j c) ∧ h' = core c := by
  revert h' s' c h; revert j; decide
theorem place_forward (j : Fin 7) (h : j = 1 ∨ j = 2 ∨ j = 3) (c : Dev nD) (s') (h') : place (nb (j + 3) c) s' h' = j + 3 ↔ s' = chip (nb j c) ∧ h' = core c := by
  revert h' s' c h; revert j; decide

/-- The row of a half's row. -/
def row (h : Fin 2) (r : Fin 3008) : Fin 6016 := ⟨3008 * h.val + r.val, by have := h.isLt; have := r.isLt; omega⟩
theorem half_row (h : Fin 2) (r : Fin 3008) : half (row h r) = h := Fin.ext (by show (3008 * h.val + r.val) / 3008 = h.val; have := r.isLt; omega)

theorem unsqueeze (x : S3008x1024.Idx) : Shape.reshapeEquiv (squeezes_S1x3008x1024_S3008x1024).numel_eq x = (ix3 (0 : Fin 1) (x 0) (x 1) : S1x3008x1024.Idx) :=
  Shape.reshapeEquiv_eq_of_rowMajor _ (by
    rw [Shape.rowMajor_val_three, Shape.rowMajor_val_two]
    show (0 * 3008 + (x 0).val) * 1024 + (x 1).val = (x 0).val * 1024 + (x 1).val
    omega)

theorem unsqueeze₂ (x : S6016x1024.Idx) : Shape.reshapeEquiv (squeezes_S1x6016x1024_S6016x1024).numel_eq x = (ix3 (0 : Fin 1) (x 0) (x 1) : S1x6016x1024.Idx) :=
  Shape.reshapeEquiv_eq_of_rowMajor _ (by
    rw [Shape.rowMajor_val_three, Shape.rowMajor_val_two]
    show (0 * 6016 + (x 0).val) * 1024 + (x 1).val = (x 0).val * 1024 + (x 1).val
    omega)

/-- Where an index of half a slot lies. -/
theorem emb_hslot (off) (inb) (s : Fin 4) (h : Fin 2) (ho : off = ![s.val, 3008 * h.val, 0]) (x : S3008x1024.Idx) : (hslot off inb).view.emb x = (ix3 s (row h (x 0)) (x 1) : S4x6016x1024.Idx) := by
  subst ho
  refine (congrArg (fun y => ((View.whole main_v1).slice (Rect.unit (s := S4x6016x1024) ![s.val, 3008 * h.val, 0] S1x3008x1024.size inb)).emb y) (unsqueeze x)).trans
    (funext fun a => Fin.ext ((ValueKit.view_emb_slice_whole_unit_val main_v1 _ _ _ (ix3 (0 : Fin 1) (x 0) (x 1) : S1x3008x1024.Idx) a).trans ?_))
  fin_cases a
  · show s.val + 0 = s.val; omega
  · show 3008 * h.val + (x 0).val = 3008 * h.val + (x 0).val; omega
  · show 0 + (x 1).val = (x 1).val; omega

/-- Where an index of the own slot lies. -/
theorem emb_slot (off) (inb) (s : Fin 4) (ho : off = ![s.val, 0, 0]) (x : S6016x1024.Idx) : (slot off inb).view.emb x = (ix3 s (x 0) (x 1) : S4x6016x1024.Idx) := by
  subst ho
  refine (congrArg (fun y => ((View.whole main_v1).slice (Rect.unit (s := S4x6016x1024) ![s.val, 0, 0] S1x6016x1024.size inb)).emb y) (unsqueeze₂ x)).trans
    (funext fun a => Fin.ext ((ValueKit.view_emb_slice_whole_unit_val main_v1 _ _ _ (ix3 (0 : Fin 1) (x 0) (x 1) : S1x6016x1024.Idx) a).trans ?_))
  fin_cases a
  · show s.val + 0 = s.val; omega
  · show 0 + (x 0).val = (x 0).val; omega
  · show 0 + (x 1).val = (x 1).val; omega

/-- Where an index of the sent half lies. -/
theorem emb_mine (off) (inb) (h : Fin 2) (ho : off = ![3008 * h.val, 0]) (x : S3008x1024.Idx) : (mine off inb).view.emb x = (ix2 (row h (x 0)) (x 1) : S6016x1024.Idx) := by
  subst ho
  refine funext fun a => Fin.ext ((ValueKit.view_emb_slice_whole_unit_val main_arg0 _ _ _ x a).trans ?_)
  fin_cases a
  · show 3008 * h.val + (x 0).val = 3008 * h.val + (x 0).val; omega
  · show 0 + (x 1).val = (x 1).val; omega

theorem source_send (j : Fin 7) (h : j = 1 ∨ j = 2 ∨ j = 3) (c : Dev nD) : source (nb j c) (chip c) (core c) = c := by
  revert c h; revert j; decide
theorem source_forward (j : Fin 7) (h : j = 1 ∨ j = 2 ∨ j = 3) (c : Dev nD) : source (nb (j + 3) c) (chip (nb j c)) (core c) = source c (chip (nb j c)) (core c) := by
  revert c h; revert j; decide
theorem source_own (c : Dev nD) (h : Fin 2) : source c (chip c) h = c := by revert h; revert c; decide

/-- What the copy to the `j`-th peer carries is a part of that peer's result. -/
theorem carries (j : Fin 7) (h : j = 1 ∨ j = 2 ∨ j = 3) (c : Dev nD) (x : S3008x1024.Idx) :
    (hslot (k0_off2 c) (k0_off2_inb c)).view.read (Elt F) (G m (nb j c)) x = (mine (k0_off3 c) (k0_off3_inb c)).view.read (Elt F) (m ((c.tc : Thread nD τ).loc main_arg0)) x := by
  rw [View.read_apply, View.read_apply, emb_mine _ _ _ (off3 c), emb_hslot _ _ _ _ (off2 c)]
  have e : ∀ (r : Fin 3008) (l : Fin 1024), m (((source (nb j c) (chip c) (half (row (core c) r))).tc : Thread nD τ).loc main_arg0) (ix2 (row (core c) r) l)
      = m ((c.tc : Thread nD τ).loc main_arg0) (ix2 (row (core c) r) l) := fun r l => by rw [half_row, source_send j h]
  exact e (x 0) (x 1)

/-- What is forwarded is a part of the other core's result. -/
theorem carries₂ (j : Fin 7) (h : j = 1 ∨ j = 2 ∨ j = 3) (c : Dev nD) (off) (inb) (ho : off = ![(chip (nb j c)).val, 3008 * (core c).val, 0]) (x : S3008x1024.Idx) :
    (hslot off inb).view.read (Elt F) (G m (nb (j + 3) c)) x = (hslot off inb).view.read (Elt F) (G m c) x := by
  rw [View.read_apply, View.read_apply, emb_hslot _ _ _ _ ho]
  have e : ∀ (r : Fin 3008) (l : Fin 1024), m (((source (nb (j + 3) c) (chip (nb j c)) (half (row (core c) r))).tc : Thread nD τ).loc main_arg0) (ix2 (row (core c) r) l)
      = m (((source c (chip (nb j c)) (half (row (core c) r))).tc : Thread nD τ).loc main_arg0) (ix2 (row (core c) r) l) := fun r l => by rw [half_row, source_forward j h]
  exact e (x 0) (x 1)

/-- What the copy of the own shard carries. -/
theorem carries₀ (c : Dev nD) (x : S6016x1024.Idx) :
    (slot (k0_off1 c) (k0_off1_inb c)).view.read (Elt F) (G m c) x = (Memref.whole main_arg0).view.read (Elt F) (m ((c.tc : Thread nD τ).loc main_arg0)) x := by
  rw [View.read_apply, emb_slot _ _ _ (off1 c)]
  show m (((source c (chip c) (half (x 0))).tc : Thread nD τ).loc main_arg0) (ix2 (x 0) (x 1)) = m ((c.tc : Thread nD τ).loc main_arg0) x
  rw [source_own]
  exact congrArg _ (funext fun a => by fin_cases a <;> rfl)

/-- THE BODY of device `c`. -/
theorem body (𝒱₀ : Variants) (c : Dev nD) (t : Fin (pinD (pcfgs (F := F)) (fun _ p => (cfgs p).toPCfg_adm) c 0).N) (W : Waits sig Unit) (Q : sProp 𝕄) :
    iprop(pl.rights (pay m) [6, 7, 8, 9, 10, 11] c ∗ M m c ∗ owes (c.tc : Thread nD τ) (pl.owe c [6, 7, 8, 9, 10, 11]) W
        ∗ (Y m c ∗ ownSems0 pl.sm c ∗ (∃ W', owes (c.tc : Thread nD τ) (0 : CellTallies nD τ sig Unit) W') -∗ Q))
      ⊢ wp frame (wpE (defs₀ (F := F)) 𝒱₀ (c.tc : Thread nD τ) none) Set.univ
          (defs₀ .tc (pinD (pcfgs (F := F)) (fun _ p => (cfgs p).toPCfg_adm) c 0).body
            ((pinD (pcfgs (F := F)) (fun _ p => (cfgs p).toPCfg_adm) c 0).bodyArgs t ((pinD (pcfgs (F := F)) (fun _ p => (cfgs p).toPCfg_adm) c 0).slots t))) fun _ => Q := by
  show _ ⊢ wp frame (wpE (defs₀ (F := F)) 𝒱₀ (c.tc : Thread nD τ) none) Set.univ
    (cc0_gather_weights (F := F) (Memref.whole main_arg0) (Memref.isWhole_whole _) (Memref.whole main_v1) (Memref.isWhole_whole _) cc0_scratch0 cc0_scratch1 cc0_scratch2) fun _ => Q
  rw [cc0_gather_weights_eq_skeleton]
  unfold cc0_gather_weights_skel Plan.rights M
  rw [k0_part7_eq_skeleton]
  unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  rw [each_univ (pl.pos0 c) [0, 1, 2, 3, 4, 5, 6, 7, 8, 9, 10, 11, 12] (by decide) (by decide), each_univ (pl.tok c) [0, 1, 2, 3, 4, 5, 6, 7, 8, 9, 10, 11, 12] (by decide) (by decide),
    each_univ (fun j : Fin 7 => O (nb j c) j (m (((nb j c).tc : Thread nD τ).loc main_v1))) parts (by decide) (by decide)]
  simp only [each]
  rw [show O (nb 0 c) 0 (m (((nb 0 c).tc : Thread nD τ).loc main_v1)) = O c 0 (m ((c.tc : Thread nD τ).loc main_v1)) from rfl]
  iintro ⟨⟨⟨%κ, #Hk⟩, #Hl, ⟨Hp0, Hp1, Hp2, Hp3, Hp4, Hp5, Hp6, Hp7, Hp8, Hp9, Hp10, Hp11, Hp12, -⟩, ⟨Ht0, Ht1, Ht2, Ht3, Ht4, Ht5, Ht6, Ht7, Ht8, Ht9, Ht10, Ht11, Ht12, -⟩, ⟨Hc6, Hc7, Hc8, Hc9, Hc10, Hc11, -⟩⟩, ⟨Ha, ⟨Hb0, Hb1, Hb2, Hb3, Hb4, Hb5, Hb6, -⟩⟩, HO, HQ⟩
  icases (Entails.of_eq (halve (ℓ := (c.tc : Thread nD τ).loc main_arg0) Finset.univ fullShare (m ((c.tc : Thread nD τ).loc main_arg0)))) $$ Ha with ⟨Ha0, Ha⟩
  icases (Entails.of_eq (halves m c fullShare.right)) $$ Ha with ⟨Ha, Har, -⟩
  icases (Entails.of_eq (halve (ℓ := (c.tc : Thread nD τ).loc main_arg0) (piece key₂ (core c)) fullShare.right (m ((c.tc : Thread nD τ).loc main_arg0)))) $$ Ha with ⟨Ha1, Ha⟩
  icases (Entails.of_eq (halve (ℓ := (c.tc : Thread nD τ).loc main_arg0) (piece key₂ (core c)) fullShare.right.right (m ((c.tc : Thread nD τ).loc main_arg0)))) $$ Ha with ⟨Ha2, Ha3⟩
  iapply (pl.step_copy (pay m) 𝒱₀ c (κ := κ) (src := Memref.whole main_arg0) (dst := slot (k0_off1 c) (k0_off1_inb c))
      (q := q₀) (fs := m ((c.tc : Thread nD τ).loc main_arg0)) (fd := m ((c.tc : Thread nD τ).loc main_v1)) (G m c) Finset.univ (piece (key c) 0) 12 rfl rfl rfl
      (View.set_whole _) (set_slot c) (carries₀ m c) (BI.Entails.refl _)) $$ Hk [Ha0] [Hb0] Ht12
  · iexact Ha0
  · iexact Hb0
  iintro Hc12
  iapply (pl.step_send (pay m) 𝒱₀ c (κ := κ) (c' := ((nb 1 c).tc : Thread nD τ)) (src := mine (k0_off3 c) (k0_off3_inb c)) (dst := hslot (k0_off2 c) (k0_off2_inb c))
      (q := q₁) (fs := m ((c.tc : Thread nD τ).loc main_arg0)) (fd := m (((nb 1 c).tc : Thread nD τ).loc main_v1)) (G m (nb 1 c)) (piece key₂ (core c)) (piece (key (nb 1 c)) 1) 6 0 [7, 8, 9, 10, 11] (W := W)
      rfl rfl rfl rfl rfl rfl (set_mine _ _ (core c) (off3 c)) (set_hslot (nb 1 c) _ _ (chip c) (core c) 1 (off2 c) (place_send 1 (Or.inl rfl) c)) (carries m 1 (Or.inl rfl) c) (BI.Entails.refl _) (BI.Entails.refl _) (hr := routes 1 c)) $$ Hk [Ha1] [Hb1] HO Ht0 Ht6
  · iexact Ha1
  · iexact Hb1
  iintro Hc0 HO
  iapply (pl.step_send (pay m) 𝒱₀ c (κ := κ) (c' := ((nb 2 c).tc : Thread nD τ)) (src := mine (k0_off3 c) (k0_off3_inb c)) (dst := hslot (k0_off2 c) (k0_off2_inb c))
      (q := q₂) (fs := m ((c.tc : Thread nD τ).loc main_arg0)) (fd := m (((nb 2 c).tc : Thread nD τ).loc main_v1)) (G m (nb 2 c)) (piece key₂ (core c)) (piece (key (nb 2 c)) 2) 7 1 [8, 9, 10, 11] (W := W)
      rfl rfl rfl rfl rfl rfl (set_mine _ _ (core c) (off3 c)) (set_hslot (nb 2 c) _ _ (chip c) (core c) 2 (off2 c) (place_send 2 (Or.inr (Or.inl rfl)) c)) (carries m 2 (Or.inr (Or.inl rfl)) c) (BI.Entails.refl _) (BI.Entails.refl _) (hr := routes 2 c)) $$ Hk [Ha2] [Hb2] HO Ht1 Ht7
  · iexact Ha2
  · iexact Hb2
  iintro Hc1 HO
  iapply (pl.step_send (pay m) 𝒱₀ c (κ := κ) (c' := ((nb 3 c).tc : Thread nD τ)) (src := mine (k0_off3 c) (k0_off3_inb c)) (dst := hslot (k0_off2 c) (k0_off2_inb c))
      (q := q₃) (fs := m ((c.tc : Thread nD τ).loc main_arg0)) (fd := m (((nb 3 c).tc : Thread nD τ).loc main_v1)) (G m (nb 3 c)) (piece key₂ (core c)) (piece (key (nb 3 c)) 3) 8 2 [9, 10, 11] (W := W)
      rfl rfl rfl rfl rfl rfl (set_mine _ _ (core c) (off3 c)) (set_hslot (nb 3 c) _ _ (chip c) (core c) 3 (off2 c) (place_send 3 (Or.inr (Or.inr rfl)) c)) (carries m 3 (Or.inr (Or.inr rfl)) c) (BI.Entails.refl _) (BI.Entails.refl _) (hr := routes 3 c)) $$ Hk [Ha3] [Hb3] HO Ht2 Ht8
  · iexact Ha3
  · iexact Hb3
  iintro Hc2 HO
  iapply (pl.step_wait (pay m) 𝒱₀ c (κ := κ) (wpE_waitDma2_eq 𝒱₀ (c.tc : Thread nD τ) none Set.univ) 6 [9, 10, 11] (W := W) rfl rfl (by decide)) $$ Hk Hl Hc6 HO Hp6
  iintro %W6 HO Hp6 Hy6
  ihave Hy6 := (show pay m c 6 ⊢ O c 1 (G m c) from BI.Entails.refl _) $$ Hy6
  iapply (pl.step_send (pay m) 𝒱₀ c (κ := κ) (c' := ((nb 4 c).tc : Thread nD τ)) (src := hslot (k0_off4 c) (k0_off4_inb c)) (dst := hslot (k0_off4 c) (k0_off4_inb c))
      (q := fullShare) (fs := G m c) (fd := m (((nb 4 c).tc : Thread nD τ).loc main_v1)) (G m (nb 4 c)) (piece (key c) 1) (piece (key (nb 4 c)) 4) 9 3 [10, 11] (W := W6)
      rfl rfl rfl rfl rfl rfl (set_hslot c _ _ (chip (nb 1 c)) (core c) 1 (off4 c) (place_got 1 (Or.inl rfl) c)) (set_hslot (nb 4 c) _ _ (chip (nb 1 c)) (core c) 4 (off4 c) (place_forward 1 (Or.inl rfl) c))
      (carries₂ m 1 (Or.inl rfl) c _ _ (off4 c)) (BI.Entails.refl _) (BI.Entails.refl _) (hr := routes 4 c)) $$ Hk [Hy6] [Hb4] HO Ht3 Ht9
  · iexact Hy6
  · iexact Hb4
  iintro Hc3 HO
  iapply (pl.step_wait (pay m) 𝒱₀ c (κ := κ) (wpE_waitDma2_eq 𝒱₀ (c.tc : Thread nD τ) none Set.univ) 7 [10, 11] (W := W6) rfl rfl (by decide)) $$ Hk Hl Hc7 HO Hp7
  iintro %W7 HO Hp7 Hy7
  ihave Hy7 := (show pay m c 7 ⊢ O c 2 (G m c) from BI.Entails.refl _) $$ Hy7
  iapply (pl.step_send (pay m) 𝒱₀ c (κ := κ) (c' := ((nb 5 c).tc : Thread nD τ)) (src := hslot (k0_off5 c) (k0_off5_inb c)) (dst := hslot (k0_off5 c) (k0_off5_inb c))
      (q := fullShare) (fs := G m c) (fd := m (((nb 5 c).tc : Thread nD τ).loc main_v1)) (G m (nb 5 c)) (piece (key c) 2) (piece (key (nb 5 c)) 5) 10 4 [11] (W := W7)
      rfl rfl rfl rfl rfl rfl (set_hslot c _ _ (chip (nb 2 c)) (core c) 2 (off5 c) (place_got 2 (Or.inr (Or.inl rfl)) c)) (set_hslot (nb 5 c) _ _ (chip (nb 2 c)) (core c) 5 (off5 c) (place_forward 2 (Or.inr (Or.inl rfl)) c))
      (carries₂ m 2 (Or.inr (Or.inl rfl)) c _ _ (off5 c)) (BI.Entails.refl _) (BI.Entails.refl _) (hr := routes 5 c)) $$ Hk [Hy7] [Hb5] HO Ht4 Ht10
  · iexact Hy7
  · iexact Hb5
  iintro Hc4 HO
  iapply (pl.step_wait (pay m) 𝒱₀ c (κ := κ) (wpE_waitDma2_eq 𝒱₀ (c.tc : Thread nD τ) none Set.univ) 8 [11] (W := W7) rfl rfl (by decide)) $$ Hk Hl Hc8 HO Hp8
  iintro %W8 HO Hp8 Hy8
  ihave Hy8 := (show pay m c 8 ⊢ O c 3 (G m c) from BI.Entails.refl _) $$ Hy8
  iapply (pl.step_send (pay m) 𝒱₀ c (κ := κ) (c' := ((nb 6 c).tc : Thread nD τ)) (src := hslot (k0_off6 c) (k0_off6_inb c)) (dst := hslot (k0_off6 c) (k0_off6_inb c))
      (q := fullShare) (fs := G m c) (fd := m (((nb 6 c).tc : Thread nD τ).loc main_v1)) (G m (nb 6 c)) (piece (key c) 3) (piece (key (nb 6 c)) 6) 11 5 [] (W := W8)
      rfl rfl rfl rfl rfl rfl (set_hslot c _ _ (chip (nb 3 c)) (core c) 3 (off6 c) (place_got 3 (Or.inr (Or.inr rfl)) c)) (set_hslot (nb 6 c) _ _ (chip (nb 3 c)) (core c) 6 (off6 c) (place_forward 3 (Or.inr (Or.inr rfl)) c))
      (carries₂ m 3 (Or.inr (Or.inr rfl)) c _ _ (off6 c)) (BI.Entails.refl _) (BI.Entails.refl _) (hr := routes 6 c)) $$ Hk [Hy8] [Hb6] HO Ht5 Ht11
  · iexact Hy8
  · iexact Hb6
  iintro Hc5 HO
  iapply (pl.step_wait (pay m) 𝒱₀ c (κ := κ) (wpE_waitDma2_eq 𝒱₀ (c.tc : Thread nD τ) none Set.univ) 9 [] (W := W8) rfl rfl (by simp)) $$ Hk Hl Hc9 HO Hp9
  iintro %W9 HO Hp9 Hy9
  ihave Hy9 := (show pay m c 9 ⊢ O c 4 (G m c) from BI.Entails.refl _) $$ Hy9
  iapply (pl.step_wait (pay m) 𝒱₀ c (κ := κ) (wpE_waitDma2_eq 𝒱₀ (c.tc : Thread nD τ) none Set.univ) 10 [] (W := W9) rfl rfl (by simp)) $$ Hk Hl Hc10 HO Hp10
  iintro %W10 HO Hp10 Hy10
  ihave Hy10 := (show pay m c 10 ⊢ O c 5 (G m c) from BI.Entails.refl _) $$ Hy10
  iapply (pl.step_wait (pay m) 𝒱₀ c (κ := κ) (wpE_waitDma2_eq 𝒱₀ (c.tc : Thread nD τ) none Set.univ) 11 [] (W := W10) rfl rfl (by simp)) $$ Hk Hl Hc11 HO Hp11
  iintro %W11 HO Hp11 Hy11
  ihave Hy11 := (show pay m c 11 ⊢ O c 6 (G m c) from BI.Entails.refl _) $$ Hy11
  iapply (pl.step_wait (pay m) 𝒱₀ c (κ := κ) (wpE_waitDma2_eq 𝒱₀ (c.tc : Thread nD τ) none Set.univ) 0 [] (W := W11) rfl rfl (by simp)) $$ Hk Hl Hc0 HO Hp0
  iintro %W0 HO Hp0 Hy0
  ihave Hy0 := (show pay m c 0 ⊢ A m c (core c) q₁ from BI.Entails.refl _) $$ Hy0
  iapply (pl.step_wait (pay m) 𝒱₀ c (κ := κ) (wpE_waitDma2_eq 𝒱₀ (c.tc : Thread nD τ) none Set.univ) 1 [] (W := W0) rfl rfl (by simp)) $$ Hk Hl Hc1 HO Hp1
  iintro %W1 HO Hp1 Hy1
  ihave Hy1 := (show pay m c 1 ⊢ A m c (core c) q₂ from BI.Entails.refl _) $$ Hy1
  iapply (pl.step_wait (pay m) 𝒱₀ c (κ := κ) (wpE_waitDma2_eq 𝒱₀ (c.tc : Thread nD τ) none Set.univ) 2 [] (W := W1) rfl rfl (by simp)) $$ Hk Hl Hc2 HO Hp2
  iintro %W2 HO Hp2 Hy2
  ihave Hy2 := (show pay m c 2 ⊢ A m c (core c) q₃ from BI.Entails.refl _) $$ Hy2
  iapply (pl.step_wait (pay m) 𝒱₀ c (κ := κ) (wpE_waitDma2_eq 𝒱₀ (c.tc : Thread nD τ) none Set.univ) 3 [] (W := W2) rfl rfl (by simp)) $$ Hk Hl Hc3 HO Hp3
  iintro %W3 HO Hp3 Hy3
  ihave Hy3 := (show pay m c 3 ⊢ O c 1 (G m c) from BI.Entails.refl _) $$ Hy3
  iapply (pl.step_wait (pay m) 𝒱₀ c (κ := κ) (wpE_waitDma2_eq 𝒱₀ (c.tc : Thread nD τ) none Set.univ) 4 [] (W := W3) rfl rfl (by simp)) $$ Hk Hl Hc4 HO Hp4
  iintro %W4 HO Hp4 Hy4
  ihave Hy4 := (show pay m c 4 ⊢ O c 2 (G m c) from BI.Entails.refl _) $$ Hy4
  iapply (pl.step_wait (pay m) 𝒱₀ c (κ := κ) (wpE_waitDma2_eq 𝒱₀ (c.tc : Thread nD τ) none Set.univ) 5 [] (W := W4) rfl rfl (by simp)) $$ Hk Hl Hc5 HO Hp5
  iintro %W5 HO Hp5 Hy5
  ihave Hy5 := (show pay m c 5 ⊢ O c 3 (G m c) from BI.Entails.refl _) $$ Hy5
  iapply (pl.step_wait (pay m) 𝒱₀ c (κ := κ) (wpE_waitDma2_eq 𝒱₀ (c.tc : Thread nD τ) none Set.univ) 12 [] (W := W5) rfl rfl (by simp)) $$ Hk Hl Hc12 HO Hp12
  iintro %W12 HO Hp12 Hy12
  icases (show pay m c 12 ⊢ iprop(O c 0 (G m c) ∗ A' m c q₀) from BI.Entails.refl _) $$ Hy12 with ⟨Hb0, Ha0⟩
  rw [wp_ret]
  imod (pl.close (pay m) κ c) $$ [Hp0 Hp1 Hp2 Hp3 Hp4 Hp5 Hp6 Hp7 Hp8 Hp9 Hp10 Hp11 Hp12] with Hz
  · isplitr; · iexact Hk
    rw [each_univ (pl.pos1 c) [0, 1, 2, 3, 4, 5, 6, 7, 8, 9, 10, 11, 12] (by decide) (by decide)]
    simp only [each]
    iframe
  imodintro
  iapply HQ
  isplitl [Ha0 Har Hb0 Hy0 Hy1 Hy2 Hy3 Hy4 Hy5 Hy9 Hy10 Hy11]
  · unfold Y
    isplitl [Ha0 Har Hy0 Hy1 Hy2]
    · iapply (Entails.of_eq (halve (ℓ := (c.tc : Thread nD τ).loc main_arg0) Finset.univ fullShare (m ((c.tc : Thread nD τ).loc main_arg0))).symm)
      isplitl [Ha0]; · iexact Ha0
      iapply (Entails.of_eq (halves m c fullShare.right).symm)
      isplitl [Hy0 Hy1 Hy2]
      · iapply (Entails.of_eq (halve (ℓ := (c.tc : Thread nD τ).loc main_arg0) (piece key₂ (core c)) fullShare.right (m ((c.tc : Thread nD τ).loc main_arg0))).symm)
        isplitl [Hy0]; · iexact Hy0
        iapply (Entails.of_eq (halve (ℓ := (c.tc : Thread nD τ).loc main_arg0) (piece key₂ (core c)) fullShare.right.right (m ((c.tc : Thread nD τ).loc main_arg0))).symm)
        isplitl [Hy1]; · iexact Hy1
        iexact Hy2
      isplitl [Har]; · iexact Har
      iempintro
    rw [slots]
    simp only [each]
    isplitl [Hb0]; · iexact Hb0
    isplitl [Hy3]; · iexact Hy3
    isplitl [Hy4]; · iexact Hy4
    isplitl [Hy5]; · iexact Hy5
    isplitl [Hy9]; · iexact Hy9
    isplitl [Hy10]; · iexact Hy10
    isplitl [Hy11]; · iexact Hy11
    iempintro
  isplitl [Hz]; · iexact Hz
  iexists W12; iexact HO

theorem sems_scoped : ∀ sm : SemLoc sig, sm.isScoped .tc = true := by decide

/-- The call's data: the body's run between what the launch deals and what is left. -/
def pdats : (p : Fin 1) → (c : Dev nD) → Dat τ (Elt F) Unit ℕ (UU nD τ sig) ℕ (pinD (pcfgs (F := F)) (fun _ p => (cfgs p).toPCfg_adm) c p) c
  | 0 => fun c => oneDat (pinD (pcfgs (F := F)) (fun _ p => (cfgs p).toPCfg_adm) c 0) (hW := inferInstanceAs (IsEmpty (Fin 0))) c
      (iprop((pl.rights (pay m) [6, 7, 8, 9, 10, 11] c ∗ M m c) ∗ scopedRest (pcfgs (F := F) 0).spec c))
      iprop(Y m c ∗ ownSems0 pl.sm c ∗ scopedRest (pcfgs (F := F) 0).spec c) (pl.owe c [6, 7, 8, 9, 10, 11])

instance noWindow : IsEmpty (Fin (pcfgs (F := F) 0).W) := inferInstanceAs (IsEmpty (Fin 0))
instance noTable : IsEmpty (Fin (pcfgs (F := F) 0).pre.K) := inferInstanceAs (IsEmpty (Fin 0))

/-- THE RUN: from any memory with zero counters, all devices terminate, each with its arrays unchanged and with `G`
    in its result, and every counter is zero. -/
theorem run_main (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)
        ∧ r.2.mem ((c.tc : Thread nD τ).loc main_v1) = G m c)
      ∧ r.2.sem = fun _ => 0) :=
  run_first (pcfgs (F := F)) (fun _ p => (cfgs p).toPCfg_adm) (pdats m) cellOf_inj (defs₀ (F := F)) Variants.none 0 pl
    (show WinFacts₀ cfg0.spec from by decide) (show OwnSemFacts cfg0.spec pl.sm from by decide) (pay m) [6, 7, 8, 9, 10, 11] m g main (fun _ => []) (fun c => rfl) (fun c => by simp [PerCore.Seg.pipes]) (fun c => by simp [PerCore.Seg.pipes])
    (M m) (Y m) (Y m) (fun c => rfl) (fun c => N_0) (deal_bufs m) (body m _) (fun c => BI.Entails.refl _)
    (fun c s => s.mem ((c.tc : Thread nD τ).loc main_arg0) = m ((c.tc : Thread nD τ).loc main_arg0) ∧ s.mem ((c.tc : Thread nD τ).loc main_v1) = G m c)
    (fun c s' => by
      unfold Y
      iintro ⟨⟨Hx, Hy⟩, HSI⟩
      icombine HSI Hx gives %hx
      icombine HSI Hy gives %hy
      imodintro
      isplitr
      · ipureintro
        exact ⟨Buf.eq_of_forall_mem_univ hx, Buf.eq_of_forall_mem_univ hy⟩
      iexact HSI)
    (fun s h hs => ⟨h, sem_eq_zero_of_scoped sems_scoped hs⟩)

end Cert.WeightsProof

end
-- ==== Proof.WeightsValue.lean ====
module

public import proofs.«01_k».proof.Proof.Weights
public import proofs.«01_k».proof.Proof.Gen.WeightsRefIdeal.Run
public import Idealize.ShloMosaic.Lib.Pipeline.Value
public import Idealize.ShloMosaic.Lib.Layout
public import Idealize.ShloMosaic.Lib.ValueIdxRank6

/-! # What the gather of the weights computes

Every device has the whole array of the weights, one shard after the other. -/

@[expose] public section

noncomputable section

namespace Cert.WeightsProof

open Idealize.ShloMosaic Idealize.ShloMosaic.TcCoe Idealize.ShloMosaic.ValueIdx
open Cert.WeightsRefIdeal Cert.WeightsRefIdeal.Facts₀

/-- The reference's result of the whole array `A`. -/
def out {α : Type} (A : S24064x1024.Idx → α) : S4x6016x1024.Idx → α := shapeCast _ A shapeCasts_S24064x1024_S4x6016x1024

/-- The reference's result read at row `h` of shard `s`. -/
theorem out_apply {α : Type} (A : S24064x1024.Idx → α) (y : S4x6016x1024.Idx) (z : S24064x1024.Idx)
    (h0 : (z 0).val = 6016 * (y 0).val + (y 1).val) (h1 : (z 1).val = (y 2).val) : out A y = A z :=
  shapeCast_apply _ shapeCasts_S24064x1024_S4x6016x1024 y z (by
    rw [Shape.rowMajor_val_three, Shape.rowMajor_val_two]
    show ((z 0).val * 1024 + (z 1).val : ℕ) = ((y 0).val * 6016 + (y 1).val) * 1024 + (y 2).val
    rw [h0, h1]; omega)

/-- The shard that lies on a device is its chip's, -/
theorem shard (c : Dev Cert.WeightsIdeal.nD) : (Layout.meshBlock [2, 2, 2] ![[0, 1], []] c (by decide) (0 : Fin 2)).val = (chip c).val := by revert c; decide

/-- and a shard comes from a device of its chip. -/
theorem chip_source (c : Dev Cert.WeightsIdeal.nD) (s : Fin 4) (h : Fin 2) : chip (source c s h) = s := by revert h s; revert c; decide

/-- WHAT THE GATHER LEAVES on device `c`: all of the reference's result. -/
theorem value {F : FTy → Type} (m : (ℓ : Loc Cert.WeightsIdeal.nD Cert.WeightsIdeal.τ Cert.WeightsIdeal.sig) → Buf (Elt F) ℓ) (A : S24064x1024.Idx → Elt F .bf16)
    (hm : ∀ c : Dev Cert.WeightsIdeal.nD, m ((c.tc : Thread Cert.WeightsIdeal.nD Cert.WeightsIdeal.τ).loc Cert.WeightsIdeal.main_arg0)
      = Layout.blockN ⟨2, ![6016, 1024]⟩ ⟨2, ![24064, 1024]⟩ (Layout.meshBlock [2, 2, 2] ![[0, 1], []] c) A)
    (c : Dev Cert.WeightsIdeal.nD) : G m c = out A := by
  funext i
  unfold G
  rw [hm, Layout.blockN_apply]
  refine (out_apply A _ _ ?_ ?_).symm
  · refine (Layout.TilesN.idx_val _ _ _ 0).trans ?_
    have e : ∀ (s : Fin 4) (r : Fin 6016),
        (Layout.meshBlock [2, 2, 2] ![[0, 1], []] (source c s (half r)) (by decide) (0 : Fin 2)).val * 6016 + r.val = 6016 * s.val + r.val := fun s r => by
      rw [shard, chip_source, Nat.mul_comm]
    exact e (i 0) (i 1)
  · refine (Layout.TilesN.idx_val _ _ _ 1).trans ?_
    show 0 * 1024 + (i 2).val = (i 2).val
    omega

end Cert.WeightsProof

end
-- ==== Proof.Join.lean ====
module

public import proofs.«01_k».proof.Proof.Alone
public import proofs.«01_k».proof.Proof.Pieces
public import proofs.«01_k».proof.Proof.Gen.JoinIdeal.Launch
public import proofs.«01_k».proof.Proof.Gen.JoinIdeal.Skeleton
public import proofs.«01_k».proof.Proof.Gen.JoinIdeal.Points
public import Idealize.ShloMosaic.Lib.ValueIdxCore
public import Idealize.ShloMosaic.Lib.Pipeline.ValueKit.Geometry

/-! # The join of the two halves

The two cores of a chip each hold one half of an array; each copies its half into its own result and sends it to the other core.
Three semaphores: 0 counts the half read out, 1 the other core's half landed, 2 the copy of the own half. -/

@[expose] public section

noncomputable section

namespace Cert.JoinProof

open Cert.JoinIdeal Cert.JoinIdeal.Gen Cert.Talk
open Idealize.ShloMosaic Idealize.ShloMosaic.TcCoe Idealize.ShloMosaic.Pipeline Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UU nD τ sig) ℕ

/-- The devices that device `c` sends to, itself first. -/
def nb : Fin 2 → Dev nD ≃ Dev nD := ![Equiv.refl _,
  ⟨fun c => ⟨k0_dev1 c, k0_dev1_lt c⟩, fun c => ⟨k0_dev1 c, k0_dev1_lt c⟩, by intro c; revert c; decide, by intro c; revert c; decide⟩]

theorem nb_nb (j : Fin 2) (c : Dev nD) : nb j (nb j c) = c := by revert c; revert j; decide

/-- The core of a device, which is the half it holds. -/
def own (c : Dev nD) : Fin 2 := ⟨c.val % 2, by omega⟩

/-- The device that fills half `s` of the result of `c`: core `s` of its chip. -/
def filler (s : Fin 2) (c : Dev nD) : Dev nD := ⟨2 * (c.val / 2) + s.val, by have : c.val < 8 := c.isLt; have := s.isLt; show _ < 8; omega⟩

theorem filler_own (j : Fin 2) (c : Dev nD) : filler (own c) (nb j c) = c := by revert c; revert j; decide

/-- The slot in which an index of the result lies. -/
abbrev key (i : S6016x1024.Idx) : Fin 2 := ⟨(i 0).val / 3008, by have : (i 0).val < 6016 := (i 0).isLt; show _ < 2; omega⟩

/-- The order in which device `c` names the slots. -/
def order (c : Dev nD) : List (Fin 2) := [own c, own (nb 1 c)]
theorem order_nodup (c : Dev nD) : (order c).Nodup := by revert c; decide
theorem mem_order (c : Dev nD) (s : Fin 2) : s ∈ order c := by revert s; revert c; decide

/-- The half of the result that an offset names. -/
abbrev slot (off : Fin 2 → ℕ) (inb : ∀ a, off a + S3008x1024.size a ≤ S6016x1024.size a) : Memref sig .tc .hbm S3008x1024 .f32 :=
  (Memref.whole main_v1).slice (Rect.unit (s := S6016x1024) off S3008x1024.size inb) (fun _ => rfl)

/-- The units of one copy. -/
def units : ℕ := (slot ![0, 0] (by decide)).view.amount (.dma cc0_scratch2.sem)

/-- The plan. -/
def pl : Plan nD sig (Fin 3) where
  sm k := .dma k
  inj := by decide
  amt _ := units
  pos _ := by decide
  peer := ![Equiv.refl _, nb 1, Equiv.refl _]
  lev _ := 0

variable (m : (ℓ : Loc nD τ sig) → Buf (Elt F) ℓ)

/-- The result of device `c`: each slot, from the device that fills it. -/
def G (c : Dev nD) : Buf (Elt F) ((c.tc : Thread nD τ).loc main_v1) :=
  fun i : S6016x1024.Idx => m (((filler (key i) c).tc : Thread nD τ).loc main_arg0) (ix2 (⟨(i 0).val % 3008, by omega⟩ : Fin 3008) (i 1))

/-- A share of the array of device `c`. -/
abbrev A (c : Dev nD) (q : PosShare TreeShare) : sProp (MT nD τ sig Unit (Elt F) ℕ (UU nD τ sig) ℕ) :=
  ((c.tc : Thread nD τ).loc main_arg0) ↦{q} m ((c.tc : Thread nD τ).loc main_arg0)

/-- The slot of device `d` in the result of device `c`. -/
abbrev O (c d : Dev nD) (f : Buf (Elt F) ((c.tc : Thread nD τ).loc main_v1)) : sProp (MT nD τ sig Unit (Elt F) ℕ (UU nD τ sig) ℕ) :=
  ((c.tc : Thread nD τ).loc main_v1) ↦[piece key (own d)]{fullShare} f

/-- The shares of the own array: the copy's first, then one for each send. -/
abbrev q0 : PosShare TreeShare := fullShare.left
abbrev q1 : PosShare TreeShare := fullShare.right

/-- What a landing hands over. -/
def pay (c : Dev nD) (k : Fin 3) : sProp (MT nD τ sig Unit (Elt F) ℕ (UU nD τ sig) ℕ) :=
  match k with
  | 0 => A m c q1
  | 1 => O c (nb 1 c) (G m c)
  | 2 => iprop(O c c (G m c) ∗ A m c q0)

instance pay_storable (c : Dev nD) (k : Fin 3) : Storable (upEmb : UEmb _ 𝕄) (pay m c k) := by
  unfold pay
  split <;> infer_instance

/-- What a device needs of memory: its own array, and its slot on each device it talks to. -/
def M (c : Dev nD) : sProp (MT nD τ sig Unit (Elt F) ℕ (UU nD τ sig) ℕ) :=
  iprop((((c.tc : Thread nD τ).loc main_arg0) ↦{fullShare} m ((c.tc : Thread nD τ).loc main_arg0))
    ∗ bigSep Finset.univ fun j => O (nb j c) c (m (((nb j c).tc : Thread nD τ).loc main_v1)))

/-- What it has of memory afterwards: its own array and its own result. -/
def Y (c : Dev nD) : sProp (MT nD τ sig Unit (Elt F) ℕ (UU nD τ sig) ℕ) :=
  iprop((((c.tc : Thread nD τ).loc main_arg0) ↦{fullShare} m ((c.tc : Thread nD τ).loc main_arg0))
    ∗ ((c.tc : Thread nD τ).loc main_v1) ↦{fullShare} G m c)

theorem bufs_eq (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ ((c.tc : Thread nD τ).loc main_v1) ↦{fullShare} V main_v1) := by
  unfold unscopedBufs
  exact BI.bigSep_eq_bigSepL_of_eq [main_arg0, main_v1] (by decide) (by decide) _

theorem slots (c : Dev nD) (f : Buf (Elt F) ((c.tc : Thread nD τ).loc main_v1)) :
    (((c.tc : Thread nD τ).loc main_v1) ↦{fullShare} f : sProp 𝕄) = each (fun s => ((c.tc : Thread nD τ).loc main_v1) ↦[piece key s]{fullShare} f) (order c) :=
  cut (ℓ := (c.tc : Thread nD τ).loc main_v1) key f (order c) (order_nodup c) (mem_order c)

theorem deal_bufs : (bigSep Finset.univ fun c : Dev nD => (unscopedBufs c (fun b => m ((c.tc : Thread nD τ).loc b)) : sProp 𝕄))
    ⊢ bigSep Finset.univ (M m) := by
  have e2 (c : Dev nD) : (((c.tc : Thread nD τ).loc main_v1) ↦{fullShare} m ((c.tc : Thread nD τ).loc main_v1) : sProp 𝕄)
      = bigSep Finset.univ fun s : Fin 2 => ((c.tc : Thread nD τ).loc main_v1) ↦[piece key s]{fullShare} m ((c.tc : Thread nD τ).loc main_v1) := by
    rw [slots, each_univ _ (order c) (order_nodup c) (mem_order c)]
  have e : (bigSep Finset.univ fun c : Dev nD => (unscopedBufs c (fun b => m ((c.tc : Thread nD τ).loc b)) : sProp 𝕄))
      = iprop((bigSep Finset.univ fun c : Dev nD => (((c.tc : Thread nD τ).loc main_arg0) ↦{fullShare} m ((c.tc : Thread nD τ).loc main_arg0) : sProp 𝕄))
        ∗ bigSep Finset.univ fun c : Dev nD => bigSep Finset.univ fun s : Fin 2 => ((c.tc : Thread nD τ).loc main_v1) ↦[piece key s]{fullShare} m ((c.tc : Thread nD τ).loc main_v1)) := by
    rw [← BI.bigSep_sep']
    exact BI.bigSep_congr fun c _ => by rw [bufs_eq, e2]
  rw [e, deal_pieces (fun (c : Dev nD) (s : Fin 2) => (((c.tc : Thread nD τ).loc main_v1) ↦[piece key s]{fullShare} m ((c.tc : Thread nD τ).loc main_v1) : sProp 𝕄))
    nb (fun _ c => own c) (by decide), ← BI.bigSep_sep']
  exact BI.Entails.refl _

theorem routes (j : Fin 2) (c : Dev nD) : τ.routes (c.tc : Thread nD τ) ((nb j c).tc : Thread nD τ) = true := by
  revert c; revert j; decide

theorem off1 (c : Dev nD) : k0_off1 c = ![3008 * (own c).val, 0] := by revert c; decide

/-- A device writes its own half. -/
theorem set_slot (c : Dev nD) : (slot (k0_off1 c) (k0_off1_inb c)).view.set = piece key (own c) := by
  refine set_block main_v1 _ key (own c) fun i => ?_
  have h1 : (i 0).val < 6016 := (i 0).isLt
  have h2 : (i 1).val < 1024 := (i 1).isLt
  rw [off1]
  constructor
  · intro hh
    have e1 : 3008 * (own c).val ≤ (i 0).val ∧ (i 0).val < 3008 * (own c).val + 3008 := hh 0
    exact Fin.ext (by show (i 0).val / 3008 = (own c).val; omega)
  · intro hh a
    have e : (i 0).val / 3008 = (own c).val := congrArg Fin.val hh
    fin_cases a
    · show 3008 * (own c).val ≤ (i 0).val ∧ (i 0).val < 3008 * (own c).val + 3008; omega
    · show 0 ≤ (i 1).val ∧ (i 1).val < 0 + 1024; omega

/-- The row of the result that a row of a half is. -/
def row (h : Fin 2) (r : Fin 3008) : Fin 6016 := ⟨3008 * h.val + r.val, by have := h.isLt; have := r.isLt; omega⟩

/-- Where an index of a half lies. -/
theorem emb_slot (off) (inb) (h : Fin 2) (ho : off = ![3008 * h.val, 0]) (x : S3008x1024.Idx) : (slot off inb).view.emb x = (ix2 (row h (x 0)) (x 1) : S6016x1024.Idx) := by
  subst ho
  refine funext fun a => Fin.ext ((ValueKit.view_emb_slice_whole_unit_val main_v1 _ _ _ x a).trans ?_)
  fin_cases a
  · show 3008 * h.val + (x 0).val = 3008 * h.val + (x 0).val; omega
  · show 0 + (x 1).val = (x 1).val; omega

/-- What a copy to the `j`-th peer carries is the own half of that peer's result. -/
theorem carries (j : Fin 2) (c : Dev nD) (x : S3008x1024.Idx) :
    (slot (k0_off1 c) (k0_off1_inb c)).view.read (Elt F) (G m (nb j c)) x = (Memref.whole main_arg0).view.read (Elt F) (m ((c.tc : Thread nD τ).loc main_arg0)) x := by
  rw [View.read_apply, emb_slot _ _ _ (off1 c)]
  have e : ∀ (r : Fin 3008) (l : Fin 1024), G m (nb j c) (ix2 (row (own c) r) l : S6016x1024.Idx) = m ((c.tc : Thread nD τ).loc main_arg0) (ix2 r l : S3008x1024.Idx) := fun r l => by
    have hr := r.isLt
    have h1 : key (ix2 (row (own c) r) l : S6016x1024.Idx) = own c := Fin.ext (by show (3008 * (own c).val + r.val) / 3008 = (own c).val; omega)
    have h2 : (⟨(row (own c) r).val % 3008, by omega⟩ : Fin 3008) = r := Fin.ext (by show (3008 * (own c).val + r.val) % 3008 = r.val; omega)
    unfold G
    rw [h1, filler_own]
    exact congrArg (fun r' => m ((c.tc : Thread nD τ).loc main_arg0) (ix2 r' l : S3008x1024.Idx)) h2
  refine (e (x 0) (x 1)).trans ?_
  exact congrArg (m ((c.tc : Thread nD τ).loc main_arg0)) (funext fun a => by fin_cases a <;> rfl)

/-- The own array, shared out. -/
theorem shares (c : Dev nD) : (A m c fullShare : sProp 𝕄) = iprop(A m c q0 ∗ A m c q1) := by
  have h (q : PosShare TreeShare) : (A m c q : sProp 𝕄) = iprop(A m c q.left ∗ A m c q.right) :=
    halve (ℓ := (c.tc : Thread nD τ).loc main_arg0) Finset.univ q (m ((c.tc : Thread nD τ).loc main_arg0))
  rw [h fullShare]

/-- What lands at a peer is what the peer expects. -/
theorem landed (j : Fin 2) (c : Dev nD) : (O (nb j c) c (G m (nb j c)) : sProp 𝕄) ⊢ O (nb j c) (nb j (nb j c)) (G m (nb j c)) := by
  rw [nb_nb]

/-- THE BODY of device `c`. -/
theorem body (𝒱₀ : Variants) (c : Dev nD) (t : Fin (pinD (pcfgs (F := F)) (fun _ p => (cfgs p).toPCfg_adm) c 0).N) (W : Waits sig Unit) (Q : sProp 𝕄) :
    iprop(pl.rights (pay m) [1] c ∗ M m c ∗ owes (c.tc : Thread nD τ) (pl.owe c [1]) W
        ∗ (Y m c ∗ ownSems0 pl.sm c ∗ (∃ W', owes (c.tc : Thread nD τ) (0 : CellTallies nD τ sig Unit) W') -∗ Q))
      ⊢ wp frame (wpE (defs₀ (F := F)) 𝒱₀ (c.tc : Thread nD τ) none) Set.univ
          (defs₀ .tc (pinD (pcfgs (F := F)) (fun _ p => (cfgs p).toPCfg_adm) c 0).body
            ((pinD (pcfgs (F := F)) (fun _ p => (cfgs p).toPCfg_adm) c 0).bodyArgs t ((pinD (pcfgs (F := F)) (fun _ p => (cfgs p).toPCfg_adm) c 0).slots t))) fun _ => Q := by
  show _ ⊢ wp frame (wpE (defs₀ (F := F)) 𝒱₀ (c.tc : Thread nD τ) none) Set.univ
    (cc0_reduce_join_halves (F := F) (Memref.whole main_arg0) (Memref.isWhole_whole _) (Memref.whole main_v1) (Memref.isWhole_whole _) cc0_scratch0 cc0_scratch1 cc0_scratch2) fun _ => Q
  rw [cc0_reduce_join_halves_eq_skeleton]
  unfold cc0_reduce_join_halves_skel Plan.rights M
  rw [k0_part1_eq_skeleton]
  unfold k0_part1_skel
  simp only [Prog.lift, Prog.bind_op, Prog.bind_ret, Prog.pure_eq_ret, wp_deviceId]
  rw [each_univ (pl.pos0 c) [0, 1, 2] (by decide) (by decide), each_univ (pl.tok c) [0, 1, 2] (by decide) (by decide),
    each_univ (fun j => O (nb j c) c (m (((nb j c).tc : Thread nD τ).loc main_v1))) [0, 1] (by decide) (by decide), show ((((c.tc : Thread nD τ).loc main_arg0) ↦{fullShare} m ((c.tc : Thread nD τ).loc main_arg0)) : sProp 𝕄) = A m c fullShare from rfl, shares]
  simp only [each]
  rw [show O (nb 0 c) c (m (((nb 0 c).tc : Thread nD τ).loc main_v1)) = O c c (m ((c.tc : Thread nD τ).loc main_v1)) from rfl]
  iintro ⟨⟨⟨%κ, #Hk⟩, #Hl, ⟨Hp0, Hp1, Hp2, -⟩, ⟨Ht0, Ht1, Ht2, -⟩, ⟨Hc1, -⟩⟩, ⟨⟨Ha0, Ha1⟩, ⟨Hb0, Hb1, -⟩⟩, HO, HQ⟩
  iapply (pl.step_copy (pay m) 𝒱₀ c (κ := κ) (src := Memref.whole main_arg0) (dst := slot (k0_off1 c) (k0_off1_inb c))
      (q := q0) (fs := m ((c.tc : Thread nD τ).loc main_arg0)) (fd := m ((c.tc : Thread nD τ).loc main_v1)) (G m c) Finset.univ (piece key (own c)) 2 rfl rfl rfl
      (View.set_whole _) (set_slot c) (carries m 0 c) (BI.Entails.refl _)) $$ Hk [Ha0] [Hb0] Ht2
  · iexact Ha0
  · iexact Hb0
  iintro Hc2
  iapply (pl.step_send (pay m) 𝒱₀ c (κ := κ) (c' := ((nb 1 c).tc : Thread nD τ)) (src := Memref.whole main_arg0) (dst := slot (k0_off1 c) (k0_off1_inb c))
      (q := q1) (fs := m ((c.tc : Thread nD τ).loc main_arg0)) (fd := m (((nb 1 c).tc : Thread nD τ).loc main_v1)) (G m (nb 1 c)) Finset.univ (piece key (own c)) 1 0 [] (W := W)
      rfl rfl rfl rfl rfl rfl (View.set_whole _) (set_slot c) (carries m 1 c) (BI.Entails.refl _) (landed m 1 c) (hr := routes 1 c)) $$ Hk [Ha1] [Hb1] HO Ht0 Ht1
  · iexact Ha1
  · iexact Hb1
  iintro Hc0 HO
  iapply (pl.step_wait (pay m) 𝒱₀ c (κ := κ) (wpE_waitDma2_eq 𝒱₀ (c.tc : Thread nD τ) none Set.univ) 1 [] (W := W) rfl rfl (by simp)) $$ Hk Hl Hc1 HO Hp1
  iintro %W1 HO Hp1 Hy1
  ihave Hy1 := (show pay m c 1 ⊢ O c (nb 1 c) (G m c) from BI.Entails.refl _) $$ Hy1
  iapply (pl.step_wait (pay m) 𝒱₀ c (κ := κ) (wpE_waitDma2_eq 𝒱₀ (c.tc : Thread nD τ) none Set.univ) 0 [] (W := W1) rfl rfl (by simp)) $$ Hk Hl Hc0 HO Hp0
  iintro %W0 HO Hp0 Hy0
  ihave Hy0 := (show pay m c 0 ⊢ A m c q1 from BI.Entails.refl _) $$ Hy0
  iapply (pl.step_wait (pay m) 𝒱₀ c (κ := κ) (wpE_waitDma2_eq 𝒱₀ (c.tc : Thread nD τ) none Set.univ) 2 [] (W := W0) rfl rfl (by simp)) $$ Hk Hl Hc2 HO Hp2
  iintro %W2 HO Hp2 Hy2
  icases (show pay m c 2 ⊢ iprop(O c c (G m c) ∗ A m c q0) from BI.Entails.refl _) $$ Hy2 with ⟨Hb0, Ha0⟩
  rw [wp_ret]
  imod (pl.close (pay m) κ c) $$ [Hp0 Hp1 Hp2] with Hz
  · isplitr; · iexact Hk
    rw [each_univ (pl.pos1 c) [0, 1, 2] (by decide) (by decide)]
    simp only [each]
    iframe
  imodintro
  iapply HQ
  isplitl [Ha0 Hb0 Hy0 Hy1]
  · unfold Y
    isplitl [Ha0 Hy0]
    · iapply (Entails.of_eq (shares m c).symm)
      isplitl [Ha0]; · iexact Ha0
      iexact Hy0
    rw [slots]
    unfold order
    simp only [each]
    isplitl [Hb0]; · iexact Hb0
    isplitl [Hy1]; · iexact Hy1
    iempintro
  isplitl [Hz]; · iexact Hz
  iexists W2; iexact HO

theorem sems_scoped : ∀ sm : SemLoc sig, sm.isScoped .tc = true := by decide

/-- The call's data: the body's run between what the launch deals and what is left. -/
def pdats : (p : Fin 1) → (c : Dev nD) → Dat τ (Elt F) Unit ℕ (UU nD τ sig) ℕ (pinD (pcfgs (F := F)) (fun _ p => (cfgs p).toPCfg_adm) c p) c
  | 0 => fun c => oneDat (pinD (pcfgs (F := F)) (fun _ p => (cfgs p).toPCfg_adm) c 0) (hW := inferInstanceAs (IsEmpty (Fin 0))) c
      (iprop((pl.rights (pay m) [1] c ∗ M m c) ∗ scopedRest (pcfgs (F := F) 0).spec c))
      iprop(Y m c ∗ ownSems0 pl.sm c ∗ scopedRest (pcfgs (F := F) 0).spec c) (pl.owe c [1])

instance noWindow : IsEmpty (Fin (pcfgs (F := F) 0).W) := inferInstanceAs (IsEmpty (Fin 0))
instance noTable : IsEmpty (Fin (pcfgs (F := F) 0).pre.K) := inferInstanceAs (IsEmpty (Fin 0))

/-- THE RUN: from any memory with zero counters, all devices terminate, each with its arrays unchanged and with `G`
    in its result, and every counter is zero. -/
theorem run_main (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)
        ∧ r.2.mem ((c.tc : Thread nD τ).loc main_v1) = G m c)
      ∧ r.2.sem = fun _ => 0) :=
  run_first (pcfgs (F := F)) (fun _ p => (cfgs p).toPCfg_adm) (pdats m) cellOf_inj (defs₀ (F := F)) Variants.none 0 pl
    (show WinFacts₀ cfg0.spec from by decide) (show OwnSemFacts cfg0.spec pl.sm from by decide) (pay m) [1] m g main (fun _ => []) (fun c => rfl) (fun c => by simp [PerCore.Seg.pipes]) (fun c => by simp [PerCore.Seg.pipes])
    (M m) (Y m) (Y m) (fun c => rfl) (fun c => N_0) (deal_bufs m) (body m _) (fun c => BI.Entails.refl _)
    (fun c s => s.mem ((c.tc : Thread nD τ).loc main_arg0) = m ((c.tc : Thread nD τ).loc main_arg0) ∧ s.mem ((c.tc : Thread nD τ).loc main_v1) = G m c)
    (fun c s' => by
      unfold Y
      iintro ⟨⟨Hx, Hy⟩, HSI⟩
      icombine HSI Hx gives %hx
      icombine HSI Hy gives %hy
      imodintro
      isplitr
      · ipureintro
        exact ⟨Buf.eq_of_forall_mem_univ hx, Buf.eq_of_forall_mem_univ hy⟩
      iexact HSI)
    (fun s h hs => ⟨h, sem_eq_zero_of_scoped sems_scoped hs⟩)

end Cert.JoinProof

end
-- ==== Proof.JoinValue.lean ====
module

public import proofs.«01_k».proof.Proof.Join
public import proofs.«01_k».proof.Proof.Gen.JoinRefIdeal.Run
public import Idealize.ShloMosaic.Lib.Pipeline.Value
public import Idealize.ShloMosaic.Lib.Layout

/-! # What the join of the two halves computes

The two cores' blocks lie one after the other in the whole array, so on it the join of the halves of every chip is the array
itself, which each chip then has its block of. -/

@[expose] public section

noncomputable section

namespace Cert.JoinProof

open Idealize.ShloMosaic Idealize.ShloMosaic.TcCoe Idealize.ShloMosaic.ValueIdx
open Cert.JoinRefIdeal Cert.JoinRefIdeal.Facts₀

/-- The reference's result of the whole array `A`. -/
def out {α : Type} (A : S24064x1024.Idx → α) : S24064x1024.Idx → α :=
  shapeCast _ (concatenate S4x6016x1024 1
    [⟨S4x3008x1024, (shapeCast _ (extractStridedSlice S4x1x3008x1024 ![0, 0, 0, 0] (shapeCast _ A shapeCasts_S24064x1024_S4x2x3008x1024)
        slices_S4x2x3008x1024_S4x1x3008x1024_0_0_0_0) shapeCasts_S4x1x3008x1024_S4x3008x1024)⟩,
      ⟨S4x3008x1024, (shapeCast _ (extractStridedSlice S4x1x3008x1024 ![0, 1, 0, 0] (shapeCast _ A shapeCasts_S24064x1024_S4x2x3008x1024)
        slices_S4x2x3008x1024_S4x1x3008x1024_0_1_0_0) shapeCasts_S4x1x3008x1024_S4x3008x1024)⟩]
    concatenates_S4x3008x1024_S4x3008x1024_S4x6016x1024_d1) shapeCasts_S4x6016x1024_S24064x1024

/-- Half `b` of the array of chip `p`. -/
theorem half_apply {α : Type} (A : S24064x1024.Idx → α) (off : Fin 4 → ℕ) (b : Fin 2) (ho : off = ![0, b.val, 0, 0])
    (hs : S4x2x3008x1024.Slices off S4x1x3008x1024) (p : Fin 4) (h : Fin 3008) (k : Fin 1024) (z : S24064x1024.Idx)
    (h0 : (z 0).val = 6016 * p.val + 3008 * b.val + h.val) (h1 : (z 1).val = k.val) :
    shapeCast _ (extractStridedSlice S4x1x3008x1024 off (shapeCast _ A shapeCasts_S24064x1024_S4x2x3008x1024) hs) shapeCasts_S4x1x3008x1024_S4x3008x1024 (ix3 p h k) = A z := by
  subst ho
  rw [shapeCast_apply _ _ _ (ix4 p (0 : Fin 1) h k) (by
    rw [Shape.rowMajor_val_four, Shape.rowMajor_val_three]
    show (((p.val * 1 + 0) * 3008 + h.val) * 1024 + k.val : ℕ) = (p.val * 3008 + h.val) * 1024 + k.val
    omega)]
  rw [extractStridedSlice_apply _ _ _ _ (ix4 p b h k) (by
    intro x
    fin_cases x
    · show p.val = 0 + p.val; omega
    · show b.val = b.val + 0; omega
    · show h.val = 0 + h.val; omega
    · show k.val = 0 + k.val; omega)]
  exact shapeCast_apply _ _ _ z (by
    rw [Shape.rowMajor_val_four, Shape.rowMajor_val_two]
    show ((z 0).val * 1024 + (z 1).val : ℕ) = ((p.val * 2 + b.val) * 3008 + h.val) * 1024 + k.val
    rw [h0, h1]
    omega)

/-- The reference's result read at half `b` of chip `p`. -/
theorem out_apply {α : Type} (A : S24064x1024.Idx → α) (p : Fin 4) (b : Fin 2) (h : Fin 3008) (k : Fin 1024) (y z : S24064x1024.Idx)
    (y0 : (y 0).val = 6016 * p.val + 3008 * b.val + h.val) (y1 : (y 1).val = k.val)
    (h0 : (z 0).val = 6016 * p.val + 3008 * b.val + h.val) (h1 : (z 1).val = k.val) : out A y = A z := by
  unfold out
  have hb : b.val < 2 := b.isLt
  have hr : 3008 * b.val + h.val < 6016 := by have := h.isLt; omega
  refine (shapeCast_apply _ shapeCasts_S4x6016x1024_S24064x1024 y (ix3 p (⟨3008 * b.val + h.val, hr⟩ : Fin 6016) k) (by
    rw [Shape.rowMajor_val_three, Shape.rowMajor_val_two]
    show ((p.val * 6016 + (3008 * b.val + h.val)) * 1024 + k.val : ℕ) = (y 0).val * 1024 + (y 1).val
    rw [y0, y1]; omega)).trans ?_
  have hq : b = 0 ∨ b = 1 := by omega
  rcases hq with rfl | rfl
  · refine (concatenate_pair_apply_left (s₁ := S4x3008x1024) (t := S4x6016x1024) 1 _ _ _ (ix3 p (⟨3008 * (0 : Fin 2).val + h.val, hr⟩ : Fin 6016) k) rfl (ix3 p h k) (by
      intro b
      fin_cases b
      · rfl
      · show h.val = 3008 * 0 + h.val; omega
      · rfl)).trans ?_
    exact half_apply A _ 0 rfl _ p h k z h0 h1
  · refine (concatenate_pair_apply_right (s₁ := S4x3008x1024) (s₂ := S4x3008x1024) (t := S4x6016x1024) 1 _ _ _ (ix3 p (⟨3008 * (1 : Fin 2).val + h.val, hr⟩ : Fin 6016) k) rfl rfl (ix3 p h k)
      (by intro b hb; fin_cases b <;> first | rfl | exact absurd rfl hb) (by show h.val + 3008 = 3008 * 1 + h.val; omega)).trans ?_
    exact half_apply A _ 1 rfl _ p h k z h0 h1

/-- The block that lies on a device is its chip's. -/
theorem block_chip (c : Dev Cert.JoinIdeal.nD) : (Layout.meshBlock [2, 2, 2] ![[0, 1], []] c (by decide) (0 : Fin 2)).val = c.val / 2 := by revert c; decide

/-- WHAT THE JOIN LEAVES on device `c`: its chip's block of the reference's result. -/
theorem value {F : FTy → Type} (m : (ℓ : Loc Cert.JoinIdeal.nD Cert.JoinIdeal.τ Cert.JoinIdeal.sig) → Buf (Elt F) ℓ) (A : S24064x1024.Idx → Elt F .f32)
    (hm : ∀ c : Dev Cert.JoinIdeal.nD, m ((c.tc : Thread Cert.JoinIdeal.nD Cert.JoinIdeal.τ).loc Cert.JoinIdeal.main_arg0)
      = Layout.block ⟨2, ![3008, 1024]⟩ ⟨2, ![24064, 1024]⟩ 0 8 c A)
    (c : Dev Cert.JoinIdeal.nD) :
    G m c = Layout.blockN ⟨2, ![6016, 1024]⟩ ⟨2, ![24064, 1024]⟩ (Layout.meshBlock [2, 2, 2] ![[0, 1], []] c) (out A) := by
  funext i
  have hc : c.val < 8 := c.isLt
  have hi : (i 0).val < 6016 := (i 0).isLt
  unfold G
  rw [hm, Layout.block_apply, Layout.blockN_apply]
  refine (out_apply A ⟨c.val / 2, by omega⟩ ⟨(i 0).val / 3008, by omega⟩ ⟨(i 0).val % 3008, by omega⟩ ⟨(i 1).val, (i 1).isLt⟩ _ _ ?_ ?_ ?_ ?_).symm
  · refine (Layout.TilesN.idx_val _ _ _ 0).trans ?_
    show (Layout.meshBlock [2, 2, 2] ![[0, 1], []] c (by decide) (0 : Fin 2)).val * 6016 + (i 0).val = 6016 * (c.val / 2) + 3008 * ((i 0).val / 3008) + (i 0).val % 3008
    rw [block_chip]
    omega
  · refine (Layout.TilesN.idx_val _ _ _ 1).trans ?_
    show 0 * 1024 + (i 1).val = (i 1).val
    omega
  · show (2 * (c.val / 2) + (i 0).val / 3008) * 3008 + (i 0).val % 3008 = 6016 * (c.val / 2) + 3008 * ((i 0).val / 3008) + (i 0).val % 3008
    omega
  · rfl

end Cert.JoinProof

end
-- ==== Proof.lean ====
module

public import proofs.«01_k».proof.Defs
public import proofs.«01_k».proof.Proof.Gen.Swap
public import proofs.«01_k».proof.Proof.Gen.SwapRef
public import proofs.«01_k».proof.Proof.Gen.SwapRef.Run
public import proofs.«01_k».proof.Proof.Gen.Weights
public import proofs.«01_k».proof.Proof.Gen.WeightsRef
public import proofs.«01_k».proof.Proof.Gen.WeightsRef.Run
public import proofs.«01_k».proof.Proof.Gen.Join
public import proofs.«01_k».proof.Proof.Gen.JoinRef
public import proofs.«01_k».proof.Proof.Gen.JoinRef.Run
public import proofs.«01_k».proof.Proof.Gen.ChipSum
public import proofs.«01_k».proof.Proof.Gen.SmallSum
public import proofs.«01_k».proof.Proof.CoreSumFrame
public import proofs.«01_k».proof.Proof.CoreSumValue
public import proofs.«01_k».proof.Proof.ChipSumValue
public import proofs.«01_k».proof.Proof.SmallSumValue
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamGlu.Frame
public import proofs.«01_k».proof.Proof.Gen.AdamGluIdeal.Value
public import proofs.«01_k».proof.Proof.Gen.AdamGluRefIdeal.Run
public import proofs.«01_k».proof.Proof.Gen.AdamAttn.Frame
public import proofs.«01_k».proof.Proof.Gen.AdamAttnIdeal.Value
public import proofs.«01_k».proof.Proof.Gen.AdamAttnRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.FfnBwd.Frame
public import proofs.«01_k».proof.Proof.Gen.FfnFwd.Frame
public import proofs.«01_k».proof.Proof.Gen.DwGate.Frame
public import proofs.«01_k».proof.Proof.Gen.DwDown.Frame
public import proofs.«01_k».proof.Proof.Gen.DwOut.Frame
public import proofs.«01_k».proof.Proof.Gen.DwAttn.Frame
public import proofs.«01_k».proof.Proof.Gen.DwSsm.Frame
public import proofs.«01_k».proof.Proof.Gen.DwIn.Frame
public import proofs.«01_k».proof.Proof.Gen.Loss.Frame
public import proofs.«01_k».proof.Proof.Gen.MixInFwd.Frame
public import proofs.«01_k».proof.Proof.Gen.MixInBwd.Frame
public import proofs.«01_k».proof.Proof.FfnWhole
public import proofs.«01_k».proof.Proof.FfnRef
public import proofs.«01_k».proof.Proof.Gen.MixOutFwd.Frame
public import proofs.«01_k».proof.Proof.Gen.MixOutBwd.Frame
public import proofs.«01_k».proof.Proof.Gen.BiasExpand.Frame
public import proofs.«01_k».proof.Proof.Gen.BiasReduce.Frame
public import proofs.«01_k».proof.Proof.Gen.Attn0.Frame
public import proofs.«01_k».proof.Proof.Gen.Attn1.Frame
public import proofs.«01_k».proof.Proof.Gen.Attn2.Frame
public import proofs.«01_k».proof.Proof.FwdWhole
public import proofs.«01_k».proof.Proof.FwdRef
public import proofs.«01_k».proof.Proof.DwGateValue
public import proofs.«01_k».proof.Proof.DwDownValue
public import proofs.«01_k».proof.Proof.DwOutValue
public import proofs.«01_k».proof.Proof.DwAttnValue
public import proofs.«01_k».proof.Proof.DwSsmValue
public import proofs.«01_k».proof.Proof.DwInValue
public import proofs.«01_k».proof.Proof.LossWhole
public import proofs.«01_k».proof.Proof.LossRef
public import proofs.«01_k».proof.Proof.MixWhole
public import proofs.«01_k».proof.Proof.MixRef
public import proofs.«01_k».proof.Proof.ProjWhole
public import proofs.«01_k».proof.Proof.ProjRef
public import proofs.«01_k».proof.Proof.Attn0Whole
public import proofs.«01_k».proof.Proof.Attn0Ref
public import proofs.«01_k».proof.Proof.Attn1Whole
public import proofs.«01_k».proof.Proof.Attn1Ref
public import proofs.«01_k».proof.Proof.Attn2Whole
public import proofs.«01_k».proof.Proof.Attn2Ref
public import proofs.«01_k».proof.Proof.OutWhole
public import proofs.«01_k».proof.Proof.OutRef
public import proofs.«01_k».proof.Proof.BackWhole
public import proofs.«01_k».proof.Proof.BackRef
public import proofs.«01_k».proof.Proof.BiasValue
public import proofs.«01_k».proof.Proof.SwapValue
public import proofs.«01_k».proof.Proof.WeightsValue
public import proofs.«01_k».proof.Proof.JoinValue
public import Idealize.ShloMosaic.Adequacy
public import Idealize.ShloMosaic.Init
public import Idealize.ShloMosaic.Lib.Quiescent

@[expose] public section

noncomputable section

namespace Cert.Proof

open Idealize.ShloMosaic Idealize.ShloMosaic.TcCoe

/-- The swap runs, keeps its argument and leaves its counters at zero. -/
theorem frame_Swap : quiescent_Swap := fun m g _ =>
  (θ_run Swap.defs _ _).mono (fun _ h => ⟨fun c => (h.1 c).1, h.2⟩) (SwapProof.run_main (F := Bits) m g)

/-- The same of the ideal program. -/
theorem frame_SwapIdeal : quiescent_SwapIdeal := fun m g _ =>
  (θ_run SwapIdeal.defs _ _).mono (fun _ h => ⟨fun c => (h.1 c).1, h.2⟩) (SwapProof.run_main (F := Ideal) m g)

/-- The reference's frame. -/
theorem frame_SwapRef : quiescent_SwapRef := fun m g _ =>
  (θ_run SwapRef.defs _ _).mono (fun r h => ⟨fun c => (h c).2, sem_eq_zero_of_no_sems rfl _⟩) (SwapRef.Value.run (F := Bits) m g)

/-- The same of the ideal reference. -/
theorem frame_SwapRefIdeal : quiescent_SwapRefIdeal := fun m g _ =>
  (θ_run SwapRefIdeal.defs _ _).mono (fun r h => ⟨fun c => (h c).2, sem_eq_zero_of_no_sems rfl _⟩) (SwapRefIdeal.Value.run (F := Ideal) m g)

/-- Over the extended reals the swap leaves on each device its block of the reference's result. -/
theorem algebraic_Swap : algebraic_SwapIdeal_SwapRefIdeal := fun m g m' g' _ hag =>
  ⟨SwapProof.out (m' (((0 : Dev SwapRefIdeal.nD).tc : Thread SwapRefIdeal.nD SwapRefIdeal.τ).loc SwapRefIdeal.main_arg0)),
    (θ_run SwapIdeal.defs _ _).mono (fun _ h c => ⟨((h.1 c).2.trans (by rw [hag]; exact SwapProof.value (F := Ideal) _ c)), (h.1 c).1⟩)
      (SwapProof.run_main (F := Ideal) m g),
    (θ_run SwapRefIdeal.defs _ _).mono (fun _ h => h 0) (SwapRefIdeal.Value.run (F := Ideal) m' g')⟩

/-- The same words, whatever the floats are. -/
theorem bitexact_Swap : bitexact_Swap_SwapRef := fun m g m' g' _ hag =>
  ⟨SwapProof.out (m' (((0 : Dev SwapRef.nD).tc : Thread SwapRef.nD SwapRef.τ).loc SwapRef.main_arg0)),
    (θ_run Swap.defs _ _).mono (fun _ h c => ⟨((h.1 c).2.trans (by rw [hag]; exact SwapProof.value (F := Bits) _ c)), (h.1 c).1⟩)
      (SwapProof.run_main (F := Bits) m g),
    (θ_run SwapRef.defs _ _).mono (fun _ h => h 0) (SwapRef.Value.run (F := Bits) m' g')⟩

/-- The gather of the weights runs, keeps its argument and leaves its counters at zero. -/
theorem frame_Weights : quiescent_Weights := fun m g _ =>
  (θ_run Weights.defs _ _).mono (fun _ h => ⟨fun c => (h.1 c).1, h.2⟩) (WeightsProof.run_main (F := Bits) m g)

/-- The same of the ideal program. -/
theorem frame_WeightsIdeal : quiescent_WeightsIdeal := fun m g _ =>
  (θ_run WeightsIdeal.defs _ _).mono (fun _ h => ⟨fun c => (h.1 c).1, h.2⟩) (WeightsProof.run_main (F := Ideal) m g)

/-- The reference's frame. -/
theorem frame_WeightsRef : quiescent_WeightsRef := fun m g _ =>
  (θ_run WeightsRef.defs _ _).mono (fun r h => ⟨fun c => (h c).2, sem_eq_zero_of_no_sems rfl _⟩) (WeightsRef.Value.run (F := Bits) m g)

/-- The same of the ideal reference. -/
theorem frame_WeightsRefIdeal : quiescent_WeightsRefIdeal := fun m g _ =>
  (θ_run WeightsRefIdeal.defs _ _).mono (fun r h => ⟨fun c => (h c).2, sem_eq_zero_of_no_sems rfl _⟩) (WeightsRefIdeal.Value.run (F := Ideal) m g)

/-- Over the extended reals the gather of the weights leaves on each device all of the reference's result. -/
theorem algebraic_Weights : algebraic_WeightsIdeal_WeightsRefIdeal := fun m g m' g' _ hag =>
  ⟨WeightsProof.out (m' (((0 : Dev WeightsRefIdeal.nD).tc : Thread WeightsRefIdeal.nD WeightsRefIdeal.τ).loc WeightsRefIdeal.main_arg0)),
    (θ_run WeightsIdeal.defs _ _).mono (fun _ h c => ⟨((h.1 c).2.trans (WeightsProof.value (F := Ideal) m _ hag c)), (h.1 c).1⟩)
      (WeightsProof.run_main (F := Ideal) m g),
    (θ_run WeightsRefIdeal.defs _ _).mono (fun _ h => h 0) (WeightsRefIdeal.Value.run (F := Ideal) m' g')⟩

/-- The same words, whatever the floats are. -/
theorem bitexact_Weights : bitexact_Weights_WeightsRef := fun m g m' g' _ hag =>
  ⟨WeightsProof.out (m' (((0 : Dev WeightsRef.nD).tc : Thread WeightsRef.nD WeightsRef.τ).loc WeightsRef.main_arg0)),
    (θ_run Weights.defs _ _).mono (fun _ h c => ⟨((h.1 c).2.trans (WeightsProof.value (F := Bits) m _ hag c)), (h.1 c).1⟩)
      (WeightsProof.run_main (F := Bits) m g),
    (θ_run WeightsRef.defs _ _).mono (fun _ h => h 0) (WeightsRef.Value.run (F := Bits) m' g')⟩

/-- The join of the halves runs, keeps its argument and leaves its counters at zero. -/
theorem frame_Join : quiescent_Join := fun m g _ =>
  (θ_run Join.defs _ _).mono (fun _ h => ⟨fun c => (h.1 c).1, h.2⟩) (JoinProof.run_main (F := Bits) m g)

/-- The same of the ideal program. -/
theorem frame_JoinIdeal : quiescent_JoinIdeal := fun m g _ =>
  (θ_run JoinIdeal.defs _ _).mono (fun _ h => ⟨fun c => (h.1 c).1, h.2⟩) (JoinProof.run_main (F := Ideal) m g)

/-- The reference's frame. -/
theorem frame_JoinRef : quiescent_JoinRef := fun m g _ =>
  (θ_run JoinRef.defs _ _).mono (fun r h => ⟨fun c => (h c).2, sem_eq_zero_of_no_sems rfl _⟩) (JoinRef.Value.run (F := Bits) m g)

/-- The same of the ideal reference. -/
theorem frame_JoinRefIdeal : quiescent_JoinRefIdeal := fun m g _ =>
  (θ_run JoinRefIdeal.defs _ _).mono (fun r h => ⟨fun c => (h c).2, sem_eq_zero_of_no_sems rfl _⟩) (JoinRefIdeal.Value.run (F := Ideal) m g)

/-- Over the extended reals the join of the halves leaves on each device its block of the reference's result. -/
theorem algebraic_Join : algebraic_JoinIdeal_JoinRefIdeal := fun m g m' g' _ hag =>
  ⟨JoinProof.out (m' (((0 : Dev JoinRefIdeal.nD).tc : Thread JoinRefIdeal.nD JoinRefIdeal.τ).loc JoinRefIdeal.main_arg0)),
    (θ_run JoinIdeal.defs _ _).mono (fun _ h c => ⟨((h.1 c).2.trans (JoinProof.value (F := Ideal) m _ hag c)), (h.1 c).1⟩)
      (JoinProof.run_main (F := Ideal) m g),
    (θ_run JoinRefIdeal.defs _ _).mono (fun _ h => h 0) (JoinRefIdeal.Value.run (F := Ideal) m' g')⟩

/-- The same words, whatever the floats are. -/
theorem bitexact_Join : bitexact_Join_JoinRef := fun m g m' g' _ hag =>
  ⟨JoinProof.out (m' (((0 : Dev JoinRef.nD).tc : Thread JoinRef.nD JoinRef.τ).loc JoinRef.main_arg0)),
    (θ_run Join.defs _ _).mono (fun _ h c => ⟨((h.1 c).2.trans (JoinProof.value (F := Bits) m _ hag c)), (h.1 c).1⟩)
      (JoinProof.run_main (F := Bits) m g),
    (θ_run JoinRef.defs _ _).mono (fun _ h => h 0) (JoinRef.Value.run (F := Bits) m' g')⟩

/-- The swap with its sum runs, keeps its argument and leaves its counters at zero. -/
theorem frame_CoreSum : quiescent_CoreSum := fun m g _ => CoreSumProof.run_exact (F := Bits) m g

/-- The same of the ideal program. -/
theorem frame_CoreSumIdeal : quiescent_CoreSumIdeal := fun m g _ =>
  (θ_run CoreSumIdeal.defs _ _).mono (fun _ h => ⟨fun c => (h.1 c).1, h.2⟩) (CoreSumProof.run_main (F := Ideal) m g)

/-- The ideal reference's frame. -/
theorem frame_CoreSumRefIdeal : quiescent_CoreSumRefIdeal := fun m g _ =>
  (θ_run CoreSumRefIdeal.defs _ _).mono (fun r h => ⟨fun c => (h c).2.2, sem_eq_zero_of_no_sems rfl _⟩) (CoreSumRefIdeal.Value.run (F := Ideal) m g)

/-- Over the extended reals the swap with its sum leaves on each device its block of the reference's result, of the sum and of the parts. -/
theorem algebraic_CoreSum : algebraic_CoreSumIdeal_CoreSumRefIdeal := fun m g m' g' _ hag =>
  ⟨CoreSumProof.outSum (m' (((0 : Dev CoreSumRefIdeal.nD).tc : Thread CoreSumRefIdeal.nD CoreSumRefIdeal.τ).loc CoreSumRefIdeal.main_arg0)),
    CoreSumProof.out (m' (((0 : Dev CoreSumRefIdeal.nD).tc : Thread CoreSumRefIdeal.nD CoreSumRefIdeal.τ).loc CoreSumRefIdeal.main_arg0)),
    (θ_run CoreSumIdeal.defs _ _).mono (fun _ h c => ⟨(h.1 c).2.1.trans (CoreSumProof.value_sum m _ hag c),
        (h.1 c).2.2.trans (CoreSumProof.value (F := Ideal) m _ hag c), (h.1 c).1⟩)
      (CoreSumProof.run_main (F := Ideal) m g),
    (θ_run CoreSumRefIdeal.defs _ _).mono (fun _ h => h 0) (CoreSumRefIdeal.Value.run (F := Ideal) m' g')⟩

/-- The two programs of the exchange with its sum have the same text. -/
theorem bodies_ChipSum : ChipSum.defs₀ (F := Bits) = ChipSumIdeal.defs₀ (F := Bits) := by
  unfold ChipSum.defs₀ ChipSumIdeal.defs₀
  refine congrArg Defs.onTc (funext fun l => funext fun a => ?_)
  match l, a with
  | 0, _ => rfl
  | 1, (t, s) => rfl

/-- So one run serves both. -/
theorem defs_ChipSum : ChipSum.defs (F := Bits) = ChipSumIdeal.defs (F := Bits) :=
  congrArg (Pipeline.defs (ChipSumIdeal.pcfgs (F := Bits))) bodies_ChipSum

/-- The exchange with its sum runs, keeps its argument and leaves its counters at zero. -/
theorem frame_ChipSum : quiescent_ChipSum := fun m g _ => by
  rw [defs_ChipSum]
  exact (θ_run ChipSumIdeal.defs _ _).mono (fun _ h => ⟨fun c => (h.1 c).1, h.2⟩) (ChipSumProof.run_main (F := Bits) m g)

/-- The same of the ideal program. -/
theorem frame_ChipSumIdeal : quiescent_ChipSumIdeal := fun m g _ =>
  (θ_run ChipSumIdeal.defs _ _).mono (fun _ h => ⟨fun c => (h.1 c).1, h.2⟩) (ChipSumProof.run_main (F := Ideal) m g)

/-- The ideal reference's frame. -/
theorem frame_ChipSumRefIdeal : quiescent_ChipSumRefIdeal := fun m g _ =>
  (θ_run ChipSumRefIdeal.defs _ _).mono (fun r h => ⟨fun c => (h c).2.2, sem_eq_zero_of_no_sems rfl _⟩) (ChipSumRefIdeal.Value.run (F := Ideal) m g)

/-- Over the extended reals the exchange with its sum leaves on each device its block of the reference's result, of the sum and of the parts. -/
theorem algebraic_ChipSum : algebraic_ChipSumIdeal_ChipSumRefIdeal := fun m g m' g' _ hag =>
  ⟨ChipSumProof.outSum (m' (((0 : Dev ChipSumRefIdeal.nD).tc : Thread ChipSumRefIdeal.nD ChipSumRefIdeal.τ).loc ChipSumRefIdeal.main_arg0)),
    ChipSumProof.out (m' (((0 : Dev ChipSumRefIdeal.nD).tc : Thread ChipSumRefIdeal.nD ChipSumRefIdeal.τ).loc ChipSumRefIdeal.main_arg0)),
    (θ_run ChipSumIdeal.defs _ _).mono (fun _ h c => ⟨(h.1 c).2.1.trans (ChipSumProof.value_sum m _ hag c),
        (h.1 c).2.2.trans (ChipSumProof.value (F := Ideal) m _ hag c), (h.1 c).1⟩)
      (ChipSumProof.run_main (F := Ideal) m g),
    (θ_run ChipSumRefIdeal.defs _ _).mono (fun _ h => h 0) (ChipSumRefIdeal.Value.run (F := Ideal) m' g')⟩

/-- The two programs of the gather of the small gradients with its sum have the same text. -/
theorem bodies_SmallSum : SmallSum.defs₀ (F := Bits) = SmallSumIdeal.defs₀ (F := Bits) := by
  unfold SmallSum.defs₀ SmallSumIdeal.defs₀
  refine congrArg Defs.onTc (funext fun l => funext fun a => ?_)
  match l, a with
  | 0, _ => rfl
  | 1, (t, s) => rfl

/-- So one run serves both. -/
theorem defs_SmallSum : SmallSum.defs (F := Bits) = SmallSumIdeal.defs (F := Bits) :=
  congrArg (Pipeline.defs (SmallSumIdeal.pcfgs (F := Bits))) bodies_SmallSum

/-- The gather of the small gradients with its sum runs, keeps its argument and leaves its counters at zero. -/
theorem frame_SmallSum : quiescent_SmallSum := fun m g _ => by
  rw [defs_SmallSum]
  exact (θ_run SmallSumIdeal.defs _ _).mono (fun _ h => ⟨fun c => (h.1 c).1, h.2⟩) (SmallSumProof.run_main (F := Bits) m g)

/-- The same of the ideal program. -/
theorem frame_SmallSumIdeal : quiescent_SmallSumIdeal := fun m g _ =>
  (θ_run SmallSumIdeal.defs _ _).mono (fun _ h => ⟨fun c => (h.1 c).1, h.2⟩) (SmallSumProof.run_main (F := Ideal) m g)

/-- The ideal reference's frame. -/
theorem frame_SmallSumRefIdeal : quiescent_SmallSumRefIdeal := fun m g _ =>
  (θ_run SmallSumRefIdeal.defs _ _).mono (fun r h => ⟨fun c => (h c).2.2, sem_eq_zero_of_no_sems rfl _⟩) (SmallSumRefIdeal.Value.run (F := Ideal) m g)

/-- Over the extended reals the gather of the small gradients with its sum leaves on each device all of the reference's result, of the sum and of the parts. -/
theorem algebraic_SmallSum : algebraic_SmallSumIdeal_SmallSumRefIdeal := fun m g m' g' _ hag =>
  ⟨SmallSumProof.outSum (m' (((0 : Dev SmallSumRefIdeal.nD).tc : Thread SmallSumRefIdeal.nD SmallSumRefIdeal.τ).loc SmallSumRefIdeal.main_arg0)),
    SmallSumProof.out (m' (((0 : Dev SmallSumRefIdeal.nD).tc : Thread SmallSumRefIdeal.nD SmallSumRefIdeal.τ).loc SmallSumRefIdeal.main_arg0)),
    (θ_run SmallSumIdeal.defs _ _).mono (fun _ h c => ⟨(h.1 c).2.1.trans (SmallSumProof.value_sum m _ hag c),
        (h.1 c).2.2.trans (SmallSumProof.value (F := Ideal) m _ hag c), (h.1 c).1⟩)
      (SmallSumProof.run_main (F := Ideal) m g),
    (θ_run SmallSumRefIdeal.defs _ _).mono (fun _ h => h 0) (SmallSumRefIdeal.Value.run (F := Ideal) m' g')⟩

/-- The ideal reference's frame. -/
theorem frame_AdamGateRefIdeal : quiescent_AdamGateRefIdeal := fun m g _ =>
  (θ_run AdamGateRefIdeal.defs _ _).mono (fun r h => ⟨fun c => (h c).2.2.2, sem_eq_zero_of_no_sems rfl _⟩) (AdamGateRefIdeal.Value.run (F := Ideal) m g)

/-- Over the extended reals the update of the gate and up weights is the reference's. -/
theorem algebraic_AdamGate : algebraic_AdamGateIdeal_AdamGateRefIdeal := fun m g m' g' _ hag =>
  ⟨_, _, _, AdamGateIdeal.Value.run (F := Ideal) m g,
    (θ_run AdamGateRefIdeal.defs _ _).mono
      (fun _ h c => ⟨(h c).1.trans (by rw [(hag c).1, (hag c).2.1, (hag c).2.2.1, (hag c).2.2.2]; rfl),
        (h c).2.1.trans (by rw [(hag c).2.1, (hag c).2.2.1]; rfl), (h c).2.2.1.trans (by rw [(hag c).2.1, (hag c).2.2.2]; rfl), (h c).2.2.2⟩)
      (AdamGateRefIdeal.Value.run (F := Ideal) m' g')⟩

/-- The ideal reference's frame. -/
theorem frame_AdamDownRefIdeal : quiescent_AdamDownRefIdeal := fun m g _ =>
  (θ_run AdamDownRefIdeal.defs _ _).mono (fun r h => ⟨fun c => (h c).2.2.2, sem_eq_zero_of_no_sems rfl _⟩) (AdamDownRefIdeal.Value.run (F := Ideal) m g)

/-- Over the extended reals the update of the down weights is the reference's. -/
theorem algebraic_AdamDown : algebraic_AdamDownIdeal_AdamDownRefIdeal := fun m g m' g' _ hag =>
  ⟨_, _, _, AdamDownIdeal.Value.run (F := Ideal) m g,
    (θ_run AdamDownRefIdeal.defs _ _).mono
      (fun _ h c => ⟨(h c).1.trans (by rw [(hag c).1, (hag c).2.1, (hag c).2.2.1, (hag c).2.2.2]; rfl),
        (h c).2.1.trans (by rw [(hag c).2.1, (hag c).2.2.1]; rfl), (h c).2.2.1.trans (by rw [(hag c).2.1, (hag c).2.2.2]; rfl), (h c).2.2.2⟩)
      (AdamDownRefIdeal.Value.run (F := Ideal) m' g')⟩

/-- The ideal reference's frame. -/
theorem frame_AdamInRefIdeal : quiescent_AdamInRefIdeal := fun m g _ =>
  (θ_run AdamInRefIdeal.defs _ _).mono (fun r h => ⟨fun c => (h c).2.2.2, sem_eq_zero_of_no_sems rfl _⟩) (AdamInRefIdeal.Value.run (F := Ideal) m g)

/-- Over the extended reals the update of the mixer's input weight is the reference's. -/
theorem algebraic_AdamIn : algebraic_AdamInIdeal_AdamInRefIdeal := fun m g m' g' _ hag =>
  ⟨_, _, _, AdamInIdeal.Value.run (F := Ideal) m g,
    (θ_run AdamInRefIdeal.defs _ _).mono
      (fun _ h c => ⟨(h c).1.trans (by rw [(hag c).1, (hag c).2.1, (hag c).2.2.1, (hag c).2.2.2]; rfl),
        (h c).2.1.trans (by rw [(hag c).2.1, (hag c).2.2.1]; rfl), (h c).2.2.1.trans (by rw [(hag c).2.1, (hag c).2.2.2]; rfl), (h c).2.2.2⟩)
      (AdamInRefIdeal.Value.run (F := Ideal) m' g')⟩

/-- The ideal reference's frame. -/
theorem frame_AdamGluRefIdeal : quiescent_AdamGluRefIdeal := fun m g _ =>
  (θ_run AdamGluRefIdeal.defs _ _).mono (fun r h => ⟨fun c => (h c).2.2.2, sem_eq_zero_of_no_sems rfl _⟩) (AdamGluRefIdeal.Value.run (F := Ideal) m g)

/-- Over the extended reals the update of the state-space mixer's two weights is the reference's. -/
theorem algebraic_AdamGlu : algebraic_AdamGluIdeal_AdamGluRefIdeal := fun m g m' g' _ hag =>
  ⟨_, _, _, AdamGluIdeal.Value.run (F := Ideal) m g,
    (θ_run AdamGluRefIdeal.defs _ _).mono
      (fun _ h c => ⟨(h c).1.trans (by rw [(hag c).1, (hag c).2.1, (hag c).2.2.1, (hag c).2.2.2]; rfl),
        (h c).2.1.trans (by rw [(hag c).2.1, (hag c).2.2.1]; rfl), (h c).2.2.1.trans (by rw [(hag c).2.1, (hag c).2.2.2]; rfl), (h c).2.2.2⟩)
      (AdamGluRefIdeal.Value.run (F := Ideal) m' g')⟩

/-- The ideal reference's frame. -/
theorem frame_AdamAttnRefIdeal : quiescent_AdamAttnRefIdeal := fun m g _ =>
  (θ_run AdamAttnRefIdeal.defs _ _).mono (fun r h => ⟨fun c => (h c).2.2.2, sem_eq_zero_of_no_sems rfl _⟩) (AdamAttnRefIdeal.Value.run (F := Ideal) m g)

/-- Over the extended reals the update of the attention branch's weight is the reference's. -/
theorem algebraic_AdamAttn : algebraic_AdamAttnIdeal_AdamAttnRefIdeal := fun m g m' g' _ hag =>
  ⟨_, _, _, AdamAttnIdeal.Value.run (F := Ideal) m g,
    (θ_run AdamAttnRefIdeal.defs _ _).mono
      (fun _ h c => ⟨(h c).1.trans (by rw [(hag c).1, (hag c).2.1, (hag c).2.2.1, (hag c).2.2.2]; rfl),
        (h c).2.1.trans (by rw [(hag c).2.1, (hag c).2.2.1]; rfl), (h c).2.2.1.trans (by rw [(hag c).2.1, (hag c).2.2.2]; rfl), (h c).2.2.2⟩)
      (AdamAttnRefIdeal.Value.run (F := Ideal) m' g')⟩

/-- The ideal reference's frame. -/
theorem frame_AdamOutRefIdeal : quiescent_AdamOutRefIdeal := fun m g _ =>
  (θ_run AdamOutRefIdeal.defs _ _).mono (fun r h => ⟨fun c => (h c).2.2.2, sem_eq_zero_of_no_sems rfl _⟩) (AdamOutRefIdeal.Value.run (F := Ideal) m g)

/-- Over the extended reals the update of the mixer's output weight is the reference's. -/
theorem algebraic_AdamOut : algebraic_AdamOutIdeal_AdamOutRefIdeal := fun m g m' g' _ hag =>
  ⟨_, _, _, AdamOutIdeal.Value.run (F := Ideal) m g,
    (θ_run AdamOutRefIdeal.defs _ _).mono
      (fun _ h c => ⟨(h c).1.trans (by rw [(hag c).1, (hag c).2.1, (hag c).2.2.1, (hag c).2.2.2]; rfl),
        (h c).2.1.trans (by rw [(hag c).2.1, (hag c).2.2.1]; rfl), (h c).2.2.1.trans (by rw [(hag c).2.1, (hag c).2.2.2]; rfl), (h c).2.2.2⟩)
      (AdamOutRefIdeal.Value.run (F := Ideal) m' g')⟩

/-- The ideal reference's frame. -/
theorem frame_AdamSmallRefIdeal : quiescent_AdamSmallRefIdeal := fun m g _ =>
  (θ_run AdamSmallRefIdeal.defs _ _).mono (fun r h => ⟨fun c => (h c).2.2.2, sem_eq_zero_of_no_sems rfl _⟩) (AdamSmallRefIdeal.Value.run (F := Ideal) m g)

/-- Over the extended reals the update of the packed small weights is the reference's. -/
theorem algebraic_AdamSmall : algebraic_AdamSmallIdeal_AdamSmallRefIdeal := fun m g m' g' _ hag =>
  ⟨_, _, _, AdamSmallIdeal.Value.run (F := Ideal) m g,
    (θ_run AdamSmallRefIdeal.defs _ _).mono
      (fun _ h c => ⟨(h c).1.trans (by rw [(hag c).1, (hag c).2.1, (hag c).2.2.1, (hag c).2.2.2]; rfl),
        (h c).2.1.trans (by rw [(hag c).2.1, (hag c).2.2.1]; rfl), (h c).2.2.1.trans (by rw [(hag c).2.1, (hag c).2.2.2]; rfl), (h c).2.2.2⟩)
      (AdamSmallRefIdeal.Value.run (F := Ideal) m' g')⟩

/-- The ideal reference's frame. -/
theorem frame_FfnBwdRefIdeal : quiescent_FfnBwdRefIdeal := fun m g _ =>
  (θ_run FfnBwdRefIdeal.defs _ _).mono (fun r h => ⟨fun c => (h c).2.2.2.2.2.2.2, sem_eq_zero_of_no_sems rfl _⟩) (FfnRef.run m g)

/-- Over the extended reals the backward feed-forward call is the reference's seven results. -/
theorem algebraic_FfnBwd : algebraic_FfnBwdIdeal_FfnBwdRefIdeal := fun m g m' g' _ hag =>
  ⟨_, _, _, _, _, _, _, FfnWhole.run m g,
    (θ_run FfnBwdRefIdeal.defs _ _).mono (fun _ h c => by
      have ⟨h0, h1, h2, h3, h4, h5, h6, hk⟩ := h c
      have ⟨e0, e1, e2, e3, e4, e5, e6, e7⟩ := hag c
      simp only [FfnRef.a0, FfnRef.a1, FfnRef.a2, FfnRef.a3, FfnRef.a4, FfnRef.a5, FfnRef.a6,
        FfnRef.a7, e0, e1, e2, e3, e4, e5, e6, e7] at h0 h1 h2 h3 h4 h5 h6
      exact ⟨h0, h1, h2, h3, h4, h5, h6, hk⟩)
      (FfnRef.run m' g')⟩

/-- The ideal reference's frame. -/
theorem frame_FfnFwdRefIdeal : quiescent_FfnFwdRefIdeal := fun m g _ =>
  (θ_run FfnFwdRefIdeal.defs _ _).mono (fun r h => ⟨fun c => (h c).2.2.2, sem_eq_zero_of_no_sems rfl _⟩) (FwdRef.run m g)

/-- Over the extended reals the forward feed-forward call is the reference. -/
theorem algebraic_FfnFwd : algebraic_FfnFwdIdeal_FfnFwdRefIdeal := fun m g m' g' _ hag =>
  ⟨_, _, _, FwdWhole.run m g,
    (θ_run FfnFwdRefIdeal.defs _ _).mono (fun _ h c => by
      have ⟨h0, h1, h2, hk⟩ := h c
      have ⟨e0, e1, e2, e3, e4⟩ := hag c
      simp only [FwdRef.a0, FwdRef.a1, FwdRef.a2, FwdRef.a3, FwdRef.a4,
        e0, e1, e2, e3, e4] at h0 h1 h2
      exact ⟨h0, h1, h2, hk⟩)
      (FwdRef.run m' g')⟩

/-- The ideal reference's frame. -/
theorem frame_DwGateRefIdeal : quiescent_DwGateRefIdeal := fun m g _ =>
  (θ_run DwGateRefIdeal.defs _ _).mono (fun r h => ⟨fun c => (h c).2, sem_eq_zero_of_no_sems rfl _⟩) (DwGateValue.Reference.run m g)

/-- Over the extended reals the product for the gate and up weights' gradients is the reference. -/
theorem algebraic_DwGate : algebraic_DwGateIdeal_DwGateRefIdeal := fun m g m' g' _ hag =>
  ⟨_, DwGateValue.Kernel.run m g,
    (θ_run DwGateRefIdeal.defs _ _).mono (fun _ h c => by
      have ⟨h0, hk⟩ := h c
      have ⟨e0, e1⟩ := hag c
      simp only [DwGateValue.Reference.a0, DwGateValue.Reference.a1,
        e0, e1] at h0
      exact ⟨h0, hk⟩)
      (DwGateValue.Reference.run m' g')⟩

/-- The ideal reference's frame. -/
theorem frame_DwDownRefIdeal : quiescent_DwDownRefIdeal := fun m g _ =>
  (θ_run DwDownRefIdeal.defs _ _).mono (fun r h => ⟨fun c => (h c).2, sem_eq_zero_of_no_sems rfl _⟩) (DwDownValue.Reference.run m g)

/-- Over the extended reals the product for the down weights' gradients is the reference. -/
theorem algebraic_DwDown : algebraic_DwDownIdeal_DwDownRefIdeal := fun m g m' g' _ hag =>
  ⟨_, DwDownValue.Kernel.run m g,
    (θ_run DwDownRefIdeal.defs _ _).mono (fun _ h c => by
      have ⟨h0, hk⟩ := h c
      have ⟨e0, e1⟩ := hag c
      simp only [DwDownValue.Reference.a0, DwDownValue.Reference.a1,
        e0, e1] at h0
      exact ⟨h0, hk⟩)
      (DwDownValue.Reference.run m' g')⟩

/-- The ideal reference's frame. -/
theorem frame_DwOutRefIdeal : quiescent_DwOutRefIdeal := fun m g _ =>
  (θ_run DwOutRefIdeal.defs _ _).mono (fun r h => ⟨fun c => (h c).2, sem_eq_zero_of_no_sems rfl _⟩) (DwOutValue.Reference.run m g)

/-- Over the extended reals the product for w_out's gradient is the reference. -/
theorem algebraic_DwOut : algebraic_DwOutIdeal_DwOutRefIdeal := fun m g m' g' _ hag =>
  ⟨_, DwOutValue.Kernel.run m g,
    (θ_run DwOutRefIdeal.defs _ _).mono (fun _ h c => by
      have ⟨h0, hk⟩ := h c
      have ⟨e0, e1⟩ := hag c
      simp only [DwOutValue.Reference.a0, DwOutValue.Reference.a1,
        e0, e1] at h0
      exact ⟨h0, hk⟩)
      (DwOutValue.Reference.run m' g')⟩

/-- The ideal reference's frame. -/
theorem frame_DwAttnRefIdeal : quiescent_DwAttnRefIdeal := fun m g _ =>
  (θ_run DwAttnRefIdeal.defs _ _).mono (fun r h => ⟨fun c => (h c).2, sem_eq_zero_of_no_sems rfl _⟩) (DwAttnValue.Reference.run m g)

/-- Over the extended reals the product for w_attn_branch's gradient is the reference. -/
theorem algebraic_DwAttn : algebraic_DwAttnIdeal_DwAttnRefIdeal := fun m g m' g' _ hag =>
  ⟨_, DwAttnValue.Kernel.run m g,
    (θ_run DwAttnRefIdeal.defs _ _).mono (fun _ h c => by
      have ⟨h0, hk⟩ := h c
      have ⟨e0, e1⟩ := hag c
      simp only [DwAttnValue.Reference.a0, DwAttnValue.Reference.a1,
        e0, e1] at h0
      exact ⟨h0, hk⟩)
      (DwAttnValue.Reference.run m' g')⟩

/-- The ideal reference's frame. -/
theorem frame_DwSsmRefIdeal : quiescent_DwSsmRefIdeal := fun m g _ =>
  (θ_run DwSsmRefIdeal.defs _ _).mono (fun r h => ⟨fun c => (h c).2, sem_eq_zero_of_no_sems rfl _⟩) (DwSsmValue.Reference.run m g)

/-- Over the extended reals the product for w_ssm_branch's gradient is the reference. -/
theorem algebraic_DwSsm : algebraic_DwSsmIdeal_DwSsmRefIdeal := fun m g m' g' _ hag =>
  ⟨_, DwSsmValue.Kernel.run m g,
    (θ_run DwSsmRefIdeal.defs _ _).mono (fun _ h c => by
      have ⟨h0, hk⟩ := h c
      have ⟨e0, e1⟩ := hag c
      simp only [DwSsmValue.Reference.a0, DwSsmValue.Reference.a1,
        e0, e1] at h0
      exact ⟨h0, hk⟩)
      (DwSsmValue.Reference.run m' g')⟩

/-- The ideal reference's frame. -/
theorem frame_DwInRefIdeal : quiescent_DwInRefIdeal := fun m g _ =>
  (θ_run DwInRefIdeal.defs _ _).mono (fun r h => ⟨fun c => (h c).2, sem_eq_zero_of_no_sems rfl _⟩) (DwInValue.Reference.run m g)

/-- Over the extended reals the product for w_in's gradient is the reference. -/
theorem algebraic_DwIn : algebraic_DwInIdeal_DwInRefIdeal := fun m g m' g' _ hag =>
  ⟨_, DwInValue.Kernel.run m g,
    (θ_run DwInRefIdeal.defs _ _).mono (fun _ h c => by
      have ⟨h0, hk⟩ := h c
      have ⟨e0, e1⟩ := hag c
      simp only [DwInValue.Reference.a0, DwInValue.Reference.a1,
        e0, e1] at h0
      exact ⟨h0, hk⟩)
      (DwInValue.Reference.run m' g')⟩

/-- The ideal reference's frame. -/
theorem frame_LossRefIdeal : quiescent_LossRefIdeal := fun m g _ =>
  (θ_run LossRefIdeal.defs _ _).mono (fun r h => ⟨fun c => (h c).2.2.2, sem_eq_zero_of_no_sems rfl _⟩) (LossRef.run m g)

/-- Over the extended reals the loss and its backward call is the reference. -/
theorem algebraic_Loss : algebraic_LossIdeal_LossRefIdeal := fun m g m' g' _ hag =>
  ⟨_, _, _, LossWhole.run m g,
    (θ_run LossRefIdeal.defs _ _).mono (fun _ h c => by
      have ⟨h0, h1, h2, hk⟩ := h c
      have ⟨e0, e1, e2⟩ := hag c
      simp only [LossRef.a0, LossRef.a1, LossRef.a2,
        e0, e1, e2] at h0 h1 h2
      exact ⟨h0, h1, h2, hk⟩)
      (LossRef.run m' g')⟩

/-- The ideal reference's frame. -/
theorem frame_MixInFwdRefIdeal : quiescent_MixInFwdRefIdeal := fun m g _ =>
  (θ_run MixInFwdRefIdeal.defs _ _).mono (fun r h => ⟨fun c => (h c).2.2.2.2.2, sem_eq_zero_of_no_sems rfl _⟩) (MixRef.run m g)

/-- Over the extended reals the input projection is the reference. -/
theorem algebraic_MixInFwd : algebraic_MixInFwdIdeal_MixInFwdRefIdeal := fun m g m' g' _ hag =>
  ⟨_, _, _, _, _, MixWhole.run m g,
    (θ_run MixInFwdRefIdeal.defs _ _).mono (fun _ h c => by
      have ⟨h0, h1, h2, h3, h4, hk⟩ := h c
      have ⟨e0, e1, e2, e3⟩ := hag c
      simp only [MixRef.a0, MixRef.a1, MixRef.a2, MixRef.a3,
        e0, e1, e2, e3] at h0 h1 h2 h3 h4
      exact ⟨h0, h1, h2, h3, h4, hk⟩)
      (MixRef.run m' g')⟩

/-- The ideal reference's frame. -/
theorem frame_MixInBwdRefIdeal : quiescent_MixInBwdRefIdeal := fun m g _ =>
  (θ_run MixInBwdRefIdeal.defs _ _).mono (fun r h => ⟨fun c => (h c).2.2.2, sem_eq_zero_of_no_sems rfl _⟩) (ProjRef.run m g)

/-- Over the extended reals the backward call of the input projection is the reference. -/
theorem algebraic_MixInBwd : algebraic_MixInBwdIdeal_MixInBwdRefIdeal := fun m g m' g' _ hag =>
  ⟨_, _, _, ProjWhole.run m g,
    (θ_run MixInBwdRefIdeal.defs _ _).mono (fun _ h c => by
      have ⟨h0, h1, h2, hk⟩ := h c
      have ⟨e0, e1, e2, e3, e4⟩ := hag c
      simp only [ProjRef.a0, ProjRef.a1, ProjRef.a2, ProjRef.a3, ProjRef.a4,
        e0, e1, e2, e3, e4] at h0 h1 h2
      exact ⟨h0, h1, h2, hk⟩)
      (ProjRef.run m' g')⟩

/-- The ideal reference's frame. -/
theorem frame_MixOutFwdRefIdeal : quiescent_MixOutFwdRefIdeal := fun m g _ =>
  (θ_run MixOutFwdRefIdeal.defs _ _).mono (fun r h => ⟨fun c => (h c).2.2.2, sem_eq_zero_of_no_sems rfl _⟩) (OutRef.run m g)

/-- Over the extended reals the mixer's output is the reference. -/
theorem algebraic_MixOutFwd : algebraic_MixOutFwdIdeal_MixOutFwdRefIdeal := fun m g m' g' _ hag =>
  ⟨_, _, _, OutWhole.run m g,
    (θ_run MixOutFwdRefIdeal.defs _ _).mono (fun _ h c => by
      have ⟨h0, h1, h2, hk⟩ := h c
      have ⟨e0, e1, e2, e3, e4, e5, e6, e7, e8, e9, e10, e11, e12⟩ := hag c
      simp only [OutRef.a0, OutRef.a1, OutRef.a2, OutRef.a3, OutRef.a4, OutRef.a5, OutRef.a6, OutRef.a7, OutRef.a8, OutRef.a9, OutRef.a10, OutRef.a11, OutRef.a12,
        e0, e1, e2, e3, e4, e5, e6, e7, e8, e9, e10, e11, e12] at h0 h1 h2
      exact ⟨h0, h1, h2, hk⟩)
      (OutRef.run m' g')⟩

/-- The ideal reference's frame. -/
theorem frame_MixOutBwdRefIdeal : quiescent_MixOutBwdRefIdeal := fun m g _ =>
  (θ_run MixOutBwdRefIdeal.defs _ _).mono (fun r h => ⟨fun c => (h c).2.2.2.2.2.2.2.2.2.2.2, sem_eq_zero_of_no_sems rfl _⟩) (BackRef.run m g)

/-- Over the extended reals the backward call of the mixer's output is the reference. -/
theorem algebraic_MixOutBwd : algebraic_MixOutBwdIdeal_MixOutBwdRefIdeal := fun m g m' g' _ hag =>
  ⟨_, _, _, _, _, _, _, _, _, _, _, BackWhole.run m g,
    (θ_run MixOutBwdRefIdeal.defs _ _).mono (fun _ h c => by
      have ⟨h0, h1, h2, h3, h4, h5, h6, h7, h8, h9, h10, hk⟩ := h c
      have ⟨e0, e1, e2, e3, e4, e5, e6, e7, e8⟩ := hag c
      simp only [BackRef.a0, BackRef.a1, BackRef.a2, BackRef.a3, BackRef.a4, BackRef.a5, BackRef.a6, BackRef.a7, BackRef.a8,
        e0, e1, e2, e3, e4, e5, e6, e7, e8] at h0 h1 h2 h3 h4 h5 h6 h7 h8 h9 h10
      exact ⟨h0, h1, h2, h3, h4, h5, h6, h7, h8, h9, h10, hk⟩)
      (BackRef.run m' g')⟩

/-- The ideal reference's frame. -/
theorem frame_BiasExpandRefIdeal : quiescent_BiasExpandRefIdeal := fun m g _ =>
  (θ_run BiasExpandRefIdeal.defs _ _).mono (fun r h => ⟨fun c => (h c).2, sem_eq_zero_of_no_sems rfl _⟩) (BiasValue.ExpandReference.run m g)

/-- Over the extended reals the call that spreads the position bias is the reference. -/
theorem algebraic_BiasExpand : algebraic_BiasExpandIdeal_BiasExpandRefIdeal := fun m g m' g' _ hag =>
  ⟨_, BiasValue.ExpandKernel.run m g,
    (θ_run BiasExpandRefIdeal.defs _ _).mono (fun _ h c => by
      have ⟨h0, hk⟩ := h c
      have ⟨e0, e1⟩ := hag c
      simp only [BiasValue.ExpandReference.a0, BiasValue.ExpandReference.a1,
        e0, e1] at h0
      exact ⟨h0, hk⟩)
      (BiasValue.ExpandReference.run m' g')⟩

/-- The ideal reference's frame. -/
theorem frame_BiasReduceRefIdeal : quiescent_BiasReduceRefIdeal := fun m g _ =>
  (θ_run BiasReduceRefIdeal.defs _ _).mono (fun r h => ⟨fun c => (h c).2, sem_eq_zero_of_no_sems rfl _⟩) (BiasValue.ReduceReference.run m g)

/-- Over the extended reals the call that gathers the position bias's gradient is the reference. -/
theorem algebraic_BiasReduce : algebraic_BiasReduceIdeal_BiasReduceRefIdeal := fun m g m' g' _ hag =>
  ⟨_, BiasValue.ReduceKernel.run m g,
    (θ_run BiasReduceRefIdeal.defs _ _).mono (fun _ h c => by
      have ⟨h0, hk⟩ := h c
      have ⟨e0, e1⟩ := hag c
      simp only [BiasValue.ReduceReference.a0, BiasValue.ReduceReference.a1,
        e0, e1] at h0
      exact ⟨h0, hk⟩)
      (BiasValue.ReduceReference.run m' g')⟩

/-- The ideal reference's frame. -/
theorem frame_Attn0RefIdeal : quiescent_Attn0RefIdeal := fun m g _ =>
  (θ_run Attn0RefIdeal.defs _ _).mono (fun r h => ⟨fun c => (h c).2.2, sem_eq_zero_of_no_sems rfl _⟩) (Attn0Ref.run m g)

/-- Over the extended reals the attention of group 0 is the reference. -/
theorem algebraic_Attn0 : algebraic_Attn0Ideal_Attn0RefIdeal := fun m g m' g' _ hag =>
  ⟨_, _, Attn0Whole.run m g,
    (θ_run Attn0RefIdeal.defs _ _).mono (fun _ h c => by
      have ⟨h0, h1, hk⟩ := h c
      have ⟨e0, e1, e2, e3⟩ := hag c
      simp only [Attn0Ref.a0, Attn0Ref.a1, Attn0Ref.a2, Attn0Ref.a3,
        e0, e1, e2, e3] at h0 h1
      exact ⟨h0, h1, hk⟩)
      (Attn0Ref.run m' g')⟩

/-- The ideal reference's frame. -/
theorem frame_Attn1RefIdeal : quiescent_Attn1RefIdeal := fun m g _ =>
  (θ_run Attn1RefIdeal.defs _ _).mono (fun r h => ⟨fun c => (h c).2.2, sem_eq_zero_of_no_sems rfl _⟩) (Attn1Ref.run m g)

/-- Over the extended reals the attention of group 1 is the reference. -/
theorem algebraic_Attn1 : algebraic_Attn1Ideal_Attn1RefIdeal := fun m g m' g' _ hag =>
  ⟨_, _, Attn1Whole.run m g,
    (θ_run Attn1RefIdeal.defs _ _).mono (fun _ h c => by
      have ⟨h0, h1, hk⟩ := h c
      have ⟨e0, e1, e2, e3⟩ := hag c
      simp only [Attn1Ref.a0, Attn1Ref.a1, Attn1Ref.a2, Attn1Ref.a3,
        e0, e1, e2, e3] at h0 h1
      exact ⟨h0, h1, hk⟩)
      (Attn1Ref.run m' g')⟩

/-- The ideal reference's frame. -/
theorem frame_Attn2RefIdeal : quiescent_Attn2RefIdeal := fun m g _ =>
  (θ_run Attn2RefIdeal.defs _ _).mono (fun r h => ⟨fun c => (h c).2.2, sem_eq_zero_of_no_sems rfl _⟩) (Attn2Ref.run m g)

/-- Over the extended reals the attention of group 2 is the reference. -/
theorem algebraic_Attn2 : algebraic_Attn2Ideal_Attn2RefIdeal := fun m g m' g' _ hag =>
  ⟨_, _, Attn2Whole.run m g,
    (θ_run Attn2RefIdeal.defs _ _).mono (fun _ h c => by
      have ⟨h0, h1, hk⟩ := h c
      have ⟨e0, e1, e2, e3⟩ := hag c
      simp only [Attn2Ref.a0, Attn2Ref.a1, Attn2Ref.a2, Attn2Ref.a3,
        e0, e1, e2, e3] at h0 h1
      exact ⟨h0, h1, hk⟩)
      (Attn2Ref.run m' g')⟩

/-- Everything claimed.  The frames of the one-device kernels are those of `Gen`. -/
theorem claim : Claim :=
  ⟨Swap.Gen.facts, SwapIdeal.Gen.facts, SwapRefIdeal.Gen.facts, SwapRef.Gen.facts,
    Weights.Gen.facts, WeightsIdeal.Gen.facts, WeightsRefIdeal.Gen.facts, WeightsRef.Gen.facts,
    Join.Gen.facts, JoinIdeal.Gen.facts, JoinRefIdeal.Gen.facts, JoinRef.Gen.facts,
    CoreSum.Gen.facts, CoreSumIdeal.Gen.facts, CoreSumRefIdeal.Gen.facts,
    ChipSum.Gen.facts, ChipSumIdeal.Gen.facts, ChipSumRefIdeal.Gen.facts,
    SmallSum.Gen.facts, SmallSumIdeal.Gen.facts, SmallSumRefIdeal.Gen.facts,
    AdamGate.Gen.facts, AdamGateIdeal.Gen.facts, AdamGateRefIdeal.Gen.facts,
    AdamDown.Gen.facts, AdamDownIdeal.Gen.facts, AdamDownRefIdeal.Gen.facts,
    AdamIn.Gen.facts, AdamInIdeal.Gen.facts, AdamInRefIdeal.Gen.facts,
    AdamGlu.Gen.facts, AdamGluIdeal.Gen.facts, AdamGluRefIdeal.Gen.facts,
    AdamAttn.Gen.facts, AdamAttnIdeal.Gen.facts, AdamAttnRefIdeal.Gen.facts,
    AdamOut.Gen.facts, AdamOutIdeal.Gen.facts, AdamOutRefIdeal.Gen.facts,
    AdamSmall.Gen.facts, AdamSmallIdeal.Gen.facts, AdamSmallRefIdeal.Gen.facts,
    FfnBwd.Gen.facts, FfnBwdIdeal.Gen.facts, FfnBwdRefIdeal.Gen.facts,
    FfnFwd.Gen.facts, FfnFwdIdeal.Gen.facts, FfnFwdRefIdeal.Gen.facts,
    DwGate.Gen.facts, DwGateIdeal.Gen.facts, DwGateRefIdeal.Gen.facts,
    DwDown.Gen.facts, DwDownIdeal.Gen.facts, DwDownRefIdeal.Gen.facts,
    DwOut.Gen.facts, DwOutIdeal.Gen.facts, DwOutRefIdeal.Gen.facts,
    DwAttn.Gen.facts, DwAttnIdeal.Gen.facts, DwAttnRefIdeal.Gen.facts,
    DwSsm.Gen.facts, DwSsmIdeal.Gen.facts, DwSsmRefIdeal.Gen.facts,
    DwIn.Gen.facts, DwInIdeal.Gen.facts, DwInRefIdeal.Gen.facts,
    Loss.Gen.facts, LossIdeal.Gen.facts, LossRefIdeal.Gen.facts,
    MixInFwd.Gen.facts, MixInFwdIdeal.Gen.facts, MixInFwdRefIdeal.Gen.facts,
    MixInBwd.Gen.facts, MixInBwdIdeal.Gen.facts, MixInBwdRefIdeal.Gen.facts,
    MixOutFwd.Gen.facts, MixOutFwdIdeal.Gen.facts, MixOutFwdRefIdeal.Gen.facts,
    MixOutBwd.Gen.facts, MixOutBwdIdeal.Gen.facts, MixOutBwdRefIdeal.Gen.facts,
    Attn0.Gen.facts, Attn0Ideal.Gen.facts, Attn0RefIdeal.Gen.facts,
    Attn1.Gen.facts, Attn1Ideal.Gen.facts, Attn1RefIdeal.Gen.facts,
    Attn2.Gen.facts, Attn2Ideal.Gen.facts, Attn2RefIdeal.Gen.facts,
    BiasExpand.Gen.facts, BiasExpandIdeal.Gen.facts, BiasExpandRefIdeal.Gen.facts,
    BiasReduce.Gen.facts, BiasReduceIdeal.Gen.facts, BiasReduceRefIdeal.Gen.facts,
    frame_Swap, frame_SwapIdeal, frame_SwapRefIdeal, frame_SwapRef,
    frame_Weights, frame_WeightsIdeal, frame_WeightsRefIdeal, frame_WeightsRef,
    frame_Join, frame_JoinIdeal, frame_JoinRefIdeal, frame_JoinRef,
    frame_CoreSum, frame_CoreSumIdeal, frame_CoreSumRefIdeal,
    frame_ChipSum, frame_ChipSumIdeal, frame_ChipSumRefIdeal,
    frame_SmallSum, frame_SmallSumIdeal, frame_SmallSumRefIdeal,
    fun m g _ => AdamGate.Gen.frame m g, fun m g _ => AdamGateIdeal.Gen.frame m g, frame_AdamGateRefIdeal,
    fun m g _ => AdamDown.Gen.frame m g, fun m g _ => AdamDownIdeal.Gen.frame m g, frame_AdamDownRefIdeal,
    fun m g _ => AdamIn.Gen.frame m g, fun m g _ => AdamInIdeal.Gen.frame m g, frame_AdamInRefIdeal,
    fun m g _ => AdamGlu.Gen.frame m g, fun m g _ => AdamGluIdeal.Gen.frame m g, frame_AdamGluRefIdeal,
    fun m g _ => AdamAttn.Gen.frame m g, fun m g _ => AdamAttnIdeal.Gen.frame m g, frame_AdamAttnRefIdeal,
    fun m g _ => AdamOut.Gen.frame m g, fun m g _ => AdamOutIdeal.Gen.frame m g, frame_AdamOutRefIdeal,
    fun m g _ => AdamSmall.Gen.frame m g, fun m g _ => AdamSmallIdeal.Gen.frame m g, frame_AdamSmallRefIdeal,
    fun m g _ => FfnBwd.Gen.frame m g, fun m g _ => FfnBwdIdeal.Gen.frame m g, frame_FfnBwdRefIdeal,
    fun m g _ => FfnFwd.Gen.frame m g, fun m g _ => FfnFwdIdeal.Gen.frame m g, frame_FfnFwdRefIdeal,
    fun m g _ => DwGate.Gen.frame m g, fun m g _ => DwGateIdeal.Gen.frame m g, frame_DwGateRefIdeal,
    fun m g _ => DwDown.Gen.frame m g, fun m g _ => DwDownIdeal.Gen.frame m g, frame_DwDownRefIdeal,
    fun m g _ => DwOut.Gen.frame m g, fun m g _ => DwOutIdeal.Gen.frame m g, frame_DwOutRefIdeal,
    fun m g _ => DwAttn.Gen.frame m g, fun m g _ => DwAttnIdeal.Gen.frame m g, frame_DwAttnRefIdeal,
    fun m g _ => DwSsm.Gen.frame m g, fun m g _ => DwSsmIdeal.Gen.frame m g, frame_DwSsmRefIdeal,
    fun m g _ => DwIn.Gen.frame m g, fun m g _ => DwInIdeal.Gen.frame m g, frame_DwInRefIdeal,
    fun m g _ => Loss.Gen.frame m g, fun m g _ => LossIdeal.Gen.frame m g, frame_LossRefIdeal,
    fun m g _ => MixInFwd.Gen.frame m g, fun m g _ => MixInFwdIdeal.Gen.frame m g, frame_MixInFwdRefIdeal,
    fun m g _ => MixInBwd.Gen.frame m g, fun m g _ => MixInBwdIdeal.Gen.frame m g, frame_MixInBwdRefIdeal,
    fun m g _ => MixOutFwd.Gen.frame m g, fun m g _ => MixOutFwdIdeal.Gen.frame m g, frame_MixOutFwdRefIdeal,
    fun m g _ => MixOutBwd.Gen.frame m g, fun m g _ => MixOutBwdIdeal.Gen.frame m g, frame_MixOutBwdRefIdeal,
    fun m g _ => Attn0.Gen.frame m g, fun m g _ => Attn0Ideal.Gen.frame m g, frame_Attn0RefIdeal,
    fun m g _ => Attn1.Gen.frame m g, fun m g _ => Attn1Ideal.Gen.frame m g, frame_Attn1RefIdeal,
    fun m g _ => Attn2.Gen.frame m g, fun m g _ => Attn2Ideal.Gen.frame m g, frame_Attn2RefIdeal,
    fun m g _ => BiasExpand.Gen.frame m g, fun m g _ => BiasExpandIdeal.Gen.frame m g, frame_BiasExpandRefIdeal,
    fun m g _ => BiasReduce.Gen.frame m g, fun m g _ => BiasReduceIdeal.Gen.frame m g, frame_BiasReduceRefIdeal,
    trivial, algebraic_Swap, bitexact_Swap,
    trivial, algebraic_Weights, bitexact_Weights,
    trivial, algebraic_Join, bitexact_Join,
    trivial, algebraic_CoreSum,
    trivial, algebraic_ChipSum,
    trivial, algebraic_SmallSum,
    trivial, algebraic_AdamGate,
    trivial, algebraic_AdamDown,
    trivial, algebraic_AdamIn,
    trivial, algebraic_AdamGlu,
    trivial, algebraic_AdamAttn,
    trivial, algebraic_AdamOut,
    trivial, algebraic_AdamSmall,
    trivial, algebraic_FfnBwd,
    trivial, algebraic_FfnFwd,
    trivial, algebraic_DwGate,
    trivial, algebraic_DwDown,
    trivial, algebraic_DwOut,
    trivial, algebraic_DwAttn,
    trivial, algebraic_DwSsm,
    trivial, algebraic_DwIn,
    trivial, algebraic_Loss,
    trivial, algebraic_MixInFwd,
    trivial, algebraic_MixInBwd,
    trivial, algebraic_MixOutFwd,
    trivial, algebraic_MixOutBwd,
    trivial, algebraic_Attn0,
    trivial, algebraic_Attn1,
    trivial, algebraic_Attn2,
    trivial, algebraic_BiasExpand,
    trivial, algebraic_BiasReduce⟩

end Cert.Proof

end
